-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwDownKernel (m : (ℓ : Loc Cert.DwDownKernel.nD Cert.DwDownKernel.τ Cert.DwDownKernel.sig) → Buf (Elt Bits) ℓ) : Prop :=
  True

def Pre_DwDownKernelIdeal (m : (ℓ : Loc Cert.DwDownKernelIdeal.nD Cert.DwDownKernelIdeal.τ Cert.DwDownKernelIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwGateKernel (m : (ℓ : Loc Cert.DwGateKernel.nD Cert.DwGateKernel.τ Cert.DwGateKernel.sig) → Buf (Elt Bits) ℓ) : Prop :=
  True

def Pre_DwGateKernelIdeal (m : (ℓ : Loc Cert.DwGateKernelIdeal.nD Cert.DwGateKernelIdeal.τ Cert.DwGateKernelIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_DhFfnKernel (m : (ℓ : Loc Cert.DhFfnKernel.nD Cert.DhFfnKernel.τ Cert.DhFfnKernel.sig) → Buf (Elt Bits) ℓ) : Prop :=
  True

def Pre_DhFfnKernelIdeal (m : (ℓ : Loc Cert.DhFfnKernelIdeal.nD Cert.DhFfnKernelIdeal.τ Cert.DhFfnKernelIdeal.sig) → Buf (Elt Ideal) ℓ) : Prop :=
  True

def Pre_DhFfnReferenceIdeal (m : (ℓ : Loc Cert.DhFfnReferenceIdeal.nD Cert.DhFfnReferenceIdeal.τ Cert.DhFfnReferenceIdeal.sig) → Buf (Elt Ideal) ℓ) : Prop :=
  True

def Pre_DmergedKernel (m : (ℓ : Loc Cert.DmergedKernel.nD Cert.DmergedKernel.τ Cert.DmergedKernel.sig) → Buf (Elt Bits) ℓ) : Prop :=
  True

def Pre_DmergedKernelIdeal (m : (ℓ : Loc Cert.DmergedKernelIdeal.nD Cert.DmergedKernelIdeal.τ Cert.DmergedKernelIdeal.sig) → Buf (Elt Ideal) ℓ) : Prop :=
  True

def Pre_DmergedReferenceIdeal (m : (ℓ : Loc Cert.DmergedReferenceIdeal.nD Cert.DmergedReferenceIdeal.τ Cert.DmergedReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DhRnnKernel (m : (ℓ : Loc Cert.DhRnnKernel.nD Cert.DhRnnKernel.τ Cert.DhRnnKernel.sig) → Buf (Elt Bits) ℓ) : Prop :=
  True

def Pre_DhRnnKernelIdeal (m : (ℓ : Loc Cert.DhRnnKernelIdeal.nD Cert.DhRnnKernelIdeal.τ Cert.DhRnnKernelIdeal.sig) → Buf (Elt Ideal) ℓ) : Prop :=
  True

def Pre_DhRnnReferenceIdeal (m : (ℓ : Loc Cert.DhRnnReferenceIdeal.nD Cert.DhRnnReferenceIdeal.τ Cert.DhRnnReferenceIdeal.sig) → Buf (Elt Ideal) ℓ) : Prop :=
  True

def Pre_DwBrnnKernel (m : (ℓ : Loc Cert.DwBrnnKernel.nD Cert.DwBrnnKernel.τ Cert.DwBrnnKernel.sig) → Buf (Elt Bits) ℓ) : Prop :=
  True

def Pre_DwBrnnKernelIdeal (m : (ℓ : Loc Cert.DwBrnnKernelIdeal.nD Cert.DwBrnnKernelIdeal.τ Cert.DwBrnnKernelIdeal.sig) → Buf (Elt Ideal) ℓ) : Prop :=
  True

def Pre_DwBrnnReferenceIdeal (m : (ℓ : Loc Cert.DwBrnnReferenceIdeal.nD Cert.DwBrnnReferenceIdeal.τ Cert.DwBrnnReferenceIdeal.sig) → Buf (Elt Ideal) ℓ) : Prop :=
  True

def Pre_DoAttKernel (m : (ℓ : Loc Cert.DoAttKernel.nD Cert.DoAttKernel.τ Cert.DoAttKernel.sig) → Buf (Elt Bits) ℓ) : Prop :=
  True

def Pre_DoAttKernelIdeal (m : (ℓ : Loc Cert.DoAttKernelIdeal.nD Cert.DoAttKernelIdeal.τ Cert.DoAttKernelIdeal.sig) → Buf (Elt Ideal) ℓ) : Prop :=
  True

def Pre_DoAttReferenceIdeal (m : (ℓ : Loc Cert.DoAttReferenceIdeal.nD Cert.DoAttReferenceIdeal.τ Cert.DoAttReferenceIdeal.sig) → Buf (Elt Ideal) ℓ) : Prop :=
  True

def Pre_DwBattKernel (m : (ℓ : Loc Cert.DwBattKernel.nD Cert.DwBattKernel.τ Cert.DwBattKernel.sig) → Buf (Elt Bits) ℓ) : Prop :=
  True

def Pre_DwBattKernelIdeal (m : (ℓ : Loc Cert.DwBattKernelIdeal.nD Cert.DwBattKernelIdeal.τ Cert.DwBattKernelIdeal.sig) → Buf (Elt Ideal) ℓ) : Prop :=
  True

def Pre_DwBattReferenceIdeal (m : (ℓ : Loc Cert.DwBattReferenceIdeal.nD Cert.DwBattReferenceIdeal.τ Cert.DwBattReferenceIdeal.sig) → Buf (Elt Ideal) ℓ) : Prop :=
  True

def Pre_DwInAKernel (m : (ℓ : Loc Cert.DwInAKernel.nD Cert.DwInAKernel.τ Cert.DwInAKernel.sig) → Buf (Elt Bits) ℓ) : Prop :=
  True

def Pre_DwInAKernelIdeal (m : (ℓ : Loc Cert.DwInAKernelIdeal.nD Cert.DwInAKernelIdeal.τ Cert.DwInAKernelIdeal.sig) → Buf (Elt Ideal) ℓ) : Prop :=
  True

def Pre_DwInAReferenceIdeal (m : (ℓ : Loc Cert.DwInAReferenceIdeal.nD Cert.DwInAReferenceIdeal.τ Cert.DwInAReferenceIdeal.sig) → Buf (Elt Ideal) ℓ) : Prop :=
  True

def Pre_DwInRKernel (m : (ℓ : Loc Cert.DwInRKernel.nD Cert.DwInRKernel.τ Cert.DwInRKernel.sig) → Buf (Elt Bits) ℓ) : Prop :=
  True

def Pre_DwInRKernelIdeal (m : (ℓ : Loc Cert.DwInRKernelIdeal.nD Cert.DwInRKernelIdeal.τ Cert.DwInRKernelIdeal.sig) → Buf (Elt Ideal) ℓ) : Prop :=
  True

def Pre_DwInRReferenceIdeal (m : (ℓ : Loc Cert.DwInRReferenceIdeal.nD Cert.DwInRReferenceIdeal.τ Cert.DwInRReferenceIdeal.sig) → Buf (Elt Ideal) ℓ) : Prop :=
  True

def Pre_DwInGKernel (m : (ℓ : Loc Cert.DwInGKernel.nD Cert.DwInGKernel.τ Cert.DwInGKernel.sig) → Buf (Elt Bits) ℓ) : Prop :=
  True

def Pre_DwInGKernelIdeal (m : (ℓ : Loc Cert.DwInGKernelIdeal.nD Cert.DwInGKernelIdeal.τ Cert.DwInGKernelIdeal.sig) → Buf (Elt Ideal) ℓ) : Prop :=
  True

def Pre_DwInGReferenceIdeal (m : (ℓ : Loc Cert.DwInGReferenceIdeal.nD Cert.DwInGReferenceIdeal.τ Cert.DwInGReferenceIdeal.sig) → Buf (Elt Ideal) ℓ) : Prop :=
  True

def Pre_DhMixKernel (m : (ℓ : Loc Cert.DhMixKernel.nD Cert.DhMixKernel.τ Cert.DhMixKernel.sig) → Buf (Elt Bits) ℓ) : Prop :=
  True

def Pre_DhMixKernelIdeal (m : (ℓ : Loc Cert.DhMixKernelIdeal.nD Cert.DhMixKernelIdeal.τ Cert.DhMixKernelIdeal.sig) → Buf (Elt Ideal) ℓ) : Prop :=
  True

def Pre_DhMixReferenceIdeal (m : (ℓ : Loc Cert.DhMixReferenceIdeal.nD Cert.DhMixReferenceIdeal.τ Cert.DhMixReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_PrKernel (m : (ℓ : Loc Cert.PrKernel.nD Cert.PrKernel.τ Cert.PrKernel.sig) → Buf (Elt Bits) ℓ) : Prop :=
  True

def Pre_PrKernelIdeal (m : (ℓ : Loc Cert.PrKernelIdeal.nD Cert.PrKernelIdeal.τ Cert.PrKernelIdeal.sig) → Buf (Elt Ideal) ℓ) : Prop :=
  True

def Pre_PrReferenceIdeal (m : (ℓ : Loc Cert.PrReferenceIdeal.nD Cert.PrReferenceIdeal.τ Cert.PrReferenceIdeal.sig) → Buf (Elt Ideal) ℓ) : Prop :=
  True

def Pre_PaKernel (m : (ℓ : Loc Cert.PaKernel.nD Cert.PaKernel.τ Cert.PaKernel.sig) → Buf (Elt Bits) ℓ) : Prop :=
  True

def Pre_PaKernelIdeal (m : (ℓ : Loc Cert.PaKernelIdeal.nD Cert.PaKernelIdeal.τ Cert.PaKernelIdeal.sig) → Buf (Elt Ideal) ℓ) : Prop :=
  True

def Pre_PaReferenceIdeal (m : (ℓ : Loc Cert.PaReferenceIdeal.nD Cert.PaReferenceIdeal.τ Cert.PaReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_InBwdKernel (m : (ℓ : Loc Cert.InBwdKernel.nD Cert.InBwdKernel.τ Cert.InBwdKernel.sig) → Buf (Elt Bits) ℓ) : Prop :=
  True

def Pre_InBwdKernelIdeal (m : (ℓ : Loc Cert.InBwdKernelIdeal.nD Cert.InBwdKernelIdeal.τ Cert.InBwdKernelIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_MidBwdKernel (m : (ℓ : Loc Cert.MidBwdKernel.nD Cert.MidBwdKernel.τ Cert.MidBwdKernel.sig) → Buf (Elt Bits) ℓ) : Prop :=
  True

def Pre_MidBwdKernelIdeal (m : (ℓ : Loc Cert.MidBwdKernelIdeal.nD Cert.MidBwdKernelIdeal.τ Cert.MidBwdKernelIdeal.sig) → Buf (Elt Ideal) ℓ) : Prop :=
  True

def Pre_MidBwdReferenceIdeal (m : (ℓ : Loc Cert.MidBwdReferenceIdeal.nD Cert.MidBwdReferenceIdeal.τ Cert.MidBwdReferenceIdeal.sig) → Buf (Elt Ideal) ℓ) : Prop :=
  True

def Pre_MergeBwdKernel (m : (ℓ : Loc Cert.MergeBwdKernel.nD Cert.MergeBwdKernel.τ Cert.MergeBwdKernel.sig) → Buf (Elt Bits) ℓ) : Prop :=
  True

def Pre_MergeBwdKernelIdeal (m : (ℓ : Loc Cert.MergeBwdKernelIdeal.nD Cert.MergeBwdKernelIdeal.τ Cert.MergeBwdKernelIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ActFwdKernel (m : (ℓ : Loc Cert.ActFwdKernel.nD Cert.ActFwdKernel.τ Cert.ActFwdKernel.sig) → Buf (Elt Bits) ℓ) : Prop :=
  True

def Pre_ActFwdKernelIdeal (m : (ℓ : Loc Cert.ActFwdKernelIdeal.nD Cert.ActFwdKernelIdeal.τ Cert.ActFwdKernelIdeal.sig) → Buf (Elt Ideal) ℓ) : Prop :=
  True

def Pre_ActFwdReferenceIdeal (m : (ℓ : Loc Cert.ActFwdReferenceIdeal.nD Cert.ActFwdReferenceIdeal.τ Cert.ActFwdReferenceIdeal.sig) → Buf (Elt Ideal) ℓ) : Prop :=
  True

def Pre_NormInKernel (m : (ℓ : Loc Cert.NormInKernel.nD Cert.NormInKernel.τ Cert.NormInKernel.sig) → Buf (Elt Bits) ℓ) : Prop :=
  True

def Pre_NormInKernelIdeal (m : (ℓ : Loc Cert.NormInKernelIdeal.nD Cert.NormInKernelIdeal.τ Cert.NormInKernelIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_AdamInKernel [hPre_on_mesh_w_in : Cert.Pre_on_mesh_w_in.Facts] (m : (ℓ : Loc Cert.AdamInKernel.nD Cert.AdamInKernel.τ Cert.AdamInKernel.sig) → Buf (Elt Bits) ℓ) : Prop :=
  ∀ c : Dev Cert.AdamInKernel.nD,
    (Cert.Pre_on_mesh_w_in.fn (F := Bits) (m ((c.tc : Thread Cert.AdamInKernel.nD Cert.AdamInKernel.τ).loc Cert.AdamInKernel.main_arg0)) (m ((c.tc : Thread Cert.AdamInKernel.nD Cert.AdamInKernel.τ).loc Cert.AdamInKernel.main_arg1)) (m ((c.tc : Thread Cert.AdamInKernel.nD Cert.AdamInKernel.τ).loc Cert.AdamInKernel.main_arg2)) (m ((c.tc : Thread Cert.AdamInKernel.nD Cert.AdamInKernel.τ).loc Cert.AdamInKernel.main_arg3)) (m ((c.tc : Thread Cert.AdamInKernel.nD Cert.AdamInKernel.τ).loc Cert.AdamInKernel.main_arg4)) (m ((c.tc : Thread Cert.AdamInKernel.nD Cert.AdamInKernel.τ).loc Cert.AdamInKernel.main_arg5))) = (fun _ => 1#1)

def Pre_AdamInKernelIdeal [hPre_on_mesh_w_in : Cert.Pre_on_mesh_w_in.Facts] (m : (ℓ : Loc Cert.AdamInKernelIdeal.nD Cert.AdamInKernelIdeal.τ Cert.AdamInKernelIdeal.sig) → Buf (Elt Ideal) ℓ) : Prop :=
  ∀ c : Dev Cert.AdamInKernelIdeal.nD,
    (Cert.Pre_on_mesh_w_in.fn (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg2)) (m ((c.tc : Thread Cert.AdamInKernelIdeal.nD Cert.AdamInKernelIdeal.τ).loc Cert.AdamInKernelIdeal.main_arg3)) (m ((c.tc : Thread Cert.AdamInKernelIdeal.nD Cert.AdamInKernelIdeal.τ).loc Cert.AdamInKernelIdeal.main_arg4)) (m ((c.tc : Thread Cert.AdamInKernelIdeal.nD Cert.AdamInKernelIdeal.τ).loc Cert.AdamInKernelIdeal.main_arg5))) = (fun _ => 1#1)

def Pre_AdamInReferenceIdeal (m : (ℓ : Loc Cert.AdamInReferenceIdeal.nD Cert.AdamInReferenceIdeal.τ Cert.AdamInReferenceIdeal.sig) → Buf (Elt Ideal) ℓ) : Prop :=
  True

def Pre_AdamInReferenceIdeal_on_mesh_w_in [hPre_on_mesh_w_in : Cert.Pre_on_mesh_w_in.Facts] (m : (ℓ : Loc Cert.AdamInReferenceIdeal.nD Cert.AdamInReferenceIdeal.τ Cert.AdamInReferenceIdeal.sig) → Buf (Elt Ideal) ℓ) : Prop :=
  ∀ c : Dev Cert.AdamInReferenceIdeal.nD,
    (Cert.Pre_on_mesh_w_in.fn (F := Ideal) (m ((c.tc : Thread Cert.AdamInReferenceIdeal.nD Cert.AdamInReferenceIdeal.τ).loc Cert.AdamInReferenceIdeal.main_arg0)) (m ((c.tc : Thread Cert.AdamInReferenceIdeal.nD Cert.AdamInReferenceIdeal.τ).loc Cert.AdamInReferenceIdeal.main_arg1)) (m ((c.tc : Thread Cert.AdamInReferenceIdeal.nD Cert.AdamInReferenceIdeal.τ).loc Cert.AdamInReferenceIdeal.main_arg2)) (m ((c.tc : Thread Cert.AdamInReferenceIdeal.nD Cert.AdamInReferenceIdeal.τ).loc Cert.AdamInReferenceIdeal.main_arg3)) (m ((c.tc : Thread Cert.AdamInReferenceIdeal.nD Cert.AdamInReferenceIdeal.τ).loc Cert.AdamInReferenceIdeal.main_arg4)) (m ((c.tc : Thread Cert.AdamInReferenceIdeal.nD Cert.AdamInReferenceIdeal.τ).loc Cert.AdamInReferenceIdeal.main_arg5))) = (fun _ => 1#1)

def Pre_AdamConvRKernel [hPre_on_mesh_conv_rnn_w : Cert.Pre_on_mesh_conv_rnn_w.Facts] (m : (ℓ : Loc Cert.AdamConvRKernel.nD Cert.AdamConvRKernel.τ Cert.AdamConvRKernel.sig) → Buf (Elt Bits) ℓ) : Prop :=
  ∀ c : Dev Cert.AdamConvRKernel.nD,
    (Cert.Pre_on_mesh_conv_rnn_w.fn (F := Bits) (m ((c.tc : Thread Cert.AdamConvRKernel.nD Cert.AdamConvRKernel.τ).loc Cert.AdamConvRKernel.main_arg0)) (m ((c.tc : Thread Cert.AdamConvRKernel.nD Cert.AdamConvRKernel.τ).loc Cert.AdamConvRKernel.main_arg1)) (m ((c.tc : Thread Cert.AdamConvRKernel.nD Cert.AdamConvRKernel.τ).loc Cert.AdamConvRKernel.main_arg2)) (m ((c.tc : Thread Cert.AdamConvRKernel.nD Cert.AdamConvRKernel.τ).loc Cert.AdamConvRKernel.main_arg3)) (m ((c.tc : Thread Cert.AdamConvRKernel.nD Cert.AdamConvRKernel.τ).loc Cert.AdamConvRKernel.main_arg4)) (m ((c.tc : Thread Cert.AdamConvRKernel.nD Cert.AdamConvRKernel.τ).loc Cert.AdamConvRKernel.main_arg5))) = (fun _ => 1#1)

def Pre_AdamConvRKernelIdeal [hPre_on_mesh_conv_rnn_w : Cert.Pre_on_mesh_conv_rnn_w.Facts] (m : (ℓ : Loc Cert.AdamConvRKernelIdeal.nD Cert.AdamConvRKernelIdeal.τ Cert.AdamConvRKernelIdeal.sig) → Buf (Elt Ideal) ℓ) : Prop :=
  ∀ c : Dev Cert.AdamConvRKernelIdeal.nD,
    (Cert.Pre_on_mesh_conv_rnn_w.fn (F := Ideal) (m ((c.tc : Thread Cert.AdamConvRKernelIdeal.nD Cert.AdamConvRKernelIdeal.τ).loc Cert.AdamConvRKernelIdeal.main_arg0)) (m ((c.tc : Thread Cert.AdamConvRKernelIdeal.nD Cert.AdamConvRKernelIdeal.τ).loc Cert.AdamConvRKernelIdeal.main_arg1)) (m ((c.tc : Thread Cert.AdamConvRKernelIdeal.nD Cert.AdamConvRKernelIdeal.τ).loc Cert.AdamConvRKernelIdeal.main_arg2)) (m ((c.tc : Thread Cert.AdamConvRKernelIdeal.nD Cert.AdamConvRKernelIdeal.τ).loc Cert.AdamConvRKernelIdeal.main_arg3)) (m ((c.tc : Thread Cert.AdamConvRKernelIdeal.nD Cert.AdamConvRKernelIdeal.τ).loc Cert.AdamConvRKernelIdeal.main_arg4)) (m ((c.tc : Thread Cert.AdamConvRKernelIdeal.nD Cert.AdamConvRKernelIdeal.τ).loc Cert.AdamConvRKernelIdeal.main_arg5))) = (fun _ => 1#1)

def Pre_AdamConvRReferenceIdeal (m : (ℓ : Loc Cert.AdamConvRReferenceIdeal.nD Cert.AdamConvRReferenceIdeal.τ Cert.AdamConvRReferenceIdeal.sig) → Buf (Elt Ideal) ℓ) : Prop :=
  True

def Pre_AdamConvRReferenceIdeal_on_mesh_conv_rnn_w [hPre_on_mesh_conv_rnn_w : Cert.Pre_on_mesh_conv_rnn_w.Facts] (m : (ℓ : Loc Cert.AdamConvRReferenceIdeal.nD Cert.AdamConvRReferenceIdeal.τ Cert.AdamConvRReferenceIdeal.sig) → Buf (Elt Ideal) ℓ) : Prop :=
  ∀ c : Dev Cert.AdamConvRReferenceIdeal.nD,
    (Cert.Pre_on_mesh_conv_rnn_w.fn (F := Ideal) (m ((c.tc : Thread Cert.AdamConvRReferenceIdeal.nD Cert.AdamConvRReferenceIdeal.τ).loc Cert.AdamConvRReferenceIdeal.main_arg0)) (m ((c.tc : Thread Cert.AdamConvRReferenceIdeal.nD Cert.AdamConvRReferenceIdeal.τ).loc Cert.AdamConvRReferenceIdeal.main_arg1)) (m ((c.tc : Thread Cert.AdamConvRReferenceIdeal.nD Cert.AdamConvRReferenceIdeal.τ).loc Cert.AdamConvRReferenceIdeal.main_arg2)) (m ((c.tc : Thread Cert.AdamConvRReferenceIdeal.nD Cert.AdamConvRReferenceIdeal.τ).loc Cert.AdamConvRReferenceIdeal.main_arg3)) (m ((c.tc : Thread Cert.AdamConvRReferenceIdeal.nD Cert.AdamConvRReferenceIdeal.τ).loc Cert.AdamConvRReferenceIdeal.main_arg4)) (m ((c.tc : Thread Cert.AdamConvRReferenceIdeal.nD Cert.AdamConvRReferenceIdeal.τ).loc Cert.AdamConvRReferenceIdeal.main_arg5))) = (fun _ => 1#1)

def Pre_AdamBrnnKernel [hPre_on_mesh_w_branch_rnn : Cert.Pre_on_mesh_w_branch_rnn.Facts] (m : (ℓ : Loc Cert.AdamBrnnKernel.nD Cert.AdamBrnnKernel.τ Cert.AdamBrnnKernel.sig) → Buf (Elt Bits) ℓ) : Prop :=
  ∀ c : Dev Cert.AdamBrnnKernel.nD,
    (Cert.Pre_on_mesh_w_branch_rnn.fn (F := Bits) (m ((c.tc : Thread Cert.AdamBrnnKernel.nD Cert.AdamBrnnKernel.τ).loc Cert.AdamBrnnKernel.main_arg0)) (m ((c.tc : Thread Cert.AdamBrnnKernel.nD Cert.AdamBrnnKernel.τ).loc Cert.AdamBrnnKernel.main_arg1)) (m ((c.tc : Thread Cert.AdamBrnnKernel.nD Cert.AdamBrnnKernel.τ).loc Cert.AdamBrnnKernel.main_arg2)) (m ((c.tc : Thread Cert.AdamBrnnKernel.nD Cert.AdamBrnnKernel.τ).loc Cert.AdamBrnnKernel.main_arg3)) (m ((c.tc : Thread Cert.AdamBrnnKernel.nD Cert.AdamBrnnKernel.τ).loc Cert.AdamBrnnKernel.main_arg4)) (m ((c.tc : Thread Cert.AdamBrnnKernel.nD Cert.AdamBrnnKernel.τ).loc Cert.AdamBrnnKernel.main_arg5))) = (fun _ => 1#1)

def Pre_AdamBrnnKernelIdeal [hPre_on_mesh_w_branch_rnn : Cert.Pre_on_mesh_w_branch_rnn.Facts] (m : (ℓ : Loc Cert.AdamBrnnKernelIdeal.nD Cert.AdamBrnnKernelIdeal.τ Cert.AdamBrnnKernelIdeal.sig) → Buf (Elt Ideal) ℓ) : Prop :=
  ∀ c : Dev Cert.AdamBrnnKernelIdeal.nD,
    (Cert.Pre_on_mesh_w_branch_rnn.fn (F := Ideal) (m ((c.tc : Thread Cert.AdamBrnnKernelIdeal.nD Cert.AdamBrnnKernelIdeal.τ).loc Cert.AdamBrnnKernelIdeal.main_arg0)) (m ((c.tc : Thread Cert.AdamBrnnKernelIdeal.nD Cert.AdamBrnnKernelIdeal.τ).loc Cert.AdamBrnnKernelIdeal.main_arg1)) (m ((c.tc : Thread Cert.AdamBrnnKernelIdeal.nD Cert.AdamBrnnKernelIdeal.τ).loc Cert.AdamBrnnKernelIdeal.main_arg2)) (m ((c.tc : Thread Cert.AdamBrnnKernelIdeal.nD Cert.AdamBrnnKernelIdeal.τ).loc Cert.AdamBrnnKernelIdeal.main_arg3)) (m ((c.tc : Thread Cert.AdamBrnnKernelIdeal.nD Cert.AdamBrnnKernelIdeal.τ).loc Cert.AdamBrnnKernelIdeal.main_arg4)) (m ((c.tc : Thread Cert.AdamBrnnKernelIdeal.nD Cert.AdamBrnnKernelIdeal.τ).loc Cert.AdamBrnnKernelIdeal.main_arg5))) = (fun _ => 1#1)

def Pre_AdamBrnnReferenceIdeal (m : (ℓ : Loc Cert.AdamBrnnReferenceIdeal.nD Cert.AdamBrnnReferenceIdeal.τ Cert.AdamBrnnReferenceIdeal.sig) → Buf (Elt Ideal) ℓ) : Prop :=
  True

def Pre_AdamBrnnReferenceIdeal_on_mesh_w_branch_rnn [hPre_on_mesh_w_branch_rnn : Cert.Pre_on_mesh_w_branch_rnn.Facts] (m : (ℓ : Loc Cert.AdamBrnnReferenceIdeal.nD Cert.AdamBrnnReferenceIdeal.τ Cert.AdamBrnnReferenceIdeal.sig) → Buf (Elt Ideal) ℓ) : Prop :=
  ∀ c : Dev Cert.AdamBrnnReferenceIdeal.nD,
    (Cert.Pre_on_mesh_w_branch_rnn.fn (F := Ideal) (m ((c.tc : Thread Cert.AdamBrnnReferenceIdeal.nD Cert.AdamBrnnReferenceIdeal.τ).loc Cert.AdamBrnnReferenceIdeal.main_arg0)) (m ((c.tc : Thread Cert.AdamBrnnReferenceIdeal.nD Cert.AdamBrnnReferenceIdeal.τ).loc Cert.AdamBrnnReferenceIdeal.main_arg1)) (m ((c.tc : Thread Cert.AdamBrnnReferenceIdeal.nD Cert.AdamBrnnReferenceIdeal.τ).loc Cert.AdamBrnnReferenceIdeal.main_arg2)) (m ((c.tc : Thread Cert.AdamBrnnReferenceIdeal.nD Cert.AdamBrnnReferenceIdeal.τ).loc Cert.AdamBrnnReferenceIdeal.main_arg3)) (m ((c.tc : Thread Cert.AdamBrnnReferenceIdeal.nD Cert.AdamBrnnReferenceIdeal.τ).loc Cert.AdamBrnnReferenceIdeal.main_arg4)) (m ((c.tc : Thread Cert.AdamBrnnReferenceIdeal.nD Cert.AdamBrnnReferenceIdeal.τ).loc Cert.AdamBrnnReferenceIdeal.main_arg5))) = (fun _ => 1#1)

def Pre_AdamBattKernel [hPre_on_mesh_w_branch_att : Cert.Pre_on_mesh_w_branch_att.Facts] (m : (ℓ : Loc Cert.AdamBattKernel.nD Cert.AdamBattKernel.τ Cert.AdamBattKernel.sig) → Buf (Elt Bits) ℓ) : Prop :=
  ∀ c : Dev Cert.AdamBattKernel.nD,
    (Cert.Pre_on_mesh_w_branch_att.fn (F := Bits) (m ((c.tc : Thread Cert.AdamBattKernel.nD Cert.AdamBattKernel.τ).loc Cert.AdamBattKernel.main_arg0)) (m ((c.tc : Thread Cert.AdamBattKernel.nD Cert.AdamBattKernel.τ).loc Cert.AdamBattKernel.main_arg1)) (m ((c.tc : Thread Cert.AdamBattKernel.nD Cert.AdamBattKernel.τ).loc Cert.AdamBattKernel.main_arg2)) (m ((c.tc : Thread Cert.AdamBattKernel.nD Cert.AdamBattKernel.τ).loc Cert.AdamBattKernel.main_arg3)) (m ((c.tc : Thread Cert.AdamBattKernel.nD Cert.AdamBattKernel.τ).loc Cert.AdamBattKernel.main_arg4)) (m ((c.tc : Thread Cert.AdamBattKernel.nD Cert.AdamBattKernel.τ).loc Cert.AdamBattKernel.main_arg5))) = (fun _ => 1#1)

def Pre_AdamBattKernelIdeal [hPre_on_mesh_w_branch_att : Cert.Pre_on_mesh_w_branch_att.Facts] (m : (ℓ : Loc Cert.AdamBattKernelIdeal.nD Cert.AdamBattKernelIdeal.τ Cert.AdamBattKernelIdeal.sig) → Buf (Elt Ideal) ℓ) : Prop :=
  ∀ c : Dev Cert.AdamBattKernelIdeal.nD,
    (Cert.Pre_on_mesh_w_branch_att.fn (F := Ideal) (m ((c.tc : Thread Cert.AdamBattKernelIdeal.nD Cert.AdamBattKernelIdeal.τ).loc Cert.AdamBattKernelIdeal.main_arg0)) (m ((c.tc : Thread Cert.AdamBattKernelIdeal.nD Cert.AdamBattKernelIdeal.τ).loc Cert.AdamBattKernelIdeal.main_arg1)) (m ((c.tc : Thread Cert.AdamBattKernelIdeal.nD Cert.AdamBattKernelIdeal.τ).loc Cert.AdamBattKernelIdeal.main_arg2)) (m ((c.tc : Thread Cert.AdamBattKernelIdeal.nD Cert.AdamBattKernelIdeal.τ).loc Cert.AdamBattKernelIdeal.main_arg3)) (m ((c.tc : Thread Cert.AdamBattKernelIdeal.nD Cert.AdamBattKernelIdeal.τ).loc Cert.AdamBattKernelIdeal.main_arg4)) (m ((c.tc : Thread Cert.AdamBattKernelIdeal.nD Cert.AdamBattKernelIdeal.τ).loc Cert.AdamBattKernelIdeal.main_arg5))) = (fun _ => 1#1)

def Pre_AdamBattReferenceIdeal (m : (ℓ : Loc Cert.AdamBattReferenceIdeal.nD Cert.AdamBattReferenceIdeal.τ Cert.AdamBattReferenceIdeal.sig) → Buf (Elt Ideal) ℓ) : Prop :=
  True

def Pre_AdamBattReferenceIdeal_on_mesh_w_branch_att [hPre_on_mesh_w_branch_att : Cert.Pre_on_mesh_w_branch_att.Facts] (m : (ℓ : Loc Cert.AdamBattReferenceIdeal.nD Cert.AdamBattReferenceIdeal.τ Cert.AdamBattReferenceIdeal.sig) → Buf (Elt Ideal) ℓ) : Prop :=
  ∀ c : Dev Cert.AdamBattReferenceIdeal.nD,
    (Cert.Pre_on_mesh_w_branch_att.fn (F := Ideal) (m ((c.tc : Thread Cert.AdamBattReferenceIdeal.nD Cert.AdamBattReferenceIdeal.τ).loc Cert.AdamBattReferenceIdeal.main_arg0)) (m ((c.tc : Thread Cert.AdamBattReferenceIdeal.nD Cert.AdamBattReferenceIdeal.τ).loc Cert.AdamBattReferenceIdeal.main_arg1)) (m ((c.tc : Thread Cert.AdamBattReferenceIdeal.nD Cert.AdamBattReferenceIdeal.τ).loc Cert.AdamBattReferenceIdeal.main_arg2)) (m ((c.tc : Thread Cert.AdamBattReferenceIdeal.nD Cert.AdamBattReferenceIdeal.τ).loc Cert.AdamBattReferenceIdeal.main_arg3)) (m ((c.tc : Thread Cert.AdamBattReferenceIdeal.nD Cert.AdamBattReferenceIdeal.τ).loc Cert.AdamBattReferenceIdeal.main_arg4)) (m ((c.tc : Thread Cert.AdamBattReferenceIdeal.nD Cert.AdamBattReferenceIdeal.τ).loc Cert.AdamBattReferenceIdeal.main_arg5))) = (fun _ => 1#1)

def Pre_AdamOutKernel [hPre_on_mesh_w_out : Cert.Pre_on_mesh_w_out.Facts] (m : (ℓ : Loc Cert.AdamOutKernel.nD Cert.AdamOutKernel.τ Cert.AdamOutKernel.sig) → Buf (Elt Bits) ℓ) : Prop :=
  ∀ c : Dev Cert.AdamOutKernel.nD,
    (Cert.Pre_on_mesh_w_out.fn (F := Bits) (m ((c.tc : Thread Cert.AdamOutKernel.nD Cert.AdamOutKernel.τ).loc Cert.AdamOutKernel.main_arg0)) (m ((c.tc : Thread Cert.AdamOutKernel.nD Cert.AdamOutKernel.τ).loc Cert.AdamOutKernel.main_arg1)) (m ((c.tc : Thread Cert.AdamOutKernel.nD Cert.AdamOutKernel.τ).loc Cert.AdamOutKernel.main_arg2)) (m ((c.tc : Thread Cert.AdamOutKernel.nD Cert.AdamOutKernel.τ).loc Cert.AdamOutKernel.main_arg3)) (m ((c.tc : Thread Cert.AdamOutKernel.nD Cert.AdamOutKernel.τ).loc Cert.AdamOutKernel.main_arg4)) (m ((c.tc : Thread Cert.AdamOutKernel.nD Cert.AdamOutKernel.τ).loc Cert.AdamOutKernel.main_arg5))) = (fun _ => 1#1)

def Pre_AdamOutKernelIdeal [hPre_on_mesh_w_out : Cert.Pre_on_mesh_w_out.Facts] (m : (ℓ : Loc Cert.AdamOutKernelIdeal.nD Cert.AdamOutKernelIdeal.τ Cert.AdamOutKernelIdeal.sig) → Buf (Elt Ideal) ℓ) : Prop :=
  ∀ c : Dev Cert.AdamOutKernelIdeal.nD,
    (Cert.Pre_on_mesh_w_out.fn (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg2)) (m ((c.tc : Thread Cert.AdamOutKernelIdeal.nD Cert.AdamOutKernelIdeal.τ).loc Cert.AdamOutKernelIdeal.main_arg3)) (m ((c.tc : Thread Cert.AdamOutKernelIdeal.nD Cert.AdamOutKernelIdeal.τ).loc Cert.AdamOutKernelIdeal.main_arg4)) (m ((c.tc : Thread Cert.AdamOutKernelIdeal.nD Cert.AdamOutKernelIdeal.τ).loc Cert.AdamOutKernelIdeal.main_arg5))) = (fun _ => 1#1)

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamOutReferenceIdeal_on_mesh_w_out [hPre_on_mesh_w_out : Cert.Pre_on_mesh_w_out.Facts] (m : (ℓ : Loc Cert.AdamOutReferenceIdeal.nD Cert.AdamOutReferenceIdeal.τ Cert.AdamOutReferenceIdeal.sig) → Buf (Elt Ideal) ℓ) : Prop :=
  ∀ c : Dev Cert.AdamOutReferenceIdeal.nD,
    (Cert.Pre_on_mesh_w_out.fn (F := Ideal) (m ((c.tc : Thread Cert.AdamOutReferenceIdeal.nD Cert.AdamOutReferenceIdeal.τ).loc Cert.AdamOutReferenceIdeal.main_arg0)) (m ((c.tc : Thread Cert.AdamOutReferenceIdeal.nD Cert.AdamOutReferenceIdeal.τ).loc Cert.AdamOutReferenceIdeal.main_arg1)) (m ((c.tc : Thread Cert.AdamOutReferenceIdeal.nD Cert.AdamOutReferenceIdeal.τ).loc Cert.AdamOutReferenceIdeal.main_arg2)) (m ((c.tc : Thread Cert.AdamOutReferenceIdeal.nD Cert.AdamOutReferenceIdeal.τ).loc Cert.AdamOutReferenceIdeal.main_arg3)) (m ((c.tc : Thread Cert.AdamOutReferenceIdeal.nD Cert.AdamOutReferenceIdeal.τ).loc Cert.AdamOutReferenceIdeal.main_arg4)) (m ((c.tc : Thread Cert.AdamOutReferenceIdeal.nD Cert.AdamOutReferenceIdeal.τ).loc Cert.AdamOutReferenceIdeal.main_arg5))) = (fun _ => 1#1)

def Pre_AdamGateKernel [hPre_on_mesh_w_ffn_gate : Cert.Pre_on_mesh_w_ffn_gate.Facts] (m : (ℓ : Loc Cert.AdamGateKernel.nD Cert.AdamGateKernel.τ Cert.AdamGateKernel.sig) → Buf (Elt Bits) ℓ) : Prop :=
  ∀ c : Dev Cert.AdamGateKernel.nD,
    (Cert.Pre_on_mesh_w_ffn_gate.fn (F := Bits) (m ((c.tc : Thread Cert.AdamGateKernel.nD Cert.AdamGateKernel.τ).loc Cert.AdamGateKernel.main_arg0)) (m ((c.tc : Thread Cert.AdamGateKernel.nD Cert.AdamGateKernel.τ).loc Cert.AdamGateKernel.main_arg1)) (m ((c.tc : Thread Cert.AdamGateKernel.nD Cert.AdamGateKernel.τ).loc Cert.AdamGateKernel.main_arg2)) (m ((c.tc : Thread Cert.AdamGateKernel.nD Cert.AdamGateKernel.τ).loc Cert.AdamGateKernel.main_arg3)) (m ((c.tc : Thread Cert.AdamGateKernel.nD Cert.AdamGateKernel.τ).loc Cert.AdamGateKernel.main_arg4)) (m ((c.tc : Thread Cert.AdamGateKernel.nD Cert.AdamGateKernel.τ).loc Cert.AdamGateKernel.main_arg5))) = (fun _ => 1#1)

def Pre_AdamGateKernelIdeal [hPre_on_mesh_w_ffn_gate : Cert.Pre_on_mesh_w_ffn_gate.Facts] (m : (ℓ : Loc Cert.AdamGateKernelIdeal.nD Cert.AdamGateKernelIdeal.τ Cert.AdamGateKernelIdeal.sig) → Buf (Elt Ideal) ℓ) : Prop :=
  ∀ c : Dev Cert.AdamGateKernelIdeal.nD,
    (Cert.Pre_on_mesh_w_ffn_gate.fn (F := Ideal) (m ((c.tc : Thread Cert.AdamGateKernelIdeal.nD Cert.AdamGateKernelIdeal.τ).loc Cert.AdamGateKernelIdeal.main_arg0)) (m ((c.tc : Thread Cert.AdamGateKernelIdeal.nD Cert.AdamGateKernelIdeal.τ).loc Cert.AdamGateKernelIdeal.main_arg1)) (m ((c.tc : Thread Cert.AdamGateKernelIdeal.nD Cert.AdamGateKernelIdeal.τ).loc Cert.AdamGateKernelIdeal.main_arg2)) (m ((c.tc : Thread Cert.AdamGateKernelIdeal.nD Cert.AdamGateKernelIdeal.τ).loc Cert.AdamGateKernelIdeal.main_arg3)) (m ((c.tc : Thread Cert.AdamGateKernelIdeal.nD Cert.AdamGateKernelIdeal.τ).loc Cert.AdamGateKernelIdeal.main_arg4)) (m ((c.tc : Thread Cert.AdamGateKernelIdeal.nD Cert.AdamGateKernelIdeal.τ).loc Cert.AdamGateKernelIdeal.main_arg5))) = (fun _ => 1#1)

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamGateReferenceIdeal_on_mesh_w_ffn_gate [hPre_on_mesh_w_ffn_gate : Cert.Pre_on_mesh_w_ffn_gate.Facts] (m : (ℓ : Loc Cert.AdamGateReferenceIdeal.nD Cert.AdamGateReferenceIdeal.τ Cert.AdamGateReferenceIdeal.sig) → Buf (Elt Ideal) ℓ) : Prop :=
  ∀ c : Dev Cert.AdamGateReferenceIdeal.nD,
    (Cert.Pre_on_mesh_w_ffn_gate.fn (F := Ideal) (m ((c.tc : Thread Cert.AdamGateReferenceIdeal.nD Cert.AdamGateReferenceIdeal.τ).loc Cert.AdamGateReferenceIdeal.main_arg0)) (m ((c.tc : Thread Cert.AdamGateReferenceIdeal.nD Cert.AdamGateReferenceIdeal.τ).loc Cert.AdamGateReferenceIdeal.main_arg1)) (m ((c.tc : Thread Cert.AdamGateReferenceIdeal.nD Cert.AdamGateReferenceIdeal.τ).loc Cert.AdamGateReferenceIdeal.main_arg2)) (m ((c.tc : Thread Cert.AdamGateReferenceIdeal.nD Cert.AdamGateReferenceIdeal.τ).loc Cert.AdamGateReferenceIdeal.main_arg3)) (m ((c.tc : Thread Cert.AdamGateReferenceIdeal.nD Cert.AdamGateReferenceIdeal.τ).loc Cert.AdamGateReferenceIdeal.main_arg4)) (m ((c.tc : Thread Cert.AdamGateReferenceIdeal.nD Cert.AdamGateReferenceIdeal.τ).loc Cert.AdamGateReferenceIdeal.main_arg5))) = (fun _ => 1#1)

def Pre_AdamConvFKernel [hPre_on_mesh_conv_ffn_w : Cert.Pre_on_mesh_conv_ffn_w.Facts] (m : (ℓ : Loc Cert.AdamConvFKernel.nD Cert.AdamConvFKernel.τ Cert.AdamConvFKernel.sig) → Buf (Elt Bits) ℓ) : Prop :=
  ∀ c : Dev Cert.AdamConvFKernel.nD,
    (Cert.Pre_on_mesh_conv_ffn_w.fn (F := Bits) (m ((c.tc : Thread Cert.AdamConvFKernel.nD Cert.AdamConvFKernel.τ).loc Cert.AdamConvFKernel.main_arg0)) (m ((c.tc : Thread Cert.AdamConvFKernel.nD Cert.AdamConvFKernel.τ).loc Cert.AdamConvFKernel.main_arg1)) (m ((c.tc : Thread Cert.AdamConvFKernel.nD Cert.AdamConvFKernel.τ).loc Cert.AdamConvFKernel.main_arg2)) (m ((c.tc : Thread Cert.AdamConvFKernel.nD Cert.AdamConvFKernel.τ).loc Cert.AdamConvFKernel.main_arg3)) (m ((c.tc : Thread Cert.AdamConvFKernel.nD Cert.AdamConvFKernel.τ).loc Cert.AdamConvFKernel.main_arg4)) (m ((c.tc : Thread Cert.AdamConvFKernel.nD Cert.AdamConvFKernel.τ).loc Cert.AdamConvFKernel.main_arg5))) = (fun _ => 1#1)

def Pre_AdamConvFKernelIdeal [hPre_on_mesh_conv_ffn_w : Cert.Pre_on_mesh_conv_ffn_w.Facts] (m : (ℓ : Loc Cert.AdamConvFKernelIdeal.nD Cert.AdamConvFKernelIdeal.τ Cert.AdamConvFKernelIdeal.sig) → Buf (Elt Ideal) ℓ) : Prop :=
  ∀ c : Dev Cert.AdamConvFKernelIdeal.nD,
    (Cert.Pre_on_mesh_conv_ffn_w.fn (F := Ideal) (m ((c.tc : Thread Cert.AdamConvFKernelIdeal.nD Cert.AdamConvFKernelIdeal.τ).loc Cert.AdamConvFKernelIdeal.main_arg0)) (m ((c.tc : Thread Cert.AdamConvFKernelIdeal.nD Cert.AdamConvFKernelIdeal.τ).loc Cert.AdamConvFKernelIdeal.main_arg1)) (m ((c.tc : Thread Cert.AdamConvFKernelIdeal.nD Cert.AdamConvFKernelIdeal.τ).loc Cert.AdamConvFKernelIdeal.main_arg2)) (m ((c.tc : Thread Cert.AdamConvFKernelIdeal.nD Cert.AdamConvFKernelIdeal.τ).loc Cert.AdamConvFKernelIdeal.main_arg3)) (m ((c.tc : Thread Cert.AdamConvFKernelIdeal.nD Cert.AdamConvFKernelIdeal.τ).loc Cert.AdamConvFKernelIdeal.main_arg4)) (m ((c.tc : Thread Cert.AdamConvFKernelIdeal.nD Cert.AdamConvFKernelIdeal.τ).loc Cert.AdamConvFKernelIdeal.main_arg5))) = (fun _ => 1#1)

def Pre_AdamConvFReferenceIdeal (m : (ℓ : Loc Cert.AdamConvFReferenceIdeal.nD Cert.AdamConvFReferenceIdeal.τ Cert.AdamConvFReferenceIdeal.sig) → Buf (Elt Ideal) ℓ) : Prop :=
  True

def Pre_AdamConvFReferenceIdeal_on_mesh_conv_ffn_w [hPre_on_mesh_conv_ffn_w : Cert.Pre_on_mesh_conv_ffn_w.Facts] (m : (ℓ : Loc Cert.AdamConvFReferenceIdeal.nD Cert.AdamConvFReferenceIdeal.τ Cert.AdamConvFReferenceIdeal.sig) → Buf (Elt Ideal) ℓ) : Prop :=
  ∀ c : Dev Cert.AdamConvFReferenceIdeal.nD,
    (Cert.Pre_on_mesh_conv_ffn_w.fn (F := Ideal) (m ((c.tc : Thread Cert.AdamConvFReferenceIdeal.nD Cert.AdamConvFReferenceIdeal.τ).loc Cert.AdamConvFReferenceIdeal.main_arg0)) (m ((c.tc : Thread Cert.AdamConvFReferenceIdeal.nD Cert.AdamConvFReferenceIdeal.τ).loc Cert.AdamConvFReferenceIdeal.main_arg1)) (m ((c.tc : Thread Cert.AdamConvFReferenceIdeal.nD Cert.AdamConvFReferenceIdeal.τ).loc Cert.AdamConvFReferenceIdeal.main_arg2)) (m ((c.tc : Thread Cert.AdamConvFReferenceIdeal.nD Cert.AdamConvFReferenceIdeal.τ).loc Cert.AdamConvFReferenceIdeal.main_arg3)) (m ((c.tc : Thread Cert.AdamConvFReferenceIdeal.nD Cert.AdamConvFReferenceIdeal.τ).loc Cert.AdamConvFReferenceIdeal.main_arg4)) (m ((c.tc : Thread Cert.AdamConvFReferenceIdeal.nD Cert.AdamConvFReferenceIdeal.τ).loc Cert.AdamConvFReferenceIdeal.main_arg5))) = (fun _ => 1#1)

def Pre_AdamDownKernel [hPre_on_mesh_w_ffn_down : Cert.Pre_on_mesh_w_ffn_down.Facts] (m : (ℓ : Loc Cert.AdamDownKernel.nD Cert.AdamDownKernel.τ Cert.AdamDownKernel.sig) → Buf (Elt Bits) ℓ) : Prop :=
  ∀ c : Dev Cert.AdamDownKernel.nD,
    (Cert.Pre_on_mesh_w_ffn_down.fn (F := Bits) (m ((c.tc : Thread Cert.AdamDownKernel.nD Cert.AdamDownKernel.τ).loc Cert.AdamDownKernel.main_arg0)) (m ((c.tc : Thread Cert.AdamDownKernel.nD Cert.AdamDownKernel.τ).loc Cert.AdamDownKernel.main_arg1)) (m ((c.tc : Thread Cert.AdamDownKernel.nD Cert.AdamDownKernel.τ).loc Cert.AdamDownKernel.main_arg2)) (m ((c.tc : Thread Cert.AdamDownKernel.nD Cert.AdamDownKernel.τ).loc Cert.AdamDownKernel.main_arg3)) (m ((c.tc : Thread Cert.AdamDownKernel.nD Cert.AdamDownKernel.τ).loc Cert.AdamDownKernel.main_arg4)) (m ((c.tc : Thread Cert.AdamDownKernel.nD Cert.AdamDownKernel.τ).loc Cert.AdamDownKernel.main_arg5))) = (fun _ => 1#1)

def Pre_AdamDownKernelIdeal [hPre_on_mesh_w_ffn_down : Cert.Pre_on_mesh_w_ffn_down.Facts] (m : (ℓ : Loc Cert.AdamDownKernelIdeal.nD Cert.AdamDownKernelIdeal.τ Cert.AdamDownKernelIdeal.sig) → Buf (Elt Ideal) ℓ) : Prop :=
  ∀ c : Dev Cert.AdamDownKernelIdeal.nD,
    (Cert.Pre_on_mesh_w_ffn_down.fn (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg2)) (m ((c.tc : Thread Cert.AdamDownKernelIdeal.nD Cert.AdamDownKernelIdeal.τ).loc Cert.AdamDownKernelIdeal.main_arg3)) (m ((c.tc : Thread Cert.AdamDownKernelIdeal.nD Cert.AdamDownKernelIdeal.τ).loc Cert.AdamDownKernelIdeal.main_arg4)) (m ((c.tc : Thread Cert.AdamDownKernelIdeal.nD Cert.AdamDownKernelIdeal.τ).loc Cert.AdamDownKernelIdeal.main_arg5))) = (fun _ => 1#1)

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamDownReferenceIdeal_on_mesh_w_ffn_down [hPre_on_mesh_w_ffn_down : Cert.Pre_on_mesh_w_ffn_down.Facts] (m : (ℓ : Loc Cert.AdamDownReferenceIdeal.nD Cert.AdamDownReferenceIdeal.τ Cert.AdamDownReferenceIdeal.sig) → Buf (Elt Ideal) ℓ) : Prop :=
  ∀ c : Dev Cert.AdamDownReferenceIdeal.nD,
    (Cert.Pre_on_mesh_w_ffn_down.fn (F := Ideal) (m ((c.tc : Thread Cert.AdamDownReferenceIdeal.nD Cert.AdamDownReferenceIdeal.τ).loc Cert.AdamDownReferenceIdeal.main_arg0)) (m ((c.tc : Thread Cert.AdamDownReferenceIdeal.nD Cert.AdamDownReferenceIdeal.τ).loc Cert.AdamDownReferenceIdeal.main_arg1)) (m ((c.tc : Thread Cert.AdamDownReferenceIdeal.nD Cert.AdamDownReferenceIdeal.τ).loc Cert.AdamDownReferenceIdeal.main_arg2)) (m ((c.tc : Thread Cert.AdamDownReferenceIdeal.nD Cert.AdamDownReferenceIdeal.τ).loc Cert.AdamDownReferenceIdeal.main_arg3)) (m ((c.tc : Thread Cert.AdamDownReferenceIdeal.nD Cert.AdamDownReferenceIdeal.τ).loc Cert.AdamDownReferenceIdeal.main_arg4)) (m ((c.tc : Thread Cert.AdamDownReferenceIdeal.nD Cert.AdamDownReferenceIdeal.τ).loc Cert.AdamDownReferenceIdeal.main_arg5))) = (fun _ => 1#1)

def Pre_RnnBwdKernel (m : (ℓ : Loc Cert.RnnBwdKernel.nD Cert.RnnBwdKernel.τ Cert.RnnBwdKernel.sig) → Buf (Elt Bits) ℓ) : Prop :=
  True

def Pre_RnnBwdKernelIdeal (m : (ℓ : Loc Cert.RnnBwdKernelIdeal.nD Cert.RnnBwdKernelIdeal.τ Cert.RnnBwdKernelIdeal.sig) → Buf (Elt Ideal) ℓ) : Prop :=
  True

def Pre_RnnFwdKernel (m : (ℓ : Loc Cert.RnnFwdKernel.nD Cert.RnnFwdKernel.τ Cert.RnnFwdKernel.sig) → Buf (Elt Bits) ℓ) : Prop :=
  True

def Pre_RnnFwdKernelIdeal (m : (ℓ : Loc Cert.RnnFwdKernelIdeal.nD Cert.RnnFwdKernelIdeal.τ Cert.RnnFwdKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_DwDownKernel [hDwDownKernel : Cert.DwDownKernel.Facts] : Prop :=
  ∀ (m : (ℓ : Loc Cert.DwDownKernel.nD Cert.DwDownKernel.τ Cert.DwDownKernel.sig) → Buf (Elt Bits) ℓ) (g : Dev Cert.DwDownKernel.nD → PrngReg), Pre_DwDownKernel m →
    θ_run (Cert.DwDownKernel.defs (F := Bits)) (onTc (τ := Cert.DwDownKernel.τ) (Cert.DwDownKernel.main (F := Bits))) ⟨m, fun _ => 0, g⟩ (fun r => (∀ c : Dev Cert.DwDownKernel.nD,
      r.2.mem ((c.tc : Thread Cert.DwDownKernel.nD Cert.DwDownKernel.τ).loc Cert.DwDownKernel.main_arg0) = m ((c.tc : Thread Cert.DwDownKernel.nD Cert.DwDownKernel.τ).loc Cert.DwDownKernel.main_arg0)
      ∧ r.2.mem ((c.tc : Thread Cert.DwDownKernel.nD Cert.DwDownKernel.τ).loc Cert.DwDownKernel.main_arg1) = m ((c.tc : Thread Cert.DwDownKernel.nD Cert.DwDownKernel.τ).loc Cert.DwDownKernel.main_arg1))
      ∧ r.2.sem = fun _ => 0)

def quiescent_DwDownKernelIdeal [hDwDownKernelIdeal : Cert.DwDownKernelIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg), Pre_DwDownKernelIdeal m →
    θ_run (Cert.DwDownKernelIdeal.defs (F := Ideal)) (onTc (τ := Cert.DwDownKernelIdeal.τ) (Cert.DwDownKernelIdeal.main (F := Ideal))) ⟨m, fun _ => 0, g⟩ (fun r => (∀ c : Dev Cert.DwDownKernelIdeal.nD,
      r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
      ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwGateKernel [hDwGateKernel : Cert.DwGateKernel.Facts] : Prop :=
  ∀ (m : (ℓ : Loc Cert.DwGateKernel.nD Cert.DwGateKernel.τ Cert.DwGateKernel.sig) → Buf (Elt Bits) ℓ) (g : Dev Cert.DwGateKernel.nD → PrngReg), Pre_DwGateKernel m →
    θ_run (Cert.DwGateKernel.defs (F := Bits)) (onTc (τ := Cert.DwGateKernel.τ) (Cert.DwGateKernel.main (F := Bits))) ⟨m, fun _ => 0, g⟩ (fun r => (∀ c : Dev Cert.DwGateKernel.nD,
      r.2.mem ((c.tc : Thread Cert.DwGateKernel.nD Cert.DwGateKernel.τ).loc Cert.DwGateKernel.main_arg0) = m ((c.tc : Thread Cert.DwGateKernel.nD Cert.DwGateKernel.τ).loc Cert.DwGateKernel.main_arg0)
      ∧ r.2.mem ((c.tc : Thread Cert.DwGateKernel.nD Cert.DwGateKernel.τ).loc Cert.DwGateKernel.main_arg1) = m ((c.tc : Thread Cert.DwGateKernel.nD Cert.DwGateKernel.τ).loc Cert.DwGateKernel.main_arg1))
      ∧ r.2.sem = fun _ => 0)

def quiescent_DwGateKernelIdeal [hDwGateKernelIdeal : Cert.DwGateKernelIdeal.Facts] : Prop :=
  ∀ (m : (ℓ : Loc Cert.DwGateKernelIdeal.nD Cert.DwGateKernelIdeal.τ Cert.DwGateKernelIdeal.sig) → Buf (Elt Ideal) ℓ) (g : Dev Cert.DwGateKernelIdeal.nD → PrngReg), Pre_DwGateKernelIdeal m →
    θ_run (Cert.DwGateKernelIdeal.defs (F := Ideal)) (onTc (τ := Cert.DwGateKernelIdeal.τ) (Cert.DwGateKernelIdeal.main (F := Ideal))) ⟨m, fun _ => 0, g⟩ (fun r => (∀ c : Dev Cert.DwGateKernelIdeal.nD,
      r.2.mem ((c.tc : Thread Cert.DwGateKernelIdeal.nD Cert.DwGateKernelIdeal.τ).loc Cert.DwGateKernelIdeal.main_arg0) = m ((c.tc : Thread Cert.DwGateKernelIdeal.nD Cert.DwGateKernelIdeal.τ).loc Cert.DwGateKernelIdeal.main_arg0)
      ∧ r.2.mem ((c.tc : Thread Cert.DwGateKernelIdeal.nD Cert.DwGateKernelIdeal.τ).loc Cert.DwGateKernelIdeal.main_arg1) = m ((c.tc : Thread Cert.DwGateKernelIdeal.nD Cert.DwGateKernelIdeal.τ).loc Cert.DwGateKernelIdeal.main_arg1))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1))
      ∧ r.2.sem = fun _ => 0)

def quiescent_DhFfnKernel [hDhFfnKernel : Cert.DhFfnKernel.Facts] : Prop :=
  ∀ (m : (ℓ : Loc Cert.DhFfnKernel.nD Cert.DhFfnKernel.τ Cert.DhFfnKernel.sig) → Buf (Elt Bits) ℓ) (g : Dev Cert.DhFfnKernel.nD → PrngReg), Pre_DhFfnKernel m →
    θ_run (Cert.DhFfnKernel.defs (F := Bits)) (onTc (τ := Cert.DhFfnKernel.τ) (Cert.DhFfnKernel.main (F := Bits))) ⟨m, fun _ => 0, g⟩ (fun r => (∀ c : Dev Cert.DhFfnKernel.nD,
      r.2.mem ((c.tc : Thread Cert.DhFfnKernel.nD Cert.DhFfnKernel.τ).loc Cert.DhFfnKernel.main_arg0) = m ((c.tc : Thread Cert.DhFfnKernel.nD Cert.DhFfnKernel.τ).loc Cert.DhFfnKernel.main_arg0)
      ∧ r.2.mem ((c.tc : Thread Cert.DhFfnKernel.nD Cert.DhFfnKernel.τ).loc Cert.DhFfnKernel.main_arg1) = m ((c.tc : Thread Cert.DhFfnKernel.nD Cert.DhFfnKernel.τ).loc Cert.DhFfnKernel.main_arg1)
      ∧ r.2.mem ((c.tc : Thread Cert.DhFfnKernel.nD Cert.DhFfnKernel.τ).loc Cert.DhFfnKernel.main_arg2) = m ((c.tc : Thread Cert.DhFfnKernel.nD Cert.DhFfnKernel.τ).loc Cert.DhFfnKernel.main_arg2)
      ∧ r.2.mem ((c.tc : Thread Cert.DhFfnKernel.nD Cert.DhFfnKernel.τ).loc Cert.DhFfnKernel.main_arg3) = m ((c.tc : Thread Cert.DhFfnKernel.nD Cert.DhFfnKernel.τ).loc Cert.DhFfnKernel.main_arg3))
      ∧ r.2.sem = fun _ => 0)

def quiescent_DhFfnKernelIdeal [hDhFfnKernelIdeal : Cert.DhFfnKernelIdeal.Facts] : Prop :=
  ∀ (m : (ℓ : Loc Cert.DhFfnKernelIdeal.nD Cert.DhFfnKernelIdeal.τ Cert.DhFfnKernelIdeal.sig) → Buf (Elt Ideal) ℓ) (g : Dev Cert.DhFfnKernelIdeal.nD → PrngReg), Pre_DhFfnKernelIdeal m →
    θ_run (Cert.DhFfnKernelIdeal.defs (F := Ideal)) (onTc (τ := Cert.DhFfnKernelIdeal.τ) (Cert.DhFfnKernelIdeal.main (F := Ideal))) ⟨m, fun _ => 0, g⟩ (fun r => (∀ c : Dev Cert.DhFfnKernelIdeal.nD,
      r.2.mem ((c.tc : Thread Cert.DhFfnKernelIdeal.nD Cert.DhFfnKernelIdeal.τ).loc Cert.DhFfnKernelIdeal.main_arg0) = m ((c.tc : Thread Cert.DhFfnKernelIdeal.nD Cert.DhFfnKernelIdeal.τ).loc Cert.DhFfnKernelIdeal.main_arg0)
      ∧ r.2.mem ((c.tc : Thread Cert.DhFfnKernelIdeal.nD Cert.DhFfnKernelIdeal.τ).loc Cert.DhFfnKernelIdeal.main_arg1) = m ((c.tc : Thread Cert.DhFfnKernelIdeal.nD Cert.DhFfnKernelIdeal.τ).loc Cert.DhFfnKernelIdeal.main_arg1)
      ∧ r.2.mem ((c.tc : Thread Cert.DhFfnKernelIdeal.nD Cert.DhFfnKernelIdeal.τ).loc Cert.DhFfnKernelIdeal.main_arg2) = m ((c.tc : Thread Cert.DhFfnKernelIdeal.nD Cert.DhFfnKernelIdeal.τ).loc Cert.DhFfnKernelIdeal.main_arg2)
      ∧ r.2.mem ((c.tc : Thread Cert.DhFfnKernelIdeal.nD Cert.DhFfnKernelIdeal.τ).loc Cert.DhFfnKernelIdeal.main_arg3) = m ((c.tc : Thread Cert.DhFfnKernelIdeal.nD Cert.DhFfnKernelIdeal.τ).loc Cert.DhFfnKernelIdeal.main_arg3))
      ∧ r.2.sem = fun _ => 0)

def quiescent_DhFfnReferenceIdeal [hDhFfnReferenceIdeal : Cert.DhFfnReferenceIdeal.Facts] : Prop :=
  ∀ (m : (ℓ : Loc Cert.DhFfnReferenceIdeal.nD Cert.DhFfnReferenceIdeal.τ Cert.DhFfnReferenceIdeal.sig) → Buf (Elt Ideal) ℓ) (g : Dev Cert.DhFfnReferenceIdeal.nD → PrngReg), Pre_DhFfnReferenceIdeal m →
    θ_run (Cert.DhFfnReferenceIdeal.defs (F := Ideal)) (onTc (τ := Cert.DhFfnReferenceIdeal.τ) (Cert.DhFfnReferenceIdeal.main (F := Ideal))) ⟨m, fun _ => 0, g⟩ (fun r => (∀ c : Dev Cert.DhFfnReferenceIdeal.nD,
      r.2.mem ((c.tc : Thread Cert.DhFfnReferenceIdeal.nD Cert.DhFfnReferenceIdeal.τ).loc Cert.DhFfnReferenceIdeal.main_arg0) = m ((c.tc : Thread Cert.DhFfnReferenceIdeal.nD Cert.DhFfnReferenceIdeal.τ).loc Cert.DhFfnReferenceIdeal.main_arg0)
      ∧ r.2.mem ((c.tc : Thread Cert.DhFfnReferenceIdeal.nD Cert.DhFfnReferenceIdeal.τ).loc Cert.DhFfnReferenceIdeal.main_arg1) = m ((c.tc : Thread Cert.DhFfnReferenceIdeal.nD Cert.DhFfnReferenceIdeal.τ).loc Cert.DhFfnReferenceIdeal.main_arg1)
      ∧ r.2.mem ((c.tc : Thread Cert.DhFfnReferenceIdeal.nD Cert.DhFfnReferenceIdeal.τ).loc Cert.DhFfnReferenceIdeal.main_arg2) = m ((c.tc : Thread Cert.DhFfnReferenceIdeal.nD Cert.DhFfnReferenceIdeal.τ).loc Cert.DhFfnReferenceIdeal.main_arg2)
      ∧ r.2.mem ((c.tc : Thread Cert.DhFfnReferenceIdeal.nD Cert.DhFfnReferenceIdeal.τ).loc Cert.DhFfnReferenceIdeal.main_arg3) = m ((c.tc : Thread Cert.DhFfnReferenceIdeal.nD Cert.DhFfnReferenceIdeal.τ).loc Cert.DhFfnReferenceIdeal.main_arg3))
      ∧ r.2.sem = fun _ => 0)

def quiescent_DmergedKernel [hDmergedKernel : Cert.DmergedKernel.Facts] : Prop :=
  ∀ (m : (ℓ : Loc Cert.DmergedKernel.nD Cert.DmergedKernel.τ Cert.DmergedKernel.sig) → Buf (Elt Bits) ℓ) (g : Dev Cert.DmergedKernel.nD → PrngReg), Pre_DmergedKernel m →
    θ_run (Cert.DmergedKernel.defs (F := Bits)) (onTc (τ := Cert.DmergedKernel.τ) (Cert.DmergedKernel.main (F := Bits))) ⟨m, fun _ => 0, g⟩ (fun r => (∀ c : Dev Cert.DmergedKernel.nD,
      r.2.mem ((c.tc : Thread Cert.DmergedKernel.nD Cert.DmergedKernel.τ).loc Cert.DmergedKernel.main_arg0) = m ((c.tc : Thread Cert.DmergedKernel.nD Cert.DmergedKernel.τ).loc Cert.DmergedKernel.main_arg0)
      ∧ r.2.mem ((c.tc : Thread Cert.DmergedKernel.nD Cert.DmergedKernel.τ).loc Cert.DmergedKernel.main_arg1) = m ((c.tc : Thread Cert.DmergedKernel.nD Cert.DmergedKernel.τ).loc Cert.DmergedKernel.main_arg1))
      ∧ r.2.sem = fun _ => 0)

def quiescent_DmergedKernelIdeal [hDmergedKernelIdeal : Cert.DmergedKernelIdeal.Facts] : Prop :=
  ∀ (m : (ℓ : Loc Cert.DmergedKernelIdeal.nD Cert.DmergedKernelIdeal.τ Cert.DmergedKernelIdeal.sig) → Buf (Elt Ideal) ℓ) (g : Dev Cert.DmergedKernelIdeal.nD → PrngReg), Pre_DmergedKernelIdeal m →
    θ_run (Cert.DmergedKernelIdeal.defs (F := Ideal)) (onTc (τ := Cert.DmergedKernelIdeal.τ) (Cert.DmergedKernelIdeal.main (F := Ideal))) ⟨m, fun _ => 0, g⟩ (fun r => (∀ c : Dev Cert.DmergedKernelIdeal.nD,
      r.2.mem ((c.tc : Thread Cert.DmergedKernelIdeal.nD Cert.DmergedKernelIdeal.τ).loc Cert.DmergedKernelIdeal.main_arg0) = m ((c.tc : Thread Cert.DmergedKernelIdeal.nD Cert.DmergedKernelIdeal.τ).loc Cert.DmergedKernelIdeal.main_arg0)
      ∧ r.2.mem ((c.tc : Thread Cert.DmergedKernelIdeal.nD Cert.DmergedKernelIdeal.τ).loc Cert.DmergedKernelIdeal.main_arg1) = m ((c.tc : Thread Cert.DmergedKernelIdeal.nD Cert.DmergedKernelIdeal.τ).loc Cert.DmergedKernelIdeal.main_arg1))
      ∧ r.2.sem = fun _ => 0)

def quiescent_DmergedReferenceIdeal [hDmergedReferenceIdeal : Cert.DmergedReferenceIdeal.Facts] : Prop :=
  ∀ (m : (ℓ : Loc Cert.DmergedReferenceIdeal.nD Cert.DmergedReferenceIdeal.τ Cert.DmergedReferenceIdeal.sig) → Buf (Elt Ideal) ℓ) (g : Dev Cert.DmergedReferenceIdeal.nD → PrngReg), Pre_DmergedReferenceIdeal m →
    θ_run (Cert.DmergedReferenceIdeal.defs (F := Ideal)) (onTc (τ := Cert.DmergedReferenceIdeal.τ) (Cert.DmergedReferenceIdeal.main (F := Ideal))) ⟨m, fun _ => 0, g⟩ (fun r => (∀ c : Dev Cert.DmergedReferenceIdeal.nD,
      r.2.mem ((c.tc : Thread Cert.DmergedReferenceIdeal.nD Cert.DmergedReferenceIdeal.τ).loc Cert.DmergedReferenceIdeal.main_arg0) = m ((c.tc : Thread Cert.DmergedReferenceIdeal.nD Cert.DmergedReferenceIdeal.τ).loc Cert.DmergedReferenceIdeal.main_arg0)
      ∧ r.2.mem ((c.tc : Thread Cert.DmergedReferenceIdeal.nD Cert.DmergedReferenceIdeal.τ).loc Cert.DmergedReferenceIdeal.main_arg1) = m ((c.tc : Thread Cert.DmergedReferenceIdeal.nD Cert.DmergedReferenceIdeal.τ).loc Cert.DmergedReferenceIdeal.main_arg1))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DhRnnKernel [hDhRnnKernel : Cert.DhRnnKernel.Facts] : Prop :=
  ∀ (m : (ℓ : Loc Cert.DhRnnKernel.nD Cert.DhRnnKernel.τ Cert.DhRnnKernel.sig) → Buf (Elt Bits) ℓ) (g : Dev Cert.DhRnnKernel.nD → PrngReg), Pre_DhRnnKernel m →
    θ_run (Cert.DhRnnKernel.defs (F := Bits)) (onTc (τ := Cert.DhRnnKernel.τ) (Cert.DhRnnKernel.main (F := Bits))) ⟨m, fun _ => 0, g⟩ (fun r => (∀ c : Dev Cert.DhRnnKernel.nD,
      r.2.mem ((c.tc : Thread Cert.DhRnnKernel.nD Cert.DhRnnKernel.τ).loc Cert.DhRnnKernel.main_arg0) = m ((c.tc : Thread Cert.DhRnnKernel.nD Cert.DhRnnKernel.τ).loc Cert.DhRnnKernel.main_arg0)
      ∧ r.2.mem ((c.tc : Thread Cert.DhRnnKernel.nD Cert.DhRnnKernel.τ).loc Cert.DhRnnKernel.main_arg1) = m ((c.tc : Thread Cert.DhRnnKernel.nD Cert.DhRnnKernel.τ).loc Cert.DhRnnKernel.main_arg1))
      ∧ r.2.sem = fun _ => 0)

def quiescent_DhRnnKernelIdeal [hDhRnnKernelIdeal : Cert.DhRnnKernelIdeal.Facts] : Prop :=
  ∀ (m : (ℓ : Loc Cert.DhRnnKernelIdeal.nD Cert.DhRnnKernelIdeal.τ Cert.DhRnnKernelIdeal.sig) → Buf (Elt Ideal) ℓ) (g : Dev Cert.DhRnnKernelIdeal.nD → PrngReg), Pre_DhRnnKernelIdeal m →
    θ_run (Cert.DhRnnKernelIdeal.defs (F := Ideal)) (onTc (τ := Cert.DhRnnKernelIdeal.τ) (Cert.DhRnnKernelIdeal.main (F := Ideal))) ⟨m, fun _ => 0, g⟩ (fun r => (∀ c : Dev Cert.DhRnnKernelIdeal.nD,
      r.2.mem ((c.tc : Thread Cert.DhRnnKernelIdeal.nD Cert.DhRnnKernelIdeal.τ).loc Cert.DhRnnKernelIdeal.main_arg0) = m ((c.tc : Thread Cert.DhRnnKernelIdeal.nD Cert.DhRnnKernelIdeal.τ).loc Cert.DhRnnKernelIdeal.main_arg0)
      ∧ r.2.mem ((c.tc : Thread Cert.DhRnnKernelIdeal.nD Cert.DhRnnKernelIdeal.τ).loc Cert.DhRnnKernelIdeal.main_arg1) = m ((c.tc : Thread Cert.DhRnnKernelIdeal.nD Cert.DhRnnKernelIdeal.τ).loc Cert.DhRnnKernelIdeal.main_arg1))
      ∧ r.2.sem = fun _ => 0)

def quiescent_DhRnnReferenceIdeal [hDhRnnReferenceIdeal : Cert.DhRnnReferenceIdeal.Facts] : Prop :=
  ∀ (m : (ℓ : Loc Cert.DhRnnReferenceIdeal.nD Cert.DhRnnReferenceIdeal.τ Cert.DhRnnReferenceIdeal.sig) → Buf (Elt Ideal) ℓ) (g : Dev Cert.DhRnnReferenceIdeal.nD → PrngReg), Pre_DhRnnReferenceIdeal m →
    θ_run (Cert.DhRnnReferenceIdeal.defs (F := Ideal)) (onTc (τ := Cert.DhRnnReferenceIdeal.τ) (Cert.DhRnnReferenceIdeal.main (F := Ideal))) ⟨m, fun _ => 0, g⟩ (fun r => (∀ c : Dev Cert.DhRnnReferenceIdeal.nD,
      r.2.mem ((c.tc : Thread Cert.DhRnnReferenceIdeal.nD Cert.DhRnnReferenceIdeal.τ).loc Cert.DhRnnReferenceIdeal.main_arg0) = m ((c.tc : Thread Cert.DhRnnReferenceIdeal.nD Cert.DhRnnReferenceIdeal.τ).loc Cert.DhRnnReferenceIdeal.main_arg0)
      ∧ r.2.mem ((c.tc : Thread Cert.DhRnnReferenceIdeal.nD Cert.DhRnnReferenceIdeal.τ).loc Cert.DhRnnReferenceIdeal.main_arg1) = m ((c.tc : Thread Cert.DhRnnReferenceIdeal.nD Cert.DhRnnReferenceIdeal.τ).loc Cert.DhRnnReferenceIdeal.main_arg1))
      ∧ r.2.sem = fun _ => 0)

def quiescent_DwBrnnKernel [hDwBrnnKernel : Cert.DwBrnnKernel.Facts] : Prop :=
  ∀ (m : (ℓ : Loc Cert.DwBrnnKernel.nD Cert.DwBrnnKernel.τ Cert.DwBrnnKernel.sig) → Buf (Elt Bits) ℓ) (g : Dev Cert.DwBrnnKernel.nD → PrngReg), Pre_DwBrnnKernel m →
    θ_run (Cert.DwBrnnKernel.defs (F := Bits)) (onTc (τ := Cert.DwBrnnKernel.τ) (Cert.DwBrnnKernel.main (F := Bits))) ⟨m, fun _ => 0, g⟩ (fun r => (∀ c : Dev Cert.DwBrnnKernel.nD,
      r.2.mem ((c.tc : Thread Cert.DwBrnnKernel.nD Cert.DwBrnnKernel.τ).loc Cert.DwBrnnKernel.main_arg0) = m ((c.tc : Thread Cert.DwBrnnKernel.nD Cert.DwBrnnKernel.τ).loc Cert.DwBrnnKernel.main_arg0)
      ∧ r.2.mem ((c.tc : Thread Cert.DwBrnnKernel.nD Cert.DwBrnnKernel.τ).loc Cert.DwBrnnKernel.main_arg1) = m ((c.tc : Thread Cert.DwBrnnKernel.nD Cert.DwBrnnKernel.τ).loc Cert.DwBrnnKernel.main_arg1))
      ∧ r.2.sem = fun _ => 0)

def quiescent_DwBrnnKernelIdeal [hDwBrnnKernelIdeal : Cert.DwBrnnKernelIdeal.Facts] : Prop :=
  ∀ (m : (ℓ : Loc Cert.DwBrnnKernelIdeal.nD Cert.DwBrnnKernelIdeal.τ Cert.DwBrnnKernelIdeal.sig) → Buf (Elt Ideal) ℓ) (g : Dev Cert.DwBrnnKernelIdeal.nD → PrngReg), Pre_DwBrnnKernelIdeal m →
    θ_run (Cert.DwBrnnKernelIdeal.defs (F := Ideal)) (onTc (τ := Cert.DwBrnnKernelIdeal.τ) (Cert.DwBrnnKernelIdeal.main (F := Ideal))) ⟨m, fun _ => 0, g⟩ (fun r => (∀ c : Dev Cert.DwBrnnKernelIdeal.nD,
      r.2.mem ((c.tc : Thread Cert.DwBrnnKernelIdeal.nD Cert.DwBrnnKernelIdeal.τ).loc Cert.DwBrnnKernelIdeal.main_arg0) = m ((c.tc : Thread Cert.DwBrnnKernelIdeal.nD Cert.DwBrnnKernelIdeal.τ).loc Cert.DwBrnnKernelIdeal.main_arg0)
      ∧ r.2.mem ((c.tc : Thread Cert.DwBrnnKernelIdeal.nD Cert.DwBrnnKernelIdeal.τ).loc Cert.DwBrnnKernelIdeal.main_arg1) = m ((c.tc : Thread Cert.DwBrnnKernelIdeal.nD Cert.DwBrnnKernelIdeal.τ).loc Cert.DwBrnnKernelIdeal.main_arg1))
      ∧ r.2.sem = fun _ => 0)

def quiescent_DwBrnnReferenceIdeal [hDwBrnnReferenceIdeal : Cert.DwBrnnReferenceIdeal.Facts] : Prop :=
  ∀ (m : (ℓ : Loc Cert.DwBrnnReferenceIdeal.nD Cert.DwBrnnReferenceIdeal.τ Cert.DwBrnnReferenceIdeal.sig) → Buf (Elt Ideal) ℓ) (g : Dev Cert.DwBrnnReferenceIdeal.nD → PrngReg), Pre_DwBrnnReferenceIdeal m →
    θ_run (Cert.DwBrnnReferenceIdeal.defs (F := Ideal)) (onTc (τ := Cert.DwBrnnReferenceIdeal.τ) (Cert.DwBrnnReferenceIdeal.main (F := Ideal))) ⟨m, fun _ => 0, g⟩ (fun r => (∀ c : Dev Cert.DwBrnnReferenceIdeal.nD,
      r.2.mem ((c.tc : Thread Cert.DwBrnnReferenceIdeal.nD Cert.DwBrnnReferenceIdeal.τ).loc Cert.DwBrnnReferenceIdeal.main_arg0) = m ((c.tc : Thread Cert.DwBrnnReferenceIdeal.nD Cert.DwBrnnReferenceIdeal.τ).loc Cert.DwBrnnReferenceIdeal.main_arg0)
      ∧ r.2.mem ((c.tc : Thread Cert.DwBrnnReferenceIdeal.nD Cert.DwBrnnReferenceIdeal.τ).loc Cert.DwBrnnReferenceIdeal.main_arg1) = m ((c.tc : Thread Cert.DwBrnnReferenceIdeal.nD Cert.DwBrnnReferenceIdeal.τ).loc Cert.DwBrnnReferenceIdeal.main_arg1))
      ∧ r.2.sem = fun _ => 0)

def quiescent_DoAttKernel [hDoAttKernel : Cert.DoAttKernel.Facts] : Prop :=
  ∀ (m : (ℓ : Loc Cert.DoAttKernel.nD Cert.DoAttKernel.τ Cert.DoAttKernel.sig) → Buf (Elt Bits) ℓ) (g : Dev Cert.DoAttKernel.nD → PrngReg), Pre_DoAttKernel m →
    θ_run (Cert.DoAttKernel.defs (F := Bits)) (onTc (τ := Cert.DoAttKernel.τ) (Cert.DoAttKernel.main (F := Bits))) ⟨m, fun _ => 0, g⟩ (fun r => (∀ c : Dev Cert.DoAttKernel.nD,
      r.2.mem ((c.tc : Thread Cert.DoAttKernel.nD Cert.DoAttKernel.τ).loc Cert.DoAttKernel.main_arg0) = m ((c.tc : Thread Cert.DoAttKernel.nD Cert.DoAttKernel.τ).loc Cert.DoAttKernel.main_arg0)
      ∧ r.2.mem ((c.tc : Thread Cert.DoAttKernel.nD Cert.DoAttKernel.τ).loc Cert.DoAttKernel.main_arg1) = m ((c.tc : Thread Cert.DoAttKernel.nD Cert.DoAttKernel.τ).loc Cert.DoAttKernel.main_arg1))
      ∧ r.2.sem = fun _ => 0)

def quiescent_DoAttKernelIdeal [hDoAttKernelIdeal : Cert.DoAttKernelIdeal.Facts] : Prop :=
  ∀ (m : (ℓ : Loc Cert.DoAttKernelIdeal.nD Cert.DoAttKernelIdeal.τ Cert.DoAttKernelIdeal.sig) → Buf (Elt Ideal) ℓ) (g : Dev Cert.DoAttKernelIdeal.nD → PrngReg), Pre_DoAttKernelIdeal m →
    θ_run (Cert.DoAttKernelIdeal.defs (F := Ideal)) (onTc (τ := Cert.DoAttKernelIdeal.τ) (Cert.DoAttKernelIdeal.main (F := Ideal))) ⟨m, fun _ => 0, g⟩ (fun r => (∀ c : Dev Cert.DoAttKernelIdeal.nD,
      r.2.mem ((c.tc : Thread Cert.DoAttKernelIdeal.nD Cert.DoAttKernelIdeal.τ).loc Cert.DoAttKernelIdeal.main_arg0) = m ((c.tc : Thread Cert.DoAttKernelIdeal.nD Cert.DoAttKernelIdeal.τ).loc Cert.DoAttKernelIdeal.main_arg0)
      ∧ r.2.mem ((c.tc : Thread Cert.DoAttKernelIdeal.nD Cert.DoAttKernelIdeal.τ).loc Cert.DoAttKernelIdeal.main_arg1) = m ((c.tc : Thread Cert.DoAttKernelIdeal.nD Cert.DoAttKernelIdeal.τ).loc Cert.DoAttKernelIdeal.main_arg1))
      ∧ r.2.sem = fun _ => 0)

def quiescent_DoAttReferenceIdeal [hDoAttReferenceIdeal : Cert.DoAttReferenceIdeal.Facts] : Prop :=
  ∀ (m : (ℓ : Loc Cert.DoAttReferenceIdeal.nD Cert.DoAttReferenceIdeal.τ Cert.DoAttReferenceIdeal.sig) → Buf (Elt Ideal) ℓ) (g : Dev Cert.DoAttReferenceIdeal.nD → PrngReg), Pre_DoAttReferenceIdeal m →
    θ_run (Cert.DoAttReferenceIdeal.defs (F := Ideal)) (onTc (τ := Cert.DoAttReferenceIdeal.τ) (Cert.DoAttReferenceIdeal.main (F := Ideal))) ⟨m, fun _ => 0, g⟩ (fun r => (∀ c : Dev Cert.DoAttReferenceIdeal.nD,
      r.2.mem ((c.tc : Thread Cert.DoAttReferenceIdeal.nD Cert.DoAttReferenceIdeal.τ).loc Cert.DoAttReferenceIdeal.main_arg0) = m ((c.tc : Thread Cert.DoAttReferenceIdeal.nD Cert.DoAttReferenceIdeal.τ).loc Cert.DoAttReferenceIdeal.main_arg0)
      ∧ r.2.mem ((c.tc : Thread Cert.DoAttReferenceIdeal.nD Cert.DoAttReferenceIdeal.τ).loc Cert.DoAttReferenceIdeal.main_arg1) = m ((c.tc : Thread Cert.DoAttReferenceIdeal.nD Cert.DoAttReferenceIdeal.τ).loc Cert.DoAttReferenceIdeal.main_arg1))
      ∧ r.2.sem = fun _ => 0)

def quiescent_DwBattKernel [hDwBattKernel : Cert.DwBattKernel.Facts] : Prop :=
  ∀ (m : (ℓ : Loc Cert.DwBattKernel.nD Cert.DwBattKernel.τ Cert.DwBattKernel.sig) → Buf (Elt Bits) ℓ) (g : Dev Cert.DwBattKernel.nD → PrngReg), Pre_DwBattKernel m →
    θ_run (Cert.DwBattKernel.defs (F := Bits)) (onTc (τ := Cert.DwBattKernel.τ) (Cert.DwBattKernel.main (F := Bits))) ⟨m, fun _ => 0, g⟩ (fun r => (∀ c : Dev Cert.DwBattKernel.nD,
      r.2.mem ((c.tc : Thread Cert.DwBattKernel.nD Cert.DwBattKernel.τ).loc Cert.DwBattKernel.main_arg0) = m ((c.tc : Thread Cert.DwBattKernel.nD Cert.DwBattKernel.τ).loc Cert.DwBattKernel.main_arg0)
      ∧ r.2.mem ((c.tc : Thread Cert.DwBattKernel.nD Cert.DwBattKernel.τ).loc Cert.DwBattKernel.main_arg1) = m ((c.tc : Thread Cert.DwBattKernel.nD Cert.DwBattKernel.τ).loc Cert.DwBattKernel.main_arg1))
      ∧ r.2.sem = fun _ => 0)

def quiescent_DwBattKernelIdeal [hDwBattKernelIdeal : Cert.DwBattKernelIdeal.Facts] : Prop :=
  ∀ (m : (ℓ : Loc Cert.DwBattKernelIdeal.nD Cert.DwBattKernelIdeal.τ Cert.DwBattKernelIdeal.sig) → Buf (Elt Ideal) ℓ) (g : Dev Cert.DwBattKernelIdeal.nD → PrngReg), Pre_DwBattKernelIdeal m →
    θ_run (Cert.DwBattKernelIdeal.defs (F := Ideal)) (onTc (τ := Cert.DwBattKernelIdeal.τ) (Cert.DwBattKernelIdeal.main (F := Ideal))) ⟨m, fun _ => 0, g⟩ (fun r => (∀ c : Dev Cert.DwBattKernelIdeal.nD,
      r.2.mem ((c.tc : Thread Cert.DwBattKernelIdeal.nD Cert.DwBattKernelIdeal.τ).loc Cert.DwBattKernelIdeal.main_arg0) = m ((c.tc : Thread Cert.DwBattKernelIdeal.nD Cert.DwBattKernelIdeal.τ).loc Cert.DwBattKernelIdeal.main_arg0)
      ∧ r.2.mem ((c.tc : Thread Cert.DwBattKernelIdeal.nD Cert.DwBattKernelIdeal.τ).loc Cert.DwBattKernelIdeal.main_arg1) = m ((c.tc : Thread Cert.DwBattKernelIdeal.nD Cert.DwBattKernelIdeal.τ).loc Cert.DwBattKernelIdeal.main_arg1))
      ∧ r.2.sem = fun _ => 0)

def quiescent_DwBattReferenceIdeal [hDwBattReferenceIdeal : Cert.DwBattReferenceIdeal.Facts] : Prop :=
  ∀ (m : (ℓ : Loc Cert.DwBattReferenceIdeal.nD Cert.DwBattReferenceIdeal.τ Cert.DwBattReferenceIdeal.sig) → Buf (Elt Ideal) ℓ) (g : Dev Cert.DwBattReferenceIdeal.nD → PrngReg), Pre_DwBattReferenceIdeal m →
    θ_run (Cert.DwBattReferenceIdeal.defs (F := Ideal)) (onTc (τ := Cert.DwBattReferenceIdeal.τ) (Cert.DwBattReferenceIdeal.main (F := Ideal))) ⟨m, fun _ => 0, g⟩ (fun r => (∀ c : Dev Cert.DwBattReferenceIdeal.nD,
      r.2.mem ((c.tc : Thread Cert.DwBattReferenceIdeal.nD Cert.DwBattReferenceIdeal.τ).loc Cert.DwBattReferenceIdeal.main_arg0) = m ((c.tc : Thread Cert.DwBattReferenceIdeal.nD Cert.DwBattReferenceIdeal.τ).loc Cert.DwBattReferenceIdeal.main_arg0)
      ∧ r.2.mem ((c.tc : Thread Cert.DwBattReferenceIdeal.nD Cert.DwBattReferenceIdeal.τ).loc Cert.DwBattReferenceIdeal.main_arg1) = m ((c.tc : Thread Cert.DwBattReferenceIdeal.nD Cert.DwBattReferenceIdeal.τ).loc Cert.DwBattReferenceIdeal.main_arg1))
      ∧ r.2.sem = fun _ => 0)

def quiescent_DwInAKernel [hDwInAKernel : Cert.DwInAKernel.Facts] : Prop :=
  ∀ (m : (ℓ : Loc Cert.DwInAKernel.nD Cert.DwInAKernel.τ Cert.DwInAKernel.sig) → Buf (Elt Bits) ℓ) (g : Dev Cert.DwInAKernel.nD → PrngReg), Pre_DwInAKernel m →
    θ_run (Cert.DwInAKernel.defs (F := Bits)) (onTc (τ := Cert.DwInAKernel.τ) (Cert.DwInAKernel.main (F := Bits))) ⟨m, fun _ => 0, g⟩ (fun r => (∀ c : Dev Cert.DwInAKernel.nD,
      r.2.mem ((c.tc : Thread Cert.DwInAKernel.nD Cert.DwInAKernel.τ).loc Cert.DwInAKernel.main_arg0) = m ((c.tc : Thread Cert.DwInAKernel.nD Cert.DwInAKernel.τ).loc Cert.DwInAKernel.main_arg0)
      ∧ r.2.mem ((c.tc : Thread Cert.DwInAKernel.nD Cert.DwInAKernel.τ).loc Cert.DwInAKernel.main_arg1) = m ((c.tc : Thread Cert.DwInAKernel.nD Cert.DwInAKernel.τ).loc Cert.DwInAKernel.main_arg1))
      ∧ r.2.sem = fun _ => 0)

def quiescent_DwInAKernelIdeal [hDwInAKernelIdeal : Cert.DwInAKernelIdeal.Facts] : Prop :=
  ∀ (m : (ℓ : Loc Cert.DwInAKernelIdeal.nD Cert.DwInAKernelIdeal.τ Cert.DwInAKernelIdeal.sig) → Buf (Elt Ideal) ℓ) (g : Dev Cert.DwInAKernelIdeal.nD → PrngReg), Pre_DwInAKernelIdeal m →
    θ_run (Cert.DwInAKernelIdeal.defs (F := Ideal)) (onTc (τ := Cert.DwInAKernelIdeal.τ) (Cert.DwInAKernelIdeal.main (F := Ideal))) ⟨m, fun _ => 0, g⟩ (fun r => (∀ c : Dev Cert.DwInAKernelIdeal.nD,
      r.2.mem ((c.tc : Thread Cert.DwInAKernelIdeal.nD Cert.DwInAKernelIdeal.τ).loc Cert.DwInAKernelIdeal.main_arg0) = m ((c.tc : Thread Cert.DwInAKernelIdeal.nD Cert.DwInAKernelIdeal.τ).loc Cert.DwInAKernelIdeal.main_arg0)
      ∧ r.2.mem ((c.tc : Thread Cert.DwInAKernelIdeal.nD Cert.DwInAKernelIdeal.τ).loc Cert.DwInAKernelIdeal.main_arg1) = m ((c.tc : Thread Cert.DwInAKernelIdeal.nD Cert.DwInAKernelIdeal.τ).loc Cert.DwInAKernelIdeal.main_arg1))
      ∧ r.2.sem = fun _ => 0)

def quiescent_DwInAReferenceIdeal [hDwInAReferenceIdeal : Cert.DwInAReferenceIdeal.Facts] : Prop :=
  ∀ (m : (ℓ : Loc Cert.DwInAReferenceIdeal.nD Cert.DwInAReferenceIdeal.τ Cert.DwInAReferenceIdeal.sig) → Buf (Elt Ideal) ℓ) (g : Dev Cert.DwInAReferenceIdeal.nD → PrngReg), Pre_DwInAReferenceIdeal m →
    θ_run (Cert.DwInAReferenceIdeal.defs (F := Ideal)) (onTc (τ := Cert.DwInAReferenceIdeal.τ) (Cert.DwInAReferenceIdeal.main (F := Ideal))) ⟨m, fun _ => 0, g⟩ (fun r => (∀ c : Dev Cert.DwInAReferenceIdeal.nD,
      r.2.mem ((c.tc : Thread Cert.DwInAReferenceIdeal.nD Cert.DwInAReferenceIdeal.τ).loc Cert.DwInAReferenceIdeal.main_arg0) = m ((c.tc : Thread Cert.DwInAReferenceIdeal.nD Cert.DwInAReferenceIdeal.τ).loc Cert.DwInAReferenceIdeal.main_arg0)
      ∧ r.2.mem ((c.tc : Thread Cert.DwInAReferenceIdeal.nD Cert.DwInAReferenceIdeal.τ).loc Cert.DwInAReferenceIdeal.main_arg1) = m ((c.tc : Thread Cert.DwInAReferenceIdeal.nD Cert.DwInAReferenceIdeal.τ).loc Cert.DwInAReferenceIdeal.main_arg1))
      ∧ r.2.sem = fun _ => 0)

def quiescent_DwInRKernel [hDwInRKernel : Cert.DwInRKernel.Facts] : Prop :=
  ∀ (m : (ℓ : Loc Cert.DwInRKernel.nD Cert.DwInRKernel.τ Cert.DwInRKernel.sig) → Buf (Elt Bits) ℓ) (g : Dev Cert.DwInRKernel.nD → PrngReg), Pre_DwInRKernel m →
    θ_run (Cert.DwInRKernel.defs (F := Bits)) (onTc (τ := Cert.DwInRKernel.τ) (Cert.DwInRKernel.main (F := Bits))) ⟨m, fun _ => 0, g⟩ (fun r => (∀ c : Dev Cert.DwInRKernel.nD,
      r.2.mem ((c.tc : Thread Cert.DwInRKernel.nD Cert.DwInRKernel.τ).loc Cert.DwInRKernel.main_arg0) = m ((c.tc : Thread Cert.DwInRKernel.nD Cert.DwInRKernel.τ).loc Cert.DwInRKernel.main_arg0)
      ∧ r.2.mem ((c.tc : Thread Cert.DwInRKernel.nD Cert.DwInRKernel.τ).loc Cert.DwInRKernel.main_arg1) = m ((c.tc : Thread Cert.DwInRKernel.nD Cert.DwInRKernel.τ).loc Cert.DwInRKernel.main_arg1))
      ∧ r.2.sem = fun _ => 0)

def quiescent_DwInRKernelIdeal [hDwInRKernelIdeal : Cert.DwInRKernelIdeal.Facts] : Prop :=
  ∀ (m : (ℓ : Loc Cert.DwInRKernelIdeal.nD Cert.DwInRKernelIdeal.τ Cert.DwInRKernelIdeal.sig) → Buf (Elt Ideal) ℓ) (g : Dev Cert.DwInRKernelIdeal.nD → PrngReg), Pre_DwInRKernelIdeal m →
    θ_run (Cert.DwInRKernelIdeal.defs (F := Ideal)) (onTc (τ := Cert.DwInRKernelIdeal.τ) (Cert.DwInRKernelIdeal.main (F := Ideal))) ⟨m, fun _ => 0, g⟩ (fun r => (∀ c : Dev Cert.DwInRKernelIdeal.nD,
      r.2.mem ((c.tc : Thread Cert.DwInRKernelIdeal.nD Cert.DwInRKernelIdeal.τ).loc Cert.DwInRKernelIdeal.main_arg0) = m ((c.tc : Thread Cert.DwInRKernelIdeal.nD Cert.DwInRKernelIdeal.τ).loc Cert.DwInRKernelIdeal.main_arg0)
      ∧ r.2.mem ((c.tc : Thread Cert.DwInRKernelIdeal.nD Cert.DwInRKernelIdeal.τ).loc Cert.DwInRKernelIdeal.main_arg1) = m ((c.tc : Thread Cert.DwInRKernelIdeal.nD Cert.DwInRKernelIdeal.τ).loc Cert.DwInRKernelIdeal.main_arg1))
      ∧ r.2.sem = fun _ => 0)

def quiescent_DwInRReferenceIdeal [hDwInRReferenceIdeal : Cert.DwInRReferenceIdeal.Facts] : Prop :=
  ∀ (m : (ℓ : Loc Cert.DwInRReferenceIdeal.nD Cert.DwInRReferenceIdeal.τ Cert.DwInRReferenceIdeal.sig) → Buf (Elt Ideal) ℓ) (g : Dev Cert.DwInRReferenceIdeal.nD → PrngReg), Pre_DwInRReferenceIdeal m →
    θ_run (Cert.DwInRReferenceIdeal.defs (F := Ideal)) (onTc (τ := Cert.DwInRReferenceIdeal.τ) (Cert.DwInRReferenceIdeal.main (F := Ideal))) ⟨m, fun _ => 0, g⟩ (fun r => (∀ c : Dev Cert.DwInRReferenceIdeal.nD,
      r.2.mem ((c.tc : Thread Cert.DwInRReferenceIdeal.nD Cert.DwInRReferenceIdeal.τ).loc Cert.DwInRReferenceIdeal.main_arg0) = m ((c.tc : Thread Cert.DwInRReferenceIdeal.nD Cert.DwInRReferenceIdeal.τ).loc Cert.DwInRReferenceIdeal.main_arg0)
      ∧ r.2.mem ((c.tc : Thread Cert.DwInRReferenceIdeal.nD Cert.DwInRReferenceIdeal.τ).loc Cert.DwInRReferenceIdeal.main_arg1) = m ((c.tc : Thread Cert.DwInRReferenceIdeal.nD Cert.DwInRReferenceIdeal.τ).loc Cert.DwInRReferenceIdeal.main_arg1))
      ∧ r.2.sem = fun _ => 0)

def quiescent_DwInGKernel [hDwInGKernel : Cert.DwInGKernel.Facts] : Prop :=
  ∀ (m : (ℓ : Loc Cert.DwInGKernel.nD Cert.DwInGKernel.τ Cert.DwInGKernel.sig) → Buf (Elt Bits) ℓ) (g : Dev Cert.DwInGKernel.nD → PrngReg), Pre_DwInGKernel m →
    θ_run (Cert.DwInGKernel.defs (F := Bits)) (onTc (τ := Cert.DwInGKernel.τ) (Cert.DwInGKernel.main (F := Bits))) ⟨m, fun _ => 0, g⟩ (fun r => (∀ c : Dev Cert.DwInGKernel.nD,
      r.2.mem ((c.tc : Thread Cert.DwInGKernel.nD Cert.DwInGKernel.τ).loc Cert.DwInGKernel.main_arg0) = m ((c.tc : Thread Cert.DwInGKernel.nD Cert.DwInGKernel.τ).loc Cert.DwInGKernel.main_arg0)
      ∧ r.2.mem ((c.tc : Thread Cert.DwInGKernel.nD Cert.DwInGKernel.τ).loc Cert.DwInGKernel.main_arg1) = m ((c.tc : Thread Cert.DwInGKernel.nD Cert.DwInGKernel.τ).loc Cert.DwInGKernel.main_arg1))
      ∧ r.2.sem = fun _ => 0)

def quiescent_DwInGKernelIdeal [hDwInGKernelIdeal : Cert.DwInGKernelIdeal.Facts] : Prop :=
  ∀ (m : (ℓ : Loc Cert.DwInGKernelIdeal.nD Cert.DwInGKernelIdeal.τ Cert.DwInGKernelIdeal.sig) → Buf (Elt Ideal) ℓ) (g : Dev Cert.DwInGKernelIdeal.nD → PrngReg), Pre_DwInGKernelIdeal m →
    θ_run (Cert.DwInGKernelIdeal.defs (F := Ideal)) (onTc (τ := Cert.DwInGKernelIdeal.τ) (Cert.DwInGKernelIdeal.main (F := Ideal))) ⟨m, fun _ => 0, g⟩ (fun r => (∀ c : Dev Cert.DwInGKernelIdeal.nD,
      r.2.mem ((c.tc : Thread Cert.DwInGKernelIdeal.nD Cert.DwInGKernelIdeal.τ).loc Cert.DwInGKernelIdeal.main_arg0) = m ((c.tc : Thread Cert.DwInGKernelIdeal.nD Cert.DwInGKernelIdeal.τ).loc Cert.DwInGKernelIdeal.main_arg0)
      ∧ r.2.mem ((c.tc : Thread Cert.DwInGKernelIdeal.nD Cert.DwInGKernelIdeal.τ).loc Cert.DwInGKernelIdeal.main_arg1) = m ((c.tc : Thread Cert.DwInGKernelIdeal.nD Cert.DwInGKernelIdeal.τ).loc Cert.DwInGKernelIdeal.main_arg1))
      ∧ r.2.sem = fun _ => 0)

def quiescent_DwInGReferenceIdeal [hDwInGReferenceIdeal : Cert.DwInGReferenceIdeal.Facts] : Prop :=
  ∀ (m : (ℓ : Loc Cert.DwInGReferenceIdeal.nD Cert.DwInGReferenceIdeal.τ Cert.DwInGReferenceIdeal.sig) → Buf (Elt Ideal) ℓ) (g : Dev Cert.DwInGReferenceIdeal.nD → PrngReg), Pre_DwInGReferenceIdeal m →
    θ_run (Cert.DwInGReferenceIdeal.defs (F := Ideal)) (onTc (τ := Cert.DwInGReferenceIdeal.τ) (Cert.DwInGReferenceIdeal.main (F := Ideal))) ⟨m, fun _ => 0, g⟩ (fun r => (∀ c : Dev Cert.DwInGReferenceIdeal.nD,
      r.2.mem ((c.tc : Thread Cert.DwInGReferenceIdeal.nD Cert.DwInGReferenceIdeal.τ).loc Cert.DwInGReferenceIdeal.main_arg0) = m ((c.tc : Thread Cert.DwInGReferenceIdeal.nD Cert.DwInGReferenceIdeal.τ).loc Cert.DwInGReferenceIdeal.main_arg0)
      ∧ r.2.mem ((c.tc : Thread Cert.DwInGReferenceIdeal.nD Cert.DwInGReferenceIdeal.τ).loc Cert.DwInGReferenceIdeal.main_arg1) = m ((c.tc : Thread Cert.DwInGReferenceIdeal.nD Cert.DwInGReferenceIdeal.τ).loc Cert.DwInGReferenceIdeal.main_arg1))
      ∧ r.2.sem = fun _ => 0)

def quiescent_DhMixKernel [hDhMixKernel : Cert.DhMixKernel.Facts] : Prop :=
  ∀ (m : (ℓ : Loc Cert.DhMixKernel.nD Cert.DhMixKernel.τ Cert.DhMixKernel.sig) → Buf (Elt Bits) ℓ) (g : Dev Cert.DhMixKernel.nD → PrngReg), Pre_DhMixKernel m →
    θ_run (Cert.DhMixKernel.defs (F := Bits)) (onTc (τ := Cert.DhMixKernel.τ) (Cert.DhMixKernel.main (F := Bits))) ⟨m, fun _ => 0, g⟩ (fun r => (∀ c : Dev Cert.DhMixKernel.nD,
      r.2.mem ((c.tc : Thread Cert.DhMixKernel.nD Cert.DhMixKernel.τ).loc Cert.DhMixKernel.main_arg0) = m ((c.tc : Thread Cert.DhMixKernel.nD Cert.DhMixKernel.τ).loc Cert.DhMixKernel.main_arg0)
      ∧ r.2.mem ((c.tc : Thread Cert.DhMixKernel.nD Cert.DhMixKernel.τ).loc Cert.DhMixKernel.main_arg1) = m ((c.tc : Thread Cert.DhMixKernel.nD Cert.DhMixKernel.τ).loc Cert.DhMixKernel.main_arg1)
      ∧ r.2.mem ((c.tc : Thread Cert.DhMixKernel.nD Cert.DhMixKernel.τ).loc Cert.DhMixKernel.main_arg2) = m ((c.tc : Thread Cert.DhMixKernel.nD Cert.DhMixKernel.τ).loc Cert.DhMixKernel.main_arg2)
      ∧ r.2.mem ((c.tc : Thread Cert.DhMixKernel.nD Cert.DhMixKernel.τ).loc Cert.DhMixKernel.main_arg3) = m ((c.tc : Thread Cert.DhMixKernel.nD Cert.DhMixKernel.τ).loc Cert.DhMixKernel.main_arg3)
      ∧ r.2.mem ((c.tc : Thread Cert.DhMixKernel.nD Cert.DhMixKernel.τ).loc Cert.DhMixKernel.main_arg4) = m ((c.tc : Thread Cert.DhMixKernel.nD Cert.DhMixKernel.τ).loc Cert.DhMixKernel.main_arg4)
      ∧ r.2.mem ((c.tc : Thread Cert.DhMixKernel.nD Cert.DhMixKernel.τ).loc Cert.DhMixKernel.main_arg5) = m ((c.tc : Thread Cert.DhMixKernel.nD Cert.DhMixKernel.τ).loc Cert.DhMixKernel.main_arg5))
      ∧ r.2.sem = fun _ => 0)

def quiescent_DhMixKernelIdeal [hDhMixKernelIdeal : Cert.DhMixKernelIdeal.Facts] : Prop :=
  ∀ (m : (ℓ : Loc Cert.DhMixKernelIdeal.nD Cert.DhMixKernelIdeal.τ Cert.DhMixKernelIdeal.sig) → Buf (Elt Ideal) ℓ) (g : Dev Cert.DhMixKernelIdeal.nD → PrngReg), Pre_DhMixKernelIdeal m →
    θ_run (Cert.DhMixKernelIdeal.defs (F := Ideal)) (onTc (τ := Cert.DhMixKernelIdeal.τ) (Cert.DhMixKernelIdeal.main (F := Ideal))) ⟨m, fun _ => 0, g⟩ (fun r => (∀ c : Dev Cert.DhMixKernelIdeal.nD,
      r.2.mem ((c.tc : Thread Cert.DhMixKernelIdeal.nD Cert.DhMixKernelIdeal.τ).loc Cert.DhMixKernelIdeal.main_arg0) = m ((c.tc : Thread Cert.DhMixKernelIdeal.nD Cert.DhMixKernelIdeal.τ).loc Cert.DhMixKernelIdeal.main_arg0)
      ∧ r.2.mem ((c.tc : Thread Cert.DhMixKernelIdeal.nD Cert.DhMixKernelIdeal.τ).loc Cert.DhMixKernelIdeal.main_arg1) = m ((c.tc : Thread Cert.DhMixKernelIdeal.nD Cert.DhMixKernelIdeal.τ).loc Cert.DhMixKernelIdeal.main_arg1)
      ∧ r.2.mem ((c.tc : Thread Cert.DhMixKernelIdeal.nD Cert.DhMixKernelIdeal.τ).loc Cert.DhMixKernelIdeal.main_arg2) = m ((c.tc : Thread Cert.DhMixKernelIdeal.nD Cert.DhMixKernelIdeal.τ).loc Cert.DhMixKernelIdeal.main_arg2)
      ∧ r.2.mem ((c.tc : Thread Cert.DhMixKernelIdeal.nD Cert.DhMixKernelIdeal.τ).loc Cert.DhMixKernelIdeal.main_arg3) = m ((c.tc : Thread Cert.DhMixKernelIdeal.nD Cert.DhMixKernelIdeal.τ).loc Cert.DhMixKernelIdeal.main_arg3)
      ∧ r.2.mem ((c.tc : Thread Cert.DhMixKernelIdeal.nD Cert.DhMixKernelIdeal.τ).loc Cert.DhMixKernelIdeal.main_arg4) = m ((c.tc : Thread Cert.DhMixKernelIdeal.nD Cert.DhMixKernelIdeal.τ).loc Cert.DhMixKernelIdeal.main_arg4)
      ∧ r.2.mem ((c.tc : Thread Cert.DhMixKernelIdeal.nD Cert.DhMixKernelIdeal.τ).loc Cert.DhMixKernelIdeal.main_arg5) = m ((c.tc : Thread Cert.DhMixKernelIdeal.nD Cert.DhMixKernelIdeal.τ).loc Cert.DhMixKernelIdeal.main_arg5))
      ∧ r.2.sem = fun _ => 0)

def quiescent_DhMixReferenceIdeal [hDhMixReferenceIdeal : Cert.DhMixReferenceIdeal.Facts] : Prop :=
  ∀ (m : (ℓ : Loc Cert.DhMixReferenceIdeal.nD Cert.DhMixReferenceIdeal.τ Cert.DhMixReferenceIdeal.sig) → Buf (Elt Ideal) ℓ) (g : Dev Cert.DhMixReferenceIdeal.nD → PrngReg), Pre_DhMixReferenceIdeal m →
    θ_run (Cert.DhMixReferenceIdeal.defs (F := Ideal)) (onTc (τ := Cert.DhMixReferenceIdeal.τ) (Cert.DhMixReferenceIdeal.main (F := Ideal))) ⟨m, fun _ => 0, g⟩ (fun r => (∀ c : Dev Cert.DhMixReferenceIdeal.nD,
      r.2.mem ((c.tc : Thread Cert.DhMixReferenceIdeal.nD Cert.DhMixReferenceIdeal.τ).loc Cert.DhMixReferenceIdeal.main_arg0) = m ((c.tc : Thread Cert.DhMixReferenceIdeal.nD Cert.DhMixReferenceIdeal.τ).loc Cert.DhMixReferenceIdeal.main_arg0)
      ∧ r.2.mem ((c.tc : Thread Cert.DhMixReferenceIdeal.nD Cert.DhMixReferenceIdeal.τ).loc Cert.DhMixReferenceIdeal.main_arg1) = m ((c.tc : Thread Cert.DhMixReferenceIdeal.nD Cert.DhMixReferenceIdeal.τ).loc Cert.DhMixReferenceIdeal.main_arg1)
      ∧ r.2.mem ((c.tc : Thread Cert.DhMixReferenceIdeal.nD Cert.DhMixReferenceIdeal.τ).loc Cert.DhMixReferenceIdeal.main_arg2) = m ((c.tc : Thread Cert.DhMixReferenceIdeal.nD Cert.DhMixReferenceIdeal.τ).loc Cert.DhMixReferenceIdeal.main_arg2)
      ∧ r.2.mem ((c.tc : Thread Cert.DhMixReferenceIdeal.nD Cert.DhMixReferenceIdeal.τ).loc Cert.DhMixReferenceIdeal.main_arg3) = m ((c.tc : Thread Cert.DhMixReferenceIdeal.nD Cert.DhMixReferenceIdeal.τ).loc Cert.DhMixReferenceIdeal.main_arg3)
      ∧ r.2.mem ((c.tc : Thread Cert.DhMixReferenceIdeal.nD Cert.DhMixReferenceIdeal.τ).loc Cert.DhMixReferenceIdeal.main_arg4) = m ((c.tc : Thread Cert.DhMixReferenceIdeal.nD Cert.DhMixReferenceIdeal.τ).loc Cert.DhMixReferenceIdeal.main_arg4)
      ∧ r.2.mem ((c.tc : Thread Cert.DhMixReferenceIdeal.nD Cert.DhMixReferenceIdeal.τ).loc Cert.DhMixReferenceIdeal.main_arg5) = m ((c.tc : Thread Cert.DhMixReferenceIdeal.nD Cert.DhMixReferenceIdeal.τ).loc Cert.DhMixReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_PrKernel [hPrKernel : Cert.PrKernel.Facts] : Prop :=
  ∀ (m : (ℓ : Loc Cert.PrKernel.nD Cert.PrKernel.τ Cert.PrKernel.sig) → Buf (Elt Bits) ℓ) (g : Dev Cert.PrKernel.nD → PrngReg), Pre_PrKernel m →
    θ_run (Cert.PrKernel.defs (F := Bits)) (onTc (τ := Cert.PrKernel.τ) (Cert.PrKernel.main (F := Bits))) ⟨m, fun _ => 0, g⟩ (fun r => (∀ c : Dev Cert.PrKernel.nD,
      r.2.mem ((c.tc : Thread Cert.PrKernel.nD Cert.PrKernel.τ).loc Cert.PrKernel.main_arg0) = m ((c.tc : Thread Cert.PrKernel.nD Cert.PrKernel.τ).loc Cert.PrKernel.main_arg0)
      ∧ r.2.mem ((c.tc : Thread Cert.PrKernel.nD Cert.PrKernel.τ).loc Cert.PrKernel.main_arg1) = m ((c.tc : Thread Cert.PrKernel.nD Cert.PrKernel.τ).loc Cert.PrKernel.main_arg1))
      ∧ r.2.sem = fun _ => 0)

def quiescent_PrKernelIdeal [hPrKernelIdeal : Cert.PrKernelIdeal.Facts] : Prop :=
  ∀ (m : (ℓ : Loc Cert.PrKernelIdeal.nD Cert.PrKernelIdeal.τ Cert.PrKernelIdeal.sig) → Buf (Elt Ideal) ℓ) (g : Dev Cert.PrKernelIdeal.nD → PrngReg), Pre_PrKernelIdeal m →
    θ_run (Cert.PrKernelIdeal.defs (F := Ideal)) (onTc (τ := Cert.PrKernelIdeal.τ) (Cert.PrKernelIdeal.main (F := Ideal))) ⟨m, fun _ => 0, g⟩ (fun r => (∀ c : Dev Cert.PrKernelIdeal.nD,
      r.2.mem ((c.tc : Thread Cert.PrKernelIdeal.nD Cert.PrKernelIdeal.τ).loc Cert.PrKernelIdeal.main_arg0) = m ((c.tc : Thread Cert.PrKernelIdeal.nD Cert.PrKernelIdeal.τ).loc Cert.PrKernelIdeal.main_arg0)
      ∧ r.2.mem ((c.tc : Thread Cert.PrKernelIdeal.nD Cert.PrKernelIdeal.τ).loc Cert.PrKernelIdeal.main_arg1) = m ((c.tc : Thread Cert.PrKernelIdeal.nD Cert.PrKernelIdeal.τ).loc Cert.PrKernelIdeal.main_arg1))
      ∧ r.2.sem = fun _ => 0)

def quiescent_PrReferenceIdeal [hPrReferenceIdeal : Cert.PrReferenceIdeal.Facts] : Prop :=
  ∀ (m : (ℓ : Loc Cert.PrReferenceIdeal.nD Cert.PrReferenceIdeal.τ Cert.PrReferenceIdeal.sig) → Buf (Elt Ideal) ℓ) (g : Dev Cert.PrReferenceIdeal.nD → PrngReg), Pre_PrReferenceIdeal m →
    θ_run (Cert.PrReferenceIdeal.defs (F := Ideal)) (onTc (τ := Cert.PrReferenceIdeal.τ) (Cert.PrReferenceIdeal.main (F := Ideal))) ⟨m, fun _ => 0, g⟩ (fun r => (∀ c : Dev Cert.PrReferenceIdeal.nD,
      r.2.mem ((c.tc : Thread Cert.PrReferenceIdeal.nD Cert.PrReferenceIdeal.τ).loc Cert.PrReferenceIdeal.main_arg0) = m ((c.tc : Thread Cert.PrReferenceIdeal.nD Cert.PrReferenceIdeal.τ).loc Cert.PrReferenceIdeal.main_arg0)
      ∧ r.2.mem ((c.tc : Thread Cert.PrReferenceIdeal.nD Cert.PrReferenceIdeal.τ).loc Cert.PrReferenceIdeal.main_arg1) = m ((c.tc : Thread Cert.PrReferenceIdeal.nD Cert.PrReferenceIdeal.τ).loc Cert.PrReferenceIdeal.main_arg1))
      ∧ r.2.sem = fun _ => 0)

def quiescent_PaKernel [hPaKernel : Cert.PaKernel.Facts] : Prop :=
  ∀ (m : (ℓ : Loc Cert.PaKernel.nD Cert.PaKernel.τ Cert.PaKernel.sig) → Buf (Elt Bits) ℓ) (g : Dev Cert.PaKernel.nD → PrngReg), Pre_PaKernel m →
    θ_run (Cert.PaKernel.defs (F := Bits)) (onTc (τ := Cert.PaKernel.τ) (Cert.PaKernel.main (F := Bits))) ⟨m, fun _ => 0, g⟩ (fun r => (∀ c : Dev Cert.PaKernel.nD,
      r.2.mem ((c.tc : Thread Cert.PaKernel.nD Cert.PaKernel.τ).loc Cert.PaKernel.main_arg0) = m ((c.tc : Thread Cert.PaKernel.nD Cert.PaKernel.τ).loc Cert.PaKernel.main_arg0)
      ∧ r.2.mem ((c.tc : Thread Cert.PaKernel.nD Cert.PaKernel.τ).loc Cert.PaKernel.main_arg1) = m ((c.tc : Thread Cert.PaKernel.nD Cert.PaKernel.τ).loc Cert.PaKernel.main_arg1))
      ∧ r.2.sem = fun _ => 0)

def quiescent_PaKernelIdeal [hPaKernelIdeal : Cert.PaKernelIdeal.Facts] : Prop :=
  ∀ (m : (ℓ : Loc Cert.PaKernelIdeal.nD Cert.PaKernelIdeal.τ Cert.PaKernelIdeal.sig) → Buf (Elt Ideal) ℓ) (g : Dev Cert.PaKernelIdeal.nD → PrngReg), Pre_PaKernelIdeal m →
    θ_run (Cert.PaKernelIdeal.defs (F := Ideal)) (onTc (τ := Cert.PaKernelIdeal.τ) (Cert.PaKernelIdeal.main (F := Ideal))) ⟨m, fun _ => 0, g⟩ (fun r => (∀ c : Dev Cert.PaKernelIdeal.nD,
      r.2.mem ((c.tc : Thread Cert.PaKernelIdeal.nD Cert.PaKernelIdeal.τ).loc Cert.PaKernelIdeal.main_arg0) = m ((c.tc : Thread Cert.PaKernelIdeal.nD Cert.PaKernelIdeal.τ).loc Cert.PaKernelIdeal.main_arg0)
      ∧ r.2.mem ((c.tc : Thread Cert.PaKernelIdeal.nD Cert.PaKernelIdeal.τ).loc Cert.PaKernelIdeal.main_arg1) = m ((c.tc : Thread Cert.PaKernelIdeal.nD Cert.PaKernelIdeal.τ).loc Cert.PaKernelIdeal.main_arg1))
      ∧ r.2.sem = fun _ => 0)

def quiescent_PaReferenceIdeal [hPaReferenceIdeal : Cert.PaReferenceIdeal.Facts] : Prop :=
  ∀ (m : (ℓ : Loc Cert.PaReferenceIdeal.nD Cert.PaReferenceIdeal.τ Cert.PaReferenceIdeal.sig) → Buf (Elt Ideal) ℓ) (g : Dev Cert.PaReferenceIdeal.nD → PrngReg), Pre_PaReferenceIdeal m →
    θ_run (Cert.PaReferenceIdeal.defs (F := Ideal)) (onTc (τ := Cert.PaReferenceIdeal.τ) (Cert.PaReferenceIdeal.main (F := Ideal))) ⟨m, fun _ => 0, g⟩ (fun r => (∀ c : Dev Cert.PaReferenceIdeal.nD,
      r.2.mem ((c.tc : Thread Cert.PaReferenceIdeal.nD Cert.PaReferenceIdeal.τ).loc Cert.PaReferenceIdeal.main_arg0) = m ((c.tc : Thread Cert.PaReferenceIdeal.nD Cert.PaReferenceIdeal.τ).loc Cert.PaReferenceIdeal.main_arg0)
      ∧ r.2.mem ((c.tc : Thread Cert.PaReferenceIdeal.nD Cert.PaReferenceIdeal.τ).loc Cert.PaReferenceIdeal.main_arg1) = m ((c.tc : Thread Cert.PaReferenceIdeal.nD Cert.PaReferenceIdeal.τ).loc Cert.PaReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_InBwdKernel [hInBwdKernel : Cert.InBwdKernel.Facts] : Prop :=
  ∀ (m : (ℓ : Loc Cert.InBwdKernel.nD Cert.InBwdKernel.τ Cert.InBwdKernel.sig) → Buf (Elt Bits) ℓ) (g : Dev Cert.InBwdKernel.nD → PrngReg), Pre_InBwdKernel m →
    θ_run (Cert.InBwdKernel.defs (F := Bits)) (onTc (τ := Cert.InBwdKernel.τ) (Cert.InBwdKernel.main (F := Bits))) ⟨m, fun _ => 0, g⟩ (fun r => (∀ c : Dev Cert.InBwdKernel.nD,
      r.2.mem ((c.tc : Thread Cert.InBwdKernel.nD Cert.InBwdKernel.τ).loc Cert.InBwdKernel.main_arg0) = m ((c.tc : Thread Cert.InBwdKernel.nD Cert.InBwdKernel.τ).loc Cert.InBwdKernel.main_arg0)
      ∧ r.2.mem ((c.tc : Thread Cert.InBwdKernel.nD Cert.InBwdKernel.τ).loc Cert.InBwdKernel.main_arg1) = m ((c.tc : Thread Cert.InBwdKernel.nD Cert.InBwdKernel.τ).loc Cert.InBwdKernel.main_arg1)
      ∧ r.2.mem ((c.tc : Thread Cert.InBwdKernel.nD Cert.InBwdKernel.τ).loc Cert.InBwdKernel.main_arg2) = m ((c.tc : Thread Cert.InBwdKernel.nD Cert.InBwdKernel.τ).loc Cert.InBwdKernel.main_arg2)
      ∧ r.2.mem ((c.tc : Thread Cert.InBwdKernel.nD Cert.InBwdKernel.τ).loc Cert.InBwdKernel.main_arg3) = m ((c.tc : Thread Cert.InBwdKernel.nD Cert.InBwdKernel.τ).loc Cert.InBwdKernel.main_arg3))
      ∧ r.2.sem = fun _ => 0)

def quiescent_InBwdKernelIdeal [hInBwdKernelIdeal : Cert.InBwdKernelIdeal.Facts] : Prop :=
  ∀ (m : (ℓ : Loc Cert.InBwdKernelIdeal.nD Cert.InBwdKernelIdeal.τ Cert.InBwdKernelIdeal.sig) → Buf (Elt Ideal) ℓ) (g : Dev Cert.InBwdKernelIdeal.nD → PrngReg), Pre_InBwdKernelIdeal m →
    θ_run (Cert.InBwdKernelIdeal.defs (F := Ideal)) (onTc (τ := Cert.InBwdKernelIdeal.τ) (Cert.InBwdKernelIdeal.main (F := Ideal))) ⟨m, fun _ => 0, g⟩ (fun r => (∀ c : Dev Cert.InBwdKernelIdeal.nD,
      r.2.mem ((c.tc : Thread Cert.InBwdKernelIdeal.nD Cert.InBwdKernelIdeal.τ).loc Cert.InBwdKernelIdeal.main_arg0) = m ((c.tc : Thread Cert.InBwdKernelIdeal.nD Cert.InBwdKernelIdeal.τ).loc Cert.InBwdKernelIdeal.main_arg0)
      ∧ r.2.mem ((c.tc : Thread Cert.InBwdKernelIdeal.nD Cert.InBwdKernelIdeal.τ).loc Cert.InBwdKernelIdeal.main_arg1) = m ((c.tc : Thread Cert.InBwdKernelIdeal.nD Cert.InBwdKernelIdeal.τ).loc Cert.InBwdKernelIdeal.main_arg1)
      ∧ r.2.mem ((c.tc : Thread Cert.InBwdKernelIdeal.nD Cert.InBwdKernelIdeal.τ).loc Cert.InBwdKernelIdeal.main_arg2) = m ((c.tc : Thread Cert.InBwdKernelIdeal.nD Cert.InBwdKernelIdeal.τ).loc Cert.InBwdKernelIdeal.main_arg2)
      ∧ r.2.mem ((c.tc : Thread Cert.InBwdKernelIdeal.nD Cert.InBwdKernelIdeal.τ).loc Cert.InBwdKernelIdeal.main_arg3) = m ((c.tc : Thread Cert.InBwdKernelIdeal.nD Cert.InBwdKernelIdeal.τ).loc Cert.InBwdKernelIdeal.main_arg3))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3))
      ∧ r.2.sem = fun _ => 0)

def quiescent_MidBwdKernel [hMidBwdKernel : Cert.MidBwdKernel.Facts] : Prop :=
  ∀ (m : (ℓ : Loc Cert.MidBwdKernel.nD Cert.MidBwdKernel.τ Cert.MidBwdKernel.sig) → Buf (Elt Bits) ℓ) (g : Dev Cert.MidBwdKernel.nD → PrngReg), Pre_MidBwdKernel m →
    θ_run (Cert.MidBwdKernel.defs (F := Bits)) (onTc (τ := Cert.MidBwdKernel.τ) (Cert.MidBwdKernel.main (F := Bits))) ⟨m, fun _ => 0, g⟩ (fun r => (∀ c : Dev Cert.MidBwdKernel.nD,
      r.2.mem ((c.tc : Thread Cert.MidBwdKernel.nD Cert.MidBwdKernel.τ).loc Cert.MidBwdKernel.main_arg0) = m ((c.tc : Thread Cert.MidBwdKernel.nD Cert.MidBwdKernel.τ).loc Cert.MidBwdKernel.main_arg0)
      ∧ r.2.mem ((c.tc : Thread Cert.MidBwdKernel.nD Cert.MidBwdKernel.τ).loc Cert.MidBwdKernel.main_arg1) = m ((c.tc : Thread Cert.MidBwdKernel.nD Cert.MidBwdKernel.τ).loc Cert.MidBwdKernel.main_arg1)
      ∧ r.2.mem ((c.tc : Thread Cert.MidBwdKernel.nD Cert.MidBwdKernel.τ).loc Cert.MidBwdKernel.main_arg2) = m ((c.tc : Thread Cert.MidBwdKernel.nD Cert.MidBwdKernel.τ).loc Cert.MidBwdKernel.main_arg2)
      ∧ r.2.mem ((c.tc : Thread Cert.MidBwdKernel.nD Cert.MidBwdKernel.τ).loc Cert.MidBwdKernel.main_arg3) = m ((c.tc : Thread Cert.MidBwdKernel.nD Cert.MidBwdKernel.τ).loc Cert.MidBwdKernel.main_arg3)
      ∧ r.2.mem ((c.tc : Thread Cert.MidBwdKernel.nD Cert.MidBwdKernel.τ).loc Cert.MidBwdKernel.main_arg4) = m ((c.tc : Thread Cert.MidBwdKernel.nD Cert.MidBwdKernel.τ).loc Cert.MidBwdKernel.main_arg4)
      ∧ r.2.mem ((c.tc : Thread Cert.MidBwdKernel.nD Cert.MidBwdKernel.τ).loc Cert.MidBwdKernel.main_arg5) = m ((c.tc : Thread Cert.MidBwdKernel.nD Cert.MidBwdKernel.τ).loc Cert.MidBwdKernel.main_arg5))
      ∧ r.2.sem = fun _ => 0)

def quiescent_MidBwdKernelIdeal [hMidBwdKernelIdeal : Cert.MidBwdKernelIdeal.Facts] : Prop :=
  ∀ (m : (ℓ : Loc Cert.MidBwdKernelIdeal.nD Cert.MidBwdKernelIdeal.τ Cert.MidBwdKernelIdeal.sig) → Buf (Elt Ideal) ℓ) (g : Dev Cert.MidBwdKernelIdeal.nD → PrngReg), Pre_MidBwdKernelIdeal m →
    θ_run (Cert.MidBwdKernelIdeal.defs (F := Ideal)) (onTc (τ := Cert.MidBwdKernelIdeal.τ) (Cert.MidBwdKernelIdeal.main (F := Ideal))) ⟨m, fun _ => 0, g⟩ (fun r => (∀ c : Dev Cert.MidBwdKernelIdeal.nD,
      r.2.mem ((c.tc : Thread Cert.MidBwdKernelIdeal.nD Cert.MidBwdKernelIdeal.τ).loc Cert.MidBwdKernelIdeal.main_arg0) = m ((c.tc : Thread Cert.MidBwdKernelIdeal.nD Cert.MidBwdKernelIdeal.τ).loc Cert.MidBwdKernelIdeal.main_arg0)
      ∧ r.2.mem ((c.tc : Thread Cert.MidBwdKernelIdeal.nD Cert.MidBwdKernelIdeal.τ).loc Cert.MidBwdKernelIdeal.main_arg1) = m ((c.tc : Thread Cert.MidBwdKernelIdeal.nD Cert.MidBwdKernelIdeal.τ).loc Cert.MidBwdKernelIdeal.main_arg1)
      ∧ r.2.mem ((c.tc : Thread Cert.MidBwdKernelIdeal.nD Cert.MidBwdKernelIdeal.τ).loc Cert.MidBwdKernelIdeal.main_arg2) = m ((c.tc : Thread Cert.MidBwdKernelIdeal.nD Cert.MidBwdKernelIdeal.τ).loc Cert.MidBwdKernelIdeal.main_arg2)
      ∧ r.2.mem ((c.tc : Thread Cert.MidBwdKernelIdeal.nD Cert.MidBwdKernelIdeal.τ).loc Cert.MidBwdKernelIdeal.main_arg3) = m ((c.tc : Thread Cert.MidBwdKernelIdeal.nD Cert.MidBwdKernelIdeal.τ).loc Cert.MidBwdKernelIdeal.main_arg3)
      ∧ r.2.mem ((c.tc : Thread Cert.MidBwdKernelIdeal.nD Cert.MidBwdKernelIdeal.τ).loc Cert.MidBwdKernelIdeal.main_arg4) = m ((c.tc : Thread Cert.MidBwdKernelIdeal.nD Cert.MidBwdKernelIdeal.τ).loc Cert.MidBwdKernelIdeal.main_arg4)
      ∧ r.2.mem ((c.tc : Thread Cert.MidBwdKernelIdeal.nD Cert.MidBwdKernelIdeal.τ).loc Cert.MidBwdKernelIdeal.main_arg5) = m ((c.tc : Thread Cert.MidBwdKernelIdeal.nD Cert.MidBwdKernelIdeal.τ).loc Cert.MidBwdKernelIdeal.main_arg5))
      ∧ r.2.sem = fun _ => 0)

def quiescent_MidBwdReferenceIdeal [hMidBwdReferenceIdeal : Cert.MidBwdReferenceIdeal.Facts] : Prop :=
  ∀ (m : (ℓ : Loc Cert.MidBwdReferenceIdeal.nD Cert.MidBwdReferenceIdeal.τ Cert.MidBwdReferenceIdeal.sig) → Buf (Elt Ideal) ℓ) (g : Dev Cert.MidBwdReferenceIdeal.nD → PrngReg), Pre_MidBwdReferenceIdeal m →
    θ_run (Cert.MidBwdReferenceIdeal.defs (F := Ideal)) (onTc (τ := Cert.MidBwdReferenceIdeal.τ) (Cert.MidBwdReferenceIdeal.main (F := Ideal))) ⟨m, fun _ => 0, g⟩ (fun r => (∀ c : Dev Cert.MidBwdReferenceIdeal.nD,
      r.2.mem ((c.tc : Thread Cert.MidBwdReferenceIdeal.nD Cert.MidBwdReferenceIdeal.τ).loc Cert.MidBwdReferenceIdeal.main_arg0) = m ((c.tc : Thread Cert.MidBwdReferenceIdeal.nD Cert.MidBwdReferenceIdeal.τ).loc Cert.MidBwdReferenceIdeal.main_arg0)
      ∧ r.2.mem ((c.tc : Thread Cert.MidBwdReferenceIdeal.nD Cert.MidBwdReferenceIdeal.τ).loc Cert.MidBwdReferenceIdeal.main_arg1) = m ((c.tc : Thread Cert.MidBwdReferenceIdeal.nD Cert.MidBwdReferenceIdeal.τ).loc Cert.MidBwdReferenceIdeal.main_arg1)
      ∧ r.2.mem ((c.tc : Thread Cert.MidBwdReferenceIdeal.nD Cert.MidBwdReferenceIdeal.τ).loc Cert.MidBwdReferenceIdeal.main_arg2) = m ((c.tc : Thread Cert.MidBwdReferenceIdeal.nD Cert.MidBwdReferenceIdeal.τ).loc Cert.MidBwdReferenceIdeal.main_arg2)
      ∧ r.2.mem ((c.tc : Thread Cert.MidBwdReferenceIdeal.nD Cert.MidBwdReferenceIdeal.τ).loc Cert.MidBwdReferenceIdeal.main_arg3) = m ((c.tc : Thread Cert.MidBwdReferenceIdeal.nD Cert.MidBwdReferenceIdeal.τ).loc Cert.MidBwdReferenceIdeal.main_arg3)
      ∧ r.2.mem ((c.tc : Thread Cert.MidBwdReferenceIdeal.nD Cert.MidBwdReferenceIdeal.τ).loc Cert.MidBwdReferenceIdeal.main_arg4) = m ((c.tc : Thread Cert.MidBwdReferenceIdeal.nD Cert.MidBwdReferenceIdeal.τ).loc Cert.MidBwdReferenceIdeal.main_arg4)
      ∧ r.2.mem ((c.tc : Thread Cert.MidBwdReferenceIdeal.nD Cert.MidBwdReferenceIdeal.τ).loc Cert.MidBwdReferenceIdeal.main_arg5) = m ((c.tc : Thread Cert.MidBwdReferenceIdeal.nD Cert.MidBwdReferenceIdeal.τ).loc Cert.MidBwdReferenceIdeal.main_arg5))
      ∧ r.2.sem = fun _ => 0)

def quiescent_MergeBwdKernel [hMergeBwdKernel : Cert.MergeBwdKernel.Facts] : Prop :=
  ∀ (m : (ℓ : Loc Cert.MergeBwdKernel.nD Cert.MergeBwdKernel.τ Cert.MergeBwdKernel.sig) → Buf (Elt Bits) ℓ) (g : Dev Cert.MergeBwdKernel.nD → PrngReg), Pre_MergeBwdKernel m →
    θ_run (Cert.MergeBwdKernel.defs (F := Bits)) (onTc (τ := Cert.MergeBwdKernel.τ) (Cert.MergeBwdKernel.main (F := Bits))) ⟨m, fun _ => 0, g⟩ (fun r => (∀ c : Dev Cert.MergeBwdKernel.nD,
      r.2.mem ((c.tc : Thread Cert.MergeBwdKernel.nD Cert.MergeBwdKernel.τ).loc Cert.MergeBwdKernel.main_arg0) = m ((c.tc : Thread Cert.MergeBwdKernel.nD Cert.MergeBwdKernel.τ).loc Cert.MergeBwdKernel.main_arg0)
      ∧ r.2.mem ((c.tc : Thread Cert.MergeBwdKernel.nD Cert.MergeBwdKernel.τ).loc Cert.MergeBwdKernel.main_arg1) = m ((c.tc : Thread Cert.MergeBwdKernel.nD Cert.MergeBwdKernel.τ).loc Cert.MergeBwdKernel.main_arg1)
      ∧ r.2.mem ((c.tc : Thread Cert.MergeBwdKernel.nD Cert.MergeBwdKernel.τ).loc Cert.MergeBwdKernel.main_arg2) = m ((c.tc : Thread Cert.MergeBwdKernel.nD Cert.MergeBwdKernel.τ).loc Cert.MergeBwdKernel.main_arg2)
      ∧ r.2.mem ((c.tc : Thread Cert.MergeBwdKernel.nD Cert.MergeBwdKernel.τ).loc Cert.MergeBwdKernel.main_arg3) = m ((c.tc : Thread Cert.MergeBwdKernel.nD Cert.MergeBwdKernel.τ).loc Cert.MergeBwdKernel.main_arg3))
      ∧ r.2.sem = fun _ => 0)

def quiescent_MergeBwdKernelIdeal [hMergeBwdKernelIdeal : Cert.MergeBwdKernelIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg), Pre_MergeBwdKernelIdeal m →
    θ_run (Cert.MergeBwdKernelIdeal.defs (F := Ideal)) (onTc (τ := Cert.MergeBwdKernelIdeal.τ) (Cert.MergeBwdKernelIdeal.main (F := Ideal))) ⟨m, fun _ => 0, g⟩ (fun r => (∀ c : Dev Cert.MergeBwdKernelIdeal.nD,
      r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
      ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
      ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
      ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_ActFwdKernel [hActFwdKernel : Cert.ActFwdKernel.Facts] : Prop :=
  ∀ (m : (ℓ : Loc Cert.ActFwdKernel.nD Cert.ActFwdKernel.τ Cert.ActFwdKernel.sig) → Buf (Elt Bits) ℓ) (g : Dev Cert.ActFwdKernel.nD → PrngReg), Pre_ActFwdKernel m →
    θ_run (Cert.ActFwdKernel.defs (F := Bits)) (onTc (τ := Cert.ActFwdKernel.τ) (Cert.ActFwdKernel.main (F := Bits))) ⟨m, fun _ => 0, g⟩ (fun r => (∀ c : Dev Cert.ActFwdKernel.nD,
      r.2.mem ((c.tc : Thread Cert.ActFwdKernel.nD Cert.ActFwdKernel.τ).loc Cert.ActFwdKernel.main_arg0) = m ((c.tc : Thread Cert.ActFwdKernel.nD Cert.ActFwdKernel.τ).loc Cert.ActFwdKernel.main_arg0)
      ∧ r.2.mem ((c.tc : Thread Cert.ActFwdKernel.nD Cert.ActFwdKernel.τ).loc Cert.ActFwdKernel.main_arg1) = m ((c.tc : Thread Cert.ActFwdKernel.nD Cert.ActFwdKernel.τ).loc Cert.ActFwdKernel.main_arg1)
      ∧ r.2.mem ((c.tc : Thread Cert.ActFwdKernel.nD Cert.ActFwdKernel.τ).loc Cert.ActFwdKernel.main_arg2) = m ((c.tc : Thread Cert.ActFwdKernel.nD Cert.ActFwdKernel.τ).loc Cert.ActFwdKernel.main_arg2)
      ∧ r.2.mem ((c.tc : Thread Cert.ActFwdKernel.nD Cert.ActFwdKernel.τ).loc Cert.ActFwdKernel.main_arg3) = m ((c.tc : Thread Cert.ActFwdKernel.nD Cert.ActFwdKernel.τ).loc Cert.ActFwdKernel.main_arg3))
      ∧ r.2.sem = fun _ => 0)

def quiescent_ActFwdKernelIdeal [hActFwdKernelIdeal : Cert.ActFwdKernelIdeal.Facts] : Prop :=
  ∀ (m : (ℓ : Loc Cert.ActFwdKernelIdeal.nD Cert.ActFwdKernelIdeal.τ Cert.ActFwdKernelIdeal.sig) → Buf (Elt Ideal) ℓ) (g : Dev Cert.ActFwdKernelIdeal.nD → PrngReg), Pre_ActFwdKernelIdeal m →
    θ_run (Cert.ActFwdKernelIdeal.defs (F := Ideal)) (onTc (τ := Cert.ActFwdKernelIdeal.τ) (Cert.ActFwdKernelIdeal.main (F := Ideal))) ⟨m, fun _ => 0, g⟩ (fun r => (∀ c : Dev Cert.ActFwdKernelIdeal.nD,
      r.2.mem ((c.tc : Thread Cert.ActFwdKernelIdeal.nD Cert.ActFwdKernelIdeal.τ).loc Cert.ActFwdKernelIdeal.main_arg0) = m ((c.tc : Thread Cert.ActFwdKernelIdeal.nD Cert.ActFwdKernelIdeal.τ).loc Cert.ActFwdKernelIdeal.main_arg0)
      ∧ r.2.mem ((c.tc : Thread Cert.ActFwdKernelIdeal.nD Cert.ActFwdKernelIdeal.τ).loc Cert.ActFwdKernelIdeal.main_arg1) = m ((c.tc : Thread Cert.ActFwdKernelIdeal.nD Cert.ActFwdKernelIdeal.τ).loc Cert.ActFwdKernelIdeal.main_arg1)
      ∧ r.2.mem ((c.tc : Thread Cert.ActFwdKernelIdeal.nD Cert.ActFwdKernelIdeal.τ).loc Cert.ActFwdKernelIdeal.main_arg2) = m ((c.tc : Thread Cert.ActFwdKernelIdeal.nD Cert.ActFwdKernelIdeal.τ).loc Cert.ActFwdKernelIdeal.main_arg2)
      ∧ r.2.mem ((c.tc : Thread Cert.ActFwdKernelIdeal.nD Cert.ActFwdKernelIdeal.τ).loc Cert.ActFwdKernelIdeal.main_arg3) = m ((c.tc : Thread Cert.ActFwdKernelIdeal.nD Cert.ActFwdKernelIdeal.τ).loc Cert.ActFwdKernelIdeal.main_arg3))
      ∧ r.2.sem = fun _ => 0)

def quiescent_ActFwdReferenceIdeal [hActFwdReferenceIdeal : Cert.ActFwdReferenceIdeal.Facts] : Prop :=
  ∀ (m : (ℓ : Loc Cert.ActFwdReferenceIdeal.nD Cert.ActFwdReferenceIdeal.τ Cert.ActFwdReferenceIdeal.sig) → Buf (Elt Ideal) ℓ) (g : Dev Cert.ActFwdReferenceIdeal.nD → PrngReg), Pre_ActFwdReferenceIdeal m →
    θ_run (Cert.ActFwdReferenceIdeal.defs (F := Ideal)) (onTc (τ := Cert.ActFwdReferenceIdeal.τ) (Cert.ActFwdReferenceIdeal.main (F := Ideal))) ⟨m, fun _ => 0, g⟩ (fun r => (∀ c : Dev Cert.ActFwdReferenceIdeal.nD,
      r.2.mem ((c.tc : Thread Cert.ActFwdReferenceIdeal.nD Cert.ActFwdReferenceIdeal.τ).loc Cert.ActFwdReferenceIdeal.main_arg0) = m ((c.tc : Thread Cert.ActFwdReferenceIdeal.nD Cert.ActFwdReferenceIdeal.τ).loc Cert.ActFwdReferenceIdeal.main_arg0)
      ∧ r.2.mem ((c.tc : Thread Cert.ActFwdReferenceIdeal.nD Cert.ActFwdReferenceIdeal.τ).loc Cert.ActFwdReferenceIdeal.main_arg1) = m ((c.tc : Thread Cert.ActFwdReferenceIdeal.nD Cert.ActFwdReferenceIdeal.τ).loc Cert.ActFwdReferenceIdeal.main_arg1)
      ∧ r.2.mem ((c.tc : Thread Cert.ActFwdReferenceIdeal.nD Cert.ActFwdReferenceIdeal.τ).loc Cert.ActFwdReferenceIdeal.main_arg2) = m ((c.tc : Thread Cert.ActFwdReferenceIdeal.nD Cert.ActFwdReferenceIdeal.τ).loc Cert.ActFwdReferenceIdeal.main_arg2)
      ∧ r.2.mem ((c.tc : Thread Cert.ActFwdReferenceIdeal.nD Cert.ActFwdReferenceIdeal.τ).loc Cert.ActFwdReferenceIdeal.main_arg3) = m ((c.tc : Thread Cert.ActFwdReferenceIdeal.nD Cert.ActFwdReferenceIdeal.τ).loc Cert.ActFwdReferenceIdeal.main_arg3))
      ∧ r.2.sem = fun _ => 0)

def quiescent_NormInKernel [hNormInKernel : Cert.NormInKernel.Facts] : Prop :=
  ∀ (m : (ℓ : Loc Cert.NormInKernel.nD Cert.NormInKernel.τ Cert.NormInKernel.sig) → Buf (Elt Bits) ℓ) (g : Dev Cert.NormInKernel.nD → PrngReg), Pre_NormInKernel m →
    θ_run (Cert.NormInKernel.defs (F := Bits)) (onTc (τ := Cert.NormInKernel.τ) (Cert.NormInKernel.main (F := Bits))) ⟨m, fun _ => 0, g⟩ (fun r => (∀ c : Dev Cert.NormInKernel.nD,
      r.2.mem ((c.tc : Thread Cert.NormInKernel.nD Cert.NormInKernel.τ).loc Cert.NormInKernel.main_arg0) = m ((c.tc : Thread Cert.NormInKernel.nD Cert.NormInKernel.τ).loc Cert.NormInKernel.main_arg0)
      ∧ r.2.mem ((c.tc : Thread Cert.NormInKernel.nD Cert.NormInKernel.τ).loc Cert.NormInKernel.main_arg1) = m ((c.tc : Thread Cert.NormInKernel.nD Cert.NormInKernel.τ).loc Cert.NormInKernel.main_arg1))
      ∧ r.2.sem = fun _ => 0)

def quiescent_NormInKernelIdeal [hNormInKernelIdeal : Cert.NormInKernelIdeal.Facts] : Prop :=
  ∀ (m : (ℓ : Loc Cert.NormInKernelIdeal.nD Cert.NormInKernelIdeal.τ Cert.NormInKernelIdeal.sig) → Buf (Elt Ideal) ℓ) (g : Dev Cert.NormInKernelIdeal.nD → PrngReg), Pre_NormInKernelIdeal m →
    θ_run (Cert.NormInKernelIdeal.defs (F := Ideal)) (onTc (τ := Cert.NormInKernelIdeal.τ) (Cert.NormInKernelIdeal.main (F := Ideal))) ⟨m, fun _ => 0, g⟩ (fun r => (∀ c : Dev Cert.NormInKernelIdeal.nD,
      r.2.mem ((c.tc : Thread Cert.NormInKernelIdeal.nD Cert.NormInKernelIdeal.τ).loc Cert.NormInKernelIdeal.main_arg0) = m ((c.tc : Thread Cert.NormInKernelIdeal.nD Cert.NormInKernelIdeal.τ).loc Cert.NormInKernelIdeal.main_arg0)
      ∧ r.2.mem ((c.tc : Thread Cert.NormInKernelIdeal.nD Cert.NormInKernelIdeal.τ).loc Cert.NormInKernelIdeal.main_arg1) = m ((c.tc : Thread Cert.NormInKernelIdeal.nD Cert.NormInKernelIdeal.τ).loc Cert.NormInKernelIdeal.main_arg1))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1))
      ∧ r.2.sem = fun _ => 0)

def quiescent_AdamInKernel [hAdamInKernel : Cert.AdamInKernel.Facts] [hPre_on_mesh_w_in : Cert.Pre_on_mesh_w_in.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3)
      ∧ r.2.mem ((c.tc : Thread Cert.AdamInKernel.nD Cert.AdamInKernel.τ).loc Cert.AdamInKernel.main_arg4) = m ((c.tc : Thread Cert.AdamInKernel.nD Cert.AdamInKernel.τ).loc Cert.AdamInKernel.main_arg4)
      ∧ r.2.mem ((c.tc : Thread Cert.AdamInKernel.nD Cert.AdamInKernel.τ).loc Cert.AdamInKernel.main_arg5) = m ((c.tc : Thread Cert.AdamInKernel.nD Cert.AdamInKernel.τ).loc Cert.AdamInKernel.main_arg5))
      ∧ r.2.sem = fun _ => 0)

def quiescent_AdamInKernelIdeal [hAdamInKernelIdeal : Cert.AdamInKernelIdeal.Facts] [hPre_on_mesh_w_in : Cert.Pre_on_mesh_w_in.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
      ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4)
      ∧ r.2.mem ((c.tc : Thread Cert.AdamInKernelIdeal.nD Cert.AdamInKernelIdeal.τ).loc Cert.AdamInKernelIdeal.main_arg5) = m ((c.tc : Thread Cert.AdamInKernelIdeal.nD Cert.AdamInKernelIdeal.τ).loc Cert.AdamInKernelIdeal.main_arg5))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_AdamInReferenceIdeal_pre_on_mesh_w_in [hAdamInReferenceIdeal : Cert.AdamInReferenceIdeal.Facts] [hPre_on_mesh_w_in : Cert.Pre_on_mesh_w_in.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal_on_mesh_w_in m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_AdamConvRKernel [hAdamConvRKernel : Cert.AdamConvRKernel.Facts] [hPre_on_mesh_conv_rnn_w : Cert.Pre_on_mesh_conv_rnn_w.Facts] : Prop :=
  ∀ (m : (ℓ : Loc Cert.AdamConvRKernel.nD Cert.AdamConvRKernel.τ Cert.AdamConvRKernel.sig) → Buf (Elt Bits) ℓ) (g : Dev Cert.AdamConvRKernel.nD → PrngReg), Pre_AdamConvRKernel m →
    θ_run (Cert.AdamConvRKernel.defs (F := Bits)) (onTc (τ := Cert.AdamConvRKernel.τ) (Cert.AdamConvRKernel.main (F := Bits))) ⟨m, fun _ => 0, g⟩ (fun r => (∀ c : Dev Cert.AdamConvRKernel.nD,
      r.2.mem ((c.tc : Thread Cert.AdamConvRKernel.nD Cert.AdamConvRKernel.τ).loc Cert.AdamConvRKernel.main_arg0) = m ((c.tc : Thread Cert.AdamConvRKernel.nD Cert.AdamConvRKernel.τ).loc Cert.AdamConvRKernel.main_arg0)
      ∧ r.2.mem ((c.tc : Thread Cert.AdamConvRKernel.nD Cert.AdamConvRKernel.τ).loc Cert.AdamConvRKernel.main_arg1) = m ((c.tc : Thread Cert.AdamConvRKernel.nD Cert.AdamConvRKernel.τ).loc Cert.AdamConvRKernel.main_arg1)
      ∧ r.2.mem ((c.tc : Thread Cert.AdamConvRKernel.nD Cert.AdamConvRKernel.τ).loc Cert.AdamConvRKernel.main_arg2) = m ((c.tc : Thread Cert.AdamConvRKernel.nD Cert.AdamConvRKernel.τ).loc Cert.AdamConvRKernel.main_arg2)
      ∧ r.2.mem ((c.tc : Thread Cert.AdamConvRKernel.nD Cert.AdamConvRKernel.τ).loc Cert.AdamConvRKernel.main_arg3) = m ((c.tc : Thread Cert.AdamConvRKernel.nD Cert.AdamConvRKernel.τ).loc Cert.AdamConvRKernel.main_arg3)
      ∧ r.2.mem ((c.tc : Thread Cert.AdamConvRKernel.nD Cert.AdamConvRKernel.τ).loc Cert.AdamConvRKernel.main_arg4) = m ((c.tc : Thread Cert.AdamConvRKernel.nD Cert.AdamConvRKernel.τ).loc Cert.AdamConvRKernel.main_arg4)
      ∧ r.2.mem ((c.tc : Thread Cert.AdamConvRKernel.nD Cert.AdamConvRKernel.τ).loc Cert.AdamConvRKernel.main_arg5) = m ((c.tc : Thread Cert.AdamConvRKernel.nD Cert.AdamConvRKernel.τ).loc Cert.AdamConvRKernel.main_arg5))
      ∧ r.2.sem = fun _ => 0)

def quiescent_AdamConvRKernelIdeal [hAdamConvRKernelIdeal : Cert.AdamConvRKernelIdeal.Facts] [hPre_on_mesh_conv_rnn_w : Cert.Pre_on_mesh_conv_rnn_w.Facts] : Prop :=
  ∀ (m : (ℓ : Loc Cert.AdamConvRKernelIdeal.nD Cert.AdamConvRKernelIdeal.τ Cert.AdamConvRKernelIdeal.sig) → Buf (Elt Ideal) ℓ) (g : Dev Cert.AdamConvRKernelIdeal.nD → PrngReg), Pre_AdamConvRKernelIdeal m →
    θ_run (Cert.AdamConvRKernelIdeal.defs (F := Ideal)) (onTc (τ := Cert.AdamConvRKernelIdeal.τ) (Cert.AdamConvRKernelIdeal.main (F := Ideal))) ⟨m, fun _ => 0, g⟩ (fun r => (∀ c : Dev Cert.AdamConvRKernelIdeal.nD,
      r.2.mem ((c.tc : Thread Cert.AdamConvRKernelIdeal.nD Cert.AdamConvRKernelIdeal.τ).loc Cert.AdamConvRKernelIdeal.main_arg0) = m ((c.tc : Thread Cert.AdamConvRKernelIdeal.nD Cert.AdamConvRKernelIdeal.τ).loc Cert.AdamConvRKernelIdeal.main_arg0)
      ∧ r.2.mem ((c.tc : Thread Cert.AdamConvRKernelIdeal.nD Cert.AdamConvRKernelIdeal.τ).loc Cert.AdamConvRKernelIdeal.main_arg1) = m ((c.tc : Thread Cert.AdamConvRKernelIdeal.nD Cert.AdamConvRKernelIdeal.τ).loc Cert.AdamConvRKernelIdeal.main_arg1)
      ∧ r.2.mem ((c.tc : Thread Cert.AdamConvRKernelIdeal.nD Cert.AdamConvRKernelIdeal.τ).loc Cert.AdamConvRKernelIdeal.main_arg2) = m ((c.tc : Thread Cert.AdamConvRKernelIdeal.nD Cert.AdamConvRKernelIdeal.τ).loc Cert.AdamConvRKernelIdeal.main_arg2)
      ∧ r.2.mem ((c.tc : Thread Cert.AdamConvRKernelIdeal.nD Cert.AdamConvRKernelIdeal.τ).loc Cert.AdamConvRKernelIdeal.main_arg3) = m ((c.tc : Thread Cert.AdamConvRKernelIdeal.nD Cert.AdamConvRKernelIdeal.τ).loc Cert.AdamConvRKernelIdeal.main_arg3)
      ∧ r.2.mem ((c.tc : Thread Cert.AdamConvRKernelIdeal.nD Cert.AdamConvRKernelIdeal.τ).loc Cert.AdamConvRKernelIdeal.main_arg4) = m ((c.tc : Thread Cert.AdamConvRKernelIdeal.nD Cert.AdamConvRKernelIdeal.τ).loc Cert.AdamConvRKernelIdeal.main_arg4)
      ∧ r.2.mem ((c.tc : Thread Cert.AdamConvRKernelIdeal.nD Cert.AdamConvRKernelIdeal.τ).loc Cert.AdamConvRKernelIdeal.main_arg5) = m ((c.tc : Thread Cert.AdamConvRKernelIdeal.nD Cert.AdamConvRKernelIdeal.τ).loc Cert.AdamConvRKernelIdeal.main_arg5))
      ∧ r.2.sem = fun _ => 0)

def quiescent_AdamConvRReferenceIdeal [hAdamConvRReferenceIdeal : Cert.AdamConvRReferenceIdeal.Facts] : Prop :=
  ∀ (m : (ℓ : Loc Cert.AdamConvRReferenceIdeal.nD Cert.AdamConvRReferenceIdeal.τ Cert.AdamConvRReferenceIdeal.sig) → Buf (Elt Ideal) ℓ) (g : Dev Cert.AdamConvRReferenceIdeal.nD → PrngReg), Pre_AdamConvRReferenceIdeal m →
    θ_run (Cert.AdamConvRReferenceIdeal.defs (F := Ideal)) (onTc (τ := Cert.AdamConvRReferenceIdeal.τ) (Cert.AdamConvRReferenceIdeal.main (F := Ideal))) ⟨m, fun _ => 0, g⟩ (fun r => (∀ c : Dev Cert.AdamConvRReferenceIdeal.nD,
      r.2.mem ((c.tc : Thread Cert.AdamConvRReferenceIdeal.nD Cert.AdamConvRReferenceIdeal.τ).loc Cert.AdamConvRReferenceIdeal.main_arg0) = m ((c.tc : Thread Cert.AdamConvRReferenceIdeal.nD Cert.AdamConvRReferenceIdeal.τ).loc Cert.AdamConvRReferenceIdeal.main_arg0)
      ∧ r.2.mem ((c.tc : Thread Cert.AdamConvRReferenceIdeal.nD Cert.AdamConvRReferenceIdeal.τ).loc Cert.AdamConvRReferenceIdeal.main_arg1) = m ((c.tc : Thread Cert.AdamConvRReferenceIdeal.nD Cert.AdamConvRReferenceIdeal.τ).loc Cert.AdamConvRReferenceIdeal.main_arg1)
      ∧ r.2.mem ((c.tc : Thread Cert.AdamConvRReferenceIdeal.nD Cert.AdamConvRReferenceIdeal.τ).loc Cert.AdamConvRReferenceIdeal.main_arg2) = m ((c.tc : Thread Cert.AdamConvRReferenceIdeal.nD Cert.AdamConvRReferenceIdeal.τ).loc Cert.AdamConvRReferenceIdeal.main_arg2)
      ∧ r.2.mem ((c.tc : Thread Cert.AdamConvRReferenceIdeal.nD Cert.AdamConvRReferenceIdeal.τ).loc Cert.AdamConvRReferenceIdeal.main_arg3) = m ((c.tc : Thread Cert.AdamConvRReferenceIdeal.nD Cert.AdamConvRReferenceIdeal.τ).loc Cert.AdamConvRReferenceIdeal.main_arg3)
      ∧ r.2.mem ((c.tc : Thread Cert.AdamConvRReferenceIdeal.nD Cert.AdamConvRReferenceIdeal.τ).loc Cert.AdamConvRReferenceIdeal.main_arg4) = m ((c.tc : Thread Cert.AdamConvRReferenceIdeal.nD Cert.AdamConvRReferenceIdeal.τ).loc Cert.AdamConvRReferenceIdeal.main_arg4)
      ∧ r.2.mem ((c.tc : Thread Cert.AdamConvRReferenceIdeal.nD Cert.AdamConvRReferenceIdeal.τ).loc Cert.AdamConvRReferenceIdeal.main_arg5) = m ((c.tc : Thread Cert.AdamConvRReferenceIdeal.nD Cert.AdamConvRReferenceIdeal.τ).loc Cert.AdamConvRReferenceIdeal.main_arg5))
      ∧ r.2.sem = fun _ => 0)

def quiescent_AdamConvRReferenceIdeal_pre_on_mesh_conv_rnn_w [hAdamConvRReferenceIdeal : Cert.AdamConvRReferenceIdeal.Facts] [hPre_on_mesh_conv_rnn_w : Cert.Pre_on_mesh_conv_rnn_w.Facts] : Prop :=
  ∀ (m : (ℓ : Loc Cert.AdamConvRReferenceIdeal.nD Cert.AdamConvRReferenceIdeal.τ Cert.AdamConvRReferenceIdeal.sig) → Buf (Elt Ideal) ℓ) (g : Dev Cert.AdamConvRReferenceIdeal.nD → PrngReg), Pre_AdamConvRReferenceIdeal_on_mesh_conv_rnn_w m →
    θ_run (Cert.AdamConvRReferenceIdeal.defs (F := Ideal)) (onTc (τ := Cert.AdamConvRReferenceIdeal.τ) (Cert.AdamConvRReferenceIdeal.main (F := Ideal))) ⟨m, fun _ => 0, g⟩ (fun r => (∀ c : Dev Cert.AdamConvRReferenceIdeal.nD,
      r.2.mem ((c.tc : Thread Cert.AdamConvRReferenceIdeal.nD Cert.AdamConvRReferenceIdeal.τ).loc Cert.AdamConvRReferenceIdeal.main_arg0) = m ((c.tc : Thread Cert.AdamConvRReferenceIdeal.nD Cert.AdamConvRReferenceIdeal.τ).loc Cert.AdamConvRReferenceIdeal.main_arg0)
      ∧ r.2.mem ((c.tc : Thread Cert.AdamConvRReferenceIdeal.nD Cert.AdamConvRReferenceIdeal.τ).loc Cert.AdamConvRReferenceIdeal.main_arg1) = m ((c.tc : Thread Cert.AdamConvRReferenceIdeal.nD Cert.AdamConvRReferenceIdeal.τ).loc Cert.AdamConvRReferenceIdeal.main_arg1)
      ∧ r.2.mem ((c.tc : Thread Cert.AdamConvRReferenceIdeal.nD Cert.AdamConvRReferenceIdeal.τ).loc Cert.AdamConvRReferenceIdeal.main_arg2) = m ((c.tc : Thread Cert.AdamConvRReferenceIdeal.nD Cert.AdamConvRReferenceIdeal.τ).loc Cert.AdamConvRReferenceIdeal.main_arg2)
      ∧ r.2.mem ((c.tc : Thread Cert.AdamConvRReferenceIdeal.nD Cert.AdamConvRReferenceIdeal.τ).loc Cert.AdamConvRReferenceIdeal.main_arg3) = m ((c.tc : Thread Cert.AdamConvRReferenceIdeal.nD Cert.AdamConvRReferenceIdeal.τ).loc Cert.AdamConvRReferenceIdeal.main_arg3)
      ∧ r.2.mem ((c.tc : Thread Cert.AdamConvRReferenceIdeal.nD Cert.AdamConvRReferenceIdeal.τ).loc Cert.AdamConvRReferenceIdeal.main_arg4) = m ((c.tc : Thread Cert.AdamConvRReferenceIdeal.nD Cert.AdamConvRReferenceIdeal.τ).loc Cert.AdamConvRReferenceIdeal.main_arg4)
      ∧ r.2.mem ((c.tc : Thread Cert.AdamConvRReferenceIdeal.nD Cert.AdamConvRReferenceIdeal.τ).loc Cert.AdamConvRReferenceIdeal.main_arg5) = m ((c.tc : Thread Cert.AdamConvRReferenceIdeal.nD Cert.AdamConvRReferenceIdeal.τ).loc Cert.AdamConvRReferenceIdeal.main_arg5))
      ∧ r.2.sem = fun _ => 0)

def quiescent_AdamBrnnKernel [hAdamBrnnKernel : Cert.AdamBrnnKernel.Facts] [hPre_on_mesh_w_branch_rnn : Cert.Pre_on_mesh_w_branch_rnn.Facts] : Prop :=
  ∀ (m : (ℓ : Loc Cert.AdamBrnnKernel.nD Cert.AdamBrnnKernel.τ Cert.AdamBrnnKernel.sig) → Buf (Elt Bits) ℓ) (g : Dev Cert.AdamBrnnKernel.nD → PrngReg), Pre_AdamBrnnKernel m →
    θ_run (Cert.AdamBrnnKernel.defs (F := Bits)) (onTc (τ := Cert.AdamBrnnKernel.τ) (Cert.AdamBrnnKernel.main (F := Bits))) ⟨m, fun _ => 0, g⟩ (fun r => (∀ c : Dev Cert.AdamBrnnKernel.nD,
      r.2.mem ((c.tc : Thread Cert.AdamBrnnKernel.nD Cert.AdamBrnnKernel.τ).loc Cert.AdamBrnnKernel.main_arg0) = m ((c.tc : Thread Cert.AdamBrnnKernel.nD Cert.AdamBrnnKernel.τ).loc Cert.AdamBrnnKernel.main_arg0)
      ∧ r.2.mem ((c.tc : Thread Cert.AdamBrnnKernel.nD Cert.AdamBrnnKernel.τ).loc Cert.AdamBrnnKernel.main_arg1) = m ((c.tc : Thread Cert.AdamBrnnKernel.nD Cert.AdamBrnnKernel.τ).loc Cert.AdamBrnnKernel.main_arg1)
      ∧ r.2.mem ((c.tc : Thread Cert.AdamBrnnKernel.nD Cert.AdamBrnnKernel.τ).loc Cert.AdamBrnnKernel.main_arg2) = m ((c.tc : Thread Cert.AdamBrnnKernel.nD Cert.AdamBrnnKernel.τ).loc Cert.AdamBrnnKernel.main_arg2)
      ∧ r.2.mem ((c.tc : Thread Cert.AdamBrnnKernel.nD Cert.AdamBrnnKernel.τ).loc Cert.AdamBrnnKernel.main_arg3) = m ((c.tc : Thread Cert.AdamBrnnKernel.nD Cert.AdamBrnnKernel.τ).loc Cert.AdamBrnnKernel.main_arg3)
      ∧ r.2.mem ((c.tc : Thread Cert.AdamBrnnKernel.nD Cert.AdamBrnnKernel.τ).loc Cert.AdamBrnnKernel.main_arg4) = m ((c.tc : Thread Cert.AdamBrnnKernel.nD Cert.AdamBrnnKernel.τ).loc Cert.AdamBrnnKernel.main_arg4)
      ∧ r.2.mem ((c.tc : Thread Cert.AdamBrnnKernel.nD Cert.AdamBrnnKernel.τ).loc Cert.AdamBrnnKernel.main_arg5) = m ((c.tc : Thread Cert.AdamBrnnKernel.nD Cert.AdamBrnnKernel.τ).loc Cert.AdamBrnnKernel.main_arg5))
      ∧ r.2.sem = fun _ => 0)

def quiescent_AdamBrnnKernelIdeal [hAdamBrnnKernelIdeal : Cert.AdamBrnnKernelIdeal.Facts] [hPre_on_mesh_w_branch_rnn : Cert.Pre_on_mesh_w_branch_rnn.Facts] : Prop :=
  ∀ (m : (ℓ : Loc Cert.AdamBrnnKernelIdeal.nD Cert.AdamBrnnKernelIdeal.τ Cert.AdamBrnnKernelIdeal.sig) → Buf (Elt Ideal) ℓ) (g : Dev Cert.AdamBrnnKernelIdeal.nD → PrngReg), Pre_AdamBrnnKernelIdeal m →
    θ_run (Cert.AdamBrnnKernelIdeal.defs (F := Ideal)) (onTc (τ := Cert.AdamBrnnKernelIdeal.τ) (Cert.AdamBrnnKernelIdeal.main (F := Ideal))) ⟨m, fun _ => 0, g⟩ (fun r => (∀ c : Dev Cert.AdamBrnnKernelIdeal.nD,
      r.2.mem ((c.tc : Thread Cert.AdamBrnnKernelIdeal.nD Cert.AdamBrnnKernelIdeal.τ).loc Cert.AdamBrnnKernelIdeal.main_arg0) = m ((c.tc : Thread Cert.AdamBrnnKernelIdeal.nD Cert.AdamBrnnKernelIdeal.τ).loc Cert.AdamBrnnKernelIdeal.main_arg0)
      ∧ r.2.mem ((c.tc : Thread Cert.AdamBrnnKernelIdeal.nD Cert.AdamBrnnKernelIdeal.τ).loc Cert.AdamBrnnKernelIdeal.main_arg1) = m ((c.tc : Thread Cert.AdamBrnnKernelIdeal.nD Cert.AdamBrnnKernelIdeal.τ).loc Cert.AdamBrnnKernelIdeal.main_arg1)
      ∧ r.2.mem ((c.tc : Thread Cert.AdamBrnnKernelIdeal.nD Cert.AdamBrnnKernelIdeal.τ).loc Cert.AdamBrnnKernelIdeal.main_arg2) = m ((c.tc : Thread Cert.AdamBrnnKernelIdeal.nD Cert.AdamBrnnKernelIdeal.τ).loc Cert.AdamBrnnKernelIdeal.main_arg2)
      ∧ r.2.mem ((c.tc : Thread Cert.AdamBrnnKernelIdeal.nD Cert.AdamBrnnKernelIdeal.τ).loc Cert.AdamBrnnKernelIdeal.main_arg3) = m ((c.tc : Thread Cert.AdamBrnnKernelIdeal.nD Cert.AdamBrnnKernelIdeal.τ).loc Cert.AdamBrnnKernelIdeal.main_arg3)
      ∧ r.2.mem ((c.tc : Thread Cert.AdamBrnnKernelIdeal.nD Cert.AdamBrnnKernelIdeal.τ).loc Cert.AdamBrnnKernelIdeal.main_arg4) = m ((c.tc : Thread Cert.AdamBrnnKernelIdeal.nD Cert.AdamBrnnKernelIdeal.τ).loc Cert.AdamBrnnKernelIdeal.main_arg4)
      ∧ r.2.mem ((c.tc : Thread Cert.AdamBrnnKernelIdeal.nD Cert.AdamBrnnKernelIdeal.τ).loc Cert.AdamBrnnKernelIdeal.main_arg5) = m ((c.tc : Thread Cert.AdamBrnnKernelIdeal.nD Cert.AdamBrnnKernelIdeal.τ).loc Cert.AdamBrnnKernelIdeal.main_arg5))
      ∧ r.2.sem = fun _ => 0)

def quiescent_AdamBrnnReferenceIdeal [hAdamBrnnReferenceIdeal : Cert.AdamBrnnReferenceIdeal.Facts] : Prop :=
  ∀ (m : (ℓ : Loc Cert.AdamBrnnReferenceIdeal.nD Cert.AdamBrnnReferenceIdeal.τ Cert.AdamBrnnReferenceIdeal.sig) → Buf (Elt Ideal) ℓ) (g : Dev Cert.AdamBrnnReferenceIdeal.nD → PrngReg), Pre_AdamBrnnReferenceIdeal m →
    θ_run (Cert.AdamBrnnReferenceIdeal.defs (F := Ideal)) (onTc (τ := Cert.AdamBrnnReferenceIdeal.τ) (Cert.AdamBrnnReferenceIdeal.main (F := Ideal))) ⟨m, fun _ => 0, g⟩ (fun r => (∀ c : Dev Cert.AdamBrnnReferenceIdeal.nD,
      r.2.mem ((c.tc : Thread Cert.AdamBrnnReferenceIdeal.nD Cert.AdamBrnnReferenceIdeal.τ).loc Cert.AdamBrnnReferenceIdeal.main_arg0) = m ((c.tc : Thread Cert.AdamBrnnReferenceIdeal.nD Cert.AdamBrnnReferenceIdeal.τ).loc Cert.AdamBrnnReferenceIdeal.main_arg0)
      ∧ r.2.mem ((c.tc : Thread Cert.AdamBrnnReferenceIdeal.nD Cert.AdamBrnnReferenceIdeal.τ).loc Cert.AdamBrnnReferenceIdeal.main_arg1) = m ((c.tc : Thread Cert.AdamBrnnReferenceIdeal.nD Cert.AdamBrnnReferenceIdeal.τ).loc Cert.AdamBrnnReferenceIdeal.main_arg1)
      ∧ r.2.mem ((c.tc : Thread Cert.AdamBrnnReferenceIdeal.nD Cert.AdamBrnnReferenceIdeal.τ).loc Cert.AdamBrnnReferenceIdeal.main_arg2) = m ((c.tc : Thread Cert.AdamBrnnReferenceIdeal.nD Cert.AdamBrnnReferenceIdeal.τ).loc Cert.AdamBrnnReferenceIdeal.main_arg2)
      ∧ r.2.mem ((c.tc : Thread Cert.AdamBrnnReferenceIdeal.nD Cert.AdamBrnnReferenceIdeal.τ).loc Cert.AdamBrnnReferenceIdeal.main_arg3) = m ((c.tc : Thread Cert.AdamBrnnReferenceIdeal.nD Cert.AdamBrnnReferenceIdeal.τ).loc Cert.AdamBrnnReferenceIdeal.main_arg3)
      ∧ r.2.mem ((c.tc : Thread Cert.AdamBrnnReferenceIdeal.nD Cert.AdamBrnnReferenceIdeal.τ).loc Cert.AdamBrnnReferenceIdeal.main_arg4) = m ((c.tc : Thread Cert.AdamBrnnReferenceIdeal.nD Cert.AdamBrnnReferenceIdeal.τ).loc Cert.AdamBrnnReferenceIdeal.main_arg4)
      ∧ r.2.mem ((c.tc : Thread Cert.AdamBrnnReferenceIdeal.nD Cert.AdamBrnnReferenceIdeal.τ).loc Cert.AdamBrnnReferenceIdeal.main_arg5) = m ((c.tc : Thread Cert.AdamBrnnReferenceIdeal.nD Cert.AdamBrnnReferenceIdeal.τ).loc Cert.AdamBrnnReferenceIdeal.main_arg5))
      ∧ r.2.sem = fun _ => 0)

def quiescent_AdamBrnnReferenceIdeal_pre_on_mesh_w_branch_rnn [hAdamBrnnReferenceIdeal : Cert.AdamBrnnReferenceIdeal.Facts] [hPre_on_mesh_w_branch_rnn : Cert.Pre_on_mesh_w_branch_rnn.Facts] : Prop :=
  ∀ (m : (ℓ : Loc Cert.AdamBrnnReferenceIdeal.nD Cert.AdamBrnnReferenceIdeal.τ Cert.AdamBrnnReferenceIdeal.sig) → Buf (Elt Ideal) ℓ) (g : Dev Cert.AdamBrnnReferenceIdeal.nD → PrngReg), Pre_AdamBrnnReferenceIdeal_on_mesh_w_branch_rnn m →
    θ_run (Cert.AdamBrnnReferenceIdeal.defs (F := Ideal)) (onTc (τ := Cert.AdamBrnnReferenceIdeal.τ) (Cert.AdamBrnnReferenceIdeal.main (F := Ideal))) ⟨m, fun _ => 0, g⟩ (fun r => (∀ c : Dev Cert.AdamBrnnReferenceIdeal.nD,
      r.2.mem ((c.tc : Thread Cert.AdamBrnnReferenceIdeal.nD Cert.AdamBrnnReferenceIdeal.τ).loc Cert.AdamBrnnReferenceIdeal.main_arg0) = m ((c.tc : Thread Cert.AdamBrnnReferenceIdeal.nD Cert.AdamBrnnReferenceIdeal.τ).loc Cert.AdamBrnnReferenceIdeal.main_arg0)
      ∧ r.2.mem ((c.tc : Thread Cert.AdamBrnnReferenceIdeal.nD Cert.AdamBrnnReferenceIdeal.τ).loc Cert.AdamBrnnReferenceIdeal.main_arg1) = m ((c.tc : Thread Cert.AdamBrnnReferenceIdeal.nD Cert.AdamBrnnReferenceIdeal.τ).loc Cert.AdamBrnnReferenceIdeal.main_arg1)
      ∧ r.2.mem ((c.tc : Thread Cert.AdamBrnnReferenceIdeal.nD Cert.AdamBrnnReferenceIdeal.τ).loc Cert.AdamBrnnReferenceIdeal.main_arg2) = m ((c.tc : Thread Cert.AdamBrnnReferenceIdeal.nD Cert.AdamBrnnReferenceIdeal.τ).loc Cert.AdamBrnnReferenceIdeal.main_arg2)
      ∧ r.2.mem ((c.tc : Thread Cert.AdamBrnnReferenceIdeal.nD Cert.AdamBrnnReferenceIdeal.τ).loc Cert.AdamBrnnReferenceIdeal.main_arg3) = m ((c.tc : Thread Cert.AdamBrnnReferenceIdeal.nD Cert.AdamBrnnReferenceIdeal.τ).loc Cert.AdamBrnnReferenceIdeal.main_arg3)
      ∧ r.2.mem ((c.tc : Thread Cert.AdamBrnnReferenceIdeal.nD Cert.AdamBrnnReferenceIdeal.τ).loc Cert.AdamBrnnReferenceIdeal.main_arg4) = m ((c.tc : Thread Cert.AdamBrnnReferenceIdeal.nD Cert.AdamBrnnReferenceIdeal.τ).loc Cert.AdamBrnnReferenceIdeal.main_arg4)
      ∧ r.2.mem ((c.tc : Thread Cert.AdamBrnnReferenceIdeal.nD Cert.AdamBrnnReferenceIdeal.τ).loc Cert.AdamBrnnReferenceIdeal.main_arg5) = m ((c.tc : Thread Cert.AdamBrnnReferenceIdeal.nD Cert.AdamBrnnReferenceIdeal.τ).loc Cert.AdamBrnnReferenceIdeal.main_arg5))
      ∧ r.2.sem = fun _ => 0)

def quiescent_AdamBattKernel [hAdamBattKernel : Cert.AdamBattKernel.Facts] [hPre_on_mesh_w_branch_att : Cert.Pre_on_mesh_w_branch_att.Facts] : Prop :=
  ∀ (m : (ℓ : Loc Cert.AdamBattKernel.nD Cert.AdamBattKernel.τ Cert.AdamBattKernel.sig) → Buf (Elt Bits) ℓ) (g : Dev Cert.AdamBattKernel.nD → PrngReg), Pre_AdamBattKernel m →
    θ_run (Cert.AdamBattKernel.defs (F := Bits)) (onTc (τ := Cert.AdamBattKernel.τ) (Cert.AdamBattKernel.main (F := Bits))) ⟨m, fun _ => 0, g⟩ (fun r => (∀ c : Dev Cert.AdamBattKernel.nD,
      r.2.mem ((c.tc : Thread Cert.AdamBattKernel.nD Cert.AdamBattKernel.τ).loc Cert.AdamBattKernel.main_arg0) = m ((c.tc : Thread Cert.AdamBattKernel.nD Cert.AdamBattKernel.τ).loc Cert.AdamBattKernel.main_arg0)
      ∧ r.2.mem ((c.tc : Thread Cert.AdamBattKernel.nD Cert.AdamBattKernel.τ).loc Cert.AdamBattKernel.main_arg1) = m ((c.tc : Thread Cert.AdamBattKernel.nD Cert.AdamBattKernel.τ).loc Cert.AdamBattKernel.main_arg1)
      ∧ r.2.mem ((c.tc : Thread Cert.AdamBattKernel.nD Cert.AdamBattKernel.τ).loc Cert.AdamBattKernel.main_arg2) = m ((c.tc : Thread Cert.AdamBattKernel.nD Cert.AdamBattKernel.τ).loc Cert.AdamBattKernel.main_arg2)
      ∧ r.2.mem ((c.tc : Thread Cert.AdamBattKernel.nD Cert.AdamBattKernel.τ).loc Cert.AdamBattKernel.main_arg3) = m ((c.tc : Thread Cert.AdamBattKernel.nD Cert.AdamBattKernel.τ).loc Cert.AdamBattKernel.main_arg3)
      ∧ r.2.mem ((c.tc : Thread Cert.AdamBattKernel.nD Cert.AdamBattKernel.τ).loc Cert.AdamBattKernel.main_arg4) = m ((c.tc : Thread Cert.AdamBattKernel.nD Cert.AdamBattKernel.τ).loc Cert.AdamBattKernel.main_arg4)
      ∧ r.2.mem ((c.tc : Thread Cert.AdamBattKernel.nD Cert.AdamBattKernel.τ).loc Cert.AdamBattKernel.main_arg5) = m ((c.tc : Thread Cert.AdamBattKernel.nD Cert.AdamBattKernel.τ).loc Cert.AdamBattKernel.main_arg5))
      ∧ r.2.sem = fun _ => 0)

def quiescent_AdamBattKernelIdeal [hAdamBattKernelIdeal : Cert.AdamBattKernelIdeal.Facts] [hPre_on_mesh_w_branch_att : Cert.Pre_on_mesh_w_branch_att.Facts] : Prop :=
  ∀ (m : (ℓ : Loc Cert.AdamBattKernelIdeal.nD Cert.AdamBattKernelIdeal.τ Cert.AdamBattKernelIdeal.sig) → Buf (Elt Ideal) ℓ) (g : Dev Cert.AdamBattKernelIdeal.nD → PrngReg), Pre_AdamBattKernelIdeal m →
    θ_run (Cert.AdamBattKernelIdeal.defs (F := Ideal)) (onTc (τ := Cert.AdamBattKernelIdeal.τ) (Cert.AdamBattKernelIdeal.main (F := Ideal))) ⟨m, fun _ => 0, g⟩ (fun r => (∀ c : Dev Cert.AdamBattKernelIdeal.nD,
      r.2.mem ((c.tc : Thread Cert.AdamBattKernelIdeal.nD Cert.AdamBattKernelIdeal.τ).loc Cert.AdamBattKernelIdeal.main_arg0) = m ((c.tc : Thread Cert.AdamBattKernelIdeal.nD Cert.AdamBattKernelIdeal.τ).loc Cert.AdamBattKernelIdeal.main_arg0)
      ∧ r.2.mem ((c.tc : Thread Cert.AdamBattKernelIdeal.nD Cert.AdamBattKernelIdeal.τ).loc Cert.AdamBattKernelIdeal.main_arg1) = m ((c.tc : Thread Cert.AdamBattKernelIdeal.nD Cert.AdamBattKernelIdeal.τ).loc Cert.AdamBattKernelIdeal.main_arg1)
      ∧ r.2.mem ((c.tc : Thread Cert.AdamBattKernelIdeal.nD Cert.AdamBattKernelIdeal.τ).loc Cert.AdamBattKernelIdeal.main_arg2) = m ((c.tc : Thread Cert.AdamBattKernelIdeal.nD Cert.AdamBattKernelIdeal.τ).loc Cert.AdamBattKernelIdeal.main_arg2)
      ∧ r.2.mem ((c.tc : Thread Cert.AdamBattKernelIdeal.nD Cert.AdamBattKernelIdeal.τ).loc Cert.AdamBattKernelIdeal.main_arg3) = m ((c.tc : Thread Cert.AdamBattKernelIdeal.nD Cert.AdamBattKernelIdeal.τ).loc Cert.AdamBattKernelIdeal.main_arg3)
      ∧ r.2.mem ((c.tc : Thread Cert.AdamBattKernelIdeal.nD Cert.AdamBattKernelIdeal.τ).loc Cert.AdamBattKernelIdeal.main_arg4) = m ((c.tc : Thread Cert.AdamBattKernelIdeal.nD Cert.AdamBattKernelIdeal.τ).loc Cert.AdamBattKernelIdeal.main_arg4)
      ∧ r.2.mem ((c.tc : Thread Cert.AdamBattKernelIdeal.nD Cert.AdamBattKernelIdeal.τ).loc Cert.AdamBattKernelIdeal.main_arg5) = m ((c.tc : Thread Cert.AdamBattKernelIdeal.nD Cert.AdamBattKernelIdeal.τ).loc Cert.AdamBattKernelIdeal.main_arg5))
      ∧ r.2.sem = fun _ => 0)

def quiescent_AdamBattReferenceIdeal [hAdamBattReferenceIdeal : Cert.AdamBattReferenceIdeal.Facts] : Prop :=
  ∀ (m : (ℓ : Loc Cert.AdamBattReferenceIdeal.nD Cert.AdamBattReferenceIdeal.τ Cert.AdamBattReferenceIdeal.sig) → Buf (Elt Ideal) ℓ) (g : Dev Cert.AdamBattReferenceIdeal.nD → PrngReg), Pre_AdamBattReferenceIdeal m →
    θ_run (Cert.AdamBattReferenceIdeal.defs (F := Ideal)) (onTc (τ := Cert.AdamBattReferenceIdeal.τ) (Cert.AdamBattReferenceIdeal.main (F := Ideal))) ⟨m, fun _ => 0, g⟩ (fun r => (∀ c : Dev Cert.AdamBattReferenceIdeal.nD,
      r.2.mem ((c.tc : Thread Cert.AdamBattReferenceIdeal.nD Cert.AdamBattReferenceIdeal.τ).loc Cert.AdamBattReferenceIdeal.main_arg0) = m ((c.tc : Thread Cert.AdamBattReferenceIdeal.nD Cert.AdamBattReferenceIdeal.τ).loc Cert.AdamBattReferenceIdeal.main_arg0)
      ∧ r.2.mem ((c.tc : Thread Cert.AdamBattReferenceIdeal.nD Cert.AdamBattReferenceIdeal.τ).loc Cert.AdamBattReferenceIdeal.main_arg1) = m ((c.tc : Thread Cert.AdamBattReferenceIdeal.nD Cert.AdamBattReferenceIdeal.τ).loc Cert.AdamBattReferenceIdeal.main_arg1)
      ∧ r.2.mem ((c.tc : Thread Cert.AdamBattReferenceIdeal.nD Cert.AdamBattReferenceIdeal.τ).loc Cert.AdamBattReferenceIdeal.main_arg2) = m ((c.tc : Thread Cert.AdamBattReferenceIdeal.nD Cert.AdamBattReferenceIdeal.τ).loc Cert.AdamBattReferenceIdeal.main_arg2)
      ∧ r.2.mem ((c.tc : Thread Cert.AdamBattReferenceIdeal.nD Cert.AdamBattReferenceIdeal.τ).loc Cert.AdamBattReferenceIdeal.main_arg3) = m ((c.tc : Thread Cert.AdamBattReferenceIdeal.nD Cert.AdamBattReferenceIdeal.τ).loc Cert.AdamBattReferenceIdeal.main_arg3)
      ∧ r.2.mem ((c.tc : Thread Cert.AdamBattReferenceIdeal.nD Cert.AdamBattReferenceIdeal.τ).loc Cert.AdamBattReferenceIdeal.main_arg4) = m ((c.tc : Thread Cert.AdamBattReferenceIdeal.nD Cert.AdamBattReferenceIdeal.τ).loc Cert.AdamBattReferenceIdeal.main_arg4)
      ∧ r.2.mem ((c.tc : Thread Cert.AdamBattReferenceIdeal.nD Cert.AdamBattReferenceIdeal.τ).loc Cert.AdamBattReferenceIdeal.main_arg5) = m ((c.tc : Thread Cert.AdamBattReferenceIdeal.nD Cert.AdamBattReferenceIdeal.τ).loc Cert.AdamBattReferenceIdeal.main_arg5))
      ∧ r.2.sem = fun _ => 0)

def quiescent_AdamBattReferenceIdeal_pre_on_mesh_w_branch_att [hAdamBattReferenceIdeal : Cert.AdamBattReferenceIdeal.Facts] [hPre_on_mesh_w_branch_att : Cert.Pre_on_mesh_w_branch_att.Facts] : Prop :=
  ∀ (m : (ℓ : Loc Cert.AdamBattReferenceIdeal.nD Cert.AdamBattReferenceIdeal.τ Cert.AdamBattReferenceIdeal.sig) → Buf (Elt Ideal) ℓ) (g : Dev Cert.AdamBattReferenceIdeal.nD → PrngReg), Pre_AdamBattReferenceIdeal_on_mesh_w_branch_att m →
    θ_run (Cert.AdamBattReferenceIdeal.defs (F := Ideal)) (onTc (τ := Cert.AdamBattReferenceIdeal.τ) (Cert.AdamBattReferenceIdeal.main (F := Ideal))) ⟨m, fun _ => 0, g⟩ (fun r => (∀ c : Dev Cert.AdamBattReferenceIdeal.nD,
      r.2.mem ((c.tc : Thread Cert.AdamBattReferenceIdeal.nD Cert.AdamBattReferenceIdeal.τ).loc Cert.AdamBattReferenceIdeal.main_arg0) = m ((c.tc : Thread Cert.AdamBattReferenceIdeal.nD Cert.AdamBattReferenceIdeal.τ).loc Cert.AdamBattReferenceIdeal.main_arg0)
      ∧ r.2.mem ((c.tc : Thread Cert.AdamBattReferenceIdeal.nD Cert.AdamBattReferenceIdeal.τ).loc Cert.AdamBattReferenceIdeal.main_arg1) = m ((c.tc : Thread Cert.AdamBattReferenceIdeal.nD Cert.AdamBattReferenceIdeal.τ).loc Cert.AdamBattReferenceIdeal.main_arg1)
      ∧ r.2.mem ((c.tc : Thread Cert.AdamBattReferenceIdeal.nD Cert.AdamBattReferenceIdeal.τ).loc Cert.AdamBattReferenceIdeal.main_arg2) = m ((c.tc : Thread Cert.AdamBattReferenceIdeal.nD Cert.AdamBattReferenceIdeal.τ).loc Cert.AdamBattReferenceIdeal.main_arg2)
      ∧ r.2.mem ((c.tc : Thread Cert.AdamBattReferenceIdeal.nD Cert.AdamBattReferenceIdeal.τ).loc Cert.AdamBattReferenceIdeal.main_arg3) = m ((c.tc : Thread Cert.AdamBattReferenceIdeal.nD Cert.AdamBattReferenceIdeal.τ).loc Cert.AdamBattReferenceIdeal.main_arg3)
      ∧ r.2.mem ((c.tc : Thread Cert.AdamBattReferenceIdeal.nD Cert.AdamBattReferenceIdeal.τ).loc Cert.AdamBattReferenceIdeal.main_arg4) = m ((c.tc : Thread Cert.AdamBattReferenceIdeal.nD Cert.AdamBattReferenceIdeal.τ).loc Cert.AdamBattReferenceIdeal.main_arg4)
      ∧ r.2.mem ((c.tc : Thread Cert.AdamBattReferenceIdeal.nD Cert.AdamBattReferenceIdeal.τ).loc Cert.AdamBattReferenceIdeal.main_arg5) = m ((c.tc : Thread Cert.AdamBattReferenceIdeal.nD Cert.AdamBattReferenceIdeal.τ).loc Cert.AdamBattReferenceIdeal.main_arg5))
      ∧ r.2.sem = fun _ => 0)

def quiescent_AdamOutKernel [hAdamOutKernel : Cert.AdamOutKernel.Facts] [hPre_on_mesh_w_out : Cert.Pre_on_mesh_w_out.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3)
      ∧ r.2.mem ((c.tc : Thread Cert.AdamOutKernel.nD Cert.AdamOutKernel.τ).loc Cert.AdamOutKernel.main_arg4) = m ((c.tc : Thread Cert.AdamOutKernel.nD Cert.AdamOutKernel.τ).loc Cert.AdamOutKernel.main_arg4)
      ∧ r.2.mem ((c.tc : Thread Cert.AdamOutKernel.nD Cert.AdamOutKernel.τ).loc Cert.AdamOutKernel.main_arg5) = m ((c.tc : Thread Cert.AdamOutKernel.nD Cert.AdamOutKernel.τ).loc Cert.AdamOutKernel.main_arg5))
      ∧ r.2.sem = fun _ => 0)

def quiescent_AdamOutKernelIdeal [hAdamOutKernelIdeal : Cert.AdamOutKernelIdeal.Facts] [hPre_on_mesh_w_out : Cert.Pre_on_mesh_w_out.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
      ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4)
      ∧ r.2.mem ((c.tc : Thread Cert.AdamOutKernelIdeal.nD Cert.AdamOutKernelIdeal.τ).loc Cert.AdamOutKernelIdeal.main_arg5) = m ((c.tc : Thread Cert.AdamOutKernelIdeal.nD Cert.AdamOutKernelIdeal.τ).loc Cert.AdamOutKernelIdeal.main_arg5))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdamOutReferenceIdeal_pre_on_mesh_w_out [hAdamOutReferenceIdeal : Cert.AdamOutReferenceIdeal.Facts] [hPre_on_mesh_w_out : Cert.Pre_on_mesh_w_out.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal_on_mesh_w_out m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdamGateKernel [hAdamGateKernel : Cert.AdamGateKernel.Facts] [hPre_on_mesh_w_ffn_gate : Cert.Pre_on_mesh_w_ffn_gate.Facts] : Prop :=
  ∀ (m : (ℓ : Loc Cert.AdamGateKernel.nD Cert.AdamGateKernel.τ Cert.AdamGateKernel.sig) → Buf (Elt Bits) ℓ) (g : Dev Cert.AdamGateKernel.nD → PrngReg), Pre_AdamGateKernel m →
    θ_run (Cert.AdamGateKernel.defs (F := Bits)) (onTc (τ := Cert.AdamGateKernel.τ) (Cert.AdamGateKernel.main (F := Bits))) ⟨m, fun _ => 0, g⟩ (fun r => (∀ c : Dev Cert.AdamGateKernel.nD,
      r.2.mem ((c.tc : Thread Cert.AdamGateKernel.nD Cert.AdamGateKernel.τ).loc Cert.AdamGateKernel.main_arg0) = m ((c.tc : Thread Cert.AdamGateKernel.nD Cert.AdamGateKernel.τ).loc Cert.AdamGateKernel.main_arg0)
      ∧ r.2.mem ((c.tc : Thread Cert.AdamGateKernel.nD Cert.AdamGateKernel.τ).loc Cert.AdamGateKernel.main_arg1) = m ((c.tc : Thread Cert.AdamGateKernel.nD Cert.AdamGateKernel.τ).loc Cert.AdamGateKernel.main_arg1)
      ∧ r.2.mem ((c.tc : Thread Cert.AdamGateKernel.nD Cert.AdamGateKernel.τ).loc Cert.AdamGateKernel.main_arg2) = m ((c.tc : Thread Cert.AdamGateKernel.nD Cert.AdamGateKernel.τ).loc Cert.AdamGateKernel.main_arg2)
      ∧ r.2.mem ((c.tc : Thread Cert.AdamGateKernel.nD Cert.AdamGateKernel.τ).loc Cert.AdamGateKernel.main_arg3) = m ((c.tc : Thread Cert.AdamGateKernel.nD Cert.AdamGateKernel.τ).loc Cert.AdamGateKernel.main_arg3)
      ∧ r.2.mem ((c.tc : Thread Cert.AdamGateKernel.nD Cert.AdamGateKernel.τ).loc Cert.AdamGateKernel.main_arg4) = m ((c.tc : Thread Cert.AdamGateKernel.nD Cert.AdamGateKernel.τ).loc Cert.AdamGateKernel.main_arg4)
      ∧ r.2.mem ((c.tc : Thread Cert.AdamGateKernel.nD Cert.AdamGateKernel.τ).loc Cert.AdamGateKernel.main_arg5) = m ((c.tc : Thread Cert.AdamGateKernel.nD Cert.AdamGateKernel.τ).loc Cert.AdamGateKernel.main_arg5))
      ∧ r.2.sem = fun _ => 0)

def quiescent_AdamGateKernelIdeal [hAdamGateKernelIdeal : Cert.AdamGateKernelIdeal.Facts] [hPre_on_mesh_w_ffn_gate : Cert.Pre_on_mesh_w_ffn_gate.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg), Pre_AdamGateKernelIdeal m →
    θ_run (Cert.AdamGateKernelIdeal.defs (F := Ideal)) (onTc (τ := Cert.AdamGateKernelIdeal.τ) (Cert.AdamGateKernelIdeal.main (F := Ideal))) ⟨m, fun _ => 0, g⟩ (fun r => (∀ c : Dev Cert.AdamGateKernelIdeal.nD,
      r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
      ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
      ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
      ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3)
      ∧ r.2.mem ((c.tc : Thread Cert.AdamGateKernelIdeal.nD Cert.AdamGateKernelIdeal.τ).loc Cert.AdamGateKernelIdeal.main_arg4) = m ((c.tc : Thread Cert.AdamGateKernelIdeal.nD Cert.AdamGateKernelIdeal.τ).loc Cert.AdamGateKernelIdeal.main_arg4)
      ∧ r.2.mem ((c.tc : Thread Cert.AdamGateKernelIdeal.nD Cert.AdamGateKernelIdeal.τ).loc Cert.AdamGateKernelIdeal.main_arg5) = m ((c.tc : Thread Cert.AdamGateKernelIdeal.nD Cert.AdamGateKernelIdeal.τ).loc Cert.AdamGateKernelIdeal.main_arg5))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3)
      ∧ r.2.mem ((c.tc : Thread Cert.AdamGateReferenceIdeal.nD Cert.AdamGateReferenceIdeal.τ).loc Cert.AdamGateReferenceIdeal.main_arg4) = m ((c.tc : Thread Cert.AdamGateReferenceIdeal.nD Cert.AdamGateReferenceIdeal.τ).loc Cert.AdamGateReferenceIdeal.main_arg4)
      ∧ r.2.mem ((c.tc : Thread Cert.AdamGateReferenceIdeal.nD Cert.AdamGateReferenceIdeal.τ).loc Cert.AdamGateReferenceIdeal.main_arg5) = m ((c.tc : Thread Cert.AdamGateReferenceIdeal.nD Cert.AdamGateReferenceIdeal.τ).loc Cert.AdamGateReferenceIdeal.main_arg5))
      ∧ r.2.sem = fun _ => 0)

def quiescent_AdamGateReferenceIdeal_pre_on_mesh_w_ffn_gate [hAdamGateReferenceIdeal : Cert.AdamGateReferenceIdeal.Facts] [hPre_on_mesh_w_ffn_gate : Cert.Pre_on_mesh_w_ffn_gate.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal_on_mesh_w_ffn_gate m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3)
      ∧ r.2.mem ((c.tc : Thread Cert.AdamGateReferenceIdeal.nD Cert.AdamGateReferenceIdeal.τ).loc Cert.AdamGateReferenceIdeal.main_arg4) = m ((c.tc : Thread Cert.AdamGateReferenceIdeal.nD Cert.AdamGateReferenceIdeal.τ).loc Cert.AdamGateReferenceIdeal.main_arg4)
      ∧ r.2.mem ((c.tc : Thread Cert.AdamGateReferenceIdeal.nD Cert.AdamGateReferenceIdeal.τ).loc Cert.AdamGateReferenceIdeal.main_arg5) = m ((c.tc : Thread Cert.AdamGateReferenceIdeal.nD Cert.AdamGateReferenceIdeal.τ).loc Cert.AdamGateReferenceIdeal.main_arg5))
      ∧ r.2.sem = fun _ => 0)

def quiescent_AdamConvFKernel [hAdamConvFKernel : Cert.AdamConvFKernel.Facts] [hPre_on_mesh_conv_ffn_w : Cert.Pre_on_mesh_conv_ffn_w.Facts] : Prop :=
  ∀ (m : (ℓ : Loc Cert.AdamConvFKernel.nD Cert.AdamConvFKernel.τ Cert.AdamConvFKernel.sig) → Buf (Elt Bits) ℓ) (g : Dev Cert.AdamConvFKernel.nD → PrngReg), Pre_AdamConvFKernel m →
    θ_run (Cert.AdamConvFKernel.defs (F := Bits)) (onTc (τ := Cert.AdamConvFKernel.τ) (Cert.AdamConvFKernel.main (F := Bits))) ⟨m, fun _ => 0, g⟩ (fun r => (∀ c : Dev Cert.AdamConvFKernel.nD,
      r.2.mem ((c.tc : Thread Cert.AdamConvFKernel.nD Cert.AdamConvFKernel.τ).loc Cert.AdamConvFKernel.main_arg0) = m ((c.tc : Thread Cert.AdamConvFKernel.nD Cert.AdamConvFKernel.τ).loc Cert.AdamConvFKernel.main_arg0)
      ∧ r.2.mem ((c.tc : Thread Cert.AdamConvFKernel.nD Cert.AdamConvFKernel.τ).loc Cert.AdamConvFKernel.main_arg1) = m ((c.tc : Thread Cert.AdamConvFKernel.nD Cert.AdamConvFKernel.τ).loc Cert.AdamConvFKernel.main_arg1)
      ∧ r.2.mem ((c.tc : Thread Cert.AdamConvFKernel.nD Cert.AdamConvFKernel.τ).loc Cert.AdamConvFKernel.main_arg2) = m ((c.tc : Thread Cert.AdamConvFKernel.nD Cert.AdamConvFKernel.τ).loc Cert.AdamConvFKernel.main_arg2)
      ∧ r.2.mem ((c.tc : Thread Cert.AdamConvFKernel.nD Cert.AdamConvFKernel.τ).loc Cert.AdamConvFKernel.main_arg3) = m ((c.tc : Thread Cert.AdamConvFKernel.nD Cert.AdamConvFKernel.τ).loc Cert.AdamConvFKernel.main_arg3)
      ∧ r.2.mem ((c.tc : Thread Cert.AdamConvFKernel.nD Cert.AdamConvFKernel.τ).loc Cert.AdamConvFKernel.main_arg4) = m ((c.tc : Thread Cert.AdamConvFKernel.nD Cert.AdamConvFKernel.τ).loc Cert.AdamConvFKernel.main_arg4)
      ∧ r.2.mem ((c.tc : Thread Cert.AdamConvFKernel.nD Cert.AdamConvFKernel.τ).loc Cert.AdamConvFKernel.main_arg5) = m ((c.tc : Thread Cert.AdamConvFKernel.nD Cert.AdamConvFKernel.τ).loc Cert.AdamConvFKernel.main_arg5))
      ∧ r.2.sem = fun _ => 0)

def quiescent_AdamConvFKernelIdeal [hAdamConvFKernelIdeal : Cert.AdamConvFKernelIdeal.Facts] [hPre_on_mesh_conv_ffn_w : Cert.Pre_on_mesh_conv_ffn_w.Facts] : Prop :=
  ∀ (m : (ℓ : Loc Cert.AdamConvFKernelIdeal.nD Cert.AdamConvFKernelIdeal.τ Cert.AdamConvFKernelIdeal.sig) → Buf (Elt Ideal) ℓ) (g : Dev Cert.AdamConvFKernelIdeal.nD → PrngReg), Pre_AdamConvFKernelIdeal m →
    θ_run (Cert.AdamConvFKernelIdeal.defs (F := Ideal)) (onTc (τ := Cert.AdamConvFKernelIdeal.τ) (Cert.AdamConvFKernelIdeal.main (F := Ideal))) ⟨m, fun _ => 0, g⟩ (fun r => (∀ c : Dev Cert.AdamConvFKernelIdeal.nD,
      r.2.mem ((c.tc : Thread Cert.AdamConvFKernelIdeal.nD Cert.AdamConvFKernelIdeal.τ).loc Cert.AdamConvFKernelIdeal.main_arg0) = m ((c.tc : Thread Cert.AdamConvFKernelIdeal.nD Cert.AdamConvFKernelIdeal.τ).loc Cert.AdamConvFKernelIdeal.main_arg0)
      ∧ r.2.mem ((c.tc : Thread Cert.AdamConvFKernelIdeal.nD Cert.AdamConvFKernelIdeal.τ).loc Cert.AdamConvFKernelIdeal.main_arg1) = m ((c.tc : Thread Cert.AdamConvFKernelIdeal.nD Cert.AdamConvFKernelIdeal.τ).loc Cert.AdamConvFKernelIdeal.main_arg1)
      ∧ r.2.mem ((c.tc : Thread Cert.AdamConvFKernelIdeal.nD Cert.AdamConvFKernelIdeal.τ).loc Cert.AdamConvFKernelIdeal.main_arg2) = m ((c.tc : Thread Cert.AdamConvFKernelIdeal.nD Cert.AdamConvFKernelIdeal.τ).loc Cert.AdamConvFKernelIdeal.main_arg2)
      ∧ r.2.mem ((c.tc : Thread Cert.AdamConvFKernelIdeal.nD Cert.AdamConvFKernelIdeal.τ).loc Cert.AdamConvFKernelIdeal.main_arg3) = m ((c.tc : Thread Cert.AdamConvFKernelIdeal.nD Cert.AdamConvFKernelIdeal.τ).loc Cert.AdamConvFKernelIdeal.main_arg3)
      ∧ r.2.mem ((c.tc : Thread Cert.AdamConvFKernelIdeal.nD Cert.AdamConvFKernelIdeal.τ).loc Cert.AdamConvFKernelIdeal.main_arg4) = m ((c.tc : Thread Cert.AdamConvFKernelIdeal.nD Cert.AdamConvFKernelIdeal.τ).loc Cert.AdamConvFKernelIdeal.main_arg4)
      ∧ r.2.mem ((c.tc : Thread Cert.AdamConvFKernelIdeal.nD Cert.AdamConvFKernelIdeal.τ).loc Cert.AdamConvFKernelIdeal.main_arg5) = m ((c.tc : Thread Cert.AdamConvFKernelIdeal.nD Cert.AdamConvFKernelIdeal.τ).loc Cert.AdamConvFKernelIdeal.main_arg5))
      ∧ r.2.sem = fun _ => 0)

def quiescent_AdamConvFReferenceIdeal [hAdamConvFReferenceIdeal : Cert.AdamConvFReferenceIdeal.Facts] : Prop :=
  ∀ (m : (ℓ : Loc Cert.AdamConvFReferenceIdeal.nD Cert.AdamConvFReferenceIdeal.τ Cert.AdamConvFReferenceIdeal.sig) → Buf (Elt Ideal) ℓ) (g : Dev Cert.AdamConvFReferenceIdeal.nD → PrngReg), Pre_AdamConvFReferenceIdeal m →
    θ_run (Cert.AdamConvFReferenceIdeal.defs (F := Ideal)) (onTc (τ := Cert.AdamConvFReferenceIdeal.τ) (Cert.AdamConvFReferenceIdeal.main (F := Ideal))) ⟨m, fun _ => 0, g⟩ (fun r => (∀ c : Dev Cert.AdamConvFReferenceIdeal.nD,
      r.2.mem ((c.tc : Thread Cert.AdamConvFReferenceIdeal.nD Cert.AdamConvFReferenceIdeal.τ).loc Cert.AdamConvFReferenceIdeal.main_arg0) = m ((c.tc : Thread Cert.AdamConvFReferenceIdeal.nD Cert.AdamConvFReferenceIdeal.τ).loc Cert.AdamConvFReferenceIdeal.main_arg0)
      ∧ r.2.mem ((c.tc : Thread Cert.AdamConvFReferenceIdeal.nD Cert.AdamConvFReferenceIdeal.τ).loc Cert.AdamConvFReferenceIdeal.main_arg1) = m ((c.tc : Thread Cert.AdamConvFReferenceIdeal.nD Cert.AdamConvFReferenceIdeal.τ).loc Cert.AdamConvFReferenceIdeal.main_arg1)
      ∧ r.2.mem ((c.tc : Thread Cert.AdamConvFReferenceIdeal.nD Cert.AdamConvFReferenceIdeal.τ).loc Cert.AdamConvFReferenceIdeal.main_arg2) = m ((c.tc : Thread Cert.AdamConvFReferenceIdeal.nD Cert.AdamConvFReferenceIdeal.τ).loc Cert.AdamConvFReferenceIdeal.main_arg2)
      ∧ r.2.mem ((c.tc : Thread Cert.AdamConvFReferenceIdeal.nD Cert.AdamConvFReferenceIdeal.τ).loc Cert.AdamConvFReferenceIdeal.main_arg3) = m ((c.tc : Thread Cert.AdamConvFReferenceIdeal.nD Cert.AdamConvFReferenceIdeal.τ).loc Cert.AdamConvFReferenceIdeal.main_arg3)
      ∧ r.2.mem ((c.tc : Thread Cert.AdamConvFReferenceIdeal.nD Cert.AdamConvFReferenceIdeal.τ).loc Cert.AdamConvFReferenceIdeal.main_arg4) = m ((c.tc : Thread Cert.AdamConvFReferenceIdeal.nD Cert.AdamConvFReferenceIdeal.τ).loc Cert.AdamConvFReferenceIdeal.main_arg4)
      ∧ r.2.mem ((c.tc : Thread Cert.AdamConvFReferenceIdeal.nD Cert.AdamConvFReferenceIdeal.τ).loc Cert.AdamConvFReferenceIdeal.main_arg5) = m ((c.tc : Thread Cert.AdamConvFReferenceIdeal.nD Cert.AdamConvFReferenceIdeal.τ).loc Cert.AdamConvFReferenceIdeal.main_arg5))
      ∧ r.2.sem = fun _ => 0)

def quiescent_AdamConvFReferenceIdeal_pre_on_mesh_conv_ffn_w [hAdamConvFReferenceIdeal : Cert.AdamConvFReferenceIdeal.Facts] [hPre_on_mesh_conv_ffn_w : Cert.Pre_on_mesh_conv_ffn_w.Facts] : Prop :=
  ∀ (m : (ℓ : Loc Cert.AdamConvFReferenceIdeal.nD Cert.AdamConvFReferenceIdeal.τ Cert.AdamConvFReferenceIdeal.sig) → Buf (Elt Ideal) ℓ) (g : Dev Cert.AdamConvFReferenceIdeal.nD → PrngReg), Pre_AdamConvFReferenceIdeal_on_mesh_conv_ffn_w m →
    θ_run (Cert.AdamConvFReferenceIdeal.defs (F := Ideal)) (onTc (τ := Cert.AdamConvFReferenceIdeal.τ) (Cert.AdamConvFReferenceIdeal.main (F := Ideal))) ⟨m, fun _ => 0, g⟩ (fun r => (∀ c : Dev Cert.AdamConvFReferenceIdeal.nD,
      r.2.mem ((c.tc : Thread Cert.AdamConvFReferenceIdeal.nD Cert.AdamConvFReferenceIdeal.τ).loc Cert.AdamConvFReferenceIdeal.main_arg0) = m ((c.tc : Thread Cert.AdamConvFReferenceIdeal.nD Cert.AdamConvFReferenceIdeal.τ).loc Cert.AdamConvFReferenceIdeal.main_arg0)
      ∧ r.2.mem ((c.tc : Thread Cert.AdamConvFReferenceIdeal.nD Cert.AdamConvFReferenceIdeal.τ).loc Cert.AdamConvFReferenceIdeal.main_arg1) = m ((c.tc : Thread Cert.AdamConvFReferenceIdeal.nD Cert.AdamConvFReferenceIdeal.τ).loc Cert.AdamConvFReferenceIdeal.main_arg1)
      ∧ r.2.mem ((c.tc : Thread Cert.AdamConvFReferenceIdeal.nD Cert.AdamConvFReferenceIdeal.τ).loc Cert.AdamConvFReferenceIdeal.main_arg2) = m ((c.tc : Thread Cert.AdamConvFReferenceIdeal.nD Cert.AdamConvFReferenceIdeal.τ).loc Cert.AdamConvFReferenceIdeal.main_arg2)
      ∧ r.2.mem ((c.tc : Thread Cert.AdamConvFReferenceIdeal.nD Cert.AdamConvFReferenceIdeal.τ).loc Cert.AdamConvFReferenceIdeal.main_arg3) = m ((c.tc : Thread Cert.AdamConvFReferenceIdeal.nD Cert.AdamConvFReferenceIdeal.τ).loc Cert.AdamConvFReferenceIdeal.main_arg3)
      ∧ r.2.mem ((c.tc : Thread Cert.AdamConvFReferenceIdeal.nD Cert.AdamConvFReferenceIdeal.τ).loc Cert.AdamConvFReferenceIdeal.main_arg4) = m ((c.tc : Thread Cert.AdamConvFReferenceIdeal.nD Cert.AdamConvFReferenceIdeal.τ).loc Cert.AdamConvFReferenceIdeal.main_arg4)
      ∧ r.2.mem ((c.tc : Thread Cert.AdamConvFReferenceIdeal.nD Cert.AdamConvFReferenceIdeal.τ).loc Cert.AdamConvFReferenceIdeal.main_arg5) = m ((c.tc : Thread Cert.AdamConvFReferenceIdeal.nD Cert.AdamConvFReferenceIdeal.τ).loc Cert.AdamConvFReferenceIdeal.main_arg5))
      ∧ r.2.sem = fun _ => 0)

def quiescent_AdamDownKernel [hAdamDownKernel : Cert.AdamDownKernel.Facts] [hPre_on_mesh_w_ffn_down : Cert.Pre_on_mesh_w_ffn_down.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3)
      ∧ r.2.mem ((c.tc : Thread Cert.AdamDownKernel.nD Cert.AdamDownKernel.τ).loc Cert.AdamDownKernel.main_arg4) = m ((c.tc : Thread Cert.AdamDownKernel.nD Cert.AdamDownKernel.τ).loc Cert.AdamDownKernel.main_arg4)
      ∧ r.2.mem ((c.tc : Thread Cert.AdamDownKernel.nD Cert.AdamDownKernel.τ).loc Cert.AdamDownKernel.main_arg5) = m ((c.tc : Thread Cert.AdamDownKernel.nD Cert.AdamDownKernel.τ).loc Cert.AdamDownKernel.main_arg5))
      ∧ r.2.sem = fun _ => 0)

def quiescent_AdamDownKernelIdeal [hAdamDownKernelIdeal : Cert.AdamDownKernelIdeal.Facts] [hPre_on_mesh_w_ffn_down : Cert.Pre_on_mesh_w_ffn_down.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
      ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4)
      ∧ r.2.mem ((c.tc : Thread Cert.AdamDownKernelIdeal.nD Cert.AdamDownKernelIdeal.τ).loc Cert.AdamDownKernelIdeal.main_arg5) = m ((c.tc : Thread Cert.AdamDownKernelIdeal.nD Cert.AdamDownKernelIdeal.τ).loc Cert.AdamDownKernelIdeal.main_arg5))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5))
      ∧ r.2.sem = fun _ => 0)

def quiescent_AdamDownReferenceIdeal_pre_on_mesh_w_ffn_down [hAdamDownReferenceIdeal : Cert.AdamDownReferenceIdeal.Facts] [hPre_on_mesh_w_ffn_down : Cert.Pre_on_mesh_w_ffn_down.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal_on_mesh_w_ffn_down m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5))
      ∧ r.2.sem = fun _ => 0)

def quiescent_RnnBwdKernel [hRnnBwdKernel : Cert.RnnBwdKernel.Facts] : Prop :=
  ∀ (m : (ℓ : Loc Cert.RnnBwdKernel.nD Cert.RnnBwdKernel.τ Cert.RnnBwdKernel.sig) → Buf (Elt Bits) ℓ) (g : Dev Cert.RnnBwdKernel.nD → PrngReg), Pre_RnnBwdKernel m →
    θ_run (Cert.RnnBwdKernel.defs (F := Bits)) (onTc (τ := Cert.RnnBwdKernel.τ) (Cert.RnnBwdKernel.main (F := Bits))) ⟨m, fun _ => 0, g⟩ (fun r => (∀ c : Dev Cert.RnnBwdKernel.nD,
      r.2.mem ((c.tc : Thread Cert.RnnBwdKernel.nD Cert.RnnBwdKernel.τ).loc Cert.RnnBwdKernel.main_arg0) = m ((c.tc : Thread Cert.RnnBwdKernel.nD Cert.RnnBwdKernel.τ).loc Cert.RnnBwdKernel.main_arg0)
      ∧ r.2.mem ((c.tc : Thread Cert.RnnBwdKernel.nD Cert.RnnBwdKernel.τ).loc Cert.RnnBwdKernel.main_arg1) = m ((c.tc : Thread Cert.RnnBwdKernel.nD Cert.RnnBwdKernel.τ).loc Cert.RnnBwdKernel.main_arg1)
      ∧ r.2.mem ((c.tc : Thread Cert.RnnBwdKernel.nD Cert.RnnBwdKernel.τ).loc Cert.RnnBwdKernel.main_arg2) = m ((c.tc : Thread Cert.RnnBwdKernel.nD Cert.RnnBwdKernel.τ).loc Cert.RnnBwdKernel.main_arg2)
      ∧ r.2.mem ((c.tc : Thread Cert.RnnBwdKernel.nD Cert.RnnBwdKernel.τ).loc Cert.RnnBwdKernel.main_arg3) = m ((c.tc : Thread Cert.RnnBwdKernel.nD Cert.RnnBwdKernel.τ).loc Cert.RnnBwdKernel.main_arg3)
      ∧ r.2.mem ((c.tc : Thread Cert.RnnBwdKernel.nD Cert.RnnBwdKernel.τ).loc Cert.RnnBwdKernel.main_arg4) = m ((c.tc : Thread Cert.RnnBwdKernel.nD Cert.RnnBwdKernel.τ).loc Cert.RnnBwdKernel.main_arg4)
      ∧ r.2.mem ((c.tc : Thread Cert.RnnBwdKernel.nD Cert.RnnBwdKernel.τ).loc Cert.RnnBwdKernel.main_arg5) = m ((c.tc : Thread Cert.RnnBwdKernel.nD Cert.RnnBwdKernel.τ).loc Cert.RnnBwdKernel.main_arg5)
      ∧ r.2.mem ((c.tc : Thread Cert.RnnBwdKernel.nD Cert.RnnBwdKernel.τ).loc Cert.RnnBwdKernel.main_arg6) = m ((c.tc : Thread Cert.RnnBwdKernel.nD Cert.RnnBwdKernel.τ).loc Cert.RnnBwdKernel.main_arg6)
      ∧ r.2.mem ((c.tc : Thread Cert.RnnBwdKernel.nD Cert.RnnBwdKernel.τ).loc Cert.RnnBwdKernel.main_arg7) = m ((c.tc : Thread Cert.RnnBwdKernel.nD Cert.RnnBwdKernel.τ).loc Cert.RnnBwdKernel.main_arg7)
      ∧ r.2.mem ((c.tc : Thread Cert.RnnBwdKernel.nD Cert.RnnBwdKernel.τ).loc Cert.RnnBwdKernel.main_arg8) = m ((c.tc : Thread Cert.RnnBwdKernel.nD Cert.RnnBwdKernel.τ).loc Cert.RnnBwdKernel.main_arg8)
      ∧ r.2.mem ((c.tc : Thread Cert.RnnBwdKernel.nD Cert.RnnBwdKernel.τ).loc Cert.RnnBwdKernel.main_arg9) = m ((c.tc : Thread Cert.RnnBwdKernel.nD Cert.RnnBwdKernel.τ).loc Cert.RnnBwdKernel.main_arg9)
      ∧ r.2.mem ((c.tc : Thread Cert.RnnBwdKernel.nD Cert.RnnBwdKernel.τ).loc Cert.RnnBwdKernel.main_arg10) = m ((c.tc : Thread Cert.RnnBwdKernel.nD Cert.RnnBwdKernel.τ).loc Cert.RnnBwdKernel.main_arg10)
      ∧ r.2.mem ((c.tc : Thread Cert.RnnBwdKernel.nD Cert.RnnBwdKernel.τ).loc Cert.RnnBwdKernel.main_arg11) = m ((c.tc : Thread Cert.RnnBwdKernel.nD Cert.RnnBwdKernel.τ).loc Cert.RnnBwdKernel.main_arg11))
      ∧ r.2.sem = fun _ => 0)

def quiescent_RnnBwdKernelIdeal [hRnnBwdKernelIdeal : Cert.RnnBwdKernelIdeal.Facts] : Prop :=
  ∀ (m : (ℓ : Loc Cert.RnnBwdKernelIdeal.nD Cert.RnnBwdKernelIdeal.τ Cert.RnnBwdKernelIdeal.sig) → Buf (Elt Ideal) ℓ) (g : Dev Cert.RnnBwdKernelIdeal.nD → PrngReg), Pre_RnnBwdKernelIdeal m →
    θ_run (Cert.RnnBwdKernelIdeal.defs (F := Ideal)) (onTc (τ := Cert.RnnBwdKernelIdeal.τ) (Cert.RnnBwdKernelIdeal.main (F := Ideal))) ⟨m, fun _ => 0, g⟩ (fun r => (∀ c : Dev Cert.RnnBwdKernelIdeal.nD,
      r.2.mem ((c.tc : Thread Cert.RnnBwdKernelIdeal.nD Cert.RnnBwdKernelIdeal.τ).loc Cert.RnnBwdKernelIdeal.main_arg0) = m ((c.tc : Thread Cert.RnnBwdKernelIdeal.nD Cert.RnnBwdKernelIdeal.τ).loc Cert.RnnBwdKernelIdeal.main_arg0)
      ∧ r.2.mem ((c.tc : Thread Cert.RnnBwdKernelIdeal.nD Cert.RnnBwdKernelIdeal.τ).loc Cert.RnnBwdKernelIdeal.main_arg1) = m ((c.tc : Thread Cert.RnnBwdKernelIdeal.nD Cert.RnnBwdKernelIdeal.τ).loc Cert.RnnBwdKernelIdeal.main_arg1)
      ∧ r.2.mem ((c.tc : Thread Cert.RnnBwdKernelIdeal.nD Cert.RnnBwdKernelIdeal.τ).loc Cert.RnnBwdKernelIdeal.main_arg2) = m ((c.tc : Thread Cert.RnnBwdKernelIdeal.nD Cert.RnnBwdKernelIdeal.τ).loc Cert.RnnBwdKernelIdeal.main_arg2)
      ∧ r.2.mem ((c.tc : Thread Cert.RnnBwdKernelIdeal.nD Cert.RnnBwdKernelIdeal.τ).loc Cert.RnnBwdKernelIdeal.main_arg3) = m ((c.tc : Thread Cert.RnnBwdKernelIdeal.nD Cert.RnnBwdKernelIdeal.τ).loc Cert.RnnBwdKernelIdeal.main_arg3)
      ∧ r.2.mem ((c.tc : Thread Cert.RnnBwdKernelIdeal.nD Cert.RnnBwdKernelIdeal.τ).loc Cert.RnnBwdKernelIdeal.main_arg4) = m ((c.tc : Thread Cert.RnnBwdKernelIdeal.nD Cert.RnnBwdKernelIdeal.τ).loc Cert.RnnBwdKernelIdeal.main_arg4)
      ∧ r.2.mem ((c.tc : Thread Cert.RnnBwdKernelIdeal.nD Cert.RnnBwdKernelIdeal.τ).loc Cert.RnnBwdKernelIdeal.main_arg5) = m ((c.tc : Thread Cert.RnnBwdKernelIdeal.nD Cert.RnnBwdKernelIdeal.τ).loc Cert.RnnBwdKernelIdeal.main_arg5)
      ∧ r.2.mem ((c.tc : Thread Cert.RnnBwdKernelIdeal.nD Cert.RnnBwdKernelIdeal.τ).loc Cert.RnnBwdKernelIdeal.main_arg6) = m ((c.tc : Thread Cert.RnnBwdKernelIdeal.nD Cert.RnnBwdKernelIdeal.τ).loc Cert.RnnBwdKernelIdeal.main_arg6)
      ∧ r.2.mem ((c.tc : Thread Cert.RnnBwdKernelIdeal.nD Cert.RnnBwdKernelIdeal.τ).loc Cert.RnnBwdKernelIdeal.main_arg7) = m ((c.tc : Thread Cert.RnnBwdKernelIdeal.nD Cert.RnnBwdKernelIdeal.τ).loc Cert.RnnBwdKernelIdeal.main_arg7)
      ∧ r.2.mem ((c.tc : Thread Cert.RnnBwdKernelIdeal.nD Cert.RnnBwdKernelIdeal.τ).loc Cert.RnnBwdKernelIdeal.main_arg8) = m ((c.tc : Thread Cert.RnnBwdKernelIdeal.nD Cert.RnnBwdKernelIdeal.τ).loc Cert.RnnBwdKernelIdeal.main_arg8)
      ∧ r.2.mem ((c.tc : Thread Cert.RnnBwdKernelIdeal.nD Cert.RnnBwdKernelIdeal.τ).loc Cert.RnnBwdKernelIdeal.main_arg9) = m ((c.tc : Thread Cert.RnnBwdKernelIdeal.nD Cert.RnnBwdKernelIdeal.τ).loc Cert.RnnBwdKernelIdeal.main_arg9)
      ∧ r.2.mem ((c.tc : Thread Cert.RnnBwdKernelIdeal.nD Cert.RnnBwdKernelIdeal.τ).loc Cert.RnnBwdKernelIdeal.main_arg10) = m ((c.tc : Thread Cert.RnnBwdKernelIdeal.nD Cert.RnnBwdKernelIdeal.τ).loc Cert.RnnBwdKernelIdeal.main_arg10)
      ∧ r.2.mem ((c.tc : Thread Cert.RnnBwdKernelIdeal.nD Cert.RnnBwdKernelIdeal.τ).loc Cert.RnnBwdKernelIdeal.main_arg11) = m ((c.tc : Thread Cert.RnnBwdKernelIdeal.nD Cert.RnnBwdKernelIdeal.τ).loc Cert.RnnBwdKernelIdeal.main_arg11))
      ∧ r.2.sem = fun _ => 0)

def quiescent_RnnFwdKernel [hRnnFwdKernel : Cert.RnnFwdKernel.Facts] : Prop :=
  ∀ (m : (ℓ : Loc Cert.RnnFwdKernel.nD Cert.RnnFwdKernel.τ Cert.RnnFwdKernel.sig) → Buf (Elt Bits) ℓ) (g : Dev Cert.RnnFwdKernel.nD → PrngReg), Pre_RnnFwdKernel m →
    θ_run (Cert.RnnFwdKernel.defs (F := Bits)) (onTc (τ := Cert.RnnFwdKernel.τ) (Cert.RnnFwdKernel.main (F := Bits))) ⟨m, fun _ => 0, g⟩ (fun r => (∀ c : Dev Cert.RnnFwdKernel.nD,
      r.2.mem ((c.tc : Thread Cert.RnnFwdKernel.nD Cert.RnnFwdKernel.τ).loc Cert.RnnFwdKernel.main_arg0) = m ((c.tc : Thread Cert.RnnFwdKernel.nD Cert.RnnFwdKernel.τ).loc Cert.RnnFwdKernel.main_arg0)
      ∧ r.2.mem ((c.tc : Thread Cert.RnnFwdKernel.nD Cert.RnnFwdKernel.τ).loc Cert.RnnFwdKernel.main_arg1) = m ((c.tc : Thread Cert.RnnFwdKernel.nD Cert.RnnFwdKernel.τ).loc Cert.RnnFwdKernel.main_arg1)
      ∧ r.2.mem ((c.tc : Thread Cert.RnnFwdKernel.nD Cert.RnnFwdKernel.τ).loc Cert.RnnFwdKernel.main_arg2) = m ((c.tc : Thread Cert.RnnFwdKernel.nD Cert.RnnFwdKernel.τ).loc Cert.RnnFwdKernel.main_arg2)
      ∧ r.2.mem ((c.tc : Thread Cert.RnnFwdKernel.nD Cert.RnnFwdKernel.τ).loc Cert.RnnFwdKernel.main_arg3) = m ((c.tc : Thread Cert.RnnFwdKernel.nD Cert.RnnFwdKernel.τ).loc Cert.RnnFwdKernel.main_arg3)
      ∧ r.2.mem ((c.tc : Thread Cert.RnnFwdKernel.nD Cert.RnnFwdKernel.τ).loc Cert.RnnFwdKernel.main_arg4) = m ((c.tc : Thread Cert.RnnFwdKernel.nD Cert.RnnFwdKernel.τ).loc Cert.RnnFwdKernel.main_arg4)
      ∧ r.2.mem ((c.tc : Thread Cert.RnnFwdKernel.nD Cert.RnnFwdKernel.τ).loc Cert.RnnFwdKernel.main_arg5) = m ((c.tc : Thread Cert.RnnFwdKernel.nD Cert.RnnFwdKernel.τ).loc Cert.RnnFwdKernel.main_arg5)
      ∧ r.2.mem ((c.tc : Thread Cert.RnnFwdKernel.nD Cert.RnnFwdKernel.τ).loc Cert.RnnFwdKernel.main_arg6) = m ((c.tc : Thread Cert.RnnFwdKernel.nD Cert.RnnFwdKernel.τ).loc Cert.RnnFwdKernel.main_arg6)
      ∧ r.2.mem ((c.tc : Thread Cert.RnnFwdKernel.nD Cert.RnnFwdKernel.τ).loc Cert.RnnFwdKernel.main_arg7) = m ((c.tc : Thread Cert.RnnFwdKernel.nD Cert.RnnFwdKernel.τ).loc Cert.RnnFwdKernel.main_arg7))
      ∧ r.2.sem = fun _ => 0)

def quiescent_RnnFwdKernelIdeal [hRnnFwdKernelIdeal : Cert.RnnFwdKernelIdeal.Facts] : Prop :=
  ∀ (m : (ℓ : Loc Cert.RnnFwdKernelIdeal.nD Cert.RnnFwdKernelIdeal.τ Cert.RnnFwdKernelIdeal.sig) → Buf (Elt Ideal) ℓ) (g : Dev Cert.RnnFwdKernelIdeal.nD → PrngReg), Pre_RnnFwdKernelIdeal m →
    θ_run (Cert.RnnFwdKernelIdeal.defs (F := Ideal)) (onTc (τ := Cert.RnnFwdKernelIdeal.τ) (Cert.RnnFwdKernelIdeal.main (F := Ideal))) ⟨m, fun _ => 0, g⟩ (fun r => (∀ c : Dev Cert.RnnFwdKernelIdeal.nD,
      r.2.mem ((c.tc : Thread Cert.RnnFwdKernelIdeal.nD Cert.RnnFwdKernelIdeal.τ).loc Cert.RnnFwdKernelIdeal.main_arg0) = m ((c.tc : Thread Cert.RnnFwdKernelIdeal.nD Cert.RnnFwdKernelIdeal.τ).loc Cert.RnnFwdKernelIdeal.main_arg0)
      ∧ r.2.mem ((c.tc : Thread Cert.RnnFwdKernelIdeal.nD Cert.RnnFwdKernelIdeal.τ).loc Cert.RnnFwdKernelIdeal.main_arg1) = m ((c.tc : Thread Cert.RnnFwdKernelIdeal.nD Cert.RnnFwdKernelIdeal.τ).loc Cert.RnnFwdKernelIdeal.main_arg1)
      ∧ r.2.mem ((c.tc : Thread Cert.RnnFwdKernelIdeal.nD Cert.RnnFwdKernelIdeal.τ).loc Cert.RnnFwdKernelIdeal.main_arg2) = m ((c.tc : Thread Cert.RnnFwdKernelIdeal.nD Cert.RnnFwdKernelIdeal.τ).loc Cert.RnnFwdKernelIdeal.main_arg2)
      ∧ r.2.mem ((c.tc : Thread Cert.RnnFwdKernelIdeal.nD Cert.RnnFwdKernelIdeal.τ).loc Cert.RnnFwdKernelIdeal.main_arg3) = m ((c.tc : Thread Cert.RnnFwdKernelIdeal.nD Cert.RnnFwdKernelIdeal.τ).loc Cert.RnnFwdKernelIdeal.main_arg3)
      ∧ r.2.mem ((c.tc : Thread Cert.RnnFwdKernelIdeal.nD Cert.RnnFwdKernelIdeal.τ).loc Cert.RnnFwdKernelIdeal.main_arg4) = m ((c.tc : Thread Cert.RnnFwdKernelIdeal.nD Cert.RnnFwdKernelIdeal.τ).loc Cert.RnnFwdKernelIdeal.main_arg4)
      ∧ r.2.mem ((c.tc : Thread Cert.RnnFwdKernelIdeal.nD Cert.RnnFwdKernelIdeal.τ).loc Cert.RnnFwdKernelIdeal.main_arg5) = m ((c.tc : Thread Cert.RnnFwdKernelIdeal.nD Cert.RnnFwdKernelIdeal.τ).loc Cert.RnnFwdKernelIdeal.main_arg5)
      ∧ r.2.mem ((c.tc : Thread Cert.RnnFwdKernelIdeal.nD Cert.RnnFwdKernelIdeal.τ).loc Cert.RnnFwdKernelIdeal.main_arg6) = m ((c.tc : Thread Cert.RnnFwdKernelIdeal.nD Cert.RnnFwdKernelIdeal.τ).loc Cert.RnnFwdKernelIdeal.main_arg6)
      ∧ r.2.mem ((c.tc : Thread Cert.RnnFwdKernelIdeal.nD Cert.RnnFwdKernelIdeal.τ).loc Cert.RnnFwdKernelIdeal.main_arg7) = m ((c.tc : Thread Cert.RnnFwdKernelIdeal.nD Cert.RnnFwdKernelIdeal.τ).loc Cert.RnnFwdKernelIdeal.main_arg7))
      ∧ r.2.sem = fun _ => 0)

def preserves_Kernel_KernelIdeal : Prop :=
  IdealRules.named_const.Statement Cert.KernelIdeal.κ "ca" .f32 0x3D122279#32 ((80338380498831 / 2251799813685248 : ℝ) : EReal)
  ∧ IdealRules.named_const.Statement Cert.KernelIdeal.κ "ca3" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)) →
    ∃ (v0 : (c : Dev Cert.DactKernelIdeal.nD) → Buf (Elt Ideal) ((c.tc : Thread Cert.DactKernelIdeal.nD Cert.DactKernelIdeal.τ).loc Cert.DactKernelIdeal.main_v0)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v0) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v6) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_DwDownKernel_DwDownKernelIdeal : Prop :=
  True

def algebraic_DwDownKernelIdeal_DwDownReferenceIdeal [hDwDownKernelIdeal : Cert.DwDownKernelIdeal.Facts] [hDwDownReferenceIdeal : Cert.DwDownReferenceIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownKernelIdeal m →
    (∀ c : Dev Cert.DwDownKernelIdeal.nD,
      m' ((c.tc : Thread Cert.DwDownReferenceIdeal.nD Cert.DwDownReferenceIdeal.τ).loc Cert.DwDownReferenceIdeal.main_arg0) = m ((c.tc : Thread Cert.DwDownKernelIdeal.nD Cert.DwDownKernelIdeal.τ).loc Cert.DwDownKernelIdeal.main_arg0)
      ∧ m' ((c.tc : Thread Cert.DwDownReferenceIdeal.nD Cert.DwDownReferenceIdeal.τ).loc Cert.DwDownReferenceIdeal.main_arg1) = m ((c.tc : Thread Cert.DwDownKernelIdeal.nD Cert.DwDownKernelIdeal.τ).loc Cert.DwDownKernelIdeal.main_arg1)) →
    ∃ (v0 : (c : Dev Cert.DwDownKernelIdeal.nD) → Buf (Elt Ideal) ((c.tc : Thread Cert.DwDownKernelIdeal.nD Cert.DwDownKernelIdeal.τ).loc Cert.DwDownKernelIdeal.main_v0)),
      θ_run (Cert.DwDownKernelIdeal.defs (F := Ideal)) (onTc (τ := Cert.DwDownKernelIdeal.τ) (Cert.DwDownKernelIdeal.main (F := Ideal))) ⟨m, fun _ => 0, g⟩ (fun r => ∀ c : Dev Cert.DwDownKernelIdeal.nD,
          r.2.mem ((c.tc : Thread Cert.DwDownKernelIdeal.nD Cert.DwDownKernelIdeal.τ).loc Cert.DwDownKernelIdeal.main_v0) = v0 c
          ∧ r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
          ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v7) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwGateKernel_DwGateKernelIdeal : Prop :=
  True

def algebraic_DwGateKernelIdeal_DwGateReferenceIdeal [hDwGateKernelIdeal : Cert.DwGateKernelIdeal.Facts] [hDwGateReferenceIdeal : Cert.DwGateReferenceIdeal.Facts] : Prop :=
  ∀ (m : (ℓ : Loc Cert.DwGateKernelIdeal.nD Cert.DwGateKernelIdeal.τ Cert.DwGateKernelIdeal.sig) → Buf (Elt Ideal) ℓ) (g : Dev Cert.DwGateKernelIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateKernelIdeal m →
    (∀ c : Dev Cert.DwGateKernelIdeal.nD,
      m' ((c.tc : Thread Cert.DwGateReferenceIdeal.nD Cert.DwGateReferenceIdeal.τ).loc Cert.DwGateReferenceIdeal.main_arg0) = m ((c.tc : Thread Cert.DwGateKernelIdeal.nD Cert.DwGateKernelIdeal.τ).loc Cert.DwGateKernelIdeal.main_arg0)
      ∧ m' ((c.tc : Thread Cert.DwGateReferenceIdeal.nD Cert.DwGateReferenceIdeal.τ).loc Cert.DwGateReferenceIdeal.main_arg1) = m ((c.tc : Thread Cert.DwGateKernelIdeal.nD Cert.DwGateKernelIdeal.τ).loc Cert.DwGateKernelIdeal.main_arg1)) →
    ∃ (v0 : (c : Dev Cert.DwGateKernelIdeal.nD) → Buf (Elt Ideal) ((c.tc : Thread Cert.DwGateKernelIdeal.nD Cert.DwGateKernelIdeal.τ).loc Cert.DwGateKernelIdeal.main_v0)),
      θ_run (Cert.DwGateKernelIdeal.defs (F := Ideal)) (onTc (τ := Cert.DwGateKernelIdeal.τ) (Cert.DwGateKernelIdeal.main (F := Ideal))) ⟨m, fun _ => 0, g⟩ (fun r => ∀ c : Dev Cert.DwGateKernelIdeal.nD,
          r.2.mem ((c.tc : Thread Cert.DwGateKernelIdeal.nD Cert.DwGateKernelIdeal.τ).loc Cert.DwGateKernelIdeal.main_v0) = v0 c
          ∧ r.2.mem ((c.tc : Thread Cert.DwGateKernelIdeal.nD Cert.DwGateKernelIdeal.τ).loc Cert.DwGateKernelIdeal.main_arg0) = m ((c.tc : Thread Cert.DwGateKernelIdeal.nD Cert.DwGateKernelIdeal.τ).loc Cert.DwGateKernelIdeal.main_arg0)
          ∧ r.2.mem ((c.tc : Thread Cert.DwGateKernelIdeal.nD Cert.DwGateKernelIdeal.τ).loc Cert.DwGateKernelIdeal.main_arg1) = m ((c.tc : Thread Cert.DwGateKernelIdeal.nD Cert.DwGateKernelIdeal.τ).loc Cert.DwGateKernelIdeal.main_arg1))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v7) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1))

def preserves_DhFfnKernel_DhFfnKernelIdeal : Prop :=
  True

def algebraic_DhFfnKernelIdeal_DhFfnReferenceIdeal [hDhFfnKernelIdeal : Cert.DhFfnKernelIdeal.Facts] [hDhFfnReferenceIdeal : Cert.DhFfnReferenceIdeal.Facts] : Prop :=
  ∀ (m : (ℓ : Loc Cert.DhFfnKernelIdeal.nD Cert.DhFfnKernelIdeal.τ Cert.DhFfnKernelIdeal.sig) → Buf (Elt Ideal) ℓ) (g : Dev Cert.DhFfnKernelIdeal.nD → PrngReg)
    (m' : (ℓ : Loc Cert.DhFfnReferenceIdeal.nD Cert.DhFfnReferenceIdeal.τ Cert.DhFfnReferenceIdeal.sig) → Buf (Elt Ideal) ℓ) (g' : Dev Cert.DhFfnReferenceIdeal.nD → PrngReg), Pre_DhFfnKernelIdeal m →
    (∀ c : Dev Cert.DhFfnKernelIdeal.nD,
      m' ((c.tc : Thread Cert.DhFfnReferenceIdeal.nD Cert.DhFfnReferenceIdeal.τ).loc Cert.DhFfnReferenceIdeal.main_arg0) = m ((c.tc : Thread Cert.DhFfnKernelIdeal.nD Cert.DhFfnKernelIdeal.τ).loc Cert.DhFfnKernelIdeal.main_arg0)
      ∧ m' ((c.tc : Thread Cert.DhFfnReferenceIdeal.nD Cert.DhFfnReferenceIdeal.τ).loc Cert.DhFfnReferenceIdeal.main_arg1) = m ((c.tc : Thread Cert.DhFfnKernelIdeal.nD Cert.DhFfnKernelIdeal.τ).loc Cert.DhFfnKernelIdeal.main_arg1)
      ∧ m' ((c.tc : Thread Cert.DhFfnReferenceIdeal.nD Cert.DhFfnReferenceIdeal.τ).loc Cert.DhFfnReferenceIdeal.main_arg2) = m ((c.tc : Thread Cert.DhFfnKernelIdeal.nD Cert.DhFfnKernelIdeal.τ).loc Cert.DhFfnKernelIdeal.main_arg2)
      ∧ m' ((c.tc : Thread Cert.DhFfnReferenceIdeal.nD Cert.DhFfnReferenceIdeal.τ).loc Cert.DhFfnReferenceIdeal.main_arg3) = m ((c.tc : Thread Cert.DhFfnKernelIdeal.nD Cert.DhFfnKernelIdeal.τ).loc Cert.DhFfnKernelIdeal.main_arg3)) →
    ∃ (v0 : (c : Dev Cert.DhFfnKernelIdeal.nD) → Buf (Elt Ideal) ((c.tc : Thread Cert.DhFfnKernelIdeal.nD Cert.DhFfnKernelIdeal.τ).loc Cert.DhFfnKernelIdeal.main_v0)),
      θ_run (Cert.DhFfnKernelIdeal.defs (F := Ideal)) (onTc (τ := Cert.DhFfnKernelIdeal.τ) (Cert.DhFfnKernelIdeal.main (F := Ideal))) ⟨m, fun _ => 0, g⟩ (fun r => ∀ c : Dev Cert.DhFfnKernelIdeal.nD,
          r.2.mem ((c.tc : Thread Cert.DhFfnKernelIdeal.nD Cert.DhFfnKernelIdeal.τ).loc Cert.DhFfnKernelIdeal.main_v0) = v0 c
          ∧ r.2.mem ((c.tc : Thread Cert.DhFfnKernelIdeal.nD Cert.DhFfnKernelIdeal.τ).loc Cert.DhFfnKernelIdeal.main_arg0) = m ((c.tc : Thread Cert.DhFfnKernelIdeal.nD Cert.DhFfnKernelIdeal.τ).loc Cert.DhFfnKernelIdeal.main_arg0)
          ∧ r.2.mem ((c.tc : Thread Cert.DhFfnKernelIdeal.nD Cert.DhFfnKernelIdeal.τ).loc Cert.DhFfnKernelIdeal.main_arg1) = m ((c.tc : Thread Cert.DhFfnKernelIdeal.nD Cert.DhFfnKernelIdeal.τ).loc Cert.DhFfnKernelIdeal.main_arg1)
          ∧ r.2.mem ((c.tc : Thread Cert.DhFfnKernelIdeal.nD Cert.DhFfnKernelIdeal.τ).loc Cert.DhFfnKernelIdeal.main_arg2) = m ((c.tc : Thread Cert.DhFfnKernelIdeal.nD Cert.DhFfnKernelIdeal.τ).loc Cert.DhFfnKernelIdeal.main_arg2)
          ∧ r.2.mem ((c.tc : Thread Cert.DhFfnKernelIdeal.nD Cert.DhFfnKernelIdeal.τ).loc Cert.DhFfnKernelIdeal.main_arg3) = m ((c.tc : Thread Cert.DhFfnKernelIdeal.nD Cert.DhFfnKernelIdeal.τ).loc Cert.DhFfnKernelIdeal.main_arg3))
      ∧ θ_run (Cert.DhFfnReferenceIdeal.defs (F := Ideal)) (onTc (τ := Cert.DhFfnReferenceIdeal.τ) (Cert.DhFfnReferenceIdeal.main (F := Ideal))) ⟨m', fun _ => 0, g'⟩ (fun r => ∀ c : Dev Cert.DhFfnReferenceIdeal.nD,
          r.2.mem ((c.tc : Thread Cert.DhFfnReferenceIdeal.nD Cert.DhFfnReferenceIdeal.τ).loc Cert.DhFfnReferenceIdeal.main_v13) = v0 c
          ∧ r.2.mem ((c.tc : Thread Cert.DhFfnReferenceIdeal.nD Cert.DhFfnReferenceIdeal.τ).loc Cert.DhFfnReferenceIdeal.main_arg0) = m' ((c.tc : Thread Cert.DhFfnReferenceIdeal.nD Cert.DhFfnReferenceIdeal.τ).loc Cert.DhFfnReferenceIdeal.main_arg0)
          ∧ r.2.mem ((c.tc : Thread Cert.DhFfnReferenceIdeal.nD Cert.DhFfnReferenceIdeal.τ).loc Cert.DhFfnReferenceIdeal.main_arg1) = m' ((c.tc : Thread Cert.DhFfnReferenceIdeal.nD Cert.DhFfnReferenceIdeal.τ).loc Cert.DhFfnReferenceIdeal.main_arg1)
          ∧ r.2.mem ((c.tc : Thread Cert.DhFfnReferenceIdeal.nD Cert.DhFfnReferenceIdeal.τ).loc Cert.DhFfnReferenceIdeal.main_arg2) = m' ((c.tc : Thread Cert.DhFfnReferenceIdeal.nD Cert.DhFfnReferenceIdeal.τ).loc Cert.DhFfnReferenceIdeal.main_arg2)
          ∧ r.2.mem ((c.tc : Thread Cert.DhFfnReferenceIdeal.nD Cert.DhFfnReferenceIdeal.τ).loc Cert.DhFfnReferenceIdeal.main_arg3) = m' ((c.tc : Thread Cert.DhFfnReferenceIdeal.nD Cert.DhFfnReferenceIdeal.τ).loc Cert.DhFfnReferenceIdeal.main_arg3))

def preserves_DmergedKernel_DmergedKernelIdeal : Prop :=
  True

def algebraic_DmergedKernelIdeal_DmergedReferenceIdeal [hDmergedKernelIdeal : Cert.DmergedKernelIdeal.Facts] [hDmergedReferenceIdeal : Cert.DmergedReferenceIdeal.Facts] : Prop :=
  ∀ (m : (ℓ : Loc Cert.DmergedKernelIdeal.nD Cert.DmergedKernelIdeal.τ Cert.DmergedKernelIdeal.sig) → Buf (Elt Ideal) ℓ) (g : Dev Cert.DmergedKernelIdeal.nD → PrngReg)
    (m' : (ℓ : Loc Cert.DmergedReferenceIdeal.nD Cert.DmergedReferenceIdeal.τ Cert.DmergedReferenceIdeal.sig) → Buf (Elt Ideal) ℓ) (g' : Dev Cert.DmergedReferenceIdeal.nD → PrngReg), Pre_DmergedKernelIdeal m →
    (∀ c : Dev Cert.DmergedKernelIdeal.nD,
      m' ((c.tc : Thread Cert.DmergedReferenceIdeal.nD Cert.DmergedReferenceIdeal.τ).loc Cert.DmergedReferenceIdeal.main_arg0) = m ((c.tc : Thread Cert.DmergedKernelIdeal.nD Cert.DmergedKernelIdeal.τ).loc Cert.DmergedKernelIdeal.main_arg0)
      ∧ m' ((c.tc : Thread Cert.DmergedReferenceIdeal.nD Cert.DmergedReferenceIdeal.τ).loc Cert.DmergedReferenceIdeal.main_arg1) = m ((c.tc : Thread Cert.DmergedKernelIdeal.nD Cert.DmergedKernelIdeal.τ).loc Cert.DmergedKernelIdeal.main_arg1)) →
    ∃ (v0 : (c : Dev Cert.DmergedKernelIdeal.nD) → Buf (Elt Ideal) ((c.tc : Thread Cert.DmergedKernelIdeal.nD Cert.DmergedKernelIdeal.τ).loc Cert.DmergedKernelIdeal.main_v0)),
      θ_run (Cert.DmergedKernelIdeal.defs (F := Ideal)) (onTc (τ := Cert.DmergedKernelIdeal.τ) (Cert.DmergedKernelIdeal.main (F := Ideal))) ⟨m, fun _ => 0, g⟩ (fun r => ∀ c : Dev Cert.DmergedKernelIdeal.nD,
          r.2.mem ((c.tc : Thread Cert.DmergedKernelIdeal.nD Cert.DmergedKernelIdeal.τ).loc Cert.DmergedKernelIdeal.main_v0) = v0 c
          ∧ r.2.mem ((c.tc : Thread Cert.DmergedKernelIdeal.nD Cert.DmergedKernelIdeal.τ).loc Cert.DmergedKernelIdeal.main_arg0) = m ((c.tc : Thread Cert.DmergedKernelIdeal.nD Cert.DmergedKernelIdeal.τ).loc Cert.DmergedKernelIdeal.main_arg0)
          ∧ r.2.mem ((c.tc : Thread Cert.DmergedKernelIdeal.nD Cert.DmergedKernelIdeal.τ).loc Cert.DmergedKernelIdeal.main_arg1) = m ((c.tc : Thread Cert.DmergedKernelIdeal.nD Cert.DmergedKernelIdeal.τ).loc Cert.DmergedKernelIdeal.main_arg1))
      ∧ θ_run (Cert.DmergedReferenceIdeal.defs (F := Ideal)) (onTc (τ := Cert.DmergedReferenceIdeal.τ) (Cert.DmergedReferenceIdeal.main (F := Ideal))) ⟨m', fun _ => 0, g'⟩ (fun r => ∀ c : Dev Cert.DmergedReferenceIdeal.nD,
          r.2.mem ((c.tc : Thread Cert.DmergedReferenceIdeal.nD Cert.DmergedReferenceIdeal.τ).loc Cert.DmergedReferenceIdeal.main_v6) = v0 c
          ∧ r.2.mem ((c.tc : Thread Cert.DmergedReferenceIdeal.nD Cert.DmergedReferenceIdeal.τ).loc Cert.DmergedReferenceIdeal.main_arg0) = m' ((c.tc : Thread Cert.DmergedReferenceIdeal.nD Cert.DmergedReferenceIdeal.τ).loc Cert.DmergedReferenceIdeal.main_arg0)
          ∧ r.2.mem ((c.tc : Thread Cert.DmergedReferenceIdeal.nD Cert.DmergedReferenceIdeal.τ).loc Cert.DmergedReferenceIdeal.main_arg1) = m' ((c.tc : Thread Cert.DmergedReferenceIdeal.nD Cert.DmergedReferenceIdeal.τ).loc Cert.DmergedReferenceIdeal.main_arg1))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v0)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v0) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v7) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DhRnnKernel_DhRnnKernelIdeal : Prop :=
  True

def algebraic_DhRnnKernelIdeal_DhRnnReferenceIdeal [hDhRnnKernelIdeal : Cert.DhRnnKernelIdeal.Facts] [hDhRnnReferenceIdeal : Cert.DhRnnReferenceIdeal.Facts] : Prop :=
  ∀ (m : (ℓ : Loc Cert.DhRnnKernelIdeal.nD Cert.DhRnnKernelIdeal.τ Cert.DhRnnKernelIdeal.sig) → Buf (Elt Ideal) ℓ) (g : Dev Cert.DhRnnKernelIdeal.nD → PrngReg)
    (m' : (ℓ : Loc Cert.DhRnnReferenceIdeal.nD Cert.DhRnnReferenceIdeal.τ Cert.DhRnnReferenceIdeal.sig) → Buf (Elt Ideal) ℓ) (g' : Dev Cert.DhRnnReferenceIdeal.nD → PrngReg), Pre_DhRnnKernelIdeal m →
    (∀ c : Dev Cert.DhRnnKernelIdeal.nD,
      m' ((c.tc : Thread Cert.DhRnnReferenceIdeal.nD Cert.DhRnnReferenceIdeal.τ).loc Cert.DhRnnReferenceIdeal.main_arg0) = m ((c.tc : Thread Cert.DhRnnKernelIdeal.nD Cert.DhRnnKernelIdeal.τ).loc Cert.DhRnnKernelIdeal.main_arg0)
      ∧ m' ((c.tc : Thread Cert.DhRnnReferenceIdeal.nD Cert.DhRnnReferenceIdeal.τ).loc Cert.DhRnnReferenceIdeal.main_arg1) = m ((c.tc : Thread Cert.DhRnnKernelIdeal.nD Cert.DhRnnKernelIdeal.τ).loc Cert.DhRnnKernelIdeal.main_arg1)) →
    ∃ (v0 : (c : Dev Cert.DhRnnKernelIdeal.nD) → Buf (Elt Ideal) ((c.tc : Thread Cert.DhRnnKernelIdeal.nD Cert.DhRnnKernelIdeal.τ).loc Cert.DhRnnKernelIdeal.main_v0)),
      θ_run (Cert.DhRnnKernelIdeal.defs (F := Ideal)) (onTc (τ := Cert.DhRnnKernelIdeal.τ) (Cert.DhRnnKernelIdeal.main (F := Ideal))) ⟨m, fun _ => 0, g⟩ (fun r => ∀ c : Dev Cert.DhRnnKernelIdeal.nD,
          r.2.mem ((c.tc : Thread Cert.DhRnnKernelIdeal.nD Cert.DhRnnKernelIdeal.τ).loc Cert.DhRnnKernelIdeal.main_v0) = v0 c
          ∧ r.2.mem ((c.tc : Thread Cert.DhRnnKernelIdeal.nD Cert.DhRnnKernelIdeal.τ).loc Cert.DhRnnKernelIdeal.main_arg0) = m ((c.tc : Thread Cert.DhRnnKernelIdeal.nD Cert.DhRnnKernelIdeal.τ).loc Cert.DhRnnKernelIdeal.main_arg0)
          ∧ r.2.mem ((c.tc : Thread Cert.DhRnnKernelIdeal.nD Cert.DhRnnKernelIdeal.τ).loc Cert.DhRnnKernelIdeal.main_arg1) = m ((c.tc : Thread Cert.DhRnnKernelIdeal.nD Cert.DhRnnKernelIdeal.τ).loc Cert.DhRnnKernelIdeal.main_arg1))
      ∧ θ_run (Cert.DhRnnReferenceIdeal.defs (F := Ideal)) (onTc (τ := Cert.DhRnnReferenceIdeal.τ) (Cert.DhRnnReferenceIdeal.main (F := Ideal))) ⟨m', fun _ => 0, g'⟩ (fun r => ∀ c : Dev Cert.DhRnnReferenceIdeal.nD,
          r.2.mem ((c.tc : Thread Cert.DhRnnReferenceIdeal.nD Cert.DhRnnReferenceIdeal.τ).loc Cert.DhRnnReferenceIdeal.main_v7) = v0 c
          ∧ r.2.mem ((c.tc : Thread Cert.DhRnnReferenceIdeal.nD Cert.DhRnnReferenceIdeal.τ).loc Cert.DhRnnReferenceIdeal.main_arg0) = m' ((c.tc : Thread Cert.DhRnnReferenceIdeal.nD Cert.DhRnnReferenceIdeal.τ).loc Cert.DhRnnReferenceIdeal.main_arg0)
          ∧ r.2.mem ((c.tc : Thread Cert.DhRnnReferenceIdeal.nD Cert.DhRnnReferenceIdeal.τ).loc Cert.DhRnnReferenceIdeal.main_arg1) = m' ((c.tc : Thread Cert.DhRnnReferenceIdeal.nD Cert.DhRnnReferenceIdeal.τ).loc Cert.DhRnnReferenceIdeal.main_arg1))

def preserves_DwBrnnKernel_DwBrnnKernelIdeal : Prop :=
  True

def algebraic_DwBrnnKernelIdeal_DwBrnnReferenceIdeal [hDwBrnnKernelIdeal : Cert.DwBrnnKernelIdeal.Facts] [hDwBrnnReferenceIdeal : Cert.DwBrnnReferenceIdeal.Facts] : Prop :=
  ∀ (m : (ℓ : Loc Cert.DwBrnnKernelIdeal.nD Cert.DwBrnnKernelIdeal.τ Cert.DwBrnnKernelIdeal.sig) → Buf (Elt Ideal) ℓ) (g : Dev Cert.DwBrnnKernelIdeal.nD → PrngReg)
    (m' : (ℓ : Loc Cert.DwBrnnReferenceIdeal.nD Cert.DwBrnnReferenceIdeal.τ Cert.DwBrnnReferenceIdeal.sig) → Buf (Elt Ideal) ℓ) (g' : Dev Cert.DwBrnnReferenceIdeal.nD → PrngReg), Pre_DwBrnnKernelIdeal m →
    (∀ c : Dev Cert.DwBrnnKernelIdeal.nD,
      m' ((c.tc : Thread Cert.DwBrnnReferenceIdeal.nD Cert.DwBrnnReferenceIdeal.τ).loc Cert.DwBrnnReferenceIdeal.main_arg0) = m ((c.tc : Thread Cert.DwBrnnKernelIdeal.nD Cert.DwBrnnKernelIdeal.τ).loc Cert.DwBrnnKernelIdeal.main_arg0)
      ∧ m' ((c.tc : Thread Cert.DwBrnnReferenceIdeal.nD Cert.DwBrnnReferenceIdeal.τ).loc Cert.DwBrnnReferenceIdeal.main_arg1) = m ((c.tc : Thread Cert.DwBrnnKernelIdeal.nD Cert.DwBrnnKernelIdeal.τ).loc Cert.DwBrnnKernelIdeal.main_arg1)) →
    ∃ (v0 : (c : Dev Cert.DwBrnnKernelIdeal.nD) → Buf (Elt Ideal) ((c.tc : Thread Cert.DwBrnnKernelIdeal.nD Cert.DwBrnnKernelIdeal.τ).loc Cert.DwBrnnKernelIdeal.main_v0)),
      θ_run (Cert.DwBrnnKernelIdeal.defs (F := Ideal)) (onTc (τ := Cert.DwBrnnKernelIdeal.τ) (Cert.DwBrnnKernelIdeal.main (F := Ideal))) ⟨m, fun _ => 0, g⟩ (fun r => ∀ c : Dev Cert.DwBrnnKernelIdeal.nD,
          r.2.mem ((c.tc : Thread Cert.DwBrnnKernelIdeal.nD Cert.DwBrnnKernelIdeal.τ).loc Cert.DwBrnnKernelIdeal.main_v0) = v0 c
          ∧ r.2.mem ((c.tc : Thread Cert.DwBrnnKernelIdeal.nD Cert.DwBrnnKernelIdeal.τ).loc Cert.DwBrnnKernelIdeal.main_arg0) = m ((c.tc : Thread Cert.DwBrnnKernelIdeal.nD Cert.DwBrnnKernelIdeal.τ).loc Cert.DwBrnnKernelIdeal.main_arg0)
          ∧ r.2.mem ((c.tc : Thread Cert.DwBrnnKernelIdeal.nD Cert.DwBrnnKernelIdeal.τ).loc Cert.DwBrnnKernelIdeal.main_arg1) = m ((c.tc : Thread Cert.DwBrnnKernelIdeal.nD Cert.DwBrnnKernelIdeal.τ).loc Cert.DwBrnnKernelIdeal.main_arg1))
      ∧ θ_run (Cert.DwBrnnReferenceIdeal.defs (F := Ideal)) (onTc (τ := Cert.DwBrnnReferenceIdeal.τ) (Cert.DwBrnnReferenceIdeal.main (F := Ideal))) ⟨m', fun _ => 0, g'⟩ (fun r => ∀ c : Dev Cert.DwBrnnReferenceIdeal.nD,
          r.2.mem ((c.tc : Thread Cert.DwBrnnReferenceIdeal.nD Cert.DwBrnnReferenceIdeal.τ).loc Cert.DwBrnnReferenceIdeal.main_v8) = v0 c
          ∧ r.2.mem ((c.tc : Thread Cert.DwBrnnReferenceIdeal.nD Cert.DwBrnnReferenceIdeal.τ).loc Cert.DwBrnnReferenceIdeal.main_arg0) = m' ((c.tc : Thread Cert.DwBrnnReferenceIdeal.nD Cert.DwBrnnReferenceIdeal.τ).loc Cert.DwBrnnReferenceIdeal.main_arg0)
          ∧ r.2.mem ((c.tc : Thread Cert.DwBrnnReferenceIdeal.nD Cert.DwBrnnReferenceIdeal.τ).loc Cert.DwBrnnReferenceIdeal.main_arg1) = m' ((c.tc : Thread Cert.DwBrnnReferenceIdeal.nD Cert.DwBrnnReferenceIdeal.τ).loc Cert.DwBrnnReferenceIdeal.main_arg1))

def preserves_DoAttKernel_DoAttKernelIdeal : Prop :=
  True

def algebraic_DoAttKernelIdeal_DoAttReferenceIdeal [hDoAttKernelIdeal : Cert.DoAttKernelIdeal.Facts] [hDoAttReferenceIdeal : Cert.DoAttReferenceIdeal.Facts] : Prop :=
  ∀ (m : (ℓ : Loc Cert.DoAttKernelIdeal.nD Cert.DoAttKernelIdeal.τ Cert.DoAttKernelIdeal.sig) → Buf (Elt Ideal) ℓ) (g : Dev Cert.DoAttKernelIdeal.nD → PrngReg)
    (m' : (ℓ : Loc Cert.DoAttReferenceIdeal.nD Cert.DoAttReferenceIdeal.τ Cert.DoAttReferenceIdeal.sig) → Buf (Elt Ideal) ℓ) (g' : Dev Cert.DoAttReferenceIdeal.nD → PrngReg), Pre_DoAttKernelIdeal m →
    (∀ c : Dev Cert.DoAttKernelIdeal.nD,
      m' ((c.tc : Thread Cert.DoAttReferenceIdeal.nD Cert.DoAttReferenceIdeal.τ).loc Cert.DoAttReferenceIdeal.main_arg0) = m ((c.tc : Thread Cert.DoAttKernelIdeal.nD Cert.DoAttKernelIdeal.τ).loc Cert.DoAttKernelIdeal.main_arg0)
      ∧ m' ((c.tc : Thread Cert.DoAttReferenceIdeal.nD Cert.DoAttReferenceIdeal.τ).loc Cert.DoAttReferenceIdeal.main_arg1) = m ((c.tc : Thread Cert.DoAttKernelIdeal.nD Cert.DoAttKernelIdeal.τ).loc Cert.DoAttKernelIdeal.main_arg1)) →
    ∃ (v0 : (c : Dev Cert.DoAttKernelIdeal.nD) → Buf (Elt Ideal) ((c.tc : Thread Cert.DoAttKernelIdeal.nD Cert.DoAttKernelIdeal.τ).loc Cert.DoAttKernelIdeal.main_v0)),
      θ_run (Cert.DoAttKernelIdeal.defs (F := Ideal)) (onTc (τ := Cert.DoAttKernelIdeal.τ) (Cert.DoAttKernelIdeal.main (F := Ideal))) ⟨m, fun _ => 0, g⟩ (fun r => ∀ c : Dev Cert.DoAttKernelIdeal.nD,
          r.2.mem ((c.tc : Thread Cert.DoAttKernelIdeal.nD Cert.DoAttKernelIdeal.τ).loc Cert.DoAttKernelIdeal.main_v0) = v0 c
          ∧ r.2.mem ((c.tc : Thread Cert.DoAttKernelIdeal.nD Cert.DoAttKernelIdeal.τ).loc Cert.DoAttKernelIdeal.main_arg0) = m ((c.tc : Thread Cert.DoAttKernelIdeal.nD Cert.DoAttKernelIdeal.τ).loc Cert.DoAttKernelIdeal.main_arg0)
          ∧ r.2.mem ((c.tc : Thread Cert.DoAttKernelIdeal.nD Cert.DoAttKernelIdeal.τ).loc Cert.DoAttKernelIdeal.main_arg1) = m ((c.tc : Thread Cert.DoAttKernelIdeal.nD Cert.DoAttKernelIdeal.τ).loc Cert.DoAttKernelIdeal.main_arg1))
      ∧ θ_run (Cert.DoAttReferenceIdeal.defs (F := Ideal)) (onTc (τ := Cert.DoAttReferenceIdeal.τ) (Cert.DoAttReferenceIdeal.main (F := Ideal))) ⟨m', fun _ => 0, g'⟩ (fun r => ∀ c : Dev Cert.DoAttReferenceIdeal.nD,
          r.2.mem ((c.tc : Thread Cert.DoAttReferenceIdeal.nD Cert.DoAttReferenceIdeal.τ).loc Cert.DoAttReferenceIdeal.main_v8) = v0 c
          ∧ r.2.mem ((c.tc : Thread Cert.DoAttReferenceIdeal.nD Cert.DoAttReferenceIdeal.τ).loc Cert.DoAttReferenceIdeal.main_arg0) = m' ((c.tc : Thread Cert.DoAttReferenceIdeal.nD Cert.DoAttReferenceIdeal.τ).loc Cert.DoAttReferenceIdeal.main_arg0)
          ∧ r.2.mem ((c.tc : Thread Cert.DoAttReferenceIdeal.nD Cert.DoAttReferenceIdeal.τ).loc Cert.DoAttReferenceIdeal.main_arg1) = m' ((c.tc : Thread Cert.DoAttReferenceIdeal.nD Cert.DoAttReferenceIdeal.τ).loc Cert.DoAttReferenceIdeal.main_arg1))

def preserves_DwBattKernel_DwBattKernelIdeal : Prop :=
  True

def algebraic_DwBattKernelIdeal_DwBattReferenceIdeal [hDwBattKernelIdeal : Cert.DwBattKernelIdeal.Facts] [hDwBattReferenceIdeal : Cert.DwBattReferenceIdeal.Facts] : Prop :=
  ∀ (m : (ℓ : Loc Cert.DwBattKernelIdeal.nD Cert.DwBattKernelIdeal.τ Cert.DwBattKernelIdeal.sig) → Buf (Elt Ideal) ℓ) (g : Dev Cert.DwBattKernelIdeal.nD → PrngReg)
    (m' : (ℓ : Loc Cert.DwBattReferenceIdeal.nD Cert.DwBattReferenceIdeal.τ Cert.DwBattReferenceIdeal.sig) → Buf (Elt Ideal) ℓ) (g' : Dev Cert.DwBattReferenceIdeal.nD → PrngReg), Pre_DwBattKernelIdeal m →
    (∀ c : Dev Cert.DwBattKernelIdeal.nD,
      m' ((c.tc : Thread Cert.DwBattReferenceIdeal.nD Cert.DwBattReferenceIdeal.τ).loc Cert.DwBattReferenceIdeal.main_arg0) = m ((c.tc : Thread Cert.DwBattKernelIdeal.nD Cert.DwBattKernelIdeal.τ).loc Cert.DwBattKernelIdeal.main_arg0)
      ∧ m' ((c.tc : Thread Cert.DwBattReferenceIdeal.nD Cert.DwBattReferenceIdeal.τ).loc Cert.DwBattReferenceIdeal.main_arg1) = m ((c.tc : Thread Cert.DwBattKernelIdeal.nD Cert.DwBattKernelIdeal.τ).loc Cert.DwBattKernelIdeal.main_arg1)) →
    ∃ (v0 : (c : Dev Cert.DwBattKernelIdeal.nD) → Buf (Elt Ideal) ((c.tc : Thread Cert.DwBattKernelIdeal.nD Cert.DwBattKernelIdeal.τ).loc Cert.DwBattKernelIdeal.main_v0)),
      θ_run (Cert.DwBattKernelIdeal.defs (F := Ideal)) (onTc (τ := Cert.DwBattKernelIdeal.τ) (Cert.DwBattKernelIdeal.main (F := Ideal))) ⟨m, fun _ => 0, g⟩ (fun r => ∀ c : Dev Cert.DwBattKernelIdeal.nD,
          r.2.mem ((c.tc : Thread Cert.DwBattKernelIdeal.nD Cert.DwBattKernelIdeal.τ).loc Cert.DwBattKernelIdeal.main_v0) = v0 c
          ∧ r.2.mem ((c.tc : Thread Cert.DwBattKernelIdeal.nD Cert.DwBattKernelIdeal.τ).loc Cert.DwBattKernelIdeal.main_arg0) = m ((c.tc : Thread Cert.DwBattKernelIdeal.nD Cert.DwBattKernelIdeal.τ).loc Cert.DwBattKernelIdeal.main_arg0)
          ∧ r.2.mem ((c.tc : Thread Cert.DwBattKernelIdeal.nD Cert.DwBattKernelIdeal.τ).loc Cert.DwBattKernelIdeal.main_arg1) = m ((c.tc : Thread Cert.DwBattKernelIdeal.nD Cert.DwBattKernelIdeal.τ).loc Cert.DwBattKernelIdeal.main_arg1))
      ∧ θ_run (Cert.DwBattReferenceIdeal.defs (F := Ideal)) (onTc (τ := Cert.DwBattReferenceIdeal.τ) (Cert.DwBattReferenceIdeal.main (F := Ideal))) ⟨m', fun _ => 0, g'⟩ (fun r => ∀ c : Dev Cert.DwBattReferenceIdeal.nD,
          r.2.mem ((c.tc : Thread Cert.DwBattReferenceIdeal.nD Cert.DwBattReferenceIdeal.τ).loc Cert.DwBattReferenceIdeal.main_v8) = v0 c
          ∧ r.2.mem ((c.tc : Thread Cert.DwBattReferenceIdeal.nD Cert.DwBattReferenceIdeal.τ).loc Cert.DwBattReferenceIdeal.main_arg0) = m' ((c.tc : Thread Cert.DwBattReferenceIdeal.nD Cert.DwBattReferenceIdeal.τ).loc Cert.DwBattReferenceIdeal.main_arg0)
          ∧ r.2.mem ((c.tc : Thread Cert.DwBattReferenceIdeal.nD Cert.DwBattReferenceIdeal.τ).loc Cert.DwBattReferenceIdeal.main_arg1) = m' ((c.tc : Thread Cert.DwBattReferenceIdeal.nD Cert.DwBattReferenceIdeal.τ).loc Cert.DwBattReferenceIdeal.main_arg1))

def preserves_DwInAKernel_DwInAKernelIdeal : Prop :=
  True

def algebraic_DwInAKernelIdeal_DwInAReferenceIdeal [hDwInAKernelIdeal : Cert.DwInAKernelIdeal.Facts] [hDwInAReferenceIdeal : Cert.DwInAReferenceIdeal.Facts] : Prop :=
  ∀ (m : (ℓ : Loc Cert.DwInAKernelIdeal.nD Cert.DwInAKernelIdeal.τ Cert.DwInAKernelIdeal.sig) → Buf (Elt Ideal) ℓ) (g : Dev Cert.DwInAKernelIdeal.nD → PrngReg)
    (m' : (ℓ : Loc Cert.DwInAReferenceIdeal.nD Cert.DwInAReferenceIdeal.τ Cert.DwInAReferenceIdeal.sig) → Buf (Elt Ideal) ℓ) (g' : Dev Cert.DwInAReferenceIdeal.nD → PrngReg), Pre_DwInAKernelIdeal m →
    (∀ c : Dev Cert.DwInAKernelIdeal.nD,
      m' ((c.tc : Thread Cert.DwInAReferenceIdeal.nD Cert.DwInAReferenceIdeal.τ).loc Cert.DwInAReferenceIdeal.main_arg0) = m ((c.tc : Thread Cert.DwInAKernelIdeal.nD Cert.DwInAKernelIdeal.τ).loc Cert.DwInAKernelIdeal.main_arg0)
      ∧ m' ((c.tc : Thread Cert.DwInAReferenceIdeal.nD Cert.DwInAReferenceIdeal.τ).loc Cert.DwInAReferenceIdeal.main_arg1) = m ((c.tc : Thread Cert.DwInAKernelIdeal.nD Cert.DwInAKernelIdeal.τ).loc Cert.DwInAKernelIdeal.main_arg1)) →
    ∃ (v0 : (c : Dev Cert.DwInAKernelIdeal.nD) → Buf (Elt Ideal) ((c.tc : Thread Cert.DwInAKernelIdeal.nD Cert.DwInAKernelIdeal.τ).loc Cert.DwInAKernelIdeal.main_v0)),
      θ_run (Cert.DwInAKernelIdeal.defs (F := Ideal)) (onTc (τ := Cert.DwInAKernelIdeal.τ) (Cert.DwInAKernelIdeal.main (F := Ideal))) ⟨m, fun _ => 0, g⟩ (fun r => ∀ c : Dev Cert.DwInAKernelIdeal.nD,
          r.2.mem ((c.tc : Thread Cert.DwInAKernelIdeal.nD Cert.DwInAKernelIdeal.τ).loc Cert.DwInAKernelIdeal.main_v0) = v0 c
          ∧ r.2.mem ((c.tc : Thread Cert.DwInAKernelIdeal.nD Cert.DwInAKernelIdeal.τ).loc Cert.DwInAKernelIdeal.main_arg0) = m ((c.tc : Thread Cert.DwInAKernelIdeal.nD Cert.DwInAKernelIdeal.τ).loc Cert.DwInAKernelIdeal.main_arg0)
          ∧ r.2.mem ((c.tc : Thread Cert.DwInAKernelIdeal.nD Cert.DwInAKernelIdeal.τ).loc Cert.DwInAKernelIdeal.main_arg1) = m ((c.tc : Thread Cert.DwInAKernelIdeal.nD Cert.DwInAKernelIdeal.τ).loc Cert.DwInAKernelIdeal.main_arg1))
      ∧ θ_run (Cert.DwInAReferenceIdeal.defs (F := Ideal)) (onTc (τ := Cert.DwInAReferenceIdeal.τ) (Cert.DwInAReferenceIdeal.main (F := Ideal))) ⟨m', fun _ => 0, g'⟩ (fun r => ∀ c : Dev Cert.DwInAReferenceIdeal.nD,
          r.2.mem ((c.tc : Thread Cert.DwInAReferenceIdeal.nD Cert.DwInAReferenceIdeal.τ).loc Cert.DwInAReferenceIdeal.main_v7) = v0 c
          ∧ r.2.mem ((c.tc : Thread Cert.DwInAReferenceIdeal.nD Cert.DwInAReferenceIdeal.τ).loc Cert.DwInAReferenceIdeal.main_arg0) = m' ((c.tc : Thread Cert.DwInAReferenceIdeal.nD Cert.DwInAReferenceIdeal.τ).loc Cert.DwInAReferenceIdeal.main_arg0)
          ∧ r.2.mem ((c.tc : Thread Cert.DwInAReferenceIdeal.nD Cert.DwInAReferenceIdeal.τ).loc Cert.DwInAReferenceIdeal.main_arg1) = m' ((c.tc : Thread Cert.DwInAReferenceIdeal.nD Cert.DwInAReferenceIdeal.τ).loc Cert.DwInAReferenceIdeal.main_arg1))

def preserves_DwInRKernel_DwInRKernelIdeal : Prop :=
  True

def algebraic_DwInRKernelIdeal_DwInRReferenceIdeal [hDwInRKernelIdeal : Cert.DwInRKernelIdeal.Facts] [hDwInRReferenceIdeal : Cert.DwInRReferenceIdeal.Facts] : Prop :=
  ∀ (m : (ℓ : Loc Cert.DwInRKernelIdeal.nD Cert.DwInRKernelIdeal.τ Cert.DwInRKernelIdeal.sig) → Buf (Elt Ideal) ℓ) (g : Dev Cert.DwInRKernelIdeal.nD → PrngReg)
    (m' : (ℓ : Loc Cert.DwInRReferenceIdeal.nD Cert.DwInRReferenceIdeal.τ Cert.DwInRReferenceIdeal.sig) → Buf (Elt Ideal) ℓ) (g' : Dev Cert.DwInRReferenceIdeal.nD → PrngReg), Pre_DwInRKernelIdeal m →
    (∀ c : Dev Cert.DwInRKernelIdeal.nD,
      m' ((c.tc : Thread Cert.DwInRReferenceIdeal.nD Cert.DwInRReferenceIdeal.τ).loc Cert.DwInRReferenceIdeal.main_arg0) = m ((c.tc : Thread Cert.DwInRKernelIdeal.nD Cert.DwInRKernelIdeal.τ).loc Cert.DwInRKernelIdeal.main_arg0)
      ∧ m' ((c.tc : Thread Cert.DwInRReferenceIdeal.nD Cert.DwInRReferenceIdeal.τ).loc Cert.DwInRReferenceIdeal.main_arg1) = m ((c.tc : Thread Cert.DwInRKernelIdeal.nD Cert.DwInRKernelIdeal.τ).loc Cert.DwInRKernelIdeal.main_arg1)) →
    ∃ (v0 : (c : Dev Cert.DwInRKernelIdeal.nD) → Buf (Elt Ideal) ((c.tc : Thread Cert.DwInRKernelIdeal.nD Cert.DwInRKernelIdeal.τ).loc Cert.DwInRKernelIdeal.main_v0)),
      θ_run (Cert.DwInRKernelIdeal.defs (F := Ideal)) (onTc (τ := Cert.DwInRKernelIdeal.τ) (Cert.DwInRKernelIdeal.main (F := Ideal))) ⟨m, fun _ => 0, g⟩ (fun r => ∀ c : Dev Cert.DwInRKernelIdeal.nD,
          r.2.mem ((c.tc : Thread Cert.DwInRKernelIdeal.nD Cert.DwInRKernelIdeal.τ).loc Cert.DwInRKernelIdeal.main_v0) = v0 c
          ∧ r.2.mem ((c.tc : Thread Cert.DwInRKernelIdeal.nD Cert.DwInRKernelIdeal.τ).loc Cert.DwInRKernelIdeal.main_arg0) = m ((c.tc : Thread Cert.DwInRKernelIdeal.nD Cert.DwInRKernelIdeal.τ).loc Cert.DwInRKernelIdeal.main_arg0)
          ∧ r.2.mem ((c.tc : Thread Cert.DwInRKernelIdeal.nD Cert.DwInRKernelIdeal.τ).loc Cert.DwInRKernelIdeal.main_arg1) = m ((c.tc : Thread Cert.DwInRKernelIdeal.nD Cert.DwInRKernelIdeal.τ).loc Cert.DwInRKernelIdeal.main_arg1))
      ∧ θ_run (Cert.DwInRReferenceIdeal.defs (F := Ideal)) (onTc (τ := Cert.DwInRReferenceIdeal.τ) (Cert.DwInRReferenceIdeal.main (F := Ideal))) ⟨m', fun _ => 0, g'⟩ (fun r => ∀ c : Dev Cert.DwInRReferenceIdeal.nD,
          r.2.mem ((c.tc : Thread Cert.DwInRReferenceIdeal.nD Cert.DwInRReferenceIdeal.τ).loc Cert.DwInRReferenceIdeal.main_v7) = v0 c
          ∧ r.2.mem ((c.tc : Thread Cert.DwInRReferenceIdeal.nD Cert.DwInRReferenceIdeal.τ).loc Cert.DwInRReferenceIdeal.main_arg0) = m' ((c.tc : Thread Cert.DwInRReferenceIdeal.nD Cert.DwInRReferenceIdeal.τ).loc Cert.DwInRReferenceIdeal.main_arg0)
          ∧ r.2.mem ((c.tc : Thread Cert.DwInRReferenceIdeal.nD Cert.DwInRReferenceIdeal.τ).loc Cert.DwInRReferenceIdeal.main_arg1) = m' ((c.tc : Thread Cert.DwInRReferenceIdeal.nD Cert.DwInRReferenceIdeal.τ).loc Cert.DwInRReferenceIdeal.main_arg1))

def preserves_DwInGKernel_DwInGKernelIdeal : Prop :=
  True

def algebraic_DwInGKernelIdeal_DwInGReferenceIdeal [hDwInGKernelIdeal : Cert.DwInGKernelIdeal.Facts] [hDwInGReferenceIdeal : Cert.DwInGReferenceIdeal.Facts] : Prop :=
  ∀ (m : (ℓ : Loc Cert.DwInGKernelIdeal.nD Cert.DwInGKernelIdeal.τ Cert.DwInGKernelIdeal.sig) → Buf (Elt Ideal) ℓ) (g : Dev Cert.DwInGKernelIdeal.nD → PrngReg)
    (m' : (ℓ : Loc Cert.DwInGReferenceIdeal.nD Cert.DwInGReferenceIdeal.τ Cert.DwInGReferenceIdeal.sig) → Buf (Elt Ideal) ℓ) (g' : Dev Cert.DwInGReferenceIdeal.nD → PrngReg), Pre_DwInGKernelIdeal m →
    (∀ c : Dev Cert.DwInGKernelIdeal.nD,
      m' ((c.tc : Thread Cert.DwInGReferenceIdeal.nD Cert.DwInGReferenceIdeal.τ).loc Cert.DwInGReferenceIdeal.main_arg0) = m ((c.tc : Thread Cert.DwInGKernelIdeal.nD Cert.DwInGKernelIdeal.τ).loc Cert.DwInGKernelIdeal.main_arg0)
      ∧ m' ((c.tc : Thread Cert.DwInGReferenceIdeal.nD Cert.DwInGReferenceIdeal.τ).loc Cert.DwInGReferenceIdeal.main_arg1) = m ((c.tc : Thread Cert.DwInGKernelIdeal.nD Cert.DwInGKernelIdeal.τ).loc Cert.DwInGKernelIdeal.main_arg1)) →
    ∃ (v0 : (c : Dev Cert.DwInGKernelIdeal.nD) → Buf (Elt Ideal) ((c.tc : Thread Cert.DwInGKernelIdeal.nD Cert.DwInGKernelIdeal.τ).loc Cert.DwInGKernelIdeal.main_v0)),
      θ_run (Cert.DwInGKernelIdeal.defs (F := Ideal)) (onTc (τ := Cert.DwInGKernelIdeal.τ) (Cert.DwInGKernelIdeal.main (F := Ideal))) ⟨m, fun _ => 0, g⟩ (fun r => ∀ c : Dev Cert.DwInGKernelIdeal.nD,
          r.2.mem ((c.tc : Thread Cert.DwInGKernelIdeal.nD Cert.DwInGKernelIdeal.τ).loc Cert.DwInGKernelIdeal.main_v0) = v0 c
          ∧ r.2.mem ((c.tc : Thread Cert.DwInGKernelIdeal.nD Cert.DwInGKernelIdeal.τ).loc Cert.DwInGKernelIdeal.main_arg0) = m ((c.tc : Thread Cert.DwInGKernelIdeal.nD Cert.DwInGKernelIdeal.τ).loc Cert.DwInGKernelIdeal.main_arg0)
          ∧ r.2.mem ((c.tc : Thread Cert.DwInGKernelIdeal.nD Cert.DwInGKernelIdeal.τ).loc Cert.DwInGKernelIdeal.main_arg1) = m ((c.tc : Thread Cert.DwInGKernelIdeal.nD Cert.DwInGKernelIdeal.τ).loc Cert.DwInGKernelIdeal.main_arg1))
      ∧ θ_run (Cert.DwInGReferenceIdeal.defs (F := Ideal)) (onTc (τ := Cert.DwInGReferenceIdeal.τ) (Cert.DwInGReferenceIdeal.main (F := Ideal))) ⟨m', fun _ => 0, g'⟩ (fun r => ∀ c : Dev Cert.DwInGReferenceIdeal.nD,
          r.2.mem ((c.tc : Thread Cert.DwInGReferenceIdeal.nD Cert.DwInGReferenceIdeal.τ).loc Cert.DwInGReferenceIdeal.main_v7) = v0 c
          ∧ r.2.mem ((c.tc : Thread Cert.DwInGReferenceIdeal.nD Cert.DwInGReferenceIdeal.τ).loc Cert.DwInGReferenceIdeal.main_arg0) = m' ((c.tc : Thread Cert.DwInGReferenceIdeal.nD Cert.DwInGReferenceIdeal.τ).loc Cert.DwInGReferenceIdeal.main_arg0)
          ∧ r.2.mem ((c.tc : Thread Cert.DwInGReferenceIdeal.nD Cert.DwInGReferenceIdeal.τ).loc Cert.DwInGReferenceIdeal.main_arg1) = m' ((c.tc : Thread Cert.DwInGReferenceIdeal.nD Cert.DwInGReferenceIdeal.τ).loc Cert.DwInGReferenceIdeal.main_arg1))

def preserves_DhMixKernel_DhMixKernelIdeal : Prop :=
  True

def algebraic_DhMixKernelIdeal_DhMixReferenceIdeal [hDhMixKernelIdeal : Cert.DhMixKernelIdeal.Facts] [hDhMixReferenceIdeal : Cert.DhMixReferenceIdeal.Facts] : Prop :=
  ∀ (m : (ℓ : Loc Cert.DhMixKernelIdeal.nD Cert.DhMixKernelIdeal.τ Cert.DhMixKernelIdeal.sig) → Buf (Elt Ideal) ℓ) (g : Dev Cert.DhMixKernelIdeal.nD → PrngReg)
    (m' : (ℓ : Loc Cert.DhMixReferenceIdeal.nD Cert.DhMixReferenceIdeal.τ Cert.DhMixReferenceIdeal.sig) → Buf (Elt Ideal) ℓ) (g' : Dev Cert.DhMixReferenceIdeal.nD → PrngReg), Pre_DhMixKernelIdeal m →
    (∀ c : Dev Cert.DhMixKernelIdeal.nD,
      m' ((c.tc : Thread Cert.DhMixReferenceIdeal.nD Cert.DhMixReferenceIdeal.τ).loc Cert.DhMixReferenceIdeal.main_arg0) = m ((c.tc : Thread Cert.DhMixKernelIdeal.nD Cert.DhMixKernelIdeal.τ).loc Cert.DhMixKernelIdeal.main_arg0)
      ∧ m' ((c.tc : Thread Cert.DhMixReferenceIdeal.nD Cert.DhMixReferenceIdeal.τ).loc Cert.DhMixReferenceIdeal.main_arg1) = m ((c.tc : Thread Cert.DhMixKernelIdeal.nD Cert.DhMixKernelIdeal.τ).loc Cert.DhMixKernelIdeal.main_arg1)
      ∧ m' ((c.tc : Thread Cert.DhMixReferenceIdeal.nD Cert.DhMixReferenceIdeal.τ).loc Cert.DhMixReferenceIdeal.main_arg2) = m ((c.tc : Thread Cert.DhMixKernelIdeal.nD Cert.DhMixKernelIdeal.τ).loc Cert.DhMixKernelIdeal.main_arg2)
      ∧ m' ((c.tc : Thread Cert.DhMixReferenceIdeal.nD Cert.DhMixReferenceIdeal.τ).loc Cert.DhMixReferenceIdeal.main_arg3) = m ((c.tc : Thread Cert.DhMixKernelIdeal.nD Cert.DhMixKernelIdeal.τ).loc Cert.DhMixKernelIdeal.main_arg3)
      ∧ m' ((c.tc : Thread Cert.DhMixReferenceIdeal.nD Cert.DhMixReferenceIdeal.τ).loc Cert.DhMixReferenceIdeal.main_arg4) = m ((c.tc : Thread Cert.DhMixKernelIdeal.nD Cert.DhMixKernelIdeal.τ).loc Cert.DhMixKernelIdeal.main_arg4)
      ∧ m' ((c.tc : Thread Cert.DhMixReferenceIdeal.nD Cert.DhMixReferenceIdeal.τ).loc Cert.DhMixReferenceIdeal.main_arg5) = m ((c.tc : Thread Cert.DhMixKernelIdeal.nD Cert.DhMixKernelIdeal.τ).loc Cert.DhMixKernelIdeal.main_arg5)) →
    ∃ (v0 : (c : Dev Cert.DhMixKernelIdeal.nD) → Buf (Elt Ideal) ((c.tc : Thread Cert.DhMixKernelIdeal.nD Cert.DhMixKernelIdeal.τ).loc Cert.DhMixKernelIdeal.main_v0)),
      θ_run (Cert.DhMixKernelIdeal.defs (F := Ideal)) (onTc (τ := Cert.DhMixKernelIdeal.τ) (Cert.DhMixKernelIdeal.main (F := Ideal))) ⟨m, fun _ => 0, g⟩ (fun r => ∀ c : Dev Cert.DhMixKernelIdeal.nD,
          r.2.mem ((c.tc : Thread Cert.DhMixKernelIdeal.nD Cert.DhMixKernelIdeal.τ).loc Cert.DhMixKernelIdeal.main_v0) = v0 c
          ∧ r.2.mem ((c.tc : Thread Cert.DhMixKernelIdeal.nD Cert.DhMixKernelIdeal.τ).loc Cert.DhMixKernelIdeal.main_arg0) = m ((c.tc : Thread Cert.DhMixKernelIdeal.nD Cert.DhMixKernelIdeal.τ).loc Cert.DhMixKernelIdeal.main_arg0)
          ∧ r.2.mem ((c.tc : Thread Cert.DhMixKernelIdeal.nD Cert.DhMixKernelIdeal.τ).loc Cert.DhMixKernelIdeal.main_arg1) = m ((c.tc : Thread Cert.DhMixKernelIdeal.nD Cert.DhMixKernelIdeal.τ).loc Cert.DhMixKernelIdeal.main_arg1)
          ∧ r.2.mem ((c.tc : Thread Cert.DhMixKernelIdeal.nD Cert.DhMixKernelIdeal.τ).loc Cert.DhMixKernelIdeal.main_arg2) = m ((c.tc : Thread Cert.DhMixKernelIdeal.nD Cert.DhMixKernelIdeal.τ).loc Cert.DhMixKernelIdeal.main_arg2)
          ∧ r.2.mem ((c.tc : Thread Cert.DhMixKernelIdeal.nD Cert.DhMixKernelIdeal.τ).loc Cert.DhMixKernelIdeal.main_arg3) = m ((c.tc : Thread Cert.DhMixKernelIdeal.nD Cert.DhMixKernelIdeal.τ).loc Cert.DhMixKernelIdeal.main_arg3)
          ∧ r.2.mem ((c.tc : Thread Cert.DhMixKernelIdeal.nD Cert.DhMixKernelIdeal.τ).loc Cert.DhMixKernelIdeal.main_arg4) = m ((c.tc : Thread Cert.DhMixKernelIdeal.nD Cert.DhMixKernelIdeal.τ).loc Cert.DhMixKernelIdeal.main_arg4)
          ∧ r.2.mem ((c.tc : Thread Cert.DhMixKernelIdeal.nD Cert.DhMixKernelIdeal.τ).loc Cert.DhMixKernelIdeal.main_arg5) = m ((c.tc : Thread Cert.DhMixKernelIdeal.nD Cert.DhMixKernelIdeal.τ).loc Cert.DhMixKernelIdeal.main_arg5))
      ∧ θ_run (Cert.DhMixReferenceIdeal.defs (F := Ideal)) (onTc (τ := Cert.DhMixReferenceIdeal.τ) (Cert.DhMixReferenceIdeal.main (F := Ideal))) ⟨m', fun _ => 0, g'⟩ (fun r => ∀ c : Dev Cert.DhMixReferenceIdeal.nD,
          r.2.mem ((c.tc : Thread Cert.DhMixReferenceIdeal.nD Cert.DhMixReferenceIdeal.τ).loc Cert.DhMixReferenceIdeal.main_v20) = v0 c
          ∧ r.2.mem ((c.tc : Thread Cert.DhMixReferenceIdeal.nD Cert.DhMixReferenceIdeal.τ).loc Cert.DhMixReferenceIdeal.main_arg0) = m' ((c.tc : Thread Cert.DhMixReferenceIdeal.nD Cert.DhMixReferenceIdeal.τ).loc Cert.DhMixReferenceIdeal.main_arg0)
          ∧ r.2.mem ((c.tc : Thread Cert.DhMixReferenceIdeal.nD Cert.DhMixReferenceIdeal.τ).loc Cert.DhMixReferenceIdeal.main_arg1) = m' ((c.tc : Thread Cert.DhMixReferenceIdeal.nD Cert.DhMixReferenceIdeal.τ).loc Cert.DhMixReferenceIdeal.main_arg1)
          ∧ r.2.mem ((c.tc : Thread Cert.DhMixReferenceIdeal.nD Cert.DhMixReferenceIdeal.τ).loc Cert.DhMixReferenceIdeal.main_arg2) = m' ((c.tc : Thread Cert.DhMixReferenceIdeal.nD Cert.DhMixReferenceIdeal.τ).loc Cert.DhMixReferenceIdeal.main_arg2)
          ∧ r.2.mem ((c.tc : Thread Cert.DhMixReferenceIdeal.nD Cert.DhMixReferenceIdeal.τ).loc Cert.DhMixReferenceIdeal.main_arg3) = m' ((c.tc : Thread Cert.DhMixReferenceIdeal.nD Cert.DhMixReferenceIdeal.τ).loc Cert.DhMixReferenceIdeal.main_arg3)
          ∧ r.2.mem ((c.tc : Thread Cert.DhMixReferenceIdeal.nD Cert.DhMixReferenceIdeal.τ).loc Cert.DhMixReferenceIdeal.main_arg4) = m' ((c.tc : Thread Cert.DhMixReferenceIdeal.nD Cert.DhMixReferenceIdeal.τ).loc Cert.DhMixReferenceIdeal.main_arg4)
          ∧ r.2.mem ((c.tc : Thread Cert.DhMixReferenceIdeal.nD Cert.DhMixReferenceIdeal.τ).loc Cert.DhMixReferenceIdeal.main_arg5) = m' ((c.tc : Thread Cert.DhMixReferenceIdeal.nD Cert.DhMixReferenceIdeal.τ).loc Cert.DhMixReferenceIdeal.main_arg5))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)) →
    ∃ (v0 : (c : Dev Cert.GatesKernelIdeal.nD) → Buf (Elt Ideal) ((c.tc : Thread Cert.GatesKernelIdeal.nD Cert.GatesKernelIdeal.τ).loc Cert.GatesKernelIdeal.main_v0)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v0) = v0 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v3) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_PrKernel_PrKernelIdeal : Prop :=
  True

def algebraic_PrKernelIdeal_PrReferenceIdeal [hPrKernelIdeal : Cert.PrKernelIdeal.Facts] [hPrReferenceIdeal : Cert.PrReferenceIdeal.Facts] : Prop :=
  ∀ (m : (ℓ : Loc Cert.PrKernelIdeal.nD Cert.PrKernelIdeal.τ Cert.PrKernelIdeal.sig) → Buf (Elt Ideal) ℓ) (g : Dev Cert.PrKernelIdeal.nD → PrngReg)
    (m' : (ℓ : Loc Cert.PrReferenceIdeal.nD Cert.PrReferenceIdeal.τ Cert.PrReferenceIdeal.sig) → Buf (Elt Ideal) ℓ) (g' : Dev Cert.PrReferenceIdeal.nD → PrngReg), Pre_PrKernelIdeal m →
    (∀ c : Dev Cert.PrKernelIdeal.nD,
      m' ((c.tc : Thread Cert.PrReferenceIdeal.nD Cert.PrReferenceIdeal.τ).loc Cert.PrReferenceIdeal.main_arg0) = m ((c.tc : Thread Cert.PrKernelIdeal.nD Cert.PrKernelIdeal.τ).loc Cert.PrKernelIdeal.main_arg0)
      ∧ m' ((c.tc : Thread Cert.PrReferenceIdeal.nD Cert.PrReferenceIdeal.τ).loc Cert.PrReferenceIdeal.main_arg1) = m ((c.tc : Thread Cert.PrKernelIdeal.nD Cert.PrKernelIdeal.τ).loc Cert.PrKernelIdeal.main_arg1)) →
    ∃ (v0 : (c : Dev Cert.PrKernelIdeal.nD) → Buf (Elt Ideal) ((c.tc : Thread Cert.PrKernelIdeal.nD Cert.PrKernelIdeal.τ).loc Cert.PrKernelIdeal.main_v0)),
      θ_run (Cert.PrKernelIdeal.defs (F := Ideal)) (onTc (τ := Cert.PrKernelIdeal.τ) (Cert.PrKernelIdeal.main (F := Ideal))) ⟨m, fun _ => 0, g⟩ (fun r => ∀ c : Dev Cert.PrKernelIdeal.nD,
          r.2.mem ((c.tc : Thread Cert.PrKernelIdeal.nD Cert.PrKernelIdeal.τ).loc Cert.PrKernelIdeal.main_v0) = v0 c
          ∧ r.2.mem ((c.tc : Thread Cert.PrKernelIdeal.nD Cert.PrKernelIdeal.τ).loc Cert.PrKernelIdeal.main_arg0) = m ((c.tc : Thread Cert.PrKernelIdeal.nD Cert.PrKernelIdeal.τ).loc Cert.PrKernelIdeal.main_arg0)
          ∧ r.2.mem ((c.tc : Thread Cert.PrKernelIdeal.nD Cert.PrKernelIdeal.τ).loc Cert.PrKernelIdeal.main_arg1) = m ((c.tc : Thread Cert.PrKernelIdeal.nD Cert.PrKernelIdeal.τ).loc Cert.PrKernelIdeal.main_arg1))
      ∧ θ_run (Cert.PrReferenceIdeal.defs (F := Ideal)) (onTc (τ := Cert.PrReferenceIdeal.τ) (Cert.PrReferenceIdeal.main (F := Ideal))) ⟨m', fun _ => 0, g'⟩ (fun r => ∀ c : Dev Cert.PrReferenceIdeal.nD,
          r.2.mem ((c.tc : Thread Cert.PrReferenceIdeal.nD Cert.PrReferenceIdeal.τ).loc Cert.PrReferenceIdeal.main_v3) = v0 c
          ∧ r.2.mem ((c.tc : Thread Cert.PrReferenceIdeal.nD Cert.PrReferenceIdeal.τ).loc Cert.PrReferenceIdeal.main_arg0) = m' ((c.tc : Thread Cert.PrReferenceIdeal.nD Cert.PrReferenceIdeal.τ).loc Cert.PrReferenceIdeal.main_arg0)
          ∧ r.2.mem ((c.tc : Thread Cert.PrReferenceIdeal.nD Cert.PrReferenceIdeal.τ).loc Cert.PrReferenceIdeal.main_arg1) = m' ((c.tc : Thread Cert.PrReferenceIdeal.nD Cert.PrReferenceIdeal.τ).loc Cert.PrReferenceIdeal.main_arg1))

def preserves_PaKernel_PaKernelIdeal : Prop :=
  True

def algebraic_PaKernelIdeal_PaReferenceIdeal [hPaKernelIdeal : Cert.PaKernelIdeal.Facts] [hPaReferenceIdeal : Cert.PaReferenceIdeal.Facts] : Prop :=
  ∀ (m : (ℓ : Loc Cert.PaKernelIdeal.nD Cert.PaKernelIdeal.τ Cert.PaKernelIdeal.sig) → Buf (Elt Ideal) ℓ) (g : Dev Cert.PaKernelIdeal.nD → PrngReg)
    (m' : (ℓ : Loc Cert.PaReferenceIdeal.nD Cert.PaReferenceIdeal.τ Cert.PaReferenceIdeal.sig) → Buf (Elt Ideal) ℓ) (g' : Dev Cert.PaReferenceIdeal.nD → PrngReg), Pre_PaKernelIdeal m →
    (∀ c : Dev Cert.PaKernelIdeal.nD,
      m' ((c.tc : Thread Cert.PaReferenceIdeal.nD Cert.PaReferenceIdeal.τ).loc Cert.PaReferenceIdeal.main_arg0) = m ((c.tc : Thread Cert.PaKernelIdeal.nD Cert.PaKernelIdeal.τ).loc Cert.PaKernelIdeal.main_arg0)
      ∧ m' ((c.tc : Thread Cert.PaReferenceIdeal.nD Cert.PaReferenceIdeal.τ).loc Cert.PaReferenceIdeal.main_arg1) = m ((c.tc : Thread Cert.PaKernelIdeal.nD Cert.PaKernelIdeal.τ).loc Cert.PaKernelIdeal.main_arg1)) →
    ∃ (v0 : (c : Dev Cert.PaKernelIdeal.nD) → Buf (Elt Ideal) ((c.tc : Thread Cert.PaKernelIdeal.nD Cert.PaKernelIdeal.τ).loc Cert.PaKernelIdeal.main_v0)),
      θ_run (Cert.PaKernelIdeal.defs (F := Ideal)) (onTc (τ := Cert.PaKernelIdeal.τ) (Cert.PaKernelIdeal.main (F := Ideal))) ⟨m, fun _ => 0, g⟩ (fun r => ∀ c : Dev Cert.PaKernelIdeal.nD,
          r.2.mem ((c.tc : Thread Cert.PaKernelIdeal.nD Cert.PaKernelIdeal.τ).loc Cert.PaKernelIdeal.main_v0) = v0 c
          ∧ r.2.mem ((c.tc : Thread Cert.PaKernelIdeal.nD Cert.PaKernelIdeal.τ).loc Cert.PaKernelIdeal.main_arg0) = m ((c.tc : Thread Cert.PaKernelIdeal.nD Cert.PaKernelIdeal.τ).loc Cert.PaKernelIdeal.main_arg0)
          ∧ r.2.mem ((c.tc : Thread Cert.PaKernelIdeal.nD Cert.PaKernelIdeal.τ).loc Cert.PaKernelIdeal.main_arg1) = m ((c.tc : Thread Cert.PaKernelIdeal.nD Cert.PaKernelIdeal.τ).loc Cert.PaKernelIdeal.main_arg1))
      ∧ θ_run (Cert.PaReferenceIdeal.defs (F := Ideal)) (onTc (τ := Cert.PaReferenceIdeal.τ) (Cert.PaReferenceIdeal.main (F := Ideal))) ⟨m', fun _ => 0, g'⟩ (fun r => ∀ c : Dev Cert.PaReferenceIdeal.nD,
          r.2.mem ((c.tc : Thread Cert.PaReferenceIdeal.nD Cert.PaReferenceIdeal.τ).loc Cert.PaReferenceIdeal.main_v3) = v0 c
          ∧ r.2.mem ((c.tc : Thread Cert.PaReferenceIdeal.nD Cert.PaReferenceIdeal.τ).loc Cert.PaReferenceIdeal.main_arg0) = m' ((c.tc : Thread Cert.PaReferenceIdeal.nD Cert.PaReferenceIdeal.τ).loc Cert.PaReferenceIdeal.main_arg0)
          ∧ r.2.mem ((c.tc : Thread Cert.PaReferenceIdeal.nD Cert.PaReferenceIdeal.τ).loc Cert.PaReferenceIdeal.main_arg1) = m' ((c.tc : Thread Cert.PaReferenceIdeal.nD Cert.PaReferenceIdeal.τ).loc Cert.PaReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v0)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_InBwdKernel_InBwdKernelIdeal : Prop :=
  True

def algebraic_InBwdKernelIdeal_InBwdReferenceIdeal [hInBwdKernelIdeal : Cert.InBwdKernelIdeal.Facts] [hInBwdReferenceIdeal : Cert.InBwdReferenceIdeal.Facts] : Prop :=
  ∀ (m : (ℓ : Loc Cert.InBwdKernelIdeal.nD Cert.InBwdKernelIdeal.τ Cert.InBwdKernelIdeal.sig) → Buf (Elt Ideal) ℓ) (g : Dev Cert.InBwdKernelIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdKernelIdeal m →
    (∀ c : Dev Cert.InBwdKernelIdeal.nD,
      m' ((c.tc : Thread Cert.InBwdReferenceIdeal.nD Cert.InBwdReferenceIdeal.τ).loc Cert.InBwdReferenceIdeal.main_arg0) = m ((c.tc : Thread Cert.InBwdKernelIdeal.nD Cert.InBwdKernelIdeal.τ).loc Cert.InBwdKernelIdeal.main_arg0)
      ∧ m' ((c.tc : Thread Cert.InBwdReferenceIdeal.nD Cert.InBwdReferenceIdeal.τ).loc Cert.InBwdReferenceIdeal.main_arg1) = m ((c.tc : Thread Cert.InBwdKernelIdeal.nD Cert.InBwdKernelIdeal.τ).loc Cert.InBwdKernelIdeal.main_arg1)
      ∧ m' ((c.tc : Thread Cert.InBwdReferenceIdeal.nD Cert.InBwdReferenceIdeal.τ).loc Cert.InBwdReferenceIdeal.main_arg2) = m ((c.tc : Thread Cert.InBwdKernelIdeal.nD Cert.InBwdKernelIdeal.τ).loc Cert.InBwdKernelIdeal.main_arg2)
      ∧ m' ((c.tc : Thread Cert.InBwdReferenceIdeal.nD Cert.InBwdReferenceIdeal.τ).loc Cert.InBwdReferenceIdeal.main_arg3) = m ((c.tc : Thread Cert.InBwdKernelIdeal.nD Cert.InBwdKernelIdeal.τ).loc Cert.InBwdKernelIdeal.main_arg3)) →
    ∃ (v0 : (c : Dev Cert.InBwdKernelIdeal.nD) → Buf (Elt Ideal) ((c.tc : Thread Cert.InBwdKernelIdeal.nD Cert.InBwdKernelIdeal.τ).loc Cert.InBwdKernelIdeal.main_v0_0)) (v1 : (c : Dev Cert.InBwdKernelIdeal.nD) → Buf (Elt Ideal) ((c.tc : Thread Cert.InBwdKernelIdeal.nD Cert.InBwdKernelIdeal.τ).loc Cert.InBwdKernelIdeal.main_v0_1)),
      θ_run (Cert.InBwdKernelIdeal.defs (F := Ideal)) (onTc (τ := Cert.InBwdKernelIdeal.τ) (Cert.InBwdKernelIdeal.main (F := Ideal))) ⟨m, fun _ => 0, g⟩ (fun r => ∀ c : Dev Cert.InBwdKernelIdeal.nD,
          r.2.mem ((c.tc : Thread Cert.InBwdKernelIdeal.nD Cert.InBwdKernelIdeal.τ).loc Cert.InBwdKernelIdeal.main_v0_0) = v0 c
          ∧ r.2.mem ((c.tc : Thread Cert.InBwdKernelIdeal.nD Cert.InBwdKernelIdeal.τ).loc Cert.InBwdKernelIdeal.main_v0_1) = v1 c
          ∧ r.2.mem ((c.tc : Thread Cert.InBwdKernelIdeal.nD Cert.InBwdKernelIdeal.τ).loc Cert.InBwdKernelIdeal.main_arg0) = m ((c.tc : Thread Cert.InBwdKernelIdeal.nD Cert.InBwdKernelIdeal.τ).loc Cert.InBwdKernelIdeal.main_arg0)
          ∧ r.2.mem ((c.tc : Thread Cert.InBwdKernelIdeal.nD Cert.InBwdKernelIdeal.τ).loc Cert.InBwdKernelIdeal.main_arg1) = m ((c.tc : Thread Cert.InBwdKernelIdeal.nD Cert.InBwdKernelIdeal.τ).loc Cert.InBwdKernelIdeal.main_arg1)
          ∧ r.2.mem ((c.tc : Thread Cert.InBwdKernelIdeal.nD Cert.InBwdKernelIdeal.τ).loc Cert.InBwdKernelIdeal.main_arg2) = m ((c.tc : Thread Cert.InBwdKernelIdeal.nD Cert.InBwdKernelIdeal.τ).loc Cert.InBwdKernelIdeal.main_arg2)
          ∧ r.2.mem ((c.tc : Thread Cert.InBwdKernelIdeal.nD Cert.InBwdKernelIdeal.τ).loc Cert.InBwdKernelIdeal.main_arg3) = m ((c.tc : Thread Cert.InBwdKernelIdeal.nD Cert.InBwdKernelIdeal.τ).loc Cert.InBwdKernelIdeal.main_arg3))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v38) = v0 c
          ∧ r.2.mem ((c.tc : Thread Cert.InBwdReferenceIdeal.nD Cert.InBwdReferenceIdeal.τ).loc Cert.InBwdReferenceIdeal.main_v39) = v1 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3))

def preserves_MidBwdKernel_MidBwdKernelIdeal : Prop :=
  True

def algebraic_MidBwdKernelIdeal_MidBwdReferenceIdeal [hMidBwdKernelIdeal : Cert.MidBwdKernelIdeal.Facts] [hMidBwdReferenceIdeal : Cert.MidBwdReferenceIdeal.Facts] : Prop :=
  ∀ (m : (ℓ : Loc Cert.MidBwdKernelIdeal.nD Cert.MidBwdKernelIdeal.τ Cert.MidBwdKernelIdeal.sig) → Buf (Elt Ideal) ℓ) (g : Dev Cert.MidBwdKernelIdeal.nD → PrngReg)
    (m' : (ℓ : Loc Cert.MidBwdReferenceIdeal.nD Cert.MidBwdReferenceIdeal.τ Cert.MidBwdReferenceIdeal.sig) → Buf (Elt Ideal) ℓ) (g' : Dev Cert.MidBwdReferenceIdeal.nD → PrngReg), Pre_MidBwdKernelIdeal m →
    (∀ c : Dev Cert.MidBwdKernelIdeal.nD,
      m' ((c.tc : Thread Cert.MidBwdReferenceIdeal.nD Cert.MidBwdReferenceIdeal.τ).loc Cert.MidBwdReferenceIdeal.main_arg0) = m ((c.tc : Thread Cert.MidBwdKernelIdeal.nD Cert.MidBwdKernelIdeal.τ).loc Cert.MidBwdKernelIdeal.main_arg0)
      ∧ m' ((c.tc : Thread Cert.MidBwdReferenceIdeal.nD Cert.MidBwdReferenceIdeal.τ).loc Cert.MidBwdReferenceIdeal.main_arg1) = m ((c.tc : Thread Cert.MidBwdKernelIdeal.nD Cert.MidBwdKernelIdeal.τ).loc Cert.MidBwdKernelIdeal.main_arg1)
      ∧ m' ((c.tc : Thread Cert.MidBwdReferenceIdeal.nD Cert.MidBwdReferenceIdeal.τ).loc Cert.MidBwdReferenceIdeal.main_arg2) = m ((c.tc : Thread Cert.MidBwdKernelIdeal.nD Cert.MidBwdKernelIdeal.τ).loc Cert.MidBwdKernelIdeal.main_arg2)
      ∧ m' ((c.tc : Thread Cert.MidBwdReferenceIdeal.nD Cert.MidBwdReferenceIdeal.τ).loc Cert.MidBwdReferenceIdeal.main_arg3) = m ((c.tc : Thread Cert.MidBwdKernelIdeal.nD Cert.MidBwdKernelIdeal.τ).loc Cert.MidBwdKernelIdeal.main_arg3)
      ∧ m' ((c.tc : Thread Cert.MidBwdReferenceIdeal.nD Cert.MidBwdReferenceIdeal.τ).loc Cert.MidBwdReferenceIdeal.main_arg4) = m ((c.tc : Thread Cert.MidBwdKernelIdeal.nD Cert.MidBwdKernelIdeal.τ).loc Cert.MidBwdKernelIdeal.main_arg4)
      ∧ m' ((c.tc : Thread Cert.MidBwdReferenceIdeal.nD Cert.MidBwdReferenceIdeal.τ).loc Cert.MidBwdReferenceIdeal.main_arg5) = m ((c.tc : Thread Cert.MidBwdKernelIdeal.nD Cert.MidBwdKernelIdeal.τ).loc Cert.MidBwdKernelIdeal.main_arg5)) →
    ∃ (v0 : (c : Dev Cert.MidBwdKernelIdeal.nD) → Buf (Elt Ideal) ((c.tc : Thread Cert.MidBwdKernelIdeal.nD Cert.MidBwdKernelIdeal.τ).loc Cert.MidBwdKernelIdeal.main_v15_0)) (v1 : (c : Dev Cert.MidBwdKernelIdeal.nD) → Buf (Elt Ideal) ((c.tc : Thread Cert.MidBwdKernelIdeal.nD Cert.MidBwdKernelIdeal.τ).loc Cert.MidBwdKernelIdeal.main_v15_1)) (v2 : (c : Dev Cert.MidBwdKernelIdeal.nD) → Buf (Elt Ideal) ((c.tc : Thread Cert.MidBwdKernelIdeal.nD Cert.MidBwdKernelIdeal.τ).loc Cert.MidBwdKernelIdeal.main_v15_2)) (v3 : (c : Dev Cert.MidBwdKernelIdeal.nD) → Buf (Elt Ideal) ((c.tc : Thread Cert.MidBwdKernelIdeal.nD Cert.MidBwdKernelIdeal.τ).loc Cert.MidBwdKernelIdeal.main_v15_3)),
      θ_run (Cert.MidBwdKernelIdeal.defs (F := Ideal)) (onTc (τ := Cert.MidBwdKernelIdeal.τ) (Cert.MidBwdKernelIdeal.main (F := Ideal))) ⟨m, fun _ => 0, g⟩ (fun r => ∀ c : Dev Cert.MidBwdKernelIdeal.nD,
          r.2.mem ((c.tc : Thread Cert.MidBwdKernelIdeal.nD Cert.MidBwdKernelIdeal.τ).loc Cert.MidBwdKernelIdeal.main_v15_0) = v0 c
          ∧ r.2.mem ((c.tc : Thread Cert.MidBwdKernelIdeal.nD Cert.MidBwdKernelIdeal.τ).loc Cert.MidBwdKernelIdeal.main_v15_1) = v1 c
          ∧ r.2.mem ((c.tc : Thread Cert.MidBwdKernelIdeal.nD Cert.MidBwdKernelIdeal.τ).loc Cert.MidBwdKernelIdeal.main_v15_2) = v2 c
          ∧ r.2.mem ((c.tc : Thread Cert.MidBwdKernelIdeal.nD Cert.MidBwdKernelIdeal.τ).loc Cert.MidBwdKernelIdeal.main_v15_3) = v3 c
          ∧ r.2.mem ((c.tc : Thread Cert.MidBwdKernelIdeal.nD Cert.MidBwdKernelIdeal.τ).loc Cert.MidBwdKernelIdeal.main_arg0) = m ((c.tc : Thread Cert.MidBwdKernelIdeal.nD Cert.MidBwdKernelIdeal.τ).loc Cert.MidBwdKernelIdeal.main_arg0)
          ∧ r.2.mem ((c.tc : Thread Cert.MidBwdKernelIdeal.nD Cert.MidBwdKernelIdeal.τ).loc Cert.MidBwdKernelIdeal.main_arg1) = m ((c.tc : Thread Cert.MidBwdKernelIdeal.nD Cert.MidBwdKernelIdeal.τ).loc Cert.MidBwdKernelIdeal.main_arg1)
          ∧ r.2.mem ((c.tc : Thread Cert.MidBwdKernelIdeal.nD Cert.MidBwdKernelIdeal.τ).loc Cert.MidBwdKernelIdeal.main_arg2) = m ((c.tc : Thread Cert.MidBwdKernelIdeal.nD Cert.MidBwdKernelIdeal.τ).loc Cert.MidBwdKernelIdeal.main_arg2)
          ∧ r.2.mem ((c.tc : Thread Cert.MidBwdKernelIdeal.nD Cert.MidBwdKernelIdeal.τ).loc Cert.MidBwdKernelIdeal.main_arg3) = m ((c.tc : Thread Cert.MidBwdKernelIdeal.nD Cert.MidBwdKernelIdeal.τ).loc Cert.MidBwdKernelIdeal.main_arg3)
          ∧ r.2.mem ((c.tc : Thread Cert.MidBwdKernelIdeal.nD Cert.MidBwdKernelIdeal.τ).loc Cert.MidBwdKernelIdeal.main_arg4) = m ((c.tc : Thread Cert.MidBwdKernelIdeal.nD Cert.MidBwdKernelIdeal.τ).loc Cert.MidBwdKernelIdeal.main_arg4)
          ∧ r.2.mem ((c.tc : Thread Cert.MidBwdKernelIdeal.nD Cert.MidBwdKernelIdeal.τ).loc Cert.MidBwdKernelIdeal.main_arg5) = m ((c.tc : Thread Cert.MidBwdKernelIdeal.nD Cert.MidBwdKernelIdeal.τ).loc Cert.MidBwdKernelIdeal.main_arg5))
      ∧ θ_run (Cert.MidBwdReferenceIdeal.defs (F := Ideal)) (onTc (τ := Cert.MidBwdReferenceIdeal.τ) (Cert.MidBwdReferenceIdeal.main (F := Ideal))) ⟨m', fun _ => 0, g'⟩ (fun r => ∀ c : Dev Cert.MidBwdReferenceIdeal.nD,
          r.2.mem ((c.tc : Thread Cert.MidBwdReferenceIdeal.nD Cert.MidBwdReferenceIdeal.τ).loc Cert.MidBwdReferenceIdeal.main_v56) = v0 c
          ∧ r.2.mem ((c.tc : Thread Cert.MidBwdReferenceIdeal.nD Cert.MidBwdReferenceIdeal.τ).loc Cert.MidBwdReferenceIdeal.main_v78) = v1 c
          ∧ r.2.mem ((c.tc : Thread Cert.MidBwdReferenceIdeal.nD Cert.MidBwdReferenceIdeal.τ).loc Cert.MidBwdReferenceIdeal.main_v79) = v2 c
          ∧ r.2.mem ((c.tc : Thread Cert.MidBwdReferenceIdeal.nD Cert.MidBwdReferenceIdeal.τ).loc Cert.MidBwdReferenceIdeal.main_v80) = v3 c
          ∧ r.2.mem ((c.tc : Thread Cert.MidBwdReferenceIdeal.nD Cert.MidBwdReferenceIdeal.τ).loc Cert.MidBwdReferenceIdeal.main_arg0) = m' ((c.tc : Thread Cert.MidBwdReferenceIdeal.nD Cert.MidBwdReferenceIdeal.τ).loc Cert.MidBwdReferenceIdeal.main_arg0)
          ∧ r.2.mem ((c.tc : Thread Cert.MidBwdReferenceIdeal.nD Cert.MidBwdReferenceIdeal.τ).loc Cert.MidBwdReferenceIdeal.main_arg1) = m' ((c.tc : Thread Cert.MidBwdReferenceIdeal.nD Cert.MidBwdReferenceIdeal.τ).loc Cert.MidBwdReferenceIdeal.main_arg1)
          ∧ r.2.mem ((c.tc : Thread Cert.MidBwdReferenceIdeal.nD Cert.MidBwdReferenceIdeal.τ).loc Cert.MidBwdReferenceIdeal.main_arg2) = m' ((c.tc : Thread Cert.MidBwdReferenceIdeal.nD Cert.MidBwdReferenceIdeal.τ).loc Cert.MidBwdReferenceIdeal.main_arg2)
          ∧ r.2.mem ((c.tc : Thread Cert.MidBwdReferenceIdeal.nD Cert.MidBwdReferenceIdeal.τ).loc Cert.MidBwdReferenceIdeal.main_arg3) = m' ((c.tc : Thread Cert.MidBwdReferenceIdeal.nD Cert.MidBwdReferenceIdeal.τ).loc Cert.MidBwdReferenceIdeal.main_arg3)
          ∧ r.2.mem ((c.tc : Thread Cert.MidBwdReferenceIdeal.nD Cert.MidBwdReferenceIdeal.τ).loc Cert.MidBwdReferenceIdeal.main_arg4) = m' ((c.tc : Thread Cert.MidBwdReferenceIdeal.nD Cert.MidBwdReferenceIdeal.τ).loc Cert.MidBwdReferenceIdeal.main_arg4)
          ∧ r.2.mem ((c.tc : Thread Cert.MidBwdReferenceIdeal.nD Cert.MidBwdReferenceIdeal.τ).loc Cert.MidBwdReferenceIdeal.main_arg5) = m' ((c.tc : Thread Cert.MidBwdReferenceIdeal.nD Cert.MidBwdReferenceIdeal.τ).loc Cert.MidBwdReferenceIdeal.main_arg5))

def preserves_MergeBwdKernel_MergeBwdKernelIdeal : Prop :=
  True

def algebraic_MergeBwdKernelIdeal_MergeBwdReferenceIdeal [hMergeBwdKernelIdeal : Cert.MergeBwdKernelIdeal.Facts] [hMergeBwdReferenceIdeal : Cert.MergeBwdReferenceIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdKernelIdeal m →
    (∀ c : Dev Cert.MergeBwdKernelIdeal.nD,
      m' ((c.tc : Thread Cert.MergeBwdReferenceIdeal.nD Cert.MergeBwdReferenceIdeal.τ).loc Cert.MergeBwdReferenceIdeal.main_arg0) = m ((c.tc : Thread Cert.MergeBwdKernelIdeal.nD Cert.MergeBwdKernelIdeal.τ).loc Cert.MergeBwdKernelIdeal.main_arg0)
      ∧ m' ((c.tc : Thread Cert.MergeBwdReferenceIdeal.nD Cert.MergeBwdReferenceIdeal.τ).loc Cert.MergeBwdReferenceIdeal.main_arg1) = m ((c.tc : Thread Cert.MergeBwdKernelIdeal.nD Cert.MergeBwdKernelIdeal.τ).loc Cert.MergeBwdKernelIdeal.main_arg1)
      ∧ m' ((c.tc : Thread Cert.MergeBwdReferenceIdeal.nD Cert.MergeBwdReferenceIdeal.τ).loc Cert.MergeBwdReferenceIdeal.main_arg2) = m ((c.tc : Thread Cert.MergeBwdKernelIdeal.nD Cert.MergeBwdKernelIdeal.τ).loc Cert.MergeBwdKernelIdeal.main_arg2)
      ∧ m' ((c.tc : Thread Cert.MergeBwdReferenceIdeal.nD Cert.MergeBwdReferenceIdeal.τ).loc Cert.MergeBwdReferenceIdeal.main_arg3) = m ((c.tc : Thread Cert.MergeBwdKernelIdeal.nD Cert.MergeBwdKernelIdeal.τ).loc Cert.MergeBwdKernelIdeal.main_arg3)) →
    ∃ (v0 : (c : Dev Cert.MergeBwdKernelIdeal.nD) → Buf (Elt Ideal) ((c.tc : Thread Cert.MergeBwdKernelIdeal.nD Cert.MergeBwdKernelIdeal.τ).loc Cert.MergeBwdKernelIdeal.main_v0_0)) (v1 : (c : Dev Cert.MergeBwdKernelIdeal.nD) → Buf (Elt Ideal) ((c.tc : Thread Cert.MergeBwdKernelIdeal.nD Cert.MergeBwdKernelIdeal.τ).loc Cert.MergeBwdKernelIdeal.main_v0_1)),
      θ_run (Cert.MergeBwdKernelIdeal.defs (F := Ideal)) (onTc (τ := Cert.MergeBwdKernelIdeal.τ) (Cert.MergeBwdKernelIdeal.main (F := Ideal))) ⟨m, fun _ => 0, g⟩ (fun r => ∀ c : Dev Cert.MergeBwdKernelIdeal.nD,
          r.2.mem ((c.tc : Thread Cert.MergeBwdKernelIdeal.nD Cert.MergeBwdKernelIdeal.τ).loc Cert.MergeBwdKernelIdeal.main_v0_0) = v0 c
          ∧ r.2.mem ((c.tc : Thread Cert.MergeBwdKernelIdeal.nD Cert.MergeBwdKernelIdeal.τ).loc Cert.MergeBwdKernelIdeal.main_v0_1) = v1 c
          ∧ r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
          ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
          ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
          ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v34) = v0 c
          ∧ r.2.mem ((c.tc : Thread Cert.MergeBwdReferenceIdeal.nD Cert.MergeBwdReferenceIdeal.τ).loc Cert.MergeBwdReferenceIdeal.main_v36) = v1 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v0_0)) (v1 : (c : Dev Cert.MixKernelIdeal.nD) → Buf (Elt Ideal) ((c.tc : Thread Cert.MixKernelIdeal.nD Cert.MixKernelIdeal.τ).loc Cert.MixKernelIdeal.main_v0_1)) (v2 : (c : Dev Cert.MixKernelIdeal.nD) → Buf (Elt Ideal) ((c.tc : Thread Cert.MixKernelIdeal.nD Cert.MixKernelIdeal.τ).loc Cert.MixKernelIdeal.main_v0_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v0_0) = v0 c
          ∧ r.2.mem ((c.tc : Thread Cert.MixKernelIdeal.nD Cert.MixKernelIdeal.τ).loc Cert.MixKernelIdeal.main_v0_1) = v1 c
          ∧ r.2.mem ((c.tc : Thread Cert.MixKernelIdeal.nD Cert.MixKernelIdeal.τ).loc Cert.MixKernelIdeal.main_v0_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v2) = v0 c
          ∧ r.2.mem ((c.tc : Thread Cert.MixReferenceIdeal.nD Cert.MixReferenceIdeal.τ).loc Cert.MixReferenceIdeal.main_v18) = v1 c
          ∧ r.2.mem ((c.tc : Thread Cert.MixReferenceIdeal.nD Cert.MixReferenceIdeal.τ).loc Cert.MixReferenceIdeal.main_v32) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)) →
    ∃ (v0 : (c : Dev Cert.DownKernelIdeal.nD) → Buf (Elt Ideal) ((c.tc : Thread Cert.DownKernelIdeal.nD Cert.DownKernelIdeal.τ).loc Cert.DownKernelIdeal.main_v0_0)) (v1 : (c : Dev Cert.DownKernelIdeal.nD) → Buf (Elt Ideal) ((c.tc : Thread Cert.DownKernelIdeal.nD Cert.DownKernelIdeal.τ).loc Cert.DownKernelIdeal.main_v0_1)) (v2 : (c : Dev Cert.DownKernelIdeal.nD) → Buf (Elt Ideal) ((c.tc : Thread Cert.DownKernelIdeal.nD Cert.DownKernelIdeal.τ).loc Cert.DownKernelIdeal.main_v0_2)) (v3 : (c : Dev Cert.DownKernelIdeal.nD) → Buf (Elt Ideal) ((c.tc : Thread Cert.DownKernelIdeal.nD Cert.DownKernelIdeal.τ).loc Cert.DownKernelIdeal.main_v0_3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0_0) = v0 c
          ∧ r.2.mem ((c.tc : Thread Cert.DownKernelIdeal.nD Cert.DownKernelIdeal.τ).loc Cert.DownKernelIdeal.main_v0_1) = v1 c
          ∧ r.2.mem ((c.tc : Thread Cert.DownKernelIdeal.nD Cert.DownKernelIdeal.τ).loc Cert.DownKernelIdeal.main_v0_2) = v2 c
          ∧ r.2.mem ((c.tc : Thread Cert.DownKernelIdeal.nD Cert.DownKernelIdeal.τ).loc Cert.DownKernelIdeal.main_v0_3) = v3 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v35) = v0 c
          ∧ r.2.mem ((c.tc : Thread Cert.DownReferenceIdeal.nD Cert.DownReferenceIdeal.τ).loc Cert.DownReferenceIdeal.main_v56) = v1 c
          ∧ r.2.mem ((c.tc : Thread Cert.DownReferenceIdeal.nD Cert.DownReferenceIdeal.τ).loc Cert.DownReferenceIdeal.main_v57) = v2 c
          ∧ r.2.mem ((c.tc : Thread Cert.DownReferenceIdeal.nD Cert.DownReferenceIdeal.τ).loc Cert.DownReferenceIdeal.main_v58) = v3 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_ActFwdKernel_ActFwdKernelIdeal : Prop :=
  IdealRules.named_const.Statement Cert.ActFwdKernelIdeal.κ "ca" .f32 0x3D122279#32 ((80338380498831 / 2251799813685248 : ℝ) : EReal)

def algebraic_ActFwdKernelIdeal_ActFwdReferenceIdeal [hActFwdKernelIdeal : Cert.ActFwdKernelIdeal.Facts] [hActFwdReferenceIdeal : Cert.ActFwdReferenceIdeal.Facts] : Prop :=
  ∀ (m : (ℓ : Loc Cert.ActFwdKernelIdeal.nD Cert.ActFwdKernelIdeal.τ Cert.ActFwdKernelIdeal.sig) → Buf (Elt Ideal) ℓ) (g : Dev Cert.ActFwdKernelIdeal.nD → PrngReg)
    (m' : (ℓ : Loc Cert.ActFwdReferenceIdeal.nD Cert.ActFwdReferenceIdeal.τ Cert.ActFwdReferenceIdeal.sig) → Buf (Elt Ideal) ℓ) (g' : Dev Cert.ActFwdReferenceIdeal.nD → PrngReg), Pre_ActFwdKernelIdeal m →
    (∀ c : Dev Cert.ActFwdKernelIdeal.nD,
      m' ((c.tc : Thread Cert.ActFwdReferenceIdeal.nD Cert.ActFwdReferenceIdeal.τ).loc Cert.ActFwdReferenceIdeal.main_arg0) = m ((c.tc : Thread Cert.ActFwdKernelIdeal.nD Cert.ActFwdKernelIdeal.τ).loc Cert.ActFwdKernelIdeal.main_arg0)
      ∧ m' ((c.tc : Thread Cert.ActFwdReferenceIdeal.nD Cert.ActFwdReferenceIdeal.τ).loc Cert.ActFwdReferenceIdeal.main_arg1) = m ((c.tc : Thread Cert.ActFwdKernelIdeal.nD Cert.ActFwdKernelIdeal.τ).loc Cert.ActFwdKernelIdeal.main_arg1)
      ∧ m' ((c.tc : Thread Cert.ActFwdReferenceIdeal.nD Cert.ActFwdReferenceIdeal.τ).loc Cert.ActFwdReferenceIdeal.main_arg2) = m ((c.tc : Thread Cert.ActFwdKernelIdeal.nD Cert.ActFwdKernelIdeal.τ).loc Cert.ActFwdKernelIdeal.main_arg2)
      ∧ m' ((c.tc : Thread Cert.ActFwdReferenceIdeal.nD Cert.ActFwdReferenceIdeal.τ).loc Cert.ActFwdReferenceIdeal.main_arg3) = m ((c.tc : Thread Cert.ActFwdKernelIdeal.nD Cert.ActFwdKernelIdeal.τ).loc Cert.ActFwdKernelIdeal.main_arg3)) →
    ∃ (v0 : (c : Dev Cert.ActFwdKernelIdeal.nD) → Buf (Elt Ideal) ((c.tc : Thread Cert.ActFwdKernelIdeal.nD Cert.ActFwdKernelIdeal.τ).loc Cert.ActFwdKernelIdeal.main_v0)),
      θ_run (Cert.ActFwdKernelIdeal.defs (F := Ideal)) (onTc (τ := Cert.ActFwdKernelIdeal.τ) (Cert.ActFwdKernelIdeal.main (F := Ideal))) ⟨m, fun _ => 0, g⟩ (fun r => ∀ c : Dev Cert.ActFwdKernelIdeal.nD,
          r.2.mem ((c.tc : Thread Cert.ActFwdKernelIdeal.nD Cert.ActFwdKernelIdeal.τ).loc Cert.ActFwdKernelIdeal.main_v0) = v0 c
          ∧ r.2.mem ((c.tc : Thread Cert.ActFwdKernelIdeal.nD Cert.ActFwdKernelIdeal.τ).loc Cert.ActFwdKernelIdeal.main_arg0) = m ((c.tc : Thread Cert.ActFwdKernelIdeal.nD Cert.ActFwdKernelIdeal.τ).loc Cert.ActFwdKernelIdeal.main_arg0)
          ∧ r.2.mem ((c.tc : Thread Cert.ActFwdKernelIdeal.nD Cert.ActFwdKernelIdeal.τ).loc Cert.ActFwdKernelIdeal.main_arg1) = m ((c.tc : Thread Cert.ActFwdKernelIdeal.nD Cert.ActFwdKernelIdeal.τ).loc Cert.ActFwdKernelIdeal.main_arg1)
          ∧ r.2.mem ((c.tc : Thread Cert.ActFwdKernelIdeal.nD Cert.ActFwdKernelIdeal.τ).loc Cert.ActFwdKernelIdeal.main_arg2) = m ((c.tc : Thread Cert.ActFwdKernelIdeal.nD Cert.ActFwdKernelIdeal.τ).loc Cert.ActFwdKernelIdeal.main_arg2)
          ∧ r.2.mem ((c.tc : Thread Cert.ActFwdKernelIdeal.nD Cert.ActFwdKernelIdeal.τ).loc Cert.ActFwdKernelIdeal.main_arg3) = m ((c.tc : Thread Cert.ActFwdKernelIdeal.nD Cert.ActFwdKernelIdeal.τ).loc Cert.ActFwdKernelIdeal.main_arg3))
      ∧ θ_run (Cert.ActFwdReferenceIdeal.defs (F := Ideal)) (onTc (τ := Cert.ActFwdReferenceIdeal.τ) (Cert.ActFwdReferenceIdeal.main (F := Ideal))) ⟨m', fun _ => 0, g'⟩ (fun r => ∀ c : Dev Cert.ActFwdReferenceIdeal.nD,
          r.2.mem ((c.tc : Thread Cert.ActFwdReferenceIdeal.nD Cert.ActFwdReferenceIdeal.τ).loc Cert.ActFwdReferenceIdeal.main_v47) = v0 c
          ∧ r.2.mem ((c.tc : Thread Cert.ActFwdReferenceIdeal.nD Cert.ActFwdReferenceIdeal.τ).loc Cert.ActFwdReferenceIdeal.main_arg0) = m' ((c.tc : Thread Cert.ActFwdReferenceIdeal.nD Cert.ActFwdReferenceIdeal.τ).loc Cert.ActFwdReferenceIdeal.main_arg0)
          ∧ r.2.mem ((c.tc : Thread Cert.ActFwdReferenceIdeal.nD Cert.ActFwdReferenceIdeal.τ).loc Cert.ActFwdReferenceIdeal.main_arg1) = m' ((c.tc : Thread Cert.ActFwdReferenceIdeal.nD Cert.ActFwdReferenceIdeal.τ).loc Cert.ActFwdReferenceIdeal.main_arg1)
          ∧ r.2.mem ((c.tc : Thread Cert.ActFwdReferenceIdeal.nD Cert.ActFwdReferenceIdeal.τ).loc Cert.ActFwdReferenceIdeal.main_arg2) = m' ((c.tc : Thread Cert.ActFwdReferenceIdeal.nD Cert.ActFwdReferenceIdeal.τ).loc Cert.ActFwdReferenceIdeal.main_arg2)
          ∧ r.2.mem ((c.tc : Thread Cert.ActFwdReferenceIdeal.nD Cert.ActFwdReferenceIdeal.τ).loc Cert.ActFwdReferenceIdeal.main_arg3) = m' ((c.tc : Thread Cert.ActFwdReferenceIdeal.nD Cert.ActFwdReferenceIdeal.τ).loc Cert.ActFwdReferenceIdeal.main_arg3))

def preserves_NormInKernel_NormInKernelIdeal : Prop :=
  True

def algebraic_NormInKernelIdeal_NormInReferenceIdeal [hNormInKernelIdeal : Cert.NormInKernelIdeal.Facts] [hNormInReferenceIdeal : Cert.NormInReferenceIdeal.Facts] : Prop :=
  ∀ (m : (ℓ : Loc Cert.NormInKernelIdeal.nD Cert.NormInKernelIdeal.τ Cert.NormInKernelIdeal.sig) → Buf (Elt Ideal) ℓ) (g : Dev Cert.NormInKernelIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInKernelIdeal m →
    (∀ c : Dev Cert.NormInKernelIdeal.nD,
      m' ((c.tc : Thread Cert.NormInReferenceIdeal.nD Cert.NormInReferenceIdeal.τ).loc Cert.NormInReferenceIdeal.main_arg0) = m ((c.tc : Thread Cert.NormInKernelIdeal.nD Cert.NormInKernelIdeal.τ).loc Cert.NormInKernelIdeal.main_arg0)
      ∧ m' ((c.tc : Thread Cert.NormInReferenceIdeal.nD Cert.NormInReferenceIdeal.τ).loc Cert.NormInReferenceIdeal.main_arg1) = m ((c.tc : Thread Cert.NormInKernelIdeal.nD Cert.NormInKernelIdeal.τ).loc Cert.NormInKernelIdeal.main_arg1)) →
    ∃ (v0 : (c : Dev Cert.NormInKernelIdeal.nD) → Buf (Elt Ideal) ((c.tc : Thread Cert.NormInKernelIdeal.nD Cert.NormInKernelIdeal.τ).loc Cert.NormInKernelIdeal.main_v0)),
      θ_run (Cert.NormInKernelIdeal.defs (F := Ideal)) (onTc (τ := Cert.NormInKernelIdeal.τ) (Cert.NormInKernelIdeal.main (F := Ideal))) ⟨m, fun _ => 0, g⟩ (fun r => ∀ c : Dev Cert.NormInKernelIdeal.nD,
          r.2.mem ((c.tc : Thread Cert.NormInKernelIdeal.nD Cert.NormInKernelIdeal.τ).loc Cert.NormInKernelIdeal.main_v0) = v0 c
          ∧ r.2.mem ((c.tc : Thread Cert.NormInKernelIdeal.nD Cert.NormInKernelIdeal.τ).loc Cert.NormInKernelIdeal.main_arg0) = m ((c.tc : Thread Cert.NormInKernelIdeal.nD Cert.NormInKernelIdeal.τ).loc Cert.NormInKernelIdeal.main_arg0)
          ∧ r.2.mem ((c.tc : Thread Cert.NormInKernelIdeal.nD Cert.NormInKernelIdeal.τ).loc Cert.NormInKernelIdeal.main_arg1) = m ((c.tc : Thread Cert.NormInKernelIdeal.nD Cert.NormInKernelIdeal.τ).loc Cert.NormInKernelIdeal.main_arg1))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v14) = v0 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] [hPre_on_mesh_w_in : Cert.Pre_on_mesh_w_in.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)
      ∧ m' ((c.tc : Thread Cert.AdamInReferenceIdeal.nD Cert.AdamInReferenceIdeal.τ).loc Cert.AdamInReferenceIdeal.main_arg4) = m ((c.tc : Thread Cert.AdamInKernelIdeal.nD Cert.AdamInKernelIdeal.τ).loc Cert.AdamInKernelIdeal.main_arg4)
      ∧ m' ((c.tc : Thread Cert.AdamInReferenceIdeal.nD Cert.AdamInReferenceIdeal.τ).loc Cert.AdamInReferenceIdeal.main_arg5) = m ((c.tc : Thread Cert.AdamInKernelIdeal.nD Cert.AdamInKernelIdeal.τ).loc Cert.AdamInKernelIdeal.main_arg5)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)) (v3 : (c : Dev Cert.AdamInKernelIdeal.nD) → Buf (Elt Ideal) ((c.tc : Thread Cert.AdamInKernelIdeal.nD Cert.AdamInKernelIdeal.τ).loc Cert.AdamInKernelIdeal.main_v0_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_v0_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
          ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4)
          ∧ r.2.mem ((c.tc : Thread Cert.AdamInKernelIdeal.nD Cert.AdamInKernelIdeal.τ).loc Cert.AdamInKernelIdeal.main_arg5) = m ((c.tc : Thread Cert.AdamInKernelIdeal.nD Cert.AdamInKernelIdeal.τ).loc Cert.AdamInKernelIdeal.main_arg5))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v9) = v0 c
          ∧ r.2.mem ((c.tc : Thread Cert.AdamInReferenceIdeal.nD Cert.AdamInReferenceIdeal.τ).loc Cert.AdamInReferenceIdeal.main_v33) = v1 c
          ∧ r.2.mem ((c.tc : Thread Cert.AdamInReferenceIdeal.nD Cert.AdamInReferenceIdeal.τ).loc Cert.AdamInReferenceIdeal.main_v14) = v2 c
          ∧ r.2.mem ((c.tc : Thread Cert.AdamInReferenceIdeal.nD Cert.AdamInReferenceIdeal.τ).loc Cert.AdamInReferenceIdeal.main_v20) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5))

def preserves_AdamConvRKernel_AdamConvRKernelIdeal : Prop :=
  True

def algebraic_AdamConvRKernelIdeal_AdamConvRReferenceIdeal [hAdamConvRKernelIdeal : Cert.AdamConvRKernelIdeal.Facts] [hAdamConvRReferenceIdeal : Cert.AdamConvRReferenceIdeal.Facts] [hPre_on_mesh_conv_rnn_w : Cert.Pre_on_mesh_conv_rnn_w.Facts] : Prop :=
  ∀ (m : (ℓ : Loc Cert.AdamConvRKernelIdeal.nD Cert.AdamConvRKernelIdeal.τ Cert.AdamConvRKernelIdeal.sig) → Buf (Elt Ideal) ℓ) (g : Dev Cert.AdamConvRKernelIdeal.nD → PrngReg)
    (m' : (ℓ : Loc Cert.AdamConvRReferenceIdeal.nD Cert.AdamConvRReferenceIdeal.τ Cert.AdamConvRReferenceIdeal.sig) → Buf (Elt Ideal) ℓ) (g' : Dev Cert.AdamConvRReferenceIdeal.nD → PrngReg), Pre_AdamConvRKernelIdeal m →
    (∀ c : Dev Cert.AdamConvRKernelIdeal.nD,
      m' ((c.tc : Thread Cert.AdamConvRReferenceIdeal.nD Cert.AdamConvRReferenceIdeal.τ).loc Cert.AdamConvRReferenceIdeal.main_arg0) = m ((c.tc : Thread Cert.AdamConvRKernelIdeal.nD Cert.AdamConvRKernelIdeal.τ).loc Cert.AdamConvRKernelIdeal.main_arg0)
      ∧ m' ((c.tc : Thread Cert.AdamConvRReferenceIdeal.nD Cert.AdamConvRReferenceIdeal.τ).loc Cert.AdamConvRReferenceIdeal.main_arg1) = m ((c.tc : Thread Cert.AdamConvRKernelIdeal.nD Cert.AdamConvRKernelIdeal.τ).loc Cert.AdamConvRKernelIdeal.main_arg1)
      ∧ m' ((c.tc : Thread Cert.AdamConvRReferenceIdeal.nD Cert.AdamConvRReferenceIdeal.τ).loc Cert.AdamConvRReferenceIdeal.main_arg2) = m ((c.tc : Thread Cert.AdamConvRKernelIdeal.nD Cert.AdamConvRKernelIdeal.τ).loc Cert.AdamConvRKernelIdeal.main_arg2)
      ∧ m' ((c.tc : Thread Cert.AdamConvRReferenceIdeal.nD Cert.AdamConvRReferenceIdeal.τ).loc Cert.AdamConvRReferenceIdeal.main_arg3) = m ((c.tc : Thread Cert.AdamConvRKernelIdeal.nD Cert.AdamConvRKernelIdeal.τ).loc Cert.AdamConvRKernelIdeal.main_arg3)
      ∧ m' ((c.tc : Thread Cert.AdamConvRReferenceIdeal.nD Cert.AdamConvRReferenceIdeal.τ).loc Cert.AdamConvRReferenceIdeal.main_arg4) = m ((c.tc : Thread Cert.AdamConvRKernelIdeal.nD Cert.AdamConvRKernelIdeal.τ).loc Cert.AdamConvRKernelIdeal.main_arg4)
      ∧ m' ((c.tc : Thread Cert.AdamConvRReferenceIdeal.nD Cert.AdamConvRReferenceIdeal.τ).loc Cert.AdamConvRReferenceIdeal.main_arg5) = m ((c.tc : Thread Cert.AdamConvRKernelIdeal.nD Cert.AdamConvRKernelIdeal.τ).loc Cert.AdamConvRKernelIdeal.main_arg5)) →
    ∃ (v0 : (c : Dev Cert.AdamConvRKernelIdeal.nD) → Buf (Elt Ideal) ((c.tc : Thread Cert.AdamConvRKernelIdeal.nD Cert.AdamConvRKernelIdeal.τ).loc Cert.AdamConvRKernelIdeal.main_v0_0)) (v1 : (c : Dev Cert.AdamConvRKernelIdeal.nD) → Buf (Elt Ideal) ((c.tc : Thread Cert.AdamConvRKernelIdeal.nD Cert.AdamConvRKernelIdeal.τ).loc Cert.AdamConvRKernelIdeal.main_v0_1)) (v2 : (c : Dev Cert.AdamConvRKernelIdeal.nD) → Buf (Elt Ideal) ((c.tc : Thread Cert.AdamConvRKernelIdeal.nD Cert.AdamConvRKernelIdeal.τ).loc Cert.AdamConvRKernelIdeal.main_v0_2)) (v3 : (c : Dev Cert.AdamConvRKernelIdeal.nD) → Buf (Elt Ideal) ((c.tc : Thread Cert.AdamConvRKernelIdeal.nD Cert.AdamConvRKernelIdeal.τ).loc Cert.AdamConvRKernelIdeal.main_v0_3)),
      θ_run (Cert.AdamConvRKernelIdeal.defs (F := Ideal)) (onTc (τ := Cert.AdamConvRKernelIdeal.τ) (Cert.AdamConvRKernelIdeal.main (F := Ideal))) ⟨m, fun _ => 0, g⟩ (fun r => ∀ c : Dev Cert.AdamConvRKernelIdeal.nD,
          r.2.mem ((c.tc : Thread Cert.AdamConvRKernelIdeal.nD Cert.AdamConvRKernelIdeal.τ).loc Cert.AdamConvRKernelIdeal.main_v0_0) = v0 c
          ∧ r.2.mem ((c.tc : Thread Cert.AdamConvRKernelIdeal.nD Cert.AdamConvRKernelIdeal.τ).loc Cert.AdamConvRKernelIdeal.main_v0_1) = v1 c
          ∧ r.2.mem ((c.tc : Thread Cert.AdamConvRKernelIdeal.nD Cert.AdamConvRKernelIdeal.τ).loc Cert.AdamConvRKernelIdeal.main_v0_2) = v2 c
          ∧ r.2.mem ((c.tc : Thread Cert.AdamConvRKernelIdeal.nD Cert.AdamConvRKernelIdeal.τ).loc Cert.AdamConvRKernelIdeal.main_v0_3) = v3 c
          ∧ r.2.mem ((c.tc : Thread Cert.AdamConvRKernelIdeal.nD Cert.AdamConvRKernelIdeal.τ).loc Cert.AdamConvRKernelIdeal.main_arg0) = m ((c.tc : Thread Cert.AdamConvRKernelIdeal.nD Cert.AdamConvRKernelIdeal.τ).loc Cert.AdamConvRKernelIdeal.main_arg0)
          ∧ r.2.mem ((c.tc : Thread Cert.AdamConvRKernelIdeal.nD Cert.AdamConvRKernelIdeal.τ).loc Cert.AdamConvRKernelIdeal.main_arg1) = m ((c.tc : Thread Cert.AdamConvRKernelIdeal.nD Cert.AdamConvRKernelIdeal.τ).loc Cert.AdamConvRKernelIdeal.main_arg1)
          ∧ r.2.mem ((c.tc : Thread Cert.AdamConvRKernelIdeal.nD Cert.AdamConvRKernelIdeal.τ).loc Cert.AdamConvRKernelIdeal.main_arg2) = m ((c.tc : Thread Cert.AdamConvRKernelIdeal.nD Cert.AdamConvRKernelIdeal.τ).loc Cert.AdamConvRKernelIdeal.main_arg2)
          ∧ r.2.mem ((c.tc : Thread Cert.AdamConvRKernelIdeal.nD Cert.AdamConvRKernelIdeal.τ).loc Cert.AdamConvRKernelIdeal.main_arg3) = m ((c.tc : Thread Cert.AdamConvRKernelIdeal.nD Cert.AdamConvRKernelIdeal.τ).loc Cert.AdamConvRKernelIdeal.main_arg3)
          ∧ r.2.mem ((c.tc : Thread Cert.AdamConvRKernelIdeal.nD Cert.AdamConvRKernelIdeal.τ).loc Cert.AdamConvRKernelIdeal.main_arg4) = m ((c.tc : Thread Cert.AdamConvRKernelIdeal.nD Cert.AdamConvRKernelIdeal.τ).loc Cert.AdamConvRKernelIdeal.main_arg4)
          ∧ r.2.mem ((c.tc : Thread Cert.AdamConvRKernelIdeal.nD Cert.AdamConvRKernelIdeal.τ).loc Cert.AdamConvRKernelIdeal.main_arg5) = m ((c.tc : Thread Cert.AdamConvRKernelIdeal.nD Cert.AdamConvRKernelIdeal.τ).loc Cert.AdamConvRKernelIdeal.main_arg5))
      ∧ θ_run (Cert.AdamConvRReferenceIdeal.defs (F := Ideal)) (onTc (τ := Cert.AdamConvRReferenceIdeal.τ) (Cert.AdamConvRReferenceIdeal.main (F := Ideal))) ⟨m', fun _ => 0, g'⟩ (fun r => ∀ c : Dev Cert.AdamConvRReferenceIdeal.nD,
          r.2.mem ((c.tc : Thread Cert.AdamConvRReferenceIdeal.nD Cert.AdamConvRReferenceIdeal.τ).loc Cert.AdamConvRReferenceIdeal.main_v9) = v0 c
          ∧ r.2.mem ((c.tc : Thread Cert.AdamConvRReferenceIdeal.nD Cert.AdamConvRReferenceIdeal.τ).loc Cert.AdamConvRReferenceIdeal.main_v33) = v1 c
          ∧ r.2.mem ((c.tc : Thread Cert.AdamConvRReferenceIdeal.nD Cert.AdamConvRReferenceIdeal.τ).loc Cert.AdamConvRReferenceIdeal.main_v14) = v2 c
          ∧ r.2.mem ((c.tc : Thread Cert.AdamConvRReferenceIdeal.nD Cert.AdamConvRReferenceIdeal.τ).loc Cert.AdamConvRReferenceIdeal.main_v20) = v3 c
          ∧ r.2.mem ((c.tc : Thread Cert.AdamConvRReferenceIdeal.nD Cert.AdamConvRReferenceIdeal.τ).loc Cert.AdamConvRReferenceIdeal.main_arg0) = m' ((c.tc : Thread Cert.AdamConvRReferenceIdeal.nD Cert.AdamConvRReferenceIdeal.τ).loc Cert.AdamConvRReferenceIdeal.main_arg0)
          ∧ r.2.mem ((c.tc : Thread Cert.AdamConvRReferenceIdeal.nD Cert.AdamConvRReferenceIdeal.τ).loc Cert.AdamConvRReferenceIdeal.main_arg1) = m' ((c.tc : Thread Cert.AdamConvRReferenceIdeal.nD Cert.AdamConvRReferenceIdeal.τ).loc Cert.AdamConvRReferenceIdeal.main_arg1)
          ∧ r.2.mem ((c.tc : Thread Cert.AdamConvRReferenceIdeal.nD Cert.AdamConvRReferenceIdeal.τ).loc Cert.AdamConvRReferenceIdeal.main_arg2) = m' ((c.tc : Thread Cert.AdamConvRReferenceIdeal.nD Cert.AdamConvRReferenceIdeal.τ).loc Cert.AdamConvRReferenceIdeal.main_arg2)
          ∧ r.2.mem ((c.tc : Thread Cert.AdamConvRReferenceIdeal.nD Cert.AdamConvRReferenceIdeal.τ).loc Cert.AdamConvRReferenceIdeal.main_arg3) = m' ((c.tc : Thread Cert.AdamConvRReferenceIdeal.nD Cert.AdamConvRReferenceIdeal.τ).loc Cert.AdamConvRReferenceIdeal.main_arg3)
          ∧ r.2.mem ((c.tc : Thread Cert.AdamConvRReferenceIdeal.nD Cert.AdamConvRReferenceIdeal.τ).loc Cert.AdamConvRReferenceIdeal.main_arg4) = m' ((c.tc : Thread Cert.AdamConvRReferenceIdeal.nD Cert.AdamConvRReferenceIdeal.τ).loc Cert.AdamConvRReferenceIdeal.main_arg4)
          ∧ r.2.mem ((c.tc : Thread Cert.AdamConvRReferenceIdeal.nD Cert.AdamConvRReferenceIdeal.τ).loc Cert.AdamConvRReferenceIdeal.main_arg5) = m' ((c.tc : Thread Cert.AdamConvRReferenceIdeal.nD Cert.AdamConvRReferenceIdeal.τ).loc Cert.AdamConvRReferenceIdeal.main_arg5))

def preserves_AdamBrnnKernel_AdamBrnnKernelIdeal : Prop :=
  True

def algebraic_AdamBrnnKernelIdeal_AdamBrnnReferenceIdeal [hAdamBrnnKernelIdeal : Cert.AdamBrnnKernelIdeal.Facts] [hAdamBrnnReferenceIdeal : Cert.AdamBrnnReferenceIdeal.Facts] [hPre_on_mesh_w_branch_rnn : Cert.Pre_on_mesh_w_branch_rnn.Facts] : Prop :=
  ∀ (m : (ℓ : Loc Cert.AdamBrnnKernelIdeal.nD Cert.AdamBrnnKernelIdeal.τ Cert.AdamBrnnKernelIdeal.sig) → Buf (Elt Ideal) ℓ) (g : Dev Cert.AdamBrnnKernelIdeal.nD → PrngReg)
    (m' : (ℓ : Loc Cert.AdamBrnnReferenceIdeal.nD Cert.AdamBrnnReferenceIdeal.τ Cert.AdamBrnnReferenceIdeal.sig) → Buf (Elt Ideal) ℓ) (g' : Dev Cert.AdamBrnnReferenceIdeal.nD → PrngReg), Pre_AdamBrnnKernelIdeal m →
    (∀ c : Dev Cert.AdamBrnnKernelIdeal.nD,
      m' ((c.tc : Thread Cert.AdamBrnnReferenceIdeal.nD Cert.AdamBrnnReferenceIdeal.τ).loc Cert.AdamBrnnReferenceIdeal.main_arg0) = m ((c.tc : Thread Cert.AdamBrnnKernelIdeal.nD Cert.AdamBrnnKernelIdeal.τ).loc Cert.AdamBrnnKernelIdeal.main_arg0)
      ∧ m' ((c.tc : Thread Cert.AdamBrnnReferenceIdeal.nD Cert.AdamBrnnReferenceIdeal.τ).loc Cert.AdamBrnnReferenceIdeal.main_arg1) = m ((c.tc : Thread Cert.AdamBrnnKernelIdeal.nD Cert.AdamBrnnKernelIdeal.τ).loc Cert.AdamBrnnKernelIdeal.main_arg1)
      ∧ m' ((c.tc : Thread Cert.AdamBrnnReferenceIdeal.nD Cert.AdamBrnnReferenceIdeal.τ).loc Cert.AdamBrnnReferenceIdeal.main_arg2) = m ((c.tc : Thread Cert.AdamBrnnKernelIdeal.nD Cert.AdamBrnnKernelIdeal.τ).loc Cert.AdamBrnnKernelIdeal.main_arg2)
      ∧ m' ((c.tc : Thread Cert.AdamBrnnReferenceIdeal.nD Cert.AdamBrnnReferenceIdeal.τ).loc Cert.AdamBrnnReferenceIdeal.main_arg3) = m ((c.tc : Thread Cert.AdamBrnnKernelIdeal.nD Cert.AdamBrnnKernelIdeal.τ).loc Cert.AdamBrnnKernelIdeal.main_arg3)
      ∧ m' ((c.tc : Thread Cert.AdamBrnnReferenceIdeal.nD Cert.AdamBrnnReferenceIdeal.τ).loc Cert.AdamBrnnReferenceIdeal.main_arg4) = m ((c.tc : Thread Cert.AdamBrnnKernelIdeal.nD Cert.AdamBrnnKernelIdeal.τ).loc Cert.AdamBrnnKernelIdeal.main_arg4)
      ∧ m' ((c.tc : Thread Cert.AdamBrnnReferenceIdeal.nD Cert.AdamBrnnReferenceIdeal.τ).loc Cert.AdamBrnnReferenceIdeal.main_arg5) = m ((c.tc : Thread Cert.AdamBrnnKernelIdeal.nD Cert.AdamBrnnKernelIdeal.τ).loc Cert.AdamBrnnKernelIdeal.main_arg5)) →
    ∃ (v0 : (c : Dev Cert.AdamBrnnKernelIdeal.nD) → Buf (Elt Ideal) ((c.tc : Thread Cert.AdamBrnnKernelIdeal.nD Cert.AdamBrnnKernelIdeal.τ).loc Cert.AdamBrnnKernelIdeal.main_v0_0)) (v1 : (c : Dev Cert.AdamBrnnKernelIdeal.nD) → Buf (Elt Ideal) ((c.tc : Thread Cert.AdamBrnnKernelIdeal.nD Cert.AdamBrnnKernelIdeal.τ).loc Cert.AdamBrnnKernelIdeal.main_v0_1)) (v2 : (c : Dev Cert.AdamBrnnKernelIdeal.nD) → Buf (Elt Ideal) ((c.tc : Thread Cert.AdamBrnnKernelIdeal.nD Cert.AdamBrnnKernelIdeal.τ).loc Cert.AdamBrnnKernelIdeal.main_v0_2)) (v3 : (c : Dev Cert.AdamBrnnKernelIdeal.nD) → Buf (Elt Ideal) ((c.tc : Thread Cert.AdamBrnnKernelIdeal.nD Cert.AdamBrnnKernelIdeal.τ).loc Cert.AdamBrnnKernelIdeal.main_v0_3)),
      θ_run (Cert.AdamBrnnKernelIdeal.defs (F := Ideal)) (onTc (τ := Cert.AdamBrnnKernelIdeal.τ) (Cert.AdamBrnnKernelIdeal.main (F := Ideal))) ⟨m, fun _ => 0, g⟩ (fun r => ∀ c : Dev Cert.AdamBrnnKernelIdeal.nD,
          r.2.mem ((c.tc : Thread Cert.AdamBrnnKernelIdeal.nD Cert.AdamBrnnKernelIdeal.τ).loc Cert.AdamBrnnKernelIdeal.main_v0_0) = v0 c
          ∧ r.2.mem ((c.tc : Thread Cert.AdamBrnnKernelIdeal.nD Cert.AdamBrnnKernelIdeal.τ).loc Cert.AdamBrnnKernelIdeal.main_v0_1) = v1 c
          ∧ r.2.mem ((c.tc : Thread Cert.AdamBrnnKernelIdeal.nD Cert.AdamBrnnKernelIdeal.τ).loc Cert.AdamBrnnKernelIdeal.main_v0_2) = v2 c
          ∧ r.2.mem ((c.tc : Thread Cert.AdamBrnnKernelIdeal.nD Cert.AdamBrnnKernelIdeal.τ).loc Cert.AdamBrnnKernelIdeal.main_v0_3) = v3 c
          ∧ r.2.mem ((c.tc : Thread Cert.AdamBrnnKernelIdeal.nD Cert.AdamBrnnKernelIdeal.τ).loc Cert.AdamBrnnKernelIdeal.main_arg0) = m ((c.tc : Thread Cert.AdamBrnnKernelIdeal.nD Cert.AdamBrnnKernelIdeal.τ).loc Cert.AdamBrnnKernelIdeal.main_arg0)
          ∧ r.2.mem ((c.tc : Thread Cert.AdamBrnnKernelIdeal.nD Cert.AdamBrnnKernelIdeal.τ).loc Cert.AdamBrnnKernelIdeal.main_arg1) = m ((c.tc : Thread Cert.AdamBrnnKernelIdeal.nD Cert.AdamBrnnKernelIdeal.τ).loc Cert.AdamBrnnKernelIdeal.main_arg1)
          ∧ r.2.mem ((c.tc : Thread Cert.AdamBrnnKernelIdeal.nD Cert.AdamBrnnKernelIdeal.τ).loc Cert.AdamBrnnKernelIdeal.main_arg2) = m ((c.tc : Thread Cert.AdamBrnnKernelIdeal.nD Cert.AdamBrnnKernelIdeal.τ).loc Cert.AdamBrnnKernelIdeal.main_arg2)
          ∧ r.2.mem ((c.tc : Thread Cert.AdamBrnnKernelIdeal.nD Cert.AdamBrnnKernelIdeal.τ).loc Cert.AdamBrnnKernelIdeal.main_arg3) = m ((c.tc : Thread Cert.AdamBrnnKernelIdeal.nD Cert.AdamBrnnKernelIdeal.τ).loc Cert.AdamBrnnKernelIdeal.main_arg3)
          ∧ r.2.mem ((c.tc : Thread Cert.AdamBrnnKernelIdeal.nD Cert.AdamBrnnKernelIdeal.τ).loc Cert.AdamBrnnKernelIdeal.main_arg4) = m ((c.tc : Thread Cert.AdamBrnnKernelIdeal.nD Cert.AdamBrnnKernelIdeal.τ).loc Cert.AdamBrnnKernelIdeal.main_arg4)
          ∧ r.2.mem ((c.tc : Thread Cert.AdamBrnnKernelIdeal.nD Cert.AdamBrnnKernelIdeal.τ).loc Cert.AdamBrnnKernelIdeal.main_arg5) = m ((c.tc : Thread Cert.AdamBrnnKernelIdeal.nD Cert.AdamBrnnKernelIdeal.τ).loc Cert.AdamBrnnKernelIdeal.main_arg5))
      ∧ θ_run (Cert.AdamBrnnReferenceIdeal.defs (F := Ideal)) (onTc (τ := Cert.AdamBrnnReferenceIdeal.τ) (Cert.AdamBrnnReferenceIdeal.main (F := Ideal))) ⟨m', fun _ => 0, g'⟩ (fun r => ∀ c : Dev Cert.AdamBrnnReferenceIdeal.nD,
          r.2.mem ((c.tc : Thread Cert.AdamBrnnReferenceIdeal.nD Cert.AdamBrnnReferenceIdeal.τ).loc Cert.AdamBrnnReferenceIdeal.main_v9) = v0 c
          ∧ r.2.mem ((c.tc : Thread Cert.AdamBrnnReferenceIdeal.nD Cert.AdamBrnnReferenceIdeal.τ).loc Cert.AdamBrnnReferenceIdeal.main_v33) = v1 c
          ∧ r.2.mem ((c.tc : Thread Cert.AdamBrnnReferenceIdeal.nD Cert.AdamBrnnReferenceIdeal.τ).loc Cert.AdamBrnnReferenceIdeal.main_v14) = v2 c
          ∧ r.2.mem ((c.tc : Thread Cert.AdamBrnnReferenceIdeal.nD Cert.AdamBrnnReferenceIdeal.τ).loc Cert.AdamBrnnReferenceIdeal.main_v20) = v3 c
          ∧ r.2.mem ((c.tc : Thread Cert.AdamBrnnReferenceIdeal.nD Cert.AdamBrnnReferenceIdeal.τ).loc Cert.AdamBrnnReferenceIdeal.main_arg0) = m' ((c.tc : Thread Cert.AdamBrnnReferenceIdeal.nD Cert.AdamBrnnReferenceIdeal.τ).loc Cert.AdamBrnnReferenceIdeal.main_arg0)
          ∧ r.2.mem ((c.tc : Thread Cert.AdamBrnnReferenceIdeal.nD Cert.AdamBrnnReferenceIdeal.τ).loc Cert.AdamBrnnReferenceIdeal.main_arg1) = m' ((c.tc : Thread Cert.AdamBrnnReferenceIdeal.nD Cert.AdamBrnnReferenceIdeal.τ).loc Cert.AdamBrnnReferenceIdeal.main_arg1)
          ∧ r.2.mem ((c.tc : Thread Cert.AdamBrnnReferenceIdeal.nD Cert.AdamBrnnReferenceIdeal.τ).loc Cert.AdamBrnnReferenceIdeal.main_arg2) = m' ((c.tc : Thread Cert.AdamBrnnReferenceIdeal.nD Cert.AdamBrnnReferenceIdeal.τ).loc Cert.AdamBrnnReferenceIdeal.main_arg2)
          ∧ r.2.mem ((c.tc : Thread Cert.AdamBrnnReferenceIdeal.nD Cert.AdamBrnnReferenceIdeal.τ).loc Cert.AdamBrnnReferenceIdeal.main_arg3) = m' ((c.tc : Thread Cert.AdamBrnnReferenceIdeal.nD Cert.AdamBrnnReferenceIdeal.τ).loc Cert.AdamBrnnReferenceIdeal.main_arg3)
          ∧ r.2.mem ((c.tc : Thread Cert.AdamBrnnReferenceIdeal.nD Cert.AdamBrnnReferenceIdeal.τ).loc Cert.AdamBrnnReferenceIdeal.main_arg4) = m' ((c.tc : Thread Cert.AdamBrnnReferenceIdeal.nD Cert.AdamBrnnReferenceIdeal.τ).loc Cert.AdamBrnnReferenceIdeal.main_arg4)
          ∧ r.2.mem ((c.tc : Thread Cert.AdamBrnnReferenceIdeal.nD Cert.AdamBrnnReferenceIdeal.τ).loc Cert.AdamBrnnReferenceIdeal.main_arg5) = m' ((c.tc : Thread Cert.AdamBrnnReferenceIdeal.nD Cert.AdamBrnnReferenceIdeal.τ).loc Cert.AdamBrnnReferenceIdeal.main_arg5))

def preserves_AdamBattKernel_AdamBattKernelIdeal : Prop :=
  True

def algebraic_AdamBattKernelIdeal_AdamBattReferenceIdeal [hAdamBattKernelIdeal : Cert.AdamBattKernelIdeal.Facts] [hAdamBattReferenceIdeal : Cert.AdamBattReferenceIdeal.Facts] [hPre_on_mesh_w_branch_att : Cert.Pre_on_mesh_w_branch_att.Facts] : Prop :=
  ∀ (m : (ℓ : Loc Cert.AdamBattKernelIdeal.nD Cert.AdamBattKernelIdeal.τ Cert.AdamBattKernelIdeal.sig) → Buf (Elt Ideal) ℓ) (g : Dev Cert.AdamBattKernelIdeal.nD → PrngReg)
    (m' : (ℓ : Loc Cert.AdamBattReferenceIdeal.nD Cert.AdamBattReferenceIdeal.τ Cert.AdamBattReferenceIdeal.sig) → Buf (Elt Ideal) ℓ) (g' : Dev Cert.AdamBattReferenceIdeal.nD → PrngReg), Pre_AdamBattKernelIdeal m →
    (∀ c : Dev Cert.AdamBattKernelIdeal.nD,
      m' ((c.tc : Thread Cert.AdamBattReferenceIdeal.nD Cert.AdamBattReferenceIdeal.τ).loc Cert.AdamBattReferenceIdeal.main_arg0) = m ((c.tc : Thread Cert.AdamBattKernelIdeal.nD Cert.AdamBattKernelIdeal.τ).loc Cert.AdamBattKernelIdeal.main_arg0)
      ∧ m' ((c.tc : Thread Cert.AdamBattReferenceIdeal.nD Cert.AdamBattReferenceIdeal.τ).loc Cert.AdamBattReferenceIdeal.main_arg1) = m ((c.tc : Thread Cert.AdamBattKernelIdeal.nD Cert.AdamBattKernelIdeal.τ).loc Cert.AdamBattKernelIdeal.main_arg1)
      ∧ m' ((c.tc : Thread Cert.AdamBattReferenceIdeal.nD Cert.AdamBattReferenceIdeal.τ).loc Cert.AdamBattReferenceIdeal.main_arg2) = m ((c.tc : Thread Cert.AdamBattKernelIdeal.nD Cert.AdamBattKernelIdeal.τ).loc Cert.AdamBattKernelIdeal.main_arg2)
      ∧ m' ((c.tc : Thread Cert.AdamBattReferenceIdeal.nD Cert.AdamBattReferenceIdeal.τ).loc Cert.AdamBattReferenceIdeal.main_arg3) = m ((c.tc : Thread Cert.AdamBattKernelIdeal.nD Cert.AdamBattKernelIdeal.τ).loc Cert.AdamBattKernelIdeal.main_arg3)
      ∧ m' ((c.tc : Thread Cert.AdamBattReferenceIdeal.nD Cert.AdamBattReferenceIdeal.τ).loc Cert.AdamBattReferenceIdeal.main_arg4) = m ((c.tc : Thread Cert.AdamBattKernelIdeal.nD Cert.AdamBattKernelIdeal.τ).loc Cert.AdamBattKernelIdeal.main_arg4)
      ∧ m' ((c.tc : Thread Cert.AdamBattReferenceIdeal.nD Cert.AdamBattReferenceIdeal.τ).loc Cert.AdamBattReferenceIdeal.main_arg5) = m ((c.tc : Thread Cert.AdamBattKernelIdeal.nD Cert.AdamBattKernelIdeal.τ).loc Cert.AdamBattKernelIdeal.main_arg5)) →
    ∃ (v0 : (c : Dev Cert.AdamBattKernelIdeal.nD) → Buf (Elt Ideal) ((c.tc : Thread Cert.AdamBattKernelIdeal.nD Cert.AdamBattKernelIdeal.τ).loc Cert.AdamBattKernelIdeal.main_v0_0)) (v1 : (c : Dev Cert.AdamBattKernelIdeal.nD) → Buf (Elt Ideal) ((c.tc : Thread Cert.AdamBattKernelIdeal.nD Cert.AdamBattKernelIdeal.τ).loc Cert.AdamBattKernelIdeal.main_v0_1)) (v2 : (c : Dev Cert.AdamBattKernelIdeal.nD) → Buf (Elt Ideal) ((c.tc : Thread Cert.AdamBattKernelIdeal.nD Cert.AdamBattKernelIdeal.τ).loc Cert.AdamBattKernelIdeal.main_v0_2)) (v3 : (c : Dev Cert.AdamBattKernelIdeal.nD) → Buf (Elt Ideal) ((c.tc : Thread Cert.AdamBattKernelIdeal.nD Cert.AdamBattKernelIdeal.τ).loc Cert.AdamBattKernelIdeal.main_v0_3)),
      θ_run (Cert.AdamBattKernelIdeal.defs (F := Ideal)) (onTc (τ := Cert.AdamBattKernelIdeal.τ) (Cert.AdamBattKernelIdeal.main (F := Ideal))) ⟨m, fun _ => 0, g⟩ (fun r => ∀ c : Dev Cert.AdamBattKernelIdeal.nD,
          r.2.mem ((c.tc : Thread Cert.AdamBattKernelIdeal.nD Cert.AdamBattKernelIdeal.τ).loc Cert.AdamBattKernelIdeal.main_v0_0) = v0 c
          ∧ r.2.mem ((c.tc : Thread Cert.AdamBattKernelIdeal.nD Cert.AdamBattKernelIdeal.τ).loc Cert.AdamBattKernelIdeal.main_v0_1) = v1 c
          ∧ r.2.mem ((c.tc : Thread Cert.AdamBattKernelIdeal.nD Cert.AdamBattKernelIdeal.τ).loc Cert.AdamBattKernelIdeal.main_v0_2) = v2 c
          ∧ r.2.mem ((c.tc : Thread Cert.AdamBattKernelIdeal.nD Cert.AdamBattKernelIdeal.τ).loc Cert.AdamBattKernelIdeal.main_v0_3) = v3 c
          ∧ r.2.mem ((c.tc : Thread Cert.AdamBattKernelIdeal.nD Cert.AdamBattKernelIdeal.τ).loc Cert.AdamBattKernelIdeal.main_arg0) = m ((c.tc : Thread Cert.AdamBattKernelIdeal.nD Cert.AdamBattKernelIdeal.τ).loc Cert.AdamBattKernelIdeal.main_arg0)
          ∧ r.2.mem ((c.tc : Thread Cert.AdamBattKernelIdeal.nD Cert.AdamBattKernelIdeal.τ).loc Cert.AdamBattKernelIdeal.main_arg1) = m ((c.tc : Thread Cert.AdamBattKernelIdeal.nD Cert.AdamBattKernelIdeal.τ).loc Cert.AdamBattKernelIdeal.main_arg1)
          ∧ r.2.mem ((c.tc : Thread Cert.AdamBattKernelIdeal.nD Cert.AdamBattKernelIdeal.τ).loc Cert.AdamBattKernelIdeal.main_arg2) = m ((c.tc : Thread Cert.AdamBattKernelIdeal.nD Cert.AdamBattKernelIdeal.τ).loc Cert.AdamBattKernelIdeal.main_arg2)
          ∧ r.2.mem ((c.tc : Thread Cert.AdamBattKernelIdeal.nD Cert.AdamBattKernelIdeal.τ).loc Cert.AdamBattKernelIdeal.main_arg3) = m ((c.tc : Thread Cert.AdamBattKernelIdeal.nD Cert.AdamBattKernelIdeal.τ).loc Cert.AdamBattKernelIdeal.main_arg3)
          ∧ r.2.mem ((c.tc : Thread Cert.AdamBattKernelIdeal.nD Cert.AdamBattKernelIdeal.τ).loc Cert.AdamBattKernelIdeal.main_arg4) = m ((c.tc : Thread Cert.AdamBattKernelIdeal.nD Cert.AdamBattKernelIdeal.τ).loc Cert.AdamBattKernelIdeal.main_arg4)
          ∧ r.2.mem ((c.tc : Thread Cert.AdamBattKernelIdeal.nD Cert.AdamBattKernelIdeal.τ).loc Cert.AdamBattKernelIdeal.main_arg5) = m ((c.tc : Thread Cert.AdamBattKernelIdeal.nD Cert.AdamBattKernelIdeal.τ).loc Cert.AdamBattKernelIdeal.main_arg5))
      ∧ θ_run (Cert.AdamBattReferenceIdeal.defs (F := Ideal)) (onTc (τ := Cert.AdamBattReferenceIdeal.τ) (Cert.AdamBattReferenceIdeal.main (F := Ideal))) ⟨m', fun _ => 0, g'⟩ (fun r => ∀ c : Dev Cert.AdamBattReferenceIdeal.nD,
          r.2.mem ((c.tc : Thread Cert.AdamBattReferenceIdeal.nD Cert.AdamBattReferenceIdeal.τ).loc Cert.AdamBattReferenceIdeal.main_v9) = v0 c
          ∧ r.2.mem ((c.tc : Thread Cert.AdamBattReferenceIdeal.nD Cert.AdamBattReferenceIdeal.τ).loc Cert.AdamBattReferenceIdeal.main_v33) = v1 c
          ∧ r.2.mem ((c.tc : Thread Cert.AdamBattReferenceIdeal.nD Cert.AdamBattReferenceIdeal.τ).loc Cert.AdamBattReferenceIdeal.main_v14) = v2 c
          ∧ r.2.mem ((c.tc : Thread Cert.AdamBattReferenceIdeal.nD Cert.AdamBattReferenceIdeal.τ).loc Cert.AdamBattReferenceIdeal.main_v20) = v3 c
          ∧ r.2.mem ((c.tc : Thread Cert.AdamBattReferenceIdeal.nD Cert.AdamBattReferenceIdeal.τ).loc Cert.AdamBattReferenceIdeal.main_arg0) = m' ((c.tc : Thread Cert.AdamBattReferenceIdeal.nD Cert.AdamBattReferenceIdeal.τ).loc Cert.AdamBattReferenceIdeal.main_arg0)
          ∧ r.2.mem ((c.tc : Thread Cert.AdamBattReferenceIdeal.nD Cert.AdamBattReferenceIdeal.τ).loc Cert.AdamBattReferenceIdeal.main_arg1) = m' ((c.tc : Thread Cert.AdamBattReferenceIdeal.nD Cert.AdamBattReferenceIdeal.τ).loc Cert.AdamBattReferenceIdeal.main_arg1)
          ∧ r.2.mem ((c.tc : Thread Cert.AdamBattReferenceIdeal.nD Cert.AdamBattReferenceIdeal.τ).loc Cert.AdamBattReferenceIdeal.main_arg2) = m' ((c.tc : Thread Cert.AdamBattReferenceIdeal.nD Cert.AdamBattReferenceIdeal.τ).loc Cert.AdamBattReferenceIdeal.main_arg2)
          ∧ r.2.mem ((c.tc : Thread Cert.AdamBattReferenceIdeal.nD Cert.AdamBattReferenceIdeal.τ).loc Cert.AdamBattReferenceIdeal.main_arg3) = m' ((c.tc : Thread Cert.AdamBattReferenceIdeal.nD Cert.AdamBattReferenceIdeal.τ).loc Cert.AdamBattReferenceIdeal.main_arg3)
          ∧ r.2.mem ((c.tc : Thread Cert.AdamBattReferenceIdeal.nD Cert.AdamBattReferenceIdeal.τ).loc Cert.AdamBattReferenceIdeal.main_arg4) = m' ((c.tc : Thread Cert.AdamBattReferenceIdeal.nD Cert.AdamBattReferenceIdeal.τ).loc Cert.AdamBattReferenceIdeal.main_arg4)
          ∧ r.2.mem ((c.tc : Thread Cert.AdamBattReferenceIdeal.nD Cert.AdamBattReferenceIdeal.τ).loc Cert.AdamBattReferenceIdeal.main_arg5) = m' ((c.tc : Thread Cert.AdamBattReferenceIdeal.nD Cert.AdamBattReferenceIdeal.τ).loc Cert.AdamBattReferenceIdeal.main_arg5))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] [hPre_on_mesh_w_out : Cert.Pre_on_mesh_w_out.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)
      ∧ m' ((c.tc : Thread Cert.AdamOutReferenceIdeal.nD Cert.AdamOutReferenceIdeal.τ).loc Cert.AdamOutReferenceIdeal.main_arg4) = m ((c.tc : Thread Cert.AdamOutKernelIdeal.nD Cert.AdamOutKernelIdeal.τ).loc Cert.AdamOutKernelIdeal.main_arg4)
      ∧ m' ((c.tc : Thread Cert.AdamOutReferenceIdeal.nD Cert.AdamOutReferenceIdeal.τ).loc Cert.AdamOutReferenceIdeal.main_arg5) = m ((c.tc : Thread Cert.AdamOutKernelIdeal.nD Cert.AdamOutKernelIdeal.τ).loc Cert.AdamOutKernelIdeal.main_arg5)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)) (v3 : (c : Dev Cert.AdamOutKernelIdeal.nD) → Buf (Elt Ideal) ((c.tc : Thread Cert.AdamOutKernelIdeal.nD Cert.AdamOutKernelIdeal.τ).loc Cert.AdamOutKernelIdeal.main_v0_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_v0_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
          ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4)
          ∧ r.2.mem ((c.tc : Thread Cert.AdamOutKernelIdeal.nD Cert.AdamOutKernelIdeal.τ).loc Cert.AdamOutKernelIdeal.main_arg5) = m ((c.tc : Thread Cert.AdamOutKernelIdeal.nD Cert.AdamOutKernelIdeal.τ).loc Cert.AdamOutKernelIdeal.main_arg5))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v9) = v0 c
          ∧ r.2.mem ((c.tc : Thread Cert.AdamOutReferenceIdeal.nD Cert.AdamOutReferenceIdeal.τ).loc Cert.AdamOutReferenceIdeal.main_v33) = v1 c
          ∧ r.2.mem ((c.tc : Thread Cert.AdamOutReferenceIdeal.nD Cert.AdamOutReferenceIdeal.τ).loc Cert.AdamOutReferenceIdeal.main_v14) = v2 c
          ∧ r.2.mem ((c.tc : Thread Cert.AdamOutReferenceIdeal.nD Cert.AdamOutReferenceIdeal.τ).loc Cert.AdamOutReferenceIdeal.main_v20) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5))

def preserves_AdamGateKernel_AdamGateKernelIdeal : Prop :=
  True

def algebraic_AdamGateKernelIdeal_AdamGateReferenceIdeal [hAdamGateKernelIdeal : Cert.AdamGateKernelIdeal.Facts] [hAdamGateReferenceIdeal : Cert.AdamGateReferenceIdeal.Facts] [hPre_on_mesh_w_ffn_gate : Cert.Pre_on_mesh_w_ffn_gate.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateKernelIdeal m →
    (∀ c : Dev Cert.AdamGateKernelIdeal.nD,
      m' ((c.tc : Thread Cert.AdamGateReferenceIdeal.nD Cert.AdamGateReferenceIdeal.τ).loc Cert.AdamGateReferenceIdeal.main_arg0) = m ((c.tc : Thread Cert.AdamGateKernelIdeal.nD Cert.AdamGateKernelIdeal.τ).loc Cert.AdamGateKernelIdeal.main_arg0)
      ∧ m' ((c.tc : Thread Cert.AdamGateReferenceIdeal.nD Cert.AdamGateReferenceIdeal.τ).loc Cert.AdamGateReferenceIdeal.main_arg1) = m ((c.tc : Thread Cert.AdamGateKernelIdeal.nD Cert.AdamGateKernelIdeal.τ).loc Cert.AdamGateKernelIdeal.main_arg1)
      ∧ m' ((c.tc : Thread Cert.AdamGateReferenceIdeal.nD Cert.AdamGateReferenceIdeal.τ).loc Cert.AdamGateReferenceIdeal.main_arg2) = m ((c.tc : Thread Cert.AdamGateKernelIdeal.nD Cert.AdamGateKernelIdeal.τ).loc Cert.AdamGateKernelIdeal.main_arg2)
      ∧ m' ((c.tc : Thread Cert.AdamGateReferenceIdeal.nD Cert.AdamGateReferenceIdeal.τ).loc Cert.AdamGateReferenceIdeal.main_arg3) = m ((c.tc : Thread Cert.AdamGateKernelIdeal.nD Cert.AdamGateKernelIdeal.τ).loc Cert.AdamGateKernelIdeal.main_arg3)
      ∧ m' ((c.tc : Thread Cert.AdamGateReferenceIdeal.nD Cert.AdamGateReferenceIdeal.τ).loc Cert.AdamGateReferenceIdeal.main_arg4) = m ((c.tc : Thread Cert.AdamGateKernelIdeal.nD Cert.AdamGateKernelIdeal.τ).loc Cert.AdamGateKernelIdeal.main_arg4)
      ∧ m' ((c.tc : Thread Cert.AdamGateReferenceIdeal.nD Cert.AdamGateReferenceIdeal.τ).loc Cert.AdamGateReferenceIdeal.main_arg5) = m ((c.tc : Thread Cert.AdamGateKernelIdeal.nD Cert.AdamGateKernelIdeal.τ).loc Cert.AdamGateKernelIdeal.main_arg5)) →
    ∃ (v0 : (c : Dev Cert.AdamGateKernelIdeal.nD) → Buf (Elt Ideal) ((c.tc : Thread Cert.AdamGateKernelIdeal.nD Cert.AdamGateKernelIdeal.τ).loc Cert.AdamGateKernelIdeal.main_v0_0)) (v1 : (c : Dev Cert.AdamGateKernelIdeal.nD) → Buf (Elt Ideal) ((c.tc : Thread Cert.AdamGateKernelIdeal.nD Cert.AdamGateKernelIdeal.τ).loc Cert.AdamGateKernelIdeal.main_v0_1)) (v2 : (c : Dev Cert.AdamGateKernelIdeal.nD) → Buf (Elt Ideal) ((c.tc : Thread Cert.AdamGateKernelIdeal.nD Cert.AdamGateKernelIdeal.τ).loc Cert.AdamGateKernelIdeal.main_v0_2)) (v3 : (c : Dev Cert.AdamGateKernelIdeal.nD) → Buf (Elt Ideal) ((c.tc : Thread Cert.AdamGateKernelIdeal.nD Cert.AdamGateKernelIdeal.τ).loc Cert.AdamGateKernelIdeal.main_v0_3)),
      θ_run (Cert.AdamGateKernelIdeal.defs (F := Ideal)) (onTc (τ := Cert.AdamGateKernelIdeal.τ) (Cert.AdamGateKernelIdeal.main (F := Ideal))) ⟨m, fun _ => 0, g⟩ (fun r => ∀ c : Dev Cert.AdamGateKernelIdeal.nD,
          r.2.mem ((c.tc : Thread Cert.AdamGateKernelIdeal.nD Cert.AdamGateKernelIdeal.τ).loc Cert.AdamGateKernelIdeal.main_v0_0) = v0 c
          ∧ r.2.mem ((c.tc : Thread Cert.AdamGateKernelIdeal.nD Cert.AdamGateKernelIdeal.τ).loc Cert.AdamGateKernelIdeal.main_v0_1) = v1 c
          ∧ r.2.mem ((c.tc : Thread Cert.AdamGateKernelIdeal.nD Cert.AdamGateKernelIdeal.τ).loc Cert.AdamGateKernelIdeal.main_v0_2) = v2 c
          ∧ r.2.mem ((c.tc : Thread Cert.AdamGateKernelIdeal.nD Cert.AdamGateKernelIdeal.τ).loc Cert.AdamGateKernelIdeal.main_v0_3) = v3 c
          ∧ r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
          ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
          ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
          ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3)
          ∧ r.2.mem ((c.tc : Thread Cert.AdamGateKernelIdeal.nD Cert.AdamGateKernelIdeal.τ).loc Cert.AdamGateKernelIdeal.main_arg4) = m ((c.tc : Thread Cert.AdamGateKernelIdeal.nD Cert.AdamGateKernelIdeal.τ).loc Cert.AdamGateKernelIdeal.main_arg4)
          ∧ r.2.mem ((c.tc : Thread Cert.AdamGateKernelIdeal.nD Cert.AdamGateKernelIdeal.τ).loc Cert.AdamGateKernelIdeal.main_arg5) = m ((c.tc : Thread Cert.AdamGateKernelIdeal.nD Cert.AdamGateKernelIdeal.τ).loc Cert.AdamGateKernelIdeal.main_arg5))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v9) = v0 c
          ∧ r.2.mem ((c.tc : Thread Cert.AdamGateReferenceIdeal.nD Cert.AdamGateReferenceIdeal.τ).loc Cert.AdamGateReferenceIdeal.main_v33) = v1 c
          ∧ r.2.mem ((c.tc : Thread Cert.AdamGateReferenceIdeal.nD Cert.AdamGateReferenceIdeal.τ).loc Cert.AdamGateReferenceIdeal.main_v14) = v2 c
          ∧ r.2.mem ((c.tc : Thread Cert.AdamGateReferenceIdeal.nD Cert.AdamGateReferenceIdeal.τ).loc Cert.AdamGateReferenceIdeal.main_v20) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3)
          ∧ r.2.mem ((c.tc : Thread Cert.AdamGateReferenceIdeal.nD Cert.AdamGateReferenceIdeal.τ).loc Cert.AdamGateReferenceIdeal.main_arg4) = m' ((c.tc : Thread Cert.AdamGateReferenceIdeal.nD Cert.AdamGateReferenceIdeal.τ).loc Cert.AdamGateReferenceIdeal.main_arg4)
          ∧ r.2.mem ((c.tc : Thread Cert.AdamGateReferenceIdeal.nD Cert.AdamGateReferenceIdeal.τ).loc Cert.AdamGateReferenceIdeal.main_arg5) = m' ((c.tc : Thread Cert.AdamGateReferenceIdeal.nD Cert.AdamGateReferenceIdeal.τ).loc Cert.AdamGateReferenceIdeal.main_arg5))

def preserves_AdamConvFKernel_AdamConvFKernelIdeal : Prop :=
  True

def algebraic_AdamConvFKernelIdeal_AdamConvFReferenceIdeal [hAdamConvFKernelIdeal : Cert.AdamConvFKernelIdeal.Facts] [hAdamConvFReferenceIdeal : Cert.AdamConvFReferenceIdeal.Facts] [hPre_on_mesh_conv_ffn_w : Cert.Pre_on_mesh_conv_ffn_w.Facts] : Prop :=
  ∀ (m : (ℓ : Loc Cert.AdamConvFKernelIdeal.nD Cert.AdamConvFKernelIdeal.τ Cert.AdamConvFKernelIdeal.sig) → Buf (Elt Ideal) ℓ) (g : Dev Cert.AdamConvFKernelIdeal.nD → PrngReg)
    (m' : (ℓ : Loc Cert.AdamConvFReferenceIdeal.nD Cert.AdamConvFReferenceIdeal.τ Cert.AdamConvFReferenceIdeal.sig) → Buf (Elt Ideal) ℓ) (g' : Dev Cert.AdamConvFReferenceIdeal.nD → PrngReg), Pre_AdamConvFKernelIdeal m →
    (∀ c : Dev Cert.AdamConvFKernelIdeal.nD,
      m' ((c.tc : Thread Cert.AdamConvFReferenceIdeal.nD Cert.AdamConvFReferenceIdeal.τ).loc Cert.AdamConvFReferenceIdeal.main_arg0) = m ((c.tc : Thread Cert.AdamConvFKernelIdeal.nD Cert.AdamConvFKernelIdeal.τ).loc Cert.AdamConvFKernelIdeal.main_arg0)
      ∧ m' ((c.tc : Thread Cert.AdamConvFReferenceIdeal.nD Cert.AdamConvFReferenceIdeal.τ).loc Cert.AdamConvFReferenceIdeal.main_arg1) = m ((c.tc : Thread Cert.AdamConvFKernelIdeal.nD Cert.AdamConvFKernelIdeal.τ).loc Cert.AdamConvFKernelIdeal.main_arg1)
      ∧ m' ((c.tc : Thread Cert.AdamConvFReferenceIdeal.nD Cert.AdamConvFReferenceIdeal.τ).loc Cert.AdamConvFReferenceIdeal.main_arg2) = m ((c.tc : Thread Cert.AdamConvFKernelIdeal.nD Cert.AdamConvFKernelIdeal.τ).loc Cert.AdamConvFKernelIdeal.main_arg2)
      ∧ m' ((c.tc : Thread Cert.AdamConvFReferenceIdeal.nD Cert.AdamConvFReferenceIdeal.τ).loc Cert.AdamConvFReferenceIdeal.main_arg3) = m ((c.tc : Thread Cert.AdamConvFKernelIdeal.nD Cert.AdamConvFKernelIdeal.τ).loc Cert.AdamConvFKernelIdeal.main_arg3)
      ∧ m' ((c.tc : Thread Cert.AdamConvFReferenceIdeal.nD Cert.AdamConvFReferenceIdeal.τ).loc Cert.AdamConvFReferenceIdeal.main_arg4) = m ((c.tc : Thread Cert.AdamConvFKernelIdeal.nD Cert.AdamConvFKernelIdeal.τ).loc Cert.AdamConvFKernelIdeal.main_arg4)
      ∧ m' ((c.tc : Thread Cert.AdamConvFReferenceIdeal.nD Cert.AdamConvFReferenceIdeal.τ).loc Cert.AdamConvFReferenceIdeal.main_arg5) = m ((c.tc : Thread Cert.AdamConvFKernelIdeal.nD Cert.AdamConvFKernelIdeal.τ).loc Cert.AdamConvFKernelIdeal.main_arg5)) →
    ∃ (v0 : (c : Dev Cert.AdamConvFKernelIdeal.nD) → Buf (Elt Ideal) ((c.tc : Thread Cert.AdamConvFKernelIdeal.nD Cert.AdamConvFKernelIdeal.τ).loc Cert.AdamConvFKernelIdeal.main_v0_0)) (v1 : (c : Dev Cert.AdamConvFKernelIdeal.nD) → Buf (Elt Ideal) ((c.tc : Thread Cert.AdamConvFKernelIdeal.nD Cert.AdamConvFKernelIdeal.τ).loc Cert.AdamConvFKernelIdeal.main_v0_1)) (v2 : (c : Dev Cert.AdamConvFKernelIdeal.nD) → Buf (Elt Ideal) ((c.tc : Thread Cert.AdamConvFKernelIdeal.nD Cert.AdamConvFKernelIdeal.τ).loc Cert.AdamConvFKernelIdeal.main_v0_2)) (v3 : (c : Dev Cert.AdamConvFKernelIdeal.nD) → Buf (Elt Ideal) ((c.tc : Thread Cert.AdamConvFKernelIdeal.nD Cert.AdamConvFKernelIdeal.τ).loc Cert.AdamConvFKernelIdeal.main_v0_3)),
      θ_run (Cert.AdamConvFKernelIdeal.defs (F := Ideal)) (onTc (τ := Cert.AdamConvFKernelIdeal.τ) (Cert.AdamConvFKernelIdeal.main (F := Ideal))) ⟨m, fun _ => 0, g⟩ (fun r => ∀ c : Dev Cert.AdamConvFKernelIdeal.nD,
          r.2.mem ((c.tc : Thread Cert.AdamConvFKernelIdeal.nD Cert.AdamConvFKernelIdeal.τ).loc Cert.AdamConvFKernelIdeal.main_v0_0) = v0 c
          ∧ r.2.mem ((c.tc : Thread Cert.AdamConvFKernelIdeal.nD Cert.AdamConvFKernelIdeal.τ).loc Cert.AdamConvFKernelIdeal.main_v0_1) = v1 c
          ∧ r.2.mem ((c.tc : Thread Cert.AdamConvFKernelIdeal.nD Cert.AdamConvFKernelIdeal.τ).loc Cert.AdamConvFKernelIdeal.main_v0_2) = v2 c
          ∧ r.2.mem ((c.tc : Thread Cert.AdamConvFKernelIdeal.nD Cert.AdamConvFKernelIdeal.τ).loc Cert.AdamConvFKernelIdeal.main_v0_3) = v3 c
          ∧ r.2.mem ((c.tc : Thread Cert.AdamConvFKernelIdeal.nD Cert.AdamConvFKernelIdeal.τ).loc Cert.AdamConvFKernelIdeal.main_arg0) = m ((c.tc : Thread Cert.AdamConvFKernelIdeal.nD Cert.AdamConvFKernelIdeal.τ).loc Cert.AdamConvFKernelIdeal.main_arg0)
          ∧ r.2.mem ((c.tc : Thread Cert.AdamConvFKernelIdeal.nD Cert.AdamConvFKernelIdeal.τ).loc Cert.AdamConvFKernelIdeal.main_arg1) = m ((c.tc : Thread Cert.AdamConvFKernelIdeal.nD Cert.AdamConvFKernelIdeal.τ).loc Cert.AdamConvFKernelIdeal.main_arg1)
          ∧ r.2.mem ((c.tc : Thread Cert.AdamConvFKernelIdeal.nD Cert.AdamConvFKernelIdeal.τ).loc Cert.AdamConvFKernelIdeal.main_arg2) = m ((c.tc : Thread Cert.AdamConvFKernelIdeal.nD Cert.AdamConvFKernelIdeal.τ).loc Cert.AdamConvFKernelIdeal.main_arg2)
          ∧ r.2.mem ((c.tc : Thread Cert.AdamConvFKernelIdeal.nD Cert.AdamConvFKernelIdeal.τ).loc Cert.AdamConvFKernelIdeal.main_arg3) = m ((c.tc : Thread Cert.AdamConvFKernelIdeal.nD Cert.AdamConvFKernelIdeal.τ).loc Cert.AdamConvFKernelIdeal.main_arg3)
          ∧ r.2.mem ((c.tc : Thread Cert.AdamConvFKernelIdeal.nD Cert.AdamConvFKernelIdeal.τ).loc Cert.AdamConvFKernelIdeal.main_arg4) = m ((c.tc : Thread Cert.AdamConvFKernelIdeal.nD Cert.AdamConvFKernelIdeal.τ).loc Cert.AdamConvFKernelIdeal.main_arg4)
          ∧ r.2.mem ((c.tc : Thread Cert.AdamConvFKernelIdeal.nD Cert.AdamConvFKernelIdeal.τ).loc Cert.AdamConvFKernelIdeal.main_arg5) = m ((c.tc : Thread Cert.AdamConvFKernelIdeal.nD Cert.AdamConvFKernelIdeal.τ).loc Cert.AdamConvFKernelIdeal.main_arg5))
      ∧ θ_run (Cert.AdamConvFReferenceIdeal.defs (F := Ideal)) (onTc (τ := Cert.AdamConvFReferenceIdeal.τ) (Cert.AdamConvFReferenceIdeal.main (F := Ideal))) ⟨m', fun _ => 0, g'⟩ (fun r => ∀ c : Dev Cert.AdamConvFReferenceIdeal.nD,
          r.2.mem ((c.tc : Thread Cert.AdamConvFReferenceIdeal.nD Cert.AdamConvFReferenceIdeal.τ).loc Cert.AdamConvFReferenceIdeal.main_v9) = v0 c
          ∧ r.2.mem ((c.tc : Thread Cert.AdamConvFReferenceIdeal.nD Cert.AdamConvFReferenceIdeal.τ).loc Cert.AdamConvFReferenceIdeal.main_v33) = v1 c
          ∧ r.2.mem ((c.tc : Thread Cert.AdamConvFReferenceIdeal.nD Cert.AdamConvFReferenceIdeal.τ).loc Cert.AdamConvFReferenceIdeal.main_v14) = v2 c
          ∧ r.2.mem ((c.tc : Thread Cert.AdamConvFReferenceIdeal.nD Cert.AdamConvFReferenceIdeal.τ).loc Cert.AdamConvFReferenceIdeal.main_v20) = v3 c
          ∧ r.2.mem ((c.tc : Thread Cert.AdamConvFReferenceIdeal.nD Cert.AdamConvFReferenceIdeal.τ).loc Cert.AdamConvFReferenceIdeal.main_arg0) = m' ((c.tc : Thread Cert.AdamConvFReferenceIdeal.nD Cert.AdamConvFReferenceIdeal.τ).loc Cert.AdamConvFReferenceIdeal.main_arg0)
          ∧ r.2.mem ((c.tc : Thread Cert.AdamConvFReferenceIdeal.nD Cert.AdamConvFReferenceIdeal.τ).loc Cert.AdamConvFReferenceIdeal.main_arg1) = m' ((c.tc : Thread Cert.AdamConvFReferenceIdeal.nD Cert.AdamConvFReferenceIdeal.τ).loc Cert.AdamConvFReferenceIdeal.main_arg1)
          ∧ r.2.mem ((c.tc : Thread Cert.AdamConvFReferenceIdeal.nD Cert.AdamConvFReferenceIdeal.τ).loc Cert.AdamConvFReferenceIdeal.main_arg2) = m' ((c.tc : Thread Cert.AdamConvFReferenceIdeal.nD Cert.AdamConvFReferenceIdeal.τ).loc Cert.AdamConvFReferenceIdeal.main_arg2)
          ∧ r.2.mem ((c.tc : Thread Cert.AdamConvFReferenceIdeal.nD Cert.AdamConvFReferenceIdeal.τ).loc Cert.AdamConvFReferenceIdeal.main_arg3) = m' ((c.tc : Thread Cert.AdamConvFReferenceIdeal.nD Cert.AdamConvFReferenceIdeal.τ).loc Cert.AdamConvFReferenceIdeal.main_arg3)
          ∧ r.2.mem ((c.tc : Thread Cert.AdamConvFReferenceIdeal.nD Cert.AdamConvFReferenceIdeal.τ).loc Cert.AdamConvFReferenceIdeal.main_arg4) = m' ((c.tc : Thread Cert.AdamConvFReferenceIdeal.nD Cert.AdamConvFReferenceIdeal.τ).loc Cert.AdamConvFReferenceIdeal.main_arg4)
          ∧ r.2.mem ((c.tc : Thread Cert.AdamConvFReferenceIdeal.nD Cert.AdamConvFReferenceIdeal.τ).loc Cert.AdamConvFReferenceIdeal.main_arg5) = m' ((c.tc : Thread Cert.AdamConvFReferenceIdeal.nD Cert.AdamConvFReferenceIdeal.τ).loc Cert.AdamConvFReferenceIdeal.main_arg5))

def preserves_AdamDownKernel_AdamDownKernelIdeal : Prop :=
  True

def algebraic_AdamDownKernelIdeal_AdamDownReferenceIdeal [hAdamDownKernelIdeal : Cert.AdamDownKernelIdeal.Facts] [hAdamDownReferenceIdeal : Cert.AdamDownReferenceIdeal.Facts] [hPre_on_mesh_w_ffn_down : Cert.Pre_on_mesh_w_ffn_down.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)
      ∧ m' ((c.tc : Thread Cert.AdamDownReferenceIdeal.nD Cert.AdamDownReferenceIdeal.τ).loc Cert.AdamDownReferenceIdeal.main_arg4) = m ((c.tc : Thread Cert.AdamDownKernelIdeal.nD Cert.AdamDownKernelIdeal.τ).loc Cert.AdamDownKernelIdeal.main_arg4)
      ∧ m' ((c.tc : Thread Cert.AdamDownReferenceIdeal.nD Cert.AdamDownReferenceIdeal.τ).loc Cert.AdamDownReferenceIdeal.main_arg5) = m ((c.tc : Thread Cert.AdamDownKernelIdeal.nD Cert.AdamDownKernelIdeal.τ).loc Cert.AdamDownKernelIdeal.main_arg5)) →
    ∃ (v0 : (c : Dev Cert.AdamDownKernelIdeal.nD) → Buf (Elt Ideal) ((c.tc : Thread Cert.AdamDownKernelIdeal.nD Cert.AdamDownKernelIdeal.τ).loc Cert.AdamDownKernelIdeal.main_v0_0)) (v1 : (c : Dev Cert.AdamDownKernelIdeal.nD) → Buf (Elt Ideal) ((c.tc : Thread Cert.AdamDownKernelIdeal.nD Cert.AdamDownKernelIdeal.τ).loc Cert.AdamDownKernelIdeal.main_v0_1)) (v2 : (c : Dev Cert.AdamDownKernelIdeal.nD) → Buf (Elt Ideal) ((c.tc : Thread Cert.AdamDownKernelIdeal.nD Cert.AdamDownKernelIdeal.τ).loc Cert.AdamDownKernelIdeal.main_v0_2)) (v3 : (c : Dev Cert.AdamDownKernelIdeal.nD) → Buf (Elt Ideal) ((c.tc : Thread Cert.AdamDownKernelIdeal.nD Cert.AdamDownKernelIdeal.τ).loc Cert.AdamDownKernelIdeal.main_v0_3)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v0_0) = v0 c
          ∧ r.2.mem ((c.tc : Thread Cert.AdamDownKernelIdeal.nD Cert.AdamDownKernelIdeal.τ).loc Cert.AdamDownKernelIdeal.main_v0_1) = v1 c
          ∧ r.2.mem ((c.tc : Thread Cert.AdamDownKernelIdeal.nD Cert.AdamDownKernelIdeal.τ).loc Cert.AdamDownKernelIdeal.main_v0_2) = v2 c
          ∧ r.2.mem ((c.tc : Thread Cert.AdamDownKernelIdeal.nD Cert.AdamDownKernelIdeal.τ).loc Cert.AdamDownKernelIdeal.main_v0_3) = v3 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
          ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4)
          ∧ r.2.mem ((c.tc : Thread Cert.AdamDownKernelIdeal.nD Cert.AdamDownKernelIdeal.τ).loc Cert.AdamDownKernelIdeal.main_arg5) = m ((c.tc : Thread Cert.AdamDownKernelIdeal.nD Cert.AdamDownKernelIdeal.τ).loc Cert.AdamDownKernelIdeal.main_arg5))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v9) = v0 c
          ∧ r.2.mem ((c.tc : Thread Cert.AdamDownReferenceIdeal.nD Cert.AdamDownReferenceIdeal.τ).loc Cert.AdamDownReferenceIdeal.main_v33) = v1 c
          ∧ r.2.mem ((c.tc : Thread Cert.AdamDownReferenceIdeal.nD Cert.AdamDownReferenceIdeal.τ).loc Cert.AdamDownReferenceIdeal.main_v14) = v2 c
          ∧ r.2.mem ((c.tc : Thread Cert.AdamDownReferenceIdeal.nD Cert.AdamDownReferenceIdeal.τ).loc Cert.AdamDownReferenceIdeal.main_v20) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5))

def preserves_RnnBwdKernel_RnnBwdKernelIdeal : Prop :=
  True

def preserves_RnnFwdKernel_RnnFwdKernelIdeal : Prop :=
  True

def Claim : Prop :=
  ∃ (hKernel : Cert.Kernel.Facts) (hKernelIdeal : Cert.KernelIdeal.Facts) (hReferenceIdeal : Cert.ReferenceIdeal.Facts) (hDactKernel : Cert.DactKernel.Facts) (hDactKernelIdeal : Cert.DactKernelIdeal.Facts) (hDactReferenceIdeal : Cert.DactReferenceIdeal.Facts) (hDwDownKernel : Cert.DwDownKernel.Facts) (hDwDownKernelIdeal : Cert.DwDownKernelIdeal.Facts) (hDwDownReferenceIdeal : Cert.DwDownReferenceIdeal.Facts) (hDwGateKernel : Cert.DwGateKernel.Facts) (hDwGateKernelIdeal : Cert.DwGateKernelIdeal.Facts) (hDwGateReferenceIdeal : Cert.DwGateReferenceIdeal.Facts) (hDhFfnKernel : Cert.DhFfnKernel.Facts) (hDhFfnKernelIdeal : Cert.DhFfnKernelIdeal.Facts) (hDhFfnReferenceIdeal : Cert.DhFfnReferenceIdeal.Facts) (hDmergedKernel : Cert.DmergedKernel.Facts) (hDmergedKernelIdeal : Cert.DmergedKernelIdeal.Facts) (hDmergedReferenceIdeal : Cert.DmergedReferenceIdeal.Facts) (hDwOutKernel : Cert.DwOutKernel.Facts) (hDwOutKernelIdeal : Cert.DwOutKernelIdeal.Facts) (hDwOutReferenceIdeal : Cert.DwOutReferenceIdeal.Facts) (hDhRnnKernel : Cert.DhRnnKernel.Facts) (hDhRnnKernelIdeal : Cert.DhRnnKernelIdeal.Facts) (hDhRnnReferenceIdeal : Cert.DhRnnReferenceIdeal.Facts) (hDwBrnnKernel : Cert.DwBrnnKernel.Facts) (hDwBrnnKernelIdeal : Cert.DwBrnnKernelIdeal.Facts) (hDwBrnnReferenceIdeal : Cert.DwBrnnReferenceIdeal.Facts) (hDoAttKernel : Cert.DoAttKernel.Facts) (hDoAttKernelIdeal : Cert.DoAttKernelIdeal.Facts) (hDoAttReferenceIdeal : Cert.DoAttReferenceIdeal.Facts) (hDwBattKernel : Cert.DwBattKernel.Facts) (hDwBattKernelIdeal : Cert.DwBattKernelIdeal.Facts) (hDwBattReferenceIdeal : Cert.DwBattReferenceIdeal.Facts) (hDwInAKernel : Cert.DwInAKernel.Facts) (hDwInAKernelIdeal : Cert.DwInAKernelIdeal.Facts) (hDwInAReferenceIdeal : Cert.DwInAReferenceIdeal.Facts) (hDwInRKernel : Cert.DwInRKernel.Facts) (hDwInRKernelIdeal : Cert.DwInRKernelIdeal.Facts) (hDwInRReferenceIdeal : Cert.DwInRReferenceIdeal.Facts) (hDwInGKernel : Cert.DwInGKernel.Facts) (hDwInGKernelIdeal : Cert.DwInGKernelIdeal.Facts) (hDwInGReferenceIdeal : Cert.DwInGReferenceIdeal.Facts) (hDhMixKernel : Cert.DhMixKernel.Facts) (hDhMixKernelIdeal : Cert.DhMixKernelIdeal.Facts) (hDhMixReferenceIdeal : Cert.DhMixReferenceIdeal.Facts) (hProjKernel : Cert.ProjKernel.Facts) (hProjKernelIdeal : Cert.ProjKernelIdeal.Facts) (hProjReferenceIdeal : Cert.ProjReferenceIdeal.Facts) (hGatesKernel : Cert.GatesKernel.Facts) (hGatesKernelIdeal : Cert.GatesKernelIdeal.Facts) (hGatesReferenceIdeal : Cert.GatesReferenceIdeal.Facts) (hPrKernel : Cert.PrKernel.Facts) (hPrKernelIdeal : Cert.PrKernelIdeal.Facts) (hPrReferenceIdeal : Cert.PrReferenceIdeal.Facts) (hPaKernel : Cert.PaKernel.Facts) (hPaKernelIdeal : Cert.PaKernelIdeal.Facts) (hPaReferenceIdeal : Cert.PaReferenceIdeal.Facts) (hGateKernel : Cert.GateKernel.Facts) (hGateKernelIdeal : Cert.GateKernelIdeal.Facts) (hGateReferenceIdeal : Cert.GateReferenceIdeal.Facts) (hInBwdKernel : Cert.InBwdKernel.Facts) (hInBwdKernelIdeal : Cert.InBwdKernelIdeal.Facts) (hInBwdReferenceIdeal : Cert.InBwdReferenceIdeal.Facts) (hMidBwdKernel : Cert.MidBwdKernel.Facts) (hMidBwdKernelIdeal : Cert.MidBwdKernelIdeal.Facts) (hMidBwdReferenceIdeal : Cert.MidBwdReferenceIdeal.Facts) (hMergeBwdKernel : Cert.MergeBwdKernel.Facts) (hMergeBwdKernelIdeal : Cert.MergeBwdKernelIdeal.Facts) (hMergeBwdReferenceIdeal : Cert.MergeBwdReferenceIdeal.Facts) (hMergeKernel : Cert.MergeKernel.Facts) (hMergeKernelIdeal : Cert.MergeKernelIdeal.Facts) (hMergeReferenceIdeal : Cert.MergeReferenceIdeal.Facts) (hMixKernel : Cert.MixKernel.Facts) (hMixKernelIdeal : Cert.MixKernelIdeal.Facts) (hMixReferenceIdeal : Cert.MixReferenceIdeal.Facts) (hDownKernel : Cert.DownKernel.Facts) (hDownKernelIdeal : Cert.DownKernelIdeal.Facts) (hDownReferenceIdeal : Cert.DownReferenceIdeal.Facts) (hActFwdKernel : Cert.ActFwdKernel.Facts) (hActFwdKernelIdeal : Cert.ActFwdKernelIdeal.Facts) (hActFwdReferenceIdeal : Cert.ActFwdReferenceIdeal.Facts) (hNormInKernel : Cert.NormInKernel.Facts) (hNormInKernelIdeal : Cert.NormInKernelIdeal.Facts) (hNormInReferenceIdeal : Cert.NormInReferenceIdeal.Facts) (hAdamInKernel : Cert.AdamInKernel.Facts) (hAdamInKernelIdeal : Cert.AdamInKernelIdeal.Facts) (hAdamInReferenceIdeal : Cert.AdamInReferenceIdeal.Facts) (hAdamConvRKernel : Cert.AdamConvRKernel.Facts) (hAdamConvRKernelIdeal : Cert.AdamConvRKernelIdeal.Facts) (hAdamConvRReferenceIdeal : Cert.AdamConvRReferenceIdeal.Facts) (hAdamBrnnKernel : Cert.AdamBrnnKernel.Facts) (hAdamBrnnKernelIdeal : Cert.AdamBrnnKernelIdeal.Facts) (hAdamBrnnReferenceIdeal : Cert.AdamBrnnReferenceIdeal.Facts) (hAdamBattKernel : Cert.AdamBattKernel.Facts) (hAdamBattKernelIdeal : Cert.AdamBattKernelIdeal.Facts) (hAdamBattReferenceIdeal : Cert.AdamBattReferenceIdeal.Facts) (hAdamOutKernel : Cert.AdamOutKernel.Facts) (hAdamOutKernelIdeal : Cert.AdamOutKernelIdeal.Facts) (hAdamOutReferenceIdeal : Cert.AdamOutReferenceIdeal.Facts) (hAdamGateKernel : Cert.AdamGateKernel.Facts) (hAdamGateKernelIdeal : Cert.AdamGateKernelIdeal.Facts) (hAdamGateReferenceIdeal : Cert.AdamGateReferenceIdeal.Facts) (hAdamConvFKernel : Cert.AdamConvFKernel.Facts) (hAdamConvFKernelIdeal : Cert.AdamConvFKernelIdeal.Facts) (hAdamConvFReferenceIdeal : Cert.AdamConvFReferenceIdeal.Facts) (hAdamDownKernel : Cert.AdamDownKernel.Facts) (hAdamDownKernelIdeal : Cert.AdamDownKernelIdeal.Facts) (hAdamDownReferenceIdeal : Cert.AdamDownReferenceIdeal.Facts) (hRnnBwdKernel : Cert.RnnBwdKernel.Facts) (hRnnBwdKernelIdeal : Cert.RnnBwdKernelIdeal.Facts) (hRnnFwdKernel : Cert.RnnFwdKernel.Facts) (hRnnFwdKernelIdeal : Cert.RnnFwdKernelIdeal.Facts) (hPre_finite : Cert.Pre_finite.Facts) (hPre_on_mesh_w_in : Cert.Pre_on_mesh_w_in.Facts) (hPre_on_mesh_conv_rnn_w : Cert.Pre_on_mesh_conv_rnn_w.Facts) (hPre_on_mesh_w_branch_rnn : Cert.Pre_on_mesh_w_branch_rnn.Facts) (hPre_on_mesh_w_branch_att : Cert.Pre_on_mesh_w_branch_att.Facts) (hPre_on_mesh_w_out : Cert.Pre_on_mesh_w_out.Facts) (hPre_on_mesh_w_ffn_gate : Cert.Pre_on_mesh_w_ffn_gate.Facts) (hPre_on_mesh_conv_ffn_w : Cert.Pre_on_mesh_conv_ffn_w.Facts) (hPre_on_mesh_w_ffn_down : Cert.Pre_on_mesh_w_ffn_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_DwDownKernel (hDwDownKernel := hDwDownKernel)
    ∧ quiescent_DwDownKernelIdeal (hDwDownKernelIdeal := hDwDownKernelIdeal)
    ∧ quiescent_DwDownReferenceIdeal (hDwDownReferenceIdeal := hDwDownReferenceIdeal)
    ∧ quiescent_DwGateKernel (hDwGateKernel := hDwGateKernel)
    ∧ quiescent_DwGateKernelIdeal (hDwGateKernelIdeal := hDwGateKernelIdeal)
    ∧ quiescent_DwGateReferenceIdeal (hDwGateReferenceIdeal := hDwGateReferenceIdeal)
    ∧ quiescent_DhFfnKernel (hDhFfnKernel := hDhFfnKernel)
    ∧ quiescent_DhFfnKernelIdeal (hDhFfnKernelIdeal := hDhFfnKernelIdeal)
    ∧ quiescent_DhFfnReferenceIdeal (hDhFfnReferenceIdeal := hDhFfnReferenceIdeal)
    ∧ quiescent_DmergedKernel (hDmergedKernel := hDmergedKernel)
    ∧ quiescent_DmergedKernelIdeal (hDmergedKernelIdeal := hDmergedKernelIdeal)
    ∧ quiescent_DmergedReferenceIdeal (hDmergedReferenceIdeal := hDmergedReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_DhRnnKernel (hDhRnnKernel := hDhRnnKernel)
    ∧ quiescent_DhRnnKernelIdeal (hDhRnnKernelIdeal := hDhRnnKernelIdeal)
    ∧ quiescent_DhRnnReferenceIdeal (hDhRnnReferenceIdeal := hDhRnnReferenceIdeal)
    ∧ quiescent_DwBrnnKernel (hDwBrnnKernel := hDwBrnnKernel)
    ∧ quiescent_DwBrnnKernelIdeal (hDwBrnnKernelIdeal := hDwBrnnKernelIdeal)
    ∧ quiescent_DwBrnnReferenceIdeal (hDwBrnnReferenceIdeal := hDwBrnnReferenceIdeal)
    ∧ quiescent_DoAttKernel (hDoAttKernel := hDoAttKernel)
    ∧ quiescent_DoAttKernelIdeal (hDoAttKernelIdeal := hDoAttKernelIdeal)
    ∧ quiescent_DoAttReferenceIdeal (hDoAttReferenceIdeal := hDoAttReferenceIdeal)
    ∧ quiescent_DwBattKernel (hDwBattKernel := hDwBattKernel)
    ∧ quiescent_DwBattKernelIdeal (hDwBattKernelIdeal := hDwBattKernelIdeal)
    ∧ quiescent_DwBattReferenceIdeal (hDwBattReferenceIdeal := hDwBattReferenceIdeal)
    ∧ quiescent_DwInAKernel (hDwInAKernel := hDwInAKernel)
    ∧ quiescent_DwInAKernelIdeal (hDwInAKernelIdeal := hDwInAKernelIdeal)
    ∧ quiescent_DwInAReferenceIdeal (hDwInAReferenceIdeal := hDwInAReferenceIdeal)
    ∧ quiescent_DwInRKernel (hDwInRKernel := hDwInRKernel)
    ∧ quiescent_DwInRKernelIdeal (hDwInRKernelIdeal := hDwInRKernelIdeal)
    ∧ quiescent_DwInRReferenceIdeal (hDwInRReferenceIdeal := hDwInRReferenceIdeal)
    ∧ quiescent_DwInGKernel (hDwInGKernel := hDwInGKernel)
    ∧ quiescent_DwInGKernelIdeal (hDwInGKernelIdeal := hDwInGKernelIdeal)
    ∧ quiescent_DwInGReferenceIdeal (hDwInGReferenceIdeal := hDwInGReferenceIdeal)
    ∧ quiescent_DhMixKernel (hDhMixKernel := hDhMixKernel)
    ∧ quiescent_DhMixKernelIdeal (hDhMixKernelIdeal := hDhMixKernelIdeal)
    ∧ quiescent_DhMixReferenceIdeal (hDhMixReferenceIdeal := hDhMixReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_PrKernel (hPrKernel := hPrKernel)
    ∧ quiescent_PrKernelIdeal (hPrKernelIdeal := hPrKernelIdeal)
    ∧ quiescent_PrReferenceIdeal (hPrReferenceIdeal := hPrReferenceIdeal)
    ∧ quiescent_PaKernel (hPaKernel := hPaKernel)
    ∧ quiescent_PaKernelIdeal (hPaKernelIdeal := hPaKernelIdeal)
    ∧ quiescent_PaReferenceIdeal (hPaReferenceIdeal := hPaReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_InBwdKernel (hInBwdKernel := hInBwdKernel)
    ∧ quiescent_InBwdKernelIdeal (hInBwdKernelIdeal := hInBwdKernelIdeal)
    ∧ quiescent_InBwdReferenceIdeal (hInBwdReferenceIdeal := hInBwdReferenceIdeal)
    ∧ quiescent_MidBwdKernel (hMidBwdKernel := hMidBwdKernel)
    ∧ quiescent_MidBwdKernelIdeal (hMidBwdKernelIdeal := hMidBwdKernelIdeal)
    ∧ quiescent_MidBwdReferenceIdeal (hMidBwdReferenceIdeal := hMidBwdReferenceIdeal)
    ∧ quiescent_MergeBwdKernel (hMergeBwdKernel := hMergeBwdKernel)
    ∧ quiescent_MergeBwdKernelIdeal (hMergeBwdKernelIdeal := hMergeBwdKernelIdeal)
    ∧ quiescent_MergeBwdReferenceIdeal (hMergeBwdReferenceIdeal := hMergeBwdReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ActFwdKernel (hActFwdKernel := hActFwdKernel)
    ∧ quiescent_ActFwdKernelIdeal (hActFwdKernelIdeal := hActFwdKernelIdeal)
    ∧ quiescent_ActFwdReferenceIdeal (hActFwdReferenceIdeal := hActFwdReferenceIdeal)
    ∧ quiescent_NormInKernel (hNormInKernel := hNormInKernel)
    ∧ quiescent_NormInKernelIdeal (hNormInKernelIdeal := hNormInKernelIdeal)
    ∧ quiescent_NormInReferenceIdeal (hNormInReferenceIdeal := hNormInReferenceIdeal)
    ∧ quiescent_AdamInKernel (hAdamInKernel := hAdamInKernel) (hPre_on_mesh_w_in := hPre_on_mesh_w_in)
    ∧ quiescent_AdamInKernelIdeal (hAdamInKernelIdeal := hAdamInKernelIdeal) (hPre_on_mesh_w_in := hPre_on_mesh_w_in)
    ∧ quiescent_AdamInReferenceIdeal (hAdamInReferenceIdeal := hAdamInReferenceIdeal)
    ∧ quiescent_AdamInReferenceIdeal_pre_on_mesh_w_in (hAdamInReferenceIdeal := hAdamInReferenceIdeal) (hPre_on_mesh_w_in := hPre_on_mesh_w_in)
    ∧ quiescent_AdamConvRKernel (hAdamConvRKernel := hAdamConvRKernel) (hPre_on_mesh_conv_rnn_w := hPre_on_mesh_conv_rnn_w)
    ∧ quiescent_AdamConvRKernelIdeal (hAdamConvRKernelIdeal := hAdamConvRKernelIdeal) (hPre_on_mesh_conv_rnn_w := hPre_on_mesh_conv_rnn_w)
    ∧ quiescent_AdamConvRReferenceIdeal (hAdamConvRReferenceIdeal := hAdamConvRReferenceIdeal)
    ∧ quiescent_AdamConvRReferenceIdeal_pre_on_mesh_conv_rnn_w (hAdamConvRReferenceIdeal := hAdamConvRReferenceIdeal) (hPre_on_mesh_conv_rnn_w := hPre_on_mesh_conv_rnn_w)
    ∧ quiescent_AdamBrnnKernel (hAdamBrnnKernel := hAdamBrnnKernel) (hPre_on_mesh_w_branch_rnn := hPre_on_mesh_w_branch_rnn)
    ∧ quiescent_AdamBrnnKernelIdeal (hAdamBrnnKernelIdeal := hAdamBrnnKernelIdeal) (hPre_on_mesh_w_branch_rnn := hPre_on_mesh_w_branch_rnn)
    ∧ quiescent_AdamBrnnReferenceIdeal (hAdamBrnnReferenceIdeal := hAdamBrnnReferenceIdeal)
    ∧ quiescent_AdamBrnnReferenceIdeal_pre_on_mesh_w_branch_rnn (hAdamBrnnReferenceIdeal := hAdamBrnnReferenceIdeal) (hPre_on_mesh_w_branch_rnn := hPre_on_mesh_w_branch_rnn)
    ∧ quiescent_AdamBattKernel (hAdamBattKernel := hAdamBattKernel) (hPre_on_mesh_w_branch_att := hPre_on_mesh_w_branch_att)
    ∧ quiescent_AdamBattKernelIdeal (hAdamBattKernelIdeal := hAdamBattKernelIdeal) (hPre_on_mesh_w_branch_att := hPre_on_mesh_w_branch_att)
    ∧ quiescent_AdamBattReferenceIdeal (hAdamBattReferenceIdeal := hAdamBattReferenceIdeal)
    ∧ quiescent_AdamBattReferenceIdeal_pre_on_mesh_w_branch_att (hAdamBattReferenceIdeal := hAdamBattReferenceIdeal) (hPre_on_mesh_w_branch_att := hPre_on_mesh_w_branch_att)
    ∧ quiescent_AdamOutKernel (hAdamOutKernel := hAdamOutKernel) (hPre_on_mesh_w_out := hPre_on_mesh_w_out)
    ∧ quiescent_AdamOutKernelIdeal (hAdamOutKernelIdeal := hAdamOutKernelIdeal) (hPre_on_mesh_w_out := hPre_on_mesh_w_out)
    ∧ quiescent_AdamOutReferenceIdeal (hAdamOutReferenceIdeal := hAdamOutReferenceIdeal)
    ∧ quiescent_AdamOutReferenceIdeal_pre_on_mesh_w_out (hAdamOutReferenceIdeal := hAdamOutReferenceIdeal) (hPre_on_mesh_w_out := hPre_on_mesh_w_out)
    ∧ quiescent_AdamGateKernel (hAdamGateKernel := hAdamGateKernel) (hPre_on_mesh_w_ffn_gate := hPre_on_mesh_w_ffn_gate)
    ∧ quiescent_AdamGateKernelIdeal (hAdamGateKernelIdeal := hAdamGateKernelIdeal) (hPre_on_mesh_w_ffn_gate := hPre_on_mesh_w_ffn_gate)
    ∧ quiescent_AdamGateReferenceIdeal (hAdamGateReferenceIdeal := hAdamGateReferenceIdeal)
    ∧ quiescent_AdamGateReferenceIdeal_pre_on_mesh_w_ffn_gate (hAdamGateReferenceIdeal := hAdamGateReferenceIdeal) (hPre_on_mesh_w_ffn_gate := hPre_on_mesh_w_ffn_gate)
    ∧ quiescent_AdamConvFKernel (hAdamConvFKernel := hAdamConvFKernel) (hPre_on_mesh_conv_ffn_w := hPre_on_mesh_conv_ffn_w)
    ∧ quiescent_AdamConvFKernelIdeal (hAdamConvFKernelIdeal := hAdamConvFKernelIdeal) (hPre_on_mesh_conv_ffn_w := hPre_on_mesh_conv_ffn_w)
    ∧ quiescent_AdamConvFReferenceIdeal (hAdamConvFReferenceIdeal := hAdamConvFReferenceIdeal)
    ∧ quiescent_AdamConvFReferenceIdeal_pre_on_mesh_conv_ffn_w (hAdamConvFReferenceIdeal := hAdamConvFReferenceIdeal) (hPre_on_mesh_conv_ffn_w := hPre_on_mesh_conv_ffn_w)
    ∧ quiescent_AdamDownKernel (hAdamDownKernel := hAdamDownKernel) (hPre_on_mesh_w_ffn_down := hPre_on_mesh_w_ffn_down)
    ∧ quiescent_AdamDownKernelIdeal (hAdamDownKernelIdeal := hAdamDownKernelIdeal) (hPre_on_mesh_w_ffn_down := hPre_on_mesh_w_ffn_down)
    ∧ quiescent_AdamDownReferenceIdeal (hAdamDownReferenceIdeal := hAdamDownReferenceIdeal)
    ∧ quiescent_AdamDownReferenceIdeal_pre_on_mesh_w_ffn_down (hAdamDownReferenceIdeal := hAdamDownReferenceIdeal) (hPre_on_mesh_w_ffn_down := hPre_on_mesh_w_ffn_down)
    ∧ quiescent_RnnBwdKernel (hRnnBwdKernel := hRnnBwdKernel)
    ∧ quiescent_RnnBwdKernelIdeal (hRnnBwdKernelIdeal := hRnnBwdKernelIdeal)
    ∧ quiescent_RnnFwdKernel (hRnnFwdKernel := hRnnFwdKernel)
    ∧ quiescent_RnnFwdKernelIdeal (hRnnFwdKernelIdeal := hRnnFwdKernelIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DactKernel_DactKernelIdeal
    ∧ algebraic_DactKernelIdeal_DactReferenceIdeal (hDactKernelIdeal := hDactKernelIdeal) (hDactReferenceIdeal := hDactReferenceIdeal)
    ∧ preserves_DwDownKernel_DwDownKernelIdeal
    ∧ algebraic_DwDownKernelIdeal_DwDownReferenceIdeal (hDwDownKernelIdeal := hDwDownKernelIdeal) (hDwDownReferenceIdeal := hDwDownReferenceIdeal)
    ∧ preserves_DwGateKernel_DwGateKernelIdeal
    ∧ algebraic_DwGateKernelIdeal_DwGateReferenceIdeal (hDwGateKernelIdeal := hDwGateKernelIdeal) (hDwGateReferenceIdeal := hDwGateReferenceIdeal)
    ∧ preserves_DhFfnKernel_DhFfnKernelIdeal
    ∧ algebraic_DhFfnKernelIdeal_DhFfnReferenceIdeal (hDhFfnKernelIdeal := hDhFfnKernelIdeal) (hDhFfnReferenceIdeal := hDhFfnReferenceIdeal)
    ∧ preserves_DmergedKernel_DmergedKernelIdeal
    ∧ algebraic_DmergedKernelIdeal_DmergedReferenceIdeal (hDmergedKernelIdeal := hDmergedKernelIdeal) (hDmergedReferenceIdeal := hDmergedReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_DhRnnKernel_DhRnnKernelIdeal
    ∧ algebraic_DhRnnKernelIdeal_DhRnnReferenceIdeal (hDhRnnKernelIdeal := hDhRnnKernelIdeal) (hDhRnnReferenceIdeal := hDhRnnReferenceIdeal)
    ∧ preserves_DwBrnnKernel_DwBrnnKernelIdeal
    ∧ algebraic_DwBrnnKernelIdeal_DwBrnnReferenceIdeal (hDwBrnnKernelIdeal := hDwBrnnKernelIdeal) (hDwBrnnReferenceIdeal := hDwBrnnReferenceIdeal)
    ∧ preserves_DoAttKernel_DoAttKernelIdeal
    ∧ algebraic_DoAttKernelIdeal_DoAttReferenceIdeal (hDoAttKernelIdeal := hDoAttKernelIdeal) (hDoAttReferenceIdeal := hDoAttReferenceIdeal)
    ∧ preserves_DwBattKernel_DwBattKernelIdeal
    ∧ algebraic_DwBattKernelIdeal_DwBattReferenceIdeal (hDwBattKernelIdeal := hDwBattKernelIdeal) (hDwBattReferenceIdeal := hDwBattReferenceIdeal)
    ∧ preserves_DwInAKernel_DwInAKernelIdeal
    ∧ algebraic_DwInAKernelIdeal_DwInAReferenceIdeal (hDwInAKernelIdeal := hDwInAKernelIdeal) (hDwInAReferenceIdeal := hDwInAReferenceIdeal)
    ∧ preserves_DwInRKernel_DwInRKernelIdeal
    ∧ algebraic_DwInRKernelIdeal_DwInRReferenceIdeal (hDwInRKernelIdeal := hDwInRKernelIdeal) (hDwInRReferenceIdeal := hDwInRReferenceIdeal)
    ∧ preserves_DwInGKernel_DwInGKernelIdeal
    ∧ algebraic_DwInGKernelIdeal_DwInGReferenceIdeal (hDwInGKernelIdeal := hDwInGKernelIdeal) (hDwInGReferenceIdeal := hDwInGReferenceIdeal)
    ∧ preserves_DhMixKernel_DhMixKernelIdeal
    ∧ algebraic_DhMixKernelIdeal_DhMixReferenceIdeal (hDhMixKernelIdeal := hDhMixKernelIdeal) (hDhMixReferenceIdeal := hDhMixReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_GatesKernel_GatesKernelIdeal
    ∧ algebraic_GatesKernelIdeal_GatesReferenceIdeal (hGatesKernelIdeal := hGatesKernelIdeal) (hGatesReferenceIdeal := hGatesReferenceIdeal)
    ∧ preserves_PrKernel_PrKernelIdeal
    ∧ algebraic_PrKernelIdeal_PrReferenceIdeal (hPrKernelIdeal := hPrKernelIdeal) (hPrReferenceIdeal := hPrReferenceIdeal)
    ∧ preserves_PaKernel_PaKernelIdeal
    ∧ algebraic_PaKernelIdeal_PaReferenceIdeal (hPaKernelIdeal := hPaKernelIdeal) (hPaReferenceIdeal := hPaReferenceIdeal)
    ∧ preserves_GateKernel_GateKernelIdeal
    ∧ algebraic_GateKernelIdeal_GateReferenceIdeal (hGateKernelIdeal := hGateKernelIdeal) (hGateReferenceIdeal := hGateReferenceIdeal)
    ∧ preserves_InBwdKernel_InBwdKernelIdeal
    ∧ algebraic_InBwdKernelIdeal_InBwdReferenceIdeal (hInBwdKernelIdeal := hInBwdKernelIdeal) (hInBwdReferenceIdeal := hInBwdReferenceIdeal)
    ∧ preserves_MidBwdKernel_MidBwdKernelIdeal
    ∧ algebraic_MidBwdKernelIdeal_MidBwdReferenceIdeal (hMidBwdKernelIdeal := hMidBwdKernelIdeal) (hMidBwdReferenceIdeal := hMidBwdReferenceIdeal)
    ∧ preserves_MergeBwdKernel_MergeBwdKernelIdeal
    ∧ algebraic_MergeBwdKernelIdeal_MergeBwdReferenceIdeal (hMergeBwdKernelIdeal := hMergeBwdKernelIdeal) (hMergeBwdReferenceIdeal := hMergeBwdReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_MixKernel_MixKernelIdeal
    ∧ algebraic_MixKernelIdeal_MixReferenceIdeal (hMixKernelIdeal := hMixKernelIdeal) (hMixReferenceIdeal := hMixReferenceIdeal)
    ∧ preserves_DownKernel_DownKernelIdeal
    ∧ algebraic_DownKernelIdeal_DownReferenceIdeal (hDownKernelIdeal := hDownKernelIdeal) (hDownReferenceIdeal := hDownReferenceIdeal)
    ∧ preserves_ActFwdKernel_ActFwdKernelIdeal
    ∧ algebraic_ActFwdKernelIdeal_ActFwdReferenceIdeal (hActFwdKernelIdeal := hActFwdKernelIdeal) (hActFwdReferenceIdeal := hActFwdReferenceIdeal)
    ∧ preserves_NormInKernel_NormInKernelIdeal
    ∧ algebraic_NormInKernelIdeal_NormInReferenceIdeal (hNormInKernelIdeal := hNormInKernelIdeal) (hNormInReferenceIdeal := hNormInReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal) (hPre_on_mesh_w_in := hPre_on_mesh_w_in)
    ∧ preserves_AdamConvRKernel_AdamConvRKernelIdeal
    ∧ algebraic_AdamConvRKernelIdeal_AdamConvRReferenceIdeal (hAdamConvRKernelIdeal := hAdamConvRKernelIdeal) (hAdamConvRReferenceIdeal := hAdamConvRReferenceIdeal) (hPre_on_mesh_conv_rnn_w := hPre_on_mesh_conv_rnn_w)
    ∧ preserves_AdamBrnnKernel_AdamBrnnKernelIdeal
    ∧ algebraic_AdamBrnnKernelIdeal_AdamBrnnReferenceIdeal (hAdamBrnnKernelIdeal := hAdamBrnnKernelIdeal) (hAdamBrnnReferenceIdeal := hAdamBrnnReferenceIdeal) (hPre_on_mesh_w_branch_rnn := hPre_on_mesh_w_branch_rnn)
    ∧ preserves_AdamBattKernel_AdamBattKernelIdeal
    ∧ algebraic_AdamBattKernelIdeal_AdamBattReferenceIdeal (hAdamBattKernelIdeal := hAdamBattKernelIdeal) (hAdamBattReferenceIdeal := hAdamBattReferenceIdeal) (hPre_on_mesh_w_branch_att := hPre_on_mesh_w_branch_att)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal) (hPre_on_mesh_w_out := hPre_on_mesh_w_out)
    ∧ preserves_AdamGateKernel_AdamGateKernelIdeal
    ∧ algebraic_AdamGateKernelIdeal_AdamGateReferenceIdeal (hAdamGateKernelIdeal := hAdamGateKernelIdeal) (hAdamGateReferenceIdeal := hAdamGateReferenceIdeal) (hPre_on_mesh_w_ffn_gate := hPre_on_mesh_w_ffn_gate)
    ∧ preserves_AdamConvFKernel_AdamConvFKernelIdeal
    ∧ algebraic_AdamConvFKernelIdeal_AdamConvFReferenceIdeal (hAdamConvFKernelIdeal := hAdamConvFKernelIdeal) (hAdamConvFReferenceIdeal := hAdamConvFReferenceIdeal) (hPre_on_mesh_conv_ffn_w := hPre_on_mesh_conv_ffn_w)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal) (hPre_on_mesh_w_ffn_down := hPre_on_mesh_w_ffn_down)
    ∧ preserves_RnnBwdKernel_RnnBwdKernelIdeal
    ∧ preserves_RnnFwdKernel_RnnFwdKernelIdeal
-- ==== Pre_finite.lean ====
abbrev S8192x3072 : Shape := ⟨2, ![8192, 3072]⟩
abbrev S3x3072 : Shape := ⟨2, ![3, 3072]⟩
abbrev S1x3072 : Shape := ⟨2, ![1, 3072]⟩
abbrev S_ : Shape := ⟨0, ![]⟩

class Facts : Prop where
  bcast_S_S8192x3072 : S_.BroadcastsInDim S8192x3072 (![] : Fin 0 → Fin S8192x3072.rank)

variable [Facts]

def fn {F : FTy → Type} [FloatOps F] (main_arg0 : FVec F S8192x3072 .bf16) (main_arg1 : FVec F S8192x3072 .bf16) (main_arg2 : FVec F S3x3072 .f32) (main_arg3 : FVec F S1x3072 .f32) (main_arg4 : FVec F S8192x3072 .bf16) : IVec S8192x3072 1 × IVec S8192x3072 1 :=
  let main_v0 : FVec F S8192x3072 .bf16 := Host.absf main_arg1
  let main_cst : FVec F S_ .bf16 := constant S_ .bf16 0x7F80#16
  let main_v1 : FVec F S8192x3072 .bf16 := broadcastInDim S8192x3072 ![] bcast_S_S8192x3072 main_cst
  let main_v2 : IVec S8192x3072 1 := cmpf .olt main_v0 main_v1
  let main_v3 : FVec F S8192x3072 .bf16 := Host.absf main_arg4
  let main_cst_0 : FVec F S_ .bf16 := constant S_ .bf16 0x7F80#16
  let main_v4 : FVec F S8192x3072 .bf16 := broadcastInDim S8192x3072 ![] bcast_S_S8192x3072 main_cst_0
  let main_v5 : IVec S8192x3072 1 := cmpf .olt main_v3 main_v4
  (main_v2, main_v5)
-- ==== Pre_on_mesh_conv_ffn_w.lean ====
abbrev S8x3x384 : Shape := ⟨3, ![8, 3, 384]⟩
abbrev S7x3x384 : Shape := ⟨3, ![7, 3, 384]⟩
abbrev S1 : Shape := ⟨1, ![1]⟩
abbrev S3x384 : Shape := ⟨2, ![3, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x3x384 .bf16) (main_arg1 : FVec F S7x3x384 .bf16) (main_arg2 : IVec S1 32) (main_arg3 : FVec F S3x384 .f32) (main_arg4 : FVec F S3x384 .f32) (main_arg5 : FVec F S3x384 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_conv_rnn_w.lean ====
abbrev S8x4x160 : Shape := ⟨3, ![8, 4, 160]⟩
abbrev S7x4x160 : Shape := ⟨3, ![7, 4, 160]⟩
abbrev S1 : Shape := ⟨1, ![1]⟩
abbrev S4x160 : Shape := ⟨2, ![4, 160]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x4x160 .bf16) (main_arg1 : FVec F S7x4x160 .bf16) (main_arg2 : IVec S1 32) (main_arg3 : FVec F S4x160 .f32) (main_arg4 : FVec F S4x160 .f32) (main_arg5 : FVec F S4x160 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_w_branch_att.lean ====
abbrev S8x512x128 : Shape := ⟨3, ![8, 512, 128]⟩
abbrev S7x512x128 : Shape := ⟨3, ![7, 512, 128]⟩
abbrev S1 : Shape := ⟨1, ![1]⟩
abbrev S512x128 : Shape := ⟨2, ![512, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x512x128 .bf16) (main_arg1 : FVec F S7x512x128 .bf16) (main_arg2 : IVec S1 32) (main_arg3 : FVec F S512x128 .f32) (main_arg4 : FVec F S512x128 .f32) (main_arg5 : FVec F S512x128 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_w_branch_rnn.lean ====
abbrev S8x160x1024 : Shape := ⟨3, ![8, 160, 1024]⟩
abbrev S7x160x1024 : Shape := ⟨3, ![7, 160, 1024]⟩
abbrev S1 : Shape := ⟨1, ![1]⟩
abbrev S160x1024 : Shape := ⟨2, ![160, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x160x1024 .bf16) (main_arg1 : FVec F S7x160x1024 .bf16) (main_arg2 : IVec S1 32) (main_arg3 : FVec F S160x1024 .f32) (main_arg4 : FVec F S160x1024 .f32) (main_arg5 : FVec F S160x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_w_ffn_down.lean ====
abbrev S8x384x1024 : Shape := ⟨3, ![8, 384, 1024]⟩
abbrev S7x384x1024 : Shape := ⟨3, ![7, 384, 1024]⟩
abbrev S1 : Shape := ⟨1, ![1]⟩
abbrev S384x1024 : Shape := ⟨2, ![384, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x384x1024 .bf16) (main_arg1 : FVec F S7x384x1024 .bf16) (main_arg2 : IVec S1 32) (main_arg3 : FVec F S384x1024 .f32) (main_arg4 : FVec F S384x1024 .f32) (main_arg5 : FVec F S384x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_w_ffn_gate.lean ====
abbrev S8x1024x384 : Shape := ⟨3, ![8, 1024, 384]⟩
abbrev S7x1024x384 : Shape := ⟨3, ![7, 1024, 384]⟩
abbrev S1 : Shape := ⟨1, ![1]⟩
abbrev S1024x384 : Shape := ⟨2, ![1024, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x384 .bf16) (main_arg1 : FVec F S7x1024x384 .bf16) (main_arg2 : IVec S1 32) (main_arg3 : FVec F S1024x384 .f32) (main_arg4 : FVec F S1024x384 .f32) (main_arg5 : FVec F S1024x384 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_w_in.lean ====
abbrev S8x1024x736 : Shape := ⟨3, ![8, 1024, 736]⟩
abbrev S7x1024x736 : Shape := ⟨3, ![7, 1024, 736]⟩
abbrev S1 : Shape := ⟨1, ![1]⟩
abbrev S1024x736 : Shape := ⟨2, ![1024, 736]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x736 .bf16) (main_arg1 : FVec F S7x1024x736 .bf16) (main_arg2 : IVec S1 32) (main_arg3 : FVec F S1024x736 .f32) (main_arg4 : FVec F S1024x736 .f32) (main_arg5 : FVec F S1024x736 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_on_mesh_w_out.lean ====
abbrev S8x128x1024 : Shape := ⟨3, ![8, 128, 1024]⟩
abbrev S7x128x1024 : Shape := ⟨3, ![7, 128, 1024]⟩
abbrev S1 : Shape := ⟨1, ![1]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S7x128x1024 .bf16) (main_arg2 : IVec S1 32) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S8192x3072 : Shape := ⟨2, ![8192, 3072]⟩
abbrev S3x3072 : Shape := ⟨2, ![3, 3072]⟩
abbrev S1x3072 : Shape := ⟨2, ![1, 3072]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S3x3072, .f32⟩
  | .hbm, ⟨3, _⟩ => ⟨S1x3072, .f32⟩
  | .hbm, ⟨4, _⟩ => ⟨S8192x3072, .bf16⟩
  | .hbm, ⟨5, _⟩ => ⟨S8192x3072, .bf16⟩
  | .hbm, ⟨6, _⟩ => ⟨S8192x3072, .bf16⟩
  | .hbm, ⟨7, _⟩ => ⟨S3x3072, .f32⟩
  | .hbm, ⟨8, _⟩ => ⟨S1x3072, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![12, 4], ![false, false]⟩

def k0_cond1 (i : grid0.Coords) : BitVec 1 :=
  let arg1 : BitVec 32 := BitVec.ofNat 32 (i 1).val
  let c0_i32 : BitVec 32 := 0#32
  let v129 : BitVec 1 := Scalar.cmpi .eq arg1 c0_i32
  let v130 : BitVec 32 := Scalar.extui v129
  let c0_i32_45 : BitVec 32 := 0#32
  let v131 : BitVec 1 := Scalar.cmpi .ne v130 c0_i32_45
  v131

def k0_cond2 (i : grid0.Coords) : BitVec 1 :=
  let arg1 : BitVec 32 := BitVec.ofNat 32 (i 1).val
  let c0_i32 : BitVec 32 := 0#32
  let v129 : BitVec 1 := Scalar.cmpi .eq arg1 c0_i32
  let v_true : BitVec 1 := 1#1
  let v132 : BitVec 1 := Scalar.xori v129 v_true
  let v133 : BitVec 32 := Scalar.extui v132
  let c0_i32_46 : BitVec 32 := 0#32
  let v134 : BitVec 1 := Scalar.cmpi .ne v133 c0_i32_46
  v134

def k0_cond3 (i : grid0.Coords) : BitVec 1 :=
  let arg1 : BitVec 32 := BitVec.ofNat 32 (i 1).val
  let c0_i32 : BitVec 32 := 0#32
  let v129 : BitVec 1 := Scalar.cmpi .eq arg1 c0_i32
  let v135 : BitVec 32 := Scalar.extui v129
  let c0_i32_47 : BitVec 32 := 0#32
  let v136 : BitVec 1 := Scalar.cmpi .ne v135 c0_i32_47
  v136

def k0_cond4 (i : grid0.Coords) : BitVec 1 :=
  let arg1 : BitVec 32 := BitVec.ofNat 32 (i 1).val
  let c0_i32 : BitVec 32 := 0#32
  let v129 : BitVec 1 := Scalar.cmpi .eq arg1 c0_i32
  let true_48 : BitVec 1 := 1#1
  let v137 : BitVec 1 := Scalar.xori v129 true_48
  let v138 : BitVec 32 := Scalar.extui v137
  let c0_i32_49 : BitVec 32 := 0#32
  let v139 : BitVec 1 := Scalar.cmpi .ne v138 c0_i32_49
  v139

def k0_cond5 (i : grid0.Coords) : BitVec 1 :=
  let arg1 : BitVec 32 := BitVec.ofNat 32 (i 1).val
  let c0_i32 : BitVec 32 := 0#32
  let v129 : BitVec 1 := Scalar.cmpi .eq arg1 c0_i32
  let v140 : BitVec 32 := Scalar.extui v129
  let c0_i32_50 : BitVec 32 := 0#32
  let v141 : BitVec 1 := Scalar.cmpi .ne v140 c0_i32_50
  v141

def k0_cond6 (i : grid0.Coords) : BitVec 1 :=
  let arg1 : BitVec 32 := BitVec.ofNat 32 (i 1).val
  let c0_i32 : BitVec 32 := 0#32
  let v129 : BitVec 1 := Scalar.cmpi .eq arg1 c0_i32
  let true_51 : BitVec 1 := 1#1
  let v142 : BitVec 1 := Scalar.xori v129 true_51
  let v143 : BitVec 32 := Scalar.extui v142
  let c0_i32_52 : BitVec 32 := 0#32
  let v144 : BitVec 1 := Scalar.cmpi .ne v143 c0_i32_52
  v144

def k0_cond7 (i : grid0.Coords) : BitVec 1 :=
  let arg1 : BitVec 32 := BitVec.ofNat 32 (i 1).val
  let c0_i32 : BitVec 32 := 0#32
  let v129 : BitVec 1 := Scalar.cmpi .eq arg1 c0_i32
  let v145 : BitVec 32 := Scalar.extui v129
  let c0_i32_53 : BitVec 32 := 0#32
  let v146 : BitVec 1 := Scalar.cmpi .ne v145 c0_i32_53
  v146

def k0_cond8 (i : grid0.Coords) : BitVec 1 :=
  let arg1 : BitVec 32 := BitVec.ofNat 32 (i 1).val
  let c0_i32 : BitVec 32 := 0#32
  let v129 : BitVec 1 := Scalar.cmpi .eq arg1 c0_i32
  let true_54 : BitVec 1 := 1#1
  let v147 : BitVec 1 := Scalar.xori v129 true_54
  let v148 : BitVec 32 := Scalar.extui v147
  let c0_i32_55 : BitVec 32 := 0#32
  let v149 : BitVec 1 := Scalar.cmpi .ne v148 c0_i32_55
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
abbrev S8192x3072 : Shape := ⟨2, ![8192, 3072]⟩
abbrev S3x3072 : Shape := ⟨2, ![3, 3072]⟩
abbrev S1x3072 : Shape := ⟨2, ![1, 3072]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S3x3072, .f32⟩
  | .hbm, ⟨3, _⟩ => ⟨S1x3072, .f32⟩
  | .hbm, ⟨4, _⟩ => ⟨S8192x3072, .bf16⟩
  | .hbm, ⟨5, _⟩ => ⟨S8192x3072, .bf16⟩
  | .hbm, ⟨6, _⟩ => ⟨S8192x3072, .bf16⟩
  | .hbm, ⟨7, _⟩ => ⟨S3x3072, .f32⟩
  | .hbm, ⟨8, _⟩ => ⟨S1x3072, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "ca" => some ((80338380498831 / 2251799813685248 : ℝ) : EReal)
  | "ca3" => some ((241015141496493 / 2251799813685248 : ℝ) : EReal)
  | _ => none

abbrev grid0 : Pipeline.Grid := ⟨2, ![12, 4], ![false, false]⟩

def k0_cond1 (i : grid0.Coords) : BitVec 1 :=
  let arg1 : BitVec 32 := BitVec.ofNat 32 (i 1).val
  let c0_i32 : BitVec 32 := 0#32
  let v129 : BitVec 1 := Scalar.cmpi .eq arg1 c0_i32
  let v130 : BitVec 32 := Scalar.extui v129
  let c0_i32_45 : BitVec 32 := 0#32
  let v131 : BitVec 1 := Scalar.cmpi .ne v130 c0_i32_45
  v131

def k0_cond2 (i : grid0.Coords) : BitVec 1 :=
  let arg1 : BitVec 32 := BitVec.ofNat 32 (i 1).val
  let c0_i32 : BitVec 32 := 0#32
  let v129 : BitVec 1 := Scalar.cmpi .eq arg1 c0_i32
  let v_true : BitVec 1 := 1#1
  let v132 : BitVec 1 := Scalar.xori v129 v_true
  let v133 : BitVec 32 := Scalar.extui v132
  let c0_i32_46 : BitVec 32 := 0#32
  let v134 : BitVec 1 := Scalar.cmpi .ne v133 c0_i32_46
  v134

def k0_cond3 (i : grid0.Coords) : BitVec 1 :=
  let arg1 : BitVec 32 := BitVec.ofNat 32 (i 1).val
  let c0_i32 : BitVec 32 := 0#32
  let v129 : BitVec 1 := Scalar.cmpi .eq arg1 c0_i32
  let v135 : BitVec 32 := Scalar.extui v129
  let c0_i32_47 : BitVec 32 := 0#32
  let v136 : BitVec 1 := Scalar.cmpi .ne v135 c0_i32_47
  v136

def k0_cond4 (i : grid0.Coords) : BitVec 1 :=
  let arg1 : BitVec 32 := BitVec.ofNat 32 (i 1).val
  let c0_i32 : BitVec 32 := 0#32
  let v129 : BitVec 1 := Scalar.cmpi .eq arg1 c0_i32
  let true_48 : BitVec 1 := 1#1
  let v137 : BitVec 1 := Scalar.xori v129 true_48
  let v138 : BitVec 32 := Scalar.extui v137
  let c0_i32_49 : BitVec 32 := 0#32
  let v139 : BitVec 1 := Scalar.cmpi .ne v138 c0_i32_49
  v139

def k0_cond5 (i : grid0.Coords) : BitVec 1 :=
  let arg1 : BitVec 32 := BitVec.ofNat 32 (i 1).val
  let c0_i32 : BitVec 32 := 0#32
  let v129 : BitVec 1 := Scalar.cmpi .eq arg1 c0_i32
  let v140 : BitVec 32 := Scalar.extui v129
  let c0_i32_50 : BitVec 32 := 0#32
  let v141 : BitVec 1 := Scalar.cmpi .ne v140 c0_i32_50
  v141

def k0_cond6 (i : grid0.Coords) : BitVec 1 :=
  let arg1 : BitVec 32 := BitVec.ofNat 32 (i 1).val
  let c0_i32 : BitVec 32 := 0#32
  let v129 : BitVec 1 := Scalar.cmpi .eq arg1 c0_i32
  let true_51 : BitVec 1 := 1#1
  let v142 : BitVec 1 := Scalar.xori v129 true_51
  let v143 : BitVec 32 := Scalar.extui v142
  let c0_i32_52 : BitVec 32 := 0#32
  let v144 : BitVec 1 := Scalar.cmpi .ne v143 c0_i32_52
  v144

def k0_cond7 (i : grid0.Coords) : BitVec 1 :=
  let arg1 : BitVec 32 := BitVec.ofNat 32 (i 1).val
  let c0_i32 : BitVec 32 := 0#32
  let v129 : BitVec 1 := Scalar.cmpi .eq arg1 c0_i32
  let v145 : BitVec 32 := Scalar.extui v129
  let c0_i32_53 : BitVec 32 := 0#32
  let v146 : BitVec 1 := Scalar.cmpi .ne v145 c0_i32_53
  v146

def k0_cond8 (i : grid0.Coords) : BitVec 1 :=
  let arg1 : BitVec 32 := BitVec.ofNat 32 (i 1).val
  let c0_i32 : BitVec 32 := 0#32
  let v129 : BitVec 1 := Scalar.cmpi .eq arg1 c0_i32
  let true_54 : BitVec 1 := 1#1
  let v147 : BitVec 1 := Scalar.xori v129 true_54
  let v148 : BitVec 32 := Scalar.extui v147
  let c0_i32_55 : BitVec 32 := 0#32
  let v149 : BitVec 1 := Scalar.cmpi .ne v148 c0_i32_55
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x3072 : Shape := ⟨2, ![8192, 3072]⟩
abbrev S3x3072 : Shape := ⟨2, ![3, 3072]⟩
abbrev S1x3072 : Shape := ⟨2, ![1, 3072]⟩
abbrev S4x2048x3072 : Shape := ⟨3, ![4, 2048, 3072]⟩
abbrev S3072 : Shape := ⟨1, ![3072]⟩
abbrev S_ : Shape := ⟨0, ![]⟩
abbrev S4x2x3072 : Shape := ⟨3, ![4, 2, 3072]⟩
abbrev S4x2050x3072 : Shape := ⟨3, ![4, 2050, 3072]⟩
abbrev S1x1x3072 : Shape := ⟨3, ![1, 1, 3072]⟩

abbrev nBuf : Space → Nat
  | .hbm => 144
  | .vmem => 0
  | .smem => 0
  | _ => 0

abbrev hbmTy0_0 (i : Nat) : BufTy := match i % 128 with
  | 0 => ⟨S8192x3072, .bf16⟩
  | 1 => ⟨S8192x3072, .bf16⟩
  | 2 => ⟨S3x3072, .f32⟩
  | 3 => ⟨S1x3072, .f32⟩
  | 4 => ⟨S8192x3072, .bf16⟩
  | 5 => ⟨S8192x3072, .f32⟩
  | 6 => ⟨S4x2048x3072, .f32⟩
  | 7 => ⟨S8192x3072, .f32⟩
  | 8 => ⟨S4x2048x3072, .f32⟩
  | 9 => ⟨S3072, .f32⟩
  | 10 => ⟨S_, .f32⟩
  | 11 => ⟨S4x2x3072, .f32⟩
  | 12 => ⟨S4x2050x3072, .f32⟩
  | 13 => ⟨S_, .f32⟩
  | 14 => ⟨S4x2x3072, .f32⟩
  | 15 => ⟨S1x3072, .f32⟩
  | 16 => ⟨S3072, .f32⟩
  | 17 => ⟨S4x2048x3072, .f32⟩
  | 18 => ⟨S1x1x3072, .f32⟩
  | 19 => ⟨S4x2048x3072, .f32⟩
  | 20 => ⟨S4x2048x3072, .f32⟩
  | 21 => ⟨S_, .f32⟩
  | 22 => ⟨S4x2048x3072, .f32⟩
  | 23 => ⟨S4x2048x3072, .f32⟩
  | 24 => ⟨S1x3072, .f32⟩
  | 25 => ⟨S3072, .f32⟩
  | 26 => ⟨S4x2048x3072, .f32⟩
  | 27 => ⟨S1x1x3072, .f32⟩
  | 28 => ⟨S4x2048x3072, .f32⟩
  | 29 => ⟨S4x2048x3072, .f32⟩
  | 30 => ⟨S4x2048x3072, .f32⟩
  | 31 => ⟨S1x3072, .f32⟩
  | 32 => ⟨S3072, .f32⟩
  | 33 => ⟨S4x2048x3072, .f32⟩
  | 34 => ⟨S1x1x3072, .f32⟩
  | 35 => ⟨S4x2048x3072, .f32⟩
  | 36 => ⟨S4x2048x3072, .f32⟩
  | 37 => ⟨S4x2048x3072, .f32⟩
  | 38 => ⟨S1x1x3072, .f32⟩
  | 39 => ⟨S4x2048x3072, .f32⟩
  | 40 => ⟨S4x2048x3072, .f32⟩
  | 41 => ⟨S4x2048x3072, .f32⟩
  | 42 => ⟨S4x2048x3072, .f32⟩
  | 43 => ⟨S4x2048x3072, .f32⟩
  | 44 => ⟨S_, .f32⟩
  | 45 => ⟨S4x2048x3072, .f32⟩
  | 46 => ⟨S4x2048x3072, .f32⟩
  | 47 => ⟨S_, .f32⟩
  | 48 => ⟨S4x2048x3072, .f32⟩
  | 49 => ⟨S4x2048x3072, .f32⟩
  | 50 => ⟨S4x2048x3072, .f32⟩
  | 51 => ⟨S_, .f32⟩
  | 52 => ⟨S4x2048x3072, .f32⟩
  | 53 => ⟨S4x2048x3072, .f32⟩
  | 54 => ⟨S4x2048x3072, .f32⟩
  | 55 => ⟨S_, .f32⟩
  | 56 => ⟨S4x2048x3072, .f32⟩
  | 57 => ⟨S4x2048x3072, .f32⟩
  | 58 => ⟨S_, .f32⟩
  | 59 => ⟨S4x2048x3072, .f32⟩
  | 60 => ⟨S4x2048x3072, .f32⟩
  | 61 => ⟨S4x2048x3072, .f32⟩
  | 62 => ⟨S_, .f32⟩
  | 63 => ⟨S4x2048x3072, .f32⟩
  | 64 => ⟨S4x2048x3072, .f32⟩
  | 65 => ⟨S_, .f32⟩
  | 66 => ⟨S4x2048x3072, .f32⟩
  | 67 => ⟨S4x2048x3072, .f32⟩
  | 68 => ⟨S4x2048x3072, .f32⟩
  | 69 => ⟨S4x2048x3072, .f32⟩
  | 70 => ⟨S8192x3072, .f32⟩
  | 71 => ⟨S4x2048x3072, .f32⟩
  | 72 => ⟨S4x2048x3072, .f32⟩
  | 73 => ⟨S4x2048x3072, .f32⟩
  | 74 => ⟨S4x2048x3072, .f32⟩
  | 75 => ⟨S4x2048x3072, .f32⟩
  | 76 => ⟨S_, .f32⟩
  | 77 => ⟨S4x2048x3072, .f32⟩
  | 78 => ⟨S4x2048x3072, .f32⟩
  | 79 => ⟨S4x2048x3072, .f32⟩
  | 80 => ⟨S_, .f32⟩
  | 81 => ⟨S4x2048x3072, .f32⟩
  | 82 => ⟨S4x2048x3072, .f32⟩
  | 83 => ⟨S4x2048x3072, .f32⟩
  | 84 => ⟨S_, .f32⟩
  | 85 => ⟨S4x2048x3072, .f32⟩
  | 86 => ⟨S4x2048x3072, .f32⟩
  | 87 => ⟨S4x2048x3072, .f32⟩
  | 88 => ⟨S4x2048x3072, .f32⟩
  | 89 => ⟨S_, .f32⟩
  | 90 => ⟨S3072, .f32⟩
  | 91 => ⟨S1x1x3072, .f32⟩
  | 92 => ⟨S_, .f32⟩
  | 93 => ⟨S3072, .f32⟩
  | 94 => ⟨S4x2048x3072, .f32⟩
  | 95 => ⟨S4x2048x3072, .f32⟩
  | 96 => ⟨S4x2048x3072, .f32⟩
  | 97 => ⟨S_, .f32⟩
  | 98 => ⟨S3072, .f32⟩
  | 99 => ⟨S1x1x3072, .f32⟩
  | 100 => ⟨S_, .f32⟩
  | 101 => ⟨S3072, .f32⟩
  | 102 => ⟨S_, .f32⟩
  | 103 => ⟨S4x2050x3072, .f32⟩
  | 104 => ⟨S1x3072, .f32⟩
  | 105 => ⟨S_, .f32⟩
  | 106 => ⟨S3x3072, .f32⟩
  | 107 => ⟨S4x2048x3072, .f32⟩
  | 108 => ⟨S4x2048x3072, .f32⟩
  | 109 => ⟨S4x2048x3072, .f32⟩
  | 110 => ⟨S_, .f32⟩
  | 111 => ⟨S3072, .f32⟩
  | 112 => ⟨S1x1x3072, .f32⟩
  | 113 => ⟨S_, .f32⟩
  | 114 => ⟨S3072, .f32⟩
  | 115 => ⟨S_, .f32⟩
  | 116 => ⟨S4x2050x3072, .f32⟩
  | 117 => ⟨S4x2050x3072, .f32⟩
  | 118 => ⟨S1x3072, .f32⟩
  | 119 => ⟨S_, .f32⟩
  | 120 => ⟨S3x3072, .f32⟩
  | 121 => ⟨S3x3072, .f32⟩
  | 122 => ⟨S4x2048x3072, .f32⟩
  | 123 => ⟨S4x2048x3072, .f32⟩
  | 124 => ⟨S4x2048x3072, .f32⟩
  | 125 => ⟨S_, .f32⟩
  | 126 => ⟨S3072, .f32⟩
  | 127 => ⟨S1x1x3072, .f32⟩
  | _ => ⟨S8192x3072, .bf16⟩

abbrev hbmTy0_1 (i : Nat) : BufTy := match i % 128 with
  | 0 => ⟨S_, .f32⟩
  | 1 => ⟨S3072, .f32⟩
  | 2 => ⟨S_, .f32⟩
  | 3 => ⟨S4x2050x3072, .f32⟩
  | 4 => ⟨S4x2050x3072, .f32⟩
  | 5 => ⟨S1x3072, .f32⟩
  | 6 => ⟨S_, .f32⟩
  | 7 => ⟨S3x3072, .f32⟩
  | 8 => ⟨S3x3072, .f32⟩
  | 9 => ⟨S4x2x3072, .f32⟩
  | 10 => ⟨S4x2048x3072, .f32⟩
  | 11 => ⟨S8192x3072, .f32⟩
  | 12 => ⟨S8192x3072, .bf16⟩
  | 13 => ⟨S8192x3072, .f32⟩
  | 14 => ⟨S8192x3072, .bf16⟩
  | 15 => ⟨S1x3072, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_cst_16 : Ref sig .tc := ⟨.hbm, 102, rfl⟩
abbrev main_v80 : Ref sig .tc := ⟨.hbm, 103, rfl⟩
abbrev main_v81 : Ref sig .tc := ⟨.hbm, 104, rfl⟩
abbrev main_cst_17 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_18 : Ref sig .tc := ⟨.hbm, 110, rfl⟩
abbrev main_v86 : Ref sig .tc := ⟨.hbm, 111, rfl⟩
abbrev main_v87 : Ref sig .tc := ⟨.hbm, 112, rfl⟩
abbrev main_cst_19 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_21 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_cst_23 : Ref sig .tc := ⟨.hbm, 128, rfl⟩
abbrev main_v99 : Ref sig .tc := ⟨.hbm, 129, rfl⟩
abbrev main_cst_24 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_25 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩

abbrev nD : Nat := 1
abbrev τ : Topo := Topo.v7x

variable {F : FTy → Type} [FloatOps F]
-- ==== DactKernel.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S8192x1024 : Shape := ⟨2, ![8192, 1024]⟩
abbrev S3072x1024 : Shape := ⟨2, ![3072, 1024]⟩
abbrev S_ : Shape := ⟨0, ![]⟩
abbrev S8192x3072 : Shape := ⟨2, ![8192, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S_, .bf16⟩
  | .hbm, ⟨3, _⟩ => ⟨S8192x3072, .bf16⟩
  | .hbm, ⟨4, _⟩ => ⟨S8192x3072, .f32⟩
  | .hbm, ⟨5, _⟩ => ⟨S3072x1024, .f32⟩
  | .hbm, ⟨6, _⟩ => ⟨S8192x1024, .f32⟩
  | .hbm, ⟨7, _⟩ => ⟨S8192x1024, .f32⟩
  | .hbm, ⟨8, _⟩ => ⟨S8192x3072, .f32⟩
  | .hbm, ⟨9, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDownKernel.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .bf16⟩
  | .hbm, ⟨3, _⟩ => ⟨S3072x1024, .bf16⟩
  | .hbm, ⟨4, _⟩ => ⟨S8192x3072, .f32⟩
  | .hbm, ⟨5, _⟩ => ⟨S3072x1024, .f32⟩
  | .hbm, ⟨6, _⟩ => ⟨S8192x1024, .f32⟩
  | .hbm, ⟨7, _⟩ => ⟨S8192x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwGateKernel.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .bf16⟩
  | .hbm, ⟨3, _⟩ => ⟨S1024x3072, .bf16⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhFfnKernel.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x3072, .bf16⟩
  | .hbm, ⟨3, _⟩ => ⟨S1024x3072, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 6], ![false, false, false]⟩

def k0_cond4 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DhFfnReferenceIdeal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x3072, .bf16⟩
  | .hbm, ⟨3, _⟩ => ⟨S1024x3072, .bf16⟩
  | .hbm, ⟨4, _⟩ => ⟨S_, .bf16⟩
  | .hbm, ⟨5, _⟩ => ⟨S8192x1024, .bf16⟩
  | .hbm, ⟨6, _⟩ => ⟨S8192x1024, .f32⟩
  | .hbm, ⟨7, _⟩ => ⟨S1024x3072, .f32⟩
  | .hbm, ⟨8, _⟩ => ⟨S8192x3072, .f32⟩
  | .hbm, ⟨9, _⟩ => ⟨S8192x1024, .f32⟩
  | .hbm, ⟨10, _⟩ => ⟨S1024x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DmergedKernel.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOutKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhRnnKernel.lean ====
abbrev S8192x2048 : Shape := ⟨2, ![8192, 2048]⟩
abbrev S1280x1024 : Shape := ⟨2, ![1280, 1024]⟩
abbrev S8192x1280 : Shape := ⟨2, ![8192, 1280]⟩
abbrev S1024x1024 : Shape := ⟨2, ![1024, 1024]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1280x1024, .bf16⟩
  | .hbm, ⟨2, _⟩ => ⟨S8192x1280, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .bf16⟩
  | .local _ .vmem, ⟨4, _⟩ => ⟨S1024x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRnnReferenceIdeal.lean ====
abbrev S8192x2048 : Shape := ⟨2, ![8192, 2048]⟩
abbrev S1280x1024 : Shape := ⟨2, ![1280, 1024]⟩
abbrev S8192x1024 : Shape := ⟨2, ![8192, 1024]⟩
abbrev S_ : Shape := ⟨0, ![]⟩
abbrev S8192x1280 : Shape := ⟨2, ![8192, 1280]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1280x1024, .bf16⟩
  | .hbm, ⟨2, _⟩ => ⟨S8192x1024, .bf16⟩
  | .hbm, ⟨3, _⟩ => ⟨S_, .bf16⟩
  | .hbm, ⟨4, _⟩ => ⟨S8192x1280, .bf16⟩
  | .hbm, ⟨5, _⟩ => ⟨S8192x1280, .f32⟩
  | .hbm, ⟨6, _⟩ => ⟨S1280x1024, .f32⟩
  | .hbm, ⟨7, _⟩ => ⟨S8192x1024, .f32⟩
  | .hbm, ⟨8, _⟩ => ⟨S8192x1024, .f32⟩
  | .hbm, ⟨9, _⟩ => ⟨S8192x1280, .f32⟩
  | .hbm, ⟨10, _⟩ => ⟨S8192x1280, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBrnnKernel.lean ====
abbrev S8192x1280 : Shape := ⟨2, ![8192, 1280]⟩
abbrev S8192x2048 : Shape := ⟨2, ![8192, 2048]⟩
abbrev S1280x1024 : Shape := ⟨2, ![1280, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x2048, .bf16⟩
  | .hbm, ⟨2, _⟩ => ⟨S1280x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrnnReferenceIdeal.lean ====
abbrev S8192x1280 : Shape := ⟨2, ![8192, 1280]⟩
abbrev S8192x2048 : Shape := ⟨2, ![8192, 2048]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x2048, .bf16⟩
  | .hbm, ⟨2, _⟩ => ⟨S8192x1024, .bf16⟩
  | .hbm, ⟨3, _⟩ => ⟨S_, .bf16⟩
  | .hbm, ⟨4, _⟩ => ⟨S1280x1024, .bf16⟩
  | .hbm, ⟨5, _⟩ => ⟨S8192x1280, .f32⟩
  | .hbm, ⟨6, _⟩ => ⟨S1280x1024, .f32⟩
  | .hbm, ⟨7, _⟩ => ⟨S8192x1024, .f32⟩
  | .hbm, ⟨8, _⟩ => ⟨S8192x1024, .f32⟩
  | .hbm, ⟨9, _⟩ => ⟨S1024x1280, .f32⟩
  | .hbm, ⟨10, _⟩ => ⟨S1280x1024, .f32⟩
  | .hbm, ⟨11, _⟩ => ⟨S1280x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DoAttKernel.lean ====
abbrev S8192x2048 : Shape := ⟨2, ![8192, 2048]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoAttReferenceIdeal.lean ====
abbrev S8192x2048 : Shape := ⟨2, ![8192, 2048]⟩
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x1024, .bf16⟩
  | .hbm, ⟨2, _⟩ => ⟨S8192x1024, .bf16⟩
  | .hbm, ⟨3, _⟩ => ⟨S_, .bf16⟩
  | .hbm, ⟨4, _⟩ => ⟨S8192x512, .bf16⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .bf16⟩
  | .hbm, ⟨11, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwBattKernel.lean ====
abbrev S8192x512 : Shape := ⟨2, ![8192, 512]⟩
abbrev S8192x2048 : Shape := ⟨2, ![8192, 2048]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBattReferenceIdeal.lean ====
abbrev S8192x512 : Shape := ⟨2, ![8192, 512]⟩
abbrev S8192x2048 : Shape := ⟨2, ![8192, 2048]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x1024, .bf16⟩
  | .hbm, ⟨3, _⟩ => ⟨S_, .bf16⟩
  | .hbm, ⟨4, _⟩ => ⟨S512x1024, .bf16⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S1024x512, .f32⟩
  | .hbm, ⟨10, _⟩ => ⟨S512x1024, .f32⟩
  | .hbm, ⟨11, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwInAKernel.lean ====
abbrev S8192x1024 : Shape := ⟨2, ![8192, 1024]⟩
abbrev S8192x2560 : Shape := ⟨2, ![8192, 2560]⟩
abbrev S1024x2560 : Shape := ⟨2, ![1024, 2560]⟩
abbrev S1024x1024 : Shape := ⟨2, ![1024, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInAReferenceIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .bf16⟩
  | .hbm, ⟨3, _⟩ => ⟨S1024x2560, .bf16⟩
  | .hbm, ⟨4, _⟩ => ⟨S8192x1024, .f32⟩
  | .hbm, ⟨5, _⟩ => ⟨S1024x2560, .f32⟩
  | .hbm, ⟨6, _⟩ => ⟨S8192x2560, .f32⟩
  | .hbm, ⟨7, _⟩ => ⟨S8192x2560, .f32⟩
  | .hbm, ⟨8, _⟩ => ⟨S2560x1024, .f32⟩
  | .hbm, ⟨9, _⟩ => ⟨S1024x2560, .f32⟩
  | .hbm, ⟨10, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInRKernel.lean ====
abbrev S8192x1024 : Shape := ⟨2, ![8192, 1024]⟩
abbrev S8192x1280 : Shape := ⟨2, ![8192, 1280]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S1024x1280, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInRReferenceIdeal.lean ====
abbrev S8192x1024 : Shape := ⟨2, ![8192, 1024]⟩
abbrev S8192x1280 : Shape := ⟨2, ![8192, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S_, .bf16⟩
  | .hbm, ⟨3, _⟩ => ⟨S1024x1280, .bf16⟩
  | .hbm, ⟨4, _⟩ => ⟨S8192x1024, .f32⟩
  | .hbm, ⟨5, _⟩ => ⟨S1024x1280, .f32⟩
  | .hbm, ⟨6, _⟩ => ⟨S8192x1280, .f32⟩
  | .hbm, ⟨7, _⟩ => ⟨S8192x1280, .f32⟩
  | .hbm, ⟨8, _⟩ => ⟨S1280x1024, .f32⟩
  | .hbm, ⟨9, _⟩ => ⟨S1024x1280, .f32⟩
  | .hbm, ⟨10, _⟩ => ⟨S1024x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInGKernel.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInGReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .bf16⟩
  | .hbm, ⟨3, _⟩ => ⟨S1024x2048, .bf16⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhMixKernel.lean ====
abbrev S8192x1280 : Shape := ⟨2, ![8192, 1280]⟩
abbrev S1024x1280 : Shape := ⟨2, ![1024, 1280]⟩
abbrev S8192x2560 : Shape := ⟨2, ![8192, 2560]⟩
abbrev S1024x2560 : Shape := ⟨2, ![1024, 2560]⟩
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .bf16⟩
  | .hbm, ⟨2, _⟩ => ⟨S8192x2560, .bf16⟩
  | .hbm, ⟨3, _⟩ => ⟨S1024x2560, .bf16⟩
  | .hbm, ⟨4, _⟩ => ⟨S8192x2048, .bf16⟩
  | .hbm, ⟨5, _⟩ => ⟨S1024x2048, .bf16⟩
  | .hbm, ⟨6, _⟩ => ⟨S8192x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .bf16⟩
  | .local _ .vmem, ⟨7, _⟩ => ⟨S1024x1280, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 5], ![false, false, false]⟩

def k0_cond5 (i : grid0.Coords) : BitVec 1 :=
  let arg2 : BitVec 32 := BitVec.ofNat 32 (i 2).val
  let c4_i32 : BitVec 32 := 4#32
  let v18 : BitVec 1 := Scalar.cmpi .eq arg2 c4_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DhMixReferenceIdeal.lean ====
abbrev S8192x1280 : Shape := ⟨2, ![8192, 1280]⟩
abbrev S1024x1280 : Shape := ⟨2, ![1024, 1280]⟩
abbrev S8192x2560 : Shape := ⟨2, ![8192, 2560]⟩
abbrev S1024x2560 : Shape := ⟨2, ![1024, 2560]⟩
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .bf16⟩
  | .hbm, ⟨2, _⟩ => ⟨S8192x2560, .bf16⟩
  | .hbm, ⟨3, _⟩ => ⟨S1024x2560, .bf16⟩
  | .hbm, ⟨4, _⟩ => ⟨S8192x2048, .bf16⟩
  | .hbm, ⟨5, _⟩ => ⟨S1024x2048, .bf16⟩
  | .hbm, ⟨6, _⟩ => ⟨S_, .bf16⟩
  | .hbm, ⟨7, _⟩ => ⟨S8192x1024, .bf16⟩
  | .hbm, ⟨8, _⟩ => ⟨S8192x1024, .f32⟩
  | .hbm, ⟨9, _⟩ => ⟨S1024x1280, .f32⟩
  | .hbm, ⟨10, _⟩ => ⟨S8192x1280, .f32⟩
  | .hbm, ⟨11, _⟩ => ⟨S8192x1024, .f32⟩
  | .hbm, ⟨12, _⟩ => ⟨S1024x2560, .f32⟩
  | .hbm, ⟨13, _⟩ => ⟨S8192x2560, .f32⟩
  | .hbm, ⟨14, _⟩ => ⟨S8192x1024, .f32⟩
  | .hbm, ⟨15, _⟩ => ⟨S1024x2048, .f32⟩
  | .hbm, ⟨16, _⟩ => ⟨S8192x2048, .f32⟩
  | .hbm, ⟨17, _⟩ => ⟨S8192x1280, .f32⟩
  | .hbm, ⟨18, _⟩ => ⟨S8192x2560, .f32⟩
  | .hbm, ⟨19, _⟩ => ⟨S8192x2048, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S8192x1024, .f32⟩
  | .hbm, ⟨26, _⟩ => ⟨S8192x1024, .bf16⟩
  | .hbm, ⟨27, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== ProjKernel.lean ====
abbrev S8192x1024 : Shape := ⟨2, ![8192, 1024]⟩
abbrev S1024x5888 : Shape := ⟨2, ![1024, 5888]⟩
abbrev S8192x3840 : Shape := ⟨2, ![8192, 3840]⟩
abbrev S1024x1024 : Shape := ⟨2, ![1024, 1024]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5888, .bf16⟩
  | .hbm, ⟨2, _⟩ => ⟨S8192x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1920, .f32⟩
  | .local _ .vmem, ⟨5, _⟩ => ⟨S1024x1920, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x1024 : Shape := ⟨2, ![8192, 1024]⟩
abbrev S1024x5888 : Shape := ⟨2, ![1024, 5888]⟩
abbrev S1024x3840 : Shape := ⟨2, ![1024, 3840]⟩
abbrev S8192x3840 : Shape := ⟨2, ![8192, 3840]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5888, .bf16⟩
  | .hbm, ⟨2, _⟩ => ⟨S1024x3840, .bf16⟩
  | .hbm, ⟨3, _⟩ => ⟨S8192x1024, .f32⟩
  | .hbm, ⟨4, _⟩ => ⟨S1024x3840, .f32⟩
  | .hbm, ⟨5, _⟩ => ⟨S8192x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GatesKernel.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PrKernel.lean ====
abbrev S8192x1280 : Shape := ⟨2, ![8192, 1280]⟩
abbrev S1280x1024 : Shape := ⟨2, ![1280, 1024]⟩
abbrev S8192x1024 : Shape := ⟨2, ![8192, 1024]⟩
abbrev S1024x1280 : Shape := ⟨2, ![1024, 1280]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .bf16⟩
  | .local _ .vmem, ⟨4, _⟩ => ⟨S1024x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PrReferenceIdeal.lean ====
abbrev S8192x1280 : Shape := ⟨2, ![8192, 1280]⟩
abbrev S1280x1024 : Shape := ⟨2, ![1280, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1280, .f32⟩
  | .hbm, ⟨3, _⟩ => ⟨S1280x1024, .f32⟩
  | .hbm, ⟨4, _⟩ => ⟨S8192x1024, .f32⟩
  | .hbm, ⟨5, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PaKernel.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateKernel.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InBwdKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InBwdReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MidBwdKernel.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_26 : BitVec 32 := 0#32
  let v64 : BitVec 1 := Scalar.cmpi .ne v63 c0_i32_26
  v64

def k0_cond2 (i : grid0.Coords) : BitVec 1 :=
  let arg0 : BitVec 32 := BitVec.ofNat 32 (i 0).val
  let c0_i32_27 : BitVec 32 := 0#32
  let v65 : BitVec 1 := Scalar.cmpi .sgt arg0 c0_i32_27
  let v66 : BitVec 32 := Scalar.extui v65
  let c0_i32_28 : BitVec 32 := 0#32
  let v67 : BitVec 1 := Scalar.cmpi .ne v66 c0_i32_28
  v67

def k0_cond3 (i : grid0.Coords) : BitVec 1 :=
  let arg0 : BitVec 32 := BitVec.ofNat 32 (i 0).val
  let c0_i32_29 : BitVec 32 := 0#32
  let v68 : BitVec 1 := Scalar.cmpi .eq arg0 c0_i32_29
  let v69 : BitVec 32 := Scalar.extui v68
  let c0_i32_30 : BitVec 32 := 0#32
  let v70 : BitVec 1 := Scalar.cmpi .ne v69 c0_i32_30
  v70

def k0_cond4 (i : grid0.Coords) : BitVec 1 :=
  let arg0 : BitVec 32 := BitVec.ofNat 32 (i 0).val
  let c0_i32_31 : BitVec 32 := 0#32
  let v71 : BitVec 1 := Scalar.cmpi .sgt arg0 c0_i32_31
  let v72 : BitVec 32 := Scalar.extui v71
  let c0_i32_32 : BitVec 32 := 0#32
  let v73 : BitVec 1 := Scalar.cmpi .ne v72 c0_i32_32
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidBwdReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S1x1024, .f32⟩
  | .hbm, ⟨104, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== MergeBwdKernel.lean ====
abbrev S8192x2048 : Shape := ⟨2, ![8192, 2048]⟩
abbrev S8192x1024 : Shape := ⟨2, ![8192, 1024]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x2048, .bf16⟩
  | .hbm, ⟨5, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeBwdReferenceIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2048, .f32⟩
  | .hbm, ⟨44, _⟩ => ⟨S8192x2048, .bf16⟩
  | .hbm, ⟨45, _⟩ => ⟨S8192x2048, .f32⟩
  | .hbm, ⟨46, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== MergeKernel.lean ====
abbrev S8192x2048 : Shape := ⟨2, ![8192, 2048]⟩
abbrev S8192x1024 : Shape := ⟨2, ![8192, 1024]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeReferenceIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MixKernel.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixReferenceIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== DownKernel.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 9
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1, .f32⟩
  | .local _ .vmem, ⟨14, _⟩ => ⟨S1x1024, .f32⟩
  | .local _ .vmem, ⟨15, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v8 : BitVec 1 := Scalar.cmpi .eq arg1 c2_i32
  let v9 : BitVec 32 := Scalar.extui v8
  let c0_i32_2 : BitVec 32 := 0#32
  let v10 : BitVec 1 := Scalar.cmpi .ne v9 c0_i32_2
  v10

def k0_cond4 (i : grid0.Coords) : BitVec 1 :=
  let arg0 : BitVec 32 := BitVec.ofNat 32 (i 0).val
  let c0_i32_26 : BitVec 32 := 0#32
  let v66 : BitVec 1 := Scalar.cmpi .eq arg0 c0_i32_26
  let v67 : BitVec 32 := Scalar.extui v66
  let c0_i32_27 : BitVec 32 := 0#32
  let v68 : BitVec 1 := Scalar.cmpi .ne v67 c0_i32_27
  v68

def k0_cond5 (i : grid0.Coords) : BitVec 1 :=
  let arg0 : BitVec 32 := BitVec.ofNat 32 (i 0).val
  let c0_i32_28 : BitVec 32 := 0#32
  let v69 : BitVec 1 := Scalar.cmpi .sgt arg0 c0_i32_28
  let v70 : BitVec 32 := Scalar.extui v69
  let c0_i32_29 : BitVec 32 := 0#32
  let v71 : BitVec 1 := Scalar.cmpi .ne v70 c0_i32_29
  v71

def k0_cond6 (i : grid0.Coords) : BitVec 1 :=
  let arg0 : BitVec 32 := BitVec.ofNat 32 (i 0).val
  let c0_i32_30 : BitVec 32 := 0#32
  let v72 : BitVec 1 := Scalar.cmpi .eq arg0 c0_i32_30
  let v73 : BitVec 32 := Scalar.extui v72
  let c0_i32_31 : BitVec 32 := 0#32
  let v74 : BitVec 1 := Scalar.cmpi .ne v73 c0_i32_31
  v74

def k0_cond7 (i : grid0.Coords) : BitVec 1 :=
  let arg0 : BitVec 32 := BitVec.ofNat 32 (i 0).val
  let c0_i32_32 : BitVec 32 := 0#32
  let v75 : BitVec 1 := Scalar.cmpi .sgt arg0 c0_i32_32
  let v76 : BitVec 32 := Scalar.extui v75
  let c0_i32_33 : BitVec 32 := 0#32
  let v77 : BitVec 1 := Scalar.cmpi .ne v76 c0_i32_33
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DownReferenceIdeal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x3072, .f32⟩
  | .hbm, ⟨6, _⟩ => ⟨S3072x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S1x1, .f32⟩
  | .hbm, ⟨80, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== ActFwdKernel.lean ====
abbrev S8192x3072 : Shape := ⟨2, ![8192, 3072]⟩
abbrev S3x3072 : Shape := ⟨2, ![3, 3072]⟩
abbrev S1x3072 : Shape := ⟨2, ![1, 3072]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S3x3072, .f32⟩
  | .hbm, ⟨3, _⟩ => ⟨S1x3072, .f32⟩
  | .hbm, ⟨4, _⟩ => ⟨S8192x3072, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActFwdKernelIdeal.lean ====
variable {F : FTy → Type} [FloatOps F] [Named F]
def κ : String → Option EReal := fun
  | "ca" => some ((80338380498831 / 2251799813685248 : ℝ) : EReal)
  | _ => none
-- ==== ActFwdReferenceIdeal.lean ====
abbrev S8192x3072 : Shape := ⟨2, ![8192, 3072]⟩
abbrev S3x3072 : Shape := ⟨2, ![3, 3072]⟩
abbrev S1x3072 : Shape := ⟨2, ![1, 3072]⟩
abbrev S4x2048x3072 : Shape := ⟨3, ![4, 2048, 3072]⟩
abbrev S3072 : Shape := ⟨1, ![3072]⟩
abbrev S_ : Shape := ⟨0, ![]⟩
abbrev S4x2x3072 : Shape := ⟨3, ![4, 2, 3072]⟩
abbrev S4x2050x3072 : Shape := ⟨3, ![4, 2050, 3072]⟩
abbrev S1x1x3072 : Shape := ⟨3, ![1, 1, 3072]⟩

abbrev nBuf : Space → Nat
  | .hbm => 58
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S3x3072, .f32⟩
  | .hbm, ⟨3, _⟩ => ⟨S1x3072, .f32⟩
  | .hbm, ⟨4, _⟩ => ⟨S8192x3072, .f32⟩
  | .hbm, ⟨5, _⟩ => ⟨S4x2048x3072, .f32⟩
  | .hbm, ⟨6, _⟩ => ⟨S8192x3072, .f32⟩
  | .hbm, ⟨7, _⟩ => ⟨S4x2048x3072, .f32⟩
  | .hbm, ⟨8, _⟩ => ⟨S3072, .f32⟩
  | .hbm, ⟨9, _⟩ => ⟨S_, .f32⟩
  | .hbm, ⟨10, _⟩ => ⟨S4x2x3072, .f32⟩
  | .hbm, ⟨11, _⟩ => ⟨S4x2050x3072, .f32⟩
  | .hbm, ⟨12, _⟩ => ⟨S1x3072, .f32⟩
  | .hbm, ⟨13, _⟩ => ⟨S3072, .f32⟩
  | .hbm, ⟨14, _⟩ => ⟨S4x2048x3072, .f32⟩
  | .hbm, ⟨15, _⟩ => ⟨S1x1x3072, .f32⟩
  | .hbm, ⟨16, _⟩ => ⟨S4x2048x3072, .f32⟩
  | .hbm, ⟨17, _⟩ => ⟨S4x2048x3072, .f32⟩
  | .hbm, ⟨18, _⟩ => ⟨S_, .f32⟩
  | .hbm, ⟨19, _⟩ => ⟨S4x2048x3072, .f32⟩
  | .hbm, ⟨20, _⟩ => ⟨S4x2048x3072, .f32⟩
  | .hbm, ⟨21, _⟩ => ⟨S1x3072, .f32⟩
  | .hbm, ⟨22, _⟩ => ⟨S3072, .f32⟩
  | .hbm, ⟨23, _⟩ => ⟨S4x2048x3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | .hbm, ⟨27, _⟩ => ⟨S4x2048x3072, .f32⟩
  | .hbm, ⟨28, _⟩ => ⟨S1x3072, .f32⟩
  | .hbm, ⟨29, _⟩ => ⟨S3072, .f32⟩
  | .hbm, ⟨30, _⟩ => ⟨S4x2048x3072, .f32⟩
  | .hbm, ⟨31, _⟩ => ⟨S1x1x3072, .f32⟩
  | .hbm, ⟨32, _⟩ => ⟨S4x2048x3072, .f32⟩
  | .hbm, ⟨33, _⟩ => ⟨S4x2048x3072, .f32⟩
  | .hbm, ⟨34, _⟩ => ⟨S4x2048x3072, .f32⟩
  | .hbm, ⟨35, _⟩ => ⟨S1x1x3072, .f32⟩
  | .hbm, ⟨36, _⟩ => ⟨S4x2048x3072, .f32⟩
  | .hbm, ⟨37, _⟩ => ⟨S4x2048x3072, .f32⟩
  | .hbm, ⟨38, _⟩ => ⟨S4x2048x3072, .f32⟩
  | .hbm, ⟨39, _⟩ => ⟨S4x2048x3072, .f32⟩
  | .hbm, ⟨40, _⟩ => ⟨S_, .f32⟩
  | .hbm, ⟨41, _⟩ => ⟨S4x2048x3072, .f32⟩
  | .hbm, ⟨42, _⟩ => ⟨S4x2048x3072, .f32⟩
  | .hbm, ⟨43, _⟩ => ⟨S4x2048x3072, .f32⟩
  | .hbm, ⟨44, _⟩ => ⟨S_, .f32⟩
  | .hbm, ⟨45, _⟩ => ⟨S4x2048x3072, .f32⟩
  | .hbm, ⟨46, _⟩ => ⟨S4x2048x3072, .f32⟩
  | .hbm, ⟨47, _⟩ => ⟨S4x2048x3072, .f32⟩
  | .hbm, ⟨48, _⟩ => ⟨S_, .f32⟩
  | .hbm, ⟨49, _⟩ => ⟨S4x2048x3072, .f32⟩
  | .hbm, ⟨50, _⟩ => ⟨S4x2048x3072, .f32⟩
  | .hbm, ⟨51, _⟩ => ⟨S_, .f32⟩
  | .hbm, ⟨52, _⟩ => ⟨S4x2048x3072, .f32⟩
  | .hbm, ⟨53, _⟩ => ⟨S4x2048x3072, .f32⟩
  | .hbm, ⟨54, _⟩ => ⟨S4x2048x3072, .f32⟩
  | .hbm, ⟨55, _⟩ => ⟨S4x2048x3072, .f32⟩
  | .hbm, ⟨56, _⟩ => ⟨S8192x3072, .f32⟩
  | .hbm, ⟨57, _⟩ => ⟨S8192x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== NormInKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdamInKernel.lean ====
abbrev S8x1024x736 : Shape := ⟨3, ![8, 1024, 736]⟩
abbrev S7x1024x736 : Shape := ⟨3, ![7, 1024, 736]⟩
abbrev S1 : Shape := ⟨1, ![1]⟩
abbrev S1024x736 : Shape := ⟨2, ![1024, 736]⟩
abbrev S1x256x736 : Shape := ⟨3, ![1, 256, 736]⟩
abbrev S7x256x736 : Shape := ⟨3, ![7, 256, 736]⟩
abbrev S256x736 : Shape := ⟨2, ![256, 736]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x736, .bf16⟩
  | .hbm, ⟨1, _⟩ => ⟨S7x1024x736, .bf16⟩
  | .hbm, ⟨2, _⟩ => ⟨S1024x736, .f32⟩
  | .hbm, ⟨3, _⟩ => ⟨S1024x736, .f32⟩
  | .hbm, ⟨4, _⟩ => ⟨S1024x736, .f32⟩
  | .hbm, ⟨5, _⟩ => ⟨S1024x736, .f32⟩
  | .hbm, ⟨6, _⟩ => ⟨S1024x736, .f32⟩
  | .hbm, ⟨7, _⟩ => ⟨S1024x736, .f32⟩
  | .hbm, ⟨8, _⟩ => ⟨S1024x736, .f32⟩
  | .local _ .vmem, ⟨0, _⟩ => ⟨S1x256x736, .bf16⟩
  | .local _ .vmem, ⟨1, _⟩ => ⟨S1x256x736, .bf16⟩
  | .local _ .vmem, ⟨2, _⟩ => ⟨S7x256x736, .bf16⟩
  | .local _ .vmem, ⟨3, _⟩ => ⟨S7x256x736, .bf16⟩
  | .local _ .vmem, ⟨4, _⟩ => ⟨S256x736, .f32⟩
  | .local _ .vmem, ⟨5, _⟩ => ⟨S256x736, .f32⟩
  | .local _ .vmem, ⟨6, _⟩ => ⟨S256x736, .f32⟩
  | .local _ .vmem, ⟨7, _⟩ => ⟨S256x736, .f32⟩
  | .local _ .vmem, ⟨8, _⟩ => ⟨S256x736, .f32⟩
  | .local _ .vmem, ⟨9, _⟩ => ⟨S256x736, .f32⟩
  | .local _ .vmem, ⟨10, _⟩ => ⟨S256x736, .f32⟩
  | .local _ .vmem, ⟨11, _⟩ => ⟨S256x736, .f32⟩
  | .local _ .vmem, ⟨12, _⟩ => ⟨S256x736, .f32⟩
  | .local _ .vmem, ⟨13, _⟩ => ⟨S256x736, .f32⟩
  | .local _ .vmem, ⟨14, _⟩ => ⟨S256x736, .f32⟩
  | .local _ .vmem, ⟨15, _⟩ => ⟨S256x736, .f32⟩
  | .local _ .vmem, ⟨16, _⟩ => ⟨S256x736, .f32⟩
  | .local _ .vmem, ⟨17, _⟩ => ⟨S256x736, .f32⟩
  | .local _ .smem, ⟨0, _⟩ => ⟨S1, .i32⟩
  | _, _ => ⟨S8x1024x736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x736 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x736 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x736 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x736 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x736 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x736 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInKernelIdeal.lean ====
abbrev S8x1024x736 : Shape := ⟨3, ![8, 1024, 736]⟩
abbrev S7x1024x736 : Shape := ⟨3, ![7, 1024, 736]⟩
abbrev S1 : Shape := ⟨1, ![1]⟩
abbrev S1024x736 : Shape := ⟨2, ![1024, 736]⟩
abbrev S1x256x736 : Shape := ⟨3, ![1, 256, 736]⟩
abbrev S7x256x736 : Shape := ⟨3, ![7, 256, 736]⟩
abbrev S256x736 : Shape := ⟨2, ![256, 736]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x736, .bf16⟩
  | .hbm, ⟨1, _⟩ => ⟨S7x1024x736, .bf16⟩
  | .hbm, ⟨2, _⟩ => ⟨S1024x736, .f32⟩
  | .hbm, ⟨3, _⟩ => ⟨S1024x736, .f32⟩
  | .hbm, ⟨4, _⟩ => ⟨S1024x736, .f32⟩
  | .hbm, ⟨5, _⟩ => ⟨S1024x736, .f32⟩
  | .hbm, ⟨6, _⟩ => ⟨S1024x736, .f32⟩
  | .hbm, ⟨7, _⟩ => ⟨S1024x736, .f32⟩
  | .hbm, ⟨8, _⟩ => ⟨S1024x736, .f32⟩
  | .local _ .vmem, ⟨0, _⟩ => ⟨S1x256x736, .bf16⟩
  | .local _ .vmem, ⟨1, _⟩ => ⟨S1x256x736, .bf16⟩
  | .local _ .vmem, ⟨2, _⟩ => ⟨S7x256x736, .bf16⟩
  | .local _ .vmem, ⟨3, _⟩ => ⟨S7x256x736, .bf16⟩
  | .local _ .vmem, ⟨4, _⟩ => ⟨S256x736, .f32⟩
  | .local _ .vmem, ⟨5, _⟩ => ⟨S256x736, .f32⟩
  | .local _ .vmem, ⟨6, _⟩ => ⟨S256x736, .f32⟩
  | .local _ .vmem, ⟨7, _⟩ => ⟨S256x736, .f32⟩
  | .local _ .vmem, ⟨8, _⟩ => ⟨S256x736, .f32⟩
  | .local _ .vmem, ⟨9, _⟩ => ⟨S256x736, .f32⟩
  | .local _ .vmem, ⟨10, _⟩ => ⟨S256x736, .f32⟩
  | .local _ .vmem, ⟨11, _⟩ => ⟨S256x736, .f32⟩
  | .local _ .vmem, ⟨12, _⟩ => ⟨S256x736, .f32⟩
  | .local _ .vmem, ⟨13, _⟩ => ⟨S256x736, .f32⟩
  | .local _ .vmem, ⟨14, _⟩ => ⟨S256x736, .f32⟩
  | .local _ .vmem, ⟨15, _⟩ => ⟨S256x736, .f32⟩
  | .local _ .vmem, ⟨16, _⟩ => ⟨S256x736, .f32⟩
  | .local _ .vmem, ⟨17, _⟩ => ⟨S256x736, .f32⟩
  | .local _ .smem, ⟨0, _⟩ => ⟨S1, .i32⟩
  | _, _ => ⟨S8x1024x736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x736 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x736 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x736 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x736 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x736 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x736 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S8x1024x736 : Shape := ⟨3, ![8, 1024, 736]⟩
abbrev S7x1024x736 : Shape := ⟨3, ![7, 1024, 736]⟩
abbrev S1 : Shape := ⟨1, ![1]⟩
abbrev S1024x736 : Shape := ⟨2, ![1024, 736]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x1024x736, .bf16⟩
  | .hbm, ⟨1, _⟩ => ⟨S7x1024x736, .bf16⟩
  | .hbm, ⟨2, _⟩ => ⟨S1, .i32⟩
  | .hbm, ⟨3, _⟩ => ⟨S1024x736, .f32⟩
  | .hbm, ⟨4, _⟩ => ⟨S1024x736, .f32⟩
  | .hbm, ⟨5, _⟩ => ⟨S1024x736, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x736, .f32⟩
  | .hbm, ⟨11, _⟩ => ⟨S_, .f32⟩
  | .hbm, ⟨12, _⟩ => ⟨S_, .f32⟩
  | .hbm, ⟨13, _⟩ => ⟨S8x1024x736, .i1⟩
  | .hbm, ⟨14, _⟩ => ⟨S8x1024x736, .f32⟩
  | .hbm, ⟨15, _⟩ => ⟨S8x1024x736, .f32⟩
  | .hbm, ⟨16, _⟩ => ⟨S_, .f32⟩
  | .hbm, ⟨17, _⟩ => ⟨S1024x736, .f32⟩
  | .hbm, ⟨18, _⟩ => ⟨S7x1024x736, .f32⟩
  | .hbm, ⟨19, _⟩ => ⟨S_, .f32⟩
  | .hbm, ⟨20, _⟩ => ⟨S1024x736, .f32⟩
  | .hbm, ⟨21, _⟩ => ⟨S1024x736, .f32⟩
  | .hbm, ⟨22, _⟩ => ⟨S_, .f32⟩
  | .hbm, ⟨23, _⟩ => ⟨S1024x736, .f32⟩
  | .hbm, ⟨24, _⟩ => ⟨S1024x736, .f32⟩
  | .hbm, ⟨25, _⟩ => ⟨S_, .f32⟩
  | .hbm, ⟨26, _⟩ => ⟨S1024x736, .f32⟩
  | .hbm, ⟨27, _⟩ => ⟨S1024x736, .f32⟩
  | .hbm, ⟨28, _⟩ => ⟨S1024x736, .f32⟩
  | .hbm, ⟨29, _⟩ => ⟨S_, .f32⟩
  | .hbm, ⟨30, _⟩ => ⟨S1024x736, .f32⟩
  | .hbm, ⟨31, _⟩ => ⟨S1024x736, .f32⟩
  | .hbm, ⟨32, _⟩ => ⟨S1024x736, .f32⟩
  | .hbm, ⟨33, _⟩ => ⟨S_, .f32⟩
  | .hbm, ⟨34, _⟩ => ⟨S1024x736, .f32⟩
  | .hbm, ⟨35, _⟩ => ⟨S1024x736, .f32⟩
  | .hbm, ⟨36, _⟩ => ⟨S1024x736, .f32⟩
  | .hbm, ⟨37, _⟩ => ⟨S_, .f32⟩
  | .hbm, ⟨38, _⟩ => ⟨S1024x736, .f32⟩
  | .hbm, ⟨39, _⟩ => ⟨S1024x736, .f32⟩
  | .hbm, ⟨40, _⟩ => ⟨S_, .f32⟩
  | .hbm, ⟨41, _⟩ => ⟨S1024x736, .f32⟩
  | .hbm, ⟨42, _⟩ => ⟨S1024x736, .f32⟩
  | .hbm, ⟨43, _⟩ => ⟨S1024x736, .f32⟩
  | .hbm, ⟨44, _⟩ => ⟨S_, .f32⟩
  | .hbm, ⟨45, _⟩ => ⟨S1024x736, .f32⟩
  | .hbm, ⟨46, _⟩ => ⟨S1024x736, .f32⟩
  | .hbm, ⟨47, _⟩ => ⟨S1024x736, .f32⟩
  | .hbm, ⟨48, _⟩ => ⟨S_, .f32⟩
  | .hbm, ⟨49, _⟩ => ⟨S1024x736, .f32⟩
  | .hbm, ⟨50, _⟩ => ⟨S1024x736, .f32⟩
  | .hbm, ⟨51, _⟩ => ⟨S1024x736, .f32⟩
  | .hbm, ⟨52, _⟩ => ⟨S_, .f32⟩
  | .hbm, ⟨53, _⟩ => ⟨S1024x736, .f32⟩
  | .hbm, ⟨54, _⟩ => ⟨S1024x736, .f32⟩
  | _, _ => ⟨S8x1024x736, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamConvRKernel.lean ====
abbrev S8x4x160 : Shape := ⟨3, ![8, 4, 160]⟩
abbrev S7x4x160 : Shape := ⟨3, ![7, 4, 160]⟩
abbrev S1 : Shape := ⟨1, ![1]⟩
abbrev S4x160 : Shape := ⟨2, ![4, 160]⟩
abbrev S1x4x160 : Shape := ⟨3, ![1, 4, 160]⟩

abbrev nBuf : Space → Nat
  | .hbm => 9
  | .vmem => 9
  | .smem => 1
  | _ => 0

abbrev bufTy : (tb : Table) → Fin (tcTables nBuf tb) → BufTy
  | .hbm, ⟨0, _⟩ => ⟨S8x4x160, .bf16⟩
  | .hbm, ⟨1, _⟩ => ⟨S7x4x160, .bf16⟩
  | .hbm, ⟨2, _⟩ => ⟨S4x160, .f32⟩
  | .hbm, ⟨3, _⟩ => ⟨S4x160, .f32⟩
  | .hbm, ⟨4, _⟩ => ⟨S4x160, .f32⟩
  | .hbm, ⟨5, _⟩ => ⟨S4x160, .f32⟩
  | .hbm, ⟨6, _⟩ => ⟨S4x160, .f32⟩
  | .hbm, ⟨7, _⟩ => ⟨S4x160, .f32⟩
  | .hbm, ⟨8, _⟩ => ⟨S4x160, .f32⟩
  | .local _ .vmem, ⟨0, _⟩ => ⟨S1x4x160, .bf16⟩
  | .local _ .vmem, ⟨1, _⟩ => ⟨S7x4x160, .bf16⟩
  | .local _ .vmem, ⟨2, _⟩ => ⟨S4x160, .f32⟩
  | .local _ .vmem, ⟨3, _⟩ => ⟨S4x160, .f32⟩
  | .local _ .vmem, ⟨4, _⟩ => ⟨S4x160, .f32⟩
  | .local _ .vmem, ⟨5, _⟩ => ⟨S4x160, .f32⟩
  | .local _ .vmem, ⟨6, _⟩ => ⟨S4x160, .f32⟩
  | .local _ .vmem, ⟨7, _⟩ => ⟨S4x160, .f32⟩
  | .local _ .vmem, ⟨8, _⟩ => ⟨S4x160, .f32⟩
  | .local _ .smem, ⟨0, _⟩ => ⟨S1, .i32⟩
  | _, _ => ⟨S8x4x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x4x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvRKernelIdeal.lean ====
abbrev S8x4x160 : Shape := ⟨3, ![8, 4, 160]⟩
abbrev S7x4x160 : Shape := ⟨3, ![7, 4, 160]⟩
abbrev S1 : Shape := ⟨1, ![1]⟩
abbrev S4x160 : Shape := ⟨2, ![4, 160]⟩
abbrev S1x4x160 : Shape := ⟨3, ![1, 4, 160]⟩

abbrev nBuf : Space → Nat
  | .hbm => 9
  | .vmem => 9
  | .smem => 1
  | _ => 0

abbrev bufTy : (tb : Table) → Fin (tcTables nBuf tb) → BufTy
  | .hbm, ⟨0, _⟩ => ⟨S8x4x160, .bf16⟩
  | .hbm, ⟨1, _⟩ => ⟨S7x4x160, .bf16⟩
  | .hbm, ⟨2, _⟩ => ⟨S4x160, .f32⟩
  | .hbm, ⟨3, _⟩ => ⟨S4x160, .f32⟩
  | .hbm, ⟨4, _⟩ => ⟨S4x160, .f32⟩
  | .hbm, ⟨5, _⟩ => ⟨S4x160, .f32⟩
  | .hbm, ⟨6, _⟩ => ⟨S4x160, .f32⟩
  | .hbm, ⟨7, _⟩ => ⟨S4x160, .f32⟩
  | .hbm, ⟨8, _⟩ => ⟨S4x160, .f32⟩
  | .local _ .vmem, ⟨0, _⟩ => ⟨S1x4x160, .bf16⟩
  | .local _ .vmem, ⟨1, _⟩ => ⟨S7x4x160, .bf16⟩
  | .local _ .vmem, ⟨2, _⟩ => ⟨S4x160, .f32⟩
  | .local _ .vmem, ⟨3, _⟩ => ⟨S4x160, .f32⟩
  | .local _ .vmem, ⟨4, _⟩ => ⟨S4x160, .f32⟩
  | .local _ .vmem, ⟨5, _⟩ => ⟨S4x160, .f32⟩
  | .local _ .vmem, ⟨6, _⟩ => ⟨S4x160, .f32⟩
  | .local _ .vmem, ⟨7, _⟩ => ⟨S4x160, .f32⟩
  | .local _ .vmem, ⟨8, _⟩ => ⟨S4x160, .f32⟩
  | .local _ .smem, ⟨0, _⟩ => ⟨S1, .i32⟩
  | _, _ => ⟨S8x4x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x4x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvRReferenceIdeal.lean ====
abbrev S8x4x160 : Shape := ⟨3, ![8, 4, 160]⟩
abbrev S7x4x160 : Shape := ⟨3, ![7, 4, 160]⟩
abbrev S1 : Shape := ⟨1, ![1]⟩
abbrev S4x160 : Shape := ⟨2, ![4, 160]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x4x160, .bf16⟩
  | .hbm, ⟨1, _⟩ => ⟨S7x4x160, .bf16⟩
  | .hbm, ⟨2, _⟩ => ⟨S1, .i32⟩
  | .hbm, ⟨3, _⟩ => ⟨S4x160, .f32⟩
  | .hbm, ⟨4, _⟩ => ⟨S4x160, .f32⟩
  | .hbm, ⟨5, _⟩ => ⟨S4x160, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x4x160, .f32⟩
  | .hbm, ⟨11, _⟩ => ⟨S_, .f32⟩
  | .hbm, ⟨12, _⟩ => ⟨S_, .f32⟩
  | .hbm, ⟨13, _⟩ => ⟨S8x4x160, .i1⟩
  | .hbm, ⟨14, _⟩ => ⟨S8x4x160, .f32⟩
  | .hbm, ⟨15, _⟩ => ⟨S8x4x160, .f32⟩
  | .hbm, ⟨16, _⟩ => ⟨S_, .f32⟩
  | .hbm, ⟨17, _⟩ => ⟨S4x160, .f32⟩
  | .hbm, ⟨18, _⟩ => ⟨S7x4x160, .f32⟩
  | .hbm, ⟨19, _⟩ => ⟨S_, .f32⟩
  | .hbm, ⟨20, _⟩ => ⟨S4x160, .f32⟩
  | .hbm, ⟨21, _⟩ => ⟨S4x160, .f32⟩
  | .hbm, ⟨22, _⟩ => ⟨S_, .f32⟩
  | .hbm, ⟨23, _⟩ => ⟨S4x160, .f32⟩
  | .hbm, ⟨24, _⟩ => ⟨S4x160, .f32⟩
  | .hbm, ⟨25, _⟩ => ⟨S_, .f32⟩
  | .hbm, ⟨26, _⟩ => ⟨S4x160, .f32⟩
  | .hbm, ⟨27, _⟩ => ⟨S4x160, .f32⟩
  | .hbm, ⟨28, _⟩ => ⟨S4x160, .f32⟩
  | .hbm, ⟨29, _⟩ => ⟨S_, .f32⟩
  | .hbm, ⟨30, _⟩ => ⟨S4x160, .f32⟩
  | .hbm, ⟨31, _⟩ => ⟨S4x160, .f32⟩
  | .hbm, ⟨32, _⟩ => ⟨S4x160, .f32⟩
  | .hbm, ⟨33, _⟩ => ⟨S_, .f32⟩
  | .hbm, ⟨34, _⟩ => ⟨S4x160, .f32⟩
  | .hbm, ⟨35, _⟩ => ⟨S4x160, .f32⟩
  | .hbm, ⟨36, _⟩ => ⟨S4x160, .f32⟩
  | .hbm, ⟨37, _⟩ => ⟨S_, .f32⟩
  | .hbm, ⟨38, _⟩ => ⟨S4x160, .f32⟩
  | .hbm, ⟨39, _⟩ => ⟨S4x160, .f32⟩
  | .hbm, ⟨40, _⟩ => ⟨S_, .f32⟩
  | .hbm, ⟨41, _⟩ => ⟨S4x160, .f32⟩
  | .hbm, ⟨42, _⟩ => ⟨S4x160, .f32⟩
  | .hbm, ⟨43, _⟩ => ⟨S4x160, .f32⟩
  | .hbm, ⟨44, _⟩ => ⟨S_, .f32⟩
  | .hbm, ⟨45, _⟩ => ⟨S4x160, .f32⟩
  | .hbm, ⟨46, _⟩ => ⟨S4x160, .f32⟩
  | .hbm, ⟨47, _⟩ => ⟨S4x160, .f32⟩
  | .hbm, ⟨48, _⟩ => ⟨S_, .f32⟩
  | .hbm, ⟨49, _⟩ => ⟨S4x160, .f32⟩
  | .hbm, ⟨50, _⟩ => ⟨S4x160, .f32⟩
  | .hbm, ⟨51, _⟩ => ⟨S4x160, .f32⟩
  | .hbm, ⟨52, _⟩ => ⟨S_, .f32⟩
  | .hbm, ⟨53, _⟩ => ⟨S4x160, .f32⟩
  | .hbm, ⟨54, _⟩ => ⟨S4x160, .f32⟩
  | _, _ => ⟨S8x4x160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamBrnnKernel.lean ====
abbrev S8x160x1024 : Shape := ⟨3, ![8, 160, 1024]⟩
abbrev S7x160x1024 : Shape := ⟨3, ![7, 160, 1024]⟩
abbrev S1 : Shape := ⟨1, ![1]⟩
abbrev S160x1024 : Shape := ⟨2, ![160, 1024]⟩
abbrev S1x160x1024 : Shape := ⟨3, ![1, 160, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x160x1024, .bf16⟩
  | .hbm, ⟨1, _⟩ => ⟨S7x160x1024, .bf16⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .hbm, ⟨7, _⟩ => ⟨S160x1024, .f32⟩
  | .hbm, ⟨8, _⟩ => ⟨S160x1024, .f32⟩
  | .local _ .vmem, ⟨0, _⟩ => ⟨S1x160x1024, .bf16⟩
  | .local _ .vmem, ⟨1, _⟩ => ⟨S7x160x1024, .bf16⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .smem, ⟨0, _⟩ => ⟨S1, .i32⟩
  | _, _ => ⟨S8x160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S160x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamBrnnKernelIdeal.lean ====
abbrev S8x160x1024 : Shape := ⟨3, ![8, 160, 1024]⟩
abbrev S7x160x1024 : Shape := ⟨3, ![7, 160, 1024]⟩
abbrev S1 : Shape := ⟨1, ![1]⟩
abbrev S160x1024 : Shape := ⟨2, ![160, 1024]⟩
abbrev S1x160x1024 : Shape := ⟨3, ![1, 160, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x160x1024, .bf16⟩
  | .hbm, ⟨1, _⟩ => ⟨S7x160x1024, .bf16⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .hbm, ⟨7, _⟩ => ⟨S160x1024, .f32⟩
  | .hbm, ⟨8, _⟩ => ⟨S160x1024, .f32⟩
  | .local _ .vmem, ⟨0, _⟩ => ⟨S1x160x1024, .bf16⟩
  | .local _ .vmem, ⟨1, _⟩ => ⟨S7x160x1024, .bf16⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .smem, ⟨0, _⟩ => ⟨S1, .i32⟩
  | _, _ => ⟨S8x160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S160x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamBrnnReferenceIdeal.lean ====
abbrev S8x160x1024 : Shape := ⟨3, ![8, 160, 1024]⟩
abbrev S7x160x1024 : Shape := ⟨3, ![7, 160, 1024]⟩
abbrev S1 : Shape := ⟨1, ![1]⟩
abbrev S160x1024 : Shape := ⟨2, ![160, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x160x1024, .bf16⟩
  | .hbm, ⟨1, _⟩ => ⟨S7x160x1024, .bf16⟩
  | .hbm, ⟨2, _⟩ => ⟨S1, .i32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x160x1024, .f32⟩
  | .hbm, ⟨11, _⟩ => ⟨S_, .f32⟩
  | .hbm, ⟨12, _⟩ => ⟨S_, .f32⟩
  | .hbm, ⟨13, _⟩ => ⟨S8x160x1024, .i1⟩
  | .hbm, ⟨14, _⟩ => ⟨S8x160x1024, .f32⟩
  | .hbm, ⟨15, _⟩ => ⟨S8x160x1024, .f32⟩
  | .hbm, ⟨16, _⟩ => ⟨S_, .f32⟩
  | .hbm, ⟨17, _⟩ => ⟨S160x1024, .f32⟩
  | .hbm, ⟨18, _⟩ => ⟨S7x160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S_, .f32⟩
  | .hbm, ⟨23, _⟩ => ⟨S160x1024, .f32⟩
  | .hbm, ⟨24, _⟩ => ⟨S160x1024, .f32⟩
  | .hbm, ⟨25, _⟩ => ⟨S_, .f32⟩
  | .hbm, ⟨26, _⟩ => ⟨S160x1024, .f32⟩
  | .hbm, ⟨27, _⟩ => ⟨S160x1024, .f32⟩
  | .hbm, ⟨28, _⟩ => ⟨S160x1024, .f32⟩
  | .hbm, ⟨29, _⟩ => ⟨S_, .f32⟩
  | .hbm, ⟨30, _⟩ => ⟨S160x1024, .f32⟩
  | .hbm, ⟨31, _⟩ => ⟨S160x1024, .f32⟩
  | .hbm, ⟨32, _⟩ => ⟨S160x1024, .f32⟩
  | .hbm, ⟨33, _⟩ => ⟨S_, .f32⟩
  | .hbm, ⟨34, _⟩ => ⟨S160x1024, .f32⟩
  | .hbm, ⟨35, _⟩ => ⟨S160x1024, .f32⟩
  | .hbm, ⟨36, _⟩ => ⟨S160x1024, .f32⟩
  | .hbm, ⟨37, _⟩ => ⟨S_, .f32⟩
  | .hbm, ⟨38, _⟩ => ⟨S160x1024, .f32⟩
  | .hbm, ⟨39, _⟩ => ⟨S160x1024, .f32⟩
  | .hbm, ⟨40, _⟩ => ⟨S_, .f32⟩
  | .hbm, ⟨41, _⟩ => ⟨S160x1024, .f32⟩
  | .hbm, ⟨42, _⟩ => ⟨S160x1024, .f32⟩
  | .hbm, ⟨43, _⟩ => ⟨S160x1024, .f32⟩
  | .hbm, ⟨44, _⟩ => ⟨S_, .f32⟩
  | .hbm, ⟨45, _⟩ => ⟨S160x1024, .f32⟩
  | .hbm, ⟨46, _⟩ => ⟨S160x1024, .f32⟩
  | .hbm, ⟨47, _⟩ => ⟨S160x1024, .f32⟩
  | .hbm, ⟨48, _⟩ => ⟨S_, .f32⟩
  | .hbm, ⟨49, _⟩ => ⟨S160x1024, .f32⟩
  | .hbm, ⟨50, _⟩ => ⟨S160x1024, .f32⟩
  | .hbm, ⟨51, _⟩ => ⟨S160x1024, .f32⟩
  | .hbm, ⟨52, _⟩ => ⟨S_, .f32⟩
  | .hbm, ⟨53, _⟩ => ⟨S160x1024, .f32⟩
  | .hbm, ⟨54, _⟩ => ⟨S160x1024, .f32⟩
  | _, _ => ⟨S8x160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamBattKernel.lean ====
abbrev S8x512x128 : Shape := ⟨3, ![8, 512, 128]⟩
abbrev S7x512x128 : Shape := ⟨3, ![7, 512, 128]⟩
abbrev S1 : Shape := ⟨1, ![1]⟩
abbrev S512x128 : Shape := ⟨2, ![512, 128]⟩
abbrev S1x512x128 : Shape := ⟨3, ![1, 512, 128]⟩

abbrev nBuf : Space → Nat
  | .hbm => 9
  | .vmem => 9
  | .smem => 1
  | _ => 0

abbrev bufTy : (tb : Table) → Fin (tcTables nBuf tb) → BufTy
  | .hbm, ⟨0, _⟩ => ⟨S8x512x128, .bf16⟩
  | .hbm, ⟨1, _⟩ => ⟨S7x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S1x512x128, .bf16⟩
  | .local _ .vmem, ⟨1, _⟩ => ⟨S7x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .smem, ⟨0, _⟩ => ⟨S1, .i32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamBattKernelIdeal.lean ====
abbrev S8x512x128 : Shape := ⟨3, ![8, 512, 128]⟩
abbrev S7x512x128 : Shape := ⟨3, ![7, 512, 128]⟩
abbrev S1 : Shape := ⟨1, ![1]⟩
abbrev S512x128 : Shape := ⟨2, ![512, 128]⟩
abbrev S1x512x128 : Shape := ⟨3, ![1, 512, 128]⟩

abbrev nBuf : Space → Nat
  | .hbm => 9
  | .vmem => 9
  | .smem => 1
  | _ => 0

abbrev bufTy : (tb : Table) → Fin (tcTables nBuf tb) → BufTy
  | .hbm, ⟨0, _⟩ => ⟨S8x512x128, .bf16⟩
  | .hbm, ⟨1, _⟩ => ⟨S7x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S1x512x128, .bf16⟩
  | .local _ .vmem, ⟨1, _⟩ => ⟨S7x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .smem, ⟨0, _⟩ => ⟨S1, .i32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamBattReferenceIdeal.lean ====
abbrev S8x512x128 : Shape := ⟨3, ![8, 512, 128]⟩
abbrev S7x512x128 : Shape := ⟨3, ![7, 512, 128]⟩
abbrev S1 : Shape := ⟨1, ![1]⟩
abbrev S512x128 : Shape := ⟨2, ![512, 128]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S7x512x128, .bf16⟩
  | .hbm, ⟨2, _⟩ => ⟨S1, .i32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x512x128, .f32⟩
  | .hbm, ⟨11, _⟩ => ⟨S_, .f32⟩
  | .hbm, ⟨12, _⟩ => ⟨S_, .f32⟩
  | .hbm, ⟨13, _⟩ => ⟨S8x512x128, .i1⟩
  | .hbm, ⟨14, _⟩ => ⟨S8x512x128, .f32⟩
  | .hbm, ⟨15, _⟩ => ⟨S8x512x128, .f32⟩
  | .hbm, ⟨16, _⟩ => ⟨S_, .f32⟩
  | .hbm, ⟨17, _⟩ => ⟨S512x128, .f32⟩
  | .hbm, ⟨18, _⟩ => ⟨S7x512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | .hbm, ⟨40, _⟩ => ⟨S_, .f32⟩
  | .hbm, ⟨41, _⟩ => ⟨S512x128, .f32⟩
  | .hbm, ⟨42, _⟩ => ⟨S512x128, .f32⟩
  | .hbm, ⟨43, _⟩ => ⟨S512x128, .f32⟩
  | .hbm, ⟨44, _⟩ => ⟨S_, .f32⟩
  | .hbm, ⟨45, _⟩ => ⟨S512x128, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamOutKernel.lean ====
abbrev S8x128x1024 : Shape := ⟨3, ![8, 128, 1024]⟩
abbrev S7x128x1024 : Shape := ⟨3, ![7, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S7x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutKernelIdeal.lean ====
abbrev S8x128x1024 : Shape := ⟨3, ![8, 128, 1024]⟩
abbrev S7x128x1024 : Shape := ⟨3, ![7, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S7x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutReferenceIdeal.lean ====
abbrev S8x128x1024 : Shape := ⟨3, ![8, 128, 1024]⟩
abbrev S7x128x1024 : Shape := ⟨3, ![7, 128, 1024]⟩
abbrev S1 : Shape := ⟨1, ![1]⟩
abbrev S128x1024 : Shape := ⟨2, ![128, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S1, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x128x1024, .f32⟩
  | .hbm, ⟨11, _⟩ => ⟨S_, .f32⟩
  | .hbm, ⟨12, _⟩ => ⟨S_, .f32⟩
  | .hbm, ⟨13, _⟩ => ⟨S8x128x1024, .i1⟩
  | .hbm, ⟨14, _⟩ => ⟨S8x128x1024, .f32⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S7x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamGateKernel.lean ====
abbrev S8x1024x384 : Shape := ⟨3, ![8, 1024, 384]⟩
abbrev S7x1024x384 : Shape := ⟨3, ![7, 1024, 384]⟩
abbrev S1 : Shape := ⟨1, ![1]⟩
abbrev S1024x384 : Shape := ⟨2, ![1024, 384]⟩
abbrev S1x512x384 : Shape := ⟨3, ![1, 512, 384]⟩
abbrev S7x512x384 : Shape := ⟨3, ![7, 512, 384]⟩
abbrev S512x384 : Shape := ⟨2, ![512, 384]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x384, .bf16⟩
  | .hbm, ⟨1, _⟩ => ⟨S7x1024x384, .bf16⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S1x512x384, .bf16⟩
  | .local _ .vmem, ⟨1, _⟩ => ⟨S1x512x384, .bf16⟩
  | .local _ .vmem, ⟨2, _⟩ => ⟨S7x512x384, .bf16⟩
  | .local _ .vmem, ⟨3, _⟩ => ⟨S7x512x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .smem, ⟨0, _⟩ => ⟨S1, .i32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGateKernelIdeal.lean ====
abbrev S8x1024x384 : Shape := ⟨3, ![8, 1024, 384]⟩
abbrev S7x1024x384 : Shape := ⟨3, ![7, 1024, 384]⟩
abbrev S1 : Shape := ⟨1, ![1]⟩
abbrev S1024x384 : Shape := ⟨2, ![1024, 384]⟩
abbrev S1x512x384 : Shape := ⟨3, ![1, 512, 384]⟩
abbrev S7x512x384 : Shape := ⟨3, ![7, 512, 384]⟩
abbrev S512x384 : Shape := ⟨2, ![512, 384]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x384, .bf16⟩
  | .hbm, ⟨1, _⟩ => ⟨S7x1024x384, .bf16⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S1x512x384, .bf16⟩
  | .local _ .vmem, ⟨1, _⟩ => ⟨S1x512x384, .bf16⟩
  | .local _ .vmem, ⟨2, _⟩ => ⟨S7x512x384, .bf16⟩
  | .local _ .vmem, ⟨3, _⟩ => ⟨S7x512x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .smem, ⟨0, _⟩ => ⟨S1, .i32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGateReferenceIdeal.lean ====
abbrev S8x1024x384 : Shape := ⟨3, ![8, 1024, 384]⟩
abbrev S7x1024x384 : Shape := ⟨3, ![7, 1024, 384]⟩
abbrev S1 : Shape := ⟨1, ![1]⟩
abbrev S1024x384 : Shape := ⟨2, ![1024, 384]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S7x1024x384, .bf16⟩
  | .hbm, ⟨2, _⟩ => ⟨S1, .i32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x384, .f32⟩
  | .hbm, ⟨11, _⟩ => ⟨S_, .f32⟩
  | .hbm, ⟨12, _⟩ => ⟨S_, .f32⟩
  | .hbm, ⟨13, _⟩ => ⟨S8x1024x384, .i1⟩
  | .hbm, ⟨14, _⟩ => ⟨S8x1024x384, .f32⟩
  | .hbm, ⟨15, _⟩ => ⟨S8x1024x384, .f32⟩
  | .hbm, ⟨16, _⟩ => ⟨S_, .f32⟩
  | .hbm, ⟨17, _⟩ => ⟨S1024x384, .f32⟩
  | .hbm, ⟨18, _⟩ => ⟨S7x1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | .hbm, ⟨40, _⟩ => ⟨S_, .f32⟩
  | .hbm, ⟨41, _⟩ => ⟨S1024x384, .f32⟩
  | .hbm, ⟨42, _⟩ => ⟨S1024x384, .f32⟩
  | .hbm, ⟨43, _⟩ => ⟨S1024x384, .f32⟩
  | .hbm, ⟨44, _⟩ => ⟨S_, .f32⟩
  | .hbm, ⟨45, _⟩ => ⟨S1024x384, .f32⟩
  | .hbm, ⟨46, _⟩ => ⟨S1024x384, .f32⟩
  | .hbm, ⟨47, _⟩ => ⟨S1024x384, .f32⟩
  | .hbm, ⟨48, _⟩ => ⟨S_, .f32⟩
  | .hbm, ⟨49, _⟩ => ⟨S1024x384, .f32⟩
  | .hbm, ⟨50, _⟩ => ⟨S1024x384, .f32⟩
  | .hbm, ⟨51, _⟩ => ⟨S1024x384, .f32⟩
  | .hbm, ⟨52, _⟩ => ⟨S_, .f32⟩
  | .hbm, ⟨53, _⟩ => ⟨S1024x384, .f32⟩
  | .hbm, ⟨54, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamConvFKernel.lean ====
abbrev S8x3x384 : Shape := ⟨3, ![8, 3, 384]⟩
abbrev S7x3x384 : Shape := ⟨3, ![7, 3, 384]⟩
abbrev S1 : Shape := ⟨1, ![1]⟩
abbrev S3x384 : Shape := ⟨2, ![3, 384]⟩
abbrev S1x3x384 : Shape := ⟨3, ![1, 3, 384]⟩

abbrev nBuf : Space → Nat
  | .hbm => 9
  | .vmem => 9
  | .smem => 1
  | _ => 0

abbrev bufTy : (tb : Table) → Fin (tcTables nBuf tb) → BufTy
  | .hbm, ⟨0, _⟩ => ⟨S8x3x384, .bf16⟩
  | .hbm, ⟨1, _⟩ => ⟨S7x3x384, .bf16⟩
  | .hbm, ⟨2, _⟩ => ⟨S3x384, .f32⟩
  | .hbm, ⟨3, _⟩ => ⟨S3x384, .f32⟩
  | .hbm, ⟨4, _⟩ => ⟨S3x384, .f32⟩
  | .hbm, ⟨5, _⟩ => ⟨S3x384, .f32⟩
  | .hbm, ⟨6, _⟩ => ⟨S3x384, .f32⟩
  | .hbm, ⟨7, _⟩ => ⟨S3x384, .f32⟩
  | .hbm, ⟨8, _⟩ => ⟨S3x384, .f32⟩
  | .local _ .vmem, ⟨0, _⟩ => ⟨S1x3x384, .bf16⟩
  | .local _ .vmem, ⟨1, _⟩ => ⟨S7x3x384, .bf16⟩
  | .local _ .vmem, ⟨2, _⟩ => ⟨S3x384, .f32⟩
  | .local _ .vmem, ⟨3, _⟩ => ⟨S3x384, .f32⟩
  | .local _ .vmem, ⟨4, _⟩ => ⟨S3x384, .f32⟩
  | .local _ .vmem, ⟨5, _⟩ => ⟨S3x384, .f32⟩
  | .local _ .vmem, ⟨6, _⟩ => ⟨S3x384, .f32⟩
  | .local _ .vmem, ⟨7, _⟩ => ⟨S3x384, .f32⟩
  | .local _ .vmem, ⟨8, _⟩ => ⟨S3x384, .f32⟩
  | .local _ .smem, ⟨0, _⟩ => ⟨S1, .i32⟩
  | _, _ => ⟨S8x3x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x3x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x3x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S3x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvFKernelIdeal.lean ====
abbrev S8x3x384 : Shape := ⟨3, ![8, 3, 384]⟩
abbrev S7x3x384 : Shape := ⟨3, ![7, 3, 384]⟩
abbrev S1 : Shape := ⟨1, ![1]⟩
abbrev S3x384 : Shape := ⟨2, ![3, 384]⟩
abbrev S1x3x384 : Shape := ⟨3, ![1, 3, 384]⟩

abbrev nBuf : Space → Nat
  | .hbm => 9
  | .vmem => 9
  | .smem => 1
  | _ => 0

abbrev bufTy : (tb : Table) → Fin (tcTables nBuf tb) → BufTy
  | .hbm, ⟨0, _⟩ => ⟨S8x3x384, .bf16⟩
  | .hbm, ⟨1, _⟩ => ⟨S7x3x384, .bf16⟩
  | .hbm, ⟨2, _⟩ => ⟨S3x384, .f32⟩
  | .hbm, ⟨3, _⟩ => ⟨S3x384, .f32⟩
  | .hbm, ⟨4, _⟩ => ⟨S3x384, .f32⟩
  | .hbm, ⟨5, _⟩ => ⟨S3x384, .f32⟩
  | .hbm, ⟨6, _⟩ => ⟨S3x384, .f32⟩
  | .hbm, ⟨7, _⟩ => ⟨S3x384, .f32⟩
  | .hbm, ⟨8, _⟩ => ⟨S3x384, .f32⟩
  | .local _ .vmem, ⟨0, _⟩ => ⟨S1x3x384, .bf16⟩
  | .local _ .vmem, ⟨1, _⟩ => ⟨S7x3x384, .bf16⟩
  | .local _ .vmem, ⟨2, _⟩ => ⟨S3x384, .f32⟩
  | .local _ .vmem, ⟨3, _⟩ => ⟨S3x384, .f32⟩
  | .local _ .vmem, ⟨4, _⟩ => ⟨S3x384, .f32⟩
  | .local _ .vmem, ⟨5, _⟩ => ⟨S3x384, .f32⟩
  | .local _ .vmem, ⟨6, _⟩ => ⟨S3x384, .f32⟩
  | .local _ .vmem, ⟨7, _⟩ => ⟨S3x384, .f32⟩
  | .local _ .vmem, ⟨8, _⟩ => ⟨S3x384, .f32⟩
  | .local _ .smem, ⟨0, _⟩ => ⟨S1, .i32⟩
  | _, _ => ⟨S8x3x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x3x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x3x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S3x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvFReferenceIdeal.lean ====
abbrev S8x3x384 : Shape := ⟨3, ![8, 3, 384]⟩
abbrev S7x3x384 : Shape := ⟨3, ![7, 3, 384]⟩
abbrev S1 : Shape := ⟨1, ![1]⟩
abbrev S3x384 : Shape := ⟨2, ![3, 384]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x3x384, .bf16⟩
  | .hbm, ⟨1, _⟩ => ⟨S7x3x384, .bf16⟩
  | .hbm, ⟨2, _⟩ => ⟨S1, .i32⟩
  | .hbm, ⟨3, _⟩ => ⟨S3x384, .f32⟩
  | .hbm, ⟨4, _⟩ => ⟨S3x384, .f32⟩
  | .hbm, ⟨5, _⟩ => ⟨S3x384, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x3x384, .f32⟩
  | .hbm, ⟨11, _⟩ => ⟨S_, .f32⟩
  | .hbm, ⟨12, _⟩ => ⟨S_, .f32⟩
  | .hbm, ⟨13, _⟩ => ⟨S8x3x384, .i1⟩
  | .hbm, ⟨14, _⟩ => ⟨S8x3x384, .f32⟩
  | .hbm, ⟨15, _⟩ => ⟨S8x3x384, .f32⟩
  | .hbm, ⟨16, _⟩ => ⟨S_, .f32⟩
  | .hbm, ⟨17, _⟩ => ⟨S3x384, .f32⟩
  | .hbm, ⟨18, _⟩ => ⟨S7x3x384, .f32⟩
  | .hbm, ⟨19, _⟩ => ⟨S_, .f32⟩
  | .hbm, ⟨20, _⟩ => ⟨S3x384, .f32⟩
  | .hbm, ⟨21, _⟩ => ⟨S3x384, .f32⟩
  | .hbm, ⟨22, _⟩ => ⟨S_, .f32⟩
  | .hbm, ⟨23, _⟩ => ⟨S3x384, .f32⟩
  | .hbm, ⟨24, _⟩ => ⟨S3x384, .f32⟩
  | .hbm, ⟨25, _⟩ => ⟨S_, .f32⟩
  | .hbm, ⟨26, _⟩ => ⟨S3x384, .f32⟩
  | .hbm, ⟨27, _⟩ => ⟨S3x384, .f32⟩
  | .hbm, ⟨28, _⟩ => ⟨S3x384, .f32⟩
  | .hbm, ⟨29, _⟩ => ⟨S_, .f32⟩
  | .hbm, ⟨30, _⟩ => ⟨S3x384, .f32⟩
  | .hbm, ⟨31, _⟩ => ⟨S3x384, .f32⟩
  | .hbm, ⟨32, _⟩ => ⟨S3x384, .f32⟩
  | .hbm, ⟨33, _⟩ => ⟨S_, .f32⟩
  | .hbm, ⟨34, _⟩ => ⟨S3x384, .f32⟩
  | .hbm, ⟨35, _⟩ => ⟨S3x384, .f32⟩
  | .hbm, ⟨36, _⟩ => ⟨S3x384, .f32⟩
  | .hbm, ⟨37, _⟩ => ⟨S_, .f32⟩
  | .hbm, ⟨38, _⟩ => ⟨S3x384, .f32⟩
  | .hbm, ⟨39, _⟩ => ⟨S3x384, .f32⟩
  | .hbm, ⟨40, _⟩ => ⟨S_, .f32⟩
  | .hbm, ⟨41, _⟩ => ⟨S3x384, .f32⟩
  | .hbm, ⟨42, _⟩ => ⟨S3x384, .f32⟩
  | .hbm, ⟨43, _⟩ => ⟨S3x384, .f32⟩
  | .hbm, ⟨44, _⟩ => ⟨S_, .f32⟩
  | .hbm, ⟨45, _⟩ => ⟨S3x384, .f32⟩
  | .hbm, ⟨46, _⟩ => ⟨S3x384, .f32⟩
  | .hbm, ⟨47, _⟩ => ⟨S3x384, .f32⟩
  | .hbm, ⟨48, _⟩ => ⟨S_, .f32⟩
  | .hbm, ⟨49, _⟩ => ⟨S3x384, .f32⟩
  | .hbm, ⟨50, _⟩ => ⟨S3x384, .f32⟩
  | .hbm, ⟨51, _⟩ => ⟨S3x384, .f32⟩
  | .hbm, ⟨52, _⟩ => ⟨S_, .f32⟩
  | .hbm, ⟨53, _⟩ => ⟨S3x384, .f32⟩
  | .hbm, ⟨54, _⟩ => ⟨S3x384, .f32⟩
  | _, _ => ⟨S8x3x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamDownKernel.lean ====
abbrev S8x384x1024 : Shape := ⟨3, ![8, 384, 1024]⟩
abbrev S7x384x1024 : Shape := ⟨3, ![7, 384, 1024]⟩
abbrev S1 : Shape := ⟨1, ![1]⟩
abbrev S384x1024 : Shape := ⟨2, ![384, 1024]⟩
abbrev S1x192x1024 : Shape := ⟨3, ![1, 192, 1024]⟩
abbrev S7x192x1024 : Shape := ⟨3, ![7, 192, 1024]⟩
abbrev S192x1024 : Shape := ⟨2, ![192, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x384x1024, .bf16⟩
  | .hbm, ⟨1, _⟩ => ⟨S7x384x1024, .bf16⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .hbm, ⟨8, _⟩ => ⟨S384x1024, .f32⟩
  | .local _ .vmem, ⟨0, _⟩ => ⟨S1x192x1024, .bf16⟩
  | .local _ .vmem, ⟨1, _⟩ => ⟨S1x192x1024, .bf16⟩
  | .local _ .vmem, ⟨2, _⟩ => ⟨S7x192x1024, .bf16⟩
  | .local _ .vmem, ⟨3, _⟩ => ⟨S7x192x1024, .bf16⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S192x1024, .f32⟩
  | .local _ .vmem, ⟨17, _⟩ => ⟨S192x1024, .f32⟩
  | .local _ .smem, ⟨0, _⟩ => ⟨S1, .i32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S8x384x1024 : Shape := ⟨3, ![8, 384, 1024]⟩
abbrev S7x384x1024 : Shape := ⟨3, ![7, 384, 1024]⟩
abbrev S1 : Shape := ⟨1, ![1]⟩
abbrev S384x1024 : Shape := ⟨2, ![384, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S7x384x1024, .bf16⟩
  | .hbm, ⟨2, _⟩ => ⟨S1, .i32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x384x1024, .f32⟩
  | .hbm, ⟨11, _⟩ => ⟨S_, .f32⟩
  | .hbm, ⟨12, _⟩ => ⟨S_, .f32⟩
  | .hbm, ⟨13, _⟩ => ⟨S8x384x1024, .i1⟩
  | .hbm, ⟨14, _⟩ => ⟨S8x384x1024, .f32⟩
  | .hbm, ⟨15, _⟩ => ⟨S8x384x1024, .f32⟩
  | .hbm, ⟨16, _⟩ => ⟨S_, .f32⟩
  | .hbm, ⟨17, _⟩ => ⟨S384x1024, .f32⟩
  | .hbm, ⟨18, _⟩ => ⟨S7x384x1024, .f32⟩
  | .hbm, ⟨19, _⟩ => ⟨S_, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | .hbm, ⟨40, _⟩ => ⟨S_, .f32⟩
  | .hbm, ⟨41, _⟩ => ⟨S384x1024, .f32⟩
  | .hbm, ⟨42, _⟩ => ⟨S384x1024, .f32⟩
  | .hbm, ⟨43, _⟩ => ⟨S384x1024, .f32⟩
  | .hbm, ⟨44, _⟩ => ⟨S_, .f32⟩
  | .hbm, ⟨45, _⟩ => ⟨S384x1024, .f32⟩
  | .hbm, ⟨46, _⟩ => ⟨S384x1024, .f32⟩
  | .hbm, ⟨47, _⟩ => ⟨S384x1024, .f32⟩
  | .hbm, ⟨48, _⟩ => ⟨S_, .f32⟩
  | .hbm, ⟨49, _⟩ => ⟨S384x1024, .f32⟩
  | .hbm, ⟨50, _⟩ => ⟨S384x1024, .f32⟩
  | .hbm, ⟨51, _⟩ => ⟨S384x1024, .f32⟩
  | .hbm, ⟨52, _⟩ => ⟨S_, .f32⟩
  | .hbm, ⟨53, _⟩ => ⟨S384x1024, .f32⟩
  | .hbm, ⟨54, _⟩ => ⟨S384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== RnnBwdKernel.lean ====
abbrev S8192x3840 : Shape := ⟨2, ![8192, 3840]⟩
abbrev S8192x1280 : Shape := ⟨2, ![8192, 1280]⟩
abbrev S4x1280 : Shape := ⟨2, ![4, 1280]⟩
abbrev S10x128x128 : Shape := ⟨3, ![10, 128, 128]⟩
abbrev S1x1280 : Shape := ⟨2, ![1, 1280]⟩
abbrev S2048x128 : Shape := ⟨2, ![2048, 128]⟩
abbrev S4x128 : Shape := ⟨2, ![4, 128]⟩
abbrev S1x128x128 : Shape := ⟨3, ![1, 128, 128]⟩
abbrev S1x128 : Shape := ⟨2, ![1, 128]⟩
abbrev S128x128 : Shape := ⟨2, ![128, 128]⟩
abbrev S8x128 : Shape := ⟨2, ![8, 128]⟩
abbrev S2040x128 : Shape := ⟨2, ![2040, 128]⟩
abbrev S2032x128 : Shape := ⟨2, ![2032, 128]⟩
abbrev S16x128 : Shape := ⟨2, ![16, 128]⟩
abbrev S2016x128 : Shape := ⟨2, ![2016, 128]⟩
abbrev S32x128 : Shape := ⟨2, ![32, 128]⟩
abbrev S1984x128 : Shape := ⟨2, ![1984, 128]⟩
abbrev S64x128 : Shape := ⟨2, ![64, 128]⟩
abbrev S1920x128 : Shape := ⟨2, ![1920, 128]⟩
abbrev S1792x128 : Shape := ⟨2, ![1792, 128]⟩
abbrev S256x128 : Shape := ⟨2, ![256, 128]⟩
abbrev S1536x128 : Shape := ⟨2, ![1536, 128]⟩
abbrev S512x128 : Shape := ⟨2, ![512, 128]⟩
abbrev S1024x128 : Shape := ⟨2, ![1024, 128]⟩
abbrev S128 : Shape := ⟨1, ![128]⟩

abbrev nBuf : Space → Nat
  | .hbm => 20
  | .vmem => 40
  | .smem => 0
  | _ => 0

abbrev bufTy : (tb : Table) → Fin (tcTables nBuf tb) → BufTy
  | .hbm, ⟨0, _⟩ => ⟨S8192x3840, .f32⟩
  | .hbm, ⟨1, _⟩ => ⟨S8192x1280, .f32⟩
  | .hbm, ⟨2, _⟩ => ⟨S8192x1280, .f32⟩
  | .hbm, ⟨3, _⟩ => ⟨S8192x1280, .f32⟩
  | .hbm, ⟨4, _⟩ => ⟨S8192x1280, .f32⟩
  | .hbm, ⟨5, _⟩ => ⟨S8192x1280, .f32⟩
  | .hbm, ⟨6, _⟩ => ⟨S8192x1280, .f32⟩
  | .hbm, ⟨7, _⟩ => ⟨S8192x1280, .bf16⟩
  | .hbm, ⟨8, _⟩ => ⟨S4x1280, .f32⟩
  | .hbm, ⟨9, _⟩ => ⟨S10x128x128, .f32⟩
  | .hbm, ⟨10, _⟩ => ⟨S10x128x128, .f32⟩
  | .hbm, ⟨11, _⟩ => ⟨S1x1280, .f32⟩
  | .hbm, ⟨12, _⟩ => ⟨S8192x1280, .bf16⟩
  | .hbm, ⟨13, _⟩ => ⟨S4x1280, .f32⟩
  | .hbm, ⟨14, _⟩ => ⟨S1x1280, .f32⟩
  | .hbm, ⟨15, _⟩ => ⟨S10x128x128, .f32⟩
  | .hbm, ⟨16, _⟩ => ⟨S1x1280, .f32⟩
  | .hbm, ⟨17, _⟩ => ⟨S10x128x128, .f32⟩
  | .hbm, ⟨18, _⟩ => ⟨S1x1280, .f32⟩
  | .hbm, ⟨19, _⟩ => ⟨S1x1280, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S4x128, .f32⟩
  | .local _ .vmem, ⟨17, _⟩ => ⟨S4x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128, .f32⟩
  | .local _ .vmem, ⟨23, _⟩ => ⟨S1x128, .f32⟩
  | .local _ .vmem, ⟨24, _⟩ => ⟨S2048x128, .bf16⟩
  | .local _ .vmem, ⟨25, _⟩ => ⟨S2048x128, .bf16⟩
  | .local _ .vmem, ⟨26, _⟩ => ⟨S4x128, .f32⟩
  | .local _ .vmem, ⟨27, _⟩ => ⟨S4x128, .f32⟩
  | .local _ .vmem, ⟨28, _⟩ => ⟨S1x128, .f32⟩
  | .local _ .vmem, ⟨29, _⟩ => ⟨S1x128, .f32⟩
  | .local _ .vmem, ⟨30, _⟩ => ⟨S1x128x128, .f32⟩
  | .local _ .vmem, ⟨31, _⟩ => ⟨S1x128x128, .f32⟩
  | .local _ .vmem, ⟨32, _⟩ => ⟨S1x128, .f32⟩
  | .local _ .vmem, ⟨33, _⟩ => ⟨S1x128, .f32⟩
  | .local _ .vmem, ⟨34, _⟩ => ⟨S1x128x128, .f32⟩
  | .local _ .vmem, ⟨35, _⟩ => ⟨S1x128x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![10, 4], ![false, false]⟩

def k0_cond1 (i : grid0.Coords) : BitVec 1 :=
  let arg1 : BitVec 32 := BitVec.ofNat 32 (i 1).val
  let c0_i32 : BitVec 32 := 0#32
  let v338 : BitVec 1 := Scalar.cmpi .eq arg1 c0_i32
  let v339 : BitVec 32 := Scalar.extui v338
  let c0_i32_84 : BitVec 32 := 0#32
  let v340 : BitVec 1 := Scalar.cmpi .ne v339 c0_i32_84
  v340

def k0_cond2 (i : grid0.Coords) : BitVec 1 :=
  let arg1 : BitVec 32 := BitVec.ofNat 32 (i 1).val
  let c0_i32 : BitVec 32 := 0#32
  let v338 : BitVec 1 := Scalar.cmpi .eq arg1 c0_i32
  let v_true : BitVec 1 := 1#1
  let v341 : BitVec 1 := Scalar.xori v338 v_true
  let v342 : BitVec 32 := Scalar.extui v341
  let c0_i32_85 : BitVec 32 := 0#32
  let v343 : BitVec 1 := Scalar.cmpi .ne v342 c0_i32_85
  v343

def k0_cond3 (i : grid0.Coords) : BitVec 1 :=
  let arg1 : BitVec 32 := BitVec.ofNat 32 (i 1).val
  let c0_i32 : BitVec 32 := 0#32
  let v338 : BitVec 1 := Scalar.cmpi .eq arg1 c0_i32
  let v344 : BitVec 32 := Scalar.extui v338
  let c0_i32_86 : BitVec 32 := 0#32
  let v345 : BitVec 1 := Scalar.cmpi .ne v344 c0_i32_86
  v345

def k0_cond4 (i : grid0.Coords) : BitVec 1 :=
  let arg1 : BitVec 32 := BitVec.ofNat 32 (i 1).val
  let c0_i32 : BitVec 32 := 0#32
  let v338 : BitVec 1 := Scalar.cmpi .eq arg1 c0_i32
  let true_87 : BitVec 1 := 1#1
  let v346 : BitVec 1 := Scalar.xori v338 true_87
  let v347 : BitVec 32 := Scalar.extui v346
  let c0_i32_88 : BitVec 32 := 0#32
  let v348 : BitVec 1 := Scalar.cmpi .ne v347 c0_i32_88
  v348

def k0_cond5 (i : grid0.Coords) : BitVec 1 :=
  let arg1 : BitVec 32 := BitVec.ofNat 32 (i 1).val
  let c0_i32 : BitVec 32 := 0#32
  let v338 : BitVec 1 := Scalar.cmpi .eq arg1 c0_i32
  let v349 : BitVec 32 := Scalar.extui v338
  let c0_i32_89 : BitVec 32 := 0#32
  let v350 : BitVec 1 := Scalar.cmpi .ne v349 c0_i32_89
  v350

def k0_cond6 (i : grid0.Coords) : BitVec 1 :=
  let arg1 : BitVec 32 := BitVec.ofNat 32 (i 1).val
  let c0_i32 : BitVec 32 := 0#32
  let v338 : BitVec 1 := Scalar.cmpi .eq arg1 c0_i32
  let true_90 : BitVec 1 := 1#1
  let v351 : BitVec 1 := Scalar.xori v338 true_90
  let v352 : BitVec 32 := Scalar.extui v351
  let c0_i32_91 : BitVec 32 := 0#32
  let v353 : BitVec 1 := Scalar.cmpi .ne v352 c0_i32_91
  v353

def k0_cond7 (i : grid0.Coords) : BitVec 1 :=
  let arg1 : BitVec 32 := BitVec.ofNat 32 (i 1).val
  let c0_i32 : BitVec 32 := 0#32
  let v338 : BitVec 1 := Scalar.cmpi .eq arg1 c0_i32
  let v354 : BitVec 32 := Scalar.extui v338
  let c0_i32_92 : BitVec 32 := 0#32
  let v355 : BitVec 1 := Scalar.cmpi .ne v354 c0_i32_92
  v355

def k0_cond8 (i : grid0.Coords) : BitVec 1 :=
  let arg1 : BitVec 32 := BitVec.ofNat 32 (i 1).val
  let c0_i32 : BitVec 32 := 0#32
  let v338 : BitVec 1 := Scalar.cmpi .eq arg1 c0_i32
  let true_93 : BitVec 1 := 1#1
  let v356 : BitVec 1 := Scalar.xori v338 true_93
  let v357 : BitVec 32 := Scalar.extui v356
  let c0_i32_94 : BitVec 32 := 0#32
  let v358 : BitVec 1 := Scalar.cmpi .ne v357 c0_i32_94
  v358

def k0_cond9 (i : grid0.Coords) : BitVec 1 :=
  let arg1 : BitVec 32 := BitVec.ofNat 32 (i 1).val
  let c0_i32 : BitVec 32 := 0#32
  let v338 : BitVec 1 := Scalar.cmpi .eq arg1 c0_i32
  let v359 : BitVec 32 := Scalar.extui v338
  let c0_i32_95 : BitVec 32 := 0#32
  let v360 : BitVec 1 := Scalar.cmpi .ne v359 c0_i32_95
  v360

def k0_cond10 (i : grid0.Coords) : BitVec 1 :=
  let arg1 : BitVec 32 := BitVec.ofNat 32 (i 1).val
  let c0_i32 : BitVec 32 := 0#32
  let v338 : BitVec 1 := Scalar.cmpi .eq arg1 c0_i32
  let true_96 : BitVec 1 := 1#1
  let v361 : BitVec 1 := Scalar.xori v338 true_96
  let v362 : BitVec 32 := Scalar.extui v361
  let c0_i32_97 : BitVec 32 := 0#32
  let v363 : BitVec 1 := Scalar.cmpi .ne v362 c0_i32_97
  v363

def k0_cond11 (i : grid0.Coords) : BitVec 1 :=
  let arg1 : BitVec 32 := BitVec.ofNat 32 (i 1).val
  let c0_i32 : BitVec 32 := 0#32
  let v338 : BitVec 1 := Scalar.cmpi .eq arg1 c0_i32
  let v364 : BitVec 32 := Scalar.extui v338
  let c0_i32_98 : BitVec 32 := 0#32
  let v365 : BitVec 1 := Scalar.cmpi .ne v364 c0_i32_98
  v365

def k0_cond12 (i : grid0.Coords) : BitVec 1 :=
  let arg1 : BitVec 32 := BitVec.ofNat 32 (i 1).val
  let c0_i32 : BitVec 32 := 0#32
  let v338 : BitVec 1 := Scalar.cmpi .eq arg1 c0_i32
  let true_99 : BitVec 1 := 1#1
  let v366 : BitVec 1 := Scalar.xori v338 true_99
  let v367 : BitVec 32 := Scalar.extui v366
  let c0_i32_100 : BitVec 32 := 0#32
  let v368 : BitVec 1 := Scalar.cmpi .ne v367 c0_i32_100
  v368

def k0_cond13 (i : grid0.Coords) : BitVec 1 :=
  let arg1 : BitVec 32 := BitVec.ofNat 32 (i 1).val
  let c0_i32 : BitVec 32 := 0#32
  let v338 : BitVec 1 := Scalar.cmpi .eq arg1 c0_i32
  let v371 : BitVec 32 := Scalar.extui v338
  let c0_i32_102 : BitVec 32 := 0#32
  let v372 : BitVec 1 := Scalar.cmpi .ne v371 c0_i32_102
  v372

def k0_cond14 (i : grid0.Coords) : BitVec 1 :=
  let arg1 : BitVec 32 := BitVec.ofNat 32 (i 1).val
  let c0_i32 : BitVec 32 := 0#32
  let v338 : BitVec 1 := Scalar.cmpi .eq arg1 c0_i32
  let true_103 : BitVec 1 := 1#1
  let v373 : BitVec 1 := Scalar.xori v338 true_103
  let v374 : BitVec 32 := Scalar.extui v373
  let c0_i32_104 : BitVec 32 := 0#32
  let v375 : BitVec 1 := Scalar.cmpi .ne v374 c0_i32_104
  v375

def k0_cond15 (i : grid0.Coords) : BitVec 1 :=
  let arg1 : BitVec 32 := BitVec.ofNat 32 (i 1).val
  let c0_i32 : BitVec 32 := 0#32
  let v338 : BitVec 1 := Scalar.cmpi .eq arg1 c0_i32
  let v376 : BitVec 32 := Scalar.extui v338
  let c0_i32_105 : BitVec 32 := 0#32
  let v377 : BitVec 1 := Scalar.cmpi .ne v376 c0_i32_105
  v377

def k0_cond16 (i : grid0.Coords) : BitVec 1 :=
  let arg1 : BitVec 32 := BitVec.ofNat 32 (i 1).val
  let c0_i32 : BitVec 32 := 0#32
  let v338 : BitVec 1 := Scalar.cmpi .eq arg1 c0_i32
  let true_106 : BitVec 1 := 1#1
  let v378 : BitVec 1 := Scalar.xori v338 true_106
  let v379 : BitVec 32 := Scalar.extui v378
  let c0_i32_107 : BitVec 32 := 0#32
  let v380 : BitVec 1 := Scalar.cmpi .ne v379 c0_i32_107
  v380

def k0_cond17 (i : grid0.Coords) : BitVec 1 :=
  let arg1 : BitVec 32 := BitVec.ofNat 32 (i 1).val
  let c0_i32 : BitVec 32 := 0#32
  let v338 : BitVec 1 := Scalar.cmpi .eq arg1 c0_i32
  let v383 : BitVec 32 := Scalar.extui v338
  let c0_i32_109 : BitVec 32 := 0#32
  let v384 : BitVec 1 := Scalar.cmpi .ne v383 c0_i32_109
  v384

def k0_cond18 (i : grid0.Coords) : BitVec 1 :=
  let arg1 : BitVec 32 := BitVec.ofNat 32 (i 1).val
  let c0_i32 : BitVec 32 := 0#32
  let v338 : BitVec 1 := Scalar.cmpi .eq arg1 c0_i32
  let true_110 : BitVec 1 := 1#1
  let v385 : BitVec 1 := Scalar.xori v338 true_110
  let v386 : BitVec 32 := Scalar.extui v385
  let c0_i32_111 : BitVec 32 := 0#32
  let v387 : BitVec 1 := Scalar.cmpi .ne v386 c0_i32_111
  v387

def k0_cond19 (i : grid0.Coords) : BitVec 1 :=
  let arg1 : BitVec 32 := BitVec.ofNat 32 (i 1).val
  let c0_i32 : BitVec 32 := 0#32
  let v338 : BitVec 1 := Scalar.cmpi .eq arg1 c0_i32
  let v388 : BitVec 32 := Scalar.extui v338
  let c0_i32_112 : BitVec 32 := 0#32
  let v389 : BitVec 1 := Scalar.cmpi .ne v388 c0_i32_112
  v389

def k0_cond20 (i : grid0.Coords) : BitVec 1 :=
  let arg1 : BitVec 32 := BitVec.ofNat 32 (i 1).val
  let c0_i32 : BitVec 32 := 0#32
  let v338 : BitVec 1 := Scalar.cmpi .eq arg1 c0_i32
  let true_113 : BitVec 1 := 1#1
  let v390 : BitVec 1 := Scalar.xori v338 true_113
  let v391 : BitVec 32 := Scalar.extui v390
  let c0_i32_114 : BitVec 32 := 0#32
  let v392 : BitVec 1 := Scalar.cmpi .ne v391 c0_i32_114
  v392

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== RnnFwdKernel.lean ====
abbrev S8192x3840 : Shape := ⟨2, ![8192, 3840]⟩
abbrev S4x1280 : Shape := ⟨2, ![4, 1280]⟩
abbrev S1x1280 : Shape := ⟨2, ![1, 1280]⟩
abbrev S10x128x128 : Shape := ⟨3, ![10, 128, 128]⟩
abbrev S8192x1280 : Shape := ⟨2, ![8192, 1280]⟩
abbrev S2048x128 : Shape := ⟨2, ![2048, 128]⟩
abbrev S4x128 : Shape := ⟨2, ![4, 128]⟩
abbrev S1x128 : Shape := ⟨2, ![1, 128]⟩
abbrev S1x128x128 : Shape := ⟨3, ![1, 128, 128]⟩
abbrev S8x128 : Shape := ⟨2, ![8, 128]⟩
abbrev S2040x128 : Shape := ⟨2, ![2040, 128]⟩
abbrev S128x128 : Shape := ⟨2, ![128, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S1920x128 : Shape := ⟨2, ![1920, 128]⟩
abbrev S256x128 : Shape := ⟨2, ![256, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩

abbrev nBuf : Space → Nat
  | .hbm => 15
  | .vmem => 30
  | .smem => 0
  | _ => 0

abbrev bufTy : (tb : Table) → Fin (tcTables nBuf tb) → BufTy
  | .hbm, ⟨0, _⟩ => ⟨S8192x3840, .f32⟩
  | .hbm, ⟨1, _⟩ => ⟨S4x1280, .f32⟩
  | .hbm, ⟨2, _⟩ => ⟨S1x1280, .f32⟩
  | .hbm, ⟨3, _⟩ => ⟨S10x128x128, .f32⟩
  | .hbm, ⟨4, _⟩ => ⟨S1x1280, .f32⟩
  | .hbm, ⟨5, _⟩ => ⟨S10x128x128, .f32⟩
  | .hbm, ⟨6, _⟩ => ⟨S1x1280, .f32⟩
  | .hbm, ⟨7, _⟩ => ⟨S1x1280, .f32⟩
  | .hbm, ⟨8, _⟩ => ⟨S8192x1280, .f32⟩
  | .hbm, ⟨9, _⟩ => ⟨S8192x1280, .f32⟩
  | .hbm, ⟨10, _⟩ => ⟨S8192x1280, .f32⟩
  | .hbm, ⟨11, _⟩ => ⟨S8192x1280, .f32⟩
  | .hbm, ⟨12, _⟩ => ⟨S8192x1280, .f32⟩
  | .hbm, ⟨13, _⟩ => ⟨S8192x1280, .f32⟩
  | .hbm, ⟨14, _⟩ => ⟨S8192x1280, .bf16⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .bf16⟩
  | .local _ .vmem, ⟨29, _⟩ => ⟨S2048x128, .bf16⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.Gelu.lean ====
/- The GELU and its derivative over the extended reals: the kernel's folded spelling against the reference's. -/
module

public import Idealize.ShloMosaic.PureOps.Ideal

@[expose] public section

noncomputable section

namespace Cert.Ffn

open Idealize.ShloMosaic

/-- The GELU's inner coefficient `sqrt (2 / pi)` as the float word the programs hold. -/
def gC : ℝ := 6693141 / 8388608
/-- The GELU's cubic coefficient `0.044715` as the float word the reference holds. -/
def gA : ℝ := 12003091 / 268435456
/-- The product of the two coefficients, which the kernel folds into one literal. -/
def gCA : ℝ := gC * gA
/-- Three times that product, the kernel's other folded literal. -/
def gCA3 : ℝ := 3 * gC * gA
/-- One half. -/
def half : ℝ := 1 / 2

/-- The hyperbolic tangent of the kernel's argument `x (C + CA x²)`. -/
def thK (x : EReal) : EReal := Ideal.tanh (x * ((gC : EReal) + (gCA : EReal) * (x * x)))
/-- The hyperbolic tangent of the reference's argument `C (x + A x³)`. -/
def thR (x : EReal) : EReal := Ideal.tanh ((gC : EReal) * (x + (gA : EReal) * ((x * x) * x)))

/-- The kernel's GELU. -/
def gelK (x : EReal) : EReal := x * ((half : EReal) + (half : EReal) * thK x)
/-- The reference's GELU. -/
def gelR (x : EReal) : EReal := x * ((half : EReal) * (1 + thR x))

/-- The kernel's derivative of the GELU. -/
def dgelK (x : EReal) : EReal :=
  ((half : EReal) + (half : EReal) * thK x) * (1 + x * (1 - thK x) * ((gC : EReal) + (gCA3 : EReal) * (x * x)))

/-- The reference's cotangent of the GELU's tanh argument, before the cubic's share: `C · (½ (x p)) · (1 + t)(1 − t)`. -/
def inR (p x : EReal) : EReal :=
  (gC : EReal) * (((half : EReal) * (x * p)) * ((1 + thR x) * (1 - thR x)))

/-- The reference's cotangent of the GELU's argument, at the incoming cotangent `p`. -/
def dgelR (p x : EReal) : EReal :=
  (p * ((half : EReal) * (1 + thR x)) + inR p x) + ((gA : EReal) * inR p x) * (((3 : ℝ) : EReal) * (x * x))

theorem gC_pos : 0 < gC := by norm_num [gC]
theorem gA_pos : 0 < gA := by norm_num [gA]
theorem gCA_pos : 0 < gCA := mul_pos gC_pos gA_pos
theorem gCA3_pos : 0 < gCA3 := by unfold gCA3; have := gC_pos; have := gA_pos; positivity

/-- Both spellings of the argument have one hyperbolic tangent, at the infinities too. -/
theorem thK_eq_thR (x : EReal) : thK x = thR x := by
  unfold thK thR
  congr 1
  induction x using EReal.rec with
  | bot =>
    simp [EReal.coe_mul_top_of_pos gCA_pos, EReal.coe_mul_bot_of_pos gA_pos, EReal.coe_mul_bot_of_pos gC_pos]
  | top =>
    simp [EReal.coe_mul_top_of_pos gCA_pos, EReal.coe_mul_top_of_pos gA_pos, EReal.coe_mul_top_of_pos gC_pos]
  | coe r =>
    have e : r * (gC + gCA * (r * r)) = gC * (r + gA * (r * r * r)) := by unfold gCA; ring
    norm_cast

/-- At a finite argument the tangent is the real one. -/
theorem thR_coe (r : ℝ) : thR (r : EReal) = ((Real.tanh (gC * (r + gA * (r * r * r))) : ℝ) : EReal) := by
  unfold thR
  norm_cast

theorem thR_top : thR ⊤ = ((1 : ℝ) : EReal) := by
  unfold thR
  simp [EReal.coe_mul_top_of_pos gA_pos, EReal.coe_mul_top_of_pos gC_pos]

theorem thR_bot : thR ⊥ = ((-1 : ℝ) : EReal) := by
  unfold thR
  simp [EReal.coe_mul_bot_of_pos gA_pos, EReal.coe_mul_bot_of_pos gC_pos]

/-- One half of one plus a real number, distributed. -/
theorem half_add (T : ℝ) : (half : EReal) + (half : EReal) * (T : EReal) = (half : EReal) * (1 + (T : EReal)) := by
  norm_cast
  ring_nf

/-- The two spellings of the GELU agree everywhere. -/
theorem gelK_eq_gelR (x : EReal) : gelK x = gelR x := by
  unfold gelK gelR
  rw [thK_eq_thR]
  congr 1
  induction x using EReal.rec with
  | bot => rw [thR_bot, half_add]
  | top => rw [thR_top, half_add]
  | coe r => rw [thR_coe, half_add]

/-- The two spellings of the derivative agree at every argument, for a finite incoming cotangent. -/
theorem dgelK_eq_dgelR (p : ℝ) (x : EReal) : (p : EReal) * dgelK x = dgelR p x := by
  unfold dgelK dgelR inR
  rw [thK_eq_thR]
  induction x using EReal.rec with
  | bot =>
    rw [thR_bot]
    have e1 : ((half : ℝ) : EReal) + (half : EReal) * ((-1 : ℝ) : EReal) = 0 := by norm_cast; unfold half; norm_num
    have e2 : (1 : EReal) + ((-1 : ℝ) : EReal) = 0 := by norm_cast
    rw [e1, e2]; simp
  | top =>
    rw [thR_top]
    have e1 : ((half : ℝ) : EReal) + (half : EReal) * ((1 : ℝ) : EReal) = 1 := by norm_cast; unfold half; norm_num
    have e2 : (1 : EReal) - ((1 : ℝ) : EReal) = 0 := by norm_cast
    have e3 : ((half : ℝ) : EReal) * (1 + ((1 : ℝ) : EReal)) = 1 := by norm_cast; unfold half; norm_num
    rw [e1, e2, e3]; simp
  | coe r =>
    rw [thR_coe]
    norm_cast
    unfold gCA3 half
    ring_nf

end Cert.Ffn

end
-- ==== Proof.Conv.lean ====
/- One channel of the feed-forward gate's backward pass over one sequence, as functions on the 2048 positions. -/
module

public import proofs.«01_k».proof.Proof.Gelu

@[expose] public section

noncomputable section

namespace Cert.Ffn

open Idealize.ShloMosaic

/-- The sequence `d` positions earlier, zero before its start. -/
def dn (x : Fin 2048 → EReal) (d : ℕ) (t : Fin 2048) : EReal :=
  if d ≤ t.val then x ⟨t.val - d, by omega⟩ else 0

/-- The sequence `d` positions later, zero after its end. -/
def up (x : Fin 2048 → EReal) (d : ℕ) (t : Fin 2048) : EReal :=
  if h : t.val + d < 2048 then x ⟨t.val + d, h⟩ else 0

/-- The causal convolution of three taps with its bias: the gate before the GELU. -/
def gate (w0 w1 w2 b : EReal) (x : Fin 2048 → EReal) (t : Fin 2048) : EReal :=
  ((b + w0 * dn x 2 t) + w1 * dn x 1 t) + w2 * x t

/-- The gradient of the up projection. -/
def du (w0 w1 w2 b : EReal) (x d : Fin 2048 → EReal) (t : Fin 2048) : EReal :=
  d t * gelK (gate w0 w1 w2 b x t)

/-- The gradient of the gate before the GELU. -/
def dgate (w0 w1 w2 b : EReal) (x u d : Fin 2048 → EReal) (t : Fin 2048) : EReal :=
  d t * u t * dgelK (gate w0 w1 w2 b x t)

/-- The gradient of the gate projection: the convolution's transpose. -/
def dx (w0 w1 w2 : EReal) (g : Fin 2048 → EReal) (t : Fin 2048) : EReal :=
  (w0 * up g 2 t + w1 * up g 1 t) + w2 * g t

/-- The gradient of the tap that reads `d` positions back, over one sequence. -/
def dw (g x : Fin 2048 → EReal) (d : ℕ) : EReal := ∑ t, g t * dn x d t

theorem dn_zero (x : Fin 2048 → EReal) (t : Fin 2048) : dn x 0 t = x t := by simp [dn]

theorem dn_of_lt (x : Fin 2048 → EReal) (d : ℕ) (t : Fin 2048) (h : t.val < d) : dn x d t = 0 := by
  rw [dn, if_neg (by omega)]

theorem dn_of_le (x : Fin 2048 → EReal) (d : ℕ) (t s : Fin 2048) (h : t.val = s.val + d) : dn x d t = x s := by
  rw [dn, if_pos (by omega)]
  congr 1
  ext
  show t.val - d = s.val
  omega

theorem up_of_le (x : Fin 2048 → EReal) (d : ℕ) (t : Fin 2048) (h : 2048 ≤ t.val + d) : up x d t = 0 := by
  rw [up, dif_neg (by omega)]

theorem up_of_lt (x : Fin 2048 → EReal) (d : ℕ) (t s : Fin 2048) (h : t.val + d = s.val) : up x d t = x s := by
  rw [up, dif_pos (by omega)]
  congr 1
  ext
  exact h

/-- The kernel masks a row below eight by comparing its number with the shift: the mask keeps the rows from the shift on. -/
theorem select_ge {α : Type} (t : ℕ) (ht : t < 8) (d : ℕ) (hd : d < 8) (a b : α) :
    Scalar.select (IntOp.cmpi .sge (BitVec.ofNat 32 t) (BitVec.ofNat 32 d)) a b = if d ≤ t then a else b := by
  interval_cases t <;> interval_cases d <;> rfl

/-- The mask at the sequence's end keeps the last eight rows' first ones. -/
theorem select_lt {α : Type} (t : ℕ) (ht : t < 8) (d : ℕ) (hd : d < 8) (a b : α) :
    Scalar.select (IntOp.cmpi .slt (BitVec.ofNat 32 t) (BitVec.ofNat 32 d)) a b = if t < d then a else b := by
  interval_cases t <;> interval_cases d <;> rfl

/-- A shift down as the kernel makes it: the rows rotated, the first eight masked. -/
theorem dn_eq (x : Fin 2048 → EReal) (d : ℕ) (hd : 0 < d) (hd' : d < 8) (r : Fin 2048) (i : ℕ → ℕ) (hi : ∀ n, i n = (n + 2048 - d) % 2048)
    (h1 : i r.val < 2048) (h2 : i (8 + (r.val - 8)) < 2048) :
    (if _h : r.val < 8 then Scalar.select (IntOp.cmpi .sge (BitVec.ofNat 32 r.val) (BitVec.ofNat 32 d)) (x ⟨i r.val, h1⟩) 0
      else x ⟨i (8 + (r.val - 8)), h2⟩) = dn x d r := by
  by_cases h : r.val < 8
  · rw [dif_pos h, select_ge _ h _ hd']
    by_cases h' : d ≤ r.val
    · rw [if_pos h']
      refine (dn_of_le x d r _ ?_).symm
      show r.val = i r.val + d
      rw [hi]; omega
    · rw [if_neg h', dn_of_lt _ _ _ (by omega)]
  · rw [dif_neg h]
    refine (dn_of_le x d r _ ?_).symm
    show r.val = i (8 + (r.val - 8)) + d
    rw [hi]; omega

/-- A shift up as the kernel makes it: the rows rotated by the complement, the last eight masked. -/
theorem up_eq (x : Fin 2048 → EReal) (d : ℕ) (hd : 0 < d) (hd' : d < 8) (r : Fin 2048) (i : ℕ → ℕ)
    (hi : ∀ n, i n = (n + 2048 - (2048 - d)) % 2048)
    (h1 : i r.val < 2048) (h2 : i (2040 + (r.val - 2040)) < 2048) :
    (if _h : r.val < 2040 then x ⟨i r.val, h1⟩
      else Scalar.select (IntOp.cmpi .slt (BitVec.ofNat 32 (r.val - 2040)) (BitVec.ofNat 32 (8 - d)))
        (x ⟨i (2040 + (r.val - 2040)), h2⟩) 0) = up x d r := by
  have hr := r.isLt
  by_cases h : r.val < 2040
  · rw [dif_pos h]
    refine (up_of_lt x d r _ ?_).symm
    show r.val + d = i r.val
    rw [hi]; omega
  · rw [dif_neg h, select_lt _ (by omega) _ (by omega)]
    by_cases h' : r.val - 2040 < 8 - d
    · rw [if_pos h']
      refine (up_of_lt x d r _ ?_).symm
      show r.val + d = i (2040 + (r.val - 2040))
      rw [hi]; omega
    · rw [if_neg h', up_of_le _ _ _ (by omega)]

/-- A tap's gradient as the kernel sums it: the first eight rows masked, then the others. -/
theorem dw_eq (g x : Fin 2048 → EReal) (d : ℕ) (hd : 0 < d) (hd' : d < 8) (i : ℕ → ℕ) (hi : ∀ n, i n = (n + 2048 - d) % 2048)
    (h0 : ∀ r : Fin 8, r.val < 2048) (h1 : ∀ r : Fin 8, i r.val < 2048) (h2 : ∀ r : Fin 2040, 8 + r.val < 2048) (h3 : ∀ r : Fin 2040, i (8 + r.val) < 2048) :
    (∑ r : Fin 8, Scalar.select (IntOp.cmpi .sge (BitVec.ofNat 32 r.val) (BitVec.ofNat 32 d)) (g ⟨r.val, h0 r⟩ * x ⟨i r.val, h1 r⟩) 0)
      + ∑ r : Fin 2040, g ⟨8 + r.val, h2 r⟩ * x ⟨i (8 + r.val), h3 r⟩ = dw g x d := by
  have e : dw g x d = ∑ t : Fin (8 + 2040), g t * dn x d t := rfl
  rw [e, Fin.sum_univ_add]
  congr 1
  · refine Finset.sum_congr rfl fun r _ => ?_
    rw [select_ge _ r.isLt _ hd']
    by_cases h : d ≤ r.val
    · rw [if_pos h]
      refine congrArg₂ (· * ·) rfl (dn_of_le x d _ _ ?_).symm
      show r.val = i r.val + d
      rw [hi]; omega
    · rw [if_neg h]
      refine Eq.symm ((congrArg (_ * ·) (dn_of_lt x d _ ?_)).trans (mul_zero _))
      show r.val < d
      omega
  · refine Finset.sum_congr rfl fun r _ => ?_
    refine congrArg₂ (· * ·) rfl (dn_of_le x d _ _ ?_).symm
    show 8 + r.val = i (8 + r.val) + d
    rw [hi]; have := r.isLt; omega

end Cert.Ffn

end
-- ==== Proof.ActFwd.lean ====
/- The feed-forward gate's forward pass: a convolution of three taps within each sequence, its GELU, times the up projection. -/
module

public import proofs.«01_k».proof.Proof.Gen.ActFwdKernel.Frame
public import proofs.«01_k».proof.Proof.Gen.ActFwdKernelIdeal.Value
public import proofs.«01_k».proof.Proof.Gen.ActFwdReferenceIdeal.Run
public import proofs.«01_k».proof.Proof.Gen.ActFwdReferenceIdeal.Read
public import proofs.«01_k».proof.Defs
public import Idealize.ShloMosaic.Lib.Pipeline.ValueKit
public import Idealize.ShloMosaic.Lib.Pointwise
public import Idealize.ShloMosaic.Lib.Claim
public import proofs.«01_k».proof.Proof.Conv

@[expose] public section

set_option maxRecDepth 16384

noncomputable section

namespace Cert.ActFwd

open Idealize.ShloMosaic Idealize.ShloMosaic.TcCoe Idealize.SL.Sem
open Cert.ActFwdKernelIdeal Cert.ActFwdKernelIdeal.Gen

open Cert.Ffn

/-- Sequence `b` of channel `C` of an array of four sequences. -/
def seqAt (X : S8192x3072.Idx → EReal) (b : Fin 4) (C : Fin 3072) : Fin 2048 → EReal :=
  fun s => X (ix2 ⟨b.val * 2048 + s.val, by omega⟩ C)

theorem ofBits_half : Ideal.ofBits .f32 1056964608#32 = (half : EReal) := by
  unfold half
  simp [Ideal.ofBits, Ideal.ieee, -EReal.coe_mul]
  norm_num

theorem ofBits_gC : Ideal.ofBits .f32 1061962282#32 = (gC : EReal) := by
  unfold gC
  simp [Ideal.ofBits, Ideal.ieee, -EReal.coe_mul]
  norm_num

theorem ofBits_gA : Ideal.ofBits .f32 0x3D372713#32 = (gA : EReal) := by
  unfold gA
  simp [Ideal.ofBits, Ideal.ieee, -EReal.coe_mul]
  norm_num

/-- The kernel's named literal is the product of the two coefficients. -/
theorem named_ca : (Named.named κ "ca" (0x3D122279#32 : BitVec FTy.f32.bits) : Ideal .f32) = ((gCA : ℝ) : EReal) := by
  refine (IdealRules.named_const.ideal_named_scalar _ _ _ _ rfl).trans ?_
  unfold gCA gC gA
  norm_num

section

variable (X U : S8192x3072.Idx → EReal) (W : S3x3072.Idx → EReal) (B : S1x3072.Idx → EReal)

/-- The convolved gate of one channel of one sequence. -/
def gateSeq (b : Fin 4) (C : Fin 3072) : Fin 2048 → EReal :=
  gate (W (ix2 0 C)) (W (ix2 1 C)) (W (ix2 2 C)) (B (ix2 0 C)) (seqAt X b C)

/-- The sequence of a row. -/
def seqOfRow (i : S8192x3072.Idx) : Fin 4 := ⟨(i 0).val / 2048, by have := (i 0).isLt; change _ < 8192 at this; omega⟩
/-- The position of a row in its sequence. -/
def posOfRow (i : S8192x3072.Idx) : Fin 2048 := ⟨(i 0).val % 2048, by omega⟩

/-- The gate's forward pass: the GELU of the convolved gate times the up projection. -/
def act : S8192x3072.Idx → EReal := fun i => gelK (gateSeq X W B (seqOfRow i) (i 1) (posOfRow i)) * U i

theorem act_at (b : Fin 4) (r : Fin 2048) (C : Fin 3072) : act X U W B (ix2 ⟨b.val * 2048 + r.val, by omega⟩ C) =
    gelK (gateSeq X W B b C r) * seqAt U b C r := by
  have hb : seqOfRow (ix2 ⟨b.val * 2048 + r.val, by omega⟩ C) = b := by
    ext
    show (b.val * 2048 + r.val) / 2048 = b.val
    omega
  have hr : posOfRow (ix2 ⟨b.val * 2048 + r.val, by omega⟩ C) = r := by
    ext
    show (b.val * 2048 + r.val) % 2048 = r.val
    omega
  show gelK (gateSeq X W B (seqOfRow (ix2 _ C)) C (posOfRow (ix2 _ C))) * _ = _
  rw [hb, hr]
  rfl

end

section

variable (v1 v47 : Vec Ideal S2048x256 .bf16) (v3 v4 v18 v31 : Vec Ideal S1x256 .f32)

/-- The block's gate before the GELU is the causal convolution. -/
theorem gate_at (r : Fin 2048) (l : Fin 256) :
    k0_pay2 (F := Ideal) v1 v3 v4 v18 v31 (ix2 r l) =
      gate (v4 (ix2 0 l)) (v18 (ix2 0 l)) (v31 (ix2 0 l)) (v3 (ix2 0 l)) (fun s => v1 (ix2 s l)) r := by
  pointwise [k0_pay2]
  refine congrArg₂ (· + ·) (congrArg₂ (· + ·) (congrArg₂ (· + ·) rfl (congrArg₂ (· * ·) rfl ?_)) (congrArg₂ (· * ·) rfl ?_)) rfl
  · exact dn_eq (fun s => v1 (ix2 s l)) 2 (by omega) (by omega) r (fun n => (n + 2048 - 2) % 2048) (fun _ => rfl)
      (Nat.mod_lt _ (by omega)) (Nat.mod_lt _ (by omega))
  · exact dn_eq (fun s => v1 (ix2 s l)) 1 (by omega) (by omega) r (fun n => (n + 2048 - 1) % 2048) (fun _ => rfl)
      (Nat.mod_lt _ (by omega)) (Nat.mod_lt _ (by omega))

/-- The tanh argument's factor. -/
theorem arg_at (r : Fin 2048) (l : Fin 256) :
    k0_pay3 (F := Ideal) v1 v3 v4 v18 v31 (ix2 r l) = (gC : EReal) + (gCA : EReal) *
      (k0_pay2 (F := Ideal) v1 v3 v4 v18 v31 (ix2 r l) * k0_pay2 (F := Ideal) v1 v3 v4 v18 v31 (ix2 r l)) := by
  pointwise [k0_pay3]
  rw [named_ca, ofBits_gC]

/-- The block the body stores. -/
theorem pay_at (r : Fin 2048) (l : Fin 256) :
    k0_pay1 (F := Ideal) (k0_pay2 v1 v3 v4 v18 v31) (k0_pay3 v1 v3 v4 v18 v31) v47 (ix2 r l) =
      gelK (gate (v4 (ix2 0 l)) (v18 (ix2 0 l)) (v31 (ix2 0 l)) (v3 (ix2 0 l)) (fun s => v1 (ix2 s l)) r) * v47 (ix2 r l) := by
  pointwise [k0_pay1]
  rw [arg_at, gate_at, ofBits_half]
  rfl

end

variable (m : (ℓ : Loc nD τ sig) → Buf (Elt Ideal) ℓ)

/-- The block each grid point of each window works on. -/
theorem idx : ∀ t : Fin cfg0.N, win0_0.index t = ![t.val / 12, t.val % 12] ∧ win0_1.index t = ![t.val / 12, t.val % 12] ∧
    win0_2.index t = ![0, t.val % 12] ∧ win0_3.index t = ![0, t.val % 12] ∧ win0_4.index t = ![t.val / 12, t.val % 12] :=
  (by decide +kernel : ∀ t : Fin grid0.N, _)

/-- The sequence of a grid point. -/
def ptSeq (t : Fin cfg0.N) : Fin 4 := ⟨t.val / 12, by have := lt_of_lt_of_eq t.isLt (show cfg0.N = 48 from N_0); omega⟩
/-- The channel of lane `l` at a grid point. -/
def ptCh (t : Fin cfg0.N) (l : Fin 256) : Fin 3072 := ⟨t.val % 12 * 256 + l.val, by omega⟩

section

variable (c : Dev nD) (t : Fin cfg0.N) (l : Fin 256)

/-- The arguments of the launch, as arrays of extended reals. -/
abbrev aX : S8192x3072.Idx → EReal := m ((c : Thread nD τ).loc main_arg0)
abbrev aU : S8192x3072.Idx → EReal := m ((c : Thread nD τ).loc main_arg1)
abbrev aW : S3x3072.Idx → EReal := m ((c : Thread nD τ).loc main_arg2)
abbrev aB : S1x3072.Idx → EReal := m ((c : Thread nD τ).loc main_arg3)

theorem seq0 : (fun s : Fin 2048 => iblk (F := Ideal) m c 0 t (ix2 s l)) = seqAt (aX m c) (ptSeq t) (ptCh t l) := by
  funext s
  unfold seqAt ptSeq ptCh
  blk_ext [iblk, V, idx t]

theorem seq1 (s : Fin 2048) : iblk (F := Ideal) m c 1 t (ix2 s l) = seqAt (aU m c) (ptSeq t) (ptCh t l) s := by
  unfold seqAt ptSeq ptCh
  blk_ext [iblk, V, idx t]

theorem row2 (k : Fin 3) : iblk (F := Ideal) m c 2 t (ix2 k l) = aW m c (ix2 k (ptCh t l)) := by
  unfold ptCh
  blk_ext [iblk, V, idx t]

theorem row3 : iblk (F := Ideal) m c 3 t (ix2 0 l) = aB m c (ix2 0 (ptCh t l)) := by
  unfold ptCh
  blk_ext [iblk, V, idx t]

/-- The taps' rows as the body loads them, one at a time. -/
abbrev w0 : Vec Ideal S1x256 .f32 := View.ld (iblk (F := Ideal) m c 2 t) (Rect.unit ![0, 0] ![1, 256] inb_S3x256_S1x256_0_0)
abbrev w1 : Vec Ideal S1x256 .f32 := View.ld (iblk (F := Ideal) m c 2 t) (Rect.unit ![1, 0] ![1, 256] inb_S3x256_S1x256_1_0)
abbrev w2 : Vec Ideal S1x256 .f32 := View.ld (iblk (F := Ideal) m c 2 t) (Rect.unit ![2, 0] ![1, 256] inb_S3x256_S1x256_2_0)

theorem w0_at : w0 m c t (ix2 0 l) = aW m c (ix2 0 (ptCh t l)) := by
  refine Eq.trans ?_ (row2 m c t l 0)
  exact View.ld_unit_apply_of _ _ _ _ _ (ix2 0 l) (fun a => by fin_cases a <;> simp)
theorem w1_at : w1 m c t (ix2 0 l) = aW m c (ix2 1 (ptCh t l)) := by
  refine Eq.trans ?_ (row2 m c t l 1)
  exact View.ld_unit_apply_of _ _ _ _ _ (ix2 1 l) (fun a => by fin_cases a <;> simp)
theorem w2_at : w2 m c t (ix2 0 l) = aW m c (ix2 2 (ptCh t l)) := by
  refine Eq.trans ?_ (row2 m c t l 2)
  exact View.ld_unit_apply_of _ _ _ _ _ (ix2 2 l) (fun a => by fin_cases a <;> simp)

theorem pt (r : Fin 2048) : k0_pay1 (F := Ideal) (k0_pay2 (iblk m c 0 t) (iblk m c 3 t) (w0 m c t) (w1 m c t) (w2 m c t))
      (k0_pay3 (iblk m c 0 t) (iblk m c 3 t) (w0 m c t) (w1 m c t) (w2 m c t)) (iblk m c 1 t) (ix2 r l) =
    act (aX m c) (aU m c) (aW m c) (aB m c) (ix2 ⟨(ptSeq t).val * 2048 + r.val, by omega⟩ (ptCh t l)) := by
  rw [act_at]
  refine (pay_at _ _ _ _ _ _ r l).trans ?_
  rw [seq0, seq1, row3, w0_at, w1_at, w2_at]
  rfl

/-- The array the kernel leaves. -/
theorem arr4 : (dats (F := Ideal) m 0 c).arrAt 4 cfg0.N = act (aX m c) (aU m c) (aW m c) (aB m c) := by
  refine (dats (F := Ideal) m 0 c).arrAt_eq_of_covers 4 _ (by decide +kernel) fun t hf y => ?_
  blk_simp
  rw [after0_4]
  obtain ⟨r, l, rfl⟩ : ∃ (r : Fin 2048) (l : Fin 256), y = ix2 r l := ⟨y 0, y 1, eq_ix2 y⟩
  have e : ((View.whole main_v0).slice (win0_4.rect t)).emb (ix2 r l) = ix2 ⟨(ptSeq t).val * 2048 + r.val, by omega⟩ (ptCh t l) := by
    unfold ptSeq ptCh
    blk_ext [idx t]
  rw [e]
  unfold out0_4
  frame_out
  exact pt m c t l r

end

section

variable (x0 x1 : S8192x3072.Idx → EReal) (x2 : S3x3072.Idx → EReal) (x3 : S1x3072.Idx → EReal)
variable (b : Fin 4) (r : Fin 2048) (C : Fin 3072)

/-- The padded gate projection: two zeros before each sequence. -/
theorem v6_at (s : Fin 2050) (d : ℕ) (hd : s.val + d = r.val + 2) :
    Cert.ActFwdReferenceIdeal.Read.val_main_v6 (F := Ideal) x0 (ix3 b s C) = dn (seqAt x0 b C) d r := by
  have e : Cert.ActFwdReferenceIdeal.Read.val_main_v6 (F := Ideal) x0 (ix3 b s C) =
      if h : s.val < 2 then 0 else x0 (ix2 ⟨b.val * 2048 + (s.val - 2), by omega⟩ C) := by
    pointwise [Cert.ActFwdReferenceIdeal.Read.val_main_v6, Cert.ActFwdReferenceIdeal.Read.val_main_v5, Cert.ActFwdReferenceIdeal.Read.val_main_cst, Cert.ActFwdReferenceIdeal.Read.val_main_v1, Cert.ActFwdReferenceIdeal.Read.val_main_v0]
  rw [e, dn]
  by_cases h : s.val < 2
  · rw [dif_pos h, if_neg (by omega)]
  · rw [dif_neg h, if_pos (by omega), seqAt]
    have e : s.val - 2 = r.val - d := by omega
    simp only [e]

theorem v9_at : Cert.ActFwdReferenceIdeal.Read.val_main_v9 (F := Ideal) x0 (ix3 b r C) = dn (seqAt x0 b C) 2 r := by
  refine Eq.trans ?_ (v6_at x0 b r C ⟨r.val, by omega⟩ 2 rfl)
  pointwise [Cert.ActFwdReferenceIdeal.Read.val_main_v9]

theorem v17_at : Cert.ActFwdReferenceIdeal.Read.val_main_v17 (F := Ideal) x0 (ix3 b r C) = dn (seqAt x0 b C) 1 r := by
  refine Eq.trans ?_ (v6_at x0 b r C ⟨1 + r.val, by omega⟩ 1 (by show 1 + r.val + 1 = _; omega))
  pointwise [Cert.ActFwdReferenceIdeal.Read.val_main_v17]

theorem v24_at : Cert.ActFwdReferenceIdeal.Read.val_main_v24 (F := Ideal) x0 (ix3 b r C) = dn (seqAt x0 b C) 0 r := by
  refine Eq.trans ?_ (v6_at x0 b r C ⟨2 + r.val, by omega⟩ 0 (by show 2 + r.val + 0 = _; omega))
  pointwise [Cert.ActFwdReferenceIdeal.Read.val_main_v24]

/-- The reference's gate is the kernel's: the bias is added last instead of first. -/
theorem v31_at : Cert.ActFwdReferenceIdeal.Read.val_main_v31 (F := Ideal) x0 x2 x3 (ix3 b r C) = gateSeq x0 x2 x3 b C r := by
  have e : Cert.ActFwdReferenceIdeal.Read.val_main_v31 (F := Ideal) x0 x2 x3 (ix3 b r C) = x2 (ix2 0 C) * Cert.ActFwdReferenceIdeal.Read.val_main_v9 (F := Ideal) x0 (ix3 b r C) +
      x2 (ix2 1 C) * Cert.ActFwdReferenceIdeal.Read.val_main_v17 (F := Ideal) x0 (ix3 b r C) +
      x2 (ix2 2 C) * Cert.ActFwdReferenceIdeal.Read.val_main_v24 (F := Ideal) x0 (ix3 b r C) + x3 (ix2 0 C) := by
    pointwise [Cert.ActFwdReferenceIdeal.Read.val_main_v31, Cert.ActFwdReferenceIdeal.Read.val_main_v30, Cert.ActFwdReferenceIdeal.Read.val_main_v29, Cert.ActFwdReferenceIdeal.Read.val_main_v28, Cert.ActFwdReferenceIdeal.Read.val_main_v27, Cert.ActFwdReferenceIdeal.Read.val_main_v26, Cert.ActFwdReferenceIdeal.Read.val_main_v25, Cert.ActFwdReferenceIdeal.Read.val_main_v23, Cert.ActFwdReferenceIdeal.Read.val_main_v22, Cert.ActFwdReferenceIdeal.Read.val_main_v21, Cert.ActFwdReferenceIdeal.Read.val_main_v20, Cert.ActFwdReferenceIdeal.Read.val_main_v19, Cert.ActFwdReferenceIdeal.Read.val_main_v18, Cert.ActFwdReferenceIdeal.Read.val_main_v16, Cert.ActFwdReferenceIdeal.Read.val_main_v15, Cert.ActFwdReferenceIdeal.Read.val_main_v14, Cert.ActFwdReferenceIdeal.Read.val_main_v13, Cert.ActFwdReferenceIdeal.Read.val_main_cst_0, Cert.ActFwdReferenceIdeal.Read.val_main_v12, Cert.ActFwdReferenceIdeal.Read.val_main_v11, Cert.ActFwdReferenceIdeal.Read.val_main_v10, Cert.ActFwdReferenceIdeal.Read.val_main_v8, Cert.ActFwdReferenceIdeal.Read.val_main_v7, Cert.ActFwdReferenceIdeal.Read.val_main_v4]
  rw [e, v9_at, v17_at, v24_at, dn_zero]
  unfold gateSeq gate
  rw [add_comm _ (x3 (ix2 0 C)), ← add_assoc, ← add_assoc]

/-- The reference's tanh. -/
theorem v39_at : Cert.ActFwdReferenceIdeal.Read.val_main_v39 (F := Ideal) x0 x2 x3 (ix3 b r C) = thR (gateSeq x0 x2 x3 b C r) := by
  rw [← v31_at]
  unfold thR
  rw [← ofBits_gC, ← ofBits_gA]
  pointwise [Cert.ActFwdReferenceIdeal.Read.val_main_v39, Cert.ActFwdReferenceIdeal.Read.val_main_v38, Cert.ActFwdReferenceIdeal.Read.val_main_v37, Cert.ActFwdReferenceIdeal.Read.val_main_cst_2, Cert.ActFwdReferenceIdeal.Read.val_main_v36, Cert.ActFwdReferenceIdeal.Read.val_main_v35, Cert.ActFwdReferenceIdeal.Read.val_main_v34, Cert.ActFwdReferenceIdeal.Read.val_main_cst_1, Cert.ActFwdReferenceIdeal.Read.val_main_v33, Cert.ActFwdReferenceIdeal.Read.val_main_v32]

/-- Half of one plus the reference's tanh. -/
theorem v43_at : Cert.ActFwdReferenceIdeal.Read.val_main_v43 (F := Ideal) x0 x2 x3 (ix3 b r C) = (half : EReal) * (1 + thR (gateSeq x0 x2 x3 b C r)) := by
  rw [← v39_at, ← ofBits_half]
  pointwise [Cert.ActFwdReferenceIdeal.Read.val_main_v43, Cert.ActFwdReferenceIdeal.Read.val_main_v42, Cert.ActFwdReferenceIdeal.Read.val_main_cst_4, Cert.ActFwdReferenceIdeal.Read.val_main_v41, Cert.ActFwdReferenceIdeal.Read.val_main_v40, Cert.ActFwdReferenceIdeal.Read.val_main_cst_3]

theorem v44_at : Cert.ActFwdReferenceIdeal.Read.val_main_v44 (F := Ideal) x0 x2 x3 (ix3 b r C) = gelR (gateSeq x0 x2 x3 b C r) := by
  unfold gelR
  rw [← v43_at]
  conv_rhs => rw [← v31_at]
  pointwise [Cert.ActFwdReferenceIdeal.Read.val_main_v44]

theorem v3_at : Cert.ActFwdReferenceIdeal.Read.val_main_v3 (F := Ideal) x1 (ix3 b r C) = seqAt x1 b C r := by
  unfold seqAt
  pointwise [Cert.ActFwdReferenceIdeal.Read.val_main_v3, Cert.ActFwdReferenceIdeal.Read.val_main_v2]

theorem v45_at : Cert.ActFwdReferenceIdeal.Read.val_main_v45 (F := Ideal) x0 x1 x2 x3 (ix3 b r C) = gelK (gateSeq x0 x2 x3 b C r) * seqAt x1 b C r := by
  rw [gelK_eq_gelR, ← v44_at, ← v3_at]
  pointwise [Cert.ActFwdReferenceIdeal.Read.val_main_v45]

/-- The reference's result is the same. -/
theorem ref : Cert.ActFwdReferenceIdeal.Read.val_main_v47 (F := Ideal) x0 x1 x2 x3 = act x0 x1 x2 x3 := by
  funext i
  obtain ⟨b, r, C, rfl⟩ : ∃ (b : Fin 4) (r : Fin 2048) (C : Fin 3072), i = ix2 ⟨b.val * 2048 + r.val, by omega⟩ C :=
    ⟨seqOfRow i, posOfRow i, i 1, by refine (eq_ix2 i).trans ?_; congr 1; ext; simp only [seqOfRow, posOfRow]; omega⟩
  rw [act_at, ← v45_at]
  pointwise [Cert.ActFwdReferenceIdeal.Read.val_main_v47, Cert.ActFwdReferenceIdeal.Read.val_main_v46]

end

/-- The kernel runs, leaves its arguments as they were and its counters at zero. -/
theorem frame_K : Cert.quiescent_ActFwdKernel (hActFwdKernel := Cert.ActFwdKernel.Gen.facts) := fun m ρ _ => Cert.ActFwdKernel.Gen.frame m ρ

/-- So does its idealized form. -/
theorem frame_KI : Cert.quiescent_ActFwdKernelIdeal (hActFwdKernelIdeal := Cert.ActFwdKernelIdeal.Gen.facts) := fun m ρ _ => Cert.ActFwdKernelIdeal.Gen.frame m ρ

/-- So does the reference. -/
theorem frame_RI : Cert.quiescent_ActFwdReferenceIdeal (hActFwdReferenceIdeal := Cert.ActFwdReferenceIdeal.Gen.facts) := fun m ρ _ =>
  (θ_run _ _ _).mono (fun r h => ⟨fun c => ((h c).2), sem_eq_zero_of_no_sems (by decide) r.2⟩) (Cert.ActFwdReferenceIdeal.Value.run m ρ)

/-- The kernel's folded literal is the word of the product it stands for. -/
theorem preserves : Cert.preserves_ActFwdKernel_ActFwdKernelIdeal :=
  IdealRules.named_const.statement Cert.ActFwdKernelIdeal.κ "ca" .f32 0x3D122279#32 ((80338380498831 / 2251799813685248 : ℝ) : EReal) rfl

/-- The kernel and the reference leave the same arrays. -/
theorem algebraic : Cert.algebraic_ActFwdKernelIdeal_ActFwdReferenceIdeal (hActFwdKernelIdeal := Cert.ActFwdKernelIdeal.Gen.facts)
    (hActFwdReferenceIdeal := Cert.ActFwdReferenceIdeal.Gen.facts) := by
  intro m g m' g' hpre hag
  refine ⟨fun c => act (aX m c) (aU m c) (aW m c) (aB m c), ?_, ?_⟩
  · refine (θ_run _ _ _).mono (fun r h c => ?_) (Cert.ActFwdKernelIdeal.Value.run_blocks m g)
    obtain ⟨h0, hk⟩ := h c
    exact ⟨h0.trans (arr4 m c), hk⟩
  · refine (θ_run _ _ _).mono (fun r h c => ?_) (Cert.ActFwdReferenceIdeal.Value.run m' g')
    obtain ⟨e0, e1, e2, e3⟩ := hag c
    obtain ⟨h0, hk⟩ := h c
    refine ⟨h0.trans ?_, hk⟩
    · refine (Cert.ActFwdReferenceIdeal.Read.val_main_v47_eq (F := Ideal) _ _).trans ?_
      simp only [e0, e1, e2, e3]
      exact ref _ _ _ _

end Cert.ActFwd

end
-- ==== Proof.Adam.lean ====
/- The AdamW step of one place of a weight, and the readings of a device's number. -/
module

public import Idealize.ShloMosaic.Lib.Pointwise
public import Idealize.ShloMosaic.Lib.Claim

@[expose] public section

noncomputable section

namespace Cert.Adam

open Idealize.ShloMosaic

/-- The new first moment, from the gradient and the old one. -/
def mom1 (g x : EReal) : EReal :=
  Ideal.ofBits .f32 0x3F666666#32 * x + Ideal.ofBits .f32 0x3DCCCCCD#32 * g

/-- The new second moment. -/
def mom2 (g x : EReal) : EReal :=
  Ideal.ofBits .f32 0x3F7FBE77#32 * x + Ideal.ofBits .f32 0x3A83126F#32 * (g * g)

/-- The step, from the gradient, the weight and the two old moments. -/
def step (g w x v : EReal) : EReal :=
  Ideal.ofBits .f32 0xBA83126F#32 *
    (Ideal.div (Ideal.div (mom1 g x) (Ideal.ofBits .f32 0x3F26BD02#32))
        (Ideal.sqrt (Ideal.div (mom2 g v) (Ideal.ofBits .f32 0x3C231ACC#32)) + Ideal.ofBits .f32 0x322BCC77#32)
      + Ideal.ofBits .f32 0x3C23D70A#32 * w)

/-- Equal parts take equal steps. -/
theorem step_congr {g g' w w' x x' v v' : EReal} (hg : g = g') (hw : w = w') (hx : x = x') (hv : v = v') :
    step g w x v = step g' w' x' v' := by rw [hg, hw, hx, hv]

/-- Two bits are both one when their conjunction is. -/
theorem andi_one (a b : BitVec 1) : a &&& b = 1#1 ↔ a = 1#1 ∧ b = 1#1 := by revert a b; decide

/-- A word at least 0 and below 8, read with its sign, is below 8. -/
theorem lt_of_cmp (a : BitVec 32) (h0 : (0#32).sle a = true) (h8 : a.slt 8#32 = true) : a.toNat < 8 := by
  have h0' := BitVec.sle_iff_toInt_le.mp h0
  have h8' := BitVec.slt_iff_toInt_lt.mp h8
  have e := BitVec.toInt_eq_toNat_cond a
  have l := a.isLt
  have z : (0#32).toInt = 0 := by decide
  have k : (8#32).toInt = 8 := by decide
  rw [z] at h0'
  rw [k] at h8'
  split at e <;> omega

/-- A truth value is the bit one when it is true. -/
theorem ofBool_one (b : Bool) : BitVec.ofBool b = 1#1 ↔ b = true := by cases b <;> decide

/-- A choice by whether a number is the device's. -/
theorem select_eq (a : BitVec 32) (k n : Fin 8) (h : a.toNat = n.val) (x y : EReal) :
    Scalar.select (IntOp.cmpi .eq (BitVec.ofNat 32 k.val) a) x y = if k = n then x else y := by
  obtain rfl : a = BitVec.ofNat 32 n.val := BitVec.eq_of_toNat_eq (by rw [h, BitVec.toNat_ofNat]; omega)
  have e : ∀ k n : Fin 8, IntOp.cmpi .eq (BitVec.ofNat 32 k.val) (BitVec.ofNat 32 n.val) = if k = n then 1#1 else 0#1 := by decide
  rw [e]
  by_cases hk : k = n
  · rw [if_pos hk, if_pos hk]; rfl
  · rw [if_neg hk, if_neg hk]; rfl

/-- An array of one place has that place alone. -/
theorem one_idx (x : (⟨1, ![1]⟩ : Shape).Idx) : x = ix1 0 := (eq_ix1 x).trans (congrArg ix1 (Subsingleton.elim _ _))

/-- A word is its own number's word. -/
theorem ofNat_self (a : BitVec 32) : a = BitVec.ofNat 32 a.toNat := by simp

/-- The bits of zero. -/
theorem zero_bits : Ideal.ofBits .f32 0x00000000#32 = 0 := Ideal.ofBits_zero_f32

end Cert.Adam

end
-- ==== Proof.AdamBatt.lean ====
/- The AdamW update of a sharded weight, w_branch_att: the eight devices' gradients added up, and the weight's
   moments and step from the sum. -/
module

public import proofs.«01_k».proof.Proof.Gen.AdamBattKernel.Frame
public import proofs.«01_k».proof.Proof.Gen.AdamBattKernelIdeal.Frame
public import proofs.«01_k».proof.Proof.Gen.AdamBattReferenceIdeal.Run
public import proofs.«01_k».proof.Proof.Gen.AdamBattReferenceIdeal.Read
public import proofs.«01_k».proof.Proof.Gen.Pre_on_mesh_w_branch_att
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamBatt

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_w_branch_att.fn (F := F) a0 a1 a2 a3 a4 a5 = fun _ => 1#1) : (a2 (ix1 0)).toNat < 8 := by
  have e := congrFun h (ix1 0)
  simp only [Cert.Pre_on_mesh_w_branch_att.fn, constantI, broadcastInDim, cmpi, andi, IntOp.andi, andi_one] at e
  simp only [ofBool_one, IntOp.cmpi] at e
  exact lt_of_cmp _ e.1 e.2

namespace K

open Cert.AdamBattKernel Cert.AdamBattKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamBattKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamBattKernelIdeal Cert.AdamBattKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamBattKernelIdeal m) : Fin 8 :=
  ⟨(m (((0 : Dev nD) : Thread nD τ).loc main_arg2) (ix1 0) : BitVec 32).toNat, lt_of_fn (h 0)⟩

/-- The table holds it. -/
theorem tbl_num (h : Cert.Pre_AdamBattKernelIdeal m) : tbl m = pf (num m h) := by
  funext j x
  match j with
  | ⟨0, _⟩ =>
    have hx := one_idx x
    subst hx
    exact ofNat_self _

theorem ok (h : Cert.Pre_AdamBattKernelIdeal m) : Ok m := by
  unfold Ok; rw [tbl_num m h]; exact ok_pf _

end KI

open Cert.AdamBattKernelIdeal Cert.AdamBattKernelIdeal.Gen KI

/-- The gradient: the device's own part and the seven received, added up. -/
def gA (n : Fin 8) (o : S8x512x128.Idx → EReal) (q : S7x512x128.Idx → EReal) : S512x128.Idx → EReal := fun i =>
  o (ix3 n (i 0) (i 1)) + ∑ k : Fin 7, q (ix3 k (i 0) (i 1))

/-- The new moments and the step, place by place. -/
def mA (n : Fin 8) (o : S8x512x128.Idx → EReal) (q : S7x512x128.Idx → EReal) (mm : S512x128.Idx → EReal) : S512x128.Idx → EReal := fun i =>
  mom1 (gA n o q i) (mm i)
def vA (n : Fin 8) (o : S8x512x128.Idx → EReal) (q : S7x512x128.Idx → EReal) (v : S512x128.Idx → EReal) : S512x128.Idx → EReal := fun i =>
  mom2 (gA n o q i) (v i)
def dA (n : Fin 8) (o : S8x512x128.Idx → EReal) (q : S7x512x128.Idx → EReal) (w mm v : S512x128.Idx → EReal) : S512x128.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x512x128.Idx → EReal := m ((c : Thread nD τ).loc main_arg0)
abbrev aQ : S7x512x128.Idx → EReal := m ((c : Thread nD τ).loc main_arg1)
abbrev aW : S512x128.Idx → EReal := m ((c : Thread nD τ).loc main_arg3)
abbrev aM : S512x128.Idx → EReal := m ((c : Thread nD τ).loc main_arg4)
abbrev aV : S512x128.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 512) : Fin 512 := ⟨t.val * 512 + r.val, by have := lt_of_lt_of_eq t.isLt N_0; omega⟩

/-- A block's place in its array: the block's index times its size, plus the place in the block. -/
theorem at2 {f : Fin 2 → ℕ} (e : f = ![t.val, 0]) (r : Fin 512) (l : Fin 128) (x : Fin 2) :
    f x * S512x128.size x + (ix2 r l x).val = (ix2 (pt t r) l x).val := by
  subst e
  unfold pt
  fin_cases x
  · rfl
  · show 0 * _ + l.val = l.val; omega

/-- The block holding a row of an array. -/
def tOf (i : S512x128.Idx) : Fin grid0.N :=
  ⟨(i 0).val / 512, by have hi : (i 0).val < 512 := (i 0).isLt; rw [N_0]; omega⟩

theorem in2 (i : S512x128.Idx) {f : Fin 2 → ℕ} (e : f = ![(tOf i).val, 0]) (x : Fin 2) :
    f x * S512x128.size x ≤ (i x).val ∧ (i x).val < f x * S512x128.size x + S512x128.size x := by
  subst e
  have hi : (i 1).val < 128 := (i 1).isLt
  unfold tOf
  fin_cases x
  · show (i 0).val / 512 * 512 ≤ (i 0).val ∧ (i 0).val < (i 0).val / 512 * 512 + 512
    omega
  · show 0 * 128 ≤ (i 1).val ∧ (i 1).val < 0 * 128 + 128
    omega

/-- The blocks a point reads, in the arguments. -/
theorem blk0 {n : Fin 8} (hn : tbl m = pf n) (a : Fin 512) (b : Fin 128) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 512) (b : Fin 128) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 512) (b : Fin 128) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 512) (b : Fin 128) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 512) (b : Fin 128) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x512x128 .bf16) (a : Fin 512) (b : Fin 128) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S512x128 .f32) (x : Vec Ideal S512x128 .f32) (a : Fin 512) (b : Fin 128) :
    k0_pay1 (F := Ideal) g x (ix2 a b) = mom1 (g (ix2 a b)) (x (ix2 a b)) := by
  unfold mom1
  pointwise [k0_pay1]

theorem p2 (g : FVec Ideal S512x128 .f32) (x : Vec Ideal S512x128 .f32) (a : Fin 512) (b : Fin 128) :
    k0_pay2 (F := Ideal) g x (ix2 a b) = mom2 (g (ix2 a b)) (x (ix2 a b)) := by
  unfold mom2
  pointwise [k0_pay2]

theorem p3 (g : FVec Ideal S512x128 .f32) (w x v : Vec Ideal S512x128 .f32) (a : Fin 512) (b : Fin 128) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x512x128 .bf16) (x1 : Vec Ideal S7x512x128 .bf16) : FVec Ideal S512x128 .f32 :=
  k0_pay4 (F := Ideal) x0 (View.ld x1 (Rect.unit ![0, 0, 0] S1x512x128.size inb_S7x512x128_S1x512x128_0_0_0)) (View.ld x1 (Rect.unit ![1, 0, 0] S1x512x128.size inb_S7x512x128_S1x512x128_1_0_0)) (View.ld x1 (Rect.unit ![2, 0, 0] S1x512x128.size inb_S7x512x128_S1x512x128_2_0_0)) (View.ld x1 (Rect.unit ![3, 0, 0] S1x512x128.size inb_S7x512x128_S1x512x128_3_0_0)) (View.ld x1 (Rect.unit ![4, 0, 0] S1x512x128.size inb_S7x512x128_S1x512x128_4_0_0)) (View.ld x1 (Rect.unit ![5, 0, 0] S1x512x128.size inb_S7x512x128_S1x512x128_5_0_0)) (View.ld x1 (Rect.unit ![6, 0, 0] S1x512x128.size inb_S7x512x128_S1x512x128_6_0_0))

/-- The gradient block of a point. -/
def gB : FVec Ideal S512x128 .f32 := gP (iblk m hO c 0 t) (iblk m hO c 1 t)

section blocks

variable (i : grid0.Coords) {a2 : Memref sig .tc .vmem S1x512x128 .bf16} {a3 : Memref sig .tc .vmem S7x512x128 .bf16} {a4 a5 a6 a7 a8 a9 a10 : Memref sig .tc .vmem S512x128 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x512x128 .bf16) (x1 : Vec Ideal S7x512x128 .bf16) (x2 x3 x4 : Vec Ideal S512x128 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x512x128 .bf16) (a : Fin 512) (b : Fin 128) :
    View.ld x1 (Rect.unit ![j, 0, 0] S1x512x128.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x512x128 .bf16) (x1 : Vec Ideal S7x512x128 .bf16) (a : Fin 512) (b : Fin 128) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 512) (b : Fin 128) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S512x128.Idx) : ∃ (r : Fin 512) (l : Fin 128), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S512x128.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S512x128.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S512x128.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S512x128.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S512x128.Idx) : ∃ (a : Fin 512) (b : Fin 128), i = ix2 a b := ⟨i 0, i 1, eq_ix2 i⟩

open Cert.AdamBattReferenceIdeal.Read

variable (o : S8x512x128.Idx → EReal) (q : S7x512x128.Idx → EReal) (d : IVec S1 32) (w mm v : S512x128.Idx → EReal)

/-- The reference's own part, one of the eight. -/
theorem own_at {n : Fin 8} (hd : (d (ix1 0)).toNat = n.val) (k : Fin 8) (a : Fin 512) (b : Fin 128) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamBattKernel :=
  fun m ρ h => Cert.AdamBattKernel.Gen.frame m ρ (K.ok m h)

/-- So does its idealized form. -/
theorem frame_KI : Cert.quiescent_AdamBattKernelIdeal :=
  fun m ρ h => Cert.AdamBattKernelIdeal.Gen.frame m ρ (KI.ok m h)

/-- So does the reference, whatever the number. -/
theorem frame_RI : Cert.quiescent_AdamBattReferenceIdeal := fun m ρ _ =>
  (θ_run _ _ _).mono (fun r h => ⟨fun c => ((h c).2.2.2.2), sem_eq_zero_of_no_sems (by decide) r.2⟩) (Cert.AdamBattReferenceIdeal.Value.run m ρ)

theorem frame_RI_pre : Cert.quiescent_AdamBattReferenceIdeal_pre_on_mesh_w_branch_att :=
  fun m ρ _ => frame_RI m ρ trivial

/-- The idealization rewrites nothing. -/
theorem preserves : Cert.preserves_AdamBattKernel_AdamBattKernelIdeal := trivial

/-- The kernel and the reference leave the same arrays. -/
theorem algebraic : Cert.algebraic_AdamBattKernelIdeal_AdamBattReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamBattReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamBattReferenceIdeal.Read.val_main_v9_eq, e0, e1, e2]
      exact ref9 _ _ _ rfl
    · rw [Cert.AdamBattReferenceIdeal.Read.val_main_v33_eq, e0, e1, e2, e3, e4, e5]
      exact ref33 _ _ _ _ _ _ rfl
    · rw [Cert.AdamBattReferenceIdeal.Read.val_main_v14_eq, e0, e1, e2, e4]
      exact ref14 _ _ _ _ rfl
    · rw [Cert.AdamBattReferenceIdeal.Read.val_main_v20_eq, e0, e1, e2, e5]
      exact ref20 _ _ _ _ rfl

end Cert.AdamBatt

end
-- ==== Proof.AdamBrnn.lean ====
/- The AdamW update of a sharded weight, w_branch_rnn: the eight devices' gradients added up, and the weight's
   moments and step from the sum. -/
module

public import proofs.«01_k».proof.Proof.Gen.AdamBrnnKernel.Frame
public import proofs.«01_k».proof.Proof.Gen.AdamBrnnKernelIdeal.Frame
public import proofs.«01_k».proof.Proof.Gen.AdamBrnnReferenceIdeal.Run
public import proofs.«01_k».proof.Proof.Gen.AdamBrnnReferenceIdeal.Read
public import proofs.«01_k».proof.Proof.Gen.Pre_on_mesh_w_branch_rnn
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamBrnn

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_w_branch_rnn.fn (F := F) a0 a1 a2 a3 a4 a5 = fun _ => 1#1) : (a2 (ix1 0)).toNat < 8 := by
  have e := congrFun h (ix1 0)
  simp only [Cert.Pre_on_mesh_w_branch_rnn.fn, constantI, broadcastInDim, cmpi, andi, IntOp.andi, andi_one] at e
  simp only [ofBool_one, IntOp.cmpi] at e
  exact lt_of_cmp _ e.1 e.2

namespace K

open Cert.AdamBrnnKernel Cert.AdamBrnnKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamBrnnKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamBrnnKernelIdeal Cert.AdamBrnnKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamBrnnKernelIdeal m) : Fin 8 :=
  ⟨(m (((0 : Dev nD) : Thread nD τ).loc main_arg2) (ix1 0) : BitVec 32).toNat, lt_of_fn (h 0)⟩

/-- The table holds it. -/
theorem tbl_num (h : Cert.Pre_AdamBrnnKernelIdeal m) : tbl m = pf (num m h) := by
  funext j x
  match j with
  | ⟨0, _⟩ =>
    have hx := one_idx x
    subst hx
    exact ofNat_self _

theorem ok (h : Cert.Pre_AdamBrnnKernelIdeal m) : Ok m := by
  unfold Ok; rw [tbl_num m h]; exact ok_pf _

end KI

open Cert.AdamBrnnKernelIdeal Cert.AdamBrnnKernelIdeal.Gen KI

/-- The gradient: the device's own part and the seven received, added up. -/
def gA (n : Fin 8) (o : S8x160x1024.Idx → EReal) (q : S7x160x1024.Idx → EReal) : S160x1024.Idx → EReal := fun i =>
  o (ix3 n (i 0) (i 1)) + ∑ k : Fin 7, q (ix3 k (i 0) (i 1))

/-- The new moments and the step, place by place. -/
def mA (n : Fin 8) (o : S8x160x1024.Idx → EReal) (q : S7x160x1024.Idx → EReal) (mm : S160x1024.Idx → EReal) : S160x1024.Idx → EReal := fun i =>
  mom1 (gA n o q i) (mm i)
def vA (n : Fin 8) (o : S8x160x1024.Idx → EReal) (q : S7x160x1024.Idx → EReal) (v : S160x1024.Idx → EReal) : S160x1024.Idx → EReal := fun i =>
  mom2 (gA n o q i) (v i)
def dA (n : Fin 8) (o : S8x160x1024.Idx → EReal) (q : S7x160x1024.Idx → EReal) (w mm v : S160x1024.Idx → EReal) : S160x1024.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x160x1024.Idx → EReal := m ((c : Thread nD τ).loc main_arg0)
abbrev aQ : S7x160x1024.Idx → EReal := m ((c : Thread nD τ).loc main_arg1)
abbrev aW : S160x1024.Idx → EReal := m ((c : Thread nD τ).loc main_arg3)
abbrev aM : S160x1024.Idx → EReal := m ((c : Thread nD τ).loc main_arg4)
abbrev aV : S160x1024.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 160) : Fin 160 := ⟨t.val * 160 + r.val, by have := lt_of_lt_of_eq t.isLt N_0; omega⟩

/-- A block's place in its array: the block's index times its size, plus the place in the block. -/
theorem at2 {f : Fin 2 → ℕ} (e : f = ![t.val, 0]) (r : Fin 160) (l : Fin 1024) (x : Fin 2) :
    f x * S160x1024.size x + (ix2 r l x).val = (ix2 (pt t r) l x).val := by
  subst e
  unfold pt
  fin_cases x
  · rfl
  · show 0 * _ + l.val = l.val; omega

/-- The block holding a row of an array. -/
def tOf (i : S160x1024.Idx) : Fin grid0.N :=
  ⟨(i 0).val / 160, by have hi : (i 0).val < 160 := (i 0).isLt; rw [N_0]; omega⟩

theorem in2 (i : S160x1024.Idx) {f : Fin 2 → ℕ} (e : f = ![(tOf i).val, 0]) (x : Fin 2) :
    f x * S160x1024.size x ≤ (i x).val ∧ (i x).val < f x * S160x1024.size x + S160x1024.size x := by
  subst e
  have hi : (i 1).val < 1024 := (i 1).isLt
  unfold tOf
  fin_cases x
  · show (i 0).val / 160 * 160 ≤ (i 0).val ∧ (i 0).val < (i 0).val / 160 * 160 + 160
    omega
  · show 0 * 1024 ≤ (i 1).val ∧ (i 1).val < 0 * 1024 + 1024
    omega

/-- The blocks a point reads, in the arguments. -/
theorem blk0 {n : Fin 8} (hn : tbl m = pf n) (a : Fin 160) (b : Fin 1024) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 160) (b : Fin 1024) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 160) (b : Fin 1024) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 160) (b : Fin 1024) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 160) (b : Fin 1024) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x160x1024 .bf16) (a : Fin 160) (b : Fin 1024) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S160x1024 .f32) (x : Vec Ideal S160x1024 .f32) (a : Fin 160) (b : Fin 1024) :
    k0_pay1 (F := Ideal) g x (ix2 a b) = mom1 (g (ix2 a b)) (x (ix2 a b)) := by
  unfold mom1
  pointwise [k0_pay1]

theorem p2 (g : FVec Ideal S160x1024 .f32) (x : Vec Ideal S160x1024 .f32) (a : Fin 160) (b : Fin 1024) :
    k0_pay2 (F := Ideal) g x (ix2 a b) = mom2 (g (ix2 a b)) (x (ix2 a b)) := by
  unfold mom2
  pointwise [k0_pay2]

theorem p3 (g : FVec Ideal S160x1024 .f32) (w x v : Vec Ideal S160x1024 .f32) (a : Fin 160) (b : Fin 1024) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x160x1024 .bf16) (x1 : Vec Ideal S7x160x1024 .bf16) : FVec Ideal S160x1024 .f32 :=
  k0_pay4 (F := Ideal) x0 (View.ld x1 (Rect.unit ![0, 0, 0] S1x160x1024.size inb_S7x160x1024_S1x160x1024_0_0_0)) (View.ld x1 (Rect.unit ![1, 0, 0] S1x160x1024.size inb_S7x160x1024_S1x160x1024_1_0_0)) (View.ld x1 (Rect.unit ![2, 0, 0] S1x160x1024.size inb_S7x160x1024_S1x160x1024_2_0_0)) (View.ld x1 (Rect.unit ![3, 0, 0] S1x160x1024.size inb_S7x160x1024_S1x160x1024_3_0_0)) (View.ld x1 (Rect.unit ![4, 0, 0] S1x160x1024.size inb_S7x160x1024_S1x160x1024_4_0_0)) (View.ld x1 (Rect.unit ![5, 0, 0] S1x160x1024.size inb_S7x160x1024_S1x160x1024_5_0_0)) (View.ld x1 (Rect.unit ![6, 0, 0] S1x160x1024.size inb_S7x160x1024_S1x160x1024_6_0_0))

/-- The gradient block of a point. -/
def gB : FVec Ideal S160x1024 .f32 := gP (iblk m hO c 0 t) (iblk m hO c 1 t)

section blocks

variable (i : grid0.Coords) {a2 : Memref sig .tc .vmem S1x160x1024 .bf16} {a3 : Memref sig .tc .vmem S7x160x1024 .bf16} {a4 a5 a6 a7 a8 a9 a10 : Memref sig .tc .vmem S160x1024 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x160x1024 .bf16) (x1 : Vec Ideal S7x160x1024 .bf16) (x2 x3 x4 : Vec Ideal S160x1024 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x160x1024 .bf16) (a : Fin 160) (b : Fin 1024) :
    View.ld x1 (Rect.unit ![j, 0, 0] S1x160x1024.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x160x1024 .bf16) (x1 : Vec Ideal S7x160x1024 .bf16) (a : Fin 160) (b : Fin 1024) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 160) (b : Fin 1024) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S160x1024.Idx) : ∃ (r : Fin 160) (l : Fin 1024), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S160x1024.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S160x1024.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S160x1024.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S160x1024.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S160x1024.Idx) : ∃ (a : Fin 160) (b : Fin 1024), i = ix2 a b := ⟨i 0, i 1, eq_ix2 i⟩

open Cert.AdamBrnnReferenceIdeal.Read

variable (o : S8x160x1024.Idx → EReal) (q : S7x160x1024.Idx → EReal) (d : IVec S1 32) (w mm v : S160x1024.Idx → EReal)

/-- The reference's own part, one of the eight. -/
theorem own_at {n : Fin 8} (hd : (d (ix1 0)).toNat = n.val) (k : Fin 8) (a : Fin 160) (b : Fin 1024) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamBrnnKernel :=
  fun m ρ h => Cert.AdamBrnnKernel.Gen.frame m ρ (K.ok m h)

/-- So does its idealized form. -/
theorem frame_KI : Cert.quiescent_AdamBrnnKernelIdeal :=
  fun m ρ h => Cert.AdamBrnnKernelIdeal.Gen.frame m ρ (KI.ok m h)

/-- So does the reference, whatever the number. -/
theorem frame_RI : Cert.quiescent_AdamBrnnReferenceIdeal := fun m ρ _ =>
  (θ_run _ _ _).mono (fun r h => ⟨fun c => ((h c).2.2.2.2), sem_eq_zero_of_no_sems (by decide) r.2⟩) (Cert.AdamBrnnReferenceIdeal.Value.run m ρ)

theorem frame_RI_pre : Cert.quiescent_AdamBrnnReferenceIdeal_pre_on_mesh_w_branch_rnn :=
  fun m ρ _ => frame_RI m ρ trivial

/-- The idealization rewrites nothing. -/
theorem preserves : Cert.preserves_AdamBrnnKernel_AdamBrnnKernelIdeal := trivial

/-- The kernel and the reference leave the same arrays. -/
theorem algebraic : Cert.algebraic_AdamBrnnKernelIdeal_AdamBrnnReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamBrnnReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamBrnnReferenceIdeal.Read.val_main_v9_eq, e0, e1, e2]
      exact ref9 _ _ _ rfl
    · rw [Cert.AdamBrnnReferenceIdeal.Read.val_main_v33_eq, e0, e1, e2, e3, e4, e5]
      exact ref33 _ _ _ _ _ _ rfl
    · rw [Cert.AdamBrnnReferenceIdeal.Read.val_main_v14_eq, e0, e1, e2, e4]
      exact ref14 _ _ _ _ rfl
    · rw [Cert.AdamBrnnReferenceIdeal.Read.val_main_v20_eq, e0, e1, e2, e5]
      exact ref20 _ _ _ _ rfl

end Cert.AdamBrnn

end
-- ==== Proof.AdamConvF.lean ====
/- The AdamW update of a sharded weight, conv_ffn_w: the eight devices' gradients added up, and the weight's
   moments and step from the sum. -/
module

public import proofs.«01_k».proof.Proof.Gen.AdamConvFKernel.Frame
public import proofs.«01_k».proof.Proof.Gen.AdamConvFKernelIdeal.Frame
public import proofs.«01_k».proof.Proof.Gen.AdamConvFReferenceIdeal.Run
public import proofs.«01_k».proof.Proof.Gen.AdamConvFReferenceIdeal.Read
public import proofs.«01_k».proof.Proof.Gen.Pre_on_mesh_conv_ffn_w
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamConvF

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_conv_ffn_w.fn (F := F) a0 a1 a2 a3 a4 a5 = fun _ => 1#1) : (a2 (ix1 0)).toNat < 8 := by
  have e := congrFun h (ix1 0)
  simp only [Cert.Pre_on_mesh_conv_ffn_w.fn, constantI, broadcastInDim, cmpi, andi, IntOp.andi, andi_one] at e
  simp only [ofBool_one, IntOp.cmpi] at e
  exact lt_of_cmp _ e.1 e.2

namespace K

open Cert.AdamConvFKernel Cert.AdamConvFKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamConvFKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamConvFKernelIdeal Cert.AdamConvFKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamConvFKernelIdeal m) : Fin 8 :=
  ⟨(m (((0 : Dev nD) : Thread nD τ).loc main_arg2) (ix1 0) : BitVec 32).toNat, lt_of_fn (h 0)⟩

/-- The table holds it. -/
theorem tbl_num (h : Cert.Pre_AdamConvFKernelIdeal m) : tbl m = pf (num m h) := by
  funext j x
  match j with
  | ⟨0, _⟩ =>
    have hx := one_idx x
    subst hx
    exact ofNat_self _

theorem ok (h : Cert.Pre_AdamConvFKernelIdeal m) : Ok m := by
  unfold Ok; rw [tbl_num m h]; exact ok_pf _

end KI

open Cert.AdamConvFKernelIdeal Cert.AdamConvFKernelIdeal.Gen KI

/-- The gradient: the device's own part and the seven received, added up. -/
def gA (n : Fin 8) (o : S8x3x384.Idx → EReal) (q : S7x3x384.Idx → EReal) : S3x384.Idx → EReal := fun i =>
  o (ix3 n (i 0) (i 1)) + ∑ k : Fin 7, q (ix3 k (i 0) (i 1))

/-- The new moments and the step, place by place. -/
def mA (n : Fin 8) (o : S8x3x384.Idx → EReal) (q : S7x3x384.Idx → EReal) (mm : S3x384.Idx → EReal) : S3x384.Idx → EReal := fun i =>
  mom1 (gA n o q i) (mm i)
def vA (n : Fin 8) (o : S8x3x384.Idx → EReal) (q : S7x3x384.Idx → EReal) (v : S3x384.Idx → EReal) : S3x384.Idx → EReal := fun i =>
  mom2 (gA n o q i) (v i)
def dA (n : Fin 8) (o : S8x3x384.Idx → EReal) (q : S7x3x384.Idx → EReal) (w mm v : S3x384.Idx → EReal) : S3x384.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x3x384.Idx → EReal := m ((c : Thread nD τ).loc main_arg0)
abbrev aQ : S7x3x384.Idx → EReal := m ((c : Thread nD τ).loc main_arg1)
abbrev aW : S3x384.Idx → EReal := m ((c : Thread nD τ).loc main_arg3)
abbrev aM : S3x384.Idx → EReal := m ((c : Thread nD τ).loc main_arg4)
abbrev aV : S3x384.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 3) : Fin 3 := ⟨t.val * 3 + r.val, by have := lt_of_lt_of_eq t.isLt N_0; omega⟩

/-- A block's place in its array: the block's index times its size, plus the place in the block. -/
theorem at2 {f : Fin 2 → ℕ} (e : f = ![t.val, 0]) (r : Fin 3) (l : Fin 384) (x : Fin 2) :
    f x * S3x384.size x + (ix2 r l x).val = (ix2 (pt t r) l x).val := by
  subst e
  unfold pt
  fin_cases x
  · rfl
  · show 0 * _ + l.val = l.val; omega

/-- The block holding a row of an array. -/
def tOf (i : S3x384.Idx) : Fin grid0.N :=
  ⟨(i 0).val / 3, by have hi : (i 0).val < 3 := (i 0).isLt; rw [N_0]; omega⟩

theorem in2 (i : S3x384.Idx) {f : Fin 2 → ℕ} (e : f = ![(tOf i).val, 0]) (x : Fin 2) :
    f x * S3x384.size x ≤ (i x).val ∧ (i x).val < f x * S3x384.size x + S3x384.size x := by
  subst e
  have hi : (i 1).val < 384 := (i 1).isLt
  unfold tOf
  fin_cases x
  · show (i 0).val / 3 * 3 ≤ (i 0).val ∧ (i 0).val < (i 0).val / 3 * 3 + 3
    omega
  · show 0 * 384 ≤ (i 1).val ∧ (i 1).val < 0 * 384 + 384
    omega

/-- The blocks a point reads, in the arguments. -/
theorem blk0 {n : Fin 8} (hn : tbl m = pf n) (a : Fin 3) (b : Fin 384) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 3) (b : Fin 384) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 3) (b : Fin 384) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 3) (b : Fin 384) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 3) (b : Fin 384) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x3x384 .bf16) (a : Fin 3) (b : Fin 384) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S3x384 .f32) (x : Vec Ideal S3x384 .f32) (a : Fin 3) (b : Fin 384) :
    k0_pay1 (F := Ideal) g x (ix2 a b) = mom1 (g (ix2 a b)) (x (ix2 a b)) := by
  unfold mom1
  pointwise [k0_pay1]

theorem p2 (g : FVec Ideal S3x384 .f32) (x : Vec Ideal S3x384 .f32) (a : Fin 3) (b : Fin 384) :
    k0_pay2 (F := Ideal) g x (ix2 a b) = mom2 (g (ix2 a b)) (x (ix2 a b)) := by
  unfold mom2
  pointwise [k0_pay2]

theorem p3 (g : FVec Ideal S3x384 .f32) (w x v : Vec Ideal S3x384 .f32) (a : Fin 3) (b : Fin 384) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x3x384 .bf16) (x1 : Vec Ideal S7x3x384 .bf16) : FVec Ideal S3x384 .f32 :=
  k0_pay4 (F := Ideal) x0 (View.ld x1 (Rect.unit ![0, 0, 0] S1x3x384.size inb_S7x3x384_S1x3x384_0_0_0)) (View.ld x1 (Rect.unit ![1, 0, 0] S1x3x384.size inb_S7x3x384_S1x3x384_1_0_0)) (View.ld x1 (Rect.unit ![2, 0, 0] S1x3x384.size inb_S7x3x384_S1x3x384_2_0_0)) (View.ld x1 (Rect.unit ![3, 0, 0] S1x3x384.size inb_S7x3x384_S1x3x384_3_0_0)) (View.ld x1 (Rect.unit ![4, 0, 0] S1x3x384.size inb_S7x3x384_S1x3x384_4_0_0)) (View.ld x1 (Rect.unit ![5, 0, 0] S1x3x384.size inb_S7x3x384_S1x3x384_5_0_0)) (View.ld x1 (Rect.unit ![6, 0, 0] S1x3x384.size inb_S7x3x384_S1x3x384_6_0_0))

/-- The gradient block of a point. -/
def gB : FVec Ideal S3x384 .f32 := gP (iblk m hO c 0 t) (iblk m hO c 1 t)

section blocks

variable (i : grid0.Coords) {a2 : Memref sig .tc .vmem S1x3x384 .bf16} {a3 : Memref sig .tc .vmem S7x3x384 .bf16} {a4 a5 a6 a7 a8 a9 a10 : Memref sig .tc .vmem S3x384 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x3x384 .bf16) (x1 : Vec Ideal S7x3x384 .bf16) (x2 x3 x4 : Vec Ideal S3x384 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x3x384 .bf16) (a : Fin 3) (b : Fin 384) :
    View.ld x1 (Rect.unit ![j, 0, 0] S1x3x384.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x3x384 .bf16) (x1 : Vec Ideal S7x3x384 .bf16) (a : Fin 3) (b : Fin 384) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 3) (b : Fin 384) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S3x384.Idx) : ∃ (r : Fin 3) (l : Fin 384), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S3x384.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S3x384.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S3x384.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S3x384.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S3x384.Idx) : ∃ (a : Fin 3) (b : Fin 384), i = ix2 a b := ⟨i 0, i 1, eq_ix2 i⟩

open Cert.AdamConvFReferenceIdeal.Read

variable (o : S8x3x384.Idx → EReal) (q : S7x3x384.Idx → EReal) (d : IVec S1 32) (w mm v : S3x384.Idx → EReal)

/-- The reference's own part, one of the eight. -/
theorem own_at {n : Fin 8} (hd : (d (ix1 0)).toNat = n.val) (k : Fin 8) (a : Fin 3) (b : Fin 384) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamConvFKernel :=
  fun m ρ h => Cert.AdamConvFKernel.Gen.frame m ρ (K.ok m h)

/-- So does its idealized form. -/
theorem frame_KI : Cert.quiescent_AdamConvFKernelIdeal :=
  fun m ρ h => Cert.AdamConvFKernelIdeal.Gen.frame m ρ (KI.ok m h)

/-- So does the reference, whatever the number. -/
theorem frame_RI : Cert.quiescent_AdamConvFReferenceIdeal := fun m ρ _ =>
  (θ_run _ _ _).mono (fun r h => ⟨fun c => ((h c).2.2.2.2), sem_eq_zero_of_no_sems (by decide) r.2⟩) (Cert.AdamConvFReferenceIdeal.Value.run m ρ)

theorem frame_RI_pre : Cert.quiescent_AdamConvFReferenceIdeal_pre_on_mesh_conv_ffn_w :=
  fun m ρ _ => frame_RI m ρ trivial

/-- The idealization rewrites nothing. -/
theorem preserves : Cert.preserves_AdamConvFKernel_AdamConvFKernelIdeal := trivial

/-- The kernel and the reference leave the same arrays. -/
theorem algebraic : Cert.algebraic_AdamConvFKernelIdeal_AdamConvFReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamConvFReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamConvFReferenceIdeal.Read.val_main_v9_eq, e0, e1, e2]
      exact ref9 _ _ _ rfl
    · rw [Cert.AdamConvFReferenceIdeal.Read.val_main_v33_eq, e0, e1, e2, e3, e4, e5]
      exact ref33 _ _ _ _ _ _ rfl
    · rw [Cert.AdamConvFReferenceIdeal.Read.val_main_v14_eq, e0, e1, e2, e4]
      exact ref14 _ _ _ _ rfl
    · rw [Cert.AdamConvFReferenceIdeal.Read.val_main_v20_eq, e0, e1, e2, e5]
      exact ref20 _ _ _ _ rfl

end Cert.AdamConvF

end
-- ==== Proof.AdamConvR.lean ====
/- The AdamW update of a sharded weight, conv_rnn_w: the eight devices' gradients added up, and the weight's
   moments and step from the sum. -/
module

public import proofs.«01_k».proof.Proof.Gen.AdamConvRKernel.Frame
public import proofs.«01_k».proof.Proof.Gen.AdamConvRKernelIdeal.Frame
public import proofs.«01_k».proof.Proof.Gen.AdamConvRReferenceIdeal.Run
public import proofs.«01_k».proof.Proof.Gen.AdamConvRReferenceIdeal.Read
public import proofs.«01_k».proof.Proof.Gen.Pre_on_mesh_conv_rnn_w
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamConvR

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_conv_rnn_w.fn (F := F) a0 a1 a2 a3 a4 a5 = fun _ => 1#1) : (a2 (ix1 0)).toNat < 8 := by
  have e := congrFun h (ix1 0)
  simp only [Cert.Pre_on_mesh_conv_rnn_w.fn, constantI, broadcastInDim, cmpi, andi, IntOp.andi, andi_one] at e
  simp only [ofBool_one, IntOp.cmpi] at e
  exact lt_of_cmp _ e.1 e.2

namespace K

open Cert.AdamConvRKernel Cert.AdamConvRKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamConvRKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamConvRKernelIdeal Cert.AdamConvRKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamConvRKernelIdeal m) : Fin 8 :=
  ⟨(m (((0 : Dev nD) : Thread nD τ).loc main_arg2) (ix1 0) : BitVec 32).toNat, lt_of_fn (h 0)⟩

/-- The table holds it. -/
theorem tbl_num (h : Cert.Pre_AdamConvRKernelIdeal m) : tbl m = pf (num m h) := by
  funext j x
  match j with
  | ⟨0, _⟩ =>
    have hx := one_idx x
    subst hx
    exact ofNat_self _

theorem ok (h : Cert.Pre_AdamConvRKernelIdeal m) : Ok m := by
  unfold Ok; rw [tbl_num m h]; exact ok_pf _

end KI

open Cert.AdamConvRKernelIdeal Cert.AdamConvRKernelIdeal.Gen KI

/-- The gradient: the device's own part and the seven received, added up. -/
def gA (n : Fin 8) (o : S8x4x160.Idx → EReal) (q : S7x4x160.Idx → EReal) : S4x160.Idx → EReal := fun i =>
  o (ix3 n (i 0) (i 1)) + ∑ k : Fin 7, q (ix3 k (i 0) (i 1))

/-- The new moments and the step, place by place. -/
def mA (n : Fin 8) (o : S8x4x160.Idx → EReal) (q : S7x4x160.Idx → EReal) (mm : S4x160.Idx → EReal) : S4x160.Idx → EReal := fun i =>
  mom1 (gA n o q i) (mm i)
def vA (n : Fin 8) (o : S8x4x160.Idx → EReal) (q : S7x4x160.Idx → EReal) (v : S4x160.Idx → EReal) : S4x160.Idx → EReal := fun i =>
  mom2 (gA n o q i) (v i)
def dA (n : Fin 8) (o : S8x4x160.Idx → EReal) (q : S7x4x160.Idx → EReal) (w mm v : S4x160.Idx → EReal) : S4x160.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x4x160.Idx → EReal := m ((c : Thread nD τ).loc main_arg0)
abbrev aQ : S7x4x160.Idx → EReal := m ((c : Thread nD τ).loc main_arg1)
abbrev aW : S4x160.Idx → EReal := m ((c : Thread nD τ).loc main_arg3)
abbrev aM : S4x160.Idx → EReal := m ((c : Thread nD τ).loc main_arg4)
abbrev aV : S4x160.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 4) : Fin 4 := ⟨t.val * 4 + r.val, by have := lt_of_lt_of_eq t.isLt N_0; omega⟩

/-- A block's place in its array: the block's index times its size, plus the place in the block. -/
theorem at2 {f : Fin 2 → ℕ} (e : f = ![t.val, 0]) (r : Fin 4) (l : Fin 160) (x : Fin 2) :
    f x * S4x160.size x + (ix2 r l x).val = (ix2 (pt t r) l x).val := by
  subst e
  unfold pt
  fin_cases x
  · rfl
  · show 0 * _ + l.val = l.val; omega

/-- The block holding a row of an array. -/
def tOf (i : S4x160.Idx) : Fin grid0.N :=
  ⟨(i 0).val / 4, by have hi : (i 0).val < 4 := (i 0).isLt; rw [N_0]; omega⟩

theorem in2 (i : S4x160.Idx) {f : Fin 2 → ℕ} (e : f = ![(tOf i).val, 0]) (x : Fin 2) :
    f x * S4x160.size x ≤ (i x).val ∧ (i x).val < f x * S4x160.size x + S4x160.size x := by
  subst e
  have hi : (i 1).val < 160 := (i 1).isLt
  unfold tOf
  fin_cases x
  · show (i 0).val / 4 * 4 ≤ (i 0).val ∧ (i 0).val < (i 0).val / 4 * 4 + 4
    omega
  · show 0 * 160 ≤ (i 1).val ∧ (i 1).val < 0 * 160 + 160
    omega

/-- The blocks a point reads, in the arguments. -/
theorem blk0 {n : Fin 8} (hn : tbl m = pf n) (a : Fin 4) (b : Fin 160) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 4) (b : Fin 160) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 4) (b : Fin 160) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 4) (b : Fin 160) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 4) (b : Fin 160) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x4x160 .bf16) (a : Fin 4) (b : Fin 160) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S4x160 .f32) (x : Vec Ideal S4x160 .f32) (a : Fin 4) (b : Fin 160) :
    k0_pay1 (F := Ideal) g x (ix2 a b) = mom1 (g (ix2 a b)) (x (ix2 a b)) := by
  unfold mom1
  pointwise [k0_pay1]

theorem p2 (g : FVec Ideal S4x160 .f32) (x : Vec Ideal S4x160 .f32) (a : Fin 4) (b : Fin 160) :
    k0_pay2 (F := Ideal) g x (ix2 a b) = mom2 (g (ix2 a b)) (x (ix2 a b)) := by
  unfold mom2
  pointwise [k0_pay2]

theorem p3 (g : FVec Ideal S4x160 .f32) (w x v : Vec Ideal S4x160 .f32) (a : Fin 4) (b : Fin 160) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x4x160 .bf16) (x1 : Vec Ideal S7x4x160 .bf16) : FVec Ideal S4x160 .f32 :=
  k0_pay4 (F := Ideal) x0 (View.ld x1 (Rect.unit ![0, 0, 0] S1x4x160.size inb_S7x4x160_S1x4x160_0_0_0)) (View.ld x1 (Rect.unit ![1, 0, 0] S1x4x160.size inb_S7x4x160_S1x4x160_1_0_0)) (View.ld x1 (Rect.unit ![2, 0, 0] S1x4x160.size inb_S7x4x160_S1x4x160_2_0_0)) (View.ld x1 (Rect.unit ![3, 0, 0] S1x4x160.size inb_S7x4x160_S1x4x160_3_0_0)) (View.ld x1 (Rect.unit ![4, 0, 0] S1x4x160.size inb_S7x4x160_S1x4x160_4_0_0)) (View.ld x1 (Rect.unit ![5, 0, 0] S1x4x160.size inb_S7x4x160_S1x4x160_5_0_0)) (View.ld x1 (Rect.unit ![6, 0, 0] S1x4x160.size inb_S7x4x160_S1x4x160_6_0_0))

/-- The gradient block of a point. -/
def gB : FVec Ideal S4x160 .f32 := gP (iblk m hO c 0 t) (iblk m hO c 1 t)

section blocks

variable (i : grid0.Coords) {a2 : Memref sig .tc .vmem S1x4x160 .bf16} {a3 : Memref sig .tc .vmem S7x4x160 .bf16} {a4 a5 a6 a7 a8 a9 a10 : Memref sig .tc .vmem S4x160 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x4x160 .bf16) (x1 : Vec Ideal S7x4x160 .bf16) (x2 x3 x4 : Vec Ideal S4x160 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x4x160 .bf16) (a : Fin 4) (b : Fin 160) :
    View.ld x1 (Rect.unit ![j, 0, 0] S1x4x160.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x4x160 .bf16) (x1 : Vec Ideal S7x4x160 .bf16) (a : Fin 4) (b : Fin 160) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 4) (b : Fin 160) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S4x160.Idx) : ∃ (r : Fin 4) (l : Fin 160), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S4x160.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S4x160.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S4x160.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S4x160.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S4x160.Idx) : ∃ (a : Fin 4) (b : Fin 160), i = ix2 a b := ⟨i 0, i 1, eq_ix2 i⟩

open Cert.AdamConvRReferenceIdeal.Read

variable (o : S8x4x160.Idx → EReal) (q : S7x4x160.Idx → EReal) (d : IVec S1 32) (w mm v : S4x160.Idx → EReal)

/-- The reference's own part, one of the eight. -/
theorem own_at {n : Fin 8} (hd : (d (ix1 0)).toNat = n.val) (k : Fin 8) (a : Fin 4) (b : Fin 160) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamConvRKernel :=
  fun m ρ h => Cert.AdamConvRKernel.Gen.frame m ρ (K.ok m h)

/-- So does its idealized form. -/
theorem frame_KI : Cert.quiescent_AdamConvRKernelIdeal :=
  fun m ρ h => Cert.AdamConvRKernelIdeal.Gen.frame m ρ (KI.ok m h)

/-- So does the reference, whatever the number. -/
theorem frame_RI : Cert.quiescent_AdamConvRReferenceIdeal := fun m ρ _ =>
  (θ_run _ _ _).mono (fun r h => ⟨fun c => ((h c).2.2.2.2), sem_eq_zero_of_no_sems (by decide) r.2⟩) (Cert.AdamConvRReferenceIdeal.Value.run m ρ)

theorem frame_RI_pre : Cert.quiescent_AdamConvRReferenceIdeal_pre_on_mesh_conv_rnn_w :=
  fun m ρ _ => frame_RI m ρ trivial

/-- The idealization rewrites nothing. -/
theorem preserves : Cert.preserves_AdamConvRKernel_AdamConvRKernelIdeal := trivial

/-- The kernel and the reference leave the same arrays. -/
theorem algebraic : Cert.algebraic_AdamConvRKernelIdeal_AdamConvRReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamConvRReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamConvRReferenceIdeal.Read.val_main_v9_eq, e0, e1, e2]
      exact ref9 _ _ _ rfl
    · rw [Cert.AdamConvRReferenceIdeal.Read.val_main_v33_eq, e0, e1, e2, e3, e4, e5]
      exact ref33 _ _ _ _ _ _ rfl
    · rw [Cert.AdamConvRReferenceIdeal.Read.val_main_v14_eq, e0, e1, e2, e4]
      exact ref14 _ _ _ _ rfl
    · rw [Cert.AdamConvRReferenceIdeal.Read.val_main_v20_eq, e0, e1, e2, e5]
      exact ref20 _ _ _ _ rfl

end Cert.AdamConvR

end
-- ==== Proof.AdamDown.lean ====
/- The AdamW update of a sharded weight, w_ffn_down: the eight devices' gradients added up, and the weight's
   moments and step from the sum. -/
module

public import proofs.«01_k».proof.Proof.Gen.AdamDownKernel.Frame
public import proofs.«01_k».proof.Proof.Gen.AdamDownKernelIdeal.Frame
public import proofs.«01_k».proof.Proof.Gen.AdamDownReferenceIdeal.Run
public import proofs.«01_k».proof.Proof.Gen.AdamDownReferenceIdeal.Read
public import proofs.«01_k».proof.Proof.Gen.Pre_on_mesh_w_ffn_down
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamDown

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_w_ffn_down.fn (F := F) a0 a1 a2 a3 a4 a5 = fun _ => 1#1) : (a2 (ix1 0)).toNat < 8 := by
  have e := congrFun h (ix1 0)
  simp only [Cert.Pre_on_mesh_w_ffn_down.fn, constantI, broadcastInDim, cmpi, andi, IntOp.andi, andi_one] at e
  simp only [ofBool_one, IntOp.cmpi] at e
  exact lt_of_cmp _ e.1 e.2

namespace K

open Cert.AdamDownKernel Cert.AdamDownKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamDownKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamDownKernelIdeal Cert.AdamDownKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamDownKernelIdeal m) : Fin 8 :=
  ⟨(m (((0 : Dev nD) : Thread nD τ).loc main_arg2) (ix1 0) : BitVec 32).toNat, lt_of_fn (h 0)⟩

/-- The table holds it. -/
theorem tbl_num (h : Cert.Pre_AdamDownKernelIdeal m) : tbl m = pf (num m h) := by
  funext j x
  match j with
  | ⟨0, _⟩ =>
    have hx := one_idx x
    subst hx
    exact ofNat_self _

theorem ok (h : Cert.Pre_AdamDownKernelIdeal m) : Ok m := by
  unfold Ok; rw [tbl_num m h]; exact ok_pf _

end KI

open Cert.AdamDownKernelIdeal Cert.AdamDownKernelIdeal.Gen KI

/-- The gradient: the device's own part and the seven received, added up. -/
def gA (n : Fin 8) (o : S8x384x1024.Idx → EReal) (q : S7x384x1024.Idx → EReal) : S384x1024.Idx → EReal := fun i =>
  o (ix3 n (i 0) (i 1)) + ∑ k : Fin 7, q (ix3 k (i 0) (i 1))

/-- The new moments and the step, place by place. -/
def mA (n : Fin 8) (o : S8x384x1024.Idx → EReal) (q : S7x384x1024.Idx → EReal) (mm : S384x1024.Idx → EReal) : S384x1024.Idx → EReal := fun i =>
  mom1 (gA n o q i) (mm i)
def vA (n : Fin 8) (o : S8x384x1024.Idx → EReal) (q : S7x384x1024.Idx → EReal) (v : S384x1024.Idx → EReal) : S384x1024.Idx → EReal := fun i =>
  mom2 (gA n o q i) (v i)
def dA (n : Fin 8) (o : S8x384x1024.Idx → EReal) (q : S7x384x1024.Idx → EReal) (w mm v : S384x1024.Idx → EReal) : S384x1024.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x384x1024.Idx → EReal := m ((c : Thread nD τ).loc main_arg0)
abbrev aQ : S7x384x1024.Idx → EReal := m ((c : Thread nD τ).loc main_arg1)
abbrev aW : S384x1024.Idx → EReal := m ((c : Thread nD τ).loc main_arg3)
abbrev aM : S384x1024.Idx → EReal := m ((c : Thread nD τ).loc main_arg4)
abbrev aV : S384x1024.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 192) : Fin 384 := ⟨t.val * 192 + r.val, by have := lt_of_lt_of_eq t.isLt N_0; omega⟩

/-- A block's place in its array: the block's index times its size, plus the place in the block. -/
theorem at2 {f : Fin 2 → ℕ} (e : f = ![t.val, 0]) (r : Fin 192) (l : Fin 1024) (x : Fin 2) :
    f x * S192x1024.size x + (ix2 r l x).val = (ix2 (pt t r) l x).val := by
  subst e
  unfold pt
  fin_cases x
  · rfl
  · show 0 * _ + l.val = l.val; omega

/-- The block holding a row of an array. -/
def tOf (i : S384x1024.Idx) : Fin grid0.N :=
  ⟨(i 0).val / 192, by have hi : (i 0).val < 384 := (i 0).isLt; rw [N_0]; omega⟩

theorem in2 (i : S384x1024.Idx) {f : Fin 2 → ℕ} (e : f = ![(tOf i).val, 0]) (x : Fin 2) :
    f x * S192x1024.size x ≤ (i x).val ∧ (i x).val < f x * S192x1024.size x + S192x1024.size x := by
  subst e
  have hi : (i 1).val < 1024 := (i 1).isLt
  unfold tOf
  fin_cases x
  · show (i 0).val / 192 * 192 ≤ (i 0).val ∧ (i 0).val < (i 0).val / 192 * 192 + 192
    omega
  · show 0 * 1024 ≤ (i 1).val ∧ (i 1).val < 0 * 1024 + 1024
    omega

/-- The blocks a point reads, in the arguments. -/
theorem blk0 {n : Fin 8} (hn : tbl m = pf n) (a : Fin 192) (b : Fin 1024) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 192) (b : Fin 1024) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 192) (b : Fin 1024) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 192) (b : Fin 1024) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 192) (b : Fin 1024) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x192x1024 .bf16) (a : Fin 192) (b : Fin 1024) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S192x1024 .f32) (x : Vec Ideal S192x1024 .f32) (a : Fin 192) (b : Fin 1024) :
    k0_pay1 (F := Ideal) g x (ix2 a b) = mom1 (g (ix2 a b)) (x (ix2 a b)) := by
  unfold mom1
  pointwise [k0_pay1]

theorem p2 (g : FVec Ideal S192x1024 .f32) (x : Vec Ideal S192x1024 .f32) (a : Fin 192) (b : Fin 1024) :
    k0_pay2 (F := Ideal) g x (ix2 a b) = mom2 (g (ix2 a b)) (x (ix2 a b)) := by
  unfold mom2
  pointwise [k0_pay2]

theorem p3 (g : FVec Ideal S192x1024 .f32) (w x v : Vec Ideal S192x1024 .f32) (a : Fin 192) (b : Fin 1024) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x192x1024 .bf16) (x1 : Vec Ideal S7x192x1024 .bf16) : FVec Ideal S192x1024 .f32 :=
  k0_pay4 (F := Ideal) x0 (View.ld x1 (Rect.unit ![0, 0, 0] S1x192x1024.size inb_S7x192x1024_S1x192x1024_0_0_0)) (View.ld x1 (Rect.unit ![1, 0, 0] S1x192x1024.size inb_S7x192x1024_S1x192x1024_1_0_0)) (View.ld x1 (Rect.unit ![2, 0, 0] S1x192x1024.size inb_S7x192x1024_S1x192x1024_2_0_0)) (View.ld x1 (Rect.unit ![3, 0, 0] S1x192x1024.size inb_S7x192x1024_S1x192x1024_3_0_0)) (View.ld x1 (Rect.unit ![4, 0, 0] S1x192x1024.size inb_S7x192x1024_S1x192x1024_4_0_0)) (View.ld x1 (Rect.unit ![5, 0, 0] S1x192x1024.size inb_S7x192x1024_S1x192x1024_5_0_0)) (View.ld x1 (Rect.unit ![6, 0, 0] S1x192x1024.size inb_S7x192x1024_S1x192x1024_6_0_0))

/-- The gradient block of a point. -/
def gB : FVec Ideal S192x1024 .f32 := gP (iblk m hO c 0 t) (iblk m hO c 1 t)

section blocks

variable (i : grid0.Coords) {a2 : Memref sig .tc .vmem S1x192x1024 .bf16} {a3 : Memref sig .tc .vmem S7x192x1024 .bf16} {a4 a5 a6 a7 a8 a9 a10 : Memref sig .tc .vmem S192x1024 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x192x1024 .bf16) (x1 : Vec Ideal S7x192x1024 .bf16) (x2 x3 x4 : Vec Ideal S192x1024 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x192x1024 .bf16) (a : Fin 192) (b : Fin 1024) :
    View.ld x1 (Rect.unit ![j, 0, 0] S1x192x1024.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x192x1024 .bf16) (x1 : Vec Ideal S7x192x1024 .bf16) (a : Fin 192) (b : Fin 1024) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 192) (b : Fin 1024) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S192x1024.Idx) : ∃ (r : Fin 192) (l : Fin 1024), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S384x1024.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S384x1024.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S384x1024.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S384x1024.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S384x1024.Idx) : ∃ (a : Fin 384) (b : Fin 1024), i = ix2 a b := ⟨i 0, i 1, eq_ix2 i⟩

open Cert.AdamDownReferenceIdeal.Read

variable (o : S8x384x1024.Idx → EReal) (q : S7x384x1024.Idx → EReal) (d : IVec S1 32) (w mm v : S384x1024.Idx → EReal)

/-- The reference's own part, one of the eight. -/
theorem own_at {n : Fin 8} (hd : (d (ix1 0)).toNat = n.val) (k : Fin 8) (a : Fin 384) (b : Fin 1024) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamDownKernel :=
  fun m ρ h => Cert.AdamDownKernel.Gen.frame m ρ (K.ok m h)

/-- So does its idealized form. -/
theorem frame_KI : Cert.quiescent_AdamDownKernelIdeal :=
  fun m ρ h => Cert.AdamDownKernelIdeal.Gen.frame m ρ (KI.ok m h)

/-- So does the reference, whatever the number. -/
theorem frame_RI : Cert.quiescent_AdamDownReferenceIdeal := fun m ρ _ =>
  (θ_run _ _ _).mono (fun r h => ⟨fun c => ((h c).2.2.2.2), sem_eq_zero_of_no_sems (by decide) r.2⟩) (Cert.AdamDownReferenceIdeal.Value.run m ρ)

theorem frame_RI_pre : Cert.quiescent_AdamDownReferenceIdeal_pre_on_mesh_w_ffn_down :=
  fun m ρ _ => frame_RI m ρ trivial

/-- The idealization rewrites nothing. -/
theorem preserves : Cert.preserves_AdamDownKernel_AdamDownKernelIdeal := trivial

/-- The kernel and the reference leave the same arrays. -/
theorem algebraic : Cert.algebraic_AdamDownKernelIdeal_AdamDownReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamDownReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamDownReferenceIdeal.Read.val_main_v9_eq, e0, e1, e2]
      exact ref9 _ _ _ rfl
    · rw [Cert.AdamDownReferenceIdeal.Read.val_main_v33_eq, e0, e1, e2, e3, e4, e5]
      exact ref33 _ _ _ _ _ _ rfl
    · rw [Cert.AdamDownReferenceIdeal.Read.val_main_v14_eq, e0, e1, e2, e4]
      exact ref14 _ _ _ _ rfl
    · rw [Cert.AdamDownReferenceIdeal.Read.val_main_v20_eq, e0, e1, e2, e5]
      exact ref20 _ _ _ _ rfl

end Cert.AdamDown

end
-- ==== Proof.AdamGate.lean ====
/- The AdamW update of a sharded weight, w_ffn_gate: the eight devices' gradients added up, and the weight's
   moments and step from the sum. -/
module

public import proofs.«01_k».proof.Proof.Gen.AdamGateKernel.Frame
public import proofs.«01_k».proof.Proof.Gen.AdamGateKernelIdeal.Frame
public import proofs.«01_k».proof.Proof.Gen.AdamGateReferenceIdeal.Run
public import proofs.«01_k».proof.Proof.Gen.AdamGateReferenceIdeal.Read
public import proofs.«01_k».proof.Proof.Gen.Pre_on_mesh_w_ffn_gate
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamGate

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_w_ffn_gate.fn (F := F) a0 a1 a2 a3 a4 a5 = fun _ => 1#1) : (a2 (ix1 0)).toNat < 8 := by
  have e := congrFun h (ix1 0)
  simp only [Cert.Pre_on_mesh_w_ffn_gate.fn, constantI, broadcastInDim, cmpi, andi, IntOp.andi, andi_one] at e
  simp only [ofBool_one, IntOp.cmpi] at e
  exact lt_of_cmp _ e.1 e.2

namespace K

open Cert.AdamGateKernel Cert.AdamGateKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamGateKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamGateKernelIdeal Cert.AdamGateKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamGateKernelIdeal m) : Fin 8 :=
  ⟨(m (((0 : Dev nD) : Thread nD τ).loc main_arg2) (ix1 0) : BitVec 32).toNat, lt_of_fn (h 0)⟩

/-- The table holds it. -/
theorem tbl_num (h : Cert.Pre_AdamGateKernelIdeal m) : tbl m = pf (num m h) := by
  funext j x
  match j with
  | ⟨0, _⟩ =>
    have hx := one_idx x
    subst hx
    exact ofNat_self _

theorem ok (h : Cert.Pre_AdamGateKernelIdeal m) : Ok m := by
  unfold Ok; rw [tbl_num m h]; exact ok_pf _

end KI

open Cert.AdamGateKernelIdeal Cert.AdamGateKernelIdeal.Gen KI

/-- The gradient: the device's own part and the seven received, added up. -/
def gA (n : Fin 8) (o : S8x1024x384.Idx → EReal) (q : S7x1024x384.Idx → EReal) : S1024x384.Idx → EReal := fun i =>
  o (ix3 n (i 0) (i 1)) + ∑ k : Fin 7, q (ix3 k (i 0) (i 1))

/-- The new moments and the step, place by place. -/
def mA (n : Fin 8) (o : S8x1024x384.Idx → EReal) (q : S7x1024x384.Idx → EReal) (mm : S1024x384.Idx → EReal) : S1024x384.Idx → EReal := fun i =>
  mom1 (gA n o q i) (mm i)
def vA (n : Fin 8) (o : S8x1024x384.Idx → EReal) (q : S7x1024x384.Idx → EReal) (v : S1024x384.Idx → EReal) : S1024x384.Idx → EReal := fun i =>
  mom2 (gA n o q i) (v i)
def dA (n : Fin 8) (o : S8x1024x384.Idx → EReal) (q : S7x1024x384.Idx → EReal) (w mm v : S1024x384.Idx → EReal) : S1024x384.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x1024x384.Idx → EReal := m ((c : Thread nD τ).loc main_arg0)
abbrev aQ : S7x1024x384.Idx → EReal := m ((c : Thread nD τ).loc main_arg1)
abbrev aW : S1024x384.Idx → EReal := m ((c : Thread nD τ).loc main_arg3)
abbrev aM : S1024x384.Idx → EReal := m ((c : Thread nD τ).loc main_arg4)
abbrev aV : S1024x384.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 512) : Fin 1024 := ⟨t.val * 512 + r.val, by have := lt_of_lt_of_eq t.isLt N_0; omega⟩

/-- A block's place in its array: the block's index times its size, plus the place in the block. -/
theorem at2 {f : Fin 2 → ℕ} (e : f = ![t.val, 0]) (r : Fin 512) (l : Fin 384) (x : Fin 2) :
    f x * S512x384.size x + (ix2 r l x).val = (ix2 (pt t r) l x).val := by
  subst e
  unfold pt
  fin_cases x
  · rfl
  · show 0 * _ + l.val = l.val; omega

/-- The block holding a row of an array. -/
def tOf (i : S1024x384.Idx) : Fin grid0.N :=
  ⟨(i 0).val / 512, by have hi : (i 0).val < 1024 := (i 0).isLt; rw [N_0]; omega⟩

theorem in2 (i : S1024x384.Idx) {f : Fin 2 → ℕ} (e : f = ![(tOf i).val, 0]) (x : Fin 2) :
    f x * S512x384.size x ≤ (i x).val ∧ (i x).val < f x * S512x384.size x + S512x384.size x := by
  subst e
  have hi : (i 1).val < 384 := (i 1).isLt
  unfold tOf
  fin_cases x
  · show (i 0).val / 512 * 512 ≤ (i 0).val ∧ (i 0).val < (i 0).val / 512 * 512 + 512
    omega
  · show 0 * 384 ≤ (i 1).val ∧ (i 1).val < 0 * 384 + 384
    omega

/-- The blocks a point reads, in the arguments. -/
theorem blk0 {n : Fin 8} (hn : tbl m = pf n) (a : Fin 512) (b : Fin 384) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 512) (b : Fin 384) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 512) (b : Fin 384) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 512) (b : Fin 384) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 512) (b : Fin 384) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x512x384 .bf16) (a : Fin 512) (b : Fin 384) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S512x384 .f32) (x : Vec Ideal S512x384 .f32) (a : Fin 512) (b : Fin 384) :
    k0_pay1 (F := Ideal) g x (ix2 a b) = mom1 (g (ix2 a b)) (x (ix2 a b)) := by
  unfold mom1
  pointwise [k0_pay1]

theorem p2 (g : FVec Ideal S512x384 .f32) (x : Vec Ideal S512x384 .f32) (a : Fin 512) (b : Fin 384) :
    k0_pay2 (F := Ideal) g x (ix2 a b) = mom2 (g (ix2 a b)) (x (ix2 a b)) := by
  unfold mom2
  pointwise [k0_pay2]

theorem p3 (g : FVec Ideal S512x384 .f32) (w x v : Vec Ideal S512x384 .f32) (a : Fin 512) (b : Fin 384) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x512x384 .bf16) (x1 : Vec Ideal S7x512x384 .bf16) : FVec Ideal S512x384 .f32 :=
  k0_pay4 (F := Ideal) x0 (View.ld x1 (Rect.unit ![0, 0, 0] S1x512x384.size inb_S7x512x384_S1x512x384_0_0_0)) (View.ld x1 (Rect.unit ![1, 0, 0] S1x512x384.size inb_S7x512x384_S1x512x384_1_0_0)) (View.ld x1 (Rect.unit ![2, 0, 0] S1x512x384.size inb_S7x512x384_S1x512x384_2_0_0)) (View.ld x1 (Rect.unit ![3, 0, 0] S1x512x384.size inb_S7x512x384_S1x512x384_3_0_0)) (View.ld x1 (Rect.unit ![4, 0, 0] S1x512x384.size inb_S7x512x384_S1x512x384_4_0_0)) (View.ld x1 (Rect.unit ![5, 0, 0] S1x512x384.size inb_S7x512x384_S1x512x384_5_0_0)) (View.ld x1 (Rect.unit ![6, 0, 0] S1x512x384.size inb_S7x512x384_S1x512x384_6_0_0))

/-- The gradient block of a point. -/
def gB : FVec Ideal S512x384 .f32 := gP (iblk m hO c 0 t) (iblk m hO c 1 t)

section blocks

variable (i : grid0.Coords) {a2 : Memref sig .tc .vmem S1x512x384 .bf16} {a3 : Memref sig .tc .vmem S7x512x384 .bf16} {a4 a5 a6 a7 a8 a9 a10 : Memref sig .tc .vmem S512x384 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x512x384 .bf16) (x1 : Vec Ideal S7x512x384 .bf16) (x2 x3 x4 : Vec Ideal S512x384 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x512x384 .bf16) (a : Fin 512) (b : Fin 384) :
    View.ld x1 (Rect.unit ![j, 0, 0] S1x512x384.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x512x384 .bf16) (x1 : Vec Ideal S7x512x384 .bf16) (a : Fin 512) (b : Fin 384) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 512) (b : Fin 384) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S512x384.Idx) : ∃ (r : Fin 512) (l : Fin 384), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S1024x384.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S1024x384.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S1024x384.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S1024x384.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S1024x384.Idx) : ∃ (a : Fin 1024) (b : Fin 384), i = ix2 a b := ⟨i 0, i 1, eq_ix2 i⟩

open Cert.AdamGateReferenceIdeal.Read

variable (o : S8x1024x384.Idx → EReal) (q : S7x1024x384.Idx → EReal) (d : IVec S1 32) (w mm v : S1024x384.Idx → EReal)

/-- The reference's own part, one of the eight. -/
theorem own_at {n : Fin 8} (hd : (d (ix1 0)).toNat = n.val) (k : Fin 8) (a : Fin 1024) (b : Fin 384) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamGateKernel :=
  fun m ρ h => Cert.AdamGateKernel.Gen.frame m ρ (K.ok m h)

/-- So does its idealized form. -/
theorem frame_KI : Cert.quiescent_AdamGateKernelIdeal :=
  fun m ρ h => Cert.AdamGateKernelIdeal.Gen.frame m ρ (KI.ok m h)

/-- So does the reference, whatever the number. -/
theorem frame_RI : Cert.quiescent_AdamGateReferenceIdeal := fun m ρ _ =>
  (θ_run _ _ _).mono (fun r h => ⟨fun c => ((h c).2.2.2.2), sem_eq_zero_of_no_sems (by decide) r.2⟩) (Cert.AdamGateReferenceIdeal.Value.run m ρ)

theorem frame_RI_pre : Cert.quiescent_AdamGateReferenceIdeal_pre_on_mesh_w_ffn_gate :=
  fun m ρ _ => frame_RI m ρ trivial

/-- The idealization rewrites nothing. -/
theorem preserves : Cert.preserves_AdamGateKernel_AdamGateKernelIdeal := trivial

/-- The kernel and the reference leave the same arrays. -/
theorem algebraic : Cert.algebraic_AdamGateKernelIdeal_AdamGateReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamGateReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamGateReferenceIdeal.Read.val_main_v9_eq, e0, e1, e2]
      exact ref9 _ _ _ rfl
    · rw [Cert.AdamGateReferenceIdeal.Read.val_main_v33_eq, e0, e1, e2, e3, e4, e5]
      exact ref33 _ _ _ _ _ _ rfl
    · rw [Cert.AdamGateReferenceIdeal.Read.val_main_v14_eq, e0, e1, e2, e4]
      exact ref14 _ _ _ _ rfl
    · rw [Cert.AdamGateReferenceIdeal.Read.val_main_v20_eq, e0, e1, e2, e5]
      exact ref20 _ _ _ _ rfl

end Cert.AdamGate

end
-- ==== Proof.AdamIn.lean ====
/- The AdamW update of a sharded weight, w_in: the eight devices' gradients added up, and the weight's
   moments and step from the sum. -/
module

public import proofs.«01_k».proof.Proof.Gen.AdamInKernel.Frame
public import proofs.«01_k».proof.Proof.Gen.AdamInKernelIdeal.Frame
public import proofs.«01_k».proof.Proof.Gen.AdamInReferenceIdeal.Run
public import proofs.«01_k».proof.Proof.Gen.AdamInReferenceIdeal.Read
public import proofs.«01_k».proof.Proof.Gen.Pre_on_mesh_w_in
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamIn

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_w_in.fn (F := F) a0 a1 a2 a3 a4 a5 = fun _ => 1#1) : (a2 (ix1 0)).toNat < 8 := by
  have e := congrFun h (ix1 0)
  simp only [Cert.Pre_on_mesh_w_in.fn, constantI, broadcastInDim, cmpi, andi, IntOp.andi, andi_one] at e
  simp only [ofBool_one, IntOp.cmpi] at e
  exact lt_of_cmp _ e.1 e.2

namespace K

open Cert.AdamInKernel Cert.AdamInKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamInKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamInKernelIdeal Cert.AdamInKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamInKernelIdeal m) : Fin 8 :=
  ⟨(m (((0 : Dev nD) : Thread nD τ).loc main_arg2) (ix1 0) : BitVec 32).toNat, lt_of_fn (h 0)⟩

/-- The table holds it. -/
theorem tbl_num (h : Cert.Pre_AdamInKernelIdeal m) : tbl m = pf (num m h) := by
  funext j x
  match j with
  | ⟨0, _⟩ =>
    have hx := one_idx x
    subst hx
    exact ofNat_self _

theorem ok (h : Cert.Pre_AdamInKernelIdeal m) : Ok m := by
  unfold Ok; rw [tbl_num m h]; exact ok_pf _

end KI

open Cert.AdamInKernelIdeal Cert.AdamInKernelIdeal.Gen KI

/-- The gradient: the device's own part and the seven received, added up. -/
def gA (n : Fin 8) (o : S8x1024x736.Idx → EReal) (q : S7x1024x736.Idx → EReal) : S1024x736.Idx → EReal := fun i =>
  o (ix3 n (i 0) (i 1)) + ∑ k : Fin 7, q (ix3 k (i 0) (i 1))

/-- The new moments and the step, place by place. -/
def mA (n : Fin 8) (o : S8x1024x736.Idx → EReal) (q : S7x1024x736.Idx → EReal) (mm : S1024x736.Idx → EReal) : S1024x736.Idx → EReal := fun i =>
  mom1 (gA n o q i) (mm i)
def vA (n : Fin 8) (o : S8x1024x736.Idx → EReal) (q : S7x1024x736.Idx → EReal) (v : S1024x736.Idx → EReal) : S1024x736.Idx → EReal := fun i =>
  mom2 (gA n o q i) (v i)
def dA (n : Fin 8) (o : S8x1024x736.Idx → EReal) (q : S7x1024x736.Idx → EReal) (w mm v : S1024x736.Idx → EReal) : S1024x736.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x1024x736.Idx → EReal := m ((c : Thread nD τ).loc main_arg0)
abbrev aQ : S7x1024x736.Idx → EReal := m ((c : Thread nD τ).loc main_arg1)
abbrev aW : S1024x736.Idx → EReal := m ((c : Thread nD τ).loc main_arg3)
abbrev aM : S1024x736.Idx → EReal := m ((c : Thread nD τ).loc main_arg4)
abbrev aV : S1024x736.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 256) : Fin 1024 := ⟨t.val * 256 + r.val, by have := lt_of_lt_of_eq t.isLt N_0; omega⟩

/-- A block's place in its array: the block's index times its size, plus the place in the block. -/
theorem at2 {f : Fin 2 → ℕ} (e : f = ![t.val, 0]) (r : Fin 256) (l : Fin 736) (x : Fin 2) :
    f x * S256x736.size x + (ix2 r l x).val = (ix2 (pt t r) l x).val := by
  subst e
  unfold pt
  fin_cases x
  · rfl
  · show 0 * _ + l.val = l.val; omega

/-- The block holding a row of an array. -/
def tOf (i : S1024x736.Idx) : Fin grid0.N :=
  ⟨(i 0).val / 256, by have hi : (i 0).val < 1024 := (i 0).isLt; rw [N_0]; omega⟩

theorem in2 (i : S1024x736.Idx) {f : Fin 2 → ℕ} (e : f = ![(tOf i).val, 0]) (x : Fin 2) :
    f x * S256x736.size x ≤ (i x).val ∧ (i x).val < f x * S256x736.size x + S256x736.size x := by
  subst e
  have hi : (i 1).val < 736 := (i 1).isLt
  unfold tOf
  fin_cases x
  · show (i 0).val / 256 * 256 ≤ (i 0).val ∧ (i 0).val < (i 0).val / 256 * 256 + 256
    omega
  · show 0 * 736 ≤ (i 1).val ∧ (i 1).val < 0 * 736 + 736
    omega

/-- The blocks a point reads, in the arguments. -/
theorem blk0 {n : Fin 8} (hn : tbl m = pf n) (a : Fin 256) (b : Fin 736) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 256) (b : Fin 736) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 256) (b : Fin 736) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 256) (b : Fin 736) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 256) (b : Fin 736) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x256x736 .bf16) (a : Fin 256) (b : Fin 736) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S256x736 .f32) (x : Vec Ideal S256x736 .f32) (a : Fin 256) (b : Fin 736) :
    k0_pay1 (F := Ideal) g x (ix2 a b) = mom1 (g (ix2 a b)) (x (ix2 a b)) := by
  unfold mom1
  pointwise [k0_pay1]

theorem p2 (g : FVec Ideal S256x736 .f32) (x : Vec Ideal S256x736 .f32) (a : Fin 256) (b : Fin 736) :
    k0_pay2 (F := Ideal) g x (ix2 a b) = mom2 (g (ix2 a b)) (x (ix2 a b)) := by
  unfold mom2
  pointwise [k0_pay2]

theorem p3 (g : FVec Ideal S256x736 .f32) (w x v : Vec Ideal S256x736 .f32) (a : Fin 256) (b : Fin 736) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x256x736 .bf16) (x1 : Vec Ideal S7x256x736 .bf16) : FVec Ideal S256x736 .f32 :=
  k0_pay4 (F := Ideal) x0 (View.ld x1 (Rect.unit ![0, 0, 0] S1x256x736.size inb_S7x256x736_S1x256x736_0_0_0)) (View.ld x1 (Rect.unit ![1, 0, 0] S1x256x736.size inb_S7x256x736_S1x256x736_1_0_0)) (View.ld x1 (Rect.unit ![2, 0, 0] S1x256x736.size inb_S7x256x736_S1x256x736_2_0_0)) (View.ld x1 (Rect.unit ![3, 0, 0] S1x256x736.size inb_S7x256x736_S1x256x736_3_0_0)) (View.ld x1 (Rect.unit ![4, 0, 0] S1x256x736.size inb_S7x256x736_S1x256x736_4_0_0)) (View.ld x1 (Rect.unit ![5, 0, 0] S1x256x736.size inb_S7x256x736_S1x256x736_5_0_0)) (View.ld x1 (Rect.unit ![6, 0, 0] S1x256x736.size inb_S7x256x736_S1x256x736_6_0_0))

/-- The gradient block of a point. -/
def gB : FVec Ideal S256x736 .f32 := gP (iblk m hO c 0 t) (iblk m hO c 1 t)

section blocks

variable (i : grid0.Coords) {a2 : Memref sig .tc .vmem S1x256x736 .bf16} {a3 : Memref sig .tc .vmem S7x256x736 .bf16} {a4 a5 a6 a7 a8 a9 a10 : Memref sig .tc .vmem S256x736 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x256x736 .bf16) (x1 : Vec Ideal S7x256x736 .bf16) (x2 x3 x4 : Vec Ideal S256x736 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x256x736 .bf16) (a : Fin 256) (b : Fin 736) :
    View.ld x1 (Rect.unit ![j, 0, 0] S1x256x736.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x256x736 .bf16) (x1 : Vec Ideal S7x256x736 .bf16) (a : Fin 256) (b : Fin 736) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 256) (b : Fin 736) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S256x736.Idx) : ∃ (r : Fin 256) (l : Fin 736), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S1024x736.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S1024x736.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S1024x736.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S1024x736.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S1024x736.Idx) : ∃ (a : Fin 1024) (b : Fin 736), i = ix2 a b := ⟨i 0, i 1, eq_ix2 i⟩

open Cert.AdamInReferenceIdeal.Read

variable (o : S8x1024x736.Idx → EReal) (q : S7x1024x736.Idx → EReal) (d : IVec S1 32) (w mm v : S1024x736.Idx → EReal)

/-- The reference's own part, one of the eight. -/
theorem own_at {n : Fin 8} (hd : (d (ix1 0)).toNat = n.val) (k : Fin 8) (a : Fin 1024) (b : Fin 736) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamInKernel :=
  fun m ρ h => Cert.AdamInKernel.Gen.frame m ρ (K.ok m h)

/-- So does its idealized form. -/
theorem frame_KI : Cert.quiescent_AdamInKernelIdeal :=
  fun m ρ h => Cert.AdamInKernelIdeal.Gen.frame m ρ (KI.ok m h)

/-- So does the reference, whatever the number. -/
theorem frame_RI : Cert.quiescent_AdamInReferenceIdeal := fun m ρ _ =>
  (θ_run _ _ _).mono (fun r h => ⟨fun c => ((h c).2.2.2.2), sem_eq_zero_of_no_sems (by decide) r.2⟩) (Cert.AdamInReferenceIdeal.Value.run m ρ)

theorem frame_RI_pre : Cert.quiescent_AdamInReferenceIdeal_pre_on_mesh_w_in :=
  fun m ρ _ => frame_RI m ρ trivial

/-- The idealization rewrites nothing. -/
theorem preserves : Cert.preserves_AdamInKernel_AdamInKernelIdeal := trivial

/-- The kernel and the reference leave the same arrays. -/
theorem algebraic : Cert.algebraic_AdamInKernelIdeal_AdamInReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamInReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamInReferenceIdeal.Read.val_main_v9_eq, e0, e1, e2]
      exact ref9 _ _ _ rfl
    · rw [Cert.AdamInReferenceIdeal.Read.val_main_v33_eq, e0, e1, e2, e3, e4, e5]
      exact ref33 _ _ _ _ _ _ rfl
    · rw [Cert.AdamInReferenceIdeal.Read.val_main_v14_eq, e0, e1, e2, e4]
      exact ref14 _ _ _ _ rfl
    · rw [Cert.AdamInReferenceIdeal.Read.val_main_v20_eq, e0, e1, e2, e5]
      exact ref20 _ _ _ _ rfl

end Cert.AdamIn

end
-- ==== Proof.AdamOut.lean ====
/- The AdamW update of a sharded weight, w_out: the eight devices' gradients added up, and the weight's
   moments and step from the sum. -/
module

public import proofs.«01_k».proof.Proof.Gen.AdamOutKernel.Frame
public import proofs.«01_k».proof.Proof.Gen.AdamOutKernelIdeal.Frame
public import proofs.«01_k».proof.Proof.Gen.AdamOutReferenceIdeal.Run
public import proofs.«01_k».proof.Proof.Gen.AdamOutReferenceIdeal.Read
public import proofs.«01_k».proof.Proof.Gen.Pre_on_mesh_w_out
public import proofs.«01_k».proof.Defs
public import Idealize.ShloMosaic.Lib.Pipeline.ValueKit
public import Idealize.ShloMosaic.Lib.Pipeline.Value
public import Idealize.ShloMosaic.Lib.Pointwise
public import Idealize.ShloMosaic.Lib.Claim
public import proofs.«01_k».proof.Proof.Adam

@[expose] public section

set_option maxRecDepth 16384

noncomputable section

namespace Cert.AdamOut

open Idealize.ShloMosaic Idealize.ShloMosaic.TcCoe Idealize.SL.Sem
open Cert.Adam

/-- The precondition says the device's number is one of the eight. -/
theorem lt_of_fn {F : FTy → Type} [FloatOps F] {a0 a1 a2 a3 a4 a5}
    (h : Cert.Pre_on_mesh_w_out.fn (F := F) a0 a1 a2 a3 a4 a5 = fun _ => 1#1) : (a2 (ix1 0)).toNat < 8 := by
  have e := congrFun h (ix1 0)
  simp only [Cert.Pre_on_mesh_w_out.fn, constantI, broadcastInDim, cmpi, andi, IntOp.andi, andi_one] at e
  simp only [ofBool_one, IntOp.cmpi] at e
  exact lt_of_cmp _ e.1 e.2

namespace K

open Cert.AdamOutKernel Cert.AdamOutKernel.Gen

set_option backward.proofsInPublic true in
/-- The table's contents on the device numbered `n`. -/
def pf (n : Fin 8) : pre0.Contents (Elt Bits) := fun | ⟨0, _⟩ => fun _ => BitVec.ofNat 32 n.val | ⟨_ + 1, h⟩ => absurd h (by simp)

/-- On every one of the eight devices the block read lies inside the array. -/
theorem ok_pf : ∀ n : Fin 8, ok0 (F := Bits) (pf n) := by decide +kernel

variable (m : (ℓ : Loc nD τ sig) → Buf (Elt Bits) ℓ)

theorem ok (h : Cert.Pre_AdamOutKernel m) : Ok m := by
  have e : tbl m = pf ⟨_, lt_of_fn (h 0)⟩ := by
    funext j x
    match j with
    | ⟨0, _⟩ =>
      have hx := one_idx x
      subst hx
      exact ofNat_self _
  unfold Ok; rw [e]; exact ok_pf _

end K

namespace KI

open Cert.AdamOutKernelIdeal Cert.AdamOutKernelIdeal.Gen

set_option backward.proofsInPublic true in
/-- The table's contents on the device numbered `n`. -/
def pf (n : Fin 8) : pre0.Contents (Elt Ideal) := fun | ⟨0, _⟩ => fun _ => BitVec.ofNat 32 n.val | ⟨_ + 1, h⟩ => absurd h (by simp)

/-- On every one of the eight devices the block read lies inside the array. -/
theorem ok_pf : ∀ n : Fin 8, ok0 (F := Ideal) (pf n) := by decide +kernel

variable (m : (ℓ : Loc nD τ sig) → Buf (Elt Ideal) ℓ)

/-- The device's number. -/
def num (h : Cert.Pre_AdamOutKernelIdeal m) : Fin 8 :=
  ⟨(m (((0 : Dev nD) : Thread nD τ).loc main_arg2) (ix1 0) : BitVec 32).toNat, lt_of_fn (h 0)⟩

/-- The table holds it. -/
theorem tbl_num (h : Cert.Pre_AdamOutKernelIdeal m) : tbl m = pf (num m h) := by
  funext j x
  match j with
  | ⟨0, _⟩ =>
    have hx := one_idx x
    subst hx
    exact ofNat_self _

theorem ok (h : Cert.Pre_AdamOutKernelIdeal m) : Ok m := by
  unfold Ok; rw [tbl_num m h]; exact ok_pf _

end KI

open Cert.AdamOutKernelIdeal Cert.AdamOutKernelIdeal.Gen KI

/-- The gradient: the device's own part and the seven received, added up. -/
def gA (n : Fin 8) (o : S8x128x1024.Idx → EReal) (q : S7x128x1024.Idx → EReal) : S128x1024.Idx → EReal := fun i =>
  o (ix3 n (i 0) (i 1)) + ∑ k : Fin 7, q (ix3 k (i 0) (i 1))

/-- The new moments and the step, place by place. -/
def mA (n : Fin 8) (o : S8x128x1024.Idx → EReal) (q : S7x128x1024.Idx → EReal) (mm : S128x1024.Idx → EReal) : S128x1024.Idx → EReal := fun i =>
  mom1 (gA n o q i) (mm i)
def vA (n : Fin 8) (o : S8x128x1024.Idx → EReal) (q : S7x128x1024.Idx → EReal) (v : S128x1024.Idx → EReal) : S128x1024.Idx → EReal := fun i =>
  mom2 (gA n o q i) (v i)
def dA (n : Fin 8) (o : S8x128x1024.Idx → EReal) (q : S7x128x1024.Idx → EReal) (w mm v : S128x1024.Idx → EReal) : S128x1024.Idx → EReal := fun i =>
  step (gA n o q i) (w i) (mm i) (v i)

section

variable (m : (ℓ : Loc nD τ sig) → Buf (Elt Ideal) ℓ) (hO : Ok m) (c : Dev nD) (t : Fin grid0.N)

/-- The arguments of the launch. -/
abbrev aO : S8x128x1024.Idx → EReal := m ((c : Thread nD τ).loc main_arg0)
abbrev aQ : S7x128x1024.Idx → EReal := m ((c : Thread nD τ).loc main_arg1)
abbrev aW : S128x1024.Idx → EReal := m ((c : Thread nD τ).loc main_arg3)
abbrev aM : S128x1024.Idx → EReal := m ((c : Thread nD τ).loc main_arg4)
abbrev aV : S128x1024.Idx → EReal := m ((c : Thread nD τ).loc main_arg5)

/-- The windows' block indices at a grid point. -/
theorem idx0 : ∀ n : Fin 8, ∀ t : Fin grid0.N, ix0 (F := Ideal) (pf n) 0 (grid0.coords t) = ![n.val, t.val, 0] := by decide +kernel

theorem idx : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem idxt {n : Fin 8} (hn : tbl m = pf n) : ix0 (F := Ideal) (tbl m) 0 (grid0.coords t) = ![n.val, t.val, 0] := by
  rw [hn]; exact idx0 n t

/-- The row in the arrays of a point's row. -/
def pt (r : Fin 128) : Fin 128 := ⟨t.val * 128 + r.val, by have := lt_of_lt_of_eq t.isLt N_0; omega⟩

/-- A block's place in its array: the block's index times its size, plus the place in the block. -/
theorem at2 {f : Fin 2 → ℕ} (e : f = ![t.val, 0]) (r : Fin 128) (l : Fin 1024) (x : Fin 2) :
    f x * S128x1024.size x + (ix2 r l x).val = (ix2 (pt t r) l x).val := by
  subst e
  unfold pt
  fin_cases x
  · rfl
  · show 0 * _ + l.val = l.val; omega

/-- The block holding a row of an array. -/
def tOf (i : S128x1024.Idx) : Fin grid0.N :=
  ⟨(i 0).val / 128, by have hi : (i 0).val < 128 := (i 0).isLt; rw [N_0]; omega⟩

theorem in2 (i : S128x1024.Idx) {f : Fin 2 → ℕ} (e : f = ![(tOf i).val, 0]) (x : Fin 2) :
    f x * S128x1024.size x ≤ (i x).val ∧ (i x).val < f x * S128x1024.size x + S128x1024.size x := by
  subst e
  have hi : (i 1).val < 1024 := (i 1).isLt
  unfold tOf
  fin_cases x
  · show (i 0).val / 128 * 128 ≤ (i 0).val ∧ (i 0).val < (i 0).val / 128 * 128 + 128
    omega
  · show 0 * 1024 ≤ (i 1).val ∧ (i 1).val < 0 * 1024 + 1024
    omega

/-- The blocks a point reads, in the arguments. -/
theorem blk0 {n : Fin 8} (hn : tbl m = pf n) (a : Fin 128) (b : Fin 1024) :
    iblk m hO c 0 t (ix3 (0 : Fin 1) a b) = aO m c (ix3 n (pt t a) b) := by
  unfold iblk
  refine congrArg (m ((c : Thread nD τ).loc main_arg0)) (funext fun x => Fin.ext ?_)
  refine (Pipeline.Window.rect_emb_val ((cfgM m hO).win 0) t (ix3 (0 : Fin 1) a b) x rfl).trans ?_
  have e : ((cfgM m hO).win 0).index t = ![n.val, t.val, 0] := idxt m t hn
  rw [e]
  unfold pt
  fin_cases x
  · show n.val * 1 + 0 = n.val; omega
  · rfl
  · show 0 * _ + b.val = b.val; omega

theorem blk1 (k : Fin 7) (a : Fin 128) (b : Fin 1024) : iblk m hO c 1 t (ix3 k a b) = aQ m c (ix3 k (pt t a) b) := by
  unfold iblk
  refine congrArg (m ((c : Thread nD τ).loc main_arg1)) (funext fun x => Fin.ext ?_)
  refine (Pipeline.Window.rect_emb_val ((cfgM m hO).win 1) t (ix3 k a b) x rfl).trans ?_
  have e : ((cfgM m hO).win 1).index t = ![0, t.val, 0] := (idx t).1
  rw [e]
  unfold pt
  fin_cases x
  · show 0 * _ + k.val = k.val; omega
  · rfl
  · show 0 * _ + b.val = b.val; omega

theorem blk2 (a : Fin 128) (b : Fin 1024) : iblk m hO c 2 t (ix2 a b) = aW m c (ix2 (pt t a) b) := by
  unfold iblk
  exact congrArg (m ((c : Thread nD τ).loc main_arg3)) (funext fun x => Fin.ext
    ((Pipeline.Window.rect_emb_val ((cfgM m hO).win 2) t (ix2 a b) x rfl).trans (at2 t (idx t).2.1 a b x)))

theorem blk3 (a : Fin 128) (b : Fin 1024) : iblk m hO c 3 t (ix2 a b) = aM m c (ix2 (pt t a) b) := by
  unfold iblk
  exact congrArg (m ((c : Thread nD τ).loc main_arg4)) (funext fun x => Fin.ext
    ((Pipeline.Window.rect_emb_val ((cfgM m hO).win 3) t (ix2 a b) x rfl).trans (at2 t (idx t).2.2.1 a b x)))

theorem blk4 (a : Fin 128) (b : Fin 1024) : iblk m hO c 4 t (ix2 a b) = aV m c (ix2 (pt t a) b) := by
  unfold iblk
  exact congrArg (m ((c : Thread nD τ).loc main_arg5)) (funext fun x => Fin.ext
    ((Pipeline.Window.rect_emb_val ((cfgM m hO).win 4) t (ix2 a b) x rfl).trans (at2 t (idx t).2.2.2.1 a b x)))

/-- The payloads at a place. -/
theorem p4 (v0 v3 v7 v11 v15 v19 v23 v27 : Vec Ideal S1x128x1024 .bf16) (a : Fin 128) (b : Fin 1024) :
    k0_pay4 (F := Ideal) v0 v3 v7 v11 v15 v19 v23 v27 (ix2 a b) = (((((((v0 (ix3 0 a b) + v3 (ix3 0 a b)) + v7 (ix3 0 a b)) + v11 (ix3 0 a b)) + v15 (ix3 0 a b)) + v19 (ix3 0 a b)) + v23 (ix3 0 a b)) + v27 (ix3 0 a b)) := by
  pointwise [k0_pay4]

theorem p1 (g : FVec Ideal S128x1024 .f32) (x : Vec Ideal S128x1024 .f32) (a : Fin 128) (b : Fin 1024) :
    k0_pay1 (F := Ideal) g x (ix2 a b) = mom1 (g (ix2 a b)) (x (ix2 a b)) := by
  unfold mom1
  pointwise [k0_pay1]

theorem p2 (g : FVec Ideal S128x1024 .f32) (x : Vec Ideal S128x1024 .f32) (a : Fin 128) (b : Fin 1024) :
    k0_pay2 (F := Ideal) g x (ix2 a b) = mom2 (g (ix2 a b)) (x (ix2 a b)) := by
  unfold mom2
  pointwise [k0_pay2]

theorem p3 (g : FVec Ideal S128x1024 .f32) (w x v : Vec Ideal S128x1024 .f32) (a : Fin 128) (b : Fin 1024) :
    k0_pay3 (F := Ideal) g w x v (ix2 a b) = step (g (ix2 a b)) (w (ix2 a b)) (x (ix2 a b)) (v (ix2 a b)) := by
  unfold step mom1 mom2
  pointwise [k0_pay3, k0_pay1, k0_pay2]

/-- The gradient block, from the blocks of the device's own part and of the seven received. -/
def gP (x0 : Vec Ideal S1x128x1024 .bf16) (x1 : Vec Ideal S7x128x1024 .bf16) : FVec Ideal S128x1024 .f32 :=
  k0_pay4 (F := Ideal) x0 (View.ld x1 (Rect.unit ![0, 0, 0] S1x128x1024.size inb_S7x128x1024_S1x128x1024_0_0_0)) (View.ld x1 (Rect.unit ![1, 0, 0] S1x128x1024.size inb_S7x128x1024_S1x128x1024_1_0_0)) (View.ld x1 (Rect.unit ![2, 0, 0] S1x128x1024.size inb_S7x128x1024_S1x128x1024_2_0_0)) (View.ld x1 (Rect.unit ![3, 0, 0] S1x128x1024.size inb_S7x128x1024_S1x128x1024_3_0_0)) (View.ld x1 (Rect.unit ![4, 0, 0] S1x128x1024.size inb_S7x128x1024_S1x128x1024_4_0_0)) (View.ld x1 (Rect.unit ![5, 0, 0] S1x128x1024.size inb_S7x128x1024_S1x128x1024_5_0_0)) (View.ld x1 (Rect.unit ![6, 0, 0] S1x128x1024.size inb_S7x128x1024_S1x128x1024_6_0_0))

/-- The gradient block of a point. -/
def gB : FVec Ideal S128x1024 .f32 := gP (iblk m hO c 0 t) (iblk m hO c 1 t)

section blocks

variable (i : grid0.Coords) {a2 : Memref sig .tc .vmem S1x128x1024 .bf16} {a3 : Memref sig .tc .vmem S7x128x1024 .bf16} {a4 a5 a6 a7 a8 a9 a10 : Memref sig .tc .vmem S128x1024 .f32}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec Ideal S1x128x1024 .bf16) (x1 : Vec Ideal S7x128x1024 .bf16) (x2 x3 x4 : Vec Ideal S128x1024 .f32) (xt : TbBuf0 (F := Ideal) c tbM0_0)

/-- What a point's run leaves in each output, from the blocks. -/
theorem out : (out0_A_5 c i _ h2 _ h3 _ h4 _ h5 _ h6 _ h7 _ h8 _ h9 _ h10 x0 x1 x2 x3 x4 xt, out0_A_6 c i _ h2 _ h3 _ h4 _ h5 _ h6 _ h7 _ h8 _ h9 _ h10 x0 x1 x2 x3 x4 xt, out0_A_7 c i _ h2 _ h3 _ h4 _ h5 _ h6 _ h7 _ h8 _ h9 _ h10 x0 x1 x2 x3 x4 xt, out0_A_8 c i _ h2 _ h3 _ h4 _ h5 _ h6 _ h7 _ h8 _ h9 _ h10 x0 x1 x2 x3 x4 xt)
    = (gP x0 x1, k0_pay3 (F := Ideal) (gP x0 x1) x2 x3 x4, k0_pay1 (F := Ideal) (gP x0 x1) x3, k0_pay2 (F := Ideal) (gP x0 x1) x4) := by
  refine congrArg₂ Prod.mk ?_ (congrArg₂ Prod.mk ?_ (congrArg₂ Prod.mk ?_ ?_))
  · unfold out0_A_5 gP; frame_out
  · unfold out0_A_6 gP; frame_out
  · unfold out0_A_7 gP; frame_out
  · unfold out0_A_8 gP; frame_out

end blocks

theorem ld (j : ℕ) (hj : j < 7) (inb) (x1 : Vec Ideal S7x128x1024 .bf16) (a : Fin 128) (b : Fin 1024) :
    View.ld x1 (Rect.unit ![j, 0, 0] S1x128x1024.size inb) (ix3 (0 : Fin 1) a b) = x1 (ix3 ⟨j, hj⟩ a b) :=
  View.ld_unit_apply_of _ _ _ _ _ (ix3 ⟨j, hj⟩ a b) (fun x => by fin_cases x <;> simp)

theorem gP_at (x0 : Vec Ideal S1x128x1024 .bf16) (x1 : Vec Ideal S7x128x1024 .bf16) (a : Fin 128) (b : Fin 1024) :
    gP x0 x1 (ix2 a b) = x0 (ix3 0 a b) + ∑ k : Fin 7, x1 (ix3 k a b) := by
  unfold gP
  refine (p4 _ _ _ _ _ _ _ _ a b).trans ?_
  rw [ld 0 (by omega), ld 1 (by omega), ld 2 (by omega), ld 3 (by omega), ld 4 (by omega), ld 5 (by omega), ld 6 (by omega)]
  simp only [Fin.sum_univ_seven, add_assoc]
  rfl

theorem gB_at {n : Fin 8} (hn : tbl m = pf n) (a : Fin 128) (b : Fin 1024) :
    gB m hO c t (ix2 a b) = gA n (aO m c) (aQ m c) (ix2 (pt t a) b) :=
  (gP_at _ _ a b).trans (congrArg₂ (fun x y : EReal => x + y) (blk0 m hO c t hn a b) (Finset.sum_congr rfl fun k _ => blk1 m hO c t k a b))

/-- Every place of a block is a row and a column. -/
theorem places (y : S128x1024.Idx) : ∃ (r : Fin 128) (l : Fin 1024), y = ix2 r l := ⟨y 0, y 1, eq_ix2 y⟩

/-- What a point leaves in the outputs' blocks. -/
theorem outs : outsAt0 m hO c t = (gB m hO c t, k0_pay3 (F := Ideal) (gB m hO c t) (iblk m hO c 2 t) (iblk m hO c 3 t) (iblk m hO c 4 t),
    k0_pay1 (F := Ideal) (gB m hO c t) (iblk m hO c 3 t), k0_pay2 (F := Ideal) (gB m hO c t) (iblk m hO c 4 t)) := by
  unfold outsAt0 gB
  exact out c (grid0.coords t) (hs0_0 m hO t) (hs0_1 m hO t) (hs0_2 m hO t) (hs0_3 m hO t) (hs0_4 m hO t) (hs0_5 m hO t) (hs0_6 m hO t) (hs0_7 m hO t) (hs0_8 m hO t) (iblk m hO c 0 t) (iblk m hO c 1 t) (iblk m hO c 2 t) (iblk m hO c 3 t) (iblk m hO c 4 t) (tbl m 0)

/-- The array the kernel leaves in window 5. -/
theorem arr5 {n : Fin 8} (hn : tbl m = pf n) : (dats m hO 0 c).arrAt 5 (cfgM m hO).N = gA n (aO m c) (aQ m c) := by
  refine (dats m hO 0 c).arrAt_eq_of_cover 5 _ (fun t _ => ?_) (fun (i : S128x1024.Idx) => ?_)
  · show ((cfgM m hO).win 5).cut (grid0.coords t) ((dats m hO 0 c).after 5 t) = _
    rw [after0_5, outs]
    funext y
    obtain ⟨r, l, rfl⟩ := places y
    refine Eq.trans (gB_at m hO c t hn r l) (congrArg (gA n (aO m c) (aQ m c)) (funext fun x => Fin.ext ?_)).symm
    exact (Pipeline.Window.rect_emb_val ((cfgM m hO).win 5) t (ix2 r l) x rfl).trans (at2 t (idx t).2.2.2.2.1 r l x)
  · refine ⟨tOf i, flush0_5 _ _, ?_⟩
    show i ∈ ((View.whole main_v0_0).slice (((cfgM m hO).win 5).rect (tOf i))).set
    erw [View.set_slice_whole]
    exact (Pipeline.Window.mem_rect_iff ((cfgM m hO).win 5) (tOf i) i (by rfl)).mpr (in2 i (idx (tOf i)).2.2.2.2.1)

/-- The array the kernel leaves in window 6. -/
theorem arr6 {n : Fin 8} (hn : tbl m = pf n) : (dats m hO 0 c).arrAt 6 (cfgM m hO).N = dA n (aO m c) (aQ m c) (aW m c) (aM m c) (aV m c) := by
  refine (dats m hO 0 c).arrAt_eq_of_cover 6 _ (fun t _ => ?_) (fun (i : S128x1024.Idx) => ?_)
  · show ((cfgM m hO).win 6).cut (grid0.coords t) ((dats m hO 0 c).after 6 t) = _
    rw [after0_6, outs]
    funext y
    obtain ⟨r, l, rfl⟩ := places y
    refine Eq.trans ((p3 _ _ _ _ r l).trans (step_congr (gB_at m hO c t hn r l) (blk2 m hO c t r l) (blk3 m hO c t r l) (blk4 m hO c t r l))) (congrArg (dA n (aO m c) (aQ m c) (aW m c) (aM m c) (aV m c)) (funext fun x => Fin.ext ?_)).symm
    exact (Pipeline.Window.rect_emb_val ((cfgM m hO).win 6) t (ix2 r l) x rfl).trans (at2 t (idx t).2.2.2.2.2.1 r l x)
  · refine ⟨tOf i, flush0_6 _ _, ?_⟩
    show i ∈ ((View.whole main_v0_1).slice (((cfgM m hO).win 6).rect (tOf i))).set
    erw [View.set_slice_whole]
    exact (Pipeline.Window.mem_rect_iff ((cfgM m hO).win 6) (tOf i) i (by rfl)).mpr (in2 i (idx (tOf i)).2.2.2.2.2.1)

/-- The array the kernel leaves in window 7. -/
theorem arr7 {n : Fin 8} (hn : tbl m = pf n) : (dats m hO 0 c).arrAt 7 (cfgM m hO).N = mA n (aO m c) (aQ m c) (aM m c) := by
  refine (dats m hO 0 c).arrAt_eq_of_cover 7 _ (fun t _ => ?_) (fun (i : S128x1024.Idx) => ?_)
  · show ((cfgM m hO).win 7).cut (grid0.coords t) ((dats m hO 0 c).after 7 t) = _
    rw [after0_7, outs]
    funext y
    obtain ⟨r, l, rfl⟩ := places y
    refine Eq.trans ((p1 _ _ r l).trans (congrArg₂ mom1 (gB_at m hO c t hn r l) (blk3 m hO c t r l))) (congrArg (mA n (aO m c) (aQ m c) (aM m c)) (funext fun x => Fin.ext ?_)).symm
    exact (Pipeline.Window.rect_emb_val ((cfgM m hO).win 7) t (ix2 r l) x rfl).trans (at2 t (idx t).2.2.2.2.2.2.1 r l x)
  · refine ⟨tOf i, flush0_7 _ _, ?_⟩
    show i ∈ ((View.whole main_v0_2).slice (((cfgM m hO).win 7).rect (tOf i))).set
    erw [View.set_slice_whole]
    exact (Pipeline.Window.mem_rect_iff ((cfgM m hO).win 7) (tOf i) i (by rfl)).mpr (in2 i (idx (tOf i)).2.2.2.2.2.2.1)

/-- The array the kernel leaves in window 8. -/
theorem arr8 {n : Fin 8} (hn : tbl m = pf n) : (dats m hO 0 c).arrAt 8 (cfgM m hO).N = vA n (aO m c) (aQ m c) (aV m c) := by
  refine (dats m hO 0 c).arrAt_eq_of_cover 8 _ (fun t _ => ?_) (fun (i : S128x1024.Idx) => ?_)
  · show ((cfgM m hO).win 8).cut (grid0.coords t) ((dats m hO 0 c).after 8 t) = _
    rw [after0_8, outs]
    funext y
    obtain ⟨r, l, rfl⟩ := places y
    refine Eq.trans ((p2 _ _ r l).trans (congrArg₂ mom2 (gB_at m hO c t hn r l) (blk4 m hO c t r l))) (congrArg (vA n (aO m c) (aQ m c) (aV m c)) (funext fun x => Fin.ext ?_)).symm
    exact (Pipeline.Window.rect_emb_val ((cfgM m hO).win 8) t (ix2 r l) x rfl).trans (at2 t (idx t).2.2.2.2.2.2.2 r l x)
  · refine ⟨tOf i, flush0_8 _ _, ?_⟩
    show i ∈ ((View.whole main_v0_3).slice (((cfgM m hO).win 8).rect (tOf i))).set
    erw [View.set_slice_whole]
    exact (Pipeline.Window.mem_rect_iff ((cfgM m hO).win 8) (tOf i) i (by rfl)).mpr (in2 i (idx (tOf i)).2.2.2.2.2.2.2)

/-- The kernel's run, with what it leaves. -/
theorem run (m : (ℓ : Loc nD τ sig) → Buf (Elt Ideal) ℓ) (hO : Ok m) (ρ : Dev nD → PrngReg) {n : Fin 8} (hn : tbl m = pf n) : θ_run defs (onTc (τ := τ) (main (F := Ideal))) ⟨m, fun _ => 0, ρ⟩ fun r => ∀ c : Dev nD,
      r.2.mem ((c : Thread nD τ).loc main_v0_0) = gA n (aO m c) (aQ m c)
      ∧ r.2.mem ((c : Thread nD τ).loc main_v0_1) = dA n (aO m c) (aQ m c) (aW m c) (aM m c) (aV m c)
      ∧ r.2.mem ((c : Thread nD τ).loc main_v0_2) = mA n (aO m c) (aQ m c) (aM m c)
      ∧ r.2.mem ((c : Thread nD τ).loc main_v0_3) = vA n (aO m c) (aQ m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (arr5 m hO c hn), ((h c).1 6).trans (arr6 m hO c hn),
      ((h c).1 7).trans (arr7 m hO c hn), ((h c).1 8).trans (arr8 m hO c hn),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end

section ref

/-- Every place of the array is a row and a column. -/
theorem spots (i : S128x1024.Idx) : ∃ (a : Fin 128) (b : Fin 1024), i = ix2 a b := ⟨i 0, i 1, eq_ix2 i⟩

open Cert.AdamOutReferenceIdeal.Read

variable (o : S8x128x1024.Idx → EReal) (q : S7x128x1024.Idx → EReal) (d : IVec S1 32) (w mm v : S128x1024.Idx → EReal)

/-- The reference's own part, one of the eight. -/
theorem own_at {n : Fin 8} (hd : (d (ix1 0)).toNat = n.val) (k : Fin 8) (a : Fin 128) (b : Fin 1024) :
    val_main_v5 (F := Ideal) o d (ix3 k a b) = if k = n then o (ix3 k a b) else 0 := by
  refine Eq.trans ?_ (select_eq (d (ix1 0)) k n hd (o (ix3 k a b)) 0)
  pointwise [val_main_v5, val_main_v4, val_main_call0_v1, val_main_call0_v2, val_main_call0_v0, val_main_cst, val_main_v3, val_main_v2, val_main_v1, val_main_v0]
  exact congrArg (Scalar.select _ (o (ix3 k a b))) zero_bits

/-- The reference's gradient is the same sum. -/
theorem ref9 {n : Fin 8} (hd : (d (ix1 0)).toNat = n.val) : val_main_v9 (F := Ideal) o q d = gA n o q := by
  funext i
  obtain ⟨a, b, rfl⟩ := spots i
  unfold gA
  rw [val_main_v9_apply, val_main_v8_apply, val_main_v6_apply]
  refine congrArg₂ (fun x y : EReal => x + y) ?_ ?_
  · refine Eq.trans (congrArg₂ (fun x y : EReal => x + y) zero_bits (Finset.sum_congr rfl fun k _ => ?_)) ((zero_add _).trans
      (Finset.sum_ite_eq' Finset.univ n fun k => o (ix3 k a b)) |>.trans (if_pos (Finset.mem_univ _)))
    refine Eq.trans (congrArg (val_main_v5 (F := Ideal) o d) (funext fun x => Fin.ext ?_)) (own_at o d hd k a b)
    match x with | ⟨0, _⟩ => rfl | ⟨1, _⟩ => rfl | ⟨2, _⟩ => rfl
  · refine Eq.trans (congrArg₂ (fun x y : EReal => x + y) zero_bits (Finset.sum_congr rfl fun k _ => ?_)) (zero_add _)
    exact congrArg q (funext fun x => Fin.ext (by match x with | ⟨0, _⟩ => rfl | ⟨1, _⟩ => rfl | ⟨2, _⟩ => rfl))

/-- So are its moments and its step. -/
theorem ref14 {n : Fin 8} (hd : (d (ix1 0)).toNat = n.val) : val_main_v14 (F := Ideal) o q d mm = mA n o q mm := by
  funext i
  have e := congrFun (ref9 o q d hd) i
  obtain ⟨a, b, rfl⟩ := spots i
  unfold mA mom1
  rw [← e]
  pointwise [val_main_v14, val_main_v13, val_main_v12, val_main_cst_3, val_main_v11, val_main_v10, val_main_cst_2]

theorem ref20 {n : Fin 8} (hd : (d (ix1 0)).toNat = n.val) : val_main_v20 (F := Ideal) o q d v = vA n o q v := by
  funext i
  have e := congrFun (ref9 o q d hd) i
  obtain ⟨a, b, rfl⟩ := spots i
  unfold vA mom2
  rw [← e]
  pointwise [val_main_v20, val_main_v19, val_main_v17, val_main_v18, val_main_cst_5, val_main_v16, val_main_v15, val_main_cst_4]

theorem ref33 {n : Fin 8} (hd : (d (ix1 0)).toNat = n.val) : val_main_v33 (F := Ideal) o q d w mm v = dA n o q w mm v := by
  funext i
  have e1 := congrFun (ref14 o q d mm hd) i
  have e2 := congrFun (ref20 o q d v hd) i
  obtain ⟨a, b, rfl⟩ := spots i
  unfold mA at e1
  unfold vA at e2
  unfold dA step
  rw [← e1, ← e2]
  pointwise [val_main_v33, val_main_v31, val_main_v30, val_main_v29, val_main_cst_9, val_main_v28, val_main_v27, val_main_v26, val_main_cst_8, val_main_v25, val_main_v24, val_main_v23, val_main_cst_7, val_main_v22, val_main_v21, val_main_cst_6, val_main_v32, val_main_cst_10]

end ref

/-- The kernel runs on each of the eight devices, leaves its arguments as they were and its counters at zero. -/
theorem frame_K : Cert.quiescent_AdamOutKernel :=
  fun m ρ h => Cert.AdamOutKernel.Gen.frame m ρ (K.ok m h)

/-- So does its idealized form. -/
theorem frame_KI : Cert.quiescent_AdamOutKernelIdeal :=
  fun m ρ h => Cert.AdamOutKernelIdeal.Gen.frame m ρ (KI.ok m h)

/-- So does the reference, whatever the number. -/
theorem frame_RI : Cert.quiescent_AdamOutReferenceIdeal := fun m ρ _ =>
  (θ_run _ _ _).mono (fun r h => ⟨fun c => ((h c).2.2.2.2), sem_eq_zero_of_no_sems (by decide) r.2⟩) (Cert.AdamOutReferenceIdeal.Value.run m ρ)

theorem frame_RI_pre : Cert.quiescent_AdamOutReferenceIdeal_pre_on_mesh_w_out :=
  fun m ρ _ => frame_RI m ρ trivial

/-- The idealization rewrites nothing. -/
theorem preserves : Cert.preserves_AdamOutKernel_AdamOutKernelIdeal := trivial

/-- The kernel and the reference leave the same arrays. -/
theorem algebraic : Cert.algebraic_AdamOutKernelIdeal_AdamOutReferenceIdeal
    := by
  intro m g m' g' hpre hag
  refine ⟨fun c => gA (num m hpre) (aO m c) (aQ m c), fun c => dA (num m hpre) (aO m c) (aQ m c) (aW m c) (aM m c) (aV m c),
    fun c => mA (num m hpre) (aO m c) (aQ m c) (aM m c), fun c => vA (num m hpre) (aO m c) (aQ m c) (aV m c), ?_, ?_⟩
  · exact run m (ok m hpre) g (tbl_num m hpre)
  · refine (θ_run _ _ _).mono (fun r h c => ?_) (Cert.AdamOutReferenceIdeal.Value.run m' g')
    obtain ⟨e0, e1, e2, e3, e4, e5⟩ := hag c
    obtain ⟨h0, h1, h2, h3, hk⟩ := h c
    obtain rfl : c = 0 := Subsingleton.elim _ _
    refine ⟨h0.trans ?_, h1.trans ?_, h2.trans ?_, h3.trans ?_, hk⟩
    · rw [Cert.AdamOutReferenceIdeal.Read.val_main_v9_eq, e0, e1, e2]
      exact ref9 _ _ _ rfl
    · rw [Cert.AdamOutReferenceIdeal.Read.val_main_v33_eq, e0, e1, e2, e3, e4, e5]
      exact ref33 _ _ _ _ _ _ rfl
    · rw [Cert.AdamOutReferenceIdeal.Read.val_main_v14_eq, e0, e1, e2, e4]
      exact ref14 _ _ _ _ rfl
    · rw [Cert.AdamOutReferenceIdeal.Read.val_main_v20_eq, e0, e1, e2, e5]
      exact ref20 _ _ _ _ rfl

end Cert.AdamOut

end
-- ==== Proof.Dact.lean ====
/- The gradient of the activations: the gradient times the transposed down projection. -/
module

public import proofs.«01_k».proof.Proof.Gen.DactKernel.Frame
public import proofs.«01_k».proof.Proof.Gen.DactKernelIdeal.Value
public import proofs.«01_k».proof.Proof.Gen.DactReferenceIdeal.Run
public import proofs.«01_k».proof.Proof.Gen.DactReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Dact

open Idealize.ShloMosaic Idealize.ShloMosaic.TcCoe Idealize.SL.Sem
open Cert.DactKernelIdeal Cert.DactKernelIdeal.Gen

/-- The product the kernel computes: each entry a sum over 1024 terms. -/
def prod (A : S8192x1024.Idx → EReal) (B : S3072x1024.Idx → EReal) : S8192x3072.Idx → EReal := fun i =>
  ∑ k : Fin 1024, A (ix2 (i 0) k) * B (ix2 (i 1) k)

section

variable (m : (ℓ : Loc nD τ sig) → Buf (Elt Ideal) ℓ)

/-- The windows' block indices at a grid point. -/
theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S3072x1024.Idx → EReal := m ((c : Thread nD τ).loc main_arg1)

/-- The row of the result, its column and the summand's place that a point's row, column and place are. -/
def ptI (l : Fin 1024) : Fin 8192 := ⟨(t.val % 8) * 1024 + l.val, by have := lt_of_lt_of_eq t.isLt (show cfg0.N = 24 from N_0); omega⟩
def ptJ (l : Fin 1024) : Fin 3072 := ⟨(t.val / 8) * 1024 + l.val, by have := lt_of_lt_of_eq t.isLt (show cfg0.N = 24 from N_0); omega⟩
def ptK (l : Fin 1024) : Fin 1024 := ⟨0 * 1024 + l.val, by have := lt_of_lt_of_eq t.isLt (show cfg0.N = 24 from N_0); omega⟩

/-- The blocks a point reads, in the arguments. -/
theorem blk0 (k : Fin 1024) (l : Fin 1024) : iblk (F := Ideal) m c 0 t (ix2 k l) = aA m c (ix2 (ptI t k) (ptK t l)) := by
  unfold ptI ptK
  blk_ext [iblk, V, idx t]

theorem blk1 (k : Fin 1024) (l : Fin 1024) : iblk (F := Ideal) m c 1 t (ix2 k l) = aB m c (ix2 (ptJ t k) (ptK t l)) := by
  unfold ptJ ptK
  blk_ext [iblk, V, idx t]

/-- A point's block of the product. -/
theorem pay1_at (j : S1024x1024.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1024), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t b k
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x1024.Idx → EReal) (B : S3072x1024.Idx → EReal) : Cert.DactReferenceIdeal.Read.val_main_v6 (F := Ideal) A B = prod A B := by
  funext i
  unfold prod Cert.DactReferenceIdeal.Read.val_main_v6 Cert.DactReferenceIdeal.Read.val_main_v5 Cert.DactReferenceIdeal.Read.val_main_v4 Cert.DactReferenceIdeal.Read.val_main_v2
  pointwise []
  all_goals rfl

end

/-- The kernel runs, leaves its arguments as they were and its counters at zero. -/
theorem frame_K : Cert.quiescent_DactKernel (hDactKernel := Cert.DactKernel.Gen.facts) := fun m ρ _ => Cert.DactKernel.Gen.frame m ρ

theorem frame_KI : Cert.quiescent_DactKernelIdeal (hDactKernelIdeal := Cert.DactKernelIdeal.Gen.facts) := fun m ρ _ => Cert.DactKernelIdeal.Gen.frame m ρ

theorem frame_RI : Cert.quiescent_DactReferenceIdeal (hDactReferenceIdeal := Cert.DactReferenceIdeal.Gen.facts) := fun m ρ _ =>
  (θ_run _ _ _).mono (fun r h => ⟨fun c => (h c).2, sem_eq_zero_of_no_sems (by decide) r.2⟩) (Cert.DactReferenceIdeal.Value.run m ρ)

/-- The idealization rewrites nothing. -/
theorem preserves : Cert.preserves_DactKernel_DactKernelIdeal := trivial

/-- The kernel and the reference leave the same array. -/
theorem algebraic : Cert.algebraic_DactKernelIdeal_DactReferenceIdeal (hDactKernelIdeal := Cert.DactKernelIdeal.Gen.facts)
    (hDactReferenceIdeal := Cert.DactReferenceIdeal.Gen.facts) := by
  intro m g m' g' hpre hag
  refine ⟨fun c => prod (aA m c) (aB m c), ?_, ?_⟩
  · refine (θ_run _ _ _).mono (fun r h c => ?_) (Cert.DactKernelIdeal.Value.run_blocks m g)
    obtain ⟨h2, hk⟩ := h c
    exact ⟨h2.trans (arr m c), hk⟩
  · refine (θ_run _ _ _).mono (fun r h c => ?_) (Cert.DactReferenceIdeal.Value.run m' g')
    obtain ⟨e0, e1⟩ := hag c
    obtain ⟨h2, hk⟩ := h c
    refine ⟨h2.trans ?_, hk⟩
    refine (Cert.DactReferenceIdeal.Read.val_main_v6_eq (F := Ideal) _ _).trans ?_
    rw [e0, e1]
    exact ref _ _

end Cert.Dact

end
-- ==== Proof.DhFfn.lean ====
/- The gradient of the feed-forward block's input: two gradients, each times its transposed projection, added up. -/
module

public import proofs.«01_k».proof.Proof.Gen.DhFfnKernel.Frame
public import proofs.«01_k».proof.Proof.Gen.DhFfnKernelIdeal.Value
public import proofs.«01_k».proof.Proof.Gen.DhFfnReferenceIdeal.Run
public import proofs.«01_k».proof.Proof.Gen.DhFfnReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DhFfn

open Idealize.ShloMosaic Idealize.ShloMosaic.TcCoe Idealize.SL.Sem
open Cert.DhFfnKernelIdeal Cert.DhFfnKernelIdeal.Gen

/-- The product of pair 0: each entry a sum over 3072 terms. -/
def prod0 (A : S8192x3072.Idx → EReal) (B : S1024x3072.Idx → EReal) : S8192x1024.Idx → EReal := fun i =>
  ∑ k : Fin 3072, A (ix2 (i 0) k) * B (ix2 (i 1) k)

/-- The product of pair 1: each entry a sum over 3072 terms. -/
def prod1 (A : S8192x3072.Idx → EReal) (B : S1024x3072.Idx → EReal) : S8192x1024.Idx → EReal := fun i =>
  ∑ k : Fin 3072, A (ix2 (i 0) k) * B (ix2 (i 1) k)

/-- The sum of the products. -/
def total (A0 : S8192x3072.Idx → EReal) (B0 : S1024x3072.Idx → EReal) (A1 : S8192x3072.Idx → EReal) (B1 : S1024x3072.Idx → EReal) : S8192x1024.Idx → EReal := fun i => prod0 A0 B0 i + prod1 A1 B1 i

section

variable (m : (ℓ : Loc nD τ sig) → Buf (Elt Ideal) ℓ)

/-- The windows' block indices at a grid point. -/
theorem idx : ∀ t : Fin cfg0.N, win0_0.index t = ![t.val / 6, min (t.val % 6) 2] ∧ win0_1.index t = ![0, min (t.val % 6) 2] ∧
    win0_2.index t = ![t.val / 6, t.val % 6 - 3] ∧ win0_3.index t = ![0, t.val % 6 - 3] ∧
    win0_4.index t = ![t.val / 6, 0] :=
  (by decide +kernel : ∀ t : Fin grid0.N, _)

variable (c : Dev nD) (t : Fin cfg0.N)

/-- The arguments of the launch. -/
abbrev a0 : S8192x3072.Idx → EReal := m ((c : Thread nD τ).loc main_arg0)
abbrev a1 : S1024x3072.Idx → EReal := m ((c : Thread nD τ).loc main_arg1)
abbrev a2 : S8192x3072.Idx → EReal := m ((c : Thread nD τ).loc main_arg2)
abbrev a3 : S1024x3072.Idx → EReal := m ((c : Thread nD τ).loc main_arg3)

/-- The row of the result that a point's row is, and the summands' places of each pair. -/
def ptI (l : Fin 1024) : Fin 8192 := ⟨t.val / 6 * 1024 + l.val, by have := lt_of_lt_of_eq t.isLt (show cfg0.N = 48 from N_0); omega⟩
def ptK0 (t : Fin cfg0.N) (l : Fin 1024) : Fin 3072 := ⟨(min (t.val % 6) 2) * 1024 + l.val, by omega⟩
def ptK1 (t : Fin cfg0.N) (l : Fin 1024) : Fin 3072 := ⟨(t.val % 6 - 3) * 1024 + l.val, by omega⟩

theorem blk0 (k : Fin 1024) (l : Fin 1024) : iblk (F := Ideal) m c 0 t (ix2 k l) = a0 m c (ix2 (ptI t k) (ptK0 t l)) := by
  unfold ptI ptK0
  blk_ext [iblk, V, idx t]

theorem blk1 (k : Fin 1024) (l : Fin 1024) : iblk (F := Ideal) m c 1 t (ix2 k l) = a1 m c (ix2 k (ptK0 t l)) := by
  unfold ptK0
  blk_ext [iblk, V, idx t]

/-- What a point adds to the accumulator where it works on pair 0. -/
def part0 (j : S1024x1024.Idx) : EReal := ∑ k : Fin 1024, a0 m c (ix2 (ptI t (j 0)) (ptK0 t k)) * a1 m c (ix2 (j 1) (ptK0 t k))

theorem part0_at (a : Fin 1024) (b : Fin 1024) :
    (∑ k : Fin 1024, (show S1024x1024.Idx → EReal from iblk (F := Ideal) m c 0 t) (ix2 a k) * (show S1024x1024.Idx → EReal from iblk (F := Ideal) m c 1 t) (ix2 b k)) = part0 m c t (ix2 a b) := by
  unfold part0
  exact Finset.sum_congr rfl fun k _ => congrArg₂ (· * ·) (blk0 m c t a k) (blk1 m c t b k)

theorem blk2 (k : Fin 1024) (l : Fin 1024) : iblk (F := Ideal) m c 2 t (ix2 k l) = a2 m c (ix2 (ptI t k) (ptK1 t l)) := by
  unfold ptI ptK1
  blk_ext [iblk, V, idx t]

theorem blk3 (k : Fin 1024) (l : Fin 1024) : iblk (F := Ideal) m c 3 t (ix2 k l) = a3 m c (ix2 k (ptK1 t l)) := by
  unfold ptK1
  blk_ext [iblk, V, idx t]

/-- What a point adds to the accumulator where it works on pair 1. -/
def part1 (j : S1024x1024.Idx) : EReal := ∑ k : Fin 1024, a2 m c (ix2 (ptI t (j 0)) (ptK1 t k)) * a3 m c (ix2 (j 1) (ptK1 t k))

theorem part1_at (a : Fin 1024) (b : Fin 1024) :
    (∑ k : Fin 1024, (show S1024x1024.Idx → EReal from iblk (F := Ideal) m c 2 t) (ix2 a k) * (show S1024x1024.Idx → EReal from iblk (F := Ideal) m c 3 t) (ix2 b k)) = part1 m c t (ix2 a b) := by
  unfold part1
  exact Finset.sum_congr rfl fun k _ => congrArg₂ (· * ·) (blk2 m c t a k) (blk3 m c t b k)

/-- What a grid point adds to the accumulator. -/
def term (j : S1024x1024.Idx) : EReal := if t.val % 6 < 3 then part0 m c t j else part1 m c t j

/-- The points of a run that work on pair 0 add up to its product. -/
theorem sum0 (h : ∀ s : Fin 3, 6 * (t.val / 6) + (0 + s.val) < cfg0.N) (j : S1024x1024.Idx) :
    ∑ s : Fin 3, term m c ⟨6 * (t.val / 6) + (0 + s.val), h s⟩ j = prod0 (a0 m c) (a1 m c) (ix2 (ptI t (j 0)) (j 1)) := by
  unfold prod0
  refine Eq.trans (Finset.sum_congr rfl fun s _ => ?_)
    (Fin.sum_mul_add_fin 3 1024 fun k : Fin 3072 => a0 m c (ix2 (ptI t (j 0)) k) * a1 m c (ix2 (j 1) k))
  have hs := s.isLt
  have hv : (6 * (t.val / 6) + (0 + s.val)) % 6 = 0 + s.val := by omega
  unfold term
  dsimp only
  rw [hv, if_pos (show 0 + s.val < 3 by omega)]
  refine Finset.sum_congr rfl fun k _ => ?_
  have e0 : ptK0 ⟨6 * (t.val / 6) + (0 + s.val), h s⟩ k = ⟨s.val * 1024 + k.val, by omega⟩ :=
    Fin.ext (by simp only [ptK0, hv]; omega)
  have e1 : ptI ⟨6 * (t.val / 6) + (0 + s.val), h s⟩ (j 0) = ptI t (j 0) :=
    Fin.ext (by simp only [ptI]; omega)
  rw [e0, e1]

/-- The points of a run that work on pair 1 add up to its product. -/
theorem sum1 (h : ∀ s : Fin 3, 6 * (t.val / 6) + (3 + s.val) < cfg0.N) (j : S1024x1024.Idx) :
    ∑ s : Fin 3, term m c ⟨6 * (t.val / 6) + (3 + s.val), h s⟩ j = prod1 (a2 m c) (a3 m c) (ix2 (ptI t (j 0)) (j 1)) := by
  unfold prod1
  refine Eq.trans (Finset.sum_congr rfl fun s _ => ?_)
    (Fin.sum_mul_add_fin 3 1024 fun k : Fin 3072 => a2 m c (ix2 (ptI t (j 0)) k) * a3 m c (ix2 (j 1) k))
  have hs := s.isLt
  have hv : (6 * (t.val / 6) + (3 + s.val)) % 6 = 3 + s.val := by omega
  unfold term
  dsimp only
  rw [hv, if_neg (show ¬3 + s.val < 3 by omega)]
  refine Finset.sum_congr rfl fun k _ => ?_
  have e0 : ptK1 ⟨6 * (t.val / 6) + (3 + s.val), h s⟩ k = ⟨s.val * 1024 + k.val, by omega⟩ :=
    Fin.ext (by simp only [ptK1, hv]; omega)
  have e1 : ptI ⟨6 * (t.val / 6) + (3 + s.val), h s⟩ (j 0) = ptI t (j 0) :=
    Fin.ext (by simp only [ptI]; omega)
  rw [e0, e1]

/-- The accumulator after the last point of a run of 6: the whole sum. -/
theorem acc (hf : t.val % 6 = 5) (j : S1024x1024.Idx) : (outsAt0 (F := Ideal) m c t.val t.isLt).2 j = total (a0 m c) (a1 m c) (a2 m c) (a3 m c) (ix2 (ptI t (j 0)) (j 1)) := by
  have ht := lt_of_lt_of_eq t.isLt (show cfg0.N = 48 from N_0)
  have hN : cfg0.N = 48 := N_0
  rw [Pipeline.eq_sum_fin_of_reset_step_apply_of_flush (fun n h => (outsAt0 (F := Ideal) m c n h).2) 6 (fun _ => 0)
    (term m c)
    (fun t h j => by
      obtain ⟨a, b, rfl⟩ : ∃ (a : Fin 1024) (b : Fin 1024), j = ix2 a b := ⟨j 0, j 1, eq_ix2 j⟩
      rw [outsAt0_A m c t h (by omega) (by omega) (by omega)]; frame_out
      unfold term
      rw [if_pos (show t.val % 6 < 3 by omega), ← part0_at]
      pointwise [k0_pay1])
    (fun t h j => by
      obtain ⟨a, b, rfl⟩ : ∃ (a : Fin 1024) (b : Fin 1024), j = ix2 a b := ⟨j 0, j 1, eq_ix2 j⟩
      by_cases h3 : 3 ≤ t.val % 6
      · by_cases h4 : t.val % 6 = 5
        · rw [outsAt0_D m c t h (by omega) (by omega) (by omega)]; frame_out
          unfold term
          rw [if_neg (show ¬t.val % 6 < 3 by omega), ← part1_at]
          pointwise [k0_pay3]
          exact congrArg₂ (· + ·) (congrFun (Memref.IsWhole.read_unread _ _) _) rfl
        · rw [outsAt0_C m c t h (by omega) (by omega) (by omega)]; frame_out
          unfold term
          rw [if_neg (show ¬t.val % 6 < 3 by omega), ← part1_at]
          pointwise [k0_pay3]
          exact congrArg₂ (· + ·) (congrFun (Memref.IsWhole.read_unread _ _) _) rfl
      · rw [outsAt0_B m c t h (by omega) (by omega) (by omega)]; frame_out
        unfold term
        rw [if_pos (show t.val % 6 < 3 by omega), ← part0_at]
        pointwise [k0_pay2]
        exact congrArg₂ (· + ·) (congrFun (Memref.IsWhole.read_unread _ _) _) rfl) t hf j, zero_add]
  unfold total
  refine (Fin.sum_univ_add (a := 3) (b := 3) _).trans (congrArg₂ (· + ·) ?_ ?_)
  · refine Eq.trans ?_ (sum0 m c t (fun s => by omega) j)
    exact Finset.sum_congr rfl fun s _ => congrArg (fun t => term m c t j) (Fin.ext (by show _ + s.val = _ + (0 + s.val); omega))
  · exact sum1 m c t (fun s => by omega) j

/-- The result after the run. -/
theorem arr : (dats (F := Ideal) m 0 c).arrAt 4 cfg0.N = total (a0 m c) (a1 m c) (a2 m c) (a3 m c) := by
  refine (dats (F := Ideal) m 0 c).arrAt_eq_of_covers 4 _ (by decide +kernel) fun t hf y => ?_
  have ht := lt_of_lt_of_eq t.isLt (show cfg0.N = 48 from N_0)
  have hm : t.val % 6 = 5 := (flush0_4 t).mp hf
  have ha := acc m c t hm y
  blk_simp
  rw [after0_4]
  rw [outsAt0_D m c t (by omega) (by omega) (by omega) (by omega)] at ha ⊢
  revert ha
  frame_out
  intro ha
  refine Eq.trans ?_ (ha.trans (congrArg _ ?_))
  · rfl
  · unfold ptI
    blk_ext [idx t]

/-- The reference's array is the same sum. -/
theorem ref (A0 : S8192x3072.Idx → EReal) (B0 : S1024x3072.Idx → EReal) (A1 : S8192x3072.Idx → EReal) (B1 : S1024x3072.Idx → EReal) :
    Cert.DhFfnReferenceIdeal.Read.val_main_v13 (F := Ideal) A0 B0 A1 B1 = total A0 B0 A1 B1 := by
  funext i
  unfold total prod0 prod1 Cert.DhFfnReferenceIdeal.Read.val_main_v13 Cert.DhFfnReferenceIdeal.Read.val_main_v10 Cert.DhFfnReferenceIdeal.Read.val_main_v9 Cert.DhFfnReferenceIdeal.Read.val_main_v8 Cert.DhFfnReferenceIdeal.Read.val_main_v5 Cert.DhFfnReferenceIdeal.Read.val_main_v12 Cert.DhFfnReferenceIdeal.Read.val_main_v11 Cert.DhFfnReferenceIdeal.Read.val_main_v7 Cert.DhFfnReferenceIdeal.Read.val_main_v2
  pointwise []
  exact add_comm _ _

end

/-- The kernel runs, leaves its arguments as they were and its counters at zero. -/
theorem frame_K : Cert.quiescent_DhFfnKernel (hDhFfnKernel := Cert.DhFfnKernel.Gen.facts) := fun m ρ _ => Cert.DhFfnKernel.Gen.frame m ρ

theorem frame_KI : Cert.quiescent_DhFfnKernelIdeal (hDhFfnKernelIdeal := Cert.DhFfnKernelIdeal.Gen.facts) := fun m ρ _ => Cert.DhFfnKernelIdeal.Gen.frame m ρ

theorem frame_RI : Cert.quiescent_DhFfnReferenceIdeal (hDhFfnReferenceIdeal := Cert.DhFfnReferenceIdeal.Gen.facts) := fun m ρ _ =>
  (θ_run _ _ _).mono (fun r h => ⟨fun c => (h c).2, sem_eq_zero_of_no_sems (by decide) r.2⟩) (Cert.DhFfnReferenceIdeal.Value.run m ρ)

/-- The idealization rewrites nothing. -/
theorem preserves : Cert.preserves_DhFfnKernel_DhFfnKernelIdeal := trivial

/-- The kernel and the reference leave the same array. -/
theorem algebraic : Cert.algebraic_DhFfnKernelIdeal_DhFfnReferenceIdeal (hDhFfnKernelIdeal := Cert.DhFfnKernelIdeal.Gen.facts)
    (hDhFfnReferenceIdeal := Cert.DhFfnReferenceIdeal.Gen.facts) := by
  intro m g m' g' hpre hag
  refine ⟨fun c => total (a0 m c) (a1 m c) (a2 m c) (a3 m c), ?_, ?_⟩
  · refine (θ_run _ _ _).mono (fun r h c => ?_) (Cert.DhFfnKernelIdeal.Value.run_blocks m g)
    obtain ⟨h2, hk⟩ := h c
    exact ⟨h2.trans (arr m c), hk⟩
  · refine (θ_run _ _ _).mono (fun r h c => ?_) (Cert.DhFfnReferenceIdeal.Value.run m' g')
    obtain ⟨e0, e1, e2, e3⟩ := hag c
    obtain ⟨h2, hk⟩ := h c
    refine ⟨h2.trans ?_, hk⟩
    refine (Cert.DhFfnReferenceIdeal.Read.val_main_v13_eq (F := Ideal) _ _ _ _).trans ?_
    rw [e0, e1, e2, e3]
    exact ref _ _ _ _

end Cert.DhFfn

end
-- ==== Proof.DhMix.lean ====
/- The gradient of the mixer's input: three gradients, each times its transposed projection, added up. -/
module

public import proofs.«01_k».proof.Proof.Gen.DhMixKernel.Frame
public import proofs.«01_k».proof.Proof.Gen.DhMixKernelIdeal.Value
public import proofs.«01_k».proof.Proof.Gen.DhMixReferenceIdeal.Run
public import proofs.«01_k».proof.Proof.Gen.DhMixReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DhMix

open Idealize.ShloMosaic Idealize.ShloMosaic.TcCoe Idealize.SL.Sem
open Cert.DhMixKernelIdeal Cert.DhMixKernelIdeal.Gen

/-- The product of pair 0: each entry a sum over 1280 terms. -/
def prod0 (A : S8192x1280.Idx → EReal) (B : S1024x1280.Idx → EReal) : S8192x1024.Idx → EReal := fun i =>
  ∑ k : Fin 1280, A (ix2 (i 0) k) * B (ix2 (i 1) k)

/-- The product of pair 1: each entry a sum over 2560 terms. -/
def prod1 (A : S8192x2560.Idx → EReal) (B : S1024x2560.Idx → EReal) : S8192x1024.Idx → EReal := fun i =>
  ∑ k : Fin 2560, A (ix2 (i 0) k) * B (ix2 (i 1) k)

/-- The product of pair 2: each entry a sum over 2048 terms. -/
def prod2 (A : S8192x2048.Idx → EReal) (B : S1024x2048.Idx → EReal) : S8192x1024.Idx → EReal := fun i =>
  ∑ k : Fin 2048, A (ix2 (i 0) k) * B (ix2 (i 1) k)

/-- The sum of the products. -/
def total (A0 : S8192x1280.Idx → EReal) (B0 : S1024x1280.Idx → EReal) (A1 : S8192x2560.Idx → EReal) (B1 : S1024x2560.Idx → EReal) (A2 : S8192x2048.Idx → EReal) (B2 : S1024x2048.Idx → EReal) : S8192x1024.Idx → EReal := fun i => prod0 A0 B0 i + prod1 A1 B1 i + prod2 A2 B2 i

section

variable (m : (ℓ : Loc nD τ sig) → Buf (Elt Ideal) ℓ)

/-- The windows' block indices at a grid point. -/
theorem idx : ∀ t : Fin cfg0.N, win0_0.index t = ![t.val / 5, 0] ∧ win0_1.index t = ![0, 0] ∧
    win0_2.index t = ![t.val / 5, min (t.val % 5 - 1) 1] ∧ win0_3.index t = ![0, min (t.val % 5 - 1) 1] ∧
    win0_4.index t = ![t.val / 5, t.val % 5 - 3] ∧ win0_5.index t = ![0, t.val % 5 - 3] ∧
    win0_6.index t = ![t.val / 5, 0] :=
  (by decide +kernel : ∀ t : Fin grid0.N, _)

variable (c : Dev nD) (t : Fin cfg0.N)

/-- The arguments of the launch. -/
abbrev a0 : S8192x1280.Idx → EReal := m ((c : Thread nD τ).loc main_arg0)
abbrev a1 : S1024x1280.Idx → EReal := m ((c : Thread nD τ).loc main_arg1)
abbrev a2 : S8192x2560.Idx → EReal := m ((c : Thread nD τ).loc main_arg2)
abbrev a3 : S1024x2560.Idx → EReal := m ((c : Thread nD τ).loc main_arg3)
abbrev a4 : S8192x2048.Idx → EReal := m ((c : Thread nD τ).loc main_arg4)
abbrev a5 : S1024x2048.Idx → EReal := m ((c : Thread nD τ).loc main_arg5)

/-- The row of the result that a point's row is, and the summands' places of each pair. -/
def ptI (l : Fin 1024) : Fin 8192 := ⟨t.val / 5 * 1024 + l.val, by have := lt_of_lt_of_eq t.isLt (show cfg0.N = 40 from N_0); omega⟩
def ptK0 (t : Fin cfg0.N) (l : Fin 1280) : Fin 1280 := ⟨(0) * 1280 + l.val, by omega⟩
def ptK1 (t : Fin cfg0.N) (l : Fin 1280) : Fin 2560 := ⟨(min (t.val % 5 - 1) 1) * 1280 + l.val, by omega⟩
def ptK2 (t : Fin cfg0.N) (l : Fin 1024) : Fin 2048 := ⟨(t.val % 5 - 3) * 1024 + l.val, by omega⟩

theorem blk0 (k : Fin 1024) (l : Fin 1280) : iblk (F := Ideal) m c 0 t (ix2 k l) = a0 m c (ix2 (ptI t k) (ptK0 t l)) := by
  unfold ptI ptK0
  blk_ext [iblk, V, idx t]

theorem blk1 (k : Fin 1024) (l : Fin 1280) : iblk (F := Ideal) m c 1 t (ix2 k l) = a1 m c (ix2 k (ptK0 t l)) := by
  unfold ptK0
  blk_ext [iblk, V, idx t]

/-- What a point adds to the accumulator where it works on pair 0. -/
def part0 (j : S1024x1024.Idx) : EReal := ∑ k : Fin 1280, a0 m c (ix2 (ptI t (j 0)) (ptK0 t k)) * a1 m c (ix2 (j 1) (ptK0 t k))

theorem part0_at (a : Fin 1024) (b : Fin 1024) :
    (∑ k : Fin 1280, (show S1024x1280.Idx → EReal from iblk (F := Ideal) m c 0 t) (ix2 a k) * (show S1024x1280.Idx → EReal from iblk (F := Ideal) m c 1 t) (ix2 b k)) = part0 m c t (ix2 a b) := by
  unfold part0
  exact Finset.sum_congr rfl fun k _ => congrArg₂ (· * ·) (blk0 m c t a k) (blk1 m c t b k)

theorem blk2 (k : Fin 1024) (l : Fin 1280) : iblk (F := Ideal) m c 2 t (ix2 k l) = a2 m c (ix2 (ptI t k) (ptK1 t l)) := by
  unfold ptI ptK1
  blk_ext [iblk, V, idx t]

theorem blk3 (k : Fin 1024) (l : Fin 1280) : iblk (F := Ideal) m c 3 t (ix2 k l) = a3 m c (ix2 k (ptK1 t l)) := by
  unfold ptK1
  blk_ext [iblk, V, idx t]

/-- What a point adds to the accumulator where it works on pair 1. -/
def part1 (j : S1024x1024.Idx) : EReal := ∑ k : Fin 1280, a2 m c (ix2 (ptI t (j 0)) (ptK1 t k)) * a3 m c (ix2 (j 1) (ptK1 t k))

theorem part1_at (a : Fin 1024) (b : Fin 1024) :
    (∑ k : Fin 1280, (show S1024x1280.Idx → EReal from iblk (F := Ideal) m c 2 t) (ix2 a k) * (show S1024x1280.Idx → EReal from iblk (F := Ideal) m c 3 t) (ix2 b k)) = part1 m c t (ix2 a b) := by
  unfold part1
  exact Finset.sum_congr rfl fun k _ => congrArg₂ (· * ·) (blk2 m c t a k) (blk3 m c t b k)

theorem blk4 (k : Fin 1024) (l : Fin 1024) : iblk (F := Ideal) m c 4 t (ix2 k l) = a4 m c (ix2 (ptI t k) (ptK2 t l)) := by
  unfold ptI ptK2
  blk_ext [iblk, V, idx t]

theorem blk5 (k : Fin 1024) (l : Fin 1024) : iblk (F := Ideal) m c 5 t (ix2 k l) = a5 m c (ix2 k (ptK2 t l)) := by
  unfold ptK2
  blk_ext [iblk, V, idx t]

/-- What a point adds to the accumulator where it works on pair 2. -/
def part2 (j : S1024x1024.Idx) : EReal := ∑ k : Fin 1024, a4 m c (ix2 (ptI t (j 0)) (ptK2 t k)) * a5 m c (ix2 (j 1) (ptK2 t k))

theorem part2_at (a : Fin 1024) (b : Fin 1024) :
    (∑ k : Fin 1024, (show S1024x1024.Idx → EReal from iblk (F := Ideal) m c 4 t) (ix2 a k) * (show S1024x1024.Idx → EReal from iblk (F := Ideal) m c 5 t) (ix2 b k)) = part2 m c t (ix2 a b) := by
  unfold part2
  exact Finset.sum_congr rfl fun k _ => congrArg₂ (· * ·) (blk4 m c t a k) (blk5 m c t b k)

/-- What a grid point adds to the accumulator. -/
def term (j : S1024x1024.Idx) : EReal := if t.val % 5 < 1 then part0 m c t j else if t.val % 5 < 3 then part1 m c t j else part2 m c t j

/-- The points of a run that work on pair 0 add up to its product. -/
theorem sum0 (h : ∀ s : Fin 1, 5 * (t.val / 5) + (0 + s.val) < cfg0.N) (j : S1024x1024.Idx) :
    ∑ s : Fin 1, term m c ⟨5 * (t.val / 5) + (0 + s.val), h s⟩ j = prod0 (a0 m c) (a1 m c) (ix2 (ptI t (j 0)) (j 1)) := by
  unfold prod0
  refine Eq.trans (Finset.sum_congr rfl fun s _ => ?_)
    (Fin.sum_mul_add_fin 1 1280 fun k : Fin 1280 => a0 m c (ix2 (ptI t (j 0)) k) * a1 m c (ix2 (j 1) k))
  have hs := s.isLt
  have hv : (5 * (t.val / 5) + (0 + s.val)) % 5 = 0 + s.val := by omega
  unfold term
  dsimp only
  rw [hv, if_pos (show 0 + s.val < 1 by omega)]
  refine Finset.sum_congr rfl fun k _ => ?_
  have e0 : ptK0 ⟨5 * (t.val / 5) + (0 + s.val), h s⟩ k = ⟨s.val * 1280 + k.val, by omega⟩ :=
    Fin.ext (by simp only [ptK0]; omega)
  have e1 : ptI ⟨5 * (t.val / 5) + (0 + s.val), h s⟩ (j 0) = ptI t (j 0) :=
    Fin.ext (by simp only [ptI]; omega)
  rw [e0, e1]

/-- The points of a run that work on pair 1 add up to its product. -/
theorem sum1 (h : ∀ s : Fin 2, 5 * (t.val / 5) + (1 + s.val) < cfg0.N) (j : S1024x1024.Idx) :
    ∑ s : Fin 2, term m c ⟨5 * (t.val / 5) + (1 + s.val), h s⟩ j = prod1 (a2 m c) (a3 m c) (ix2 (ptI t (j 0)) (j 1)) := by
  unfold prod1
  refine Eq.trans (Finset.sum_congr rfl fun s _ => ?_)
    (Fin.sum_mul_add_fin 2 1280 fun k : Fin 2560 => a2 m c (ix2 (ptI t (j 0)) k) * a3 m c (ix2 (j 1) k))
  have hs := s.isLt
  have hv : (5 * (t.val / 5) + (1 + s.val)) % 5 = 1 + s.val := by omega
  unfold term
  dsimp only
  rw [hv, if_neg (show ¬1 + s.val < 1 by omega), if_pos (show 1 + s.val < 3 by omega)]
  refine Finset.sum_congr rfl fun k _ => ?_
  have e0 : ptK1 ⟨5 * (t.val / 5) + (1 + s.val), h s⟩ k = ⟨s.val * 1280 + k.val, by omega⟩ :=
    Fin.ext (by simp only [ptK1, hv]; omega)
  have e1 : ptI ⟨5 * (t.val / 5) + (1 + s.val), h s⟩ (j 0) = ptI t (j 0) :=
    Fin.ext (by simp only [ptI]; omega)
  rw [e0, e1]

/-- The points of a run that work on pair 2 add up to its product. -/
theorem sum2 (h : ∀ s : Fin 2, 5 * (t.val / 5) + (3 + s.val) < cfg0.N) (j : S1024x1024.Idx) :
    ∑ s : Fin 2, term m c ⟨5 * (t.val / 5) + (3 + s.val), h s⟩ j = prod2 (a4 m c) (a5 m c) (ix2 (ptI t (j 0)) (j 1)) := by
  unfold prod2
  refine Eq.trans (Finset.sum_congr rfl fun s _ => ?_)
    (Fin.sum_mul_add_fin 2 1024 fun k : Fin 2048 => a4 m c (ix2 (ptI t (j 0)) k) * a5 m c (ix2 (j 1) k))
  have hs := s.isLt
  have hv : (5 * (t.val / 5) + (3 + s.val)) % 5 = 3 + s.val := by omega
  unfold term
  dsimp only
  rw [hv, if_neg (show ¬3 + s.val < 1 by omega), if_neg (show ¬3 + s.val < 3 by omega)]
  refine Finset.sum_congr rfl fun k _ => ?_
  have e0 : ptK2 ⟨5 * (t.val / 5) + (3 + s.val), h s⟩ k = ⟨s.val * 1024 + k.val, by omega⟩ :=
    Fin.ext (by simp only [ptK2, hv]; omega)
  have e1 : ptI ⟨5 * (t.val / 5) + (3 + s.val), h s⟩ (j 0) = ptI t (j 0) :=
    Fin.ext (by simp only [ptI]; omega)
  rw [e0, e1]

/-- The accumulator after the last point of a run of 5: the whole sum. -/
theorem acc (hf : t.val % 5 = 4) (j : S1024x1024.Idx) : (outsAt0 (F := Ideal) m c t.val t.isLt).2 j = total (a0 m c) (a1 m c) (a2 m c) (a3 m c) (a4 m c) (a5 m c) (ix2 (ptI t (j 0)) (j 1)) := by
  have ht := lt_of_lt_of_eq t.isLt (show cfg0.N = 40 from N_0)
  have hN : cfg0.N = 40 := N_0
  rw [Pipeline.eq_sum_fin_of_reset_step_apply_of_flush (fun n h => (outsAt0 (F := Ideal) m c n h).2) 5 (fun _ => 0)
    (term m c)
    (fun t h j => by
      obtain ⟨a, b, rfl⟩ : ∃ (a : Fin 1024) (b : Fin 1024), j = ix2 a b := ⟨j 0, j 1, eq_ix2 j⟩
      rw [outsAt0_A m c t h (by omega) (by omega) (by omega)]; frame_out
      unfold term
      rw [if_pos (show t.val % 5 < 1 by omega), ← part0_at]
      pointwise [k0_pay1])
    (fun t h j => by
      obtain ⟨a, b, rfl⟩ : ∃ (a : Fin 1024) (b : Fin 1024), j = ix2 a b := ⟨j 0, j 1, eq_ix2 j⟩
      by_cases h3 : 3 ≤ t.val % 5
      · by_cases h4 : t.val % 5 = 4
        · rw [outsAt0_D m c t h (by omega) (by omega) (by omega)]; frame_out
          unfold term
          rw [if_neg (show ¬t.val % 5 < 1 by omega), if_neg (show ¬t.val % 5 < 3 by omega), ← part2_at]
          pointwise [k0_pay4]
          exact congrArg₂ (· + ·) (congrFun (Memref.IsWhole.read_unread _ _) _) rfl
        · rw [outsAt0_C m c t h (by omega) (by omega) (by omega)]; frame_out
          unfold term
          rw [if_neg (show ¬t.val % 5 < 1 by omega), if_neg (show ¬t.val % 5 < 3 by omega), ← part2_at]
          pointwise [k0_pay4]
          exact congrArg₂ (· + ·) (congrFun (Memref.IsWhole.read_unread _ _) _) rfl
      · rw [outsAt0_B m c t h (by omega) (by omega) (by omega)]; frame_out
        unfold term
        rw [if_neg (show ¬t.val % 5 < 1 by omega), if_pos (show t.val % 5 < 3 by omega), ← part1_at]
        pointwise [k0_pay3]
        exact congrArg₂ (· + ·) (congrFun (Memref.IsWhole.read_unread _ _) _) rfl) t hf j, zero_add]
  unfold total
  refine (Fin.sum_univ_add (a := 3) (b := 2) _).trans (congrArg₂ (· + ·) ((Fin.sum_univ_add (a := 1) (b := 2) _).trans (congrArg₂ (· + ·) ?_ ?_)) ?_)
  · refine Eq.trans ?_ (sum0 m c t (fun s => by omega) j)
    exact Finset.sum_congr rfl fun s _ => congrArg (fun t => term m c t j) (Fin.ext (by show _ + s.val = _ + (0 + s.val); omega))
  · exact sum1 m c t (fun s => by omega) j
  · exact sum2 m c t (fun s => by omega) j

/-- The result after the run. -/
theorem arr : (dats (F := Ideal) m 0 c).arrAt 6 cfg0.N = total (a0 m c) (a1 m c) (a2 m c) (a3 m c) (a4 m c) (a5 m c) := by
  refine (dats (F := Ideal) m 0 c).arrAt_eq_of_covers 6 _ (by decide +kernel) fun t hf y => ?_
  have ht := lt_of_lt_of_eq t.isLt (show cfg0.N = 40 from N_0)
  have hm : t.val % 5 = 4 := (flush0_6 t).mp hf
  have ha := acc m c t hm y
  blk_simp
  rw [after0_6]
  rw [outsAt0_D m c t (by omega) (by omega) (by omega) (by omega)] at ha ⊢
  revert ha
  frame_out
  intro ha
  refine Eq.trans ?_ (ha.trans (congrArg _ ?_))
  · rfl
  · unfold ptI
    blk_ext [idx t]

/-- The reference's array is the same sum. -/
theorem ref (A0 : S8192x1280.Idx → EReal) (B0 : S1024x1280.Idx → EReal) (A1 : S8192x2560.Idx → EReal) (B1 : S1024x2560.Idx → EReal) (A2 : S8192x2048.Idx → EReal) (B2 : S1024x2048.Idx → EReal) :
    Cert.DhMixReferenceIdeal.Read.val_main_v20 (F := Ideal) A0 B0 A1 B1 A2 B2 = total A0 B0 A1 B1 A2 B2 := by
  funext i
  unfold total prod0 prod1 prod2 Cert.DhMixReferenceIdeal.Read.val_main_v20 Cert.DhMixReferenceIdeal.Read.val_main_v17 Cert.DhMixReferenceIdeal.Read.val_main_v14 Cert.DhMixReferenceIdeal.Read.val_main_v13 Cert.DhMixReferenceIdeal.Read.val_main_v12 Cert.DhMixReferenceIdeal.Read.val_main_v8 Cert.DhMixReferenceIdeal.Read.val_main_v16 Cert.DhMixReferenceIdeal.Read.val_main_v15 Cert.DhMixReferenceIdeal.Read.val_main_v11 Cert.DhMixReferenceIdeal.Read.val_main_v5 Cert.DhMixReferenceIdeal.Read.val_main_v19 Cert.DhMixReferenceIdeal.Read.val_main_v18 Cert.DhMixReferenceIdeal.Read.val_main_v10 Cert.DhMixReferenceIdeal.Read.val_main_v2
  pointwise []
  exact (add_comm _ _).trans ((congrArg _ (add_comm _ _)).trans (add_assoc _ _ _).symm)

end

/-- The kernel runs, leaves its arguments as they were and its counters at zero. -/
theorem frame_K : Cert.quiescent_DhMixKernel (hDhMixKernel := Cert.DhMixKernel.Gen.facts) := fun m ρ _ => Cert.DhMixKernel.Gen.frame m ρ

theorem frame_KI : Cert.quiescent_DhMixKernelIdeal (hDhMixKernelIdeal := Cert.DhMixKernelIdeal.Gen.facts) := fun m ρ _ => Cert.DhMixKernelIdeal.Gen.frame m ρ

theorem frame_RI : Cert.quiescent_DhMixReferenceIdeal (hDhMixReferenceIdeal := Cert.DhMixReferenceIdeal.Gen.facts) := fun m ρ _ =>
  (θ_run _ _ _).mono (fun r h => ⟨fun c => (h c).2, sem_eq_zero_of_no_sems (by decide) r.2⟩) (Cert.DhMixReferenceIdeal.Value.run m ρ)

/-- The idealization rewrites nothing. -/
theorem preserves : Cert.preserves_DhMixKernel_DhMixKernelIdeal := trivial

/-- The kernel and the reference leave the same array. -/
theorem algebraic : Cert.algebraic_DhMixKernelIdeal_DhMixReferenceIdeal (hDhMixKernelIdeal := Cert.DhMixKernelIdeal.Gen.facts)
    (hDhMixReferenceIdeal := Cert.DhMixReferenceIdeal.Gen.facts) := by
  intro m g m' g' hpre hag
  refine ⟨fun c => total (a0 m c) (a1 m c) (a2 m c) (a3 m c) (a4 m c) (a5 m c), ?_, ?_⟩
  · refine (θ_run _ _ _).mono (fun r h c => ?_) (Cert.DhMixKernelIdeal.Value.run_blocks m g)
    obtain ⟨h2, hk⟩ := h c
    exact ⟨h2.trans (arr m c), hk⟩
  · refine (θ_run _ _ _).mono (fun r h c => ?_) (Cert.DhMixReferenceIdeal.Value.run m' g')
    obtain ⟨e0, e1, e2, e3, e4, e5⟩ := hag c
    obtain ⟨h2, hk⟩ := h c
    refine ⟨h2.trans ?_, hk⟩
    refine (Cert.DhMixReferenceIdeal.Read.val_main_v20_eq (F := Ideal) _ _ _ _ _ _).trans ?_
    rw [e0, e1, e2, e3, e4, e5]
    exact ref _ _ _ _ _ _

end Cert.DhMix

end
-- ==== Proof.DhRnn.lean ====
/- The gradient of the recurrence's output: the first half of the gradient times the transposed branch projection. -/
module

public import proofs.«01_k».proof.Proof.Gen.DhRnnKernel.Frame
public import proofs.«01_k».proof.Proof.Gen.DhRnnKernelIdeal.Value
public import proofs.«01_k».proof.Proof.Gen.DhRnnReferenceIdeal.Run
public import proofs.«01_k».proof.Proof.Gen.DhRnnReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DhRnn

open Idealize.ShloMosaic Idealize.ShloMosaic.TcCoe Idealize.SL.Sem
open Cert.DhRnnKernelIdeal Cert.DhRnnKernelIdeal.Gen

/-- A column of the wide array's first part, in the wide array. -/
def shift (l : Fin 1024) : Fin 2048 := ⟨l.val, by omega⟩

/-- The product the kernel computes: each entry a sum over 1024 terms. -/
def prod (A : S8192x2048.Idx → EReal) (B : S1280x1024.Idx → EReal) : S8192x1280.Idx → EReal := fun i =>
  ∑ k : Fin 1024, A (ix2 (i 0) (shift k)) * B (ix2 (i 1) k)

section

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

/-- The two arguments of the launch. -/
abbrev aA : S8192x2048.Idx → EReal := m ((c : Thread nD τ).loc main_arg0)
abbrev aB : S1280x1024.Idx → EReal := m ((c : Thread nD τ).loc main_arg1)

/-- The row of the result, its column and the summand's place that a point's row, column and place are. -/
def ptI (l : Fin 1024) : Fin 8192 := ⟨(t.val) * 1024 + l.val, by have := lt_of_lt_of_eq t.isLt (show cfg0.N = 8 from N_0); omega⟩
def ptJ (l : Fin 1280) : Fin 1280 := ⟨0 * 1280 + l.val, by have := lt_of_lt_of_eq t.isLt (show cfg0.N = 8 from N_0); omega⟩
def ptK (l : Fin 1024) : Fin 1024 := ⟨0 * 1024 + l.val, by have := lt_of_lt_of_eq t.isLt (show cfg0.N = 8 from N_0); omega⟩

/-- The blocks a point reads, in the arguments. -/
theorem blk0 (k : Fin 1024) (l : Fin 1024) : iblk (F := Ideal) m c 0 t (ix2 k l) = aA m c (ix2 (ptI t k) (shift (ptK t l))) := by
  unfold shift ptI ptK
  blk_ext [iblk, V, idx t]

theorem blk1 (k : Fin 1280) (l : Fin 1024) : iblk (F := Ideal) m c 1 t (ix2 k l) = aB m c (ix2 (ptJ t k) (ptK t l)) := by
  unfold ptJ ptK
  blk_ext [iblk, V, idx t]

/-- A point's block of the product. -/
theorem pay1_at (j : S1024x1280.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1280), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t b k
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x2048.Idx → EReal) (B : S1280x1024.Idx → EReal) : Cert.DhRnnReferenceIdeal.Read.val_main_v7 (F := Ideal) A B = prod A B := by
  funext i
  unfold prod Cert.DhRnnReferenceIdeal.Read.val_main_v7 Cert.DhRnnReferenceIdeal.Read.val_main_v6 Cert.DhRnnReferenceIdeal.Read.val_main_v5 Cert.DhRnnReferenceIdeal.Read.val_main_v0 Cert.DhRnnReferenceIdeal.Read.val_main_v3
  pointwise []
  all_goals rfl

end

/-- The kernel runs, leaves its arguments as they were and its counters at zero. -/
theorem frame_K : Cert.quiescent_DhRnnKernel (hDhRnnKernel := Cert.DhRnnKernel.Gen.facts) := fun m ρ _ => Cert.DhRnnKernel.Gen.frame m ρ

theorem frame_KI : Cert.quiescent_DhRnnKernelIdeal (hDhRnnKernelIdeal := Cert.DhRnnKernelIdeal.Gen.facts) := fun m ρ _ => Cert.DhRnnKernelIdeal.Gen.frame m ρ

theorem frame_RI : Cert.quiescent_DhRnnReferenceIdeal (hDhRnnReferenceIdeal := Cert.DhRnnReferenceIdeal.Gen.facts) := fun m ρ _ =>
  (θ_run _ _ _).mono (fun r h => ⟨fun c => (h c).2, sem_eq_zero_of_no_sems (by decide) r.2⟩) (Cert.DhRnnReferenceIdeal.Value.run m ρ)

/-- The idealization rewrites nothing. -/
theorem preserves : Cert.preserves_DhRnnKernel_DhRnnKernelIdeal := trivial

/-- The kernel and the reference leave the same array. -/
theorem algebraic : Cert.algebraic_DhRnnKernelIdeal_DhRnnReferenceIdeal (hDhRnnKernelIdeal := Cert.DhRnnKernelIdeal.Gen.facts)
    (hDhRnnReferenceIdeal := Cert.DhRnnReferenceIdeal.Gen.facts) := by
  intro m g m' g' hpre hag
  refine ⟨fun c => prod (aA m c) (aB m c), ?_, ?_⟩
  · refine (θ_run _ _ _).mono (fun r h c => ?_) (Cert.DhRnnKernelIdeal.Value.run_blocks m g)
    obtain ⟨h2, hk⟩ := h c
    exact ⟨h2.trans (arr m c), hk⟩
  · refine (θ_run _ _ _).mono (fun r h c => ?_) (Cert.DhRnnReferenceIdeal.Value.run m' g')
    obtain ⟨e0, e1⟩ := hag c
    obtain ⟨h2, hk⟩ := h c
    refine ⟨h2.trans ?_, hk⟩
    refine (Cert.DhRnnReferenceIdeal.Read.val_main_v7_eq (F := Ideal) _ _).trans ?_
    rw [e0, e1]
    exact ref _ _

end Cert.DhRnn

end
-- ==== Proof.Dmerged.lean ====
/- The gradient of the merged branches: the gradient times the transposed output projection. -/
module

public import proofs.«01_k».proof.Proof.Gen.DmergedKernel.Frame
public import proofs.«01_k».proof.Proof.Gen.DmergedKernelIdeal.Value
public import proofs.«01_k».proof.Proof.Gen.DmergedReferenceIdeal.Run
public import proofs.«01_k».proof.Proof.Gen.DmergedReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Dmerged

open Idealize.ShloMosaic Idealize.ShloMosaic.TcCoe Idealize.SL.Sem
open Cert.DmergedKernelIdeal Cert.DmergedKernelIdeal.Gen

/-- The product the kernel computes: each entry a sum over 1024 terms. -/
def prod (A : S8192x1024.Idx → EReal) (B : S1024x1024.Idx → EReal) : S8192x1024.Idx → EReal := fun i =>
  ∑ k : Fin 1024, A (ix2 (i 0) k) * B (ix2 (i 1) k)

section

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S1024x1024.Idx → EReal := m ((c : Thread nD τ).loc main_arg1)

/-- The row of the result, its column and the summand's place that a point's row, column and place are. -/
def ptI (l : Fin 1024) : Fin 8192 := ⟨(t.val) * 1024 + l.val, by have := lt_of_lt_of_eq t.isLt (show cfg0.N = 8 from N_0); omega⟩
def ptJ (l : Fin 1024) : Fin 1024 := ⟨0 * 1024 + l.val, by have := lt_of_lt_of_eq t.isLt (show cfg0.N = 8 from N_0); omega⟩
def ptK (l : Fin 1024) : Fin 1024 := ⟨0 * 1024 + l.val, by have := lt_of_lt_of_eq t.isLt (show cfg0.N = 8 from N_0); omega⟩

/-- The blocks a point reads, in the arguments. -/
theorem blk0 (k : Fin 1024) (l : Fin 1024) : iblk (F := Ideal) m c 0 t (ix2 k l) = aA m c (ix2 (ptI t k) (ptK t l)) := by
  unfold ptI ptK
  blk_ext [iblk, V, idx t]

theorem blk1 (k : Fin 1024) (l : Fin 1024) : iblk (F := Ideal) m c 1 t (ix2 k l) = aB m c (ix2 (ptJ t k) (ptK t l)) := by
  unfold ptJ ptK
  blk_ext [iblk, V, idx t]

/-- A point's block of the product. -/
theorem pay1_at (j : S1024x1024.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1024), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t b k
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x1024.Idx → EReal) (B : S1024x1024.Idx → EReal) : Cert.DmergedReferenceIdeal.Read.val_main_v6 (F := Ideal) A B = prod A B := by
  funext i
  unfold prod Cert.DmergedReferenceIdeal.Read.val_main_v6 Cert.DmergedReferenceIdeal.Read.val_main_v5 Cert.DmergedReferenceIdeal.Read.val_main_v4 Cert.DmergedReferenceIdeal.Read.val_main_v2
  pointwise []
  all_goals rfl

end

/-- The kernel runs, leaves its arguments as they were and its counters at zero. -/
theorem frame_K : Cert.quiescent_DmergedKernel (hDmergedKernel := Cert.DmergedKernel.Gen.facts) := fun m ρ _ => Cert.DmergedKernel.Gen.frame m ρ

theorem frame_KI : Cert.quiescent_DmergedKernelIdeal (hDmergedKernelIdeal := Cert.DmergedKernelIdeal.Gen.facts) := fun m ρ _ => Cert.DmergedKernelIdeal.Gen.frame m ρ

theorem frame_RI : Cert.quiescent_DmergedReferenceIdeal (hDmergedReferenceIdeal := Cert.DmergedReferenceIdeal.Gen.facts) := fun m ρ _ =>
  (θ_run _ _ _).mono (fun r h => ⟨fun c => (h c).2, sem_eq_zero_of_no_sems (by decide) r.2⟩) (Cert.DmergedReferenceIdeal.Value.run m ρ)

/-- The idealization rewrites nothing. -/
theorem preserves : Cert.preserves_DmergedKernel_DmergedKernelIdeal := trivial

/-- The kernel and the reference leave the same array. -/
theorem algebraic : Cert.algebraic_DmergedKernelIdeal_DmergedReferenceIdeal (hDmergedKernelIdeal := Cert.DmergedKernelIdeal.Gen.facts)
    (hDmergedReferenceIdeal := Cert.DmergedReferenceIdeal.Gen.facts) := by
  intro m g m' g' hpre hag
  refine ⟨fun c => prod (aA m c) (aB m c), ?_, ?_⟩
  · refine (θ_run _ _ _).mono (fun r h c => ?_) (Cert.DmergedKernelIdeal.Value.run_blocks m g)
    obtain ⟨h2, hk⟩ := h c
    exact ⟨h2.trans (arr m c), hk⟩
  · refine (θ_run _ _ _).mono (fun r h c => ?_) (Cert.DmergedReferenceIdeal.Value.run m' g')
    obtain ⟨e0, e1⟩ := hag c
    obtain ⟨h2, hk⟩ := h c
    refine ⟨h2.trans ?_, hk⟩
    refine (Cert.DmergedReferenceIdeal.Read.val_main_v6_eq (F := Ideal) _ _).trans ?_
    rw [e0, e1]
    exact ref _ _

end Cert.Dmerged

end
-- ==== Proof.DoAtt.lean ====
/- The gradient of the attention's output: the second half of the gradient times the transposed branch projection. -/
module

public import proofs.«01_k».proof.Proof.Gen.DoAttKernel.Frame
public import proofs.«01_k».proof.Proof.Gen.DoAttKernelIdeal.Value
public import proofs.«01_k».proof.Proof.Gen.DoAttReferenceIdeal.Run
public import proofs.«01_k».proof.Proof.Gen.DoAttReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DoAtt

open Idealize.ShloMosaic Idealize.ShloMosaic.TcCoe Idealize.SL.Sem
open Cert.DoAttKernelIdeal Cert.DoAttKernelIdeal.Gen

/-- The column of the wide array that a column of its second half is. -/
def shift (l : Fin 1024) : Fin 2048 := ⟨1024 + l.val, by omega⟩

/-- The product the kernel computes: each entry a sum over 1024 terms. -/
def prod (A : S8192x2048.Idx → EReal) (B : S512x1024.Idx → EReal) : S8192x512.Idx → EReal := fun i =>
  ∑ k : Fin 1024, A (ix2 (i 0) (shift k)) * B (ix2 (i 1) k)

section

variable (m : (ℓ : Loc nD τ sig) → Buf (Elt Ideal) ℓ)

/-- The windows' block indices at a grid point. -/
theorem idx : ∀ t : Fin cfg0.N, win0_0.index t = ![t.val, 1] ∧ win0_1.index t = ![0, 0] ∧ win0_2.index t = ![t.val, 0] :=
  (by decide +kernel : ∀ t : Fin grid0.N, _)

variable (c : Dev nD) (t : Fin cfg0.N)

/-- The two arguments of the launch. -/
abbrev aA : S8192x2048.Idx → EReal := m ((c : Thread nD τ).loc main_arg0)
abbrev aB : S512x1024.Idx → EReal := m ((c : Thread nD τ).loc main_arg1)

/-- The row of the result, its column and the summand's place that a point's row, column and place are. -/
def ptI (l : Fin 1024) : Fin 8192 := ⟨(t.val) * 1024 + l.val, by have := lt_of_lt_of_eq t.isLt (show cfg0.N = 8 from N_0); omega⟩
def ptJ (l : Fin 512) : Fin 512 := ⟨0 * 512 + l.val, by have := lt_of_lt_of_eq t.isLt (show cfg0.N = 8 from N_0); omega⟩
def ptK (l : Fin 1024) : Fin 1024 := ⟨0 * 1024 + l.val, by have := lt_of_lt_of_eq t.isLt (show cfg0.N = 8 from N_0); omega⟩

/-- The blocks a point reads, in the arguments. -/
theorem blk0 (k : Fin 1024) (l : Fin 1024) : iblk (F := Ideal) m c 0 t (ix2 k l) = aA m c (ix2 (ptI t k) (shift (ptK t l))) := by
  unfold shift ptI ptK
  blk_ext [iblk, V, idx t]

theorem blk1 (k : Fin 512) (l : Fin 1024) : iblk (F := Ideal) m c 1 t (ix2 k l) = aB m c (ix2 (ptJ t k) (ptK t l)) := by
  unfold ptJ ptK
  blk_ext [iblk, V, idx t]

/-- A point's block of the product. -/
theorem pay1_at (j : S1024x512.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 512), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t b k
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x2048.Idx → EReal) (B : S512x1024.Idx → EReal) : Cert.DoAttReferenceIdeal.Read.val_main_v8 (F := Ideal) A B = prod A B := by
  funext i
  unfold prod Cert.DoAttReferenceIdeal.Read.val_main_v8 Cert.DoAttReferenceIdeal.Read.val_main_v7 Cert.DoAttReferenceIdeal.Read.val_main_v6 Cert.DoAttReferenceIdeal.Read.val_main_v5 Cert.DoAttReferenceIdeal.Read.val_main_v0 Cert.DoAttReferenceIdeal.Read.val_main_v3
  pointwise []
  all_goals rfl

end

/-- The kernel runs, leaves its arguments as they were and its counters at zero. -/
theorem frame_K : Cert.quiescent_DoAttKernel (hDoAttKernel := Cert.DoAttKernel.Gen.facts) := fun m ρ _ => Cert.DoAttKernel.Gen.frame m ρ

theorem frame_KI : Cert.quiescent_DoAttKernelIdeal (hDoAttKernelIdeal := Cert.DoAttKernelIdeal.Gen.facts) := fun m ρ _ => Cert.DoAttKernelIdeal.Gen.frame m ρ

theorem frame_RI : Cert.quiescent_DoAttReferenceIdeal (hDoAttReferenceIdeal := Cert.DoAttReferenceIdeal.Gen.facts) := fun m ρ _ =>
  (θ_run _ _ _).mono (fun r h => ⟨fun c => (h c).2, sem_eq_zero_of_no_sems (by decide) r.2⟩) (Cert.DoAttReferenceIdeal.Value.run m ρ)

/-- The idealization rewrites nothing. -/
theorem preserves : Cert.preserves_DoAttKernel_DoAttKernelIdeal := trivial

/-- The kernel and the reference leave the same array. -/
theorem algebraic : Cert.algebraic_DoAttKernelIdeal_DoAttReferenceIdeal (hDoAttKernelIdeal := Cert.DoAttKernelIdeal.Gen.facts)
    (hDoAttReferenceIdeal := Cert.DoAttReferenceIdeal.Gen.facts) := by
  intro m g m' g' hpre hag
  refine ⟨fun c => prod (aA m c) (aB m c), ?_, ?_⟩
  · refine (θ_run _ _ _).mono (fun r h c => ?_) (Cert.DoAttKernelIdeal.Value.run_blocks m g)
    obtain ⟨h2, hk⟩ := h c
    exact ⟨h2.trans (arr m c), hk⟩
  · refine (θ_run _ _ _).mono (fun r h c => ?_) (Cert.DoAttReferenceIdeal.Value.run m' g')
    obtain ⟨e0, e1⟩ := hag c
    obtain ⟨h2, hk⟩ := h c
    refine ⟨h2.trans ?_, hk⟩
    refine (Cert.DoAttReferenceIdeal.Read.val_main_v8_eq (F := Ideal) _ _).trans ?_
    rw [e0, e1]
    exact ref _ _

end Cert.DoAtt

end
-- ==== Proof.Norm.lean ====
/- The root-mean-square norm of one row and its gradient, as the kernels and as the reference compute them. -/
module

public import Idealize.ShloMosaic.Lib.Pointwise
public import Mathlib.Data.EReal.Operations

@[expose] public section

noncomputable section

namespace Cert.Norm

open Idealize.ShloMosaic

/-- The width of a row, the norm's small constant, and the other constants of the gradients. -/
def cN : EReal := ((1024 : ℝ) : EReal)
def cE : EReal := ((8796093 / 8796093022208 : ℝ) : EReal)
def cM : EReal := ((-(1 / 2) : ℝ) : EReal)
def cH : EReal := ((1 / 2 : ℝ) : EReal)
def cT : EReal := ((2 : ℝ) : EReal)
def cP : EReal := ((1 / 2048 : ℝ) : EReal)
def cD : EReal := ((1 / 1024 : ℝ) : EReal)

theorem ofBits_N : Ideal.ofBits .f32 0x44800000#32 = cN := by
  unfold cN
  simp [Ideal.ofBits, Ideal.ieee, -EReal.coe_mul]
  norm_num
theorem ofBits_E : Ideal.ofBits .f32 0x358637BD#32 = cE := by
  unfold cE
  simp [Ideal.ofBits, Ideal.ieee, -EReal.coe_mul]
  norm_num
theorem ofBits_M : Ideal.ofBits .f32 0xBF000000#32 = cM := by
  unfold cM
  simp [Ideal.ofBits, Ideal.ieee, -EReal.coe_mul]
  norm_num
theorem ofBits_H : Ideal.ofBits .f32 0x3F000000#32 = cH := by
  unfold cH
  simp [Ideal.ofBits, Ideal.ieee, -EReal.coe_mul]
  norm_num
theorem ofBits_T : Ideal.ofBits .f32 0x40000000#32 = cT := by
  unfold cT
  simp [Ideal.ofBits, Ideal.ieee, -EReal.coe_mul]
  norm_num
theorem ofBits_P : Ideal.ofBits .f32 0x3A000000#32 = cP := by
  unfold cP
  simp [Ideal.ofBits, Ideal.ieee, -EReal.coe_mul]
  norm_num
theorem ofBits_D : Ideal.ofBits .f32 0x3A800000#32 = cD := by
  unfold cD
  simp [Ideal.ofBits, Ideal.ieee, -EReal.coe_mul]
  norm_num

/-- The quotient by the width is the product with its inverse. -/
theorem div_N (a : EReal) : Ideal.div a cN = a * cD := by
  unfold Ideal.div cN cD
  rw [if_neg (by norm_num), ← EReal.coe_inv]
  norm_num

variable {ι : Type} [Fintype ι]

/-- A nonnegative real factor leaves a sum. -/
theorem sum_mul_coe (f : ι → EReal) (r : ℝ) (hr : 0 ≤ r) : ∑ k, f k * (r : EReal) = (∑ k, f k) * (r : EReal) := by
  classical
  induction (Finset.univ : Finset ι) using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The mean square of a row and the norm's small constant. -/
def ms (x : ι → EReal) : EReal := Ideal.div (∑ k, x k * x k) cN + cE

/-- The factor a row is scaled by. -/
def rs (x : ι → EReal) : EReal := Ideal.rsqrt (ms x)

theorem mul_self_nonneg (a : EReal) : 0 ≤ a * a := by
  rcases le_total 0 a with h | h
  · exact mul_nonneg h h
  · have := EReal.neg_nonneg.2 h
    rw [← neg_mul_neg]
    exact mul_nonneg this this

/-- The mean square is a positive real or `⊤`. -/
theorem ms_cases (x : ι → EReal) : ms x = ⊤ ∨ ∃ v : ℝ, 0 < v ∧ ms x = (v : EReal) := by
  have h0 : 0 ≤ ∑ k, x k * x k := Finset.sum_nonneg fun k _ => mul_self_nonneg _
  unfold ms
  rw [div_N]
  have h1 : 0 ≤ (∑ k, x k * x k) * cD := mul_nonneg h0 (by unfold cD; exact EReal.coe_nonneg.2 (by norm_num))
  generalize (∑ k, x k * x k) * cD = s at h1
  induction s with
  | bot => exact absurd h1 (by simp)
  | top => left; unfold cE; exact EReal.top_add_coe _
  | coe s =>
    right
    refine ⟨s + 8796093 / 8796093022208, ?_, ?_⟩
    · have : (0 : ℝ) ≤ s := EReal.coe_nonneg.1 h1
      positivity
    · unfold cE; exact (EReal.coe_add _ _).symm

/-- The row's gradient as the kernels compute it, from `d` (the gradient times the gain). -/
def dxK (x d : ι → EReal) (j : ι) : EReal := rs x * (d j - x j * rs x * Ideal.div (∑ k, d k * (x k * rs x)) cN)

/-- The factor of the row in the reference's gradient. -/
def coef (x d : ι → EReal) : EReal := Ideal.div ((∑ k, x k * d k) * (cM * Ideal.div (rs x) (ms x))) cN

/-- A number added to itself. -/
theorem add_self (y : EReal) : y + y = y * ((2 : ℝ) : EReal) := by
  have h := EReal.left_distrib_of_nonneg (a := 1) (b := 1) (c := y) zero_le_one zero_le_one
  rw [mul_one] at h
  rw [← h]
  congr 1
  rw [← EReal.coe_one, ← EReal.coe_add]
  norm_num

/-- The two gradients agree, whatever they are added to. -/
theorem dx_eq (x d : ι → EReal) (j : ι) (a : EReal) : a + dxK x d j = a + d j * rs x + x j * coef x d + coef x d * x j := by
  unfold dxK coef
  rw [div_N, div_N]
  rcases ms_cases x with h | ⟨v, hv, h⟩
  · have hr : rs x = 0 := by unfold rs; rw [h]; rfl
    rw [hr, h]
    simp [Ideal.div]
  · have hs : 0 < Real.sqrt v := Real.sqrt_pos.2 hv
    obtain ⟨r, hr0, hr, hrv⟩ : ∃ r : ℝ, 0 < r ∧ rs x = (r : EReal) ∧ r * r * v = 1 := by
      refine ⟨(Real.sqrt v)⁻¹, inv_pos.2 hs, ?_, ?_⟩
      · unfold rs; rw [h]; unfold Ideal.rsqrt
        show (if v < 0 then (⊥ : EReal) else if v = 0 then ⊤ else (((Real.sqrt v)⁻¹ : ℝ) : EReal)) = _
        rw [if_neg (not_lt.2 hv.le), if_neg hv.ne']
      · rw [← mul_inv, Real.mul_self_sqrt hv.le, inv_mul_cancel₀ hv.ne']
    have hd : Ideal.div (r : EReal) (v : EReal) = ((r * r * r : ℝ) : EReal) := by
      unfold Ideal.div
      rw [if_neg (by exact_mod_cast hv.ne'), ← EReal.coe_inv, ← EReal.coe_mul]
      congr 1
      have : v⁻¹ = r * r := (eq_inv_of_mul_eq_one_left hrv).symm
      rw [this]; ring
    have e1 : ∑ k, d k * (x k * rs x) = (∑ k, x k * d k) * (r : EReal) := by
      rw [← sum_mul_coe _ _ hr0.le, hr]
      exact Finset.sum_congr rfl fun k _ => by rw [← mul_assoc, mul_comm (d k)]
    rw [e1, hr, h, hd]
    generalize ∑ k, x k * d k = S
    have e2 : x j * (S * (cM * ((r * r * r : ℝ) : EReal)) * cD) = x j * S * ((-(r * r * r / 2048) : ℝ) : EReal) := by
      have : cM * ((r * r * r : ℝ) : EReal) * cD = ((-(r * r * r / 2048) : ℝ) : EReal) := by
        unfold cM cD
        rw [← EReal.coe_mul, ← EReal.coe_mul]
        congr 1
        ring
      rw [← this, mul_assoc S, mul_assoc (x j)]
    have e3 : (r : EReal) * -(x j * (r : EReal) * (S * (r : EReal) * cD)) = x j * S * ((-(r * r * r / 1024) : ℝ) : EReal) := by
      have : (r : EReal) * (r : EReal) * (r : EReal) * cD = ((r * r * r / 1024 : ℝ) : EReal) := by
        unfold cD
        rw [← EReal.coe_mul, ← EReal.coe_mul, ← EReal.coe_mul]
        congr 1
        ring
      rw [EReal.coe_neg, mul_neg, mul_neg, ← this]
      congr 1
      ac_rfl
    rw [mul_comm (S * _ * cD) (x j), e2, sub_eq_add_neg,
      EReal.left_distrib_of_nonneg_of_ne_top (EReal.coe_nonneg.2 hr0.le) (EReal.coe_ne_top r), e3, add_assoc (a + _), add_self, add_assoc,
      mul_comm (r : EReal) (d j), mul_assoc (x j * S), ← EReal.coe_mul]
    congr 5
    ring

end Cert.Norm

end
-- ==== Proof.Down.lean ====
/- The product down to the model width, its norm, the loss and the first gradients. -/
module

public import proofs.«01_k».proof.Proof.Gen.DownKernel.Frame
public import proofs.«01_k».proof.Proof.Gen.DownKernelIdeal.Frame
public import proofs.«01_k».proof.Proof.Gen.DownReferenceIdeal.Run
public import proofs.«01_k».proof.Proof.Gen.DownReferenceIdeal.Read
public import proofs.«01_k».proof.Defs
public import Idealize.ShloMosaic.Lib.Pipeline.ValueKit
public import Idealize.ShloMosaic.Lib.Pointwise
public import Idealize.ShloMosaic.Lib.Claim
public import Idealize.ShloMosaic.Lib.Pipeline.Value
public import proofs.«01_k».proof.Proof.Norm

@[expose] public section

set_option maxRecDepth 16384

noncomputable section

namespace Cert.Down

open Idealize.ShloMosaic Idealize.ShloMosaic.TcCoe Idealize.SL.Sem
open Cert.DownKernelIdeal Cert.DownKernelIdeal.Gen

open Cert.Norm

/-- A row of an array. -/
def row (X : S8192x1024.Idx → EReal) (a : Fin 8192) : Fin 1024 → EReal := fun k => X (ix2 a k)

/-- The product of the activations and the weights. -/
def arrF (A : S8192x3072.Idx → EReal) (W : S3072x1024.Idx → EReal) : S8192x1024.Idx → EReal := fun i =>
  ∑ k : Fin 3072, A (ix2 (i 0) k) * W (ix2 k (i 1))

/-- The layer's output less the target, where the product is `X`. -/
def arrD (X H T : S8192x1024.Idx → EReal) (g : S1x1024.Idx → EReal) : S8192x1024.Idx → EReal := fun i =>
  H i + X i * rs (row X (i 0)) * g (ix2 0 (i 1)) - T i

/-- The gradient of the layer's output. -/
def arrY (X H T : S8192x1024.Idx → EReal) (g : S1x1024.Idx → EReal) : S8192x1024.Idx → EReal := fun i => arrD X H T g i * cD

/-- A row of a gradient, times the gain. -/
def dRow (Y : S8192x1024.Idx → EReal) (g : S1x1024.Idx → EReal) (a : Fin 8192) : Fin 1024 → EReal := fun k => Y (ix2 a k) * g (ix2 0 k)

/-- The gradient of the product. -/
def arrDff (X Y : S8192x1024.Idx → EReal) (g : S1x1024.Idx → EReal) : S8192x1024.Idx → EReal := fun i =>
  dxK (row X (i 0)) (dRow Y g (i 0)) (i 1)

/-- The loss. -/
def arrL (D : S8192x1024.Idx → EReal) : S1x1.Idx → EReal := fun _ => (∑ a : Fin 8192, ∑ k : Fin 1024, D (ix2 a k) * D (ix2 a k)) * cP

/-- The gradient of the gain. -/
def arrDg (X Y : S8192x1024.Idx → EReal) : S1x1024.Idx → EReal := fun i =>
  ∑ a : Fin 8192, Y (ix2 a (i 1)) * (X (ix2 a (i 1)) * rs (row X a))

section

variable (m : (ℓ : Loc nD τ sig) → Buf (Elt Ideal) ℓ)

/-- The windows' block indices at a grid point. -/
theorem idx : ∀ t : Fin cfg0.N, win0_0.index t = ![t.val / 3, t.val % 3] ∧ win0_1.index t = ![t.val % 3, 0] ∧
    win0_2.index t = ![t.val / 3, 0] ∧ win0_3.index t = ![t.val / 3, 0] ∧ win0_4.index t = ![0, 0] ∧ win0_5.index t = ![t.val / 3, 0] ∧
    win0_6.index t = ![t.val / 3, 0] ∧ win0_7.index t = ![0, 0] ∧ win0_8.index t = ![0, 0] :=
  (by decide +kernel : ∀ t : Fin grid0.N, _)

/-- The kernel's run, with the arrays it leaves. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩)
    (run_main m ρ)

variable (c : Dev nD) (t : Fin cfg0.N)

/-- The five arguments of the launch. -/
abbrev aA : S8192x3072.Idx → EReal := m ((c : Thread nD τ).loc main_arg0)
abbrev aW : S3072x1024.Idx → EReal := m ((c : Thread nD τ).loc main_arg1)
abbrev aH : S8192x1024.Idx → EReal := m ((c : Thread nD τ).loc main_arg2)
abbrev aT : S8192x1024.Idx → EReal := m ((c : Thread nD τ).loc main_arg3)
abbrev aG : S1x1024.Idx → EReal := m ((c : Thread nD τ).loc main_arg4)

/-- The product, the difference from the target and its gradient, of the arguments. -/
abbrev sF : S8192x1024.Idx → EReal := arrF (aA m c) (aW m c)
abbrev sD : S8192x1024.Idx → EReal := arrD (sF m c) (aH m c) (aT m c) (aG m c)
abbrev sY : S8192x1024.Idx → EReal := arrY (sF m c) (aH m c) (aT m c) (aG m c)

/-- The row in the arrays of a point's row, and the place of a point's summand. -/
def pt (t : Fin cfg0.N) (r : Fin 1024) : Fin 8192 := ⟨t.val / 3 * 1024 + r.val, by have := lt_of_lt_of_eq t.isLt (show cfg0.N = 24 from N_0); omega⟩
def ptK (t : Fin cfg0.N) (r : Fin 1024) : Fin 3072 := ⟨t.val % 3 * 1024 + r.val, by omega⟩

/-- The blocks a point reads, in the arguments. -/
theorem blk0 (r l : Fin 1024) : iblk (F := Ideal) m c 0 t (ix2 r l) = aA m c (ix2 (pt t r) (ptK t l)) := by
  unfold pt ptK
  blk_ext [iblk, V, idx t]

theorem blk1 (r l : Fin 1024) : iblk (F := Ideal) m c 1 t (ix2 r l) = aW m c (ix2 (ptK t r) l) := by
  unfold ptK
  blk_ext [iblk, V, idx t]

theorem blk2 (r l : Fin 1024) : iblk (F := Ideal) m c 2 t (ix2 r l) = aH m c (ix2 (pt t r) l) := by
  unfold pt
  blk_ext [iblk, V, idx t]

theorem blk3 (r l : Fin 1024) : iblk (F := Ideal) m c 3 t (ix2 r l) = aT m c (ix2 (pt t r) l) := by
  unfold pt
  blk_ext [iblk, V, idx t]

theorem blk4 (l : Fin 1024) : iblk (F := Ideal) m c 4 t (ix2 0 l) = aG m c (ix2 0 l) := by
  blk_ext [iblk, V, idx t]

/-- What a point adds to the accumulator. -/
def part (j : S1024x1024.Idx) : EReal := ∑ k : Fin 1024, aA m c (ix2 (pt t (j 0)) (ptK t k)) * aW m c (ix2 (ptK t k) (j 1))

theorem part_at (a b : Fin 1024) :
    (∑ k : Fin 1024, (show S1024x1024.Idx → EReal from iblk (F := Ideal) m c 0 t) (ix2 a k) * (show S1024x1024.Idx → EReal from iblk (F := Ideal) m c 1 t) (ix2 k b)) = part m c t (ix2 a b) := by
  unfold part
  exact Finset.sum_congr rfl fun k _ => congrArg₂ (· * ·) (blk0 m c t a k) (blk1 m c t k b)

/-- What the accumulator holds after a point. -/
abbrev scr (n : ℕ) (h : n < cfg0.N) : Vec Ideal S1024x1024 .f32 := (outsAt0 (F := Ideal) m c n h).2.2.2.2

/-- The accumulator after the last point of a row tile: the product. -/
theorem acc (hf : t.val % 3 = 2) (a b : Fin 1024) : scr m c t.val t.isLt (ix2 a b) = sF m c (ix2 (pt t a) b) := by
  have ht := lt_of_lt_of_eq t.isLt (show cfg0.N = 24 from N_0)
  have hN : cfg0.N = 24 := N_0
  unfold scr
  rw [Pipeline.eq_sum_fin_of_reset_step_apply_of_flush (fun n h => (outsAt0 (F := Ideal) m c n h).2.2.2.2) 3 (fun _ => 0)
    (part m c)
    (fun t h j => by
      obtain ⟨a, b, rfl⟩ : ∃ (a : Fin 1024) (b : Fin 1024), j = ix2 a b := ⟨j 0, j 1, eq_ix2 j⟩
      rw [outsAt0_A m c t h (by omega) (by omega)]; frame_out
      rw [← part_at]
      pointwise [k0_pay1])
    (fun t h j => by
      obtain ⟨a, b, rfl⟩ : ∃ (a : Fin 1024) (b : Fin 1024), j = ix2 a b := ⟨j 0, j 1, eq_ix2 j⟩
      by_cases h2 : t.val % 3 = 2
      · by_cases h3 : t.val < 3
        · rw [outsAt0_C m c t h (by omega) h2 h3 (by omega) h3 (by omega)]; frame_out
          rw [← part_at]
          pointwise [k0_pay2]
          exact congrArg₂ (· + ·) (congrFun (Memref.IsWhole.read_unread _ _) _) rfl
        · rw [outsAt0_D m c t h (by omega) h2 h3 (by omega) h3 (by omega)]; frame_out
          rw [← part_at]
          pointwise [k0_pay2]
          exact congrArg₂ (· + ·) (congrFun (Memref.IsWhole.read_unread _ _) _) rfl
      · rw [outsAt0_B m c t h (by omega) h2]; frame_out
        rw [← part_at]
        pointwise [k0_pay2]
        exact congrArg₂ (· + ·) (congrFun (Memref.IsWhole.read_unread _ _) _) rfl) t hf (ix2 a b), zero_add]
  unfold sF arrF
  refine Eq.trans (Finset.sum_congr rfl fun s _ => ?_)
    (Fin.sum_mul_add_fin 3 1024 fun k : Fin 3072 => aA m c (ix2 (pt t a) k) * aW m c (ix2 k b))
  unfold part
  refine Finset.sum_congr rfl fun k _ => ?_
  have hs := s.isLt
  have e0 : ∀ h, ptK ⟨3 * (t.val / 3) + s.val, h⟩ k = ⟨s.val * 1024 + k.val, by omega⟩ := fun h =>
    Fin.ext (by show (3 * (t.val / 3) + s.val) % 3 * 1024 + k.val = s.val * 1024 + k.val; omega)
  have e1 : ∀ h, pt ⟨3 * (t.val / 3) + s.val, h⟩ a = pt t a := fun h =>
    Fin.ext (by show (3 * (t.val / 3) + s.val) / 3 * 1024 + a.val = t.val / 3 * 1024 + a.val; omega)
  rw [e0, show pt ⟨3 * (t.val / 3) + s.val, _⟩ ((ix2 a b : S1024x1024.Idx) 0) = pt t a from e1 _]
  rfl

/-- The payloads at a place, in rows. -/
theorem p7 (x h y : Vec Ideal S1024x1024 .f32) (g : Vec Ideal S1x1024 .f32) (r l : Fin 1024) :
    k0_pay7 (F := Ideal) x h y g (ix2 r l) = h (ix2 r l) + x (ix2 r l) * rs (fun k : Fin 1024 => x (ix2 r k)) * g (ix2 0 l) - y (ix2 r l) := by
  unfold rs ms
  rw [← ofBits_N, ← ofBits_E]
  pointwise [k0_pay7]

theorem p9 (x h y : Vec Ideal S1024x1024 .f32) (g : Vec Ideal S1x1024 .f32) (r l : Fin 1024) :
    k0_pay9 (F := Ideal) x h y g (ix2 r l) = k0_pay7 (F := Ideal) x h y g (ix2 r l) * cD := by
  rw [← ofBits_D]
  pointwise [k0_pay9]

theorem p8 (x h y : Vec Ideal S1024x1024 .f32) (g : Vec Ideal S1x1024 .f32) :
    k0_pay8 (F := Ideal) x h y g (ix2 0 0) = (∑ r : Fin 1024, ∑ l : Fin 1024, k0_pay7 (F := Ideal) x h y g (ix2 r l) * k0_pay7 (F := Ideal) x h y g (ix2 r l)) * cP := by
  rw [← ofBits_P]
  pointwise [k0_pay8]

theorem p4 (x h y : Vec Ideal S1024x1024 .f32) (g : Vec Ideal S1x1024 .f32) (r l : Fin 1024) :
    k0_pay4 (F := Ideal) (k0_pay10 x) (k0_pay11 x) (k0_pay12 x h y g) (k0_pay13 x h y g) (ix2 r l) =
      dxK (fun k : Fin 1024 => x (ix2 r k)) (fun k : Fin 1024 => k0_pay9 (F := Ideal) x h y g (ix2 r k) * g (ix2 0 k)) l := by
  unfold dxK rs ms
  rw [← ofBits_N, ← ofBits_E]
  pointwise [k0_pay4, k0_pay10, k0_pay11, k0_pay12, k0_pay13]

theorem p3 (x h y : Vec Ideal S1024x1024 .f32) (g : Vec Ideal S1x1024 .f32) (l : Fin 1024) :
    k0_pay3 (F := Ideal) (k0_pay9 x h y g) (k0_pay11 x) (ix2 0 l) =
      ∑ r : Fin 1024, k0_pay9 (F := Ideal) x h y g (ix2 r l) * (x (ix2 r l) * rs (fun k : Fin 1024 => x (ix2 r k))) := by
  unfold rs ms
  rw [← ofBits_N, ← ofBits_E]
  pointwise [k0_pay3, k0_pay10, k0_pay11]

/-- The difference from the target at the last point of a row tile. -/
theorem pay7_at (hf : t.val % 3 = 2) (r l : Fin 1024) :
    k0_pay7 (F := Ideal) (scr m c t.val t.isLt) (iblk m c 2 t) (iblk m c 3 t) (iblk m c 4 t) (ix2 r l) = sD m c (ix2 (pt t r) l) := by
  refine (p7 _ _ _ _ r l).trans ?_
  unfold sD arrD
  refine congrArg₂ (· - ·) (congrArg₂ (· + ·) (blk2 m c t r l) (congrArg₂ (· * ·) (congrArg₂ (· * ·) (acc m c t hf r l) ?_) (blk4 m c t l))) (blk3 m c t r l)
  exact congrArg rs (funext fun k => acc m c t hf r k)

/-- Its gradient. -/
theorem pay9_at (hf : t.val % 3 = 2) (r l : Fin 1024) :
    k0_pay9 (F := Ideal) (scr m c t.val t.isLt) (iblk m c 2 t) (iblk m c 3 t) (iblk m c 4 t) (ix2 r l) = sY m c (ix2 (pt t r) l) :=
  (p9 _ _ _ _ r l).trans (congrArg (· * cD) (pay7_at m c t hf r l))

/-- The gradient of the product. -/
theorem pay4_at (hf : t.val % 3 = 2) (r l : Fin 1024) :
    k0_pay4 (F := Ideal) (k0_pay10 (scr m c t.val t.isLt)) (k0_pay11 (scr m c t.val t.isLt)) (k0_pay12 (scr m c t.val t.isLt) (iblk m c 2 t) (iblk m c 3 t) (iblk m c 4 t)) (k0_pay13 (scr m c t.val t.isLt) (iblk m c 2 t) (iblk m c 3 t) (iblk m c 4 t)) (ix2 r l) =
      arrDff (sF m c) (sY m c) (aG m c) (ix2 (pt t r) l) := by
  refine (p4 _ _ _ _ r l).trans ?_
  unfold arrDff row dRow
  exact congrArg₂ (fun a b => dxK a b l) (funext fun k => acc m c t hf r k) (funext fun k => congrArg₂ (· * ·) (pay9_at m c t hf r k) (blk4 m c t k))

/-- What a row tile adds to the loss and to the gain's gradient. -/
def termL (t : Fin cfg0.N) : EReal := (∑ r : Fin 1024, ∑ l : Fin 1024, sD m c (ix2 (pt t r) l) * sD m c (ix2 (pt t r) l)) * cP
def termG (t : Fin cfg0.N) (l : Fin 1024) : EReal := ∑ r : Fin 1024, sY m c (ix2 (pt t r) l) * (sF m c (ix2 (pt t r) l) * rs (row (sF m c) (pt t r)))

theorem pay8_at (hf : t.val % 3 = 2) :
    k0_pay8 (F := Ideal) (scr m c t.val t.isLt) (iblk m c 2 t) (iblk m c 3 t) (iblk m c 4 t) (ix2 0 0) = termL m c t :=
  (p8 _ _ _ _).trans (congrArg (· * cP) (Finset.sum_congr rfl fun r _ => Finset.sum_congr rfl fun l _ => congrArg₂ (· * ·) (pay7_at m c t hf r l) (pay7_at m c t hf r l)))

theorem pay3_at (hf : t.val % 3 = 2) (l : Fin 1024) :
    k0_pay3 (F := Ideal) (k0_pay9 (scr m c t.val t.isLt) (iblk m c 2 t) (iblk m c 3 t) (iblk m c 4 t)) (k0_pay11 (scr m c t.val t.isLt)) (ix2 0 l) = termG m c t l := by
  refine (p3 _ _ _ _ l).trans (Finset.sum_congr rfl fun r _ => ?_)
  unfold row
  exact congrArg₂ (· * ·) (pay9_at m c t hf r l) (congrArg₂ (· * ·) (acc m c t hf r l) (congrArg rs (funext fun k => acc m c t hf r k)))

/-- What output 5 holds after the last point of a row tile. -/
theorem out5 (hf : t.val % 3 = 2) : (outsAt0 (F := Ideal) m c t.val t.isLt).1 = k0_pay9 (F := Ideal) (scr m c t.val t.isLt) (iblk m c 2 t) (iblk m c 3 t) (iblk m c 4 t) := by
  unfold scr
  by_cases h3 : t.val < 3
  · rw [outsAt0_C m c t (by omega) (by omega) hf h3 (by omega) h3 (by omega)]; frame_out
  · rw [outsAt0_D m c t (by omega) (by omega) hf h3 (by omega) h3 (by omega)]; frame_out

/-- What output 6 holds after the last point of a row tile. -/
theorem out6 (hf : t.val % 3 = 2) : (outsAt0 (F := Ideal) m c t.val t.isLt).2.1 = k0_pay4 (F := Ideal) (k0_pay10 (scr m c t.val t.isLt)) (k0_pay11 (scr m c t.val t.isLt)) (k0_pay12 (scr m c t.val t.isLt) (iblk m c 2 t) (iblk m c 3 t) (iblk m c 4 t)) (k0_pay13 (scr m c t.val t.isLt) (iblk m c 2 t) (iblk m c 3 t) (iblk m c 4 t)) := by
  unfold scr
  by_cases h3 : t.val < 3
  · rw [outsAt0_C m c t (by omega) (by omega) hf h3 (by omega) h3 (by omega)]; frame_out
  · rw [outsAt0_D m c t (by omega) (by omega) hf h3 (by omega) h3 (by omega)]; frame_out

theorem arr5 : (dats (F := Ideal) m 0 c).arrAt 5 cfg0.N = sY m c := by
  refine (dats (F := Ideal) m 0 c).arrAt_eq_of_covers 5 _ (by decide +kernel) fun t hf y => ?_
  have hm : t.val % 3 = 2 := (flush0_5 t).mp hf
  blk_simp
  rw [after0_5, out5 m c t hm]
  obtain ⟨r, l, rfl⟩ : ∃ (r : Fin 1024) (l : Fin 1024), y = ix2 r l := ⟨y 0, y 1, eq_ix2 y⟩
  have e : ((View.whole main_v0_0).slice (win0_5.rect t)).emb (ix2 r l) = ix2 (pt t r) l := by
    unfold pt
    blk_ext [idx t]
  rw [e]
  exact pay9_at m c t hm r l

theorem arr6 : (dats (F := Ideal) m 0 c).arrAt 6 cfg0.N = arrDff (sF m c) (sY m c) (aG m c) := by
  refine (dats (F := Ideal) m 0 c).arrAt_eq_of_covers 6 _ (by decide +kernel) fun t hf y => ?_
  have hm : t.val % 3 = 2 := (flush0_6 t).mp hf
  blk_simp
  rw [after0_6, out6 m c t hm]
  obtain ⟨r, l, rfl⟩ : ∃ (r : Fin 1024) (l : Fin 1024), y = ix2 r l := ⟨y 0, y 1, eq_ix2 y⟩
  have e : ((View.whole main_v0_1).slice (win0_6.rect t)).emb (ix2 r l) = ix2 (pt t r) l := by
    unfold pt
    blk_ext [idx t]
  rw [e]
  exact pay4_at m c t hm r l

/-- What output 7 holds: at the end of the first row tile, of a later one, and before the end of one. -/
theorem first7 (hf : t.val % 3 = 2) (h3 : t.val < 3)  : (outsAt0 (F := Ideal) m c t.val t.isLt).2.2.1 (ix2 0 0) = termL m c t := by
  refine Eq.trans ?_ (pay8_at m c t hf)
  unfold scr
  rw [outsAt0_C m c t (by omega) (by omega) hf h3 (by omega) h3 (by omega)]; frame_out

theorem next7 (hf : t.val % 3 = 2) (h3 : ¬t.val < 3)  : (outsAt0 (F := Ideal) m c t.val t.isLt).2.2.1 (ix2 0 0) =
    (outsAt0 (F := Ideal) m c (t.val - 1) (Nat.lt_of_le_of_lt (Nat.sub_le _ _) t.isLt)).2.2.1 (ix2 0 0) + termL m c t := by
  refine Eq.trans ?_ (congrArg _ (pay8_at m c t hf))
  unfold scr
  rw [outsAt0_D m c t (by omega) (by omega) hf h3 (by omega) h3 (by omega)]; frame_out
  pointwise [k0_pay5]
  try exact congrArg₂ (· + ·) (congrFun (Memref.IsWhole.read_unread _ _) _) rfl

theorem keep7 (hf : ¬t.val % 3 = 2) : (outsAt0 (F := Ideal) m c t.val t.isLt).2.2.1 =
    (outsAt0 (F := Ideal) m c (t.val - 1) (Nat.lt_of_le_of_lt (Nat.sub_le _ _) t.isLt)).2.2.1 := by
  by_cases h : t.val % 3 = 0
  · rw [outsAt0_A m c t h (by omega) hf]
    unfold out0_A_7
    dsimp only
  · rw [outsAt0_B m c t h (by omega) hf]
    unfold out0_B_7
    dsimp only

/-- What output 7 holds after a row tile: the sum over the tiles so far. -/
theorem upto7  : ∀ (q : ℕ) (h : 3 * q + 2 < cfg0.N), (outsAt0 (F := Ideal) m c (3 * q + 2) h).2.2.1 (ix2 0 0) =
    ∑ s : Fin (q + 1), termL m c ⟨3 * s.val + 2, by omega⟩  := by
  intro q
  induction q with
  | zero =>
    intro h
    rw [Fin.sum_univ_one]
    exact first7 m c ⟨2, h⟩ rfl (by show 2 < 3; omega)
  | succ q ih =>
    intro h
    rw [Fin.sum_univ_castSucc]
    have e1 := next7 m c ⟨3 * (q + 1) + 2, h⟩ (by show (3 * (q + 1) + 2) % 3 = 2; omega) (by show ¬3 * (q + 1) + 2 < 3; omega)
    have e2 := keep7 m c ⟨3 * (q + 1) + 1, by omega⟩ (by show ¬(3 * (q + 1) + 1) % 3 = 2; omega)
    have e3 := keep7 m c ⟨3 * (q + 1), by omega⟩ (by show ¬(3 * (q + 1)) % 3 = 2; omega)
    exact e1.trans (congrArg₂ (· + ·) ((congrFun (e2.trans e3) _).trans (ih (by omega))) rfl)

/-- What output 8 holds: at the end of the first row tile, of a later one, and before the end of one. -/
theorem first8 (hf : t.val % 3 = 2) (h3 : t.val < 3) (l : Fin 1024) : (outsAt0 (F := Ideal) m c t.val t.isLt).2.2.2.1 (ix2 0 l) = termG m c t l := by
  refine Eq.trans ?_ (pay3_at m c t hf l)
  unfold scr
  rw [outsAt0_C m c t (by omega) (by omega) hf h3 (by omega) h3 (by omega)]; frame_out

theorem next8 (hf : t.val % 3 = 2) (h3 : ¬t.val < 3) (l : Fin 1024) : (outsAt0 (F := Ideal) m c t.val t.isLt).2.2.2.1 (ix2 0 l) =
    (outsAt0 (F := Ideal) m c (t.val - 1) (Nat.lt_of_le_of_lt (Nat.sub_le _ _) t.isLt)).2.2.2.1 (ix2 0 l) + termG m c t l := by
  refine Eq.trans ?_ (congrArg _ (pay3_at m c t hf l))
  unfold scr
  rw [outsAt0_D m c t (by omega) (by omega) hf h3 (by omega) h3 (by omega)]; frame_out
  unfold k0_pay6; pointwise []
  try exact congrArg₂ (· + ·) (congrFun (Memref.IsWhole.read_unread _ _) _) rfl

theorem keep8 (hf : ¬t.val % 3 = 2) : (outsAt0 (F := Ideal) m c t.val t.isLt).2.2.2.1 =
    (outsAt0 (F := Ideal) m c (t.val - 1) (Nat.lt_of_le_of_lt (Nat.sub_le _ _) t.isLt)).2.2.2.1 := by
  by_cases h : t.val % 3 = 0
  · rw [outsAt0_A m c t h (by omega) hf]
    unfold out0_A_8
    dsimp only
  · rw [outsAt0_B m c t h (by omega) hf]
    unfold out0_B_8
    dsimp only

/-- What output 8 holds after a row tile: the sum over the tiles so far. -/
theorem upto8 (l : Fin 1024) : ∀ (q : ℕ) (h : 3 * q + 2 < cfg0.N), (outsAt0 (F := Ideal) m c (3 * q + 2) h).2.2.2.1 (ix2 0 l) =
    ∑ s : Fin (q + 1), termG m c ⟨3 * s.val + 2, by omega⟩ l := by
  intro q
  induction q with
  | zero =>
    intro h
    rw [Fin.sum_univ_one]
    exact first8 m c ⟨2, h⟩ rfl (by show 2 < 3; omega) l
  | succ q ih =>
    intro h
    rw [Fin.sum_univ_castSucc]
    have e1 := next8 m c ⟨3 * (q + 1) + 2, h⟩ (by show (3 * (q + 1) + 2) % 3 = 2; omega) (by show ¬3 * (q + 1) + 2 < 3; omega) l
    have e2 := keep8 m c ⟨3 * (q + 1) + 1, by omega⟩ (by show ¬(3 * (q + 1) + 1) % 3 = 2; omega)
    have e3 := keep8 m c ⟨3 * (q + 1), by omega⟩ (by show ¬(3 * (q + 1)) % 3 = 2; omega)
    exact e1.trans (congrArg₂ (· + ·) ((congrFun (e2.trans e3) _).trans (ih (by omega))) rfl)

/-- What a point holds depends on its number only. -/
theorem outs_congr {n n' : ℕ} (e : n = n') (h : n < cfg0.N) (h' : n' < cfg0.N) : outsAt0 (F := Ideal) m c n h = outsAt0 (F := Ideal) m c n' h' := by
  subst e
  rfl

theorem arr7 : (dats (F := Ideal) m 0 c).arrAt 7 cfg0.N = arrL (sD m c) := by
  refine (dats (F := Ideal) m 0 c).arrAt_eq_of_covers 7 _ (by decide +kernel) fun t hf y => ?_
  have ht := lt_of_lt_of_eq t.isLt (show cfg0.N = 24 from N_0)
  have hm : t.val % 24 = 23 := (flush0_7 t).mp hf
  blk_simp
  rw [after0_7, outs_congr m c (show t.val = 3 * 7 + 2 by omega) t.isLt (lt_of_lt_of_eq (by decide) (show 24 = cfg0.N from N_0.symm))]
  obtain ⟨z, l, rfl⟩ : ∃ (z : Fin 1) (l : Fin 1), y = ix2 z l := ⟨y 0, y 1, eq_ix2 y⟩
  obtain rfl : z = 0 := Subsingleton.elim _ _
  obtain rfl : l = 0 := Subsingleton.elim _ _
  refine (upto7 m c 7 _).trans ?_
  unfold arrL termL cP
  refine (sum_mul_coe (fun s : Fin 8 => ∑ r : Fin 1024, ∑ l : Fin 1024, sD m c (ix2 (pt ⟨3 * s.val + 2, _⟩ r) l) * sD m c (ix2 (pt ⟨3 * s.val + 2, _⟩ r) l)) _ (by norm_num)).trans (congrArg (· * _) ?_)
  refine Eq.trans ?_ (Fin.sum_mul_add_fin 8 1024 (fun a : Fin (8 * 1024) => ∑ l : Fin 1024, sD m c (ix2 a l) * sD m c (ix2 a l)))
  refine Finset.sum_congr rfl fun s _ => Finset.sum_congr rfl fun r _ => ?_
  have e : ∀ h, pt ⟨3 * s.val + 2, h⟩ r = ⟨s.val * 1024 + r.val, by omega⟩ := fun h => Fin.ext (by show (3 * s.val + 2) / 3 * 1024 + r.val = s.val * 1024 + r.val; omega)
  rw [e]

theorem arr8 : (dats (F := Ideal) m 0 c).arrAt 8 cfg0.N = arrDg (sF m c) (sY m c) := by
  refine (dats (F := Ideal) m 0 c).arrAt_eq_of_covers 8 _ (by decide +kernel) fun t hf y => ?_
  have ht := lt_of_lt_of_eq t.isLt (show cfg0.N = 24 from N_0)
  have hm : t.val % 24 = 23 := (flush0_8 t).mp hf
  blk_simp
  rw [after0_8, outs_congr m c (show t.val = 3 * 7 + 2 by omega) t.isLt (lt_of_lt_of_eq (by decide) (show 24 = cfg0.N from N_0.symm))]
  obtain ⟨z, l, rfl⟩ : ∃ (z : Fin 1) (l : Fin 1024), y = ix2 z l := ⟨y 0, y 1, eq_ix2 y⟩
  obtain rfl : z = 0 := Subsingleton.elim _ _
  refine (upto8 m c l 7 _).trans ?_
  have ei : ((View.whole main_v0_3).slice (win0_8.rect t)).emb (ix2 0 l) = ix2 0 l := by
    blk_ext [idx t]
  rw [ei]
  unfold arrDg termG
  refine Eq.trans ?_ (Fin.sum_mul_add_fin 8 1024 (fun a : Fin (8 * 1024) => sY m c (ix2 a l) * (sF m c (ix2 a l) * rs (row (sF m c) a))))
  refine Finset.sum_congr rfl fun s _ => Finset.sum_congr rfl fun r _ => ?_
  have e : ∀ h, pt ⟨3 * s.val + 2, h⟩ r = ⟨s.val * 1024 + r.val, by omega⟩ := fun h => Fin.ext (by show (3 * s.val + 2) / 3 * 1024 + r.val = s.val * 1024 + r.val; omega)
  rw [e]

/-- The gradient of half the mean square, in one factor. -/
theorem halves (x : EReal) : Ideal.div cH cN * (cT * x) = x * cD := by
  rw [div_N, ← mul_assoc, mul_comm]
  refine congrArg _ ?_
  unfold cH cD cT
  rw [← EReal.coe_mul, ← EReal.coe_mul]
  norm_num

/-- The loss, in one factor. -/
theorem half_sum (f : Fin 8192 → EReal) : cH * ∑ a, Ideal.div (f a) cN = (∑ a, f a) * cP := by
  have e : ∀ a, Ideal.div (f a) cN = f a * ((1 / 1024 : ℝ) : EReal) := fun a => div_N _
  rw [Finset.sum_congr rfl fun a _ => e a, sum_mul_coe _ _ (by norm_num), mul_comm, mul_assoc]
  refine congrArg _ ?_
  unfold cH cP
  rw [← EReal.coe_mul]
  norm_num

/-- The reference's product is the same. -/
theorem refF (A : S8192x3072.Idx → EReal) (W : S3072x1024.Idx → EReal) : Cert.DownReferenceIdeal.Read.val_main_v2 (F := Ideal) A W = arrF A W := by
  funext i
  obtain ⟨a, b, rfl⟩ : ∃ (a : Fin 8192) (b : Fin 1024), i = ix2 a b := ⟨i 0, i 1, eq_ix2 i⟩
  unfold arrF
  pointwise [Cert.DownReferenceIdeal.Read.val_main_v0, Cert.DownReferenceIdeal.Read.val_main_v1, Cert.DownReferenceIdeal.Read.val_main_v2]
  try rfl

/-- So is its difference from the target. -/
theorem refD (A : S8192x3072.Idx → EReal) (W : S3072x1024.Idx → EReal) (H T : S8192x1024.Idx → EReal) (g : S1x1024.Idx → EReal) :
    Cert.DownReferenceIdeal.Read.val_main_v21 (F := Ideal) A W H T g = arrD (arrF A W) H T g := by
  funext i
  obtain ⟨a, b, rfl⟩ : ∃ (a : Fin 8192) (b : Fin 1024), i = ix2 a b := ⟨i 0, i 1, eq_ix2 i⟩
  unfold arrD rs ms row
  rw [← ofBits_N, ← ofBits_E]
  pointwise [Cert.DownReferenceIdeal.Read.val_main_v3, Cert.DownReferenceIdeal.Read.val_main_v4, Cert.DownReferenceIdeal.Read.val_main_cst, Cert.DownReferenceIdeal.Read.val_main_v5, Cert.DownReferenceIdeal.Read.val_main_v6, Cert.DownReferenceIdeal.Read.val_main_cst_0, Cert.DownReferenceIdeal.Read.val_main_v7, Cert.DownReferenceIdeal.Read.val_main_v8, Cert.DownReferenceIdeal.Read.val_main_cst_1, Cert.DownReferenceIdeal.Read.val_main_v9, Cert.DownReferenceIdeal.Read.val_main_v10, Cert.DownReferenceIdeal.Read.val_main_v11, Cert.DownReferenceIdeal.Read.val_main_v12, Cert.DownReferenceIdeal.Read.val_main_cst_2, Cert.DownReferenceIdeal.Read.val_main_v13, Cert.DownReferenceIdeal.Read.val_main_v14, Cert.DownReferenceIdeal.Read.val_main_v15, Cert.DownReferenceIdeal.Read.val_main_v16, Cert.DownReferenceIdeal.Read.val_main_v17, Cert.DownReferenceIdeal.Read.val_main_v18, Cert.DownReferenceIdeal.Read.val_main_v19, Cert.DownReferenceIdeal.Read.val_main_v20, Cert.DownReferenceIdeal.Read.val_main_v21]
  simp only [refF]
  try rfl

/-- So are its results. -/
theorem ref0 (A : S8192x3072.Idx → EReal) (W : S3072x1024.Idx → EReal) (H T : S8192x1024.Idx → EReal) (g : S1x1024.Idx → EReal) :
    Cert.DownReferenceIdeal.Read.val_main_v35 (F := Ideal) A W H T g = arrY (arrF A W) H T g := by
  funext i
  obtain ⟨a, b, rfl⟩ : ∃ (a : Fin 8192) (b : Fin 1024), i = ix2 a b := ⟨i 0, i 1, eq_ix2 i⟩
  unfold arrY
  rw [← halves, ← ofBits_N, ← ofBits_H, ← ofBits_T]
  pointwise [Cert.DownReferenceIdeal.Read.val_main_cst_3, Cert.DownReferenceIdeal.Read.val_main_v23, Cert.DownReferenceIdeal.Read.val_main_v24, Cert.DownReferenceIdeal.Read.val_main_cst_8, Cert.DownReferenceIdeal.Read.val_main_cst_9, Cert.DownReferenceIdeal.Read.val_main_v30, Cert.DownReferenceIdeal.Read.val_main_v31, Cert.DownReferenceIdeal.Read.val_main_cst_10, Cert.DownReferenceIdeal.Read.val_main_v32, Cert.DownReferenceIdeal.Read.val_main_v33, Cert.DownReferenceIdeal.Read.val_main_v34, Cert.DownReferenceIdeal.Read.val_main_v35]
  simp only [refD]
  try rfl

theorem ref1 (A : S8192x3072.Idx → EReal) (W : S3072x1024.Idx → EReal) (H T : S8192x1024.Idx → EReal) (g : S1x1024.Idx → EReal) :
    Cert.DownReferenceIdeal.Read.val_main_v56 (F := Ideal) A W H T g = arrDff (arrF A W) (arrY (arrF A W) H T g) g := by
  funext i
  obtain ⟨a, b, rfl⟩ : ∃ (a : Fin 8192) (b : Fin 1024), i = ix2 a b := ⟨i 0, i 1, eq_ix2 i⟩
  refine Eq.trans ?_ ((dx_eq (row (arrF A W) a) (dRow (arrY (arrF A W) H T g) g a) b 0).symm.trans (zero_add _))
  rw [zero_add]
  unfold coef rs ms row dRow
  rw [← ofBits_N, ← ofBits_E, ← ofBits_M]
  pointwise [Cert.DownReferenceIdeal.Read.val_main_v3, Cert.DownReferenceIdeal.Read.val_main_v4, Cert.DownReferenceIdeal.Read.val_main_cst, Cert.DownReferenceIdeal.Read.val_main_v5, Cert.DownReferenceIdeal.Read.val_main_v6, Cert.DownReferenceIdeal.Read.val_main_cst_0, Cert.DownReferenceIdeal.Read.val_main_v7, Cert.DownReferenceIdeal.Read.val_main_v8, Cert.DownReferenceIdeal.Read.val_main_cst_1, Cert.DownReferenceIdeal.Read.val_main_v9, Cert.DownReferenceIdeal.Read.val_main_v10, Cert.DownReferenceIdeal.Read.val_main_v11, Cert.DownReferenceIdeal.Read.val_main_v12, Cert.DownReferenceIdeal.Read.val_main_cst_2, Cert.DownReferenceIdeal.Read.val_main_v13, Cert.DownReferenceIdeal.Read.val_main_v14, Cert.DownReferenceIdeal.Read.val_main_v15, Cert.DownReferenceIdeal.Read.val_main_v16, Cert.DownReferenceIdeal.Read.val_main_v17, Cert.DownReferenceIdeal.Read.val_main_v18, Cert.DownReferenceIdeal.Read.val_main_v39, Cert.DownReferenceIdeal.Read.val_main_v40, Cert.DownReferenceIdeal.Read.val_main_v42, Cert.DownReferenceIdeal.Read.val_main_cst_13, Cert.DownReferenceIdeal.Read.val_main_v43, Cert.DownReferenceIdeal.Read.val_main_v44, Cert.DownReferenceIdeal.Read.val_main_v45, Cert.DownReferenceIdeal.Read.val_main_v46, Cert.DownReferenceIdeal.Read.val_main_v47, Cert.DownReferenceIdeal.Read.val_main_cst_14, Cert.DownReferenceIdeal.Read.val_main_v48, Cert.DownReferenceIdeal.Read.val_main_v49, Cert.DownReferenceIdeal.Read.val_main_cst_15, Cert.DownReferenceIdeal.Read.val_main_v50, Cert.DownReferenceIdeal.Read.val_main_v51, Cert.DownReferenceIdeal.Read.val_main_v52, Cert.DownReferenceIdeal.Read.val_main_v53, Cert.DownReferenceIdeal.Read.val_main_v54, Cert.DownReferenceIdeal.Read.val_main_v55, Cert.DownReferenceIdeal.Read.val_main_v56]
  simp only [Finset.univ_unique, Finset.sum_singleton, refF, ref0]
  try rfl

theorem ref2 (A : S8192x3072.Idx → EReal) (W : S3072x1024.Idx → EReal) (H T : S8192x1024.Idx → EReal) (g : S1x1024.Idx → EReal) :
    Cert.DownReferenceIdeal.Read.val_main_v57 (F := Ideal) A W H T g = arrL (arrD (arrF A W) H T g) := by
  funext i
  obtain ⟨z, l, rfl⟩ : ∃ (z : Fin 1) (l : Fin 1), i = ix2 z l := ⟨i 0, i 1, eq_ix2 i⟩
  unfold arrL
  rw [← half_sum, ← ofBits_N, ← ofBits_H]
  pointwise [Cert.DownReferenceIdeal.Read.val_main_v22, Cert.DownReferenceIdeal.Read.val_main_cst_4, Cert.DownReferenceIdeal.Read.val_main_v25, Cert.DownReferenceIdeal.Read.val_main_cst_5, Cert.DownReferenceIdeal.Read.val_main_v26, Cert.DownReferenceIdeal.Read.val_main_v27, Cert.DownReferenceIdeal.Read.val_main_cst_6, Cert.DownReferenceIdeal.Read.val_main_v28, Cert.DownReferenceIdeal.Read.val_main_cst_7, Cert.DownReferenceIdeal.Read.val_main_v29, Cert.DownReferenceIdeal.Read.val_main_v57]
  simp only [refD]
  try rfl

theorem ref3 (A : S8192x3072.Idx → EReal) (W : S3072x1024.Idx → EReal) (H T : S8192x1024.Idx → EReal) (g : S1x1024.Idx → EReal) :
    Cert.DownReferenceIdeal.Read.val_main_v58 (F := Ideal) A W H T g = arrDg (arrF A W) (arrY (arrF A W) H T g) := by
  funext i
  obtain ⟨z, b, rfl⟩ : ∃ (z : Fin 1) (b : Fin 1024), i = ix2 z b := ⟨i 0, i 1, eq_ix2 i⟩
  unfold arrDg rs ms row
  rw [← ofBits_N, ← ofBits_E]
  pointwise [Cert.DownReferenceIdeal.Read.val_main_v3, Cert.DownReferenceIdeal.Read.val_main_v4, Cert.DownReferenceIdeal.Read.val_main_cst, Cert.DownReferenceIdeal.Read.val_main_v5, Cert.DownReferenceIdeal.Read.val_main_v6, Cert.DownReferenceIdeal.Read.val_main_cst_0, Cert.DownReferenceIdeal.Read.val_main_v7, Cert.DownReferenceIdeal.Read.val_main_v8, Cert.DownReferenceIdeal.Read.val_main_cst_1, Cert.DownReferenceIdeal.Read.val_main_v9, Cert.DownReferenceIdeal.Read.val_main_v10, Cert.DownReferenceIdeal.Read.val_main_v11, Cert.DownReferenceIdeal.Read.val_main_v12, Cert.DownReferenceIdeal.Read.val_main_cst_2, Cert.DownReferenceIdeal.Read.val_main_v13, Cert.DownReferenceIdeal.Read.val_main_v14, Cert.DownReferenceIdeal.Read.val_main_v15, Cert.DownReferenceIdeal.Read.val_main_v16, Cert.DownReferenceIdeal.Read.val_main_v36, Cert.DownReferenceIdeal.Read.val_main_cst_11, Cert.DownReferenceIdeal.Read.val_main_v37, Cert.DownReferenceIdeal.Read.val_main_v38, Cert.DownReferenceIdeal.Read.val_main_cst_12, Cert.DownReferenceIdeal.Read.val_main_v41, Cert.DownReferenceIdeal.Read.val_main_v58]
  simp only [Finset.univ_unique, Finset.sum_singleton, refF, ref0]
  exact Finset.sum_congr rfl fun a _ => mul_comm _ _

end

/-- The kernel runs, leaves its arguments as they were and its counters at zero. -/
theorem frame_K : Cert.quiescent_DownKernel (hDownKernel := Cert.DownKernel.Gen.facts) := fun m ρ _ => Cert.DownKernel.Gen.frame m ρ

/-- So does its idealized form. -/
theorem frame_KI : Cert.quiescent_DownKernelIdeal (hDownKernelIdeal := Cert.DownKernelIdeal.Gen.facts) := fun m ρ _ => Cert.DownKernelIdeal.Gen.frame m ρ

/-- So does the reference. -/
theorem frame_RI : Cert.quiescent_DownReferenceIdeal (hDownReferenceIdeal := Cert.DownReferenceIdeal.Gen.facts) := fun m ρ _ =>
  (θ_run _ _ _).mono (fun r h => ⟨fun c => ((h c).2.2.2.2), sem_eq_zero_of_no_sems (by decide) r.2⟩) (Cert.DownReferenceIdeal.Value.run m ρ)

/-- The idealization rewrites nothing. -/
theorem preserves : Cert.preserves_DownKernel_DownKernelIdeal := trivial

/-- The kernel and the reference leave the same arrays. -/
theorem algebraic : Cert.algebraic_DownKernelIdeal_DownReferenceIdeal (hDownKernelIdeal := Cert.DownKernelIdeal.Gen.facts)
    (hDownReferenceIdeal := Cert.DownReferenceIdeal.Gen.facts) := by
  intro m g m' g' hpre hag
  refine ⟨fun c => sY m c, fun c => arrDff (sF m c) (sY m c) (aG m c), fun c => arrL (sD m c), fun c => arrDg (sF m c) (sY m c), ?_, ?_⟩
  · refine (θ_run _ _ _).mono (fun r h c => ?_) (run m g)
    obtain ⟨h0, h1, h2, h3, hk⟩ := h c
    exact ⟨h0.trans (arr5 m c), h1.trans (arr6 m c), h2.trans (arr7 m c), h3.trans (arr8 m c), hk⟩
  · refine (θ_run _ _ _).mono (fun r h c => ?_) (Cert.DownReferenceIdeal.Value.run m' g')
    obtain ⟨e0, e1, e2, e3, e4⟩ := hag c
    obtain ⟨h0, h1, h2, h3, hk⟩ := h c
    refine ⟨h0.trans ?_, h1.trans ?_, h2.trans ?_, h3.trans ?_, hk⟩
    · refine (Cert.DownReferenceIdeal.Read.val_main_v35_eq (F := Ideal) _ _ _ _ _).trans ?_
      rw [e0, e1, e2, e3, e4]
      exact ref0 _ _ _ _ _
    · refine (Cert.DownReferenceIdeal.Read.val_main_v56_eq (F := Ideal) _ _).trans ?_
      simp only [e0, e1, e2, e3, e4]
      exact ref1 _ _ _ _ _
    · refine (Cert.DownReferenceIdeal.Read.val_main_v57_eq (F := Ideal) _ _ _ _ _).trans ?_
      rw [e0, e1, e2, e3, e4]
      exact ref2 _ _ _ _ _
    · refine (Cert.DownReferenceIdeal.Read.val_main_v58_eq (F := Ideal) _ _ _ _ _).trans ?_
      rw [e0, e1, e2, e3, e4]
      exact ref3 _ _ _ _ _

end Cert.Down

end
-- ==== Proof.DwBatt.lean ====
/- The gradient of the attention's branch projection: its transposed output times the second half of the gradient. -/
module

public import proofs.«01_k».proof.Proof.Gen.DwBattKernel.Frame
public import proofs.«01_k».proof.Proof.Gen.DwBattKernelIdeal.Value
public import proofs.«01_k».proof.Proof.Gen.DwBattReferenceIdeal.Run
public import proofs.«01_k».proof.Proof.Gen.DwBattReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwBatt

open Idealize.ShloMosaic Idealize.ShloMosaic.TcCoe Idealize.SL.Sem
open Cert.DwBattKernelIdeal Cert.DwBattKernelIdeal.Gen

/-- The column of the wide array that a column of its second half is. -/
def shift (l : Fin 1024) : Fin 2048 := ⟨1024 + l.val, by omega⟩

/-- The product the kernel computes: each entry a sum over 8192 terms. -/
def prod (A : S8192x512.Idx → EReal) (B : S8192x2048.Idx → EReal) : S512x1024.Idx → EReal := fun i =>
  ∑ k : Fin 8192, A (ix2 k (i 0)) * B (ix2 k (shift (i 1)))

section

variable (m : (ℓ : Loc nD τ sig) → Buf (Elt Ideal) ℓ)

/-- The windows' block indices at a grid point. -/
theorem idx : ∀ t : Fin cfg0.N, win0_0.index t = ![t.val, 0] ∧ win0_1.index t = ![t.val, 1] ∧ win0_2.index t = ![0, 0] :=
  (by decide +kernel : ∀ t : Fin grid0.N, _)

variable (c : Dev nD) (t : Fin cfg0.N)

/-- The two arguments of the launch. -/
abbrev aA : S8192x512.Idx → EReal := m ((c : Thread nD τ).loc main_arg0)
abbrev aB : S8192x2048.Idx → EReal := m ((c : Thread nD τ).loc main_arg1)

/-- The row of the result, its column and the summand's place that a point's row, column and place are. -/
def ptI (l : Fin 512) : Fin 512 := ⟨0 * 512 + l.val, by have := lt_of_lt_of_eq t.isLt (show cfg0.N = 4 from N_0); omega⟩
def ptJ (l : Fin 1024) : Fin 1024 := ⟨0 * 1024 + l.val, by have := lt_of_lt_of_eq t.isLt (show cfg0.N = 4 from N_0); omega⟩
def ptK (l : Fin 2048) : Fin 8192 := ⟨(t.val) * 2048 + l.val, by have := lt_of_lt_of_eq t.isLt (show cfg0.N = 4 from N_0); omega⟩

/-- The blocks a point reads, in the arguments. -/
theorem blk0 (k : Fin 2048) (l : Fin 512) : iblk (F := Ideal) m c 0 t (ix2 k l) = aA m c (ix2 (ptK t k) (ptI t l)) := by
  unfold ptI ptK
  blk_ext [iblk, V, idx t]

theorem blk1 (k : Fin 2048) (l : Fin 1024) : iblk (F := Ideal) m c 1 t (ix2 k l) = aB m c (ix2 (ptK t k) (shift (ptJ t l))) := by
  unfold shift ptJ ptK
  blk_ext [iblk, V, idx t]

/-- What a grid point adds to the accumulator. -/
def term (j : S512x1024.Idx) : EReal := ∑ k : Fin 2048, aA m c (ix2 (ptK t k) (ptI t (j 0))) * aB m c (ix2 (ptK t k) (shift (ptJ t (j 1))))

theorem pay1_at (j : S512x1024.Idx) : k0_pay1 (F := Ideal) (iblk m c 0 t) (iblk m c 1 t) j = term m c t j := by
  unfold term
  obtain ⟨a, b, rfl⟩ : ∃ (a : Fin 512) (b : Fin 1024), j = ix2 a b := ⟨j 0, j 1, eq_ix2 j⟩
  pointwise [k0_pay1]
  exact Finset.sum_congr rfl fun k _ => congrArg₂ (· * ·) (blk0 m c t k a) (blk1 m c t k b)

/-- The accumulator after the last point of a run of 4: the whole sum. -/
theorem acc (hf : t.val % 4 = 3) (j : S512x1024.Idx) : (outsAt0 (F := Ideal) m c t.val t.isLt).2 j = prod (aA m c) (aB m c) (ix2 (ptI t (j 0)) (ptJ t (j 1))) := by
  have ht := lt_of_lt_of_eq t.isLt (show cfg0.N = 4 from N_0)
  rw [Pipeline.eq_sum_fin_of_reset_step_apply_of_flush (fun n h => (outsAt0 (F := Ideal) m c n h).2) 4 (fun _ => 0)
    (term m c)
    (fun t h j => by
      have ht := lt_of_lt_of_eq t.isLt (show cfg0.N = 4 from N_0)
      rw [outsAt0_A m c t h (by omega) (by omega)]; frame_out
      pointwise [k0_pay2]
      exact pay1_at m c t j)
    (fun t h j => by
      by_cases h3 : t.val % 4 = 3
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 4 2048 fun k : Fin 8192 => aA m c (ix2 k (ptI t (j 0))) * aB m c (ix2 k (shift (ptJ t (j 1)))))
  have hs := s.isLt
  have e0 : ptK ⟨4 * (t.val / 4) + s.val, by omega⟩ k = ⟨s.val * 2048 + k.val, by omega⟩ :=
    Fin.ext (by simp only [ptK]; omega)
  have e1 : ptI ⟨4 * (t.val / 4) + s.val, by omega⟩ (j 0) = ptI t (j 0) :=
    Fin.ext (by simp only [ptI])
  have e2 : ptJ ⟨4 * (t.val / 4) + s.val, by omega⟩ (j 1) = ptJ t (j 1) :=
    Fin.ext (by simp only [ptJ])
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 4 from N_0)
  have hm : t.val % 4 = 3 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x512.Idx → EReal) (B : S8192x2048.Idx → EReal) : Cert.DwBattReferenceIdeal.Read.val_main_v8 (F := Ideal) A B = prod A B := by
  funext i
  unfold prod Cert.DwBattReferenceIdeal.Read.val_main_v8 Cert.DwBattReferenceIdeal.Read.val_main_v7 Cert.DwBattReferenceIdeal.Read.val_main_v6 Cert.DwBattReferenceIdeal.Read.val_main_v5 Cert.DwBattReferenceIdeal.Read.val_main_v0 Cert.DwBattReferenceIdeal.Read.val_main_v2
  pointwise []
  exact Finset.sum_congr rfl fun _ _ => mul_comm _ _

end

/-- The kernel runs, leaves its arguments as they were and its counters at zero. -/
theorem frame_K : Cert.quiescent_DwBattKernel (hDwBattKernel := Cert.DwBattKernel.Gen.facts) := fun m ρ _ => Cert.DwBattKernel.Gen.frame m ρ

theorem frame_KI : Cert.quiescent_DwBattKernelIdeal (hDwBattKernelIdeal := Cert.DwBattKernelIdeal.Gen.facts) := fun m ρ _ => Cert.DwBattKernelIdeal.Gen.frame m ρ

theorem frame_RI : Cert.quiescent_DwBattReferenceIdeal (hDwBattReferenceIdeal := Cert.DwBattReferenceIdeal.Gen.facts) := fun m ρ _ =>
  (θ_run _ _ _).mono (fun r h => ⟨fun c => (h c).2, sem_eq_zero_of_no_sems (by decide) r.2⟩) (Cert.DwBattReferenceIdeal.Value.run m ρ)

/-- The idealization rewrites nothing. -/
theorem preserves : Cert.preserves_DwBattKernel_DwBattKernelIdeal := trivial

/-- The kernel and the reference leave the same array. -/
theorem algebraic : Cert.algebraic_DwBattKernelIdeal_DwBattReferenceIdeal (hDwBattKernelIdeal := Cert.DwBattKernelIdeal.Gen.facts)
    (hDwBattReferenceIdeal := Cert.DwBattReferenceIdeal.Gen.facts) := by
  intro m g m' g' hpre hag
  refine ⟨fun c => prod (aA m c) (aB m c), ?_, ?_⟩
  · refine (θ_run _ _ _).mono (fun r h c => ?_) (Cert.DwBattKernelIdeal.Value.run_blocks m g)
    obtain ⟨h2, hk⟩ := h c
    exact ⟨h2.trans (arr m c), hk⟩
  · refine (θ_run _ _ _).mono (fun r h c => ?_) (Cert.DwBattReferenceIdeal.Value.run m' g')
    obtain ⟨e0, e1⟩ := hag c
    obtain ⟨h2, hk⟩ := h c
    refine ⟨h2.trans ?_, hk⟩
    refine (Cert.DwBattReferenceIdeal.Read.val_main_v8_eq (F := Ideal) _ _).trans ?_
    rw [e0, e1]
    exact ref _ _

end Cert.DwBatt

end
-- ==== Proof.DwBrnn.lean ====
/- The gradient of the recurrence's branch projection: its transposed output times the first half of the gradient. -/
module

public import proofs.«01_k».proof.Proof.Gen.DwBrnnKernel.Frame
public import proofs.«01_k».proof.Proof.Gen.DwBrnnKernelIdeal.Value
public import proofs.«01_k».proof.Proof.Gen.DwBrnnReferenceIdeal.Run
public import proofs.«01_k».proof.Proof.Gen.DwBrnnReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwBrnn

open Idealize.ShloMosaic Idealize.ShloMosaic.TcCoe Idealize.SL.Sem
open Cert.DwBrnnKernelIdeal Cert.DwBrnnKernelIdeal.Gen

/-- A column of the wide array's first part, in the wide array. -/
def shift (l : Fin 1024) : Fin 2048 := ⟨l.val, by omega⟩

/-- The product the kernel computes: each entry a sum over 8192 terms. -/
def prod (A : S8192x1280.Idx → EReal) (B : S8192x2048.Idx → EReal) : S1280x1024.Idx → EReal := fun i =>
  ∑ k : Fin 8192, A (ix2 k (i 0)) * B (ix2 k (shift (i 1)))

section

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0] :=
  (by decide +kernel : ∀ t : Fin grid0.N, _)

variable (c : Dev nD) (t : Fin cfg0.N)

/-- The two arguments of the launch. -/
abbrev aA : S8192x1280.Idx → EReal := m ((c : Thread nD τ).loc main_arg0)
abbrev aB : S8192x2048.Idx → EReal := m ((c : Thread nD τ).loc main_arg1)

/-- The row of the result, its column and the summand's place that a point's row, column and place are. -/
def ptI (l : Fin 1280) : Fin 1280 := ⟨0 * 1280 + l.val, by have := lt_of_lt_of_eq t.isLt (show cfg0.N = 8 from N_0); omega⟩
def ptJ (l : Fin 1024) : Fin 1024 := ⟨0 * 1024 + l.val, by have := lt_of_lt_of_eq t.isLt (show cfg0.N = 8 from N_0); omega⟩
def ptK (l : Fin 1024) : Fin 8192 := ⟨(t.val) * 1024 + l.val, by have := lt_of_lt_of_eq t.isLt (show cfg0.N = 8 from N_0); omega⟩

/-- The blocks a point reads, in the arguments. -/
theorem blk0 (k : Fin 1024) (l : Fin 1280) : iblk (F := Ideal) m c 0 t (ix2 k l) = aA m c (ix2 (ptK t k) (ptI t l)) := by
  unfold ptI ptK
  blk_ext [iblk, V, idx t]

theorem blk1 (k : Fin 1024) (l : Fin 1024) : iblk (F := Ideal) m c 1 t (ix2 k l) = aB m c (ix2 (ptK t k) (shift (ptJ t l))) := by
  unfold shift ptJ ptK
  blk_ext [iblk, V, idx t]

/-- What a grid point adds to the accumulator. -/
def term (j : S1280x1024.Idx) : EReal := ∑ k : Fin 1024, aA m c (ix2 (ptK t k) (ptI t (j 0))) * aB m c (ix2 (ptK t k) (shift (ptJ t (j 1))))

theorem pay1_at (j : S1280x1024.Idx) : k0_pay1 (F := Ideal) (iblk m c 0 t) (iblk m c 1 t) j = term m c t j := by
  unfold term
  obtain ⟨a, b, rfl⟩ : ∃ (a : Fin 1280) (b : Fin 1024), j = ix2 a b := ⟨j 0, j 1, eq_ix2 j⟩
  pointwise [k0_pay1]
  exact Finset.sum_congr rfl fun k _ => congrArg₂ (· * ·) (blk0 m c t k a) (blk1 m c t k b)

/-- The accumulator after the last point of a run of 8: the whole sum. -/
theorem acc (hf : t.val % 8 = 7) (j : S1280x1024.Idx) : (outsAt0 (F := Ideal) m c t.val t.isLt).2 j = prod (aA m c) (aB m c) (ix2 (ptI t (j 0)) (ptJ t (j 1))) := by
  have ht := lt_of_lt_of_eq t.isLt (show cfg0.N = 8 from N_0)
  rw [Pipeline.eq_sum_fin_of_reset_step_apply_of_flush (fun n h => (outsAt0 (F := Ideal) m c n h).2) 8 (fun _ => 0)
    (term m c)
    (fun t h j => by
      have ht := lt_of_lt_of_eq t.isLt (show cfg0.N = 8 from N_0)
      rw [outsAt0_A m c t h (by omega) (by omega)]; frame_out
      pointwise [k0_pay2]
      exact pay1_at m c t j)
    (fun t h j => by
      by_cases h3 : t.val % 8 = 7
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 8 1024 fun k : Fin 8192 => aA m c (ix2 k (ptI t (j 0))) * aB m c (ix2 k (shift (ptJ t (j 1)))))
  have hs := s.isLt
  have e0 : ptK ⟨8 * (t.val / 8) + s.val, by omega⟩ k = ⟨s.val * 1024 + k.val, by omega⟩ :=
    Fin.ext (by simp only [ptK]; omega)
  have e1 : ptI ⟨8 * (t.val / 8) + s.val, by omega⟩ (j 0) = ptI t (j 0) :=
    Fin.ext (by simp only [ptI])
  have e2 : ptJ ⟨8 * (t.val / 8) + s.val, by omega⟩ (j 1) = ptJ t (j 1) :=
    Fin.ext (by simp only [ptJ])
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 8 from N_0)
  have hm : t.val % 8 = 7 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x1280.Idx → EReal) (B : S8192x2048.Idx → EReal) : Cert.DwBrnnReferenceIdeal.Read.val_main_v8 (F := Ideal) A B = prod A B := by
  funext i
  unfold prod Cert.DwBrnnReferenceIdeal.Read.val_main_v8 Cert.DwBrnnReferenceIdeal.Read.val_main_v7 Cert.DwBrnnReferenceIdeal.Read.val_main_v6 Cert.DwBrnnReferenceIdeal.Read.val_main_v5 Cert.DwBrnnReferenceIdeal.Read.val_main_v0 Cert.DwBrnnReferenceIdeal.Read.val_main_v2
  pointwise []
  exact Finset.sum_congr rfl fun _ _ => mul_comm _ _

end

/-- The kernel runs, leaves its arguments as they were and its counters at zero. -/
theorem frame_K : Cert.quiescent_DwBrnnKernel (hDwBrnnKernel := Cert.DwBrnnKernel.Gen.facts) := fun m ρ _ => Cert.DwBrnnKernel.Gen.frame m ρ

theorem frame_KI : Cert.quiescent_DwBrnnKernelIdeal (hDwBrnnKernelIdeal := Cert.DwBrnnKernelIdeal.Gen.facts) := fun m ρ _ => Cert.DwBrnnKernelIdeal.Gen.frame m ρ

theorem frame_RI : Cert.quiescent_DwBrnnReferenceIdeal (hDwBrnnReferenceIdeal := Cert.DwBrnnReferenceIdeal.Gen.facts) := fun m ρ _ =>
  (θ_run _ _ _).mono (fun r h => ⟨fun c => (h c).2, sem_eq_zero_of_no_sems (by decide) r.2⟩) (Cert.DwBrnnReferenceIdeal.Value.run m ρ)

/-- The idealization rewrites nothing. -/
theorem preserves : Cert.preserves_DwBrnnKernel_DwBrnnKernelIdeal := trivial

/-- The kernel and the reference leave the same array. -/
theorem algebraic : Cert.algebraic_DwBrnnKernelIdeal_DwBrnnReferenceIdeal (hDwBrnnKernelIdeal := Cert.DwBrnnKernelIdeal.Gen.facts)
    (hDwBrnnReferenceIdeal := Cert.DwBrnnReferenceIdeal.Gen.facts) := by
  intro m g m' g' hpre hag
  refine ⟨fun c => prod (aA m c) (aB m c), ?_, ?_⟩
  · refine (θ_run _ _ _).mono (fun r h c => ?_) (Cert.DwBrnnKernelIdeal.Value.run_blocks m g)
    obtain ⟨h2, hk⟩ := h c
    exact ⟨h2.trans (arr m c), hk⟩
  · refine (θ_run _ _ _).mono (fun r h c => ?_) (Cert.DwBrnnReferenceIdeal.Value.run m' g')
    obtain ⟨e0, e1⟩ := hag c
    obtain ⟨h2, hk⟩ := h c
    refine ⟨h2.trans ?_, hk⟩
    refine (Cert.DwBrnnReferenceIdeal.Read.val_main_v8_eq (F := Ideal) _ _).trans ?_
    rw [e0, e1]
    exact ref _ _

end Cert.DwBrnn

end
-- ==== Proof.DwDown.lean ====
/- The gradient of the down projection: the transposed activations times the gradient. -/
module

public import proofs.«01_k».proof.Proof.Gen.DwDownKernel.Frame
public import proofs.«01_k».proof.Proof.Gen.DwDownKernelIdeal.Value
public import proofs.«01_k».proof.Proof.Gen.DwDownReferenceIdeal.Run
public import proofs.«01_k».proof.Proof.Gen.DwDownReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwDown

open Idealize.ShloMosaic Idealize.ShloMosaic.TcCoe Idealize.SL.Sem
open Cert.DwDownKernelIdeal Cert.DwDownKernelIdeal.Gen

/-- The product the kernel computes: each entry a sum over 8192 terms. -/
def prod (A : S8192x3072.Idx → EReal) (B : S8192x1024.Idx → EReal) : S3072x1024.Idx → EReal := fun i =>
  ∑ k : Fin 8192, A (ix2 k (i 0)) * B (ix2 k (i 1))

section

variable (m : (ℓ : Loc nD τ sig) → Buf (Elt Ideal) ℓ)

/-- The windows' block indices at a grid point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (c : Dev nD) (t : Fin cfg0.N)

/-- The two arguments of the launch. -/
abbrev aA : S8192x3072.Idx → EReal := m ((c : Thread nD τ).loc main_arg0)
abbrev aB : S8192x1024.Idx → EReal := m ((c : Thread nD τ).loc main_arg1)

/-- The row of the result, its column and the summand's place that a point's row, column and place are. -/
def ptI (l : Fin 1024) : Fin 3072 := ⟨(t.val / 4) * 1024 + l.val, by have := lt_of_lt_of_eq t.isLt (show cfg0.N = 12 from N_0); omega⟩
def ptJ (l : Fin 1024) : Fin 1024 := ⟨0 * 1024 + l.val, by have := lt_of_lt_of_eq t.isLt (show cfg0.N = 12 from N_0); omega⟩
def ptK (l : Fin 2048) : Fin 8192 := ⟨(t.val % 4) * 2048 + l.val, by have := lt_of_lt_of_eq t.isLt (show cfg0.N = 12 from N_0); omega⟩

/-- The blocks a point reads, in the arguments. -/
theorem blk0 (k : Fin 2048) (l : Fin 1024) : iblk (F := Ideal) m c 0 t (ix2 k l) = aA m c (ix2 (ptK t k) (ptI t l)) := by
  unfold ptI ptK
  blk_ext [iblk, V, idx t]

theorem blk1 (k : Fin 2048) (l : Fin 1024) : iblk (F := Ideal) m c 1 t (ix2 k l) = aB m c (ix2 (ptK t k) (ptJ t l)) := by
  unfold ptJ ptK
  blk_ext [iblk, V, idx t]

/-- What a grid point adds to the accumulator. -/
def term (j : S1024x1024.Idx) : EReal := ∑ k : Fin 2048, aA m c (ix2 (ptK t k) (ptI t (j 0))) * aB m c (ix2 (ptK t k) (ptJ t (j 1)))

theorem pay1_at (j : S1024x1024.Idx) : k0_pay1 (F := Ideal) (iblk m c 0 t) (iblk m c 1 t) j = term m c t j := by
  unfold term
  obtain ⟨a, b, rfl⟩ : ∃ (a : Fin 1024) (b : Fin 1024), j = ix2 a b := ⟨j 0, j 1, eq_ix2 j⟩
  pointwise [k0_pay1]
  exact Finset.sum_congr rfl fun k _ => congrArg₂ (· * ·) (blk0 m c t k a) (blk1 m c t k b)

/-- The accumulator after the last point of a run of 4: the whole sum. -/
theorem acc (hf : t.val % 4 = 3) (j : S1024x1024.Idx) : (outsAt0 (F := Ideal) m c t.val t.isLt).2 j = prod (aA m c) (aB m c) (ix2 (ptI t (j 0)) (ptJ t (j 1))) := by
  have ht := lt_of_lt_of_eq t.isLt (show cfg0.N = 12 from N_0)
  rw [Pipeline.eq_sum_fin_of_reset_step_apply_of_flush (fun n h => (outsAt0 (F := Ideal) m c n h).2) 4 (fun _ => 0)
    (term m c)
    (fun t h j => by
      have ht := lt_of_lt_of_eq t.isLt (show cfg0.N = 12 from N_0)
      rw [outsAt0_A m c t h (by omega) (by omega)]; frame_out
      pointwise [k0_pay2]
      exact pay1_at m c t j)
    (fun t h j => by
      by_cases h3 : t.val % 4 = 3
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 4 2048 fun k : Fin 8192 => aA m c (ix2 k (ptI t (j 0))) * aB m c (ix2 k (ptJ t (j 1))))
  have hs := s.isLt
  have e0 : ptK ⟨4 * (t.val / 4) + s.val, by omega⟩ k = ⟨s.val * 2048 + k.val, by omega⟩ :=
    Fin.ext (by simp only [ptK]; omega)
  have e1 : ptI ⟨4 * (t.val / 4) + s.val, by omega⟩ (j 0) = ptI t (j 0) :=
    Fin.ext (by simp only [ptI]; omega)
  have e2 : ptJ ⟨4 * (t.val / 4) + s.val, by omega⟩ (j 1) = ptJ t (j 1) :=
    Fin.ext (by simp only [ptJ])
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 12 from N_0)
  have hm : t.val % 4 = 3 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x3072.Idx → EReal) (B : S8192x1024.Idx → EReal) : Cert.DwDownReferenceIdeal.Read.val_main_v7 (F := Ideal) A B = prod A B := by
  funext i
  unfold prod Cert.DwDownReferenceIdeal.Read.val_main_v7 Cert.DwDownReferenceIdeal.Read.val_main_v6 Cert.DwDownReferenceIdeal.Read.val_main_v5 Cert.DwDownReferenceIdeal.Read.val_main_v4 Cert.DwDownReferenceIdeal.Read.val_main_v1
  pointwise []
  exact Finset.sum_congr rfl fun _ _ => mul_comm _ _

end

/-- The kernel runs, leaves its arguments as they were and its counters at zero. -/
theorem frame_K : Cert.quiescent_DwDownKernel (hDwDownKernel := Cert.DwDownKernel.Gen.facts) := fun m ρ _ => Cert.DwDownKernel.Gen.frame m ρ

theorem frame_KI : Cert.quiescent_DwDownKernelIdeal (hDwDownKernelIdeal := Cert.DwDownKernelIdeal.Gen.facts) := fun m ρ _ => Cert.DwDownKernelIdeal.Gen.frame m ρ

theorem frame_RI : Cert.quiescent_DwDownReferenceIdeal (hDwDownReferenceIdeal := Cert.DwDownReferenceIdeal.Gen.facts) := fun m ρ _ =>
  (θ_run _ _ _).mono (fun r h => ⟨fun c => (h c).2, sem_eq_zero_of_no_sems (by decide) r.2⟩) (Cert.DwDownReferenceIdeal.Value.run m ρ)

/-- The idealization rewrites nothing. -/
theorem preserves : Cert.preserves_DwDownKernel_DwDownKernelIdeal := trivial

/-- The kernel and the reference leave the same array. -/
theorem algebraic : Cert.algebraic_DwDownKernelIdeal_DwDownReferenceIdeal (hDwDownKernelIdeal := Cert.DwDownKernelIdeal.Gen.facts)
    (hDwDownReferenceIdeal := Cert.DwDownReferenceIdeal.Gen.facts) := by
  intro m g m' g' hpre hag
  refine ⟨fun c => prod (aA m c) (aB m c), ?_, ?_⟩
  · refine (θ_run _ _ _).mono (fun r h c => ?_) (Cert.DwDownKernelIdeal.Value.run_blocks m g)
    obtain ⟨h2, hk⟩ := h c
    exact ⟨h2.trans (arr m c), hk⟩
  · refine (θ_run _ _ _).mono (fun r h c => ?_) (Cert.DwDownReferenceIdeal.Value.run m' g')
    obtain ⟨e0, e1⟩ := hag c
    obtain ⟨h2, hk⟩ := h c
    refine ⟨h2.trans ?_, hk⟩
    refine (Cert.DwDownReferenceIdeal.Read.val_main_v7_eq (F := Ideal) _ _).trans ?_
    rw [e0, e1]
    exact ref _ _

end Cert.DwDown

end
-- ==== Proof.DwGate.lean ====
/- The gradient of the gate and of the up projection: the transposed input times the gradient. -/
module

public import proofs.«01_k».proof.Proof.Gen.DwGateKernel.Frame
public import proofs.«01_k».proof.Proof.Gen.DwGateKernelIdeal.Value
public import proofs.«01_k».proof.Proof.Gen.DwGateReferenceIdeal.Run
public import proofs.«01_k».proof.Proof.Gen.DwGateReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwGate

open Idealize.ShloMosaic Idealize.ShloMosaic.TcCoe Idealize.SL.Sem
open Cert.DwGateKernelIdeal Cert.DwGateKernelIdeal.Gen

/-- The product the kernel computes: each entry a sum over 8192 terms. -/
def prod (A : S8192x1024.Idx → EReal) (B : S8192x3072.Idx → EReal) : S1024x3072.Idx → EReal := fun i =>
  ∑ k : Fin 8192, A (ix2 k (i 0)) * B (ix2 k (i 1))

section

variable (m : (ℓ : Loc nD τ sig) → Buf (Elt Ideal) ℓ)

/-- The windows' block indices at a grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S8192x3072.Idx → EReal := m ((c : Thread nD τ).loc main_arg1)

/-- The row of the result, its column and the summand's place that a point's row, column and place are. -/
def ptI (l : Fin 1024) : Fin 1024 := ⟨0 * 1024 + l.val, by have := lt_of_lt_of_eq t.isLt (show cfg0.N = 12 from N_0); omega⟩
def ptJ (l : Fin 1024) : Fin 3072 := ⟨(t.val / 4) * 1024 + l.val, by have := lt_of_lt_of_eq t.isLt (show cfg0.N = 12 from N_0); omega⟩
def ptK (l : Fin 2048) : Fin 8192 := ⟨(t.val % 4) * 2048 + l.val, by have := lt_of_lt_of_eq t.isLt (show cfg0.N = 12 from N_0); omega⟩

/-- The blocks a point reads, in the arguments. -/
theorem blk0 (k : Fin 2048) (l : Fin 1024) : iblk (F := Ideal) m c 0 t (ix2 k l) = aA m c (ix2 (ptK t k) (ptI t l)) := by
  unfold ptI ptK
  blk_ext [iblk, V, idx t]

theorem blk1 (k : Fin 2048) (l : Fin 1024) : iblk (F := Ideal) m c 1 t (ix2 k l) = aB m c (ix2 (ptK t k) (ptJ t l)) := by
  unfold ptJ ptK
  blk_ext [iblk, V, idx t]

/-- What a grid point adds to the accumulator. -/
def term (j : S1024x1024.Idx) : EReal := ∑ k : Fin 2048, aA m c (ix2 (ptK t k) (ptI t (j 0))) * aB m c (ix2 (ptK t k) (ptJ t (j 1)))

theorem pay1_at (j : S1024x1024.Idx) : k0_pay1 (F := Ideal) (iblk m c 0 t) (iblk m c 1 t) j = term m c t j := by
  unfold term
  obtain ⟨a, b, rfl⟩ : ∃ (a : Fin 1024) (b : Fin 1024), j = ix2 a b := ⟨j 0, j 1, eq_ix2 j⟩
  pointwise [k0_pay1]
  exact Finset.sum_congr rfl fun k _ => congrArg₂ (· * ·) (blk0 m c t k a) (blk1 m c t k b)

/-- The accumulator after the last point of a run of 4: the whole sum. -/
theorem acc (hf : t.val % 4 = 3) (j : S1024x1024.Idx) : (outsAt0 (F := Ideal) m c t.val t.isLt).2 j = prod (aA m c) (aB m c) (ix2 (ptI t (j 0)) (ptJ t (j 1))) := by
  have ht := lt_of_lt_of_eq t.isLt (show cfg0.N = 12 from N_0)
  rw [Pipeline.eq_sum_fin_of_reset_step_apply_of_flush (fun n h => (outsAt0 (F := Ideal) m c n h).2) 4 (fun _ => 0)
    (term m c)
    (fun t h j => by
      have ht := lt_of_lt_of_eq t.isLt (show cfg0.N = 12 from N_0)
      rw [outsAt0_A m c t h (by omega) (by omega)]; frame_out
      pointwise [k0_pay2]
      exact pay1_at m c t j)
    (fun t h j => by
      by_cases h3 : t.val % 4 = 3
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 4 2048 fun k : Fin 8192 => aA m c (ix2 k (ptI t (j 0))) * aB m c (ix2 k (ptJ t (j 1))))
  have hs := s.isLt
  have e0 : ptK ⟨4 * (t.val / 4) + s.val, by omega⟩ k = ⟨s.val * 2048 + k.val, by omega⟩ :=
    Fin.ext (by simp only [ptK]; omega)
  have e1 : ptI ⟨4 * (t.val / 4) + s.val, by omega⟩ (j 0) = ptI t (j 0) :=
    Fin.ext (by simp only [ptI])
  have e2 : ptJ ⟨4 * (t.val / 4) + s.val, by omega⟩ (j 1) = ptJ t (j 1) :=
    Fin.ext (by simp only [ptJ]; omega)
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 12 from N_0)
  have hm : t.val % 4 = 3 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x1024.Idx → EReal) (B : S8192x3072.Idx → EReal) : Cert.DwGateReferenceIdeal.Read.val_main_v7 (F := Ideal) A B = prod A B := by
  funext i
  unfold prod Cert.DwGateReferenceIdeal.Read.val_main_v7 Cert.DwGateReferenceIdeal.Read.val_main_v6 Cert.DwGateReferenceIdeal.Read.val_main_v5 Cert.DwGateReferenceIdeal.Read.val_main_v4 Cert.DwGateReferenceIdeal.Read.val_main_v1
  pointwise []
  exact Finset.sum_congr rfl fun _ _ => mul_comm _ _

end

/-- The kernel runs, leaves its arguments as they were and its counters at zero. -/
theorem frame_K : Cert.quiescent_DwGateKernel (hDwGateKernel := Cert.DwGateKernel.Gen.facts) := fun m ρ _ => Cert.DwGateKernel.Gen.frame m ρ

theorem frame_KI : Cert.quiescent_DwGateKernelIdeal (hDwGateKernelIdeal := Cert.DwGateKernelIdeal.Gen.facts) := fun m ρ _ => Cert.DwGateKernelIdeal.Gen.frame m ρ

theorem frame_RI : Cert.quiescent_DwGateReferenceIdeal (hDwGateReferenceIdeal := Cert.DwGateReferenceIdeal.Gen.facts) := fun m ρ _ =>
  (θ_run _ _ _).mono (fun r h => ⟨fun c => (h c).2, sem_eq_zero_of_no_sems (by decide) r.2⟩) (Cert.DwGateReferenceIdeal.Value.run m ρ)

/-- The idealization rewrites nothing. -/
theorem preserves : Cert.preserves_DwGateKernel_DwGateKernelIdeal := trivial

/-- The kernel and the reference leave the same array. -/
theorem algebraic : Cert.algebraic_DwGateKernelIdeal_DwGateReferenceIdeal (hDwGateKernelIdeal := Cert.DwGateKernelIdeal.Gen.facts)
    (hDwGateReferenceIdeal := Cert.DwGateReferenceIdeal.Gen.facts) := by
  intro m g m' g' hpre hag
  refine ⟨fun c => prod (aA m c) (aB m c), ?_, ?_⟩
  · refine (θ_run _ _ _).mono (fun r h c => ?_) (Cert.DwGateKernelIdeal.Value.run_blocks m g)
    obtain ⟨h2, hk⟩ := h c
    exact ⟨h2.trans (arr m c), hk⟩
  · refine (θ_run _ _ _).mono (fun r h c => ?_) (Cert.DwGateReferenceIdeal.Value.run m' g')
    obtain ⟨e0, e1⟩ := hag c
    obtain ⟨h2, hk⟩ := h c
    refine ⟨h2.trans ?_, hk⟩
    refine (Cert.DwGateReferenceIdeal.Read.val_main_v7_eq (F := Ideal) _ _).trans ?_
    rw [e0, e1]
    exact ref _ _

end Cert.DwGate

end
-- ==== Proof.DwInA.lean ====
/- The gradient of the input projection's attention columns: the transposed input times the gradient. -/
module

public import proofs.«01_k».proof.Proof.Gen.DwInAKernel.Frame
public import proofs.«01_k».proof.Proof.Gen.DwInAKernelIdeal.Value
public import proofs.«01_k».proof.Proof.Gen.DwInAReferenceIdeal.Run
public import proofs.«01_k».proof.Proof.Gen.DwInAReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwInA

open Idealize.ShloMosaic Idealize.ShloMosaic.TcCoe Idealize.SL.Sem
open Cert.DwInAKernelIdeal Cert.DwInAKernelIdeal.Gen

/-- The product the kernel computes: each entry a sum over 8192 terms. -/
def prod (A : S8192x1024.Idx → EReal) (B : S8192x2560.Idx → EReal) : S1024x2560.Idx → EReal := fun i =>
  ∑ k : Fin 8192, A (ix2 k (i 0)) * B (ix2 k (i 1))

section

variable (m : (ℓ : Loc nD τ sig) → Buf (Elt Ideal) ℓ)

/-- The windows' block indices at a grid point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S8192x2560.Idx → EReal := m ((c : Thread nD τ).loc main_arg1)

/-- The row of the result, its column and the summand's place that a point's row, column and place are. -/
def ptI (l : Fin 1024) : Fin 1024 := ⟨0 * 1024 + l.val, by have := lt_of_lt_of_eq t.isLt (show cfg0.N = 16 from N_0); omega⟩
def ptJ (l : Fin 1280) : Fin 2560 := ⟨(t.val / 8) * 1280 + l.val, by have := lt_of_lt_of_eq t.isLt (show cfg0.N = 16 from N_0); omega⟩
def ptK (l : Fin 1024) : Fin 8192 := ⟨(t.val % 8) * 1024 + l.val, by have := lt_of_lt_of_eq t.isLt (show cfg0.N = 16 from N_0); omega⟩

/-- The blocks a point reads, in the arguments. -/
theorem blk0 (k : Fin 1024) (l : Fin 1024) : iblk (F := Ideal) m c 0 t (ix2 k l) = aA m c (ix2 (ptK t k) (ptI t l)) := by
  unfold ptI ptK
  blk_ext [iblk, V, idx t]

theorem blk1 (k : Fin 1024) (l : Fin 1280) : iblk (F := Ideal) m c 1 t (ix2 k l) = aB m c (ix2 (ptK t k) (ptJ t l)) := by
  unfold ptJ ptK
  blk_ext [iblk, V, idx t]

/-- What a grid point adds to the accumulator. -/
def term (j : S1024x1280.Idx) : EReal := ∑ k : Fin 1024, aA m c (ix2 (ptK t k) (ptI t (j 0))) * aB m c (ix2 (ptK t k) (ptJ t (j 1)))

theorem pay1_at (j : S1024x1280.Idx) : k0_pay1 (F := Ideal) (iblk m c 0 t) (iblk m c 1 t) j = term m c t j := by
  unfold term
  obtain ⟨a, b, rfl⟩ : ∃ (a : Fin 1024) (b : Fin 1280), j = ix2 a b := ⟨j 0, j 1, eq_ix2 j⟩
  pointwise [k0_pay1]
  exact Finset.sum_congr rfl fun k _ => congrArg₂ (· * ·) (blk0 m c t k a) (blk1 m c t k b)

/-- The accumulator after the last point of a run of 8: the whole sum. -/
theorem acc (hf : t.val % 8 = 7) (j : S1024x1280.Idx) : (outsAt0 (F := Ideal) m c t.val t.isLt).2 j = prod (aA m c) (aB m c) (ix2 (ptI t (j 0)) (ptJ t (j 1))) := by
  have ht := lt_of_lt_of_eq t.isLt (show cfg0.N = 16 from N_0)
  rw [Pipeline.eq_sum_fin_of_reset_step_apply_of_flush (fun n h => (outsAt0 (F := Ideal) m c n h).2) 8 (fun _ => 0)
    (term m c)
    (fun t h j => by
      have ht := lt_of_lt_of_eq t.isLt (show cfg0.N = 16 from N_0)
      rw [outsAt0_A m c t h (by omega) (by omega)]; frame_out
      pointwise [k0_pay2]
      exact pay1_at m c t j)
    (fun t h j => by
      by_cases h3 : t.val % 8 = 7
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 8 1024 fun k : Fin 8192 => aA m c (ix2 k (ptI t (j 0))) * aB m c (ix2 k (ptJ t (j 1))))
  have hs := s.isLt
  have e0 : ptK ⟨8 * (t.val / 8) + s.val, by omega⟩ k = ⟨s.val * 1024 + k.val, by omega⟩ :=
    Fin.ext (by simp only [ptK]; omega)
  have e1 : ptI ⟨8 * (t.val / 8) + s.val, by omega⟩ (j 0) = ptI t (j 0) :=
    Fin.ext (by simp only [ptI])
  have e2 : ptJ ⟨8 * (t.val / 8) + s.val, by omega⟩ (j 1) = ptJ t (j 1) :=
    Fin.ext (by simp only [ptJ]; omega)
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 16 from N_0)
  have hm : t.val % 8 = 7 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x1024.Idx → EReal) (B : S8192x2560.Idx → EReal) : Cert.DwInAReferenceIdeal.Read.val_main_v7 (F := Ideal) A B = prod A B := by
  funext i
  unfold prod Cert.DwInAReferenceIdeal.Read.val_main_v7 Cert.DwInAReferenceIdeal.Read.val_main_v6 Cert.DwInAReferenceIdeal.Read.val_main_v5 Cert.DwInAReferenceIdeal.Read.val_main_v4 Cert.DwInAReferenceIdeal.Read.val_main_v1
  pointwise []
  exact Finset.sum_congr rfl fun _ _ => mul_comm _ _

end

/-- The kernel runs, leaves its arguments as they were and its counters at zero. -/
theorem frame_K : Cert.quiescent_DwInAKernel (hDwInAKernel := Cert.DwInAKernel.Gen.facts) := fun m ρ _ => Cert.DwInAKernel.Gen.frame m ρ

theorem frame_KI : Cert.quiescent_DwInAKernelIdeal (hDwInAKernelIdeal := Cert.DwInAKernelIdeal.Gen.facts) := fun m ρ _ => Cert.DwInAKernelIdeal.Gen.frame m ρ

theorem frame_RI : Cert.quiescent_DwInAReferenceIdeal (hDwInAReferenceIdeal := Cert.DwInAReferenceIdeal.Gen.facts) := fun m ρ _ =>
  (θ_run _ _ _).mono (fun r h => ⟨fun c => (h c).2, sem_eq_zero_of_no_sems (by decide) r.2⟩) (Cert.DwInAReferenceIdeal.Value.run m ρ)

/-- The idealization rewrites nothing. -/
theorem preserves : Cert.preserves_DwInAKernel_DwInAKernelIdeal := trivial

/-- The kernel and the reference leave the same array. -/
theorem algebraic : Cert.algebraic_DwInAKernelIdeal_DwInAReferenceIdeal (hDwInAKernelIdeal := Cert.DwInAKernelIdeal.Gen.facts)
    (hDwInAReferenceIdeal := Cert.DwInAReferenceIdeal.Gen.facts) := by
  intro m g m' g' hpre hag
  refine ⟨fun c => prod (aA m c) (aB m c), ?_, ?_⟩
  · refine (θ_run _ _ _).mono (fun r h c => ?_) (Cert.DwInAKernelIdeal.Value.run_blocks m g)
    obtain ⟨h2, hk⟩ := h c
    exact ⟨h2.trans (arr m c), hk⟩
  · refine (θ_run _ _ _).mono (fun r h c => ?_) (Cert.DwInAReferenceIdeal.Value.run m' g')
    obtain ⟨e0, e1⟩ := hag c
    obtain ⟨h2, hk⟩ := h c
    refine ⟨h2.trans ?_, hk⟩
    refine (Cert.DwInAReferenceIdeal.Read.val_main_v7_eq (F := Ideal) _ _).trans ?_
    rw [e0, e1]
    exact ref _ _

end Cert.DwInA

end
-- ==== Proof.DwInG.lean ====
/- The gradient of the input projection's gate columns: the transposed input times the gradient. -/
module

public import proofs.«01_k».proof.Proof.Gen.DwInGKernel.Frame
public import proofs.«01_k».proof.Proof.Gen.DwInGKernelIdeal.Value
public import proofs.«01_k».proof.Proof.Gen.DwInGReferenceIdeal.Run
public import proofs.«01_k».proof.Proof.Gen.DwInGReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwInG

open Idealize.ShloMosaic Idealize.ShloMosaic.TcCoe Idealize.SL.Sem
open Cert.DwInGKernelIdeal Cert.DwInGKernelIdeal.Gen

/-- The product the kernel computes: each entry a sum over 8192 terms. -/
def prod (A : S8192x1024.Idx → EReal) (B : S8192x2048.Idx → EReal) : S1024x2048.Idx → EReal := fun i =>
  ∑ k : Fin 8192, A (ix2 k (i 0)) * B (ix2 k (i 1))

section

variable (m : (ℓ : Loc nD τ sig) → Buf (Elt Ideal) ℓ)

/-- The windows' block indices at a grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S8192x2048.Idx → EReal := m ((c : Thread nD τ).loc main_arg1)

/-- The row of the result, its column and the summand's place that a point's row, column and place are. -/
def ptI (l : Fin 1024) : Fin 1024 := ⟨0 * 1024 + l.val, by have := lt_of_lt_of_eq t.isLt (show cfg0.N = 8 from N_0); omega⟩
def ptJ (l : Fin 1024) : Fin 2048 := ⟨(t.val / 4) * 1024 + l.val, by have := lt_of_lt_of_eq t.isLt (show cfg0.N = 8 from N_0); omega⟩
def ptK (l : Fin 2048) : Fin 8192 := ⟨(t.val % 4) * 2048 + l.val, by have := lt_of_lt_of_eq t.isLt (show cfg0.N = 8 from N_0); omega⟩

/-- The blocks a point reads, in the arguments. -/
theorem blk0 (k : Fin 2048) (l : Fin 1024) : iblk (F := Ideal) m c 0 t (ix2 k l) = aA m c (ix2 (ptK t k) (ptI t l)) := by
  unfold ptI ptK
  blk_ext [iblk, V, idx t]

theorem blk1 (k : Fin 2048) (l : Fin 1024) : iblk (F := Ideal) m c 1 t (ix2 k l) = aB m c (ix2 (ptK t k) (ptJ t l)) := by
  unfold ptJ ptK
  blk_ext [iblk, V, idx t]

/-- What a grid point adds to the accumulator. -/
def term (j : S1024x1024.Idx) : EReal := ∑ k : Fin 2048, aA m c (ix2 (ptK t k) (ptI t (j 0))) * aB m c (ix2 (ptK t k) (ptJ t (j 1)))

theorem pay1_at (j : S1024x1024.Idx) : k0_pay1 (F := Ideal) (iblk m c 0 t) (iblk m c 1 t) j = term m c t j := by
  unfold term
  obtain ⟨a, b, rfl⟩ : ∃ (a : Fin 1024) (b : Fin 1024), j = ix2 a b := ⟨j 0, j 1, eq_ix2 j⟩
  pointwise [k0_pay1]
  exact Finset.sum_congr rfl fun k _ => congrArg₂ (· * ·) (blk0 m c t k a) (blk1 m c t k b)

/-- The accumulator after the last point of a run of 4: the whole sum. -/
theorem acc (hf : t.val % 4 = 3) (j : S1024x1024.Idx) : (outsAt0 (F := Ideal) m c t.val t.isLt).2 j = prod (aA m c) (aB m c) (ix2 (ptI t (j 0)) (ptJ t (j 1))) := by
  have ht := lt_of_lt_of_eq t.isLt (show cfg0.N = 8 from N_0)
  rw [Pipeline.eq_sum_fin_of_reset_step_apply_of_flush (fun n h => (outsAt0 (F := Ideal) m c n h).2) 4 (fun _ => 0)
    (term m c)
    (fun t h j => by
      have ht := lt_of_lt_of_eq t.isLt (show cfg0.N = 8 from N_0)
      rw [outsAt0_A m c t h (by omega) (by omega)]; frame_out
      pointwise [k0_pay2]
      exact pay1_at m c t j)
    (fun t h j => by
      by_cases h3 : t.val % 4 = 3
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 4 2048 fun k : Fin 8192 => aA m c (ix2 k (ptI t (j 0))) * aB m c (ix2 k (ptJ t (j 1))))
  have hs := s.isLt
  have e0 : ptK ⟨4 * (t.val / 4) + s.val, by omega⟩ k = ⟨s.val * 2048 + k.val, by omega⟩ :=
    Fin.ext (by simp only [ptK]; omega)
  have e1 : ptI ⟨4 * (t.val / 4) + s.val, by omega⟩ (j 0) = ptI t (j 0) :=
    Fin.ext (by simp only [ptI])
  have e2 : ptJ ⟨4 * (t.val / 4) + s.val, by omega⟩ (j 1) = ptJ t (j 1) :=
    Fin.ext (by simp only [ptJ]; omega)
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 8 from N_0)
  have hm : t.val % 4 = 3 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x1024.Idx → EReal) (B : S8192x2048.Idx → EReal) : Cert.DwInGReferenceIdeal.Read.val_main_v7 (F := Ideal) A B = prod A B := by
  funext i
  unfold prod Cert.DwInGReferenceIdeal.Read.val_main_v7 Cert.DwInGReferenceIdeal.Read.val_main_v6 Cert.DwInGReferenceIdeal.Read.val_main_v5 Cert.DwInGReferenceIdeal.Read.val_main_v4 Cert.DwInGReferenceIdeal.Read.val_main_v1
  pointwise []
  exact Finset.sum_congr rfl fun _ _ => mul_comm _ _

end

/-- The kernel runs, leaves its arguments as they were and its counters at zero. -/
theorem frame_K : Cert.quiescent_DwInGKernel (hDwInGKernel := Cert.DwInGKernel.Gen.facts) := fun m ρ _ => Cert.DwInGKernel.Gen.frame m ρ

theorem frame_KI : Cert.quiescent_DwInGKernelIdeal (hDwInGKernelIdeal := Cert.DwInGKernelIdeal.Gen.facts) := fun m ρ _ => Cert.DwInGKernelIdeal.Gen.frame m ρ

theorem frame_RI : Cert.quiescent_DwInGReferenceIdeal (hDwInGReferenceIdeal := Cert.DwInGReferenceIdeal.Gen.facts) := fun m ρ _ =>
  (θ_run _ _ _).mono (fun r h => ⟨fun c => (h c).2, sem_eq_zero_of_no_sems (by decide) r.2⟩) (Cert.DwInGReferenceIdeal.Value.run m ρ)

/-- The idealization rewrites nothing. -/
theorem preserves : Cert.preserves_DwInGKernel_DwInGKernelIdeal := trivial

/-- The kernel and the reference leave the same array. -/
theorem algebraic : Cert.algebraic_DwInGKernelIdeal_DwInGReferenceIdeal (hDwInGKernelIdeal := Cert.DwInGKernelIdeal.Gen.facts)
    (hDwInGReferenceIdeal := Cert.DwInGReferenceIdeal.Gen.facts) := by
  intro m g m' g' hpre hag
  refine ⟨fun c => prod (aA m c) (aB m c), ?_, ?_⟩
  · refine (θ_run _ _ _).mono (fun r h c => ?_) (Cert.DwInGKernelIdeal.Value.run_blocks m g)
    obtain ⟨h2, hk⟩ := h c
    exact ⟨h2.trans (arr m c), hk⟩
  · refine (θ_run _ _ _).mono (fun r h c => ?_) (Cert.DwInGReferenceIdeal.Value.run m' g')
    obtain ⟨e0, e1⟩ := hag c
    obtain ⟨h2, hk⟩ := h c
    refine ⟨h2.trans ?_, hk⟩
    refine (Cert.DwInGReferenceIdeal.Read.val_main_v7_eq (F := Ideal) _ _).trans ?_
    rw [e0, e1]
    exact ref _ _

end Cert.DwInG

end
-- ==== Proof.DwInR.lean ====
/- The gradient of the input projection's recurrence columns: the transposed input times the gradient. -/
module

public import proofs.«01_k».proof.Proof.Gen.DwInRKernel.Frame
public import proofs.«01_k».proof.Proof.Gen.DwInRKernelIdeal.Value
public import proofs.«01_k».proof.Proof.Gen.DwInRReferenceIdeal.Run
public import proofs.«01_k».proof.Proof.Gen.DwInRReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwInR

open Idealize.ShloMosaic Idealize.ShloMosaic.TcCoe Idealize.SL.Sem
open Cert.DwInRKernelIdeal Cert.DwInRKernelIdeal.Gen

/-- The product the kernel computes: each entry a sum over 8192 terms. -/
def prod (A : S8192x1024.Idx → EReal) (B : S8192x1280.Idx → EReal) : S1024x1280.Idx → EReal := fun i =>
  ∑ k : Fin 8192, A (ix2 k (i 0)) * B (ix2 k (i 1))

section

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S8192x1280.Idx → EReal := m ((c : Thread nD τ).loc main_arg1)

/-- The row of the result, its column and the summand's place that a point's row, column and place are. -/
def ptI (l : Fin 1024) : Fin 1024 := ⟨0 * 1024 + l.val, by have := lt_of_lt_of_eq t.isLt (show cfg0.N = 8 from N_0); omega⟩
def ptJ (l : Fin 1280) : Fin 1280 := ⟨0 * 1280 + l.val, by have := lt_of_lt_of_eq t.isLt (show cfg0.N = 8 from N_0); omega⟩
def ptK (l : Fin 1024) : Fin 8192 := ⟨(t.val) * 1024 + l.val, by have := lt_of_lt_of_eq t.isLt (show cfg0.N = 8 from N_0); omega⟩

/-- The blocks a point reads, in the arguments. -/
theorem blk0 (k : Fin 1024) (l : Fin 1024) : iblk (F := Ideal) m c 0 t (ix2 k l) = aA m c (ix2 (ptK t k) (ptI t l)) := by
  unfold ptI ptK
  blk_ext [iblk, V, idx t]

theorem blk1 (k : Fin 1024) (l : Fin 1280) : iblk (F := Ideal) m c 1 t (ix2 k l) = aB m c (ix2 (ptK t k) (ptJ t l)) := by
  unfold ptJ ptK
  blk_ext [iblk, V, idx t]

/-- What a grid point adds to the accumulator. -/
def term (j : S1024x1280.Idx) : EReal := ∑ k : Fin 1024, aA m c (ix2 (ptK t k) (ptI t (j 0))) * aB m c (ix2 (ptK t k) (ptJ t (j 1)))

theorem pay1_at (j : S1024x1280.Idx) : k0_pay1 (F := Ideal) (iblk m c 0 t) (iblk m c 1 t) j = term m c t j := by
  unfold term
  obtain ⟨a, b, rfl⟩ : ∃ (a : Fin 1024) (b : Fin 1280), j = ix2 a b := ⟨j 0, j 1, eq_ix2 j⟩
  pointwise [k0_pay1]
  exact Finset.sum_congr rfl fun k _ => congrArg₂ (· * ·) (blk0 m c t k a) (blk1 m c t k b)

/-- The accumulator after the last point of a run of 8: the whole sum. -/
theorem acc (hf : t.val % 8 = 7) (j : S1024x1280.Idx) : (outsAt0 (F := Ideal) m c t.val t.isLt).2 j = prod (aA m c) (aB m c) (ix2 (ptI t (j 0)) (ptJ t (j 1))) := by
  have ht := lt_of_lt_of_eq t.isLt (show cfg0.N = 8 from N_0)
  rw [Pipeline.eq_sum_fin_of_reset_step_apply_of_flush (fun n h => (outsAt0 (F := Ideal) m c n h).2) 8 (fun _ => 0)
    (term m c)
    (fun t h j => by
      have ht := lt_of_lt_of_eq t.isLt (show cfg0.N = 8 from N_0)
      rw [outsAt0_A m c t h (by omega) (by omega)]; frame_out
      pointwise [k0_pay2]
      exact pay1_at m c t j)
    (fun t h j => by
      by_cases h3 : t.val % 8 = 7
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 8 1024 fun k : Fin 8192 => aA m c (ix2 k (ptI t (j 0))) * aB m c (ix2 k (ptJ t (j 1))))
  have hs := s.isLt
  have e0 : ptK ⟨8 * (t.val / 8) + s.val, by omega⟩ k = ⟨s.val * 1024 + k.val, by omega⟩ :=
    Fin.ext (by simp only [ptK]; omega)
  have e1 : ptI ⟨8 * (t.val / 8) + s.val, by omega⟩ (j 0) = ptI t (j 0) :=
    Fin.ext (by simp only [ptI])
  have e2 : ptJ ⟨8 * (t.val / 8) + s.val, by omega⟩ (j 1) = ptJ t (j 1) :=
    Fin.ext (by simp only [ptJ])
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 8 from N_0)
  have hm : t.val % 8 = 7 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x1024.Idx → EReal) (B : S8192x1280.Idx → EReal) : Cert.DwInRReferenceIdeal.Read.val_main_v7 (F := Ideal) A B = prod A B := by
  funext i
  unfold prod Cert.DwInRReferenceIdeal.Read.val_main_v7 Cert.DwInRReferenceIdeal.Read.val_main_v6 Cert.DwInRReferenceIdeal.Read.val_main_v5 Cert.DwInRReferenceIdeal.Read.val_main_v4 Cert.DwInRReferenceIdeal.Read.val_main_v1
  pointwise []
  exact Finset.sum_congr rfl fun _ _ => mul_comm _ _

end

/-- The kernel runs, leaves its arguments as they were and its counters at zero. -/
theorem frame_K : Cert.quiescent_DwInRKernel (hDwInRKernel := Cert.DwInRKernel.Gen.facts) := fun m ρ _ => Cert.DwInRKernel.Gen.frame m ρ

theorem frame_KI : Cert.quiescent_DwInRKernelIdeal (hDwInRKernelIdeal := Cert.DwInRKernelIdeal.Gen.facts) := fun m ρ _ => Cert.DwInRKernelIdeal.Gen.frame m ρ

theorem frame_RI : Cert.quiescent_DwInRReferenceIdeal (hDwInRReferenceIdeal := Cert.DwInRReferenceIdeal.Gen.facts) := fun m ρ _ =>
  (θ_run _ _ _).mono (fun r h => ⟨fun c => (h c).2, sem_eq_zero_of_no_sems (by decide) r.2⟩) (Cert.DwInRReferenceIdeal.Value.run m ρ)

/-- The idealization rewrites nothing. -/
theorem preserves : Cert.preserves_DwInRKernel_DwInRKernelIdeal := trivial

/-- The kernel and the reference leave the same array. -/
theorem algebraic : Cert.algebraic_DwInRKernelIdeal_DwInRReferenceIdeal (hDwInRKernelIdeal := Cert.DwInRKernelIdeal.Gen.facts)
    (hDwInRReferenceIdeal := Cert.DwInRReferenceIdeal.Gen.facts) := by
  intro m g m' g' hpre hag
  refine ⟨fun c => prod (aA m c) (aB m c), ?_, ?_⟩
  · refine (θ_run _ _ _).mono (fun r h c => ?_) (Cert.DwInRKernelIdeal.Value.run_blocks m g)
    obtain ⟨h2, hk⟩ := h c
    exact ⟨h2.trans (arr m c), hk⟩
  · refine (θ_run _ _ _).mono (fun r h c => ?_) (Cert.DwInRReferenceIdeal.Value.run m' g')
    obtain ⟨e0, e1⟩ := hag c
    obtain ⟨h2, hk⟩ := h c
    refine ⟨h2.trans ?_, hk⟩
    refine (Cert.DwInRReferenceIdeal.Read.val_main_v7_eq (F := Ideal) _ _).trans ?_
    rw [e0, e1]
    exact ref _ _

end Cert.DwInR

end
-- ==== Proof.DwOut.lean ====
/- The gradient of the output projection: the transposed merged branches times the gradient. -/
module

public import proofs.«01_k».proof.Proof.Gen.DwOutKernel.Frame
public import proofs.«01_k».proof.Proof.Gen.DwOutKernelIdeal.Value
public import proofs.«01_k».proof.Proof.Gen.DwOutReferenceIdeal.Run
public import proofs.«01_k».proof.Proof.Gen.DwOutReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DwOut

open Idealize.ShloMosaic Idealize.ShloMosaic.TcCoe Idealize.SL.Sem
open Cert.DwOutKernelIdeal Cert.DwOutKernelIdeal.Gen

/-- The product the kernel computes: each entry a sum over 8192 terms. -/
def prod (A : S8192x1024.Idx → EReal) (B : S8192x1024.Idx → EReal) : S1024x1024.Idx → EReal := fun i =>
  ∑ k : Fin 8192, A (ix2 k (i 0)) * B (ix2 k (i 1))

section

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S8192x1024.Idx → EReal := m ((c : Thread nD τ).loc main_arg1)

/-- The row of the result, its column and the summand's place that a point's row, column and place are. -/
def ptI (l : Fin 1024) : Fin 1024 := ⟨0 * 1024 + l.val, by have := lt_of_lt_of_eq t.isLt (show cfg0.N = 4 from N_0); omega⟩
def ptJ (l : Fin 1024) : Fin 1024 := ⟨0 * 1024 + l.val, by have := lt_of_lt_of_eq t.isLt (show cfg0.N = 4 from N_0); omega⟩
def ptK (l : Fin 2048) : Fin 8192 := ⟨(t.val) * 2048 + l.val, by have := lt_of_lt_of_eq t.isLt (show cfg0.N = 4 from N_0); omega⟩

/-- The blocks a point reads, in the arguments. -/
theorem blk0 (k : Fin 2048) (l : Fin 1024) : iblk (F := Ideal) m c 0 t (ix2 k l) = aA m c (ix2 (ptK t k) (ptI t l)) := by
  unfold ptI ptK
  blk_ext [iblk, V, idx t]

theorem blk1 (k : Fin 2048) (l : Fin 1024) : iblk (F := Ideal) m c 1 t (ix2 k l) = aB m c (ix2 (ptK t k) (ptJ t l)) := by
  unfold ptJ ptK
  blk_ext [iblk, V, idx t]

/-- What a grid point adds to the accumulator. -/
def term (j : S1024x1024.Idx) : EReal := ∑ k : Fin 2048, aA m c (ix2 (ptK t k) (ptI t (j 0))) * aB m c (ix2 (ptK t k) (ptJ t (j 1)))

theorem pay1_at (j : S1024x1024.Idx) : k0_pay1 (F := Ideal) (iblk m c 0 t) (iblk m c 1 t) j = term m c t j := by
  unfold term
  obtain ⟨a, b, rfl⟩ : ∃ (a : Fin 1024) (b : Fin 1024), j = ix2 a b := ⟨j 0, j 1, eq_ix2 j⟩
  pointwise [k0_pay1]
  exact Finset.sum_congr rfl fun k _ => congrArg₂ (· * ·) (blk0 m c t k a) (blk1 m c t k b)

/-- The accumulator after the last point of a run of 4: the whole sum. -/
theorem acc (hf : t.val % 4 = 3) (j : S1024x1024.Idx) : (outsAt0 (F := Ideal) m c t.val t.isLt).2 j = prod (aA m c) (aB m c) (ix2 (ptI t (j 0)) (ptJ t (j 1))) := by
  have ht := lt_of_lt_of_eq t.isLt (show cfg0.N = 4 from N_0)
  rw [Pipeline.eq_sum_fin_of_reset_step_apply_of_flush (fun n h => (outsAt0 (F := Ideal) m c n h).2) 4 (fun _ => 0)
    (term m c)
    (fun t h j => by
      have ht := lt_of_lt_of_eq t.isLt (show cfg0.N = 4 from N_0)
      rw [outsAt0_A m c t h (by omega) (by omega)]; frame_out
      pointwise [k0_pay2]
      exact pay1_at m c t j)
    (fun t h j => by
      by_cases h3 : t.val % 4 = 3
      · rw [outsAt0_C m c t h (by omega) h3]; frame_out
        pointwise [k0_pay3]
        exact congrArg₂ (· + ·) (congrFun (Memref.IsWhole.read_unread _ _) j) (pay1_at m c t j)
      · rw [outsAt0_B m c t h (by omega) h3]; frame_out
        pointwise [k0_pay3]
        exact congrArg₂ (· + ·) (congrFun (Memref.IsWhole.read_unread _ _) j) (pay1_at m c t j)) t hf j, zero_add]
  unfold prod
  refine Eq.trans (Finset.sum_congr rfl fun s _ => Finset.sum_congr rfl fun k _ => ?_)
    (Fin.sum_mul_add_fin 4 2048 fun k : Fin 8192 => aA m c (ix2 k (ptI t (j 0))) * aB m c (ix2 k (ptJ t (j 1))))
  have hs := s.isLt
  have e0 : ptK ⟨4 * (t.val / 4) + s.val, by omega⟩ k = ⟨s.val * 2048 + k.val, by omega⟩ :=
    Fin.ext (by simp only [ptK]; omega)
  have e1 : ptI ⟨4 * (t.val / 4) + s.val, by omega⟩ (j 0) = ptI t (j 0) :=
    Fin.ext (by simp only [ptI])
  have e2 : ptJ ⟨4 * (t.val / 4) + s.val, by omega⟩ (j 1) = ptJ t (j 1) :=
    Fin.ext (by simp only [ptJ])
  rw [e0, e1, e2]

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  have ht := lt_of_lt_of_eq t.isLt (show cfg0.N = 4 from N_0)
  have hm : t.val % 4 = 3 := (flush0_2 t).mp hf
  have ha := acc m c t hm y
  blk_simp
  rw [after0_2]
  rw [outsAt0_C m c t (by omega) (by omega) hm] at ha ⊢
  revert ha
  frame_out
  intro ha
  refine Eq.trans ?_ (ha.trans (congrArg _ ?_))
  · rfl
  · unfold ptI ptJ
    blk_ext [idx t]

/-- The reference's array is the same product. -/
theorem ref (A : S8192x1024.Idx → EReal) (B : S8192x1024.Idx → EReal) : Cert.DwOutReferenceIdeal.Read.val_main_v7 (F := Ideal) A B = prod A B := by
  funext i
  unfold prod Cert.DwOutReferenceIdeal.Read.val_main_v7 Cert.DwOutReferenceIdeal.Read.val_main_v6 Cert.DwOutReferenceIdeal.Read.val_main_v5 Cert.DwOutReferenceIdeal.Read.val_main_v4 Cert.DwOutReferenceIdeal.Read.val_main_v1
  pointwise []
  exact Finset.sum_congr rfl fun _ _ => mul_comm _ _

end

/-- The kernel runs, leaves its arguments as they were and its counters at zero. -/
theorem frame_K : Cert.quiescent_DwOutKernel (hDwOutKernel := Cert.DwOutKernel.Gen.facts) := fun m ρ _ => Cert.DwOutKernel.Gen.frame m ρ

theorem frame_KI : Cert.quiescent_DwOutKernelIdeal (hDwOutKernelIdeal := Cert.DwOutKernelIdeal.Gen.facts) := fun m ρ _ => Cert.DwOutKernelIdeal.Gen.frame m ρ

theorem frame_RI : Cert.quiescent_DwOutReferenceIdeal (hDwOutReferenceIdeal := Cert.DwOutReferenceIdeal.Gen.facts) := fun m ρ _ =>
  (θ_run _ _ _).mono (fun r h => ⟨fun c => (h c).2, sem_eq_zero_of_no_sems (by decide) r.2⟩) (Cert.DwOutReferenceIdeal.Value.run m ρ)

/-- The idealization rewrites nothing. -/
theorem preserves : Cert.preserves_DwOutKernel_DwOutKernelIdeal := trivial

/-- The kernel and the reference leave the same array. -/
theorem algebraic : Cert.algebraic_DwOutKernelIdeal_DwOutReferenceIdeal (hDwOutKernelIdeal := Cert.DwOutKernelIdeal.Gen.facts)
    (hDwOutReferenceIdeal := Cert.DwOutReferenceIdeal.Gen.facts) := by
  intro m g m' g' hpre hag
  refine ⟨fun c => prod (aA m c) (aB m c), ?_, ?_⟩
  · refine (θ_run _ _ _).mono (fun r h c => ?_) (Cert.DwOutKernelIdeal.Value.run_blocks m g)
    obtain ⟨h2, hk⟩ := h c
    exact ⟨h2.trans (arr m c), hk⟩
  · refine (θ_run _ _ _).mono (fun r h c => ?_) (Cert.DwOutReferenceIdeal.Value.run m' g')
    obtain ⟨e0, e1⟩ := hag c
    obtain ⟨h2, hk⟩ := h c
    refine ⟨h2.trans ?_, hk⟩
    refine (Cert.DwOutReferenceIdeal.Read.val_main_v7_eq (F := Ideal) _ _).trans ?_
    rw [e0, e1]
    exact ref _ _

end Cert.DwOut

end
-- ==== Proof.Gate.lean ====
/- The gate and the up projection of the feed-forward block. -/
module

public import proofs.«01_k».proof.Proof.Gen.GateKernel.Frame
public import proofs.«01_k».proof.Proof.Gen.GateKernelIdeal.Value
public import proofs.«01_k».proof.Proof.Gen.GateReferenceIdeal.Run
public import proofs.«01_k».proof.Proof.Gen.GateReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Gate

open Idealize.ShloMosaic Idealize.ShloMosaic.TcCoe Idealize.SL.Sem
open Cert.GateKernelIdeal Cert.GateKernelIdeal.Gen

/-- The product the kernel computes: each entry a sum over 1024 terms. -/
def prod (A : S8192x1024.Idx → EReal) (B : S1024x3072.Idx → EReal) : S8192x3072.Idx → EReal := fun i =>
  ∑ k : Fin 1024, A (ix2 (i 0) k) * B (ix2 k (i 1))

section

variable (m : (ℓ : Loc nD τ sig) → Buf (Elt Ideal) ℓ)

/-- The windows' block indices at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S1024x3072.Idx → EReal := m ((c : Thread nD τ).loc main_arg1)

/-- The row of the result, its column and the summand's place that a point's row, column and place are. -/
def ptI (l : Fin 1024) : Fin 8192 := ⟨(t.val % 8) * 1024 + l.val, by have := lt_of_lt_of_eq t.isLt (show cfg0.N = 24 from N_0); omega⟩
def ptJ (l : Fin 1024) : Fin 3072 := ⟨(t.val / 8) * 1024 + l.val, by have := lt_of_lt_of_eq t.isLt (show cfg0.N = 24 from N_0); omega⟩
def ptK (l : Fin 1024) : Fin 1024 := ⟨0 * 1024 + l.val, by have := lt_of_lt_of_eq t.isLt (show cfg0.N = 24 from N_0); omega⟩

/-- The blocks a point reads, in the arguments. -/
theorem blk0 (k : Fin 1024) (l : Fin 1024) : iblk (F := Ideal) m c 0 t (ix2 k l) = aA m c (ix2 (ptI t k) (ptK t l)) := by
  unfold ptI ptK
  blk_ext [iblk, V, idx t]

theorem blk1 (k : Fin 1024) (l : Fin 1024) : iblk (F := Ideal) m c 1 t (ix2 k l) = aB m c (ix2 (ptK t k) (ptJ t l)) := by
  unfold ptJ ptK
  blk_ext [iblk, V, idx t]

/-- A point's block of the product. -/
theorem pay1_at (j : S1024x1024.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1024), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t k b
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x1024.Idx → EReal) (B : S1024x3072.Idx → EReal) : Cert.GateReferenceIdeal.Read.val_main_v3 (F := Ideal) A B = prod A B := by
  funext i
  unfold prod Cert.GateReferenceIdeal.Read.val_main_v3 Cert.GateReferenceIdeal.Read.val_main_v2 Cert.GateReferenceIdeal.Read.val_main_v0 Cert.GateReferenceIdeal.Read.val_main_v1
  pointwise []
  all_goals rfl

end

/-- The kernel runs, leaves its arguments as they were and its counters at zero. -/
theorem frame_K : Cert.quiescent_GateKernel (hGateKernel := Cert.GateKernel.Gen.facts) := fun m ρ _ => Cert.GateKernel.Gen.frame m ρ

theorem frame_KI : Cert.quiescent_GateKernelIdeal (hGateKernelIdeal := Cert.GateKernelIdeal.Gen.facts) := fun m ρ _ => Cert.GateKernelIdeal.Gen.frame m ρ

theorem frame_RI : Cert.quiescent_GateReferenceIdeal (hGateReferenceIdeal := Cert.GateReferenceIdeal.Gen.facts) := fun m ρ _ =>
  (θ_run _ _ _).mono (fun r h => ⟨fun c => (h c).2, sem_eq_zero_of_no_sems (by decide) r.2⟩) (Cert.GateReferenceIdeal.Value.run m ρ)

/-- The idealization rewrites nothing. -/
theorem preserves : Cert.preserves_GateKernel_GateKernelIdeal := trivial

/-- The kernel and the reference leave the same array. -/
theorem algebraic : Cert.algebraic_GateKernelIdeal_GateReferenceIdeal (hGateKernelIdeal := Cert.GateKernelIdeal.Gen.facts)
    (hGateReferenceIdeal := Cert.GateReferenceIdeal.Gen.facts) := by
  intro m g m' g' hpre hag
  refine ⟨fun c => prod (aA m c) (aB m c), ?_, ?_⟩
  · refine (θ_run _ _ _).mono (fun r h c => ?_) (Cert.GateKernelIdeal.Value.run_blocks m g)
    obtain ⟨h2, hk⟩ := h c
    exact ⟨h2.trans (arr m c), hk⟩
  · refine (θ_run _ _ _).mono (fun r h c => ?_) (Cert.GateReferenceIdeal.Value.run m' g')
    obtain ⟨e0, e1⟩ := hag c
    obtain ⟨h2, hk⟩ := h c
    refine ⟨h2.trans ?_, hk⟩
    refine (Cert.GateReferenceIdeal.Read.val_main_v3_eq (F := Ideal) _ _).trans ?_
    rw [e0, e1]
    exact ref _ _

end Cert.Gate

end
-- ==== Proof.Gates.lean ====
/- The gate columns of the input projection. -/
module

public import proofs.«01_k».proof.Proof.Gen.GatesKernel.Frame
public import proofs.«01_k».proof.Proof.Gen.GatesKernelIdeal.Value
public import proofs.«01_k».proof.Proof.Gen.GatesReferenceIdeal.Run
public import proofs.«01_k».proof.Proof.Gen.GatesReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Gates

open Idealize.ShloMosaic Idealize.ShloMosaic.TcCoe Idealize.SL.Sem
open Cert.GatesKernelIdeal Cert.GatesKernelIdeal.Gen

/-- The product the kernel computes: each entry a sum over 1024 terms. -/
def prod (A : S8192x1024.Idx → EReal) (B : S1024x2048.Idx → EReal) : S8192x2048.Idx → EReal := fun i =>
  ∑ k : Fin 1024, A (ix2 (i 0) k) * B (ix2 k (i 1))

section

variable (m : (ℓ : Loc nD τ sig) → Buf (Elt Ideal) ℓ)

/-- The windows' block indices at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S1024x2048.Idx → EReal := m ((c : Thread nD τ).loc main_arg1)

/-- The row of the result, its column and the summand's place that a point's row, column and place are. -/
def ptI (l : Fin 1024) : Fin 8192 := ⟨(t.val % 8) * 1024 + l.val, by have := lt_of_lt_of_eq t.isLt (show cfg0.N = 16 from N_0); omega⟩
def ptJ (l : Fin 1024) : Fin 2048 := ⟨(t.val / 8) * 1024 + l.val, by have := lt_of_lt_of_eq t.isLt (show cfg0.N = 16 from N_0); omega⟩
def ptK (l : Fin 1024) : Fin 1024 := ⟨0 * 1024 + l.val, by have := lt_of_lt_of_eq t.isLt (show cfg0.N = 16 from N_0); omega⟩

/-- The blocks a point reads, in the arguments. -/
theorem blk0 (k : Fin 1024) (l : Fin 1024) : iblk (F := Ideal) m c 0 t (ix2 k l) = aA m c (ix2 (ptI t k) (ptK t l)) := by
  unfold ptI ptK
  blk_ext [iblk, V, idx t]

theorem blk1 (k : Fin 1024) (l : Fin 1024) : iblk (F := Ideal) m c 1 t (ix2 k l) = aB m c (ix2 (ptK t k) (ptJ t l)) := by
  unfold ptJ ptK
  blk_ext [iblk, V, idx t]

/-- A point's block of the product. -/
theorem pay1_at (j : S1024x1024.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1024), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t k b
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x1024.Idx → EReal) (B : S1024x2048.Idx → EReal) : Cert.GatesReferenceIdeal.Read.val_main_v3 (F := Ideal) A B = prod A B := by
  funext i
  unfold prod Cert.GatesReferenceIdeal.Read.val_main_v3 Cert.GatesReferenceIdeal.Read.val_main_v2 Cert.GatesReferenceIdeal.Read.val_main_v0 Cert.GatesReferenceIdeal.Read.val_main_v1
  pointwise []
  all_goals rfl

end

/-- The kernel runs, leaves its arguments as they were and its counters at zero. -/
theorem frame_K : Cert.quiescent_GatesKernel (hGatesKernel := Cert.GatesKernel.Gen.facts) := fun m ρ _ => Cert.GatesKernel.Gen.frame m ρ

theorem frame_KI : Cert.quiescent_GatesKernelIdeal (hGatesKernelIdeal := Cert.GatesKernelIdeal.Gen.facts) := fun m ρ _ => Cert.GatesKernelIdeal.Gen.frame m ρ

theorem frame_RI : Cert.quiescent_GatesReferenceIdeal (hGatesReferenceIdeal := Cert.GatesReferenceIdeal.Gen.facts) := fun m ρ _ =>
  (θ_run _ _ _).mono (fun r h => ⟨fun c => (h c).2, sem_eq_zero_of_no_sems (by decide) r.2⟩) (Cert.GatesReferenceIdeal.Value.run m ρ)

/-- The idealization rewrites nothing. -/
theorem preserves : Cert.preserves_GatesKernel_GatesKernelIdeal := trivial

/-- The kernel and the reference leave the same array. -/
theorem algebraic : Cert.algebraic_GatesKernelIdeal_GatesReferenceIdeal (hGatesKernelIdeal := Cert.GatesKernelIdeal.Gen.facts)
    (hGatesReferenceIdeal := Cert.GatesReferenceIdeal.Gen.facts) := by
  intro m g m' g' hpre hag
  refine ⟨fun c => prod (aA m c) (aB m c), ?_, ?_⟩
  · refine (θ_run _ _ _).mono (fun r h c => ?_) (Cert.GatesKernelIdeal.Value.run_blocks m g)
    obtain ⟨h2, hk⟩ := h c
    exact ⟨h2.trans (arr m c), hk⟩
  · refine (θ_run _ _ _).mono (fun r h c => ?_) (Cert.GatesReferenceIdeal.Value.run m' g')
    obtain ⟨e0, e1⟩ := hag c
    obtain ⟨h2, hk⟩ := h c
    refine ⟨h2.trans ?_, hk⟩
    refine (Cert.GatesReferenceIdeal.Read.val_main_v3_eq (F := Ideal) _ _).trans ?_
    rw [e0, e1]
    exact ref _ _

end Cert.Gates

end
-- ==== Proof.InBwd.lean ====
/- The gradient of the first norm and of the input. -/
module

public import proofs.«01_k».proof.Proof.Gen.InBwdKernel.Frame
public import proofs.«01_k».proof.Proof.Gen.InBwdKernelIdeal.Value
public import proofs.«01_k».proof.Proof.Gen.InBwdReferenceIdeal.Run
public import proofs.«01_k».proof.Proof.Gen.InBwdReferenceIdeal.Read
public import proofs.«01_k».proof.Defs
public import Idealize.ShloMosaic.Lib.Pipeline.ValueKit
public import Idealize.ShloMosaic.Lib.Pointwise
public import Idealize.ShloMosaic.Lib.Claim
public import proofs.«01_k».proof.Proof.Norm

@[expose] public section

set_option maxRecDepth 16384

noncomputable section

namespace Cert.InBwd

open Idealize.ShloMosaic Idealize.ShloMosaic.TcCoe Idealize.SL.Sem
open Cert.InBwdKernelIdeal Cert.InBwdKernelIdeal.Gen

open Cert.Norm

/-- A row of an array. -/
def row (X : S8192x1024.Idx → EReal) (a : Fin 8192) : Fin 1024 → EReal := fun k => X (ix2 a k)

/-- A row of the gradient, times the gain. -/
def dRow (D : S8192x1024.Idx → EReal) (g : S1x1024.Idx → EReal) (a : Fin 8192) : Fin 1024 → EReal := fun k => D (ix2 a k) * g (ix2 0 k)

/-- The gradient of the input: the residual's gradient and the norm's. -/
def arrDx (H D X : S8192x1024.Idx → EReal) (g : S1x1024.Idx → EReal) : S8192x1024.Idx → EReal := fun i =>
  H i + dxK (row X (i 0)) (dRow D g (i 0)) (i 1)

/-- The gradient of the gain, summed over the rows. -/
def arrDg (D X : S8192x1024.Idx → EReal) : S1x1024.Idx → EReal := fun i =>
  ∑ a : Fin 8192, D (ix2 a (i 1)) * (X (ix2 a (i 1)) * rs (row X a))

section

variable (m : (ℓ : Loc nD τ sig) → Buf (Elt Ideal) ℓ)

/-- The windows' block indices at a grid point. -/
theorem idx : ∀ t : Fin cfg0.N, win0_0.index t = ![t.val, 0] ∧ win0_1.index t = ![t.val, 0] ∧
    win0_2.index t = ![t.val, 0] ∧ win0_3.index t = ![0, 0] ∧ win0_4.index t = ![t.val, 0] ∧ win0_5.index t = ![0, 0] :=
  (by decide +kernel : ∀ t : Fin grid0.N, _)

variable (c : Dev nD) (t : Fin cfg0.N)

/-- The four arguments of the launch. -/
abbrev aH : S8192x1024.Idx → EReal := m ((c : Thread nD τ).loc main_arg0)
abbrev aD : S8192x1024.Idx → EReal := m ((c : Thread nD τ).loc main_arg1)
abbrev aX : S8192x1024.Idx → EReal := m ((c : Thread nD τ).loc main_arg2)
abbrev aW : S1x1024.Idx → EReal := m ((c : Thread nD τ).loc main_arg3)

/-- The row in the arrays of a point's row. -/
def pt (r : Fin 512) : Fin 8192 := ⟨t.val * 512 + r.val, by have := lt_of_lt_of_eq t.isLt (show cfg0.N = 16 from N_0); omega⟩

/-- The blocks a point reads, in the arguments. -/
theorem blk0 (r : Fin 512) (l : Fin 1024) : iblk (F := Ideal) m c 0 t (ix2 r l) = aH m c (ix2 (pt t r) l) := by
  unfold pt
  blk_ext [iblk, V, idx t]

theorem blk1 (r : Fin 512) (l : Fin 1024) : iblk (F := Ideal) m c 1 t (ix2 r l) = aD m c (ix2 (pt t r) l) := by
  unfold pt
  blk_ext [iblk, V, idx t]

theorem blk2 (r : Fin 512) (l : Fin 1024) : iblk (F := Ideal) m c 2 t (ix2 r l) = aX m c (ix2 (pt t r) l) := by
  unfold pt
  blk_ext [iblk, V, idx t]

theorem blk3 (l : Fin 1024) : iblk (F := Ideal) m c 3 t (ix2 0 l) = aW m c (ix2 0 l) := by
  blk_ext [iblk, V, idx t]

/-- The payloads at a place, in rows. -/
theorem p6 (x : Vec Ideal S512x1024 .f32) (g : Vec Ideal S1x1024 .f32) (d : Vec Ideal S512x1024 .bf16) (h : Vec Ideal S512x1024 .f32) (r : Fin 512) (l : Fin 1024) :
    k0_pay6 (F := Ideal) x g d h (ix2 r l) = h (ix2 r l) + dxK (fun k : Fin 1024 => x (ix2 r k)) (fun k : Fin 1024 => d (ix2 r k) * g (ix2 0 k)) l := by
  unfold dxK rs ms
  rw [← ofBits_N, ← ofBits_E]
  pointwise [k0_pay2, k0_pay3, k0_pay4, k0_pay6]

theorem p5 (x : Vec Ideal S512x1024 .f32) (d : Vec Ideal S512x1024 .bf16) (l : Fin 1024) :
    k0_pay5 (F := Ideal) x d (ix2 0 l) = ∑ r : Fin 512, d (ix2 r l) * (x (ix2 r l) * rs (fun k : Fin 1024 => x (ix2 r k))) := by
  unfold rs ms
  rw [← ofBits_N, ← ofBits_E]
  pointwise [k0_pay2, k0_pay3, k0_pay4, k0_pay5]

theorem pay6_at (r : Fin 512) (l : Fin 1024) :
    k0_pay6 (F := Ideal) (iblk m c 2 t) (iblk m c 3 t) (iblk m c 1 t) (iblk m c 0 t) (ix2 r l) =
    arrDx (aH m c) (aD m c) (aX m c) (aW m c) (ix2 (pt t r) l) := by
  refine (p6 _ _ _ _ r l).trans ?_
  unfold arrDx row dRow
  refine congrArg₂ (· + ·) (blk0 m c t r l) ?_
  exact congrArg₂ (fun a b => dxK a b l) (funext fun k => blk2 m c t r k) (funext fun k => congrArg₂ (· * ·) (blk1 m c t r k) (blk3 m c t k))

/-- What a point adds to the gain's gradient. -/
def term5 (y : S1x1024.Idx) : EReal := ∑ r : Fin 512, aD m c (ix2 (pt t r) (y 1)) * (aX m c (ix2 (pt t r) (y 1)) * rs (row (aX m c) (pt t r)))

theorem pay5_at (l : Fin 1024) : k0_pay5 (F := Ideal) (iblk m c 2 t) (iblk m c 1 t) (ix2 0 l) = term5 m c t (ix2 0 l) := by
  refine (p5 _ _ l).trans (Finset.sum_congr rfl fun r _ => ?_)
  unfold row
  exact congrArg₂ (· * ·) (blk1 m c t r l) (congrArg₂ (· * ·) (blk2 m c t r l) (congrArg rs (funext fun k => blk2 m c t r k)))

/-- The first result after the run. -/
theorem arr4 : (dats (F := Ideal) m 0 c).arrAt 4 cfg0.N = arrDx (aH m c) (aD m c) (aX m c) (aW m c) := by
  refine (dats (F := Ideal) m 0 c).arrAt_eq_of_covers 4 _ (by decide +kernel) fun t hf y => ?_
  blk_simp
  rw [after0_4]
  obtain ⟨r, l, rfl⟩ : ∃ (r : Fin 512) (l : Fin 1024), y = ix2 r l := ⟨y 0, y 1, eq_ix2 y⟩
  have e : ((View.whole main_v0_0).slice (win0_4.rect t)).emb (ix2 r l) = ix2 (pt t r) l := by
    unfold pt
    blk_ext [idx t]
  rw [e]
  have ht := lt_of_lt_of_eq t.isLt (show cfg0.N = 16 from N_0)
  by_cases h : t.val % 16 = 0
  · rw [outsAt0_A m c t h (by omega)]
    frame_out
    exact pay6_at m c t r l
  · rw [outsAt0_B m c t h (by omega)]
    frame_out
    exact pay6_at m c t r l

/-- The points' terms add up to the sum over the rows. -/
theorem sum5 (h : ∀ s : Fin 16, 16 * (t.val / 16) + s.val < cfg0.N) (l : Fin 1024) :
    (0 : EReal) + ∑ s : Fin 16, term5 m c ⟨16 * (t.val / 16) + s.val, h s⟩ (ix2 0 l) = arrDg (aD m c) (aX m c) (ix2 0 l) := by
  have ht := lt_of_lt_of_eq t.isLt (show cfg0.N = 16 from N_0)
  rw [zero_add]
  unfold arrDg
  refine Eq.trans ?_ (Fin.sum_mul_add_fin 16 512 (fun a : Fin (16 * 512) => aD m c (ix2 a l) * (aX m c (ix2 a l) * rs (row (aX m c) a))))
  refine Finset.sum_congr rfl fun s _ => Finset.sum_congr rfl fun r _ => ?_
  have e : pt ⟨16 * (t.val / 16) + s.val, h s⟩ r = ⟨s.val * 512 + r.val, by omega⟩ := Fin.ext (by show (16 * (t.val / 16) + s.val) * 512 + r.val = s.val * 512 + r.val; omega)
  rw [e]
  rfl

/-- The second result after the run. -/
theorem arr5 : (dats (F := Ideal) m 0 c).arrAt 5 cfg0.N = arrDg (aD m c) (aX m c) := by
  refine (dats (F := Ideal) m 0 c).arrAt_eq_of_covers 5 _ (by decide +kernel) fun t hf y => ?_
  blk_simp
  have hN : cfg0.N = 16 := N_0
  rw [after0_5, Pipeline.eq_sum_fin_of_reset_step_apply_of_flush (fun n h => (outsAt0 m c n h).2) 16 (fun _ => 0)
    (term5 m c)
    (fun t h j => by
      obtain ⟨z, l, rfl⟩ : ∃ (z : Fin 1) (l : Fin 1024), j = ix2 z l := ⟨j 0, j 1, eq_ix2 j⟩
      obtain rfl : z = 0 := Subsingleton.elim _ _
      have ht := lt_of_lt_of_eq t.isLt hN
      rw [outsAt0_A m c t h (by omega)]; frame_out
      exact (pay5_at m c t l).trans (zero_add _).symm)
    (fun t h j => by
      obtain ⟨z, l, rfl⟩ : ∃ (z : Fin 1) (l : Fin 1024), j = ix2 z l := ⟨j 0, j 1, eq_ix2 j⟩
      obtain rfl : z = 0 := Subsingleton.elim _ _
      rw [outsAt0_B m c t h (by omega)]; frame_out
      pointwise [k0_pay1]
      exact congrArg _ (pay5_at m c t l)) t ((flush0_5 t).mp hf) _]
  obtain ⟨z, l, rfl⟩ : ∃ (z : Fin 1) (l : Fin 1024), y = ix2 z l := ⟨y 0, y 1, eq_ix2 y⟩
  obtain rfl : z = 0 := Subsingleton.elim _ _
  refine (sum5 m c t _ l).trans (congrArg _ ?_)
  blk_ext [idx t]

/-- The reference's arrays are the same. -/
theorem ref0 (H D X : S8192x1024.Idx → EReal) (g : S1x1024.Idx → EReal) :
    Cert.InBwdReferenceIdeal.Read.val_main_v38 (F := Ideal) H D X g = arrDx H D X g := by
  funext i
  obtain ⟨a, b, rfl⟩ : ∃ (a : Fin 8192) (b : Fin 1024), i = ix2 a b := ⟨i 0, i 1, eq_ix2 i⟩
  refine Eq.trans ?_ (dx_eq (row X a) (dRow D g a) b (H (ix2 a b))).symm
  unfold coef rs ms row dRow
  rw [← ofBits_N, ← ofBits_E, ← ofBits_M]
  pointwise [Cert.InBwdReferenceIdeal.Read.val_main_v0, Cert.InBwdReferenceIdeal.Read.val_main_v1, Cert.InBwdReferenceIdeal.Read.val_main_cst, Cert.InBwdReferenceIdeal.Read.val_main_v2, Cert.InBwdReferenceIdeal.Read.val_main_v3, Cert.InBwdReferenceIdeal.Read.val_main_cst_0, Cert.InBwdReferenceIdeal.Read.val_main_v4, Cert.InBwdReferenceIdeal.Read.val_main_v5, Cert.InBwdReferenceIdeal.Read.val_main_cst_1, Cert.InBwdReferenceIdeal.Read.val_main_v6, Cert.InBwdReferenceIdeal.Read.val_main_v7, Cert.InBwdReferenceIdeal.Read.val_main_v8, Cert.InBwdReferenceIdeal.Read.val_main_v9, Cert.InBwdReferenceIdeal.Read.val_main_cst_2, Cert.InBwdReferenceIdeal.Read.val_main_v10, Cert.InBwdReferenceIdeal.Read.val_main_v11, Cert.InBwdReferenceIdeal.Read.val_main_v12, Cert.InBwdReferenceIdeal.Read.val_main_v13, Cert.InBwdReferenceIdeal.Read.val_main_v14, Cert.InBwdReferenceIdeal.Read.val_main_v15, Cert.InBwdReferenceIdeal.Read.val_main_v16, Cert.InBwdReferenceIdeal.Read.val_main_v17, Cert.InBwdReferenceIdeal.Read.val_main_v18, Cert.InBwdReferenceIdeal.Read.val_main_cst_3, Cert.InBwdReferenceIdeal.Read.val_main_v19, Cert.InBwdReferenceIdeal.Read.val_main_v20, Cert.InBwdReferenceIdeal.Read.val_main_v21, Cert.InBwdReferenceIdeal.Read.val_main_v22, Cert.InBwdReferenceIdeal.Read.val_main_cst_4, Cert.InBwdReferenceIdeal.Read.val_main_v23, Cert.InBwdReferenceIdeal.Read.val_main_v24, Cert.InBwdReferenceIdeal.Read.val_main_cst_5, Cert.InBwdReferenceIdeal.Read.val_main_v25, Cert.InBwdReferenceIdeal.Read.val_main_v26, Cert.InBwdReferenceIdeal.Read.val_main_v27, Cert.InBwdReferenceIdeal.Read.val_main_v28, Cert.InBwdReferenceIdeal.Read.val_main_v29, Cert.InBwdReferenceIdeal.Read.val_main_v30, Cert.InBwdReferenceIdeal.Read.val_main_cst_6, Cert.InBwdReferenceIdeal.Read.val_main_v31, Cert.InBwdReferenceIdeal.Read.val_main_v32, Cert.InBwdReferenceIdeal.Read.val_main_cst_7, Cert.InBwdReferenceIdeal.Read.val_main_v33, Cert.InBwdReferenceIdeal.Read.val_main_v34, Cert.InBwdReferenceIdeal.Read.val_main_v35, Cert.InBwdReferenceIdeal.Read.val_main_v36, Cert.InBwdReferenceIdeal.Read.val_main_v37, Cert.InBwdReferenceIdeal.Read.val_main_v38, Cert.InBwdReferenceIdeal.Read.val_main_v39]
  simp only [Finset.univ_unique, Finset.sum_singleton]
  try rfl

theorem ref1 (D X : S8192x1024.Idx → EReal) :
    Cert.InBwdReferenceIdeal.Read.val_main_v39 (F := Ideal) D X = arrDg D X := by
  funext i
  obtain ⟨z, b, rfl⟩ : ∃ (z : Fin 1) (b : Fin 1024), i = ix2 z b := ⟨i 0, i 1, eq_ix2 i⟩
  unfold arrDg rs ms row
  rw [← ofBits_N, ← ofBits_E]
  pointwise [Cert.InBwdReferenceIdeal.Read.val_main_v0, Cert.InBwdReferenceIdeal.Read.val_main_v1, Cert.InBwdReferenceIdeal.Read.val_main_cst, Cert.InBwdReferenceIdeal.Read.val_main_v2, Cert.InBwdReferenceIdeal.Read.val_main_v3, Cert.InBwdReferenceIdeal.Read.val_main_cst_0, Cert.InBwdReferenceIdeal.Read.val_main_v4, Cert.InBwdReferenceIdeal.Read.val_main_v5, Cert.InBwdReferenceIdeal.Read.val_main_cst_1, Cert.InBwdReferenceIdeal.Read.val_main_v6, Cert.InBwdReferenceIdeal.Read.val_main_v7, Cert.InBwdReferenceIdeal.Read.val_main_v8, Cert.InBwdReferenceIdeal.Read.val_main_v9, Cert.InBwdReferenceIdeal.Read.val_main_cst_2, Cert.InBwdReferenceIdeal.Read.val_main_v10, Cert.InBwdReferenceIdeal.Read.val_main_v11, Cert.InBwdReferenceIdeal.Read.val_main_v12, Cert.InBwdReferenceIdeal.Read.val_main_v13, Cert.InBwdReferenceIdeal.Read.val_main_v14, Cert.InBwdReferenceIdeal.Read.val_main_v15, Cert.InBwdReferenceIdeal.Read.val_main_v16, Cert.InBwdReferenceIdeal.Read.val_main_v17, Cert.InBwdReferenceIdeal.Read.val_main_v18, Cert.InBwdReferenceIdeal.Read.val_main_cst_3, Cert.InBwdReferenceIdeal.Read.val_main_v19, Cert.InBwdReferenceIdeal.Read.val_main_v20, Cert.InBwdReferenceIdeal.Read.val_main_v21, Cert.InBwdReferenceIdeal.Read.val_main_v22, Cert.InBwdReferenceIdeal.Read.val_main_cst_4, Cert.InBwdReferenceIdeal.Read.val_main_v23, Cert.InBwdReferenceIdeal.Read.val_main_v24, Cert.InBwdReferenceIdeal.Read.val_main_cst_5, Cert.InBwdReferenceIdeal.Read.val_main_v25, Cert.InBwdReferenceIdeal.Read.val_main_v26, Cert.InBwdReferenceIdeal.Read.val_main_v27, Cert.InBwdReferenceIdeal.Read.val_main_v28, Cert.InBwdReferenceIdeal.Read.val_main_v29, Cert.InBwdReferenceIdeal.Read.val_main_v30, Cert.InBwdReferenceIdeal.Read.val_main_cst_6, Cert.InBwdReferenceIdeal.Read.val_main_v31, Cert.InBwdReferenceIdeal.Read.val_main_v32, Cert.InBwdReferenceIdeal.Read.val_main_cst_7, Cert.InBwdReferenceIdeal.Read.val_main_v33, Cert.InBwdReferenceIdeal.Read.val_main_v34, Cert.InBwdReferenceIdeal.Read.val_main_v35, Cert.InBwdReferenceIdeal.Read.val_main_v36, Cert.InBwdReferenceIdeal.Read.val_main_v37, Cert.InBwdReferenceIdeal.Read.val_main_v38, Cert.InBwdReferenceIdeal.Read.val_main_v39]
  simp only [Finset.univ_unique, Finset.sum_singleton]
  exact Finset.sum_congr rfl fun a _ => mul_comm _ _

end

/-- The kernel runs, leaves its arguments as they were and its counters at zero. -/
theorem frame_K : Cert.quiescent_InBwdKernel (hInBwdKernel := Cert.InBwdKernel.Gen.facts) := fun m ρ _ => Cert.InBwdKernel.Gen.frame m ρ

/-- So does its idealized form. -/
theorem frame_KI : Cert.quiescent_InBwdKernelIdeal (hInBwdKernelIdeal := Cert.InBwdKernelIdeal.Gen.facts) := fun m ρ _ => Cert.InBwdKernelIdeal.Gen.frame m ρ

/-- So does the reference. -/
theorem frame_RI : Cert.quiescent_InBwdReferenceIdeal (hInBwdReferenceIdeal := Cert.InBwdReferenceIdeal.Gen.facts) := fun m ρ _ =>
  (θ_run _ _ _).mono (fun r h => ⟨fun c => ((h c).2.2), sem_eq_zero_of_no_sems (by decide) r.2⟩) (Cert.InBwdReferenceIdeal.Value.run m ρ)

/-- The idealization rewrites nothing. -/
theorem preserves : Cert.preserves_InBwdKernel_InBwdKernelIdeal := trivial

/-- The kernel and the reference leave the same arrays. -/
theorem algebraic : Cert.algebraic_InBwdKernelIdeal_InBwdReferenceIdeal (hInBwdKernelIdeal := Cert.InBwdKernelIdeal.Gen.facts)
    (hInBwdReferenceIdeal := Cert.InBwdReferenceIdeal.Gen.facts) := by
  intro m g m' g' hpre hag
  refine ⟨fun c => arrDx (aH m c) (aD m c) (aX m c) (aW m c), fun c => arrDg (aD m c) (aX m c), ?_, ?_⟩
  · refine (θ_run _ _ _).mono (fun r h c => ?_) (Cert.InBwdKernelIdeal.Value.run_blocks m g)
    obtain ⟨h0, h1, hk⟩ := h c
    exact ⟨h0.trans (arr4 m c), h1.trans (arr5 m c), hk⟩
  · refine (θ_run _ _ _).mono (fun r h c => ?_) (Cert.InBwdReferenceIdeal.Value.run m' g')
    obtain ⟨e0, e1, e2, e3⟩ := hag c
    obtain ⟨h0, h1, hk⟩ := h c
    refine ⟨h0.trans ?_, h1.trans ?_, hk⟩
    · refine (Cert.InBwdReferenceIdeal.Read.val_main_v38_eq (F := Ideal) _ _).trans ?_
      simp only [e0, e1, e2, e3]
      exact ref0 _ _ _ _
    · refine (Cert.InBwdReferenceIdeal.Read.val_main_v39_eq (F := Ideal) _ _).trans ?_
      rw [e1, e2]
      exact ref1 _ _

end Cert.InBwd

end
-- ==== Proof.Merge.lean ====
/- The merge of the two branches by their gates. -/
module

public import proofs.«01_k».proof.Proof.Gen.MergeKernel.Frame
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Merge

open Idealize.ShloMosaic Idealize.ShloMosaic.TcCoe Idealize.SL.Sem
open Cert.MergeKernelIdeal Cert.MergeKernelIdeal.Gen

/-- The kernel's logistic function of one gate is the reference's of an equal one. -/
theorem sig_eq (x y : EReal) (h : x = y) : Ideal.div 1 (1 + Ideal.exp (-x)) = Ideal.div 1 (1 + Ideal.exp (0 - y)) := by
  rw [h, sub_eq_add_neg, zero_add]

/-- The reference's array is the one the kernel leaves. -/
theorem ref (g : S8192x2048.Idx → EReal) (pr pa : S8192x1024.Idx → EReal) :
    Cert.MergeReferenceIdeal.Read.val_main_v20 (F := Ideal) g pr pa = Value.G4 (F := Ideal) g pr g pa := by
  funext i
  obtain ⟨a, b, rfl⟩ : ∃ (a : Fin 8192) (b : Fin 1024), i = ix2 a b := ⟨i 0, i 1, eq_ix2 i⟩
  pointwise [Cert.MergeReferenceIdeal.Read.val_main_v0, Cert.MergeReferenceIdeal.Read.val_main_v1, Cert.MergeReferenceIdeal.Read.val_main_v2, Cert.MergeReferenceIdeal.Read.val_main_v3, Cert.MergeReferenceIdeal.Read.val_main_v4, Cert.MergeReferenceIdeal.Read.val_main_v5, Cert.MergeReferenceIdeal.Read.val_main_v6, Cert.MergeReferenceIdeal.Read.val_main_cst, Cert.MergeReferenceIdeal.Read.val_main_v7, Cert.MergeReferenceIdeal.Read.val_main_v8, Cert.MergeReferenceIdeal.Read.val_main_cst_0, Cert.MergeReferenceIdeal.Read.val_main_v9, Cert.MergeReferenceIdeal.Read.val_main_v10, Cert.MergeReferenceIdeal.Read.val_main_v11, Cert.MergeReferenceIdeal.Read.val_main_v12, Cert.MergeReferenceIdeal.Read.val_main_v13, Cert.MergeReferenceIdeal.Read.val_main_cst_1, Cert.MergeReferenceIdeal.Read.val_main_v14, Cert.MergeReferenceIdeal.Read.val_main_v15, Cert.MergeReferenceIdeal.Read.val_main_cst_2, Cert.MergeReferenceIdeal.Read.val_main_v16, Cert.MergeReferenceIdeal.Read.val_main_v17, Cert.MergeReferenceIdeal.Read.val_main_v18, Cert.MergeReferenceIdeal.Read.val_main_v19, Cert.MergeReferenceIdeal.Read.val_main_v20, Value.G4]
  refine congrArg₂ (· + ·) (congrArg₂ (· * ·) (sig_eq _ _ (congrArg g ?_)) rfl) (congrArg₂ (· * ·) (sig_eq _ _ (congrArg g ?_)) rfl)
  · funext k; match k with | ⟨0, _⟩ => rfl | ⟨1, _⟩ => rfl
  · funext k; match k with | ⟨0, _⟩ => rfl | ⟨1, _⟩ => exact Fin.ext (Nat.add_comm _ _)

/-- The kernel runs, leaves its arguments as they were and its counters at zero. -/
theorem frame_K : Cert.quiescent_MergeKernel (hMergeKernel := Cert.MergeKernel.Gen.facts) := fun m ρ _ => Cert.MergeKernel.Gen.frame m ρ

/-- So does its idealized form. -/
theorem frame_KI : Cert.quiescent_MergeKernelIdeal (hMergeKernelIdeal := Cert.MergeKernelIdeal.Gen.facts) := fun m ρ _ => Cert.MergeKernelIdeal.Gen.frame m ρ

/-- So does the reference. -/
theorem frame_RI : Cert.quiescent_MergeReferenceIdeal (hMergeReferenceIdeal := Cert.MergeReferenceIdeal.Gen.facts) := fun m ρ _ =>
  (θ_run _ _ _).mono (fun r h => ⟨fun c => ((h c).2), sem_eq_zero_of_no_sems (by decide) r.2⟩) (Cert.MergeReferenceIdeal.Value.run m ρ)

/-- The idealization rewrites nothing. -/
theorem preserves : Cert.preserves_MergeKernel_MergeKernelIdeal := trivial

/-- The kernel and the reference leave the same arrays. -/
theorem algebraic : Cert.algebraic_MergeKernelIdeal_MergeReferenceIdeal (hMergeKernelIdeal := Cert.MergeKernelIdeal.Gen.facts)
    (hMergeReferenceIdeal := Cert.MergeReferenceIdeal.Gen.facts) := by
  intro m g m' g' hpre hag
  refine ⟨fun c => Value.G4 (F := Ideal) (m ((c : Thread nD τ).loc main_arg0)) (m ((c : Thread nD τ).loc main_arg1)) (m ((c : Thread nD τ).loc main_arg0)) (m ((c : Thread nD τ).loc main_arg2)), ?_, ?_⟩
  · refine (θ_run _ _ _).mono (fun r h c => ?_) (Cert.MergeKernelIdeal.Value.run m g)
    obtain ⟨h0, hk⟩ := h c
    exact ⟨h0.trans (rfl), hk⟩
  · refine (θ_run _ _ _).mono (fun r h c => ?_) (Cert.MergeReferenceIdeal.Value.run m' g')
    obtain ⟨e0, e1, e2⟩ := hag c
    obtain ⟨h0, hk⟩ := h c
    refine ⟨h0.trans ?_, hk⟩
    · refine (Cert.MergeReferenceIdeal.Read.val_main_v20_eq (F := Ideal) _ _ _).trans ?_
      rw [e0, e1, e2]
      exact ref _ _ _

end Cert.Merge

end
-- ==== Proof.MergeBwd.lean ====
/- The gradient of the merge of the two branches. -/
module

public import proofs.«01_k».proof.Proof.Gen.MergeBwdKernel.Frame
public import proofs.«01_k».proof.Proof.Gen.MergeBwdKernelIdeal.Value
public import proofs.«01_k».proof.Proof.Gen.MergeBwdReferenceIdeal.Run
public import proofs.«01_k».proof.Proof.Gen.MergeBwdReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MergeBwd

open Idealize.ShloMosaic Idealize.ShloMosaic.TcCoe Idealize.SL.Sem
open Cert.MergeBwdKernelIdeal Cert.MergeBwdKernelIdeal.Gen

/-- The logistic function. -/
def lgs (x : EReal) : EReal := Ideal.div 1 (1 + Ideal.exp (-x))

theorem sig_eq (x y : EReal) (h : y = x) : Ideal.div 1 (1 + Ideal.exp (0 - y)) = lgs x := by
  unfold lgs
  rw [h, sub_eq_add_neg, zero_add]

/-- A column of the two branches side by side, in its branch. -/
def half (i : S8192x2048.Idx) : S8192x1024.Idx := ix2 (i 0) ⟨(i 1).val % 1024, by omega⟩

/-- The branches' gradients side by side: the merged gradient scaled by the branch's gate. -/
def dP (g : S8192x2048.Idx → EReal) (dm : S8192x1024.Idx → EReal) : S8192x2048.Idx → EReal := fun i => dm (half i) * lgs (g i)

/-- The gates' gradients side by side. -/
def dG (g : S8192x2048.Idx → EReal) (pr pa dm : S8192x1024.Idx → EReal) : S8192x2048.Idx → EReal := fun i =>
  dm (half i) * (if (i 1).val < 1024 then pr (half i) else pa (half i)) * (lgs (g i) * (1 - lgs (g i)))

section

variable (m : (ℓ : Loc nD τ sig) → Buf (Elt Ideal) ℓ)

/-- The windows' block indices at a grid point. -/
theorem idx : ∀ t : Fin cfg0.N, win0_0.index t = ![t.val / 4, t.val % 4] ∧ win0_3.index t = ![t.val / 4, t.val % 2] ∧
    win0_4.index t = ![t.val / 4, t.val % 4] ∧ win0_5.index t = ![t.val / 4, t.val % 4] ∧
    (t.val % 4 < 2 → win0_1.index t = ![t.val / 4, t.val % 4]) ∧ (2 ≤ t.val % 4 → win0_2.index t = ![t.val / 4, t.val % 4 - 2]) ∧
    (grid0.coords t 1).val = t.val % 4 :=
  (by decide +kernel : ∀ t : Fin grid0.N, _)

variable (c : Dev nD) (t : Fin cfg0.N)

/-- The four arguments of the launch. -/
abbrev aG : S8192x2048.Idx → EReal := m ((c : Thread nD τ).loc main_arg0)
abbrev aR : S8192x1024.Idx → EReal := m ((c : Thread nD τ).loc main_arg1)
abbrev aA : S8192x1024.Idx → EReal := m ((c : Thread nD τ).loc main_arg2)
abbrev aM : S8192x1024.Idx → EReal := m ((c : Thread nD τ).loc main_arg3)

/-- The place in the arrays that a point's place is. -/
def pt (j : S1024x512.Idx) : S8192x2048.Idx :=
  ix2 ⟨(t.val / 4) * 1024 + (j 0).val, by have := lt_of_lt_of_eq t.isLt (show cfg0.N = 32 from N_0); have : (j 0).val < 1024 := (j 0).isLt; omega⟩
    ⟨(t.val % 4) * 512 + (j 1).val, by have : (j 1).val < 512 := (j 1).isLt; omega⟩

/-- The blocks a point reads, in the arguments. -/
theorem blk0 (j : S1024x512.Idx) : iblk (F := Ideal) m c 0 t j = aG m c (pt t j) := by
  unfold pt
  blk_ext [iblk, V, idx t]

theorem blk3 (j : S1024x512.Idx) : iblk (F := Ideal) m c 3 t j = aM m c (half (pt t j)) := by
  unfold pt half
  blk_ext [iblk, V, idx t]

theorem blk1 (j : S1024x512.Idx) (h : t.val % 4 < 2) : iblk (F := Ideal) m c 1 t j = aR m c (half (pt t j)) := by
  unfold pt half
  blk_ext [iblk, V, (idx t).2.2.2.2.1 h]

theorem blk2 (j : S1024x512.Idx) (h : 2 ≤ t.val % 4) : iblk (F := Ideal) m c 2 t j = aA m c (half (pt t j)) := by
  unfold pt half
  blk_ext [iblk, V, (idx t).2.2.2.2.2.1 h]

/-- A point's block of the branches' gradients. -/
theorem pay3_at (j : S1024x512.Idx) : k0_pay3 (F := Ideal) (iblk m c 3 t) (iblk m c 0 t) j = dP (aG m c) (aM m c) (pt t j) := by
  unfold dP
  pointwise [k0_pay3, k0_pay1, k0_pay2]
  exact congrArg₂ (· * ·) (blk3 m c t j) (sig_eq _ _ (blk0 m c t j))

/-- A point's block of the gates' gradients. -/
theorem pay4_at (j : S1024x512.Idx) : k0_pay4 (F := Ideal) (grid0.coords t) (iblk m c 3 t) (iblk m c 0 t) (iblk m c 1 t) (iblk m c 2 t) j =
    dG (aG m c) (aR m c) (aA m c) (aM m c) (pt t j) := by
  have hs := sig_eq _ _ (blk0 m c t j)
  have e1 : (grid0.coords t 1).val = t.val % 4 := (idx t).2.2.2.2.2.2
  have hj : (j 1).val < 512 := (j 1).isLt
  unfold dG
  rcases lt_or_ge (t.val % 4) 2 with h | h
  · have hc : ((pt t j) 1).val < 1024 := by show (t.val % 4) * 512 + (j 1).val < 1024; omega
    rw [if_pos hc, ← mul_assoc]
    have hsel : Scalar.cmpi .slt (BitVec.ofNat 32 (grid0.coords t 1).val) 2#32 = 1#1 := by
      rw [e1]; have h4 : t.val % 4 = 0 ∨ t.val % 4 = 1 := by omega
      rcases h4 with h4 | h4 <;> rw [h4] <;> rfl
    unfold k0_pay4
    rw [hsel]
    pointwise [k0_pay1, k0_pay2]
    exact congrArg₂ (· * ·) (congrArg₂ (· * ·) (congrArg₂ (· * ·) (blk3 m c t j) (blk1 m c t j h)) hs) (congrArg (1 - ·) hs)
  · have hc : ¬ ((pt t j) 1).val < 1024 := by show ¬ (t.val % 4) * 512 + (j 1).val < 1024; omega
    rw [if_neg hc, ← mul_assoc]
    have hsel : Scalar.cmpi .slt (BitVec.ofNat 32 (grid0.coords t 1).val) 2#32 = 0#1 := by
      rw [e1]; have h4 : t.val % 4 = 2 ∨ t.val % 4 = 3 := by omega
      rcases h4 with h4 | h4 <;> rw [h4] <;> rfl
    unfold k0_pay4
    rw [hsel]
    pointwise [k0_pay1, k0_pay2]
    exact congrArg₂ (· * ·) (congrArg₂ (· * ·) (congrArg₂ (· * ·) (blk3 m c t j) (blk2 m c t j h)) hs) (congrArg (1 - ·) hs)

/-- The two results after the run. -/
theorem arr4 : (dats (F := Ideal) m 0 c).arrAt 4 cfg0.N = dP (aG m c) (aM m c) := by
  refine (dats (F := Ideal) m 0 c).arrAt_eq_of_covers 4 _ (by decide +kernel) fun t hf y => ?_
  blk_simp
  rw [after0_4]
  unfold out0_4
  frame_out
  refine (pay3_at m c t y).trans (congrArg _ ?_)
  unfold pt
  blk_ext [idx t]

theorem arr5 : (dats (F := Ideal) m 0 c).arrAt 5 cfg0.N = dG (aG m c) (aR m c) (aA m c) (aM m c) := by
  refine (dats (F := Ideal) m 0 c).arrAt_eq_of_covers 5 _ (by decide +kernel) fun t hf y => ?_
  blk_simp
  rw [after0_5]
  unfold out0_5
  frame_out
  refine (pay4_at m c t y).trans (congrArg _ ?_)
  unfold pt
  blk_ext [idx t]

/-- The reference's arrays are the same. -/
theorem ref0 (g : S8192x2048.Idx → EReal) (dm : S8192x1024.Idx → EReal) :
    Cert.MergeBwdReferenceIdeal.Read.val_main_v34 (F := Ideal) g dm = dP g dm := by
  funext i
  obtain ⟨a, b, rfl⟩ : ∃ (a : Fin 8192) (b : Fin 2048), i = ix2 a b := ⟨i 0, i 1, eq_ix2 i⟩
  unfold dP half lgs
  pointwise [Cert.MergeBwdReferenceIdeal.Read.val_main_v0, Cert.MergeBwdReferenceIdeal.Read.val_main_v1, Cert.MergeBwdReferenceIdeal.Read.val_main_v2, Cert.MergeBwdReferenceIdeal.Read.val_main_v3, Cert.MergeBwdReferenceIdeal.Read.val_main_v4, Cert.MergeBwdReferenceIdeal.Read.val_main_v5, Cert.MergeBwdReferenceIdeal.Read.val_main_v6, Cert.MergeBwdReferenceIdeal.Read.val_main_v7, Cert.MergeBwdReferenceIdeal.Read.val_main_cst, Cert.MergeBwdReferenceIdeal.Read.val_main_v8, Cert.MergeBwdReferenceIdeal.Read.val_main_v9, Cert.MergeBwdReferenceIdeal.Read.val_main_cst_0, Cert.MergeBwdReferenceIdeal.Read.val_main_v10, Cert.MergeBwdReferenceIdeal.Read.val_main_v11, Cert.MergeBwdReferenceIdeal.Read.val_main_cst_1, Cert.MergeBwdReferenceIdeal.Read.val_main_v12, Cert.MergeBwdReferenceIdeal.Read.val_main_v13, Cert.MergeBwdReferenceIdeal.Read.val_main_v14, Cert.MergeBwdReferenceIdeal.Read.val_main_v15, Cert.MergeBwdReferenceIdeal.Read.val_main_v16, Cert.MergeBwdReferenceIdeal.Read.val_main_v17, Cert.MergeBwdReferenceIdeal.Read.val_main_cst_2, Cert.MergeBwdReferenceIdeal.Read.val_main_v18, Cert.MergeBwdReferenceIdeal.Read.val_main_v19, Cert.MergeBwdReferenceIdeal.Read.val_main_cst_3, Cert.MergeBwdReferenceIdeal.Read.val_main_v20, Cert.MergeBwdReferenceIdeal.Read.val_main_v21, Cert.MergeBwdReferenceIdeal.Read.val_main_cst_4, Cert.MergeBwdReferenceIdeal.Read.val_main_v22, Cert.MergeBwdReferenceIdeal.Read.val_main_v23, Cert.MergeBwdReferenceIdeal.Read.val_main_v24, Cert.MergeBwdReferenceIdeal.Read.val_main_v25, Cert.MergeBwdReferenceIdeal.Read.val_main_v26, Cert.MergeBwdReferenceIdeal.Read.val_main_v27, Cert.MergeBwdReferenceIdeal.Read.val_main_v28, Cert.MergeBwdReferenceIdeal.Read.val_main_v29, Cert.MergeBwdReferenceIdeal.Read.val_main_v30, Cert.MergeBwdReferenceIdeal.Read.val_main_v31, Cert.MergeBwdReferenceIdeal.Read.val_main_v32, Cert.MergeBwdReferenceIdeal.Read.val_main_v33, Cert.MergeBwdReferenceIdeal.Read.val_main_v34, Cert.MergeBwdReferenceIdeal.Read.val_main_v35, Cert.MergeBwdReferenceIdeal.Read.val_main_v36]
  have hb : b.val < 2048 := b.isLt
  split_ifs with h
  · have e : (⟨b.val % 1024, by omega⟩ : Fin 1024) = ⟨b.val, h⟩ := Fin.ext (Nat.mod_eq_of_lt h)
    exact (mul_comm _ _).trans (congrArg (fun k => dm (ix2 a k) * _) e.symm)
  · have e : (⟨b.val % 1024, by omega⟩ : Fin 1024) = ⟨b.val - 1024, by omega⟩ := Fin.ext (by show b.val % 1024 = b.val - 1024; omega)
    have e' : (⟨1024 + (b.val - 1024), by omega⟩ : Fin 2048) = b := Fin.ext (by show 1024 + (b.val - 1024) = b.val; omega)
    exact (mul_comm _ _).trans (congrArg₂ (fun k l => dm (ix2 a k) * Ideal.div 1 (1 + Ideal.exp (-g (ix2 a l)))) e.symm e')
  · exact absurd rfl (by assumption)

theorem ref1 (g : S8192x2048.Idx → EReal) (pr pa dm : S8192x1024.Idx → EReal) :
    Cert.MergeBwdReferenceIdeal.Read.val_main_v36 (F := Ideal) g pr pa dm = dG g pr pa dm := by
  funext i
  obtain ⟨a, b, rfl⟩ : ∃ (a : Fin 8192) (b : Fin 2048), i = ix2 a b := ⟨i 0, i 1, eq_ix2 i⟩
  unfold dG half lgs
  pointwise [Cert.MergeBwdReferenceIdeal.Read.val_main_v0, Cert.MergeBwdReferenceIdeal.Read.val_main_v1, Cert.MergeBwdReferenceIdeal.Read.val_main_v2, Cert.MergeBwdReferenceIdeal.Read.val_main_v3, Cert.MergeBwdReferenceIdeal.Read.val_main_v4, Cert.MergeBwdReferenceIdeal.Read.val_main_v5, Cert.MergeBwdReferenceIdeal.Read.val_main_v6, Cert.MergeBwdReferenceIdeal.Read.val_main_v7, Cert.MergeBwdReferenceIdeal.Read.val_main_cst, Cert.MergeBwdReferenceIdeal.Read.val_main_v8, Cert.MergeBwdReferenceIdeal.Read.val_main_v9, Cert.MergeBwdReferenceIdeal.Read.val_main_cst_0, Cert.MergeBwdReferenceIdeal.Read.val_main_v10, Cert.MergeBwdReferenceIdeal.Read.val_main_v11, Cert.MergeBwdReferenceIdeal.Read.val_main_cst_1, Cert.MergeBwdReferenceIdeal.Read.val_main_v12, Cert.MergeBwdReferenceIdeal.Read.val_main_v13, Cert.MergeBwdReferenceIdeal.Read.val_main_v14, Cert.MergeBwdReferenceIdeal.Read.val_main_v15, Cert.MergeBwdReferenceIdeal.Read.val_main_v16, Cert.MergeBwdReferenceIdeal.Read.val_main_v17, Cert.MergeBwdReferenceIdeal.Read.val_main_cst_2, Cert.MergeBwdReferenceIdeal.Read.val_main_v18, Cert.MergeBwdReferenceIdeal.Read.val_main_v19, Cert.MergeBwdReferenceIdeal.Read.val_main_cst_3, Cert.MergeBwdReferenceIdeal.Read.val_main_v20, Cert.MergeBwdReferenceIdeal.Read.val_main_v21, Cert.MergeBwdReferenceIdeal.Read.val_main_cst_4, Cert.MergeBwdReferenceIdeal.Read.val_main_v22, Cert.MergeBwdReferenceIdeal.Read.val_main_v23, Cert.MergeBwdReferenceIdeal.Read.val_main_v24, Cert.MergeBwdReferenceIdeal.Read.val_main_v25, Cert.MergeBwdReferenceIdeal.Read.val_main_v26, Cert.MergeBwdReferenceIdeal.Read.val_main_v27, Cert.MergeBwdReferenceIdeal.Read.val_main_v28, Cert.MergeBwdReferenceIdeal.Read.val_main_v29, Cert.MergeBwdReferenceIdeal.Read.val_main_v30, Cert.MergeBwdReferenceIdeal.Read.val_main_v31, Cert.MergeBwdReferenceIdeal.Read.val_main_v32, Cert.MergeBwdReferenceIdeal.Read.val_main_v33, Cert.MergeBwdReferenceIdeal.Read.val_main_v34, Cert.MergeBwdReferenceIdeal.Read.val_main_v35, Cert.MergeBwdReferenceIdeal.Read.val_main_v36]
  have hb : b.val < 2048 := b.isLt
  split_ifs with h
  · have e : (⟨b.val % 1024, by omega⟩ : Fin 1024) = ⟨b.val, h⟩ := Fin.ext (Nat.mod_eq_of_lt h)
    exact congrArg (fun k => dm (ix2 a k) * pr (ix2 a k) * _) e.symm
  · have e : (⟨b.val % 1024, by omega⟩ : Fin 1024) = ⟨b.val - 1024, by omega⟩ := Fin.ext (by show b.val % 1024 = b.val - 1024; omega)
    have e' : (⟨1024 + (b.val - 1024), by omega⟩ : Fin 2048) = b := Fin.ext (by show 1024 + (b.val - 1024) = b.val; omega)
    exact congrArg₂ (fun k l => dm (ix2 a k) * pa (ix2 a k) * (Ideal.div 1 (1 + Ideal.exp (-g (ix2 a l))) * (1 - Ideal.div 1 (1 + Ideal.exp (-g (ix2 a l)))))) e.symm e'
  · exact absurd rfl (by assumption)

end

/-- The kernel runs, leaves its arguments as they were and its counters at zero. -/
theorem frame_K : Cert.quiescent_MergeBwdKernel (hMergeBwdKernel := Cert.MergeBwdKernel.Gen.facts) := fun m ρ _ => Cert.MergeBwdKernel.Gen.frame m ρ

/-- So does its idealized form. -/
theorem frame_KI : Cert.quiescent_MergeBwdKernelIdeal (hMergeBwdKernelIdeal := Cert.MergeBwdKernelIdeal.Gen.facts) := fun m ρ _ => Cert.MergeBwdKernelIdeal.Gen.frame m ρ

/-- So does the reference. -/
theorem frame_RI : Cert.quiescent_MergeBwdReferenceIdeal (hMergeBwdReferenceIdeal := Cert.MergeBwdReferenceIdeal.Gen.facts) := fun m ρ _ =>
  (θ_run _ _ _).mono (fun r h => ⟨fun c => ((h c).2.2), sem_eq_zero_of_no_sems (by decide) r.2⟩) (Cert.MergeBwdReferenceIdeal.Value.run m ρ)

/-- The idealization rewrites nothing. -/
theorem preserves : Cert.preserves_MergeBwdKernel_MergeBwdKernelIdeal := trivial

/-- The kernel and the reference leave the same arrays. -/
theorem algebraic : Cert.algebraic_MergeBwdKernelIdeal_MergeBwdReferenceIdeal (hMergeBwdKernelIdeal := Cert.MergeBwdKernelIdeal.Gen.facts)
    (hMergeBwdReferenceIdeal := Cert.MergeBwdReferenceIdeal.Gen.facts) := by
  intro m g m' g' hpre hag
  refine ⟨fun c => dP (aG m c) (aM m c), fun c => dG (aG m c) (aR m c) (aA m c) (aM m c), ?_, ?_⟩
  · refine (θ_run _ _ _).mono (fun r h c => ?_) (Cert.MergeBwdKernelIdeal.Value.run_blocks m g)
    obtain ⟨h0, h1, hk⟩ := h c
    exact ⟨h0.trans (arr4 m c), h1.trans (arr5 m c), hk⟩
  · refine (θ_run _ _ _).mono (fun r h c => ?_) (Cert.MergeBwdReferenceIdeal.Value.run m' g')
    obtain ⟨e0, e1, e2, e3⟩ := hag c
    obtain ⟨h0, h1, hk⟩ := h c
    refine ⟨h0.trans ?_, h1.trans ?_, hk⟩
    · refine (Cert.MergeBwdReferenceIdeal.Read.val_main_v34_eq (F := Ideal) _ _).trans ?_
      rw [e0, e3]
      exact ref0 _ _
    · refine (Cert.MergeBwdReferenceIdeal.Read.val_main_v36_eq (F := Ideal) _ _ _ _).trans ?_
      rw [e0, e1, e2, e3]
      exact ref1 _ _ _ _

end Cert.MergeBwd

end
-- ==== Proof.MidBwd.lean ====
/- The gradient of the two norms between the mixing block and the feed-forward block. -/
module

public import proofs.«01_k».proof.Proof.Gen.MidBwdKernel.Frame
public import proofs.«01_k».proof.Proof.Gen.MidBwdKernelIdeal.Value
public import proofs.«01_k».proof.Proof.Gen.MidBwdReferenceIdeal.Run
public import proofs.«01_k».proof.Proof.Gen.MidBwdReferenceIdeal.Read
public import proofs.«01_k».proof.Defs
public import Idealize.ShloMosaic.Lib.Pipeline.ValueKit
public import Idealize.ShloMosaic.Lib.Pointwise
public import Idealize.ShloMosaic.Lib.Claim
public import proofs.«01_k».proof.Proof.Norm

@[expose] public section

set_option maxRecDepth 16384

noncomputable section

namespace Cert.MidBwd

open Idealize.ShloMosaic Idealize.ShloMosaic.TcCoe Idealize.SL.Sem
open Cert.MidBwdKernelIdeal Cert.MidBwdKernelIdeal.Gen

open Cert.Norm

/-- A row of an array. -/
def row (X : S8192x1024.Idx → EReal) (a : Fin 8192) : Fin 1024 → EReal := fun k => X (ix2 a k)

/-- A row of the gradient, times the gain. -/
def dRow (D : S8192x1024.Idx → EReal) (g : S1x1024.Idx → EReal) (a : Fin 8192) : Fin 1024 → EReal := fun k => D (ix2 a k) * g (ix2 0 k)

/-- The residual after the mixing block: the input and the normed output of the block. -/
def arrH (X M : S8192x1024.Idx → EReal) (p : S1x1024.Idx → EReal) : S8192x1024.Idx → EReal := fun i =>
  X i + M i * rs (row M (i 0)) * p (ix2 0 (i 1))

/-- The residual's gradient: what it had and the norm's. -/
def arrDx (Y D H : S8192x1024.Idx → EReal) (g : S1x1024.Idx → EReal) : S8192x1024.Idx → EReal := fun i =>
  Y i + dxK (row H (i 0)) (dRow D g (i 0)) (i 1)

/-- The gradient of a normed array. -/
def arrDm (D M : S8192x1024.Idx → EReal) (p : S1x1024.Idx → EReal) : S8192x1024.Idx → EReal := fun i =>
  dxK (row M (i 0)) (dRow D p (i 0)) (i 1)

/-- The gradient of a gain, summed over the rows. -/
def arrDg (D X : S8192x1024.Idx → EReal) : S1x1024.Idx → EReal := fun i =>
  ∑ a : Fin 8192, D (ix2 a (i 1)) * (X (ix2 a (i 1)) * rs (row X a))

section

variable (m : (ℓ : Loc nD τ sig) → Buf (Elt Ideal) ℓ)

/-- The windows' block indices at a grid point. -/
theorem idx : ∀ t : Fin cfg0.N, win0_0.index t = ![t.val, 0] ∧ win0_1.index t = ![t.val, 0] ∧
    win0_2.index t = ![t.val, 0] ∧ win0_3.index t = ![0, 0] ∧ win0_4.index t = ![t.val, 0] ∧ win0_5.index t = ![0, 0] ∧
    win0_6.index t = ![t.val, 0] ∧ win0_7.index t = ![t.val, 0] ∧ win0_8.index t = ![0, 0] ∧ win0_9.index t = ![0, 0] :=
  (by decide +kernel : ∀ t : Fin grid0.N, _)

variable (c : Dev nD) (t : Fin cfg0.N)

/-- The six arguments of the launch. -/
abbrev aY : S8192x1024.Idx → EReal := m ((c : Thread nD τ).loc main_arg0)
abbrev aD : S8192x1024.Idx → EReal := m ((c : Thread nD τ).loc main_arg1)
abbrev aX : S8192x1024.Idx → EReal := m ((c : Thread nD τ).loc main_arg2)
abbrev aF : S1x1024.Idx → EReal := m ((c : Thread nD τ).loc main_arg3)
abbrev aM : S8192x1024.Idx → EReal := m ((c : Thread nD τ).loc main_arg4)
abbrev aP : S1x1024.Idx → EReal := m ((c : Thread nD τ).loc main_arg5)

/-- The saved residual, and the gradient that reaches it. -/
abbrev sH : S8192x1024.Idx → EReal := arrH (aX m c) (aM m c) (aP m c)
abbrev sD : S8192x1024.Idx → EReal := arrDx (aY m c) (aD m c) (sH m c) (aF m c)

/-- The host's lines before the launch compute the saved residual. -/
theorem saved : V (F := Ideal) m c main_v14 = arrH (aX m c) (aM m c) (aP m c) := by
  unfold V
  after_results_simp
  funext i
  obtain ⟨a, b, rfl⟩ : ∃ (a : Fin 8192) (b : Fin 1024), i = ix2 a b := ⟨i 0, i 1, eq_ix2 i⟩
  unfold arrH rs ms row
  rw [← ofBits_N, ← ofBits_E]
  pointwise []
  try rfl

/-- The row in the arrays of a point's row. -/
def pt (r : Fin 512) : Fin 8192 := ⟨t.val * 512 + r.val, by have := lt_of_lt_of_eq t.isLt (show cfg0.N = 16 from N_0); omega⟩

/-- The blocks a point reads, in the arguments. -/
theorem blk0 (r : Fin 512) (l : Fin 1024) : iblk (F := Ideal) m c 0 t (ix2 r l) = aY m c (ix2 (pt t r) l) := by
  unfold aY pt
  rw [← V_main_arg0 m c]
  blk_ext [iblk, idx t]

theorem blk1 (r : Fin 512) (l : Fin 1024) : iblk (F := Ideal) m c 1 t (ix2 r l) = aD m c (ix2 (pt t r) l) := by
  unfold aD pt
  rw [← V_main_arg1 m c]
  blk_ext [iblk, idx t]

theorem blk2 (r : Fin 512) (l : Fin 1024) : iblk (F := Ideal) m c 2 t (ix2 r l) = sH m c (ix2 (pt t r) l) := by
  unfold sH pt
  rw [← saved m c]
  blk_ext [iblk, idx t]

theorem blk3 (l : Fin 1024) : iblk (F := Ideal) m c 3 t (ix2 0 l) = aF m c (ix2 0 l) := by
  unfold aF
  rw [← V_main_arg3 m c]
  blk_ext [iblk, idx t]

theorem blk4 (r : Fin 512) (l : Fin 1024) : iblk (F := Ideal) m c 4 t (ix2 r l) = aM m c (ix2 (pt t r) l) := by
  unfold aM pt
  rw [← V_main_arg4 m c]
  blk_ext [iblk, idx t]

theorem blk5 (l : Fin 1024) : iblk (F := Ideal) m c 5 t (ix2 0 l) = aP m c (ix2 0 l) := by
  unfold aP
  rw [← V_main_arg5 m c]
  blk_ext [iblk, idx t]

/-- The payloads at a place, in rows. -/
theorem p12 (x : Vec Ideal S512x1024 .f32) (g : Vec Ideal S1x1024 .f32) (d : Vec Ideal S512x1024 .bf16) (h : Vec Ideal S512x1024 .f32) (r : Fin 512) (l : Fin 1024) :
    k0_pay12 (F := Ideal) x g d h (ix2 r l) = h (ix2 r l) + dxK (fun k : Fin 1024 => x (ix2 r k)) (fun k : Fin 1024 => d (ix2 r k) * g (ix2 0 k)) l := by
  unfold dxK rs ms
  rw [← ofBits_N, ← ofBits_E]
  pointwise [k0_pay7, k0_pay8, k0_pay9, k0_pay10, k0_pay12]

theorem p11 (x : Vec Ideal S512x1024 .f32) (d : Vec Ideal S512x1024 .bf16) (l : Fin 1024) :
    k0_pay11 (F := Ideal) x d (ix2 0 l) = ∑ r : Fin 512, d (ix2 r l) * (x (ix2 r l) * rs (fun k : Fin 1024 => x (ix2 r k))) := by
  unfold rs ms
  rw [← ofBits_N, ← ofBits_E]
  pointwise [k0_pay7, k0_pay8, k0_pay9, k0_pay10, k0_pay11]

theorem p4 (d : FVec Ideal S512x1024 .f32) (x : Vec Ideal S512x1024 .f32) (g : Vec Ideal S1x1024 .f32) (r : Fin 512) (l : Fin 1024) :
    k0_pay4 (F := Ideal) d x g (k0_pay13 x) (ix2 r l) = dxK (fun k : Fin 1024 => x (ix2 r k)) (fun k : Fin 1024 => d (ix2 r k) * g (ix2 0 k)) l := by
  unfold dxK rs ms
  rw [← ofBits_N, ← ofBits_E]
  pointwise [k0_pay1, k0_pay2, k0_pay4, k0_pay13]

theorem p3 (d : FVec Ideal S512x1024 .f32) (x : Vec Ideal S512x1024 .f32) (l : Fin 1024) :
    k0_pay3 (F := Ideal) d x (k0_pay13 x) (ix2 0 l) = ∑ r : Fin 512, d (ix2 r l) * (x (ix2 r l) * rs (fun k : Fin 1024 => x (ix2 r k))) := by
  unfold rs ms
  rw [← ofBits_N, ← ofBits_E]
  pointwise [k0_pay1, k0_pay2, k0_pay3, k0_pay13]

/-- The residual's gradient at a point. -/
abbrev b12 : FVec Ideal S512x1024 .f32 := k0_pay12 (F := Ideal) (iblk m c 2 t) (iblk m c 3 t) (iblk m c 1 t) (iblk m c 0 t)

theorem b12_at (r : Fin 512) (l : Fin 1024) : b12 m c t (ix2 r l) = sD m c (ix2 (pt t r) l) := by
  refine (p12 _ _ _ _ r l).trans ?_
  unfold sD arrDx row dRow
  refine congrArg₂ (· + ·) (blk0 m c t r l) ?_
  exact congrArg₂ (fun a b => dxK a b l) (funext fun k => blk2 m c t r k) (funext fun k => congrArg₂ (· * ·) (blk1 m c t r k) (blk3 m c t k))

theorem pay4_at (r : Fin 512) (l : Fin 1024) : k0_pay4 (F := Ideal) (b12 m c t) (iblk m c 4 t) (iblk m c 5 t) (k0_pay13 (iblk m c 4 t)) (ix2 r l) =
    arrDm (sD m c) (aM m c) (aP m c) (ix2 (pt t r) l) := by
  refine (p4 _ _ _ r l).trans ?_
  unfold arrDm row dRow
  exact congrArg₂ (fun a b => dxK a b l) (funext fun k => blk4 m c t r k) (funext fun k => congrArg₂ (· * ·) (b12_at m c t r k) (blk5 m c t k))

/-- What a point adds to a gain's gradient. -/
def term (D X : S8192x1024.Idx → EReal) (t : Fin cfg0.N) (y : S1x1024.Idx) : EReal := ∑ r : Fin 512, D (ix2 (pt t r) (y 1)) * (X (ix2 (pt t r) (y 1)) * rs (row X (pt t r)))

theorem pay11_at (l : Fin 1024) : k0_pay11 (F := Ideal) (iblk m c 2 t) (iblk m c 1 t) (ix2 0 l) = term (aD m c) (sH m c) t (ix2 0 l) := by
  refine (p11 _ _ l).trans (Finset.sum_congr rfl fun r _ => ?_)
  unfold row
  exact congrArg₂ (· * ·) (blk1 m c t r l) (congrArg₂ (· * ·) (blk2 m c t r l) (congrArg rs (funext fun k => blk2 m c t r k)))

theorem pay3_at (l : Fin 1024) : k0_pay3 (F := Ideal) (b12 m c t) (iblk m c 4 t) (k0_pay13 (iblk m c 4 t)) (ix2 0 l) = term (sD m c) (aM m c) t (ix2 0 l) := by
  refine (p3 _ _ l).trans (Finset.sum_congr rfl fun r _ => ?_)
  unfold row
  exact congrArg₂ (· * ·) (b12_at m c t r l) (congrArg₂ (· * ·) (blk4 m c t r l) (congrArg rs (funext fun k => blk4 m c t r k)))

theorem arr6 : (dats (F := Ideal) m 0 c).arrAt 6 cfg0.N = sD m c := by
  refine (dats (F := Ideal) m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  have e : ((View.whole main_v15_0).slice (win0_6.rect t)).emb (ix2 r l) = ix2 (pt t r) l := by
    unfold pt
    blk_ext [idx t]
  rw [e]
  have ht := lt_of_lt_of_eq t.isLt (show cfg0.N = 16 from N_0)
  by_cases h : t.val % 16 = 0
  · rw [outsAt0_A m c t h (by omega) h (by omega)]
    frame_out
    exact b12_at m c t r l
  · rw [outsAt0_B m c t h (by omega) h (by omega)]
    frame_out
    exact b12_at m c t r l

theorem arr7 : (dats (F := Ideal) m 0 c).arrAt 7 cfg0.N = arrDm (sD m c) (aM m c) (aP m c) := by
  refine (dats (F := Ideal) m 0 c).arrAt_eq_of_covers 7 _ (by decide +kernel) fun t hf y => ?_
  blk_simp
  rw [after0_7]
  obtain ⟨r, l, rfl⟩ : ∃ (r : Fin 512) (l : Fin 1024), y = ix2 r l := ⟨y 0, y 1, eq_ix2 y⟩
  have e : ((View.whole main_v15_1).slice (win0_7.rect t)).emb (ix2 r l) = ix2 (pt t r) l := by
    unfold pt
    blk_ext [idx t]
  rw [e]
  have ht := lt_of_lt_of_eq t.isLt (show cfg0.N = 16 from N_0)
  by_cases h : t.val % 16 = 0
  · rw [outsAt0_A m c t h (by omega) h (by omega)]
    frame_out
    exact pay4_at m c t r l
  · rw [outsAt0_B m c t h (by omega) h (by omega)]
    frame_out
    exact pay4_at m c t r l

/-- The points' terms add up to the sum over the rows. -/
theorem sums (D X : S8192x1024.Idx → EReal) (t : Fin cfg0.N) (h : ∀ s : Fin 16, 16 * (t.val / 16) + s.val < cfg0.N) (l : Fin 1024) :
    (0 : EReal) + ∑ s : Fin 16, term D X ⟨16 * (t.val / 16) + s.val, h s⟩ (ix2 0 l) = arrDg D X (ix2 0 l) := by
  have ht := lt_of_lt_of_eq t.isLt (show cfg0.N = 16 from N_0)
  rw [zero_add]
  unfold arrDg
  refine Eq.trans ?_ (Fin.sum_mul_add_fin 16 512 (fun a : Fin (16 * 512) => D (ix2 a l) * (X (ix2 a l) * rs (row X a))))
  refine Finset.sum_congr rfl fun s _ => Finset.sum_congr rfl fun r _ => ?_
  have e : pt ⟨16 * (t.val / 16) + s.val, h s⟩ r = ⟨s.val * 512 + r.val, by omega⟩ := Fin.ext (by show (16 * (t.val / 16) + s.val) * 512 + r.val = s.val * 512 + r.val; omega)
  rw [e]
  rfl

theorem arr8 : (dats (F := Ideal) m 0 c).arrAt 8 cfg0.N = arrDg (aD m c) (sH m c) := by
  refine (dats (F := Ideal) m 0 c).arrAt_eq_of_covers 8 _ (by decide +kernel) fun t hf y => ?_
  blk_simp
  have hN : cfg0.N = 16 := N_0
  rw [after0_8, Pipeline.eq_sum_fin_of_reset_step_apply_of_flush (fun n h => (outsAt0 m c n h).2.2.1) 16 (fun _ => 0)
    (term (aD m c) (sH m c))
    (fun t h j => by
      obtain ⟨z, l, rfl⟩ : ∃ (z : Fin 1) (l : Fin 1024), j = ix2 z l := ⟨j 0, j 1, eq_ix2 j⟩
      obtain rfl : z = 0 := Subsingleton.elim _ _
      have ht := lt_of_lt_of_eq t.isLt hN
      rw [outsAt0_A m c t h (by omega) h (by omega)]; frame_out
      exact (pay11_at m c t l).trans (zero_add _).symm)
    (fun t h j => by
      obtain ⟨z, l, rfl⟩ : ∃ (z : Fin 1) (l : Fin 1024), j = ix2 z l := ⟨j 0, j 1, eq_ix2 j⟩
      obtain rfl : z = 0 := Subsingleton.elim _ _
      rw [outsAt0_B m c t h (by omega) h (by omega)]; frame_out
      pointwise [k0_pay5]
      exact congrArg _ (pay11_at m c t l)) t ((flush0_8 t).mp hf) _]
  obtain ⟨z, l, rfl⟩ : ∃ (z : Fin 1) (l : Fin 1024), y = ix2 z l := ⟨y 0, y 1, eq_ix2 y⟩
  obtain rfl : z = 0 := Subsingleton.elim _ _
  refine (sums (aD m c) (sH m c) t _ l).trans (congrArg _ ?_)
  blk_ext [idx t]

theorem arr9 : (dats (F := Ideal) m 0 c).arrAt 9 cfg0.N = arrDg (sD m c) (aM m c) := by
  refine (dats (F := Ideal) m 0 c).arrAt_eq_of_covers 9 _ (by decide +kernel) fun t hf y => ?_
  blk_simp
  have hN : cfg0.N = 16 := N_0
  rw [after0_9, Pipeline.eq_sum_fin_of_reset_step_apply_of_flush (fun n h => (outsAt0 m c n h).2.2.2) 16 (fun _ => 0)
    (term (sD m c) (aM m c))
    (fun t h j => by
      obtain ⟨z, l, rfl⟩ : ∃ (z : Fin 1) (l : Fin 1024), j = ix2 z l := ⟨j 0, j 1, eq_ix2 j⟩
      obtain rfl : z = 0 := Subsingleton.elim _ _
      have ht := lt_of_lt_of_eq t.isLt hN
      rw [outsAt0_A m c t h (by omega) h (by omega)]; frame_out
      exact (pay3_at m c t l).trans (zero_add _).symm)
    (fun t h j => by
      obtain ⟨z, l, rfl⟩ : ∃ (z : Fin 1) (l : Fin 1024), j = ix2 z l := ⟨j 0, j 1, eq_ix2 j⟩
      obtain rfl : z = 0 := Subsingleton.elim _ _
      rw [outsAt0_B m c t h (by omega) h (by omega)]; frame_out
      unfold k0_pay6
      pointwise []
      exact congrArg _ (pay3_at m c t l)) t ((flush0_9 t).mp hf) _]
  obtain ⟨z, l, rfl⟩ : ∃ (z : Fin 1) (l : Fin 1024), y = ix2 z l := ⟨y 0, y 1, eq_ix2 y⟩
  obtain rfl : z = 0 := Subsingleton.elim _ _
  refine (sums (sD m c) (aM m c) t _ l).trans (congrArg _ ?_)
  blk_ext [idx t]

/-- The reference's residual is the same. -/
theorem refH (X M : S8192x1024.Idx → EReal) (p : S1x1024.Idx → EReal) :
    Cert.MidBwdReferenceIdeal.Read.val_main_v18 (F := Ideal) X M p = arrH X M p := by
  funext i
  obtain ⟨a, b, rfl⟩ : ∃ (a : Fin 8192) (b : Fin 1024), i = ix2 a b := ⟨i 0, i 1, eq_ix2 i⟩
  unfold arrH rs ms row
  rw [← ofBits_N, ← ofBits_E]
  pointwise [Cert.MidBwdReferenceIdeal.Read.val_main_v0, Cert.MidBwdReferenceIdeal.Read.val_main_v1, Cert.MidBwdReferenceIdeal.Read.val_main_v2, Cert.MidBwdReferenceIdeal.Read.val_main_cst, Cert.MidBwdReferenceIdeal.Read.val_main_v3, Cert.MidBwdReferenceIdeal.Read.val_main_v4, Cert.MidBwdReferenceIdeal.Read.val_main_cst_0, Cert.MidBwdReferenceIdeal.Read.val_main_v5, Cert.MidBwdReferenceIdeal.Read.val_main_v6, Cert.MidBwdReferenceIdeal.Read.val_main_cst_1, Cert.MidBwdReferenceIdeal.Read.val_main_v7, Cert.MidBwdReferenceIdeal.Read.val_main_v8, Cert.MidBwdReferenceIdeal.Read.val_main_v9, Cert.MidBwdReferenceIdeal.Read.val_main_v10, Cert.MidBwdReferenceIdeal.Read.val_main_cst_2, Cert.MidBwdReferenceIdeal.Read.val_main_v11, Cert.MidBwdReferenceIdeal.Read.val_main_v12, Cert.MidBwdReferenceIdeal.Read.val_main_v13, Cert.MidBwdReferenceIdeal.Read.val_main_v14, Cert.MidBwdReferenceIdeal.Read.val_main_v15, Cert.MidBwdReferenceIdeal.Read.val_main_v16, Cert.MidBwdReferenceIdeal.Read.val_main_v17, Cert.MidBwdReferenceIdeal.Read.val_main_v18]
  try rfl

/-- So are its results. -/
theorem ref0 (Y D X : S8192x1024.Idx → EReal) (f : S1x1024.Idx → EReal) (M : S8192x1024.Idx → EReal) (p : S1x1024.Idx → EReal) :
    Cert.MidBwdReferenceIdeal.Read.val_main_v56 (F := Ideal) Y D X f M p = arrDx Y D (arrH X M p) f := by
  funext i
  obtain ⟨a, b, rfl⟩ : ∃ (a : Fin 8192) (b : Fin 1024), i = ix2 a b := ⟨i 0, i 1, eq_ix2 i⟩
  refine Eq.trans ?_ (dx_eq (row (arrH X M p) a) (dRow D f a) b (Y (ix2 a b))).symm
  unfold coef rs ms row dRow
  rw [← ofBits_N, ← ofBits_E, ← ofBits_M]
  pointwise [Cert.MidBwdReferenceIdeal.Read.val_main_v1, Cert.MidBwdReferenceIdeal.Read.val_main_v19, Cert.MidBwdReferenceIdeal.Read.val_main_cst_3, Cert.MidBwdReferenceIdeal.Read.val_main_v20, Cert.MidBwdReferenceIdeal.Read.val_main_v21, Cert.MidBwdReferenceIdeal.Read.val_main_cst_4, Cert.MidBwdReferenceIdeal.Read.val_main_v22, Cert.MidBwdReferenceIdeal.Read.val_main_v23, Cert.MidBwdReferenceIdeal.Read.val_main_cst_5, Cert.MidBwdReferenceIdeal.Read.val_main_v24, Cert.MidBwdReferenceIdeal.Read.val_main_v25, Cert.MidBwdReferenceIdeal.Read.val_main_v26, Cert.MidBwdReferenceIdeal.Read.val_main_v27, Cert.MidBwdReferenceIdeal.Read.val_main_cst_6, Cert.MidBwdReferenceIdeal.Read.val_main_v28, Cert.MidBwdReferenceIdeal.Read.val_main_v29, Cert.MidBwdReferenceIdeal.Read.val_main_v30, Cert.MidBwdReferenceIdeal.Read.val_main_v31, Cert.MidBwdReferenceIdeal.Read.val_main_v32, Cert.MidBwdReferenceIdeal.Read.val_main_v33, Cert.MidBwdReferenceIdeal.Read.val_main_v34, Cert.MidBwdReferenceIdeal.Read.val_main_v35, Cert.MidBwdReferenceIdeal.Read.val_main_v36, Cert.MidBwdReferenceIdeal.Read.val_main_cst_7, Cert.MidBwdReferenceIdeal.Read.val_main_v37, Cert.MidBwdReferenceIdeal.Read.val_main_v38, Cert.MidBwdReferenceIdeal.Read.val_main_v39, Cert.MidBwdReferenceIdeal.Read.val_main_v40, Cert.MidBwdReferenceIdeal.Read.val_main_cst_8, Cert.MidBwdReferenceIdeal.Read.val_main_v41, Cert.MidBwdReferenceIdeal.Read.val_main_v42, Cert.MidBwdReferenceIdeal.Read.val_main_cst_9, Cert.MidBwdReferenceIdeal.Read.val_main_v43, Cert.MidBwdReferenceIdeal.Read.val_main_v44, Cert.MidBwdReferenceIdeal.Read.val_main_v45, Cert.MidBwdReferenceIdeal.Read.val_main_v46, Cert.MidBwdReferenceIdeal.Read.val_main_v47, Cert.MidBwdReferenceIdeal.Read.val_main_v48, Cert.MidBwdReferenceIdeal.Read.val_main_cst_10, Cert.MidBwdReferenceIdeal.Read.val_main_v49, Cert.MidBwdReferenceIdeal.Read.val_main_v50, Cert.MidBwdReferenceIdeal.Read.val_main_cst_11, Cert.MidBwdReferenceIdeal.Read.val_main_v51, Cert.MidBwdReferenceIdeal.Read.val_main_v52, Cert.MidBwdReferenceIdeal.Read.val_main_v53, Cert.MidBwdReferenceIdeal.Read.val_main_v54, Cert.MidBwdReferenceIdeal.Read.val_main_v55, Cert.MidBwdReferenceIdeal.Read.val_main_v56]
  simp only [Finset.univ_unique, Finset.sum_singleton, refH]
  try rfl

theorem ref1 (Y D X : S8192x1024.Idx → EReal) (f : S1x1024.Idx → EReal) (M : S8192x1024.Idx → EReal) (p : S1x1024.Idx → EReal) :
    Cert.MidBwdReferenceIdeal.Read.val_main_v78 (F := Ideal) Y D X f M p = arrDm (arrDx Y D (arrH X M p) f) M p := by
  funext i
  obtain ⟨a, b, rfl⟩ : ∃ (a : Fin 8192) (b : Fin 1024), i = ix2 a b := ⟨i 0, i 1, eq_ix2 i⟩
  refine Eq.trans ?_ ((dx_eq (row M a) (dRow (arrDx Y D (arrH X M p) f) p a) b 0).symm.trans (zero_add _))
  rw [zero_add]
  unfold coef rs ms row dRow
  rw [← ofBits_N, ← ofBits_E, ← ofBits_M]
  pointwise [Cert.MidBwdReferenceIdeal.Read.val_main_v0, Cert.MidBwdReferenceIdeal.Read.val_main_v1, Cert.MidBwdReferenceIdeal.Read.val_main_v2, Cert.MidBwdReferenceIdeal.Read.val_main_cst, Cert.MidBwdReferenceIdeal.Read.val_main_v3, Cert.MidBwdReferenceIdeal.Read.val_main_v4, Cert.MidBwdReferenceIdeal.Read.val_main_cst_0, Cert.MidBwdReferenceIdeal.Read.val_main_v5, Cert.MidBwdReferenceIdeal.Read.val_main_v6, Cert.MidBwdReferenceIdeal.Read.val_main_cst_1, Cert.MidBwdReferenceIdeal.Read.val_main_v7, Cert.MidBwdReferenceIdeal.Read.val_main_v8, Cert.MidBwdReferenceIdeal.Read.val_main_v9, Cert.MidBwdReferenceIdeal.Read.val_main_v10, Cert.MidBwdReferenceIdeal.Read.val_main_cst_2, Cert.MidBwdReferenceIdeal.Read.val_main_v11, Cert.MidBwdReferenceIdeal.Read.val_main_v12, Cert.MidBwdReferenceIdeal.Read.val_main_v13, Cert.MidBwdReferenceIdeal.Read.val_main_v14, Cert.MidBwdReferenceIdeal.Read.val_main_v15, Cert.MidBwdReferenceIdeal.Read.val_main_v16, Cert.MidBwdReferenceIdeal.Read.val_main_v17, Cert.MidBwdReferenceIdeal.Read.val_main_v57, Cert.MidBwdReferenceIdeal.Read.val_main_v58, Cert.MidBwdReferenceIdeal.Read.val_main_cst_12, Cert.MidBwdReferenceIdeal.Read.val_main_v59, Cert.MidBwdReferenceIdeal.Read.val_main_v60, Cert.MidBwdReferenceIdeal.Read.val_main_v61, Cert.MidBwdReferenceIdeal.Read.val_main_v62, Cert.MidBwdReferenceIdeal.Read.val_main_cst_13, Cert.MidBwdReferenceIdeal.Read.val_main_v63, Cert.MidBwdReferenceIdeal.Read.val_main_v64, Cert.MidBwdReferenceIdeal.Read.val_main_cst_14, Cert.MidBwdReferenceIdeal.Read.val_main_v65, Cert.MidBwdReferenceIdeal.Read.val_main_v66, Cert.MidBwdReferenceIdeal.Read.val_main_v67, Cert.MidBwdReferenceIdeal.Read.val_main_v68, Cert.MidBwdReferenceIdeal.Read.val_main_v69, Cert.MidBwdReferenceIdeal.Read.val_main_cst_15, Cert.MidBwdReferenceIdeal.Read.val_main_v70, Cert.MidBwdReferenceIdeal.Read.val_main_v71, Cert.MidBwdReferenceIdeal.Read.val_main_cst_16, Cert.MidBwdReferenceIdeal.Read.val_main_v72, Cert.MidBwdReferenceIdeal.Read.val_main_v73, Cert.MidBwdReferenceIdeal.Read.val_main_v74, Cert.MidBwdReferenceIdeal.Read.val_main_v75, Cert.MidBwdReferenceIdeal.Read.val_main_v76, Cert.MidBwdReferenceIdeal.Read.val_main_v77, Cert.MidBwdReferenceIdeal.Read.val_main_v78, Cert.MidBwdReferenceIdeal.Read.val_main_v79, Cert.MidBwdReferenceIdeal.Read.val_main_v80]
  simp only [Finset.univ_unique, Finset.sum_singleton, ref0]
  try rfl

theorem ref2 (D X M : S8192x1024.Idx → EReal) (p : S1x1024.Idx → EReal) :
    Cert.MidBwdReferenceIdeal.Read.val_main_v79 (F := Ideal) D X M p = arrDg D (arrH X M p) := by
  funext i
  obtain ⟨z, b, rfl⟩ : ∃ (z : Fin 1) (b : Fin 1024), i = ix2 z b := ⟨i 0, i 1, eq_ix2 i⟩
  unfold arrDg rs ms row
  rw [← ofBits_N, ← ofBits_E]
  pointwise [Cert.MidBwdReferenceIdeal.Read.val_main_v1, Cert.MidBwdReferenceIdeal.Read.val_main_v19, Cert.MidBwdReferenceIdeal.Read.val_main_cst_3, Cert.MidBwdReferenceIdeal.Read.val_main_v20, Cert.MidBwdReferenceIdeal.Read.val_main_v21, Cert.MidBwdReferenceIdeal.Read.val_main_cst_4, Cert.MidBwdReferenceIdeal.Read.val_main_v22, Cert.MidBwdReferenceIdeal.Read.val_main_v23, Cert.MidBwdReferenceIdeal.Read.val_main_cst_5, Cert.MidBwdReferenceIdeal.Read.val_main_v24, Cert.MidBwdReferenceIdeal.Read.val_main_v25, Cert.MidBwdReferenceIdeal.Read.val_main_v26, Cert.MidBwdReferenceIdeal.Read.val_main_v27, Cert.MidBwdReferenceIdeal.Read.val_main_cst_6, Cert.MidBwdReferenceIdeal.Read.val_main_v28, Cert.MidBwdReferenceIdeal.Read.val_main_v29, Cert.MidBwdReferenceIdeal.Read.val_main_v30, Cert.MidBwdReferenceIdeal.Read.val_main_v31, Cert.MidBwdReferenceIdeal.Read.val_main_v32, Cert.MidBwdReferenceIdeal.Read.val_main_v33, Cert.MidBwdReferenceIdeal.Read.val_main_v34, Cert.MidBwdReferenceIdeal.Read.val_main_v35, Cert.MidBwdReferenceIdeal.Read.val_main_v36, Cert.MidBwdReferenceIdeal.Read.val_main_cst_7, Cert.MidBwdReferenceIdeal.Read.val_main_v37, Cert.MidBwdReferenceIdeal.Read.val_main_v38, Cert.MidBwdReferenceIdeal.Read.val_main_v39, Cert.MidBwdReferenceIdeal.Read.val_main_v40, Cert.MidBwdReferenceIdeal.Read.val_main_cst_8, Cert.MidBwdReferenceIdeal.Read.val_main_v41, Cert.MidBwdReferenceIdeal.Read.val_main_v42, Cert.MidBwdReferenceIdeal.Read.val_main_cst_9, Cert.MidBwdReferenceIdeal.Read.val_main_v43, Cert.MidBwdReferenceIdeal.Read.val_main_v44, Cert.MidBwdReferenceIdeal.Read.val_main_v45, Cert.MidBwdReferenceIdeal.Read.val_main_v46, Cert.MidBwdReferenceIdeal.Read.val_main_v47, Cert.MidBwdReferenceIdeal.Read.val_main_v48, Cert.MidBwdReferenceIdeal.Read.val_main_cst_10, Cert.MidBwdReferenceIdeal.Read.val_main_v49, Cert.MidBwdReferenceIdeal.Read.val_main_v50, Cert.MidBwdReferenceIdeal.Read.val_main_cst_11, Cert.MidBwdReferenceIdeal.Read.val_main_v51, Cert.MidBwdReferenceIdeal.Read.val_main_v52, Cert.MidBwdReferenceIdeal.Read.val_main_v53, Cert.MidBwdReferenceIdeal.Read.val_main_v54, Cert.MidBwdReferenceIdeal.Read.val_main_v55, Cert.MidBwdReferenceIdeal.Read.val_main_v56, Cert.MidBwdReferenceIdeal.Read.val_main_v79]
  simp only [Finset.univ_unique, Finset.sum_singleton, refH]
  exact Finset.sum_congr rfl fun a _ => mul_comm _ _

theorem ref3 (Y D X : S8192x1024.Idx → EReal) (f : S1x1024.Idx → EReal) (M : S8192x1024.Idx → EReal) (p : S1x1024.Idx → EReal) :
    Cert.MidBwdReferenceIdeal.Read.val_main_v80 (F := Ideal) Y D X f M p = arrDg (arrDx Y D (arrH X M p) f) M := by
  funext i
  obtain ⟨z, b, rfl⟩ : ∃ (z : Fin 1) (b : Fin 1024), i = ix2 z b := ⟨i 0, i 1, eq_ix2 i⟩
  unfold arrDg rs ms row
  rw [← ofBits_N, ← ofBits_E]
  pointwise [Cert.MidBwdReferenceIdeal.Read.val_main_v0, Cert.MidBwdReferenceIdeal.Read.val_main_v1, Cert.MidBwdReferenceIdeal.Read.val_main_v2, Cert.MidBwdReferenceIdeal.Read.val_main_cst, Cert.MidBwdReferenceIdeal.Read.val_main_v3, Cert.MidBwdReferenceIdeal.Read.val_main_v4, Cert.MidBwdReferenceIdeal.Read.val_main_cst_0, Cert.MidBwdReferenceIdeal.Read.val_main_v5, Cert.MidBwdReferenceIdeal.Read.val_main_v6, Cert.MidBwdReferenceIdeal.Read.val_main_cst_1, Cert.MidBwdReferenceIdeal.Read.val_main_v7, Cert.MidBwdReferenceIdeal.Read.val_main_v8, Cert.MidBwdReferenceIdeal.Read.val_main_v9, Cert.MidBwdReferenceIdeal.Read.val_main_v10, Cert.MidBwdReferenceIdeal.Read.val_main_cst_2, Cert.MidBwdReferenceIdeal.Read.val_main_v11, Cert.MidBwdReferenceIdeal.Read.val_main_v12, Cert.MidBwdReferenceIdeal.Read.val_main_v13, Cert.MidBwdReferenceIdeal.Read.val_main_v14, Cert.MidBwdReferenceIdeal.Read.val_main_v15, Cert.MidBwdReferenceIdeal.Read.val_main_v16, Cert.MidBwdReferenceIdeal.Read.val_main_v17, Cert.MidBwdReferenceIdeal.Read.val_main_v57, Cert.MidBwdReferenceIdeal.Read.val_main_v58, Cert.MidBwdReferenceIdeal.Read.val_main_cst_12, Cert.MidBwdReferenceIdeal.Read.val_main_v59, Cert.MidBwdReferenceIdeal.Read.val_main_v60, Cert.MidBwdReferenceIdeal.Read.val_main_v61, Cert.MidBwdReferenceIdeal.Read.val_main_v62, Cert.MidBwdReferenceIdeal.Read.val_main_cst_13, Cert.MidBwdReferenceIdeal.Read.val_main_v63, Cert.MidBwdReferenceIdeal.Read.val_main_v64, Cert.MidBwdReferenceIdeal.Read.val_main_cst_14, Cert.MidBwdReferenceIdeal.Read.val_main_v65, Cert.MidBwdReferenceIdeal.Read.val_main_v66, Cert.MidBwdReferenceIdeal.Read.val_main_v67, Cert.MidBwdReferenceIdeal.Read.val_main_v68, Cert.MidBwdReferenceIdeal.Read.val_main_v69, Cert.MidBwdReferenceIdeal.Read.val_main_cst_15, Cert.MidBwdReferenceIdeal.Read.val_main_v70, Cert.MidBwdReferenceIdeal.Read.val_main_v71, Cert.MidBwdReferenceIdeal.Read.val_main_cst_16, Cert.MidBwdReferenceIdeal.Read.val_main_v72, Cert.MidBwdReferenceIdeal.Read.val_main_v73, Cert.MidBwdReferenceIdeal.Read.val_main_v74, Cert.MidBwdReferenceIdeal.Read.val_main_v75, Cert.MidBwdReferenceIdeal.Read.val_main_v76, Cert.MidBwdReferenceIdeal.Read.val_main_v77, Cert.MidBwdReferenceIdeal.Read.val_main_v78, Cert.MidBwdReferenceIdeal.Read.val_main_v79, Cert.MidBwdReferenceIdeal.Read.val_main_v80]
  simp only [Finset.univ_unique, Finset.sum_singleton, ref0]
  exact Finset.sum_congr rfl fun a _ => mul_comm _ _

end

/-- The kernel runs, leaves its arguments as they were and its counters at zero. -/
theorem frame_K : Cert.quiescent_MidBwdKernel (hMidBwdKernel := Cert.MidBwdKernel.Gen.facts) := fun m ρ _ => Cert.MidBwdKernel.Gen.frame m ρ

/-- So does its idealized form. -/
theorem frame_KI : Cert.quiescent_MidBwdKernelIdeal (hMidBwdKernelIdeal := Cert.MidBwdKernelIdeal.Gen.facts) := fun m ρ _ => Cert.MidBwdKernelIdeal.Gen.frame m ρ

/-- So does the reference. -/
theorem frame_RI : Cert.quiescent_MidBwdReferenceIdeal (hMidBwdReferenceIdeal := Cert.MidBwdReferenceIdeal.Gen.facts) := fun m ρ _ =>
  (θ_run _ _ _).mono (fun r h => ⟨fun c => ((h c).2.2.2.2), sem_eq_zero_of_no_sems (by decide) r.2⟩) (Cert.MidBwdReferenceIdeal.Value.run m ρ)

/-- The idealization rewrites nothing. -/
theorem preserves : Cert.preserves_MidBwdKernel_MidBwdKernelIdeal := trivial

/-- The kernel and the reference leave the same arrays. -/
theorem algebraic : Cert.algebraic_MidBwdKernelIdeal_MidBwdReferenceIdeal (hMidBwdKernelIdeal := Cert.MidBwdKernelIdeal.Gen.facts)
    (hMidBwdReferenceIdeal := Cert.MidBwdReferenceIdeal.Gen.facts) := by
  intro m g m' g' hpre hag
  refine ⟨fun c => sD m c, fun c => arrDm (sD m c) (aM m c) (aP m c), fun c => arrDg (aD m c) (sH m c), fun c => arrDg (sD m c) (aM m c), ?_, ?_⟩
  · refine (θ_run _ _ _).mono (fun r h c => ?_) (Cert.MidBwdKernelIdeal.Value.run_blocks m g)
    obtain ⟨h0, h1, h2, h3, hk⟩ := h c
    exact ⟨h0.trans (arr6 m c), h1.trans (arr7 m c), h2.trans (arr8 m c), h3.trans (arr9 m c), hk⟩
  · refine (θ_run _ _ _).mono (fun r h c => ?_) (Cert.MidBwdReferenceIdeal.Value.run m' g')
    obtain ⟨e0, e1, e2, e3, e4, e5⟩ := hag c
    obtain ⟨h0, h1, h2, h3, hk⟩ := h c
    refine ⟨h0.trans ?_, h1.trans ?_, h2.trans ?_, h3.trans ?_, hk⟩
    · refine (Cert.MidBwdReferenceIdeal.Read.val_main_v56_eq (F := Ideal) _ _).trans ?_
      simp only [e0, e1, e2, e3, e4, e5]
      exact ref0 _ _ _ _ _ _
    · refine (Cert.MidBwdReferenceIdeal.Read.val_main_v78_eq (F := Ideal) _ _).trans ?_
      simp only [e0, e1, e2, e3, e4, e5]
      exact ref1 _ _ _ _ _ _
    · refine (Cert.MidBwdReferenceIdeal.Read.val_main_v79_eq (F := Ideal) _ _ _ _).trans ?_
      rw [e1, e2, e4, e5]
      exact ref2 _ _ _ _
    · refine (Cert.MidBwdReferenceIdeal.Read.val_main_v80_eq (F := Ideal) _ _).trans ?_
      simp only [e0, e1, e2, e3, e4, e5]
      exact ref3 _ _ _ _ _ _

end Cert.MidBwd

end
-- ==== Proof.Mix.lean ====
/- The mixing block's output projection, the residual after it, and the next norm. -/
module

public import proofs.«01_k».proof.Proof.Gen.MixKernel.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Defs
public import Idealize.ShloMosaic.Lib.Pipeline.ValueKit
public import Idealize.ShloMosaic.Lib.Pointwise
public import Idealize.ShloMosaic.Lib.Claim
public import proofs.«01_k».proof.Proof.Norm

@[expose] public section

set_option maxRecDepth 16384

noncomputable section

namespace Cert.Mix

open Idealize.ShloMosaic Idealize.ShloMosaic.TcCoe Idealize.SL.Sem
open Cert.MixKernelIdeal Cert.MixKernelIdeal.Gen

open Cert.Norm

/-- A row of an array. -/
def row (X : S8192x1024.Idx → EReal) (a : Fin 8192) : Fin 1024 → EReal := fun k => X (ix2 a k)

/-- The mixing block's output: the product. -/
def arrM (A : S8192x1024.Idx → EReal) (W : S1024x1024.Idx → EReal) : S8192x1024.Idx → EReal := fun i =>
  ∑ k : Fin 1024, A (ix2 (i 0) k) * W (ix2 k (i 1))

/-- An array normed by rows, with a gain. -/
def nrm (M : S8192x1024.Idx → EReal) (p : S1x1024.Idx → EReal) : S8192x1024.Idx → EReal := fun i =>
  M i * rs (row M (i 0)) * p (ix2 0 (i 1))

/-- The residual after the mixing block. -/
def arrH (X M : S8192x1024.Idx → EReal) (p : S1x1024.Idx → EReal) : S8192x1024.Idx → EReal := fun i => X i + nrm M p i

section

variable (m : (ℓ : Loc nD τ sig) → Buf (Elt Ideal) ℓ)

/-- The windows' block indices at a grid point. -/
theorem idx : ∀ t : Fin cfg0.N, win0_0.index t = ![t.val, 0] ∧ win0_1.index t = ![0, 0] ∧
    win0_2.index t = ![t.val, 0] ∧ win0_3.index t = ![0, 0] ∧ win0_4.index t = ![0, 0] ∧ win0_5.index t = ![t.val, 0] ∧
    win0_6.index t = ![t.val, 0] ∧ win0_7.index t = ![t.val, 0] :=
  (by decide +kernel : ∀ t : Fin grid0.N, _)

variable (c : Dev nD) (t : Fin cfg0.N)

/-- The five arguments of the launch. -/
abbrev aA : S8192x1024.Idx → EReal := m ((c : Thread nD τ).loc main_arg0)
abbrev aW : S1024x1024.Idx → EReal := m ((c : Thread nD τ).loc main_arg1)
abbrev aX : S8192x1024.Idx → EReal := m ((c : Thread nD τ).loc main_arg2)
abbrev aP : S1x1024.Idx → EReal := m ((c : Thread nD τ).loc main_arg3)
abbrev aF : S1x1024.Idx → EReal := m ((c : Thread nD τ).loc main_arg4)
abbrev sM : S8192x1024.Idx → EReal := arrM (aA m c) (aW m c)

/-- The row in the arrays of a point's row. -/
def pt (r : Fin 1024) : Fin 8192 := ⟨t.val * 1024 + r.val, by have := lt_of_lt_of_eq t.isLt (show cfg0.N = 8 from N_0); omega⟩

/-- The blocks a point reads, in the arguments. -/
theorem blk0 (r : Fin 1024) (l : Fin 1024) : iblk (F := Ideal) m c 0 t (ix2 r l) = aA m c (ix2 (pt t r) l) := by
  unfold pt
  blk_ext [iblk, V, idx t]

theorem blk1 (r : Fin 1024) (l : Fin 1024) : iblk (F := Ideal) m c 1 t (ix2 r l) = aW m c (ix2 r l) := by
  blk_ext [iblk, V, idx t]

theorem blk2 (r : Fin 1024) (l : Fin 1024) : iblk (F := Ideal) m c 2 t (ix2 r l) = aX m c (ix2 (pt t r) l) := by
  unfold pt
  blk_ext [iblk, V, idx t]

theorem blk3 (l : Fin 1024) : iblk (F := Ideal) m c 3 t (ix2 0 l) = aP m c (ix2 0 l) := by
  blk_ext [iblk, V, idx t]

theorem blk4 (l : Fin 1024) : iblk (F := Ideal) m c 4 t (ix2 0 l) = aF m c (ix2 0 l) := by
  blk_ext [iblk, V, idx t]

/-- The payloads at a place, in rows. -/
theorem p1 (a : Vec Ideal S1024x1024 .bf16) (w : Vec Ideal S1024x1024 .bf16) (r : Fin 1024) (l : Fin 1024) :
    k0_pay1 (F := Ideal) a w (ix2 r l) = ∑ k : Fin 1024, a (ix2 r k) * w (ix2 k l) := by
  pointwise [k0_pay1]

theorem p3 (x h : Vec Ideal S1024x1024 .f32) (g : Vec Ideal S1x1024 .f32) (r : Fin 1024) (l : Fin 1024) :
    k0_pay3 (F := Ideal) x h g (ix2 r l) = h (ix2 r l) + x (ix2 r l) * rs (fun k : Fin 1024 => x (ix2 r k)) * g (ix2 0 l) := by
  unfold rs ms
  rw [← ofBits_N, ← ofBits_E]
  pointwise [k0_pay3]

theorem p4 (x h : Vec Ideal S1024x1024 .f32) (g f : Vec Ideal S1x1024 .f32) (r : Fin 1024) (l : Fin 1024) :
    k0_pay4 (F := Ideal) x h g f (ix2 r l) = k0_pay3 (F := Ideal) x h g (ix2 r l) * rs (fun k : Fin 1024 => k0_pay3 (F := Ideal) x h g (ix2 r k)) * f (ix2 0 l) := by
  unfold rs ms
  rw [← ofBits_N, ← ofBits_E]
  pointwise [k0_pay4]

/-- The product at a point. -/
abbrev b1 : FVec Ideal S1024x1024 .f32 := k0_pay1 (F := Ideal) (iblk m c 0 t) (iblk m c 1 t)

theorem b1_at (r : Fin 1024) (l : Fin 1024) : b1 m c t (ix2 r l) = sM m c (ix2 (pt t r) l) := by
  refine (p1 _ _ r l).trans ?_
  unfold sM arrM
  exact Finset.sum_congr rfl fun k _ => congrArg₂ (· * ·) (blk0 m c t r k) (blk1 m c t k l)

theorem pay3_at (r : Fin 1024) (l : Fin 1024) : k0_pay3 (F := Ideal) (b1 m c t) (iblk m c 2 t) (iblk m c 3 t) (ix2 r l) =
    arrH (aX m c) (sM m c) (aP m c) (ix2 (pt t r) l) := by
  refine (p3 _ _ _ r l).trans ?_
  unfold arrH nrm row
  refine congrArg₂ (· + ·) (blk2 m c t r l) (congrArg₂ (· * ·) (congrArg₂ (· * ·) (b1_at m c t r l) ?_) (blk3 m c t l))
  exact congrArg rs (funext fun k => b1_at m c t r k)

theorem pay4_at (r : Fin 1024) (l : Fin 1024) : k0_pay4 (F := Ideal) (b1 m c t) (iblk m c 2 t) (iblk m c 3 t) (iblk m c 4 t) (ix2 r l) =
    nrm (arrH (aX m c) (sM m c) (aP m c)) (aF m c) (ix2 (pt t r) l) := by
  refine (p4 _ _ _ _ r l).trans ?_
  refine congrArg₂ (· * ·) (congrArg₂ (· * ·) (pay3_at m c t r l) ?_) (blk4 m c t l)
  exact congrArg rs (funext fun k => pay3_at m c t r k)

theorem arr5 : (dats (F := Ideal) m 0 c).arrAt 5 cfg0.N = sM m c := by
  refine (dats (F := Ideal) m 0 c).arrAt_eq_of_covers 5 _ (by decide +kernel) fun t hf y => ?_
  blk_simp
  rw [after0_5]
  obtain ⟨r, l, rfl⟩ : ∃ (r : Fin 1024) (l : Fin 1024), y = ix2 r l := ⟨y 0, y 1, eq_ix2 y⟩
  have e : ((View.whole main_v0_0).slice (win0_5.rect t)).emb (ix2 r l) = ix2 (pt t r) l := by
    unfold pt
    blk_ext [idx t]
  rw [e]
  unfold outsAt0
  frame_out
  exact b1_at m c t r l

theorem arr6 : (dats (F := Ideal) m 0 c).arrAt 6 cfg0.N = arrH (aX m c) (sM m c) (aP m c) := by
  refine (dats (F := Ideal) m 0 c).arrAt_eq_of_covers 6 _ (by decide +kernel) fun t hf y => ?_
  blk_simp
  rw [after0_6]
  obtain ⟨r, l, rfl⟩ : ∃ (r : Fin 1024) (l : Fin 1024), y = ix2 r l := ⟨y 0, y 1, eq_ix2 y⟩
  have e : ((View.whole main_v0_1).slice (win0_6.rect t)).emb (ix2 r l) = ix2 (pt t r) l := by
    unfold pt
    blk_ext [idx t]
  rw [e]
  unfold outsAt0
  frame_out
  exact pay3_at m c t r l

theorem arr7 : (dats (F := Ideal) m 0 c).arrAt 7 cfg0.N = nrm (arrH (aX m c) (sM m c) (aP m c)) (aF m c) := by
  refine (dats (F := Ideal) m 0 c).arrAt_eq_of_covers 7 _ (by decide +kernel) fun t hf y => ?_
  blk_simp
  rw [after0_7]
  obtain ⟨r, l, rfl⟩ : ∃ (r : Fin 1024) (l : Fin 1024), y = ix2 r l := ⟨y 0, y 1, eq_ix2 y⟩
  have e : ((View.whole main_v0_2).slice (win0_7.rect t)).emb (ix2 r l) = ix2 (pt t r) l := by
    unfold pt
    blk_ext [idx t]
  rw [e]
  unfold outsAt0
  frame_out
  exact pay4_at m c t r l

/-- The reference's results are the same. -/
theorem ref0 (A : S8192x1024.Idx → EReal) (W : S1024x1024.Idx → EReal) : Cert.MixReferenceIdeal.Read.val_main_v2 (F := Ideal) A W = arrM A W := by
  funext i
  obtain ⟨a, b, rfl⟩ : ∃ (a : Fin 8192) (b : Fin 1024), i = ix2 a b := ⟨i 0, i 1, eq_ix2 i⟩
  unfold arrM
  pointwise [Cert.MixReferenceIdeal.Read.val_main_v0, Cert.MixReferenceIdeal.Read.val_main_v1, Cert.MixReferenceIdeal.Read.val_main_v2]

theorem ref1 (A : S8192x1024.Idx → EReal) (W : S1024x1024.Idx → EReal) (X : S8192x1024.Idx → EReal) (p : S1x1024.Idx → EReal) :
    Cert.MixReferenceIdeal.Read.val_main_v18 (F := Ideal) A W X p = arrH X (arrM A W) p := by
  funext i
  obtain ⟨a, b, rfl⟩ : ∃ (a : Fin 8192) (b : Fin 1024), i = ix2 a b := ⟨i 0, i 1, eq_ix2 i⟩
  unfold arrH nrm rs ms row
  rw [← ofBits_N, ← ofBits_E]
  pointwise [Cert.MixReferenceIdeal.Read.val_main_v3, Cert.MixReferenceIdeal.Read.val_main_v5, Cert.MixReferenceIdeal.Read.val_main_cst, Cert.MixReferenceIdeal.Read.val_main_v6, Cert.MixReferenceIdeal.Read.val_main_v7, Cert.MixReferenceIdeal.Read.val_main_cst_0, Cert.MixReferenceIdeal.Read.val_main_v8, Cert.MixReferenceIdeal.Read.val_main_v9, Cert.MixReferenceIdeal.Read.val_main_cst_1, Cert.MixReferenceIdeal.Read.val_main_v10, Cert.MixReferenceIdeal.Read.val_main_v11, Cert.MixReferenceIdeal.Read.val_main_v12, Cert.MixReferenceIdeal.Read.val_main_v13, Cert.MixReferenceIdeal.Read.val_main_v14, Cert.MixReferenceIdeal.Read.val_main_v15, Cert.MixReferenceIdeal.Read.val_main_v16, Cert.MixReferenceIdeal.Read.val_main_v17, Cert.MixReferenceIdeal.Read.val_main_v18]
  simp only [ref0]
  try rfl

theorem ref2 (A : S8192x1024.Idx → EReal) (W : S1024x1024.Idx → EReal) (X : S8192x1024.Idx → EReal) (p f : S1x1024.Idx → EReal) :
    Cert.MixReferenceIdeal.Read.val_main_v32 (F := Ideal) A W X p f = nrm (arrH X (arrM A W) p) f := by
  funext i
  obtain ⟨a, b, rfl⟩ : ∃ (a : Fin 8192) (b : Fin 1024), i = ix2 a b := ⟨i 0, i 1, eq_ix2 i⟩
  unfold nrm rs ms row
  rw [← ofBits_N, ← ofBits_E]
  pointwise [Cert.MixReferenceIdeal.Read.val_main_v4, Cert.MixReferenceIdeal.Read.val_main_v19, Cert.MixReferenceIdeal.Read.val_main_cst_2, Cert.MixReferenceIdeal.Read.val_main_v20, Cert.MixReferenceIdeal.Read.val_main_v21, Cert.MixReferenceIdeal.Read.val_main_cst_3, Cert.MixReferenceIdeal.Read.val_main_v22, Cert.MixReferenceIdeal.Read.val_main_v23, Cert.MixReferenceIdeal.Read.val_main_cst_4, Cert.MixReferenceIdeal.Read.val_main_v24, Cert.MixReferenceIdeal.Read.val_main_v25, Cert.MixReferenceIdeal.Read.val_main_v26, Cert.MixReferenceIdeal.Read.val_main_v27, Cert.MixReferenceIdeal.Read.val_main_v28, Cert.MixReferenceIdeal.Read.val_main_v29, Cert.MixReferenceIdeal.Read.val_main_v30, Cert.MixReferenceIdeal.Read.val_main_v31, Cert.MixReferenceIdeal.Read.val_main_v32]
  simp only [ref1]
  try rfl

end

/-- The kernel runs, leaves its arguments as they were and its counters at zero. -/
theorem frame_K : Cert.quiescent_MixKernel (hMixKernel := Cert.MixKernel.Gen.facts) := fun m ρ _ => Cert.MixKernel.Gen.frame m ρ

/-- So does its idealized form. -/
theorem frame_KI : Cert.quiescent_MixKernelIdeal (hMixKernelIdeal := Cert.MixKernelIdeal.Gen.facts) := fun m ρ _ => Cert.MixKernelIdeal.Gen.frame m ρ

/-- So does the reference. -/
theorem frame_RI : Cert.quiescent_MixReferenceIdeal (hMixReferenceIdeal := Cert.MixReferenceIdeal.Gen.facts) := fun m ρ _ =>
  (θ_run _ _ _).mono (fun r h => ⟨fun c => ((h c).2.2.2), sem_eq_zero_of_no_sems (by decide) r.2⟩) (Cert.MixReferenceIdeal.Value.run m ρ)

/-- The idealization rewrites nothing. -/
theorem preserves : Cert.preserves_MixKernel_MixKernelIdeal := trivial

/-- The kernel and the reference leave the same arrays. -/
theorem algebraic : Cert.algebraic_MixKernelIdeal_MixReferenceIdeal (hMixKernelIdeal := Cert.MixKernelIdeal.Gen.facts)
    (hMixReferenceIdeal := Cert.MixReferenceIdeal.Gen.facts) := by
  intro m g m' g' hpre hag
  refine ⟨fun c => sM m c, fun c => arrH (aX m c) (sM m c) (aP m c), fun c => nrm (arrH (aX m c) (sM m c) (aP m c)) (aF m c), ?_, ?_⟩
  · refine (θ_run _ _ _).mono (fun r h c => ?_) (Cert.MixKernelIdeal.Value.run_blocks m g)
    obtain ⟨h0, h1, h2, hk⟩ := h c
    exact ⟨h0.trans (arr5 m c), h1.trans (arr6 m c), h2.trans (arr7 m c), hk⟩
  · refine (θ_run _ _ _).mono (fun r h c => ?_) (Cert.MixReferenceIdeal.Value.run m' g')
    obtain ⟨e0, e1, e2, e3, e4⟩ := hag c
    obtain ⟨h0, h1, h2, hk⟩ := h c
    refine ⟨h0.trans ?_, h1.trans ?_, h2.trans ?_, hk⟩
    · refine (Cert.MixReferenceIdeal.Read.val_main_v2_eq (F := Ideal) _ _).trans ?_
      rw [e0, e1]
      exact ref0 _ _
    · refine (Cert.MixReferenceIdeal.Read.val_main_v18_eq (F := Ideal) _ _ _ _).trans ?_
      rw [e0, e1, e2, e3]
      exact ref1 _ _ _ _
    · refine (Cert.MixReferenceIdeal.Read.val_main_v32_eq (F := Ideal) _ _).trans ?_
      simp only [e0, e1, e2, e3, e4]
      exact ref2 _ _ _ _ _

end Cert.Mix

end
-- ==== Proof.NormIn.lean ====
/- The mixing block's normed input. -/
module

public import proofs.«01_k».proof.Proof.Gen.NormInKernel.Frame
public import proofs.«01_k».proof.Proof.Gen.NormInKernelIdeal.Value
public import proofs.«01_k».proof.Proof.Gen.NormInReferenceIdeal.Run
public import proofs.«01_k».proof.Proof.Gen.NormInReferenceIdeal.Read
public import proofs.«01_k».proof.Defs
public import Idealize.ShloMosaic.Lib.Pipeline.ValueKit
public import Idealize.ShloMosaic.Lib.Pointwise
public import Idealize.ShloMosaic.Lib.Claim
public import proofs.«01_k».proof.Proof.Norm

@[expose] public section

set_option maxRecDepth 16384

noncomputable section

namespace Cert.NormIn

open Idealize.ShloMosaic Idealize.ShloMosaic.TcCoe Idealize.SL.Sem
open Cert.NormInKernelIdeal Cert.NormInKernelIdeal.Gen

open Cert.Norm

/-- An array normed by rows, with a gain. -/
def nrm (X : S8192x1024.Idx → EReal) (p : S1x1024.Idx → EReal) : S8192x1024.Idx → EReal := fun i =>
  X i * rs (fun k : Fin 1024 => X (ix2 (i 0) k)) * p (ix2 0 (i 1))

section

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

/-- The two arguments of the launch. -/
abbrev aX : S8192x1024.Idx → EReal := m ((c : Thread nD τ).loc main_arg0)
abbrev aG : S1x1024.Idx → EReal := m ((c : Thread nD τ).loc main_arg1)

/-- The row in the arrays of a point's row. -/
def pt (r : Fin 512) : Fin 8192 := ⟨t.val * 512 + r.val, by have := lt_of_lt_of_eq t.isLt (show cfg0.N = 16 from N_0); omega⟩

/-- The blocks a point reads, in the arguments. -/
theorem blk0 (r : Fin 512) (l : Fin 1024) : iblk (F := Ideal) m c 0 t (ix2 r l) = aX m c (ix2 (pt t r) l) := by
  unfold pt
  blk_ext [iblk, V, idx t]

theorem blk1 (l : Fin 1024) : iblk (F := Ideal) m c 1 t (ix2 0 l) = aG m c (ix2 0 l) := by
  blk_ext [iblk, V, idx t]

/-- The payload at a place, in rows. -/
theorem p1 (x : Vec Ideal S512x1024 .f32) (g : Vec Ideal S1x1024 .f32) (r : Fin 512) (l : Fin 1024) :
    k0_pay1 (F := Ideal) x g (ix2 r l) = x (ix2 r l) * rs (fun k : Fin 1024 => x (ix2 r k)) * g (ix2 0 l) := by
  unfold rs ms
  rw [← ofBits_N, ← ofBits_E]
  pointwise [k0_pay1]

theorem pay_at (r : Fin 512) (l : Fin 1024) : k0_pay1 (F := Ideal) (iblk m c 0 t) (iblk m c 1 t) (ix2 r l) =
    nrm (aX m c) (aG m c) (ix2 (pt t r) l) := by
  refine (p1 _ _ r l).trans ?_
  unfold nrm
  refine congrArg₂ (· * ·) (congrArg₂ (· * ·) (blk0 m c t r l) ?_) (blk1 m c t l)
  exact congrArg rs (funext fun k => blk0 m c t r k)

/-- The array the kernel leaves. -/
theorem arr2 : (dats (F := Ideal) m 0 c).arrAt 2 cfg0.N = nrm (aX m c) (aG m c) := by
  refine (dats (F := Ideal) m 0 c).arrAt_eq_of_covers 2 _ (by decide +kernel) fun t hf y => ?_
  blk_simp
  rw [after0_2]
  obtain ⟨r, l, rfl⟩ : ∃ (r : Fin 512) (l : Fin 1024), y = ix2 r l := ⟨y 0, y 1, eq_ix2 y⟩
  have e : ((View.whole main_v0).slice (win0_2.rect t)).emb (ix2 r l) = ix2 (pt t r) l := by
    unfold pt
    blk_ext [idx t]
  rw [e]
  unfold out0_2
  frame_out
  exact pay_at m c t r l

end

/-- The reference's result is the same. -/
theorem ref0 (X : S8192x1024.Idx → EReal) (p : S1x1024.Idx → EReal) : Cert.NormInReferenceIdeal.Read.val_main_v14 (F := Ideal) X p = nrm X p := by
  funext i
  obtain ⟨a, b, rfl⟩ : ∃ (a : Fin 8192) (b : Fin 1024), i = ix2 a b := ⟨i 0, i 1, eq_ix2 i⟩
  unfold nrm rs ms
  rw [← ofBits_N, ← ofBits_E]
  pointwise [Cert.NormInReferenceIdeal.Read.val_main_v0, Cert.NormInReferenceIdeal.Read.val_main_v1, Cert.NormInReferenceIdeal.Read.val_main_cst, Cert.NormInReferenceIdeal.Read.val_main_v2, Cert.NormInReferenceIdeal.Read.val_main_v3, Cert.NormInReferenceIdeal.Read.val_main_cst_0, Cert.NormInReferenceIdeal.Read.val_main_v4, Cert.NormInReferenceIdeal.Read.val_main_v5, Cert.NormInReferenceIdeal.Read.val_main_cst_1, Cert.NormInReferenceIdeal.Read.val_main_v6, Cert.NormInReferenceIdeal.Read.val_main_v7, Cert.NormInReferenceIdeal.Read.val_main_v8, Cert.NormInReferenceIdeal.Read.val_main_v9, Cert.NormInReferenceIdeal.Read.val_main_v10, Cert.NormInReferenceIdeal.Read.val_main_v11, Cert.NormInReferenceIdeal.Read.val_main_v12, Cert.NormInReferenceIdeal.Read.val_main_v13, Cert.NormInReferenceIdeal.Read.val_main_v14]
  try rfl

/-- The kernel runs, leaves its arguments as they were and its counters at zero. -/
theorem frame_K : Cert.quiescent_NormInKernel (hNormInKernel := Cert.NormInKernel.Gen.facts) := fun m ρ _ => Cert.NormInKernel.Gen.frame m ρ

/-- So does its idealized form. -/
theorem frame_KI : Cert.quiescent_NormInKernelIdeal (hNormInKernelIdeal := Cert.NormInKernelIdeal.Gen.facts) := fun m ρ _ => Cert.NormInKernelIdeal.Gen.frame m ρ

/-- So does the reference. -/
theorem frame_RI : Cert.quiescent_NormInReferenceIdeal (hNormInReferenceIdeal := Cert.NormInReferenceIdeal.Gen.facts) := fun m ρ _ =>
  (θ_run _ _ _).mono (fun r h => ⟨fun c => ((h c).2), sem_eq_zero_of_no_sems (by decide) r.2⟩) (Cert.NormInReferenceIdeal.Value.run m ρ)

/-- The idealization rewrites nothing. -/
theorem preserves : Cert.preserves_NormInKernel_NormInKernelIdeal := trivial

/-- The kernel and the reference leave the same arrays. -/
theorem algebraic : Cert.algebraic_NormInKernelIdeal_NormInReferenceIdeal (hNormInKernelIdeal := Cert.NormInKernelIdeal.Gen.facts)
    (hNormInReferenceIdeal := Cert.NormInReferenceIdeal.Gen.facts) := by
  intro m g m' g' hpre hag
  refine ⟨fun c => nrm (aX m c) (aG m c), ?_, ?_⟩
  · refine (θ_run _ _ _).mono (fun r h c => ?_) (Cert.NormInKernelIdeal.Value.run_blocks m g)
    obtain ⟨h0, hk⟩ := h c
    exact ⟨h0.trans (arr2 m c), hk⟩
  · refine (θ_run _ _ _).mono (fun r h c => ?_) (Cert.NormInReferenceIdeal.Value.run m' g')
    obtain ⟨e0, e1⟩ := hag c
    obtain ⟨h0, hk⟩ := h c
    refine ⟨h0.trans ?_, hk⟩
    · refine (Cert.NormInReferenceIdeal.Read.val_main_v14_eq (F := Ideal) _ _).trans ?_
      rw [e0, e1]
      exact ref0 _ _

end Cert.NormIn

end
-- ==== Proof.Pa.lean ====
/- The attention's branch projection. -/
module

public import proofs.«01_k».proof.Proof.Gen.PaKernel.Frame
public import proofs.«01_k».proof.Proof.Gen.PaKernelIdeal.Value
public import proofs.«01_k».proof.Proof.Gen.PaReferenceIdeal.Run
public import proofs.«01_k».proof.Proof.Gen.PaReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Pa

open Idealize.ShloMosaic Idealize.ShloMosaic.TcCoe Idealize.SL.Sem
open Cert.PaKernelIdeal Cert.PaKernelIdeal.Gen

/-- The product the kernel computes: each entry a sum over 512 terms. -/
def prod (A : S8192x512.Idx → EReal) (B : S512x1024.Idx → EReal) : S8192x1024.Idx → EReal := fun i =>
  ∑ k : Fin 512, A (ix2 (i 0) k) * B (ix2 k (i 1))

section

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

/-- The two arguments of the launch. -/
abbrev aA : S8192x512.Idx → EReal := m ((c : Thread nD τ).loc main_arg0)
abbrev aB : S512x1024.Idx → EReal := m ((c : Thread nD τ).loc main_arg1)

/-- The row of the result, its column and the summand's place that a point's row, column and place are. -/
def ptI (l : Fin 1024) : Fin 8192 := ⟨(t.val) * 1024 + l.val, by have := lt_of_lt_of_eq t.isLt (show cfg0.N = 8 from N_0); omega⟩
def ptJ (l : Fin 1024) : Fin 1024 := ⟨0 * 1024 + l.val, by have := lt_of_lt_of_eq t.isLt (show cfg0.N = 8 from N_0); omega⟩
def ptK (l : Fin 512) : Fin 512 := ⟨0 * 512 + l.val, by have := lt_of_lt_of_eq t.isLt (show cfg0.N = 8 from N_0); omega⟩

/-- The blocks a point reads, in the arguments. -/
theorem blk0 (k : Fin 1024) (l : Fin 512) : iblk (F := Ideal) m c 0 t (ix2 k l) = aA m c (ix2 (ptI t k) (ptK t l)) := by
  unfold ptI ptK
  blk_ext [iblk, V, idx t]

theorem blk1 (k : Fin 512) (l : Fin 1024) : iblk (F := Ideal) m c 1 t (ix2 k l) = aB m c (ix2 (ptK t k) (ptJ t l)) := by
  unfold ptJ ptK
  blk_ext [iblk, V, idx t]

/-- A point's block of the product. -/
theorem pay1_at (j : S1024x1024.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1024), j = ix2 a b := ⟨j 0, j 1, eq_ix2 j⟩
  unfold prod
  pointwise [k0_pay1]
  have e : ∀ k : Fin 512, ptK t k = k := fun k => Fin.ext (by show 0 * 512 + k.val = k.val; omega)
  refine Finset.sum_congr rfl fun k _ => ?_
  have h0 := blk0 m c t a k
  have h1 := blk1 m c t k b
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x512.Idx → EReal) (B : S512x1024.Idx → EReal) : Cert.PaReferenceIdeal.Read.val_main_v3 (F := Ideal) A B = prod A B := by
  funext i
  unfold prod Cert.PaReferenceIdeal.Read.val_main_v3 Cert.PaReferenceIdeal.Read.val_main_v2 Cert.PaReferenceIdeal.Read.val_main_v0 Cert.PaReferenceIdeal.Read.val_main_v1
  pointwise []
  all_goals rfl

end

/-- The kernel runs, leaves its arguments as they were and its counters at zero. -/
theorem frame_K : Cert.quiescent_PaKernel (hPaKernel := Cert.PaKernel.Gen.facts) := fun m ρ _ => Cert.PaKernel.Gen.frame m ρ

theorem frame_KI : Cert.quiescent_PaKernelIdeal (hPaKernelIdeal := Cert.PaKernelIdeal.Gen.facts) := fun m ρ _ => Cert.PaKernelIdeal.Gen.frame m ρ

theorem frame_RI : Cert.quiescent_PaReferenceIdeal (hPaReferenceIdeal := Cert.PaReferenceIdeal.Gen.facts) := fun m ρ _ =>
  (θ_run _ _ _).mono (fun r h => ⟨fun c => (h c).2, sem_eq_zero_of_no_sems (by decide) r.2⟩) (Cert.PaReferenceIdeal.Value.run m ρ)

/-- The idealization rewrites nothing. -/
theorem preserves : Cert.preserves_PaKernel_PaKernelIdeal := trivial

/-- The kernel and the reference leave the same array. -/
theorem algebraic : Cert.algebraic_PaKernelIdeal_PaReferenceIdeal (hPaKernelIdeal := Cert.PaKernelIdeal.Gen.facts)
    (hPaReferenceIdeal := Cert.PaReferenceIdeal.Gen.facts) := by
  intro m g m' g' hpre hag
  refine ⟨fun c => prod (aA m c) (aB m c), ?_, ?_⟩
  · refine (θ_run _ _ _).mono (fun r h c => ?_) (Cert.PaKernelIdeal.Value.run_blocks m g)
    obtain ⟨h2, hk⟩ := h c
    exact ⟨h2.trans (arr m c), hk⟩
  · refine (θ_run _ _ _).mono (fun r h c => ?_) (Cert.PaReferenceIdeal.Value.run m' g')
    obtain ⟨e0, e1⟩ := hag c
    obtain ⟨h2, hk⟩ := h c
    refine ⟨h2.trans ?_, hk⟩
    refine (Cert.PaReferenceIdeal.Read.val_main_v3_eq (F := Ideal) _ _).trans ?_
    rw [e0, e1]
    exact ref _ _

end Cert.Pa

end
-- ==== Proof.Pr.lean ====
/- The recurrence's branch projection. -/
module

public import proofs.«01_k».proof.Proof.Gen.PrKernel.Frame
public import proofs.«01_k».proof.Proof.Gen.PrKernelIdeal.Value
public import proofs.«01_k».proof.Proof.Gen.PrReferenceIdeal.Run
public import proofs.«01_k».proof.Proof.Gen.PrReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Pr

open Idealize.ShloMosaic Idealize.ShloMosaic.TcCoe Idealize.SL.Sem
open Cert.PrKernelIdeal Cert.PrKernelIdeal.Gen

/-- The product the kernel computes: each entry a sum over 1280 terms. -/
def prod (A : S8192x1280.Idx → EReal) (B : S1280x1024.Idx → EReal) : S8192x1024.Idx → EReal := fun i =>
  ∑ k : Fin 1280, A (ix2 (i 0) k) * B (ix2 k (i 1))

section

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

/-- The two arguments of the launch. -/
abbrev aA : S8192x1280.Idx → EReal := m ((c : Thread nD τ).loc main_arg0)
abbrev aB : S1280x1024.Idx → EReal := m ((c : Thread nD τ).loc main_arg1)

/-- The row of the result, its column and the summand's place that a point's row, column and place are. -/
def ptI (l : Fin 1024) : Fin 8192 := ⟨(t.val) * 1024 + l.val, by have := lt_of_lt_of_eq t.isLt (show cfg0.N = 8 from N_0); omega⟩
def ptJ (l : Fin 1024) : Fin 1024 := ⟨0 * 1024 + l.val, by have := lt_of_lt_of_eq t.isLt (show cfg0.N = 8 from N_0); omega⟩
def ptK (l : Fin 1280) : Fin 1280 := ⟨0 * 1280 + l.val, by have := lt_of_lt_of_eq t.isLt (show cfg0.N = 8 from N_0); omega⟩

/-- The blocks a point reads, in the arguments. -/
theorem blk0 (k : Fin 1024) (l : Fin 1280) : iblk (F := Ideal) m c 0 t (ix2 k l) = aA m c (ix2 (ptI t k) (ptK t l)) := by
  unfold ptI ptK
  blk_ext [iblk, V, idx t]

theorem blk1 (k : Fin 1280) (l : Fin 1024) : iblk (F := Ideal) m c 1 t (ix2 k l) = aB m c (ix2 (ptK t k) (ptJ t l)) := by
  unfold ptJ ptK
  blk_ext [iblk, V, idx t]

/-- A point's block of the product. -/
theorem pay1_at (j : S1024x1024.Idx) : k0_pay1 (F := Ideal) (iblk m c 0 t) (iblk m c 1 t) j = prod (aA m c) (aB m c) (ix2 (ptI t (j 0)) (ptJ t (j 1))) := by
  obtain ⟨a, b, rfl⟩ : ∃ (a : Fin 1024) (b : Fin 1024), j = ix2 a b := ⟨j 0, j 1, eq_ix2 j⟩
  unfold prod
  pointwise [k0_pay1]
  have e : ∀ k : Fin 1280, ptK t k = k := fun k => Fin.ext (by show 0 * 1280 + k.val = k.val; omega)
  refine Finset.sum_congr rfl fun k _ => ?_
  have h0 := blk0 m c t a k
  have h1 := blk1 m c t k b
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold out0_2
  frame_out
  refine (pay1_at m c t y).trans (congrArg _ ?_)
  unfold ptI ptJ
  blk_ext [idx t]

/-- The reference's array is the same product. -/
theorem ref (A : S8192x1280.Idx → EReal) (B : S1280x1024.Idx → EReal) : Cert.PrReferenceIdeal.Read.val_main_v3 (F := Ideal) A B = prod A B := by
  funext i
  unfold prod Cert.PrReferenceIdeal.Read.val_main_v3 Cert.PrReferenceIdeal.Read.val_main_v2 Cert.PrReferenceIdeal.Read.val_main_v0 Cert.PrReferenceIdeal.Read.val_main_v1
  pointwise []
  all_goals rfl

end

/-- The kernel runs, leaves its arguments as they were and its counters at zero. -/
theorem frame_K : Cert.quiescent_PrKernel (hPrKernel := Cert.PrKernel.Gen.facts) := fun m ρ _ => Cert.PrKernel.Gen.frame m ρ

theorem frame_KI : Cert.quiescent_PrKernelIdeal (hPrKernelIdeal := Cert.PrKernelIdeal.Gen.facts) := fun m ρ _ => Cert.PrKernelIdeal.Gen.frame m ρ

theorem frame_RI : Cert.quiescent_PrReferenceIdeal (hPrReferenceIdeal := Cert.PrReferenceIdeal.Gen.facts) := fun m ρ _ =>
  (θ_run _ _ _).mono (fun r h => ⟨fun c => (h c).2, sem_eq_zero_of_no_sems (by decide) r.2⟩) (Cert.PrReferenceIdeal.Value.run m ρ)

/-- The idealization rewrites nothing. -/
theorem preserves : Cert.preserves_PrKernel_PrKernelIdeal := trivial

/-- The kernel and the reference leave the same array. -/
theorem algebraic : Cert.algebraic_PrKernelIdeal_PrReferenceIdeal (hPrKernelIdeal := Cert.PrKernelIdeal.Gen.facts)
    (hPrReferenceIdeal := Cert.PrReferenceIdeal.Gen.facts) := by
  intro m g m' g' hpre hag
  refine ⟨fun c => prod (aA m c) (aB m c), ?_, ?_⟩
  · refine (θ_run _ _ _).mono (fun r h c => ?_) (Cert.PrKernelIdeal.Value.run_blocks m g)
    obtain ⟨h2, hk⟩ := h c
    exact ⟨h2.trans (arr m c), hk⟩
  · refine (θ_run _ _ _).mono (fun r h c => ?_) (Cert.PrReferenceIdeal.Value.run m' g')
    obtain ⟨e0, e1⟩ := hag c
    obtain ⟨h2, hk⟩ := h c
    refine ⟨h2.trans ?_, hk⟩
    refine (Cert.PrReferenceIdeal.Read.val_main_v3_eq (F := Ideal) _ _).trans ?_
    rw [e0, e1]
    exact ref _ _

end Cert.Pr

end
-- ==== Proof.Proj.lean ====
/- The recurrence's and the attention's columns of the input projection. -/
module

public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Proj

open Idealize.ShloMosaic Idealize.ShloMosaic.TcCoe Idealize.SL.Sem
open Cert.ProjKernelIdeal Cert.ProjKernelIdeal.Gen

/-- A column of the wide array's first part, in the wide array. -/
def shift (l : Fin 3840) : Fin 5888 := ⟨l.val, by omega⟩

/-- The product the kernel computes: each entry a sum over 1024 terms. -/
def prod (A : S8192x1024.Idx → EReal) (B : S1024x5888.Idx → EReal) : S8192x3840.Idx → EReal := fun i =>
  ∑ k : Fin 1024, A (ix2 (i 0) k) * B (ix2 k (shift (i 1)))

section

variable (m : (ℓ : Loc nD τ sig) → Buf (Elt Ideal) ℓ)

/-- The windows' block indices at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

variable (c : Dev nD) (t : Fin cfg0.N)

/-- The two arguments of the launch. -/
abbrev aA : S8192x1024.Idx → EReal := m ((c : Thread nD τ).loc main_arg0)
abbrev aB : S1024x5888.Idx → EReal := m ((c : Thread nD τ).loc main_arg1)

/-- The row of the result, its column and the summand's place that a point's row, column and place are. -/
def ptI (l : Fin 1024) : Fin 8192 := ⟨(t.val % 8) * 1024 + l.val, by have := lt_of_lt_of_eq t.isLt (show cfg0.N = 16 from N_0); omega⟩
def ptJ (l : Fin 1920) : Fin 3840 := ⟨(t.val / 8) * 1920 + l.val, by have := lt_of_lt_of_eq t.isLt (show cfg0.N = 16 from N_0); omega⟩
def ptK (l : Fin 1024) : Fin 1024 := ⟨0 * 1024 + l.val, by have := lt_of_lt_of_eq t.isLt (show cfg0.N = 16 from N_0); omega⟩

/-- The blocks a point reads, in the arguments. -/
theorem blk0 (k : Fin 1024) (l : Fin 1024) : iblk (F := Ideal) m c 0 t (ix2 k l) = aA m c (ix2 (ptI t k) (ptK t l)) := by
  unfold ptI ptK
  blk_ext [iblk, V, idx t]

theorem blk1 (k : Fin 1024) (l : Fin 1920) : X0_1 (F := Ideal) m c t (ix2 k l) = aB m c (ix2 (ptK t k) (shift (ptJ t l))) := by
  unfold shift ptJ ptK
  unfold X0_1 Pipeline.Window.fill
  rw [dif_pos (moved0_1 t _)]
  blk_ext [iblk, V, idx t]

/-- A point's block of the product. -/
theorem pay1_at (j : S1024x1920.Idx) : k0_pay1 (F := Ideal) (iblk m c 0 t) (X0_1 m c t) j = prod (aA m c) (aB m c) (ix2 (ptI t (j 0)) (ptJ t (j 1))) := by
  obtain ⟨a, b, rfl⟩ : ∃ (a : Fin 1024) (b : Fin 1920), j = ix2 a b := ⟨j 0, j 1, eq_ix2 j⟩
  unfold prod
  pointwise [k0_pay1]
  have e : ∀ k : Fin 1024, ptK t k = k := fun k => Fin.ext (by show 0 * 1024 + k.val = k.val; omega)
  refine Finset.sum_congr rfl fun k _ => ?_
  have h0 := blk0 m c t a k
  have h1 := blk1 m c t k b
  rw [e] at h0 h1
  exact congrArg₂ (· * ·) h0 h1

/-- The result after the run. -/
theorem arr : (dats (F := Ideal) m 0 c).arrAt 2 cfg0.N = prod (aA m c) (aB m c) := by
  refine (dats (F := Ideal) m 0 c).arrAt_eq_of_covers 2 _ (by decide +kernel) fun t hf y => ?_
  blk_simp
  rw [after0_2]
  unfold outsAt0
  frame_out
  refine (pay1_at m c t y).trans (congrArg _ ?_)
  unfold ptI ptJ
  blk_ext [idx t]

/-- The reference's array is the same product. -/
theorem ref (A : S8192x1024.Idx → EReal) (B : S1024x5888.Idx → EReal) : Cert.ProjReferenceIdeal.Read.val_main_v3 (F := Ideal) A B = prod A B := by
  funext i
  unfold prod Cert.ProjReferenceIdeal.Read.val_main_v3 Cert.ProjReferenceIdeal.Read.val_main_v1 Cert.ProjReferenceIdeal.Read.val_main_v2 Cert.ProjReferenceIdeal.Read.val_main_v0
  pointwise []
  all_goals rfl

end

/-- The kernel runs, leaves its arguments as they were and its counters at zero. -/
theorem frame_K : Cert.quiescent_ProjKernel (hProjKernel := Cert.ProjKernel.Gen.facts) := fun m ρ _ => Cert.ProjKernel.Gen.frame m ρ

theorem frame_KI : Cert.quiescent_ProjKernelIdeal (hProjKernelIdeal := Cert.ProjKernelIdeal.Gen.facts) := fun m ρ _ => Cert.ProjKernelIdeal.Gen.frame m ρ

theorem frame_RI : Cert.quiescent_ProjReferenceIdeal (hProjReferenceIdeal := Cert.ProjReferenceIdeal.Gen.facts) := fun m ρ _ =>
  (θ_run _ _ _).mono (fun r h => ⟨fun c => (h c).2, sem_eq_zero_of_no_sems (by decide) r.2⟩) (Cert.ProjReferenceIdeal.Value.run m ρ)

/-- The idealization rewrites nothing. -/
theorem preserves : Cert.preserves_ProjKernel_ProjKernelIdeal := trivial

/-- The kernel and the reference leave the same array. -/
theorem algebraic : Cert.algebraic_ProjKernelIdeal_ProjReferenceIdeal (hProjKernelIdeal := Cert.ProjKernelIdeal.Gen.facts)
    (hProjReferenceIdeal := Cert.ProjReferenceIdeal.Gen.facts) := by
  intro m g m' g' hpre hag
  refine ⟨fun c => prod (aA m c) (aB m c), ?_, ?_⟩
  · refine (θ_run _ _ _).mono (fun r h c => ?_) (Cert.ProjKernelIdeal.Value.run_blocks m g)
    obtain ⟨h2, hk⟩ := h c
    exact ⟨h2.trans (arr m c), hk⟩
  · refine (θ_run _ _ _).mono (fun r h c => ?_) (Cert.ProjReferenceIdeal.Value.run m' g')
    obtain ⟨e0, e1⟩ := hag c
    obtain ⟨h2, hk⟩ := h c
    refine ⟨h2.trans ?_, hk⟩
    refine (Cert.ProjReferenceIdeal.Read.val_main_v3_eq (F := Ideal) _ _).trans ?_
    rw [e0, e1]
    exact ref _ _

end Cert.Proj

end
-- ==== Proof.RnnBwd.lean ====
/- The recurrence's backward pass: its frames. -/
module

public import proofs.«01_k».proof.Proof.Gen.RnnBwdKernel.Frame
public import proofs.«01_k».proof.Proof.Gen.RnnBwdKernelIdeal.Frame
public import proofs.«01_k».proof.Defs

@[expose] public section

noncomputable section

namespace Cert.RnnBwd

theorem frame_K : Cert.quiescent_RnnBwdKernel (hRnnBwdKernel := Cert.RnnBwdKernel.Gen.facts) := fun m ρ _ => Cert.RnnBwdKernel.Gen.frame m ρ

theorem frame_KI : Cert.quiescent_RnnBwdKernelIdeal (hRnnBwdKernelIdeal := Cert.RnnBwdKernelIdeal.Gen.facts) := fun m ρ _ => Cert.RnnBwdKernelIdeal.Gen.frame m ρ

theorem preserves : Cert.preserves_RnnBwdKernel_RnnBwdKernelIdeal := trivial

end Cert.RnnBwd

end
-- ==== Proof.RnnFwd.lean ====
/- The recurrence's forward pass: its frames. -/
module

public import proofs.«01_k».proof.Proof.Gen.RnnFwdKernel.Frame
public import proofs.«01_k».proof.Proof.Gen.RnnFwdKernelIdeal.Frame
public import proofs.«01_k».proof.Defs

@[expose] public section

noncomputable section

namespace Cert.RnnFwd

theorem frame_K : Cert.quiescent_RnnFwdKernel (hRnnFwdKernel := Cert.RnnFwdKernel.Gen.facts) := fun m ρ _ => Cert.RnnFwdKernel.Gen.frame m ρ

theorem frame_KI : Cert.quiescent_RnnFwdKernelIdeal (hRnnFwdKernelIdeal := Cert.RnnFwdKernelIdeal.Gen.facts) := fun m ρ _ => Cert.RnnFwdKernelIdeal.Gen.frame m ρ

theorem preserves : Cert.preserves_RnnFwdKernel_RnnFwdKernelIdeal := trivial

end Cert.RnnFwd

end
-- ==== Proof.Block.lean ====
/- What one grid point of the kernel computes, element by element. -/
module

public import proofs.«01_k».proof.Proof.Gen.KernelIdeal.Skeleton
public import Idealize.ShloMosaic.Lib.Pointwise
public import proofs.«01_k».proof.Proof.Conv

@[expose] public section

set_option maxRecDepth 16384

noncomputable section

namespace Cert.Ffn

open Idealize.ShloMosaic Idealize.ShloMosaic.TcCoe Idealize.SL.Sem
open Cert.KernelIdeal Cert.KernelIdeal.Gen

/-- Column `l` of a block of one sequence. -/
abbrev col {φ : EltTy} (x : S2048x256.Idx → Elt Ideal φ) (l : Fin 256) : Fin 2048 → Elt Ideal φ := fun r => x (ix2 r l)

theorem ofBits_inf : Ideal.ofBits .bf16 0x7F80#16 = ⊤ := by simp [Ideal.ofBits, Ideal.ieee]

theorem ofBits_half : Ideal.ofBits .f32 1056964608#32 = (half : EReal) := by
  unfold half
  simp [Ideal.ofBits, Ideal.ieee, -EReal.coe_mul]
  norm_num

theorem ofBits_gC : Ideal.ofBits .f32 1061962282#32 = (gC : EReal) := by
  unfold gC
  simp [Ideal.ofBits, Ideal.ieee, -EReal.coe_mul]
  norm_num

theorem ofBits_gA : Ideal.ofBits .f32 0x3D372713#32 = (gA : EReal) := by
  unfold gA
  simp [Ideal.ofBits, Ideal.ieee, -EReal.coe_mul]
  norm_num

theorem ofBits_three : Ideal.ofBits .f32 0x40400000#32 = ((3 : ℝ) : EReal) := by
  simp [Ideal.ofBits, Ideal.ieee, -EReal.coe_mul]
  norm_num

/-- The kernel's first named literal is the product of the two coefficients. -/
theorem named_ca : (Named.named κ "ca" (0x3D122279#32 : BitVec FTy.f32.bits) : Ideal .f32) = ((gCA : ℝ) : EReal) := by
  refine (IdealRules.named_const.ideal_named_scalar _ _ _ _ rfl).trans ?_
  unfold gCA gC gA
  norm_num

/-- The kernel's second named literal is three times that product. -/
theorem named_ca3 : (Named.named κ "ca3" (0x3DDB33B6#32 : BitVec FTy.f32.bits) : Ideal .f32) = ((gCA3 : ℝ) : EReal) := by
  refine (IdealRules.named_const.ideal_named_scalar _ _ _ _ rfl).trans ?_
  unfold gCA3 gC gA
  norm_num

section

variable (v1 : Vec Ideal S2048x256 .bf16) (v3 v4 v18 v31 : Vec Ideal S1x256 .f32)

/-- The block's gate before the GELU is the causal convolution. -/
theorem gate_at (r : Fin 2048) (l : Fin 256) :
    k0_pay8 (F := Ideal) v1 v3 v4 v18 v31 (ix2 r l) =
      gate (v4 (ix2 0 l)) (v18 (ix2 0 l)) (v31 (ix2 0 l)) (v3 (ix2 0 l)) (fun s => v1 (ix2 s l)) r := by
  pointwise [k0_pay8, k0_pay7]
  refine congrArg₂ (· + ·) (congrArg₂ (· + ·) (congrArg₂ (· + ·) rfl (congrArg₂ (· * ·) rfl ?_)) (congrArg₂ (· * ·) rfl ?_)) rfl
  · exact dn_eq (fun s => v1 (ix2 s l)) 2 (by omega) (by omega) r (fun n => (n + 2048 - 2) % 2048) (fun _ => rfl)
      (Nat.mod_lt _ (by omega)) (Nat.mod_lt _ (by omega))
  · exact dn_eq (fun s => v1 (ix2 s l)) 1 (by omega) (by omega) r (fun n => (n + 2048 - 1) % 2048) (fun _ => rfl)
      (Nat.mod_lt _ (by omega)) (Nat.mod_lt _ (by omega))

/-- The square of the gate, and the tanh argument's factor. -/
theorem arg_at (r : Fin 2048) (l : Fin 256) :
    k0_pay10 (F := Ideal) v1 v3 v4 v18 v31 (ix2 r l) = (gC : EReal) + (gCA : EReal) *
      (k0_pay8 (F := Ideal) v1 v3 v4 v18 v31 (ix2 r l) * k0_pay8 (F := Ideal) v1 v3 v4 v18 v31 (ix2 r l)) := by
  pointwise [k0_pay10, k0_pay9]
  rw [named_ca, ofBits_gC]

/-- The block's gradient of the up projection. -/
theorem du_at (v58 : Vec Ideal S2048x256 .bf16) (r : Fin 2048) (l : Fin 256) :
    k0_pay14 (F := Ideal) (k0_pay8 v1 v3 v4 v18 v31) (k0_pay10 v1 v3 v4 v18 v31) v58 (ix2 r l) =
      du (v4 (ix2 0 l)) (v18 (ix2 0 l)) (v31 (ix2 0 l)) (v3 (ix2 0 l)) (fun s => v1 (ix2 s l)) (fun s => v58 (ix2 s l)) r := by
  pointwise [k0_pay14, k0_pay12, k0_pay11, k0_pay13]
  rw [arg_at, gate_at, ofBits_half]
  rfl

/-- The block's gradient of the gate before the GELU. -/
theorem dgate_at (v58 v63 : Vec Ideal S2048x256 .bf16) (r : Fin 2048) (l : Fin 256) :
    k0_pay15 (F := Ideal) (k0_pay8 v1 v3 v4 v18 v31) (k0_pay9 v1 v3 v4 v18 v31) (k0_pay10 v1 v3 v4 v18 v31) v58 v63 (ix2 r l) =
      dgate (v4 (ix2 0 l)) (v18 (ix2 0 l)) (v31 (ix2 0 l)) (v3 (ix2 0 l)) (fun s => v1 (ix2 s l)) (fun s => v63 (ix2 s l))
        (fun s => v58 (ix2 s l)) r := by
  pointwise [k0_pay15, k0_pay12, k0_pay11, k0_pay13, k0_pay9]
  rw [arg_at, gate_at, ofBits_half, ofBits_gC, named_ca3]
  rfl

end

/-- The block's gradient of the gate projection. -/
theorem dx_at (v34 v35 v39 : FVec Ideal S2048x256 .f32) (v58 v63 : Vec Ideal S2048x256 .bf16) (v68 v93 v118 : Vec Ideal S1x256 .f32)
    (r : Fin 2048) (l : Fin 256) :
    k0_pay2 (F := Ideal) (k0_pay19 (iota .tc S2048x256 32 [0] iota_S2048x256_d0_w32) (k0_pay15 v34 v35 v39 v58 v63)
        (k0_pay16 (iota .tc S2048x256 32 [0] iota_S2048x256_d0_w32) v34 v35 v39 v58 v63 v68) v93 v118) (ix2 r l) =
      dx (v68 (ix2 0 l)) (v93 (ix2 0 l)) (v118 (ix2 0 l)) (fun s => k0_pay15 (F := Ideal) v34 v35 v39 v58 v63 (ix2 s l)) r := by
  pointwise [k0_pay2, k0_pay19, k0_pay16]
  refine congrArg₂ (· + ·) (congrArg₂ (· + ·) (congrArg₂ (· * ·) rfl ?_) (congrArg₂ (· * ·) rfl ?_)) rfl
  · exact up_eq (fun s => k0_pay15 (F := Ideal) v34 v35 v39 v58 v63 (ix2 s l)) 2 (by omega) (by omega) r (fun n => (n + 2048 - 2046) % 2048)
      (fun _ => rfl) (Nat.mod_lt _ (by omega)) (Nat.mod_lt _ (by omega))
  · exact up_eq (fun s => k0_pay15 (F := Ideal) v34 v35 v39 v58 v63 (ix2 s l)) 1 (by omega) (by omega) r (fun n => (n + 2048 - 2047) % 2048)
      (fun _ => rfl) (Nat.mod_lt _ (by omega)) (Nat.mod_lt _ (by omega))

section

variable (v66 v2 : FVec Ideal S2048x256 .f32) (l : Fin 256)

/-- The block's gradient of the tap two positions back. -/
theorem dw2_at : k0_pay17 (F := Ideal) (iota .tc S2048x256 32 [0] iota_S2048x256_d0_w32) v2 v66 (ix2 0 l) =
    dw (fun r => v66 (ix2 r l)) (fun r => v2 (ix2 r l)) 2 := by
  pointwise [k0_pay17]
  exact dw_eq (fun r => v66 (ix2 r l)) (fun r => v2 (ix2 r l)) 2 (by omega) (by omega) (fun n => (n + 2048 - 2) % 2048) (fun _ => rfl) _ _ _ _

/-- The block's gradient of the tap one position back. -/
theorem dw1_at : k0_pay18 (F := Ideal) (iota .tc S2048x256 32 [0] iota_S2048x256_d0_w32) v2 v66 (ix2 0 l) =
    dw (fun r => v66 (ix2 r l)) (fun r => v2 (ix2 r l)) 1 := by
  pointwise [k0_pay18]
  exact dw_eq (fun r => v66 (ix2 r l)) (fun r => v2 (ix2 r l)) 1 (by omega) (by omega) (fun n => (n + 2048 - 1) % 2048) (fun _ => rfl) _ _ _ _

/-- The block's gradient of the tap at the position itself. -/
theorem dw0_at : k0_pay20 (F := Ideal) v2 v66 (ix2 0 l) = dw (fun r => v66 (ix2 r l)) (fun r => v2 (ix2 r l)) 0 := by
  pointwise [k0_pay20]
  exact Finset.sum_congr rfl fun r _ => congrArg₂ (· * ·) rfl (dn_zero (fun r => v2 (ix2 r l)) r).symm

/-- The block's gradient of the bias. -/
theorem db_at : k0_pay1 (F := Ideal) v66 (ix2 0 l) = ∑ r, v66 (ix2 r l) := by
  pointwise [k0_pay1]

end

end Cert.Ffn

end
-- ==== Proof.Arrays.lean ====
/- The kernel's four result arrays after its run, as functions of its five arguments. -/
module

public import proofs.«01_k».proof.Proof.Gen.KernelIdeal.Value
public import Idealize.ShloMosaic.Lib.Pipeline.ValueKit
public import proofs.«01_k».proof.Proof.Block

@[expose] public section

set_option maxRecDepth 16384

noncomputable section

namespace Cert.Ffn

open Idealize.ShloMosaic Idealize.ShloMosaic.TcCoe Idealize.SL.Sem
open Cert.KernelIdeal Cert.KernelIdeal.Gen

/-- Sequence `b` of channel `C` of an array of four sequences. -/
def seqOf (X : S8192x3072.Idx → EReal) (b : Fin 4) (C : Fin 3072) : Fin 2048 → EReal :=
  fun s => X (ix2 ⟨b.val * 2048 + s.val, by omega⟩ C)

section

variable (X U D : S8192x3072.Idx → EReal) (W : S3x3072.Idx → EReal) (B : S1x3072.Idx → EReal)

/-- The gradient of the gate before the GELU, for sequence `b` of channel `C`. -/
def gSeq (b : Fin 4) (C : Fin 3072) : Fin 2048 → EReal :=
  dgate (W (ix2 0 C)) (W (ix2 1 C)) (W (ix2 2 C)) (B (ix2 0 C)) (seqOf X b C) (seqOf U b C) (seqOf D b C)

/-- The sequence of a row. -/
def rowSeq (i : S8192x3072.Idx) : Fin 4 := ⟨(i 0).val / 2048, by have := (i 0).isLt; change _ < 8192 at this; omega⟩
/-- The position of a row in its sequence. -/
def rowPos (i : S8192x3072.Idx) : Fin 2048 := ⟨(i 0).val % 2048, by omega⟩

/-- The gradient of the gate projection. -/
def arrDx : S8192x3072.Idx → EReal := fun i =>
  dx (W (ix2 0 (i 1))) (W (ix2 1 (i 1))) (W (ix2 2 (i 1))) (gSeq X U D W B (rowSeq i) (i 1)) (rowPos i)

/-- The gradient of the up projection. -/
def arrDu : S8192x3072.Idx → EReal := fun i =>
  du (W (ix2 0 (i 1))) (W (ix2 1 (i 1))) (W (ix2 2 (i 1))) (B (ix2 0 (i 1))) (seqOf X (rowSeq i) (i 1)) (seqOf D (rowSeq i) (i 1)) (rowPos i)

theorem rowSeq_at (b : Fin 4) (r : Fin 2048) (C : Fin 3072) : rowSeq (ix2 ⟨b.val * 2048 + r.val, by omega⟩ C) = b := by
  ext
  show (b.val * 2048 + r.val) / 2048 = b.val
  omega

theorem rowPos_at (b : Fin 4) (r : Fin 2048) (C : Fin 3072) : rowPos (ix2 ⟨b.val * 2048 + r.val, by omega⟩ C) = r := by
  ext
  show (b.val * 2048 + r.val) % 2048 = r.val
  omega

theorem arrDx_at (b : Fin 4) (r : Fin 2048) (C : Fin 3072) : arrDx X U D W B (ix2 ⟨b.val * 2048 + r.val, by omega⟩ C) =
    dx (W (ix2 0 C)) (W (ix2 1 C)) (W (ix2 2 C)) (gSeq X U D W B b C) r := by
  show dx (W (ix2 0 C)) (W (ix2 1 C)) (W (ix2 2 C)) (gSeq X U D W B (rowSeq (ix2 _ C)) C) (rowPos (ix2 _ C)) = _
  rw [rowSeq_at, rowPos_at]

theorem arrDu_at (b : Fin 4) (r : Fin 2048) (C : Fin 3072) : arrDu X D W B (ix2 ⟨b.val * 2048 + r.val, by omega⟩ C) =
    du (W (ix2 0 C)) (W (ix2 1 C)) (W (ix2 2 C)) (B (ix2 0 C)) (seqOf X b C) (seqOf D b C) r := by
  show du (W (ix2 0 C)) (W (ix2 1 C)) (W (ix2 2 C)) (B (ix2 0 C)) (seqOf X (rowSeq (ix2 _ C)) C) (seqOf D (rowSeq (ix2 _ C)) C) (rowPos (ix2 _ C)) = _
  rw [rowSeq_at, rowPos_at]

/-- The gradient of the convolution's taps, summed over the sequences. -/
def arrDw : S3x3072.Idx → EReal := fun i =>
  ∑ b : Fin 4, dw (gSeq X U D W B b (i 1)) (seqOf X b (i 1)) (2 - (i 0).val)

/-- The gradient of the convolution's bias, summed over the sequences. -/
def arrDb : S1x3072.Idx → EReal := fun i => ∑ b : Fin 4, ∑ t, gSeq X U D W B b (i 1) t

end

variable (m : (ℓ : Loc nD τ sig) → Buf (Elt Ideal) ℓ) (ρ : Dev nD → PrngReg)

/-- The block each grid point of each window works on: point `t` works on sequence `t % 4` of the channels' tile `t / 4`. -/
theorem idx : ∀ t : Fin cfg0.N, win0_0.index t = ![t.val % 4, t.val / 4] ∧ win0_1.index t = ![t.val % 4, t.val / 4] ∧
    win0_2.index t = ![0, t.val / 4] ∧ win0_3.index t = ![0, t.val / 4] ∧ win0_4.index t = ![t.val % 4, t.val / 4] ∧
    win0_5.index t = ![t.val % 4, t.val / 4] ∧ win0_6.index t = ![t.val % 4, t.val / 4] ∧
    win0_7.index t = ![0, t.val / 4] ∧ win0_8.index t = ![0, t.val / 4] :=
  (by decide +kernel : ∀ t : Fin grid0.N, _)

/-- The sequence of a grid point. -/
def ptSeq (t : Fin cfg0.N) : Fin 4 := ⟨t.val % 4, by omega⟩
/-- The channel of lane `l` at a grid point. -/
def ptCh (t : Fin cfg0.N) (l : Fin 256) : Fin 3072 := ⟨t.val / 4 * 256 + l.val, by have := lt_of_lt_of_eq t.isLt (show cfg0.N = 48 from N_0); omega⟩

variable (c : Dev nD) (t : Fin cfg0.N) (l : Fin 256)

theorem seq0 : (fun s : Fin 2048 => iblk (F := Ideal) m c 0 t (ix2 s l)) = seqOf (m ((c : Thread nD τ).loc main_arg0)) (ptSeq t) (ptCh t l) := by
  funext s
  unfold seqOf ptSeq ptCh
  blk_ext [iblk, V, idx t]

theorem seq1 : (fun s : Fin 2048 => iblk (F := Ideal) m c 1 t (ix2 s l)) = seqOf (m ((c : Thread nD τ).loc main_arg1)) (ptSeq t) (ptCh t l) := by
  funext s
  unfold seqOf ptSeq ptCh
  blk_ext [iblk, V, idx t]

theorem seq4 : (fun s : Fin 2048 => iblk (F := Ideal) m c 4 t (ix2 s l)) = seqOf (m ((c : Thread nD τ).loc main_arg4)) (ptSeq t) (ptCh t l) := by
  funext s
  unfold seqOf ptSeq ptCh
  blk_ext [iblk, V, idx t]

theorem row2 (k : Fin 3) : iblk (F := Ideal) m c 2 t (ix2 k l) = m ((c : Thread nD τ).loc main_arg2) (ix2 k (ptCh t l)) := by
  unfold ptCh
  blk_ext [iblk, V, idx t]

theorem row3 : iblk (F := Ideal) m c 3 t (ix2 0 l) = m ((c : Thread nD τ).loc main_arg3) (ix2 0 (ptCh t l)) := by
  unfold ptCh
  blk_ext [iblk, V, idx t]

/-- The taps' rows as the body loads them, one at a time. -/
abbrev w0 : Vec Ideal S1x256 .f32 := View.ld (iblk (F := Ideal) m c 2 t) (Rect.unit ![0, 0] ![1, 256] inb_S3x256_S1x256_0_0)
abbrev w1 : Vec Ideal S1x256 .f32 := View.ld (iblk (F := Ideal) m c 2 t) (Rect.unit ![1, 0] ![1, 256] inb_S3x256_S1x256_1_0)
abbrev w2 : Vec Ideal S1x256 .f32 := View.ld (iblk (F := Ideal) m c 2 t) (Rect.unit ![2, 0] ![1, 256] inb_S3x256_S1x256_2_0)

theorem w0_at : w0 m c t (ix2 0 l) = m ((c : Thread nD τ).loc main_arg2) (ix2 0 (ptCh t l)) := by
  refine Eq.trans ?_ (row2 m c t l 0)
  exact View.ld_unit_apply_of _ _ _ _ _ (ix2 0 l) (fun a => by fin_cases a <;> simp)
theorem w1_at : w1 m c t (ix2 0 l) = m ((c : Thread nD τ).loc main_arg2) (ix2 1 (ptCh t l)) := by
  refine Eq.trans ?_ (row2 m c t l 1)
  exact View.ld_unit_apply_of _ _ _ _ _ (ix2 1 l) (fun a => by fin_cases a <;> simp)
theorem w2_at : w2 m c t (ix2 0 l) = m ((c : Thread nD τ).loc main_arg2) (ix2 2 (ptCh t l)) := by
  refine Eq.trans ?_ (row2 m c t l 2)
  exact View.ld_unit_apply_of _ _ _ _ _ (ix2 2 l) (fun a => by fin_cases a <;> simp)

/-- The gate, its square and the tanh argument's factor at a grid point, and the gate's gradient there. -/
abbrev b8 : FVec Ideal S2048x256 .f32 := k0_pay8 (iblk m c 0 t) (iblk m c 3 t) (w0 m c t) (w1 m c t) (w2 m c t)
abbrev b9 : FVec Ideal S2048x256 .f32 := k0_pay9 (iblk m c 0 t) (iblk m c 3 t) (w0 m c t) (w1 m c t) (w2 m c t)
abbrev b10 : FVec Ideal S2048x256 .f32 := k0_pay10 (iblk m c 0 t) (iblk m c 3 t) (w0 m c t) (w1 m c t) (w2 m c t)
abbrev bG : FVec Ideal S2048x256 .f32 := k0_pay15 (b8 m c t) (b9 m c t) (b10 m c t) (iblk m c 4 t) (iblk m c 1 t)

/-- The arguments of the launch, as arrays of extended reals. -/
abbrev aX : S8192x3072.Idx → EReal := m ((c : Thread nD τ).loc main_arg0)
abbrev aU : S8192x3072.Idx → EReal := m ((c : Thread nD τ).loc main_arg1)
abbrev aW : S3x3072.Idx → EReal := m ((c : Thread nD τ).loc main_arg2)
abbrev aB : S1x3072.Idx → EReal := m ((c : Thread nD τ).loc main_arg3)
abbrev aD : S8192x3072.Idx → EReal := m ((c : Thread nD τ).loc main_arg4)
abbrev aG : Fin 4 → Fin 3072 → Fin 2048 → EReal := gSeq (aX m c) (aU m c) (aD m c) (aW m c) (aB m c)

/-- The gate's gradient at a grid point is the sequence's. -/
theorem bG_at (r : Fin 2048) : bG m c t (ix2 r l) = aG m c (ptSeq t) (ptCh t l) r := by
  refine (dgate_at _ _ _ _ _ _ _ r l).trans ?_
  rw [seq0, seq1, seq4, row3, w0_at, w1_at, w2_at]
  rfl

theorem bG_seq : (fun r : Fin 2048 => bG m c t (ix2 r l)) = aG m c (ptSeq t) (ptCh t l) := funext fun r => bG_at m c t l r

theorem pt6 (r : Fin 2048) : k0_pay14 (F := Ideal) (b8 m c t) (b10 m c t) (iblk m c 4 t) (ix2 r l) =
    arrDu (aX m c) (aD m c) (aW m c) (aB m c) (ix2 ⟨(ptSeq t).val * 2048 + r.val, by omega⟩ (ptCh t l)) := by
  rw [arrDu_at]
  refine (du_at _ _ _ _ _ _ r l).trans ?_
  rw [seq0, seq4, row3, w0_at, w1_at, w2_at]

theorem pt5 (r : Fin 2048) : k0_pay2 (F := Ideal) (k0_pay19 (iota .tc S2048x256 32 [0] iota_S2048x256_d0_w32) (bG m c t)
        (k0_pay16 (iota .tc S2048x256 32 [0] iota_S2048x256_d0_w32) (b8 m c t) (b9 m c t) (b10 m c t) (iblk m c 4 t) (iblk m c 1 t) (w0 m c t))
        (w1 m c t) (w2 m c t)) (ix2 r l) =
    arrDx (aX m c) (aU m c) (aD m c) (aW m c) (aB m c) (ix2 ⟨(ptSeq t).val * 2048 + r.val, by omega⟩ (ptCh t l)) := by
  rw [arrDx_at]
  refine (dx_at _ _ _ _ _ _ _ _ r l).trans ?_
  rw [bG_seq, w0_at, w1_at, w2_at]

/-- The first result after the run. -/
theorem arr5 : (dats (F := Ideal) m 0 c).arrAt 5 cfg0.N = arrDx (aX m c) (aU m c) (aD m c) (aW m c) (aB m c) := by
  refine (dats (F := Ideal) m 0 c).arrAt_eq_of_covers 5 _ (by decide +kernel) fun t hf y => ?_
  blk_simp
  rw [after0_5]
  obtain ⟨r, l, rfl⟩ : ∃ (r : Fin 2048) (l : Fin 256), y = ix2 r l := ⟨y 0, y 1, eq_ix2 y⟩
  have e : ((View.whole main_v0_0).slice (win0_5.rect t)).emb (ix2 r l) = ix2 ⟨(ptSeq t).val * 2048 + r.val, by omega⟩ (ptCh t l) := by
    unfold ptSeq ptCh
    blk_ext [idx t]
  rw [e]
  by_cases h : t.val % 4 = 0
  · rw [outsAt0_A m c t h (by omega) h (by omega) h (by omega) h (by omega)]
    frame_out
    exact pt5 m c t l r
  · rw [outsAt0_B m c t h (by omega) h (by omega) h (by omega) h (by omega)]
    frame_out
    exact pt5 m c t l r

/-- The second result after the run. -/
theorem arr6 : (dats (F := Ideal) m 0 c).arrAt 6 cfg0.N = arrDu (aX m c) (aD m c) (aW m c) (aB m c) := by
  refine (dats (F := Ideal) m 0 c).arrAt_eq_of_covers 6 _ (by decide +kernel) fun t hf y => ?_
  blk_simp
  rw [after0_6]
  obtain ⟨r, l, rfl⟩ : ∃ (r : Fin 2048) (l : Fin 256), y = ix2 r l := ⟨y 0, y 1, eq_ix2 y⟩
  have e : ((View.whole main_v0_1).slice (win0_6.rect t)).emb (ix2 r l) = ix2 ⟨(ptSeq t).val * 2048 + r.val, by omega⟩ (ptCh t l) := by
    unfold ptSeq ptCh
    blk_ext [idx t]
  rw [e]
  by_cases h : t.val % 4 = 0
  · rw [outsAt0_A m c t h (by omega) h (by omega) h (by omega) h (by omega)]
    frame_out
    exact pt6 m c t l r
  · rw [outsAt0_B m c t h (by omega) h (by omega) h (by omega) h (by omega)]
    frame_out
    exact pt6 m c t l r

/-- What one grid point adds to the taps' gradient. -/
def term7 (y : S3x256.Idx) : EReal :=
  dw (aG m c (ptSeq t) (ptCh t (y 1))) (seqOf (aX m c) (ptSeq t) (ptCh t (y 1))) (2 - (y 0).val)

theorem term7_at (k : Fin 3) : term7 m c t (ix2 k l) =
    dw (aG m c (ptSeq t) (ptCh t l)) (seqOf (aX m c) (ptSeq t) (ptCh t l)) (2 - k.val) := rfl

/-- The taps' accumulations add the new term to what the block held. -/
theorem pay3_at (a : FVec Ideal S1x256 .f32) (b : Vec Ideal S1x256 .f32) : k0_pay3 (F := Ideal) a b (ix2 0 l) = b (ix2 0 l) + a (ix2 0 l) := by
  pointwise [k0_pay3]
theorem pay4_at (a : FVec Ideal S1x256 .f32) (b : Vec Ideal S1x256 .f32) : k0_pay4 (F := Ideal) a b (ix2 0 l) = b (ix2 0 l) + a (ix2 0 l) := by
  pointwise [k0_pay4]
theorem pay5_at (a : FVec Ideal S1x256 .f32) (b : Vec Ideal S1x256 .f32) : k0_pay5 (F := Ideal) a b (ix2 0 l) = b (ix2 0 l) + a (ix2 0 l) := by
  pointwise [k0_pay5]

theorem pay7_at (x : Vec Ideal S2048x256 .bf16) (r : Fin 2048) : k0_pay7 (F := Ideal) x (ix2 r l) = x (ix2 r l) := by
  pointwise [k0_pay7]

/-- The block widened is still the sequence. -/
theorem pay7_seq : (fun r : Fin 2048 => k0_pay7 (F := Ideal) (iblk m c 0 t) (ix2 r l)) = seqOf (aX m c) (ptSeq t) (ptCh t l) :=
  (funext fun r => pay7_at l _ r).trans (seq0 m c t l)

theorem pt7_0 : k0_pay17 (F := Ideal) (iota .tc S2048x256 32 [0] iota_S2048x256_d0_w32) (k0_pay7 (iblk m c 0 t)) (bG m c t) (ix2 0 l) =
    term7 m c t (ix2 0 l) := by
  refine (dw2_at _ _ l).trans ?_
  rw [bG_seq]
  rw [term7_at, show 2 - (0 : Fin 3).val = 2 from rfl]
  rw [pay7_seq]

theorem pt7_1 : k0_pay18 (F := Ideal) (iota .tc S2048x256 32 [0] iota_S2048x256_d0_w32) (k0_pay7 (iblk m c 0 t)) (bG m c t) (ix2 0 l) =
    term7 m c t (ix2 1 l) := by
  refine (dw1_at _ _ l).trans ?_
  rw [bG_seq]
  rw [term7_at, show 2 - (1 : Fin 3).val = 1 from rfl]
  rw [pay7_seq]

theorem pt7_2 : k0_pay20 (F := Ideal) (k0_pay7 (iblk m c 0 t)) (bG m c t) (ix2 0 l) = term7 m c t (ix2 2 l) := by
  refine (dw0_at (bG m c t) (k0_pay7 (iblk m c 0 t)) l).trans ?_
  rw [bG_seq]
  rw [term7_at, show 2 - (2 : Fin 3).val = 0 from rfl]
  rw [pay7_seq]

/-- What one grid point adds to the bias's gradient. -/
def term8 (y : S1x256.Idx) : EReal := ∑ r, aG m c (ptSeq t) (ptCh t (y 1)) r

theorem pt8 : k0_pay1 (F := Ideal) (bG m c t) (ix2 0 l) = term8 m c t (ix2 0 l) := by
  refine (db_at _ l).trans ?_
  exact Finset.sum_congr rfl fun r _ => bG_at m c t l r

/-- The terms of the four points of a run are the four sequences' terms. -/
theorem sum7 (h : ∀ s : Fin 4, 4 * (t.val / 4) + s.val < cfg0.N) (k : Fin 3) :
    (0 : EReal) + ∑ s : Fin 4, term7 m c ⟨4 * (t.val / 4) + s.val, h s⟩ (ix2 k l) =
      arrDw (aX m c) (aU m c) (aD m c) (aW m c) (aB m c) (ix2 k (ptCh t l)) := by
  rw [zero_add]
  refine Finset.sum_congr rfl fun s _ => ?_
  have e1 : ptSeq ⟨4 * (t.val / 4) + s.val, h s⟩ = s := Fin.ext (by show (4 * (t.val / 4) + s.val) % 4 = s.val; omega)
  have e2 : ptCh ⟨4 * (t.val / 4) + s.val, h s⟩ l = ptCh t l :=
    Fin.ext (by show (4 * (t.val / 4) + s.val) / 4 * 256 + l.val = t.val / 4 * 256 + l.val; omega)
  rw [term7_at, e1, e2]
  rfl

theorem sum8 (h : ∀ s : Fin 4, 4 * (t.val / 4) + s.val < cfg0.N) :
    (0 : EReal) + ∑ s : Fin 4, term8 m c ⟨4 * (t.val / 4) + s.val, h s⟩ (ix2 0 l) =
      arrDb (aX m c) (aU m c) (aD m c) (aW m c) (aB m c) (ix2 0 (ptCh t l)) := by
  rw [zero_add]
  refine Finset.sum_congr rfl fun s _ => ?_
  have e1 : ptSeq ⟨4 * (t.val / 4) + s.val, h s⟩ = s := Fin.ext (by show (4 * (t.val / 4) + s.val) % 4 = s.val; omega)
  have e2 : ptCh ⟨4 * (t.val / 4) + s.val, h s⟩ l = ptCh t l :=
    Fin.ext (by show (4 * (t.val / 4) + s.val) / 4 * 256 + l.val = t.val / 4 * 256 + l.val; omega)
  show ∑ r, aG m c (ptSeq _) (ptCh _ l) r = _
  rw [e1, e2]
  rfl

/-- The fourth result after the run: the sum over the four sequences. -/
theorem arr8 : (dats (F := Ideal) m 0 c).arrAt 8 cfg0.N = arrDb (aX m c) (aU m c) (aD m c) (aW m c) (aB m c) := by
  refine (dats (F := Ideal) m 0 c).arrAt_eq_of_covers 8 _ (by decide +kernel) fun t hf y => ?_
  blk_simp
  rw [after0_8, Pipeline.eq_sum_fin_of_reset_step_apply_of_flush (fun n h => (outsAt0 m c n h).2.2.2) 4 (fun _ => 0)
    (term8 m c)
    (fun t h j => by
      obtain ⟨z, l, rfl⟩ : ∃ (z : Fin 1) (l : Fin 256), j = ix2 z l := ⟨j 0, j 1, eq_ix2 j⟩
      obtain rfl : z = 0 := Subsingleton.elim _ _
      rw [outsAt0_A m c t h (by omega) h (by omega) h (by omega) h (by omega)]; frame_out
      exact (pt8 m c t l).trans (zero_add _).symm)
    (fun t h j => by
      obtain ⟨z, l, rfl⟩ : ∃ (z : Fin 1) (l : Fin 256), j = ix2 z l := ⟨j 0, j 1, eq_ix2 j⟩
      obtain rfl : z = 0 := Subsingleton.elim _ _
      rw [outsAt0_B m c t h (by omega) h (by omega) h (by omega) h (by omega)]; frame_out
      pointwise [k0_pay6]
      exact congrArg _ (pt8 m c t l)) t ((flush0_8 t).mp hf) _]
  obtain ⟨z, l, rfl⟩ : ∃ (z : Fin 1) (l : Fin 256), y = ix2 z l := ⟨y 0, y 1, eq_ix2 y⟩
  obtain rfl : z = 0 := Subsingleton.elim _ _
  refine (sum8 m c t l _).trans (congrArg _ ?_)
  unfold ptCh
  blk_ext [idx t]

/-- The third result after the run: the sum over the four sequences. -/
theorem arr7 : (dats (F := Ideal) m 0 c).arrAt 7 cfg0.N = arrDw (aX m c) (aU m c) (aD m c) (aW m c) (aB m c) := by
  refine (dats (F := Ideal) m 0 c).arrAt_eq_of_covers 7 _ (by decide +kernel) fun t hf y => ?_
  blk_simp
  rw [after0_7, Pipeline.eq_sum_fin_of_reset_step_apply_of_flush (fun n h => (outsAt0 m c n h).2.2.1) 4 (fun _ => 0)
    (term7 m c)
    (fun t h j => by
      rw [outsAt0_A m c t h (by omega) h (by omega) h (by omega) h (by omega)]; frame_out
      clear h
      refine Eq.trans ?_ (zero_add _).symm
      canon_tiles x h
      · obtain ⟨z, l, rfl⟩ : ∃ (z : Fin 1) (l : Fin 256), x = ix2 z l := ⟨x 0, x 1, eq_ix2 x⟩
        obtain rfl : z = 0 := Subsingleton.elim _ _
        obtain rfl : j = ix2 2 l := (eq_ix2 j).trans (congrArg₂ ix2 (Fin.ext h0) (Fin.ext h1))
        exact pt7_2 m c t l
      · obtain ⟨z, l, rfl⟩ : ∃ (z : Fin 1) (l : Fin 256), x = ix2 z l := ⟨x 0, x 1, eq_ix2 x⟩
        obtain rfl : z = 0 := Subsingleton.elim _ _
        obtain rfl : j = ix2 1 l := (eq_ix2 j).trans (congrArg₂ ix2 (Fin.ext h0) (Fin.ext h1))
        exact pt7_1 m c t l
      · obtain ⟨z, l, rfl⟩ : ∃ (z : Fin 1) (l : Fin 256), x = ix2 z l := ⟨x 0, x 1, eq_ix2 x⟩
        obtain rfl : z = 0 := Subsingleton.elim _ _
        obtain rfl : j = ix2 0 l := (eq_ix2 j).trans (congrArg₂ ix2 (Fin.ext h0) (Fin.ext h1))
        exact pt7_0 m c t l)
    (fun t h j => by
      rw [outsAt0_B m c t h (by omega) h (by omega) h (by omega) h (by omega)]; frame_out
      canon_tiles x h
      · obtain ⟨z, l, rfl⟩ : ∃ (z : Fin 1) (l : Fin 256), x = ix2 z l := ⟨x 0, x 1, eq_ix2 x⟩
        obtain rfl : z = 0 := Subsingleton.elim _ _
        obtain rfl : j = ix2 2 l := (eq_ix2 j).trans (congrArg₂ ix2 (Fin.ext h0) (Fin.ext h1))
        refine (pay5_at l _ _).trans (congrArg₂ (· + ·) ?_ (pt7_2 m c t l))
        exact View.ld_unit_apply_of _ _ _ _ _ (ix2 2 l) (fun a => by fin_cases a <;> simp)
      · obtain ⟨z, l, rfl⟩ : ∃ (z : Fin 1) (l : Fin 256), x = ix2 z l := ⟨x 0, x 1, eq_ix2 x⟩
        obtain rfl : z = 0 := Subsingleton.elim _ _
        obtain rfl : j = ix2 1 l := (eq_ix2 j).trans (congrArg₂ ix2 (Fin.ext h0) (Fin.ext h1))
        refine (pay4_at l _ _).trans (congrArg₂ (· + ·) ?_ (pt7_1 m c t l))
        exact View.ld_unit_apply_of _ _ _ _ _ (ix2 1 l) (fun a => by fin_cases a <;> simp)
      · obtain ⟨z, l, rfl⟩ : ∃ (z : Fin 1) (l : Fin 256), x = ix2 z l := ⟨x 0, x 1, eq_ix2 x⟩
        obtain rfl : z = 0 := Subsingleton.elim _ _
        obtain rfl : j = ix2 0 l := (eq_ix2 j).trans (congrArg₂ ix2 (Fin.ext h0) (Fin.ext h1))
        refine (pay3_at l _ _).trans (congrArg₂ (· + ·) ?_ (pt7_0 m c t l))
        exact View.ld_unit_apply_of _ _ _ _ _ (ix2 0 l) (fun a => by fin_cases a <;> simp)) t ((flush0_7 t).mp hf) _]
  obtain ⟨k, l, rfl⟩ : ∃ (k : Fin 3) (l : Fin 256), y = ix2 k l := ⟨y 0, y 1, eq_ix2 y⟩
  refine (sum7 m c t l _ k).trans (congrArg _ ?_)
  unfold ptCh
  blk_ext [idx t]

end Cert.Ffn

end
-- ==== Proof.Ref.lean ====
/- The reference's results, element by element. -/
module

public import proofs.«01_k».proof.Proof.Gen.ReferenceIdeal.Read
public import Idealize.ShloMosaic.Lib.Pointwise
public import proofs.«01_k».proof.Proof.Arrays

@[expose] public section

set_option maxRecDepth 16384

noncomputable section

namespace Cert.Ffn

open Idealize.ShloMosaic Idealize.ShloMosaic.TcCoe Idealize.SL.Sem
open Cert.ReferenceIdeal Cert.ReferenceIdeal.Gen Cert.ReferenceIdeal.Read

/-- A host sum over the two leading axes of a rank 3 array, at an index of the last axis. -/
theorem sum_lead {n0 n1 n2 : ℕ} (h : (⟨3, ![n0, n1, n2]⟩ : Shape).ReducesTo [0, 1] ⟨1, ![n2]⟩) (v : (⟨3, ![n0, n1, n2]⟩ : Shape).Idx → EReal)
    (init : EReal) (C : Fin n2) : Ideal.hostReduceAdd h v init (ix1 C) = init + ∑ b : Fin n0, ∑ t : Fin n1, v (ix3 b t C) := by
  have key : ∀ i, h.drop i = ix1 C ↔ ∃ k : Fin n0 × Fin n1, ix3 k.1 k.2 C = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext a
      apply Fin.ext
      match a with
      | ⟨0, _⟩ => rfl
  show init + _ = _
  congr 1
  refine (Finset.sum_filter_eq_sum_of_fiber _ (fun k : Fin n0 × Fin n1 => ix3 k.1 k.2 C)
    (fun _ _ e => Prod.ext (congrFun e 0) (congrFun e 1)) key v).trans ?_
  simp only [Fintype.sum_prod_type]

section

variable (x0 x1 x4 : FVec Ideal S8192x3072 .bf16) (x2 : FVec Ideal S3x3072 .f32) (x3 : FVec Ideal S1x3072 .f32)
variable (b : Fin 4) (r : Fin 2048) (C : Fin 3072)

/-- The padded gate projection: two zeros before each sequence. -/
theorem v6_at (s : Fin 2050) (d : ℕ) (hd : s.val + d = r.val + 2) : val_main_v6 (F := Ideal) x0 (ix3 b s C) = dn (seqOf x0 b C) d r := by
  have e : val_main_v6 (F := Ideal) x0 (ix3 b s C) = if h : s.val < 2 then 0 else x0 (ix2 ⟨b.val * 2048 + (s.val - 2), by omega⟩ C) := by
    pointwise [val_main_v6, val_main_v5, val_main_cst, val_main_v1, val_main_v0]
  rw [e, dn]
  by_cases h : s.val < 2
  · rw [dif_pos h, if_neg (by omega)]
  · rw [dif_neg h, if_pos (by omega), seqOf]
    have e : s.val - 2 = r.val - d := by omega
    simp only [e]

/-- The gate of one channel of one sequence. -/
abbrev gateAt (b : Fin 4) (C : Fin 3072) (r : Fin 2048) : EReal :=
  gate (x2 (ix2 0 C)) (x2 (ix2 1 C)) (x2 (ix2 2 C)) (x3 (ix2 0 C)) (seqOf x0 b C) r

theorem v10_at : val_main_v10 (F := Ideal) x0 (ix3 b r C) = dn (seqOf x0 b C) 2 r := by
  refine Eq.trans ?_ (v6_at x0 b r C ⟨r.val, by omega⟩ 2 rfl)
  pointwise [val_main_v10]

theorem v18_at : val_main_v18 (F := Ideal) x0 (ix3 b r C) = dn (seqOf x0 b C) 1 r := by
  refine Eq.trans ?_ (v6_at x0 b r C ⟨1 + r.val, by omega⟩ 1 (by show 1 + r.val + 1 = _; omega))
  pointwise [val_main_v18]

theorem v25_at : val_main_v25 (F := Ideal) x0 (ix3 b r C) = dn (seqOf x0 b C) 0 r := by
  refine Eq.trans ?_ (v6_at x0 b r C ⟨2 + r.val, by omega⟩ 0 (by show 2 + r.val + 0 = _; omega))
  pointwise [val_main_v25]

/-- The reference's gate is the kernel's: the bias is added last instead of first. -/
theorem v32_at : val_main_v32 (F := Ideal) x0 x2 x3 (ix3 b r C) = gateAt x0 x2 x3 b C r := by
  have e : val_main_v32 (F := Ideal) x0 x2 x3 (ix3 b r C) = x2 (ix2 0 C) * val_main_v10 (F := Ideal) x0 (ix3 b r C) +
      x2 (ix2 1 C) * val_main_v18 (F := Ideal) x0 (ix3 b r C) + x2 (ix2 2 C) * val_main_v25 (F := Ideal) x0 (ix3 b r C) + x3 (ix2 0 C) := by
    pointwise [val_main_v32, val_main_v31, val_main_v30, val_main_v29, val_main_v28, val_main_v27, val_main_v26, val_main_v24,
      val_main_v23, val_main_v22, val_main_v21, val_main_v20, val_main_v19, val_main_v17, val_main_v16, val_main_v15,
      val_main_v14, val_main_v13, val_main_v12, val_main_v11, val_main_v9, val_main_v8, val_main_v4, val_main_cst_1]
  rw [e, v10_at, v18_at, v25_at, dn_zero]
  unfold gateAt gate
  rw [add_comm _ (x3 (ix2 0 C)), ← add_assoc, ← add_assoc]

/-- The reference's tanh. -/
theorem v43_at : val_main_v43 (F := Ideal) x0 x2 x3 (ix3 b r C) = thR (gateAt x0 x2 x3 b C r) := by
  rw [← v32_at]
  unfold thR
  rw [← ofBits_gC, ← ofBits_gA]
  pointwise [val_main_v43, val_main_v42, val_main_v41, val_main_cst_4, val_main_v40, val_main_v39, val_main_v38, val_main_cst_3, val_main_v34, val_main_v33]

/-- Half of one plus the reference's tanh. -/
theorem v52_at : val_main_v52 (F := Ideal) x0 x2 x3 (ix3 b r C) = (half : EReal) * (1 + thR (gateAt x0 x2 x3 b C r)) := by
  rw [← v43_at, ← ofBits_half]
  pointwise [val_main_v52, val_main_v51, val_main_cst_8, val_main_v50, val_main_v49, val_main_cst_7]

theorem v53_at : val_main_v53 (F := Ideal) x0 x2 x3 (ix3 b r C) = gelR (gateAt x0 x2 x3 b C r) := by
  unfold gelR
  rw [← v52_at]
  conv_rhs => rw [← v32_at]
  pointwise [val_main_v53]

theorem v56_at : val_main_v56 (F := Ideal) x4 (ix3 b r C) = seqOf x4 b C r := by
  unfold seqOf
  pointwise [val_main_v56, val_main_v55]

theorem v3_at : val_main_v3 (F := Ideal) x1 (ix3 b r C) = seqOf x1 b C r := by
  unfold seqOf
  pointwise [val_main_v3, val_main_v2]

theorem v58_at : val_main_v58 (F := Ideal) x1 x4 (ix3 b r C) = seqOf x4 b C r * seqOf x1 b C r := by
  rw [← v56_at, ← v3_at]
  pointwise [val_main_v58]

/-- The reference's product of the GELU and the gradient that comes in is the kernel's. -/
theorem v57_at : val_main_v57 (F := Ideal) x0 x2 x3 x4 (ix3 b r C) =
    du (x2 (ix2 0 C)) (x2 (ix2 1 C)) (x2 (ix2 2 C)) (x3 (ix2 0 C)) (seqOf x0 b C) (seqOf x4 b C) r := by
  unfold du
  rw [gelK_eq_gelR, mul_comm, ← v53_at, ← v56_at]
  pointwise [val_main_v57]

theorem v48_at : val_main_v48 (F := Ideal) x0 x2 x3 (ix3 b r C) =
    (1 + thR (gateAt x0 x2 x3 b C r)) * (1 - thR (gateAt x0 x2 x3 b C r)) := by
  rw [← v43_at]
  pointwise [val_main_v48, val_main_v47, val_main_v46, val_main_cst_6, val_main_v45, val_main_v44, val_main_cst_5]

theorem v65_at : val_main_v65 (F := Ideal) x0 x1 x2 x3 x4 (ix3 b r C) =
    inR (seqOf x4 b C r * seqOf x1 b C r) (gateAt x0 x2 x3 b C r) := by
  unfold inR
  rw [← v48_at, ← v58_at, ← ofBits_half, ← ofBits_gC]
  conv_rhs => rw [← v32_at]
  pointwise [val_main_v65, val_main_v64, val_main_cst_10, val_main_v63, val_main_v62, val_main_v61, val_main_cst_9, val_main_v59]

/-- The reference's gradient of the gate. -/
theorem v70_at : val_main_v70 (F := Ideal) x0 x1 x2 x3 x4 (ix3 b r C) =
    dgelR (seqOf x4 b C r * seqOf x1 b C r) (gateAt x0 x2 x3 b C r) := by
  unfold dgelR
  rw [← v65_at, ← v52_at, ← v58_at, ← ofBits_gA, ← ofBits_three]
  conv_rhs => rw [← v32_at]
  pointwise [val_main_v70, val_main_v69, val_main_v68, val_main_v67, val_main_cst_11, val_main_v66, val_main_v60, val_main_v37, val_main_v36, val_main_cst_2, val_main_v35]

variable (hU : ∀ i, x1 i ≠ ⊥ ∧ x1 i ≠ ⊤) (hD : ∀ i, x4 i ≠ ⊥ ∧ x4 i ≠ ⊤)

include hU hD in
/-- Where the up projection and the gradient that comes in are finite, the reference's gradient of the gate is the kernel's. -/
theorem v70_eq : val_main_v70 (F := Ideal) x0 x1 x2 x3 x4 (ix3 b r C) = gSeq x0 x1 x4 x2 x3 b C r := by
  rw [v70_at]
  unfold gSeq dgate
  have u := hU (ix2 ⟨b.val * 2048 + r.val, by omega⟩ C)
  have d := hD (ix2 ⟨b.val * 2048 + r.val, by omega⟩ C)
  change seqOf x1 b C r ≠ ⊥ ∧ seqOf x1 b C r ≠ ⊤ at u
  change seqOf x4 b C r ≠ ⊥ ∧ seqOf x4 b C r ≠ ⊤ at d
  generalize seqOf x1 b C r = U at u ⊢
  generalize seqOf x4 b C r = D at d ⊢
  lift U to ℝ using ⟨u.2, u.1⟩
  lift D to ℝ using ⟨d.2, d.1⟩
  rw [← EReal.coe_mul, dgelK_eq_dgelR]

/-- The reference's gradient of the up projection. -/
theorem v110_eq : val_main_v110 (F := Ideal) x0 x2 x3 x4 = arrDu x0 x4 x2 x3 := by
  funext i
  obtain ⟨b, r, C, rfl⟩ : ∃ (b : Fin 4) (r : Fin 2048) (C : Fin 3072), i = ix2 ⟨b.val * 2048 + r.val, by omega⟩ C :=
    ⟨rowSeq i, rowPos i, i 1, by refine (eq_ix2 i).trans ?_; congr 1; ext; simp only [rowSeq, rowPos]; omega⟩
  rw [arrDu_at, ← v57_at]
  pointwise [val_main_v110, val_main_v109]

/-- The padded products, shifted back by the tap's lag, at one position. -/
theorem shifts (w0 w1 w2 : EReal) (g : Fin 2048 → EReal) (P0 P1 P2 : EReal) (r : Fin 2048)
    (h2 : P2 = w2 * g r)
    (h1 : P1 = if h : r.val + 1 < 2048 then w1 * g ⟨r.val + 1, h⟩ else 0)
    (h0 : P0 = if h : r.val + 2 < 2048 then w0 * g ⟨r.val + 2, h⟩ else 0) :
    (P2 + P1) + P0 = dx w0 w1 w2 g r := by
  unfold dx
  have e1 : P1 = w1 * up g 1 r := by
    rw [h1, up]
    split <;> simp
  have e0 : P0 = w0 * up g 2 r := by
    rw [h0, up]
    split <;> simp
  rw [h2, e1, e0, add_comm, add_comm (w2 * g r), ← add_assoc]

include hU hD in
theorem v108_eq : val_main_v108 (F := Ideal) x0 x1 x2 x3 x4 = arrDx x0 x1 x4 x2 x3 := by
  funext i
  obtain ⟨b, r, C, rfl⟩ : ∃ (b : Fin 4) (r : Fin 2048) (C : Fin 3072), i = ix2 ⟨b.val * 2048 + r.val, by omega⟩ C :=
    ⟨rowSeq i, rowPos i, i 1, by refine (eq_ix2 i).trans ?_; congr 1; ext; simp only [rowSeq, rowPos]; omega⟩
  have e75 : ∀ s, val_main_v75 (F := Ideal) x0 x1 x2 x3 x4 (ix3 b s C) = x2 (ix2 2 C) * gSeq x0 x1 x4 x2 x3 b C s := by
    intro s
    rw [← v70_eq x0 x1 x4 x2 x3 b s C hU hD]
    pointwise [val_main_v75, val_main_v74, val_main_v27, val_main_v26, val_main_v24, val_main_v23]
  have e84 : ∀ s, val_main_v84 (F := Ideal) x0 x1 x2 x3 x4 (ix3 b s C) = x2 (ix2 1 C) * gSeq x0 x1 x4 x2 x3 b C s := by
    intro s
    rw [← v70_eq x0 x1 x4 x2 x3 b s C hU hD]
    pointwise [val_main_v84, val_main_v83, val_main_v20, val_main_v19, val_main_v17, val_main_v16]
  have e95 : ∀ s, val_main_v95 (F := Ideal) x0 x1 x2 x3 x4 (ix3 b s C) = x2 (ix2 0 C) * gSeq x0 x1 x4 x2 x3 b C s := by
    intro s
    rw [← v70_eq x0 x1 x4 x2 x3 b s C hU hD]
    pointwise [val_main_v95, val_main_v94, val_main_v12, val_main_v11, val_main_v9, val_main_v8]
  rw [arrDx_at]
  refine Eq.trans ?_ (shifts _ _ _ _ (val_main_v100 (F := Ideal) x0 x1 x2 x3 x4 (ix3 b ⟨2 + r.val, by omega⟩ C))
    (val_main_v89 (F := Ideal) x0 x1 x2 x3 x4 (ix3 b ⟨2 + r.val, by omega⟩ C))
    (val_main_v80 (F := Ideal) x0 x1 x2 x3 x4 (ix3 b ⟨2 + r.val, by omega⟩ C)) r ?_ ?_ ?_)
  · pointwise [val_main_v108, val_main_v107, val_main_v106, val_main_v101, val_main_v90]
  · rw [← e75]
    pointwise [val_main_v80]
  · pointwise [val_main_v89, val_main_cst_20]
    by_cases h : r.val + 1 < 2048
    · rw [dif_pos h, dif_pos (by omega), e84]
      have e : 2 + r.val - 1 = r.val + 1 := by omega
      simp only [e]
    · rw [dif_neg h, dif_neg (by omega)]
  · pointwise [val_main_v100, val_main_cst_24]
    by_cases h : r.val + 2 < 2048
    · rw [dif_pos h, dif_pos (by omega), e95]
      have e : 2 + r.val = r.val + 2 := by omega
      simp only [e]
    · rw [dif_neg h, dif_neg (by omega)]

include hU hD in
theorem v111_eq : val_main_v111 (F := Ideal) x0 x1 x2 x3 x4 = arrDb x0 x1 x4 x2 x3 := by
  funext i
  obtain ⟨C, rfl⟩ : ∃ C : Fin 3072, i = ix2 0 C := ⟨i 1, by refine (eq_ix2 i).trans ?_; congr 1; ext; have := (i 0).isLt; change _ < 1 at this; show (i 0).val = 0; omega⟩
  pointwise [val_main_v111, val_main_v73, val_main_v72, val_main_v71, val_main_cst_12, val_main_cst_13, sum_lead]
  simp only [Finset.sum_const, Finset.card_univ, Fintype.card_fin, one_smul]
  exact Finset.sum_congr rfl fun b _ => Finset.sum_congr rfl fun t _ => v70_eq x0 x1 x4 x2 x3 b t C hU hD

include hU hD in
theorem v104_eq : val_main_v104 (F := Ideal) x0 x1 x2 x3 x4 = arrDw x0 x1 x4 x2 x3 := by
  funext i
  obtain ⟨k, C, rfl⟩ : ∃ (k : Fin 3) (C : Fin 3072), i = ix2 k C := ⟨i 0, i 1, eq_ix2 i⟩
  have e79 : val_main_v79 (F := Ideal) x0 x1 x2 x3 x4 (ix1 C) = ∑ b : Fin 4, dw (gSeq x0 x1 x4 x2 x3 b C) (seqOf x0 b C) 0 := by
    unfold dw
    simp only [← v25_at, ← v70_eq x0 x1 x4 x2 x3 _ _ C hU hD]
    pointwise [val_main_v79, val_main_v78, val_main_v77, val_main_v76, val_main_cst_14, val_main_cst_15, sum_lead]
    simp only [Finset.sum_const, Finset.card_univ, Fintype.card_fin, one_smul]
  have e88 : val_main_v88 (F := Ideal) x0 x1 x2 x3 x4 (ix1 C) = ∑ b : Fin 4, dw (gSeq x0 x1 x4 x2 x3 b C) (seqOf x0 b C) 1 := by
    unfold dw
    simp only [← v18_at, ← v70_eq x0 x1 x4 x2 x3 _ _ C hU hD]
    pointwise [val_main_v88, val_main_v87, val_main_v86, val_main_v85, val_main_cst_18, val_main_cst_19, sum_lead]
    simp only [Finset.sum_const, Finset.card_univ, Fintype.card_fin, one_smul]
  have e99 : val_main_v99 (F := Ideal) x0 x1 x2 x3 x4 (ix1 C) = ∑ b : Fin 4, dw (gSeq x0 x1 x4 x2 x3 b C) (seqOf x0 b C) 2 := by
    unfold dw
    simp only [← v10_at, ← v70_eq x0 x1 x4 x2 x3 _ _ C hU hD]
    pointwise [val_main_v99, val_main_v98, val_main_v97, val_main_v96, val_main_cst_22, val_main_cst_23, sum_lead]
    simp only [Finset.sum_const, Finset.card_univ, Fintype.card_fin, one_smul]
  unfold arrDw
  fin_cases k
  · pointwise [val_main_v104, val_main_v103, val_main_v93, val_main_v82, val_main_v92, val_main_v102, val_main_v91, val_main_v81, val_main_cst_17, val_main_cst_21, val_main_cst_25]
    exact e99
  · pointwise [val_main_v104, val_main_v103, val_main_v93, val_main_v82, val_main_v92, val_main_v102, val_main_v91, val_main_v81, val_main_cst_17, val_main_cst_21, val_main_cst_25]
    exact e88
  · pointwise [val_main_v104, val_main_v103, val_main_v93, val_main_v82, val_main_v92, val_main_v102, val_main_v91, val_main_v81, val_main_cst_17, val_main_cst_21, val_main_cst_25]
    exact e79

end

end Cert.Ffn

end
-- ==== Proof.GateClaims.lean ====
/- The claims about the gate's backward pass, assembled: the frames, the folded literals, the values. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Ref
public import Idealize.ShloMosaic.Lib.Claim

@[expose] public section

noncomputable section

namespace Cert.Ffn

open Idealize.ShloMosaic Idealize.ShloMosaic.TcCoe Idealize.SL.Sem

/-- The precondition's one side condition: a scalar broadcasts to any shape. -/
instance preFacts : Cert.Pre_finite.Facts := ⟨by decide⟩

/-- What the precondition says of an array: no element is infinite. -/
theorem finite_of {s : Shape} (x : FVec Ideal s .bf16) (h : Cert.Pre_finite.S_.BroadcastsInDim s (![] : Fin 0 → Fin s.rank))
    (e : cmpf .olt (Host.absf x) (broadcastInDim s ![] h (constant (F := Ideal) Cert.Pre_finite.S_ .bf16 0x7F80#16)) = fun _ => 1#1) (i : s.Idx) :
    x i ≠ ⊥ ∧ x i ≠ ⊤ := by
  have := congrFun e i
  pointwise [] at this
  rw [ofBits_inf] at this
  have hm : max (x i) (-(x i)) < (⊤ : EReal) := by
    by_contra hc
    rw [show FloatOps.absf (x i) = max (x i) (-(x i)) from rfl, decide_eq_false hc] at this
    exact absurd this (by decide)
  refine ⟨fun hb => ?_, fun ht => ?_⟩
  · rw [hb] at hm
    simp at hm
  · rw [ht] at hm
    simp at hm

/-- The kernel runs, leaves its arguments as they were and its counters at zero. -/
theorem frame_K : Cert.quiescent_Kernel (hKernel := Cert.Kernel.Gen.facts) := fun m ρ _ => Cert.Kernel.Gen.frame m ρ

theorem frame_KI : Cert.quiescent_KernelIdeal (hKernelIdeal := Cert.KernelIdeal.Gen.facts) := fun m ρ _ => Cert.KernelIdeal.Gen.frame m ρ

theorem frame_KI_pre : Cert.quiescent_KernelIdeal_pre_finite (hKernelIdeal := Cert.KernelIdeal.Gen.facts) (hPre_finite := preFacts) :=
  fun m ρ _ => Cert.KernelIdeal.Gen.frame m ρ

theorem frame_RI : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩) (Cert.ReferenceIdeal.Value.run m ρ)

theorem frame_RI_pre : Cert.quiescent_ReferenceIdeal_pre_finite (hReferenceIdeal := Cert.ReferenceIdeal.Gen.facts) (hPre_finite := preFacts) :=
  fun m ρ _ => frame_RI m ρ trivial

/-- The kernel's two folded literals are the words of the products they stand for. -/
theorem preserves : Cert.preserves_Kernel_KernelIdeal :=
  ⟨IdealRules.named_const.statement Cert.KernelIdeal.κ "ca" .f32 0x3D122279#32 ((80338380498831 / 2251799813685248 : ℝ) : EReal) rfl,
   IdealRules.named_const.statement Cert.KernelIdeal.κ "ca3" .f32 0x3DDB33B6#32 ((241015141496493 / 2251799813685248 : ℝ) : EReal) rfl⟩

theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hag
  refine ⟨fun c => arrDx (aX m c) (aU m c) (aD m c) (aW m c) (aB m c), fun c => arrDu (aX m c) (aD m c) (aW m c) (aB m c),
    fun c => arrDw (aX m c) (aU m c) (aD m c) (aW m c) (aB m c), fun c => arrDb (aX m c) (aU m c) (aD m c) (aW m c) (aB m c), ?_, ?_⟩
  · refine (θ_run _ _ _).mono (fun r h c => ?_) (Cert.KernelIdeal.Value.run_blocks m g)
    obtain ⟨h5, h6, h7, h8, hk⟩ := h c
    exact ⟨h5.trans (arr5 m c), h6.trans (arr6 m c), h7.trans (arr7 m c), h8.trans (arr8 m c), hk⟩
  · refine (θ_run _ _ _).mono (fun r h c => ?_) (Cert.ReferenceIdeal.Value.run m' g')
    obtain ⟨e0, e1, e2, e3, e4⟩ := hag c
    have hU : ∀ i, aU m c i ≠ ⊥ ∧ aU m c i ≠ ⊤ := finite_of _ _ (hpre c).1
    have hD : ∀ i, aD m c i ≠ ⊥ ∧ aD m c i ≠ ⊤ := finite_of _ _ (hpre c).2
    obtain ⟨h5, h6, h7, h8, hk⟩ := h c
    have a0 : StableHlo.launchContents m' c (Proc.devRef .tc Cert.ReferenceIdeal.main_arg0) = aX m c := e0
    have a1 : StableHlo.launchContents m' c (Proc.devRef .tc Cert.ReferenceIdeal.main_arg1) = aU m c := e1
    have a2 : StableHlo.launchContents m' c (Proc.devRef .tc Cert.ReferenceIdeal.main_arg2) = aW m c := e2
    have a3 : StableHlo.launchContents m' c (Proc.devRef .tc Cert.ReferenceIdeal.main_arg3) = aB m c := e3
    have a4 : StableHlo.launchContents m' c (Proc.devRef .tc Cert.ReferenceIdeal.main_arg4) = aD m c := e4
    refine ⟨h5.trans ?_, h6.trans ?_, h7.trans ?_, h8.trans ?_, hk⟩
    · refine (Cert.ReferenceIdeal.Read.val_main_v108_eq (F := Ideal) _).trans ?_
      rw [a0, a1, a2, a3, a4]
      exact v108_eq _ _ _ _ _ hU hD
    · refine (Cert.ReferenceIdeal.Read.val_main_v110_eq (F := Ideal) _).trans ?_
      rw [a0, a2, a3, a4]
      exact v110_eq _ _ _ _
    · refine (Cert.ReferenceIdeal.Read.val_main_v104_eq (F := Ideal) _).trans ?_
      rw [a0, a1, a2, a3, a4]
      exact v104_eq _ _ _ _ _ hU hD
    · refine (Cert.ReferenceIdeal.Read.val_main_v111_eq (F := Ideal) _).trans ?_
      rw [a0, a1, a2, a3, a4]
      exact v111_eq _ _ _ _ _ hU hD

end Cert.Ffn

end
-- ==== Proof.lean ====
module

public import proofs.«01_k».proof.Proof.Gen.RnnBwdKernel.Frame
public import proofs.«01_k».proof.Proof.Gen.RnnBwdKernelIdeal.Frame
public import proofs.«01_k».proof.Proof.Gen.RnnFwdKernel.Frame
public import proofs.«01_k».proof.Proof.Gen.RnnFwdKernelIdeal.Frame
public import proofs.«01_k».proof.Proof.Gen.InBwdKernel.Frame
public import proofs.«01_k».proof.Proof.Gen.InBwdKernelIdeal.Value
public import proofs.«01_k».proof.Proof.Gen.InBwdReferenceIdeal.Run
public import proofs.«01_k».proof.Proof.Gen.InBwdReferenceIdeal.Read
public import proofs.«01_k».proof.Proof.Gen.MidBwdKernel.Frame
public import proofs.«01_k».proof.Proof.Gen.MidBwdKernelIdeal.Value
public import proofs.«01_k».proof.Proof.Gen.MidBwdReferenceIdeal.Run
public import proofs.«01_k».proof.Proof.Gen.MidBwdReferenceIdeal.Read
public import proofs.«01_k».proof.Proof.Gen.MergeBwdKernel.Frame
public import proofs.«01_k».proof.Proof.Gen.MergeBwdKernelIdeal.Value
public import proofs.«01_k».proof.Proof.Gen.MergeBwdReferenceIdeal.Run
public import proofs.«01_k».proof.Proof.Gen.MergeBwdReferenceIdeal.Read
public import proofs.«01_k».proof.Proof.Gen.MergeKernel.Frame
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.MixKernel.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.DownKernel.Frame
public import proofs.«01_k».proof.Proof.Gen.DownKernelIdeal.Frame
public import proofs.«01_k».proof.Proof.Gen.DownReferenceIdeal.Run
public import proofs.«01_k».proof.Proof.Gen.DownReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.ActFwd
public import proofs.«01_k».proof.Proof.AdamBatt
public import proofs.«01_k».proof.Proof.AdamBrnn
public import proofs.«01_k».proof.Proof.AdamConvF
public import proofs.«01_k».proof.Proof.AdamConvR
public import proofs.«01_k».proof.Proof.AdamDown
public import proofs.«01_k».proof.Proof.AdamGate
public import proofs.«01_k».proof.Proof.AdamIn
public import proofs.«01_k».proof.Proof.AdamOut
public import proofs.«01_k».proof.Proof.Dact
public import proofs.«01_k».proof.Proof.DhFfn
public import proofs.«01_k».proof.Proof.DhMix
public import proofs.«01_k».proof.Proof.DhRnn
public import proofs.«01_k».proof.Proof.Dmerged
public import proofs.«01_k».proof.Proof.DoAtt
public import proofs.«01_k».proof.Proof.Down
public import proofs.«01_k».proof.Proof.DwBatt
public import proofs.«01_k».proof.Proof.DwBrnn
public import proofs.«01_k».proof.Proof.DwDown
public import proofs.«01_k».proof.Proof.DwGate
public import proofs.«01_k».proof.Proof.DwInA
public import proofs.«01_k».proof.Proof.DwInG
public import proofs.«01_k».proof.Proof.DwInR
public import proofs.«01_k».proof.Proof.DwOut
public import proofs.«01_k».proof.Proof.Gate
public import proofs.«01_k».proof.Proof.Gates
public import proofs.«01_k».proof.Proof.InBwd
public import proofs.«01_k».proof.Proof.Merge
public import proofs.«01_k».proof.Proof.MergeBwd
public import proofs.«01_k».proof.Proof.MidBwd
public import proofs.«01_k».proof.Proof.Mix
public import proofs.«01_k».proof.Proof.NormIn
public import proofs.«01_k».proof.Proof.Pa
public import proofs.«01_k».proof.Proof.Pr
public import proofs.«01_k».proof.Proof.Proj
public import proofs.«01_k».proof.Proof.RnnBwd
public import proofs.«01_k».proof.Proof.RnnFwd
public import proofs.«01_k».proof.Proof.GateClaims
public import Idealize.ShloMosaic.Adequacy
public import Idealize.ShloMosaic.Init
public import proofs.«01_k».proof.Proof.Gen.DactKernel
public import proofs.«01_k».proof.Proof.Gen.DactKernel.Skeleton
public import proofs.«01_k».proof.Proof.Gen.DactKernel.Launch
public import proofs.«01_k».proof.Proof.Gen.DactKernel.Frame
public import proofs.«01_k».proof.Proof.Gen.DactKernelIdeal
public import proofs.«01_k».proof.Proof.Gen.DactKernelIdeal.Skeleton
public import proofs.«01_k».proof.Proof.Gen.DactKernelIdeal.Launch
public import proofs.«01_k».proof.Proof.Gen.DactKernelIdeal.Frame
public import proofs.«01_k».proof.Proof.Gen.DactKernelIdeal.Value
public import proofs.«01_k».proof.Proof.Gen.DactReferenceIdeal
public import proofs.«01_k».proof.Proof.Gen.DactReferenceIdeal.Run
public import proofs.«01_k».proof.Proof.Gen.DactReferenceIdeal.Read
public import proofs.«01_k».proof.Proof.Gen.DwDownKernel
public import proofs.«01_k».proof.Proof.Gen.DwDownKernel.Skeleton
public import proofs.«01_k».proof.Proof.Gen.DwDownKernel.Launch
public import proofs.«01_k».proof.Proof.Gen.DwDownKernel.Frame
public import proofs.«01_k».proof.Proof.Gen.DwDownKernelIdeal
public import proofs.«01_k».proof.Proof.Gen.DwDownKernelIdeal.Skeleton
public import proofs.«01_k».proof.Proof.Gen.DwDownKernelIdeal.Launch
public import proofs.«01_k».proof.Proof.Gen.DwDownKernelIdeal.Frame
public import proofs.«01_k».proof.Proof.Gen.DwDownKernelIdeal.Value
public import proofs.«01_k».proof.Proof.Gen.DwDownReferenceIdeal
public import proofs.«01_k».proof.Proof.Gen.DwDownReferenceIdeal.Run
public import proofs.«01_k».proof.Proof.Gen.DwDownReferenceIdeal.Read
public import proofs.«01_k».proof.Proof.Gen.DwGateKernel
public import proofs.«01_k».proof.Proof.Gen.DwGateKernel.Skeleton
public import proofs.«01_k».proof.Proof.Gen.DwGateKernel.Launch
public import proofs.«01_k».proof.Proof.Gen.DwGateKernel.Frame
public import proofs.«01_k».proof.Proof.Gen.DwGateKernelIdeal
public import proofs.«01_k».proof.Proof.Gen.DwGateKernelIdeal.Skeleton
public import proofs.«01_k».proof.Proof.Gen.DwGateKernelIdeal.Launch
public import proofs.«01_k».proof.Proof.Gen.DwGateKernelIdeal.Frame
public import proofs.«01_k».proof.Proof.Gen.DwGateKernelIdeal.Value
public import proofs.«01_k».proof.Proof.Gen.DwGateReferenceIdeal
public import proofs.«01_k».proof.Proof.Gen.DwGateReferenceIdeal.Run
public import proofs.«01_k».proof.Proof.Gen.DwGateReferenceIdeal.Read
public import proofs.«01_k».proof.Proof.Gen.DhFfnKernel
public import proofs.«01_k».proof.Proof.Gen.DhFfnKernel.Skeleton
public import proofs.«01_k».proof.Proof.Gen.DhFfnKernel.Launch
public import proofs.«01_k».proof.Proof.Gen.DhFfnKernel.Frame
public import proofs.«01_k».proof.Proof.Gen.DhFfnKernelIdeal
public import proofs.«01_k».proof.Proof.Gen.DhFfnKernelIdeal.Skeleton
public import proofs.«01_k».proof.Proof.Gen.DhFfnKernelIdeal.Launch
public import proofs.«01_k».proof.Proof.Gen.DhFfnKernelIdeal.Frame
public import proofs.«01_k».proof.Proof.Gen.DhFfnKernelIdeal.Value
public import proofs.«01_k».proof.Proof.Gen.DhFfnReferenceIdeal
public import proofs.«01_k».proof.Proof.Gen.DhFfnReferenceIdeal.Run
public import proofs.«01_k».proof.Proof.Gen.DhFfnReferenceIdeal.Read
public import proofs.«01_k».proof.Proof.Gen.DmergedKernel
public import proofs.«01_k».proof.Proof.Gen.DmergedKernel.Skeleton
public import proofs.«01_k».proof.Proof.Gen.DmergedKernel.Launch
public import proofs.«01_k».proof.Proof.Gen.DmergedKernel.Frame
public import proofs.«01_k».proof.Proof.Gen.DmergedKernelIdeal
public import proofs.«01_k».proof.Proof.Gen.DmergedKernelIdeal.Skeleton
public import proofs.«01_k».proof.Proof.Gen.DmergedKernelIdeal.Launch
public import proofs.«01_k».proof.Proof.Gen.DmergedKernelIdeal.Frame
public import proofs.«01_k».proof.Proof.Gen.DmergedKernelIdeal.Value
public import proofs.«01_k».proof.Proof.Gen.DmergedReferenceIdeal
public import proofs.«01_k».proof.Proof.Gen.DmergedReferenceIdeal.Run
public import proofs.«01_k».proof.Proof.Gen.DmergedReferenceIdeal.Read
public import proofs.«01_k».proof.Proof.Gen.DwOutKernel
public import proofs.«01_k».proof.Proof.Gen.DwOutKernel.Skeleton
public import proofs.«01_k».proof.Proof.Gen.DwOutKernel.Launch
public import proofs.«01_k».proof.Proof.Gen.DwOutKernel.Frame
public import proofs.«01_k».proof.Proof.Gen.DwOutKernelIdeal
public import proofs.«01_k».proof.Proof.Gen.DwOutKernelIdeal.Skeleton
public import proofs.«01_k».proof.Proof.Gen.DwOutKernelIdeal.Launch
public import proofs.«01_k».proof.Proof.Gen.DwOutKernelIdeal.Frame
public import proofs.«01_k».proof.Proof.Gen.DwOutKernelIdeal.Value
public import proofs.«01_k».proof.Proof.Gen.DwOutReferenceIdeal
public import proofs.«01_k».proof.Proof.Gen.DwOutReferenceIdeal.Run
public import proofs.«01_k».proof.Proof.Gen.DwOutReferenceIdeal.Read
public import proofs.«01_k».proof.Proof.Gen.DhRnnKernel
public import proofs.«01_k».proof.Proof.Gen.DhRnnKernel.Skeleton
public import proofs.«01_k».proof.Proof.Gen.DhRnnKernel.Launch
public import proofs.«01_k».proof.Proof.Gen.DhRnnKernel.Frame
public import proofs.«01_k».proof.Proof.Gen.DhRnnKernelIdeal
public import proofs.«01_k».proof.Proof.Gen.DhRnnKernelIdeal.Skeleton
public import proofs.«01_k».proof.Proof.Gen.DhRnnKernelIdeal.Launch
public import proofs.«01_k».proof.Proof.Gen.DhRnnKernelIdeal.Frame
public import proofs.«01_k».proof.Proof.Gen.DhRnnKernelIdeal.Value
public import proofs.«01_k».proof.Proof.Gen.DhRnnReferenceIdeal
public import proofs.«01_k».proof.Proof.Gen.DhRnnReferenceIdeal.Run
public import proofs.«01_k».proof.Proof.Gen.DhRnnReferenceIdeal.Read
public import proofs.«01_k».proof.Proof.Gen.DwBrnnKernel
public import proofs.«01_k».proof.Proof.Gen.DwBrnnKernel.Skeleton
public import proofs.«01_k».proof.Proof.Gen.DwBrnnKernel.Launch
public import proofs.«01_k».proof.Proof.Gen.DwBrnnKernel.Frame
public import proofs.«01_k».proof.Proof.Gen.DwBrnnKernelIdeal
public import proofs.«01_k».proof.Proof.Gen.DwBrnnKernelIdeal.Skeleton
public import proofs.«01_k».proof.Proof.Gen.DwBrnnKernelIdeal.Launch
public import proofs.«01_k».proof.Proof.Gen.DwBrnnKernelIdeal.Frame
public import proofs.«01_k».proof.Proof.Gen.DwBrnnKernelIdeal.Value
public import proofs.«01_k».proof.Proof.Gen.DwBrnnReferenceIdeal
public import proofs.«01_k».proof.Proof.Gen.DwBrnnReferenceIdeal.Run
public import proofs.«01_k».proof.Proof.Gen.DwBrnnReferenceIdeal.Read
public import proofs.«01_k».proof.Proof.Gen.DoAttKernel
public import proofs.«01_k».proof.Proof.Gen.DoAttKernel.Skeleton
public import proofs.«01_k».proof.Proof.Gen.DoAttKernel.Launch
public import proofs.«01_k».proof.Proof.Gen.DoAttKernel.Frame
public import proofs.«01_k».proof.Proof.Gen.DoAttKernelIdeal
public import proofs.«01_k».proof.Proof.Gen.DoAttKernelIdeal.Skeleton
public import proofs.«01_k».proof.Proof.Gen.DoAttKernelIdeal.Launch
public import proofs.«01_k».proof.Proof.Gen.DoAttKernelIdeal.Frame
public import proofs.«01_k».proof.Proof.Gen.DoAttKernelIdeal.Value
public import proofs.«01_k».proof.Proof.Gen.DoAttReferenceIdeal
public import proofs.«01_k».proof.Proof.Gen.DoAttReferenceIdeal.Run
public import proofs.«01_k».proof.Proof.Gen.DoAttReferenceIdeal.Read
public import proofs.«01_k».proof.Proof.Gen.DwBattKernel
public import proofs.«01_k».proof.Proof.Gen.DwBattKernel.Skeleton
public import proofs.«01_k».proof.Proof.Gen.DwBattKernel.Launch
public import proofs.«01_k».proof.Proof.Gen.DwBattKernel.Frame
public import proofs.«01_k».proof.Proof.Gen.DwBattKernelIdeal
public import proofs.«01_k».proof.Proof.Gen.DwBattKernelIdeal.Skeleton
public import proofs.«01_k».proof.Proof.Gen.DwBattKernelIdeal.Launch
public import proofs.«01_k».proof.Proof.Gen.DwBattKernelIdeal.Frame
public import proofs.«01_k».proof.Proof.Gen.DwBattKernelIdeal.Value
public import proofs.«01_k».proof.Proof.Gen.DwBattReferenceIdeal
public import proofs.«01_k».proof.Proof.Gen.DwBattReferenceIdeal.Run
public import proofs.«01_k».proof.Proof.Gen.DwBattReferenceIdeal.Read
public import proofs.«01_k».proof.Proof.Gen.DwInAKernel
public import proofs.«01_k».proof.Proof.Gen.DwInAKernel.Skeleton
public import proofs.«01_k».proof.Proof.Gen.DwInAKernel.Launch
public import proofs.«01_k».proof.Proof.Gen.DwInAKernel.Frame
public import proofs.«01_k».proof.Proof.Gen.DwInAKernelIdeal
public import proofs.«01_k».proof.Proof.Gen.DwInAKernelIdeal.Skeleton
public import proofs.«01_k».proof.Proof.Gen.DwInAKernelIdeal.Launch
public import proofs.«01_k».proof.Proof.Gen.DwInAKernelIdeal.Frame
public import proofs.«01_k».proof.Proof.Gen.DwInAKernelIdeal.Value
public import proofs.«01_k».proof.Proof.Gen.DwInAReferenceIdeal
public import proofs.«01_k».proof.Proof.Gen.DwInAReferenceIdeal.Run
public import proofs.«01_k».proof.Proof.Gen.DwInAReferenceIdeal.Read
public import proofs.«01_k».proof.Proof.Gen.DwInRKernel
public import proofs.«01_k».proof.Proof.Gen.DwInRKernel.Skeleton
public import proofs.«01_k».proof.Proof.Gen.DwInRKernel.Launch
public import proofs.«01_k».proof.Proof.Gen.DwInRKernel.Frame
public import proofs.«01_k».proof.Proof.Gen.DwInRKernelIdeal
public import proofs.«01_k».proof.Proof.Gen.DwInRKernelIdeal.Skeleton
public import proofs.«01_k».proof.Proof.Gen.DwInRKernelIdeal.Launch
public import proofs.«01_k».proof.Proof.Gen.DwInRKernelIdeal.Frame
public import proofs.«01_k».proof.Proof.Gen.DwInRKernelIdeal.Value
public import proofs.«01_k».proof.Proof.Gen.DwInRReferenceIdeal
public import proofs.«01_k».proof.Proof.Gen.DwInRReferenceIdeal.Run
public import proofs.«01_k».proof.Proof.Gen.DwInRReferenceIdeal.Read
public import proofs.«01_k».proof.Proof.Gen.DwInGKernel
public import proofs.«01_k».proof.Proof.Gen.DwInGKernel.Skeleton
public import proofs.«01_k».proof.Proof.Gen.DwInGKernel.Launch
public import proofs.«01_k».proof.Proof.Gen.DwInGKernel.Frame
public import proofs.«01_k».proof.Proof.Gen.DwInGKernelIdeal
public import proofs.«01_k».proof.Proof.Gen.DwInGKernelIdeal.Skeleton
public import proofs.«01_k».proof.Proof.Gen.DwInGKernelIdeal.Launch
public import proofs.«01_k».proof.Proof.Gen.DwInGKernelIdeal.Frame
public import proofs.«01_k».proof.Proof.Gen.DwInGKernelIdeal.Value
public import proofs.«01_k».proof.Proof.Gen.DwInGReferenceIdeal
public import proofs.«01_k».proof.Proof.Gen.DwInGReferenceIdeal.Run
public import proofs.«01_k».proof.Proof.Gen.DwInGReferenceIdeal.Read
public import proofs.«01_k».proof.Proof.Gen.DhMixKernel
public import proofs.«01_k».proof.Proof.Gen.DhMixKernel.Skeleton
public import proofs.«01_k».proof.Proof.Gen.DhMixKernel.Launch
public import proofs.«01_k».proof.Proof.Gen.DhMixKernel.Frame
public import proofs.«01_k».proof.Proof.Gen.DhMixKernelIdeal
public import proofs.«01_k».proof.Proof.Gen.DhMixKernelIdeal.Skeleton
public import proofs.«01_k».proof.Proof.Gen.DhMixKernelIdeal.Launch
public import proofs.«01_k».proof.Proof.Gen.DhMixKernelIdeal.Frame
public import proofs.«01_k».proof.Proof.Gen.DhMixKernelIdeal.Value
public import proofs.«01_k».proof.Proof.Gen.DhMixReferenceIdeal
public import proofs.«01_k».proof.Proof.Gen.DhMixReferenceIdeal.Run
public import proofs.«01_k».proof.Proof.Gen.DhMixReferenceIdeal.Read
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.GatesKernel
public import proofs.«01_k».proof.Proof.Gen.GatesKernel.Skeleton
public import proofs.«01_k».proof.Proof.Gen.GatesKernel.Launch
public import proofs.«01_k».proof.Proof.Gen.GatesKernel.Frame
public import proofs.«01_k».proof.Proof.Gen.GatesKernelIdeal
public import proofs.«01_k».proof.Proof.Gen.GatesKernelIdeal.Skeleton
public import proofs.«01_k».proof.Proof.Gen.GatesKernelIdeal.Launch
public import proofs.«01_k».proof.Proof.Gen.GatesKernelIdeal.Frame
public import proofs.«01_k».proof.Proof.Gen.GatesKernelIdeal.Value
public import proofs.«01_k».proof.Proof.Gen.GatesReferenceIdeal
public import proofs.«01_k».proof.Proof.Gen.GatesReferenceIdeal.Run
public import proofs.«01_k».proof.Proof.Gen.GatesReferenceIdeal.Read
public import proofs.«01_k».proof.Proof.Gen.PrKernel
public import proofs.«01_k».proof.Proof.Gen.PrKernel.Skeleton
public import proofs.«01_k».proof.Proof.Gen.PrKernel.Launch
public import proofs.«01_k».proof.Proof.Gen.PrKernel.Frame
public import proofs.«01_k».proof.Proof.Gen.PrKernelIdeal
public import proofs.«01_k».proof.Proof.Gen.PrKernelIdeal.Skeleton
public import proofs.«01_k».proof.Proof.Gen.PrKernelIdeal.Launch
public import proofs.«01_k».proof.Proof.Gen.PrKernelIdeal.Frame
public import proofs.«01_k».proof.Proof.Gen.PrKernelIdeal.Value
public import proofs.«01_k».proof.Proof.Gen.PrReferenceIdeal
public import proofs.«01_k».proof.Proof.Gen.PrReferenceIdeal.Run
public import proofs.«01_k».proof.Proof.Gen.PrReferenceIdeal.Read
public import proofs.«01_k».proof.Proof.Gen.PaKernel
public import proofs.«01_k».proof.Proof.Gen.PaKernel.Skeleton
public import proofs.«01_k».proof.Proof.Gen.PaKernel.Launch
public import proofs.«01_k».proof.Proof.Gen.PaKernel.Frame
public import proofs.«01_k».proof.Proof.Gen.PaKernelIdeal
public import proofs.«01_k».proof.Proof.Gen.PaKernelIdeal.Skeleton
public import proofs.«01_k».proof.Proof.Gen.PaKernelIdeal.Launch
public import proofs.«01_k».proof.Proof.Gen.PaKernelIdeal.Frame
public import proofs.«01_k».proof.Proof.Gen.PaKernelIdeal.Value
public import proofs.«01_k».proof.Proof.Gen.PaReferenceIdeal
public import proofs.«01_k».proof.Proof.Gen.PaReferenceIdeal.Run
public import proofs.«01_k».proof.Proof.Gen.PaReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read

@[expose] public section

noncomputable section

namespace Cert.Proof

open Idealize.ShloMosaic Idealize.SL.Sem Cert.Kernel

/-- Everything the certificate claims. -/
theorem claim : Cert.Claim := ⟨
  Cert.Kernel.Gen.facts, Cert.KernelIdeal.Gen.facts, Cert.ReferenceIdeal.Gen.facts, Cert.DactKernel.Gen.facts, Cert.DactKernelIdeal.Gen.facts,
  Cert.DactReferenceIdeal.Gen.facts, Cert.DwDownKernel.Gen.facts, Cert.DwDownKernelIdeal.Gen.facts, Cert.DwDownReferenceIdeal.Gen.facts,
  Cert.DwGateKernel.Gen.facts, Cert.DwGateKernelIdeal.Gen.facts, Cert.DwGateReferenceIdeal.Gen.facts, Cert.DhFfnKernel.Gen.facts,
  Cert.DhFfnKernelIdeal.Gen.facts, Cert.DhFfnReferenceIdeal.Gen.facts, Cert.DmergedKernel.Gen.facts, Cert.DmergedKernelIdeal.Gen.facts,
  Cert.DmergedReferenceIdeal.Gen.facts, Cert.DwOutKernel.Gen.facts, Cert.DwOutKernelIdeal.Gen.facts, Cert.DwOutReferenceIdeal.Gen.facts,
  Cert.DhRnnKernel.Gen.facts, Cert.DhRnnKernelIdeal.Gen.facts, Cert.DhRnnReferenceIdeal.Gen.facts, Cert.DwBrnnKernel.Gen.facts,
  Cert.DwBrnnKernelIdeal.Gen.facts, Cert.DwBrnnReferenceIdeal.Gen.facts, Cert.DoAttKernel.Gen.facts, Cert.DoAttKernelIdeal.Gen.facts,
  Cert.DoAttReferenceIdeal.Gen.facts, Cert.DwBattKernel.Gen.facts, Cert.DwBattKernelIdeal.Gen.facts, Cert.DwBattReferenceIdeal.Gen.facts,
  Cert.DwInAKernel.Gen.facts, Cert.DwInAKernelIdeal.Gen.facts, Cert.DwInAReferenceIdeal.Gen.facts, Cert.DwInRKernel.Gen.facts,
  Cert.DwInRKernelIdeal.Gen.facts, Cert.DwInRReferenceIdeal.Gen.facts, Cert.DwInGKernel.Gen.facts, Cert.DwInGKernelIdeal.Gen.facts,
  Cert.DwInGReferenceIdeal.Gen.facts, Cert.DhMixKernel.Gen.facts, Cert.DhMixKernelIdeal.Gen.facts, Cert.DhMixReferenceIdeal.Gen.facts,
  Cert.ProjKernel.Gen.facts, Cert.ProjKernelIdeal.Gen.facts, Cert.ProjReferenceIdeal.Gen.facts, Cert.GatesKernel.Gen.facts,
  Cert.GatesKernelIdeal.Gen.facts, Cert.GatesReferenceIdeal.Gen.facts, Cert.PrKernel.Gen.facts, Cert.PrKernelIdeal.Gen.facts,
  Cert.PrReferenceIdeal.Gen.facts, Cert.PaKernel.Gen.facts, Cert.PaKernelIdeal.Gen.facts, Cert.PaReferenceIdeal.Gen.facts, Cert.GateKernel.Gen.facts,
  Cert.GateKernelIdeal.Gen.facts, Cert.GateReferenceIdeal.Gen.facts, Cert.InBwdKernel.Gen.facts, Cert.InBwdKernelIdeal.Gen.facts,
  Cert.InBwdReferenceIdeal.Gen.facts, Cert.MidBwdKernel.Gen.facts, Cert.MidBwdKernelIdeal.Gen.facts, Cert.MidBwdReferenceIdeal.Gen.facts,
  Cert.MergeBwdKernel.Gen.facts, Cert.MergeBwdKernelIdeal.Gen.facts, Cert.MergeBwdReferenceIdeal.Gen.facts, Cert.MergeKernel.Gen.facts,
  Cert.MergeKernelIdeal.Gen.facts, Cert.MergeReferenceIdeal.Gen.facts, Cert.MixKernel.Gen.facts, Cert.MixKernelIdeal.Gen.facts,
  Cert.MixReferenceIdeal.Gen.facts, Cert.DownKernel.Gen.facts, Cert.DownKernelIdeal.Gen.facts, Cert.DownReferenceIdeal.Gen.facts,
  Cert.ActFwdKernel.Gen.facts, Cert.ActFwdKernelIdeal.Gen.facts, Cert.ActFwdReferenceIdeal.Gen.facts, Cert.NormInKernel.Gen.facts,
  Cert.NormInKernelIdeal.Gen.facts, Cert.NormInReferenceIdeal.Gen.facts, Cert.AdamInKernel.Gen.facts, Cert.AdamInKernelIdeal.Gen.facts,
  Cert.AdamInReferenceIdeal.Gen.facts, Cert.AdamConvRKernel.Gen.facts, Cert.AdamConvRKernelIdeal.Gen.facts, Cert.AdamConvRReferenceIdeal.Gen.facts,
  Cert.AdamBrnnKernel.Gen.facts, Cert.AdamBrnnKernelIdeal.Gen.facts, Cert.AdamBrnnReferenceIdeal.Gen.facts, Cert.AdamBattKernel.Gen.facts,
  Cert.AdamBattKernelIdeal.Gen.facts, Cert.AdamBattReferenceIdeal.Gen.facts, Cert.AdamOutKernel.Gen.facts, Cert.AdamOutKernelIdeal.Gen.facts,
  Cert.AdamOutReferenceIdeal.Gen.facts, Cert.AdamGateKernel.Gen.facts, Cert.AdamGateKernelIdeal.Gen.facts, Cert.AdamGateReferenceIdeal.Gen.facts,
  Cert.AdamConvFKernel.Gen.facts, Cert.AdamConvFKernelIdeal.Gen.facts, Cert.AdamConvFReferenceIdeal.Gen.facts, Cert.AdamDownKernel.Gen.facts,
  Cert.AdamDownKernelIdeal.Gen.facts, Cert.AdamDownReferenceIdeal.Gen.facts, Cert.RnnBwdKernel.Gen.facts, Cert.RnnBwdKernelIdeal.Gen.facts,
  Cert.RnnFwdKernel.Gen.facts, Cert.RnnFwdKernelIdeal.Gen.facts, Cert.Ffn.preFacts, Cert.Pre_on_mesh_w_in.Gen.facts,
  Cert.Pre_on_mesh_conv_rnn_w.Gen.facts, Cert.Pre_on_mesh_w_branch_rnn.Gen.facts, Cert.Pre_on_mesh_w_branch_att.Gen.facts,
  Cert.Pre_on_mesh_w_out.Gen.facts, Cert.Pre_on_mesh_w_ffn_gate.Gen.facts, Cert.Pre_on_mesh_conv_ffn_w.Gen.facts,
  Cert.Pre_on_mesh_w_ffn_down.Gen.facts, Cert.Ffn.frame_K, Cert.Ffn.frame_KI, Cert.Ffn.frame_KI_pre, Cert.Ffn.frame_RI, Cert.Ffn.frame_RI_pre,
  Cert.Dact.frame_K, Cert.Dact.frame_KI, Cert.Dact.frame_RI, Cert.DwDown.frame_K, Cert.DwDown.frame_KI, Cert.DwDown.frame_RI, Cert.DwGate.frame_K,
  Cert.DwGate.frame_KI, Cert.DwGate.frame_RI, Cert.DhFfn.frame_K, Cert.DhFfn.frame_KI, Cert.DhFfn.frame_RI, Cert.Dmerged.frame_K,
  Cert.Dmerged.frame_KI, Cert.Dmerged.frame_RI, Cert.DwOut.frame_K, Cert.DwOut.frame_KI, Cert.DwOut.frame_RI, Cert.DhRnn.frame_K, Cert.DhRnn.frame_KI,
  Cert.DhRnn.frame_RI, Cert.DwBrnn.frame_K, Cert.DwBrnn.frame_KI, Cert.DwBrnn.frame_RI, Cert.DoAtt.frame_K, Cert.DoAtt.frame_KI, Cert.DoAtt.frame_RI,
  Cert.DwBatt.frame_K, Cert.DwBatt.frame_KI, Cert.DwBatt.frame_RI, Cert.DwInA.frame_K, Cert.DwInA.frame_KI, Cert.DwInA.frame_RI, Cert.DwInR.frame_K,
  Cert.DwInR.frame_KI, Cert.DwInR.frame_RI, Cert.DwInG.frame_K, Cert.DwInG.frame_KI, Cert.DwInG.frame_RI, Cert.DhMix.frame_K, Cert.DhMix.frame_KI,
  Cert.DhMix.frame_RI, Cert.Proj.frame_K, Cert.Proj.frame_KI, Cert.Proj.frame_RI, Cert.Gates.frame_K, Cert.Gates.frame_KI, Cert.Gates.frame_RI,
  Cert.Pr.frame_K, Cert.Pr.frame_KI, Cert.Pr.frame_RI, Cert.Pa.frame_K, Cert.Pa.frame_KI, Cert.Pa.frame_RI, Cert.Gate.frame_K, Cert.Gate.frame_KI,
  Cert.Gate.frame_RI, Cert.InBwd.frame_K, Cert.InBwd.frame_KI, Cert.InBwd.frame_RI, Cert.MidBwd.frame_K, Cert.MidBwd.frame_KI, Cert.MidBwd.frame_RI,
  Cert.MergeBwd.frame_K, Cert.MergeBwd.frame_KI, Cert.MergeBwd.frame_RI, Cert.Merge.frame_K, Cert.Merge.frame_KI, Cert.Merge.frame_RI,
  Cert.Mix.frame_K, Cert.Mix.frame_KI, Cert.Mix.frame_RI, Cert.Down.frame_K, Cert.Down.frame_KI, Cert.Down.frame_RI, Cert.ActFwd.frame_K,
  Cert.ActFwd.frame_KI, Cert.ActFwd.frame_RI, Cert.NormIn.frame_K, Cert.NormIn.frame_KI, Cert.NormIn.frame_RI, Cert.AdamIn.frame_K,
  Cert.AdamIn.frame_KI, Cert.AdamIn.frame_RI, Cert.AdamIn.frame_RI_pre, Cert.AdamConvR.frame_K, Cert.AdamConvR.frame_KI, Cert.AdamConvR.frame_RI,
  Cert.AdamConvR.frame_RI_pre, Cert.AdamBrnn.frame_K, Cert.AdamBrnn.frame_KI, Cert.AdamBrnn.frame_RI, Cert.AdamBrnn.frame_RI_pre,
  Cert.AdamBatt.frame_K, Cert.AdamBatt.frame_KI, Cert.AdamBatt.frame_RI, Cert.AdamBatt.frame_RI_pre, Cert.AdamOut.frame_K, Cert.AdamOut.frame_KI,
  Cert.AdamOut.frame_RI, Cert.AdamOut.frame_RI_pre, Cert.AdamGate.frame_K, Cert.AdamGate.frame_KI, Cert.AdamGate.frame_RI, Cert.AdamGate.frame_RI_pre,
  Cert.AdamConvF.frame_K, Cert.AdamConvF.frame_KI, Cert.AdamConvF.frame_RI, Cert.AdamConvF.frame_RI_pre, Cert.AdamDown.frame_K, Cert.AdamDown.frame_KI,
  Cert.AdamDown.frame_RI, Cert.AdamDown.frame_RI_pre, Cert.RnnBwd.frame_K, Cert.RnnBwd.frame_KI, Cert.RnnFwd.frame_K, Cert.RnnFwd.frame_KI,
  Cert.Ffn.preserves, Cert.Ffn.algebraic, Cert.Dact.preserves, Cert.Dact.algebraic, Cert.DwDown.preserves, Cert.DwDown.algebraic,
  Cert.DwGate.preserves, Cert.DwGate.algebraic, Cert.DhFfn.preserves, Cert.DhFfn.algebraic, Cert.Dmerged.preserves, Cert.Dmerged.algebraic,
  Cert.DwOut.preserves, Cert.DwOut.algebraic, Cert.DhRnn.preserves, Cert.DhRnn.algebraic, Cert.DwBrnn.preserves, Cert.DwBrnn.algebraic,
  Cert.DoAtt.preserves, Cert.DoAtt.algebraic, Cert.DwBatt.preserves, Cert.DwBatt.algebraic, Cert.DwInA.preserves, Cert.DwInA.algebraic,
  Cert.DwInR.preserves, Cert.DwInR.algebraic, Cert.DwInG.preserves, Cert.DwInG.algebraic, Cert.DhMix.preserves, Cert.DhMix.algebraic,
  Cert.Proj.preserves, Cert.Proj.algebraic, Cert.Gates.preserves, Cert.Gates.algebraic, Cert.Pr.preserves, Cert.Pr.algebraic, Cert.Pa.preserves,
  Cert.Pa.algebraic, Cert.Gate.preserves, Cert.Gate.algebraic, Cert.InBwd.preserves, Cert.InBwd.algebraic, Cert.MidBwd.preserves,
  Cert.MidBwd.algebraic, Cert.MergeBwd.preserves, Cert.MergeBwd.algebraic, Cert.Merge.preserves, Cert.Merge.algebraic, Cert.Mix.preserves,
  Cert.Mix.algebraic, Cert.Down.preserves, Cert.Down.algebraic, Cert.ActFwd.preserves, Cert.ActFwd.algebraic, Cert.NormIn.preserves,
  Cert.NormIn.algebraic, Cert.AdamIn.preserves, Cert.AdamIn.algebraic, Cert.AdamConvR.preserves, Cert.AdamConvR.algebraic, Cert.AdamBrnn.preserves,
  Cert.AdamBrnn.algebraic, Cert.AdamBatt.preserves, Cert.AdamBatt.algebraic, Cert.AdamOut.preserves, Cert.AdamOut.algebraic, Cert.AdamGate.preserves,
  Cert.AdamGate.algebraic, Cert.AdamConvF.preserves, Cert.AdamConvF.algebraic, Cert.AdamDown.preserves, Cert.AdamDown.algebraic, Cert.RnnBwd.preserves,
  Cert.RnnFwd.preserves⟩

end Cert.Proof

end
